-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v97) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_slots_in_range : Cert.Pre_slots_in_range.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal) (hPre_slots_in_range := hPre_slots_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_slots_in_range := hPre_slots_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_slots_in_range.lean ====
abbrev S8x8192 : Shape := ⟨2, ![8, 8192]⟩
abbrev S8192x8 : Shape := ⟨2, ![8192, 8]⟩
abbrev S65536x128 : Shape := ⟨2, ![65536, 128]⟩
abbrev S524288x128 : Shape := ⟨2, ![524288, 128]⟩
abbrev S1x2048x512 : Shape := ⟨3, ![1, 2048, 512]⟩
abbrev S1x512x2048 : Shape := ⟨3, ![1, 512, 2048]⟩
abbrev S8192x2048 : Shape := ⟨2, ![8192, 2048]⟩
abbrev S2x12288 : Shape := ⟨2, ![2, 12288]⟩
abbrev S2048 : Shape := ⟨1, ![2048]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8x8192 32) (arg1 : IVec S_ 32) : IVec S8x8192 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8x8192 32 := broadcastInDim S8x8192 ![] bcast_S_S8x8192 v2
  let v4 : IVec S8x8192 32 := Host.remsi arg0 v3
  let c_1 : IVec S_ 32 := constantI S_ 32 0#32
  let v5 : IVec S8x8192 32 := broadcastInDim S8x8192 ![] bcast_S_S8x8192 c_1
  let v6 : IVec S8x8192 1 := cmpi .ne v4 v5
  let c_2 : IVec S_ 32 := constantI S_ 32 0#32
  let v7 : IVec S8x8192 32 := broadcastInDim S8x8192 ![] bcast_S_S8x8192 c_2
  let v8 : IVec S8x8192 1 := cmpi .slt v4 v7
  let c_3 : IVec S_ 32 := constantI S_ 32 0#32
  let v9 : IVec S_ 1 := cmpi .slt v2 c_3
  let v10 : IVec S8x8192 1 := broadcastInDim S8x8192 ![] bcast_S_S8x8192 v9
  let v11 : IVec S8x8192 1 := cmpi .ne v8 v10
  let v12 : IVec S8x8192 1 := andi v11 v6
  let v13 : IVec S8x8192 32 := broadcastInDim S8x8192 ![] bcast_S_S8x8192 v2
  let v14 : IVec S8x8192 32 := addi v4 v13
  let v15 : IVec S8x8192 32 := select v12 v14 v4
  v15

def fn {F : FTy → Type} [FloatOps F] (main_arg0 : IVec S8x8192 32) (main_arg1 : FVec F S8192x8 .f32) (main_arg2 : IVec S65536x128 32) (main_arg3 : IVec S524288x128 32) (main_arg4 : FVec F S1x2048x512 .f32) (main_arg5 : FVec F S1x2048x512 .f32) (main_arg6 : FVec F S1x512x2048 .f32) (main_arg7 : FVec F S8192x2048 .f32) (main_arg8 : FVec F S2x12288 .f32) (main_arg9 : FVec F S2048 .f32) : IVec S_ 1 :=
  let main_c : IVec S_ 32 := constantI S_ 32 0#32
  let main_v0 : IVec S8x8192 32 := broadcastInDim S8x8192 ![] bcast_S_S8x8192 main_c
  let main_v1 : IVec S8x8192 1 := cmpi .sge main_arg0 main_v0
  let main_c_0 : IVec S_ 32 := constantI S_ 32 524288#32
  let main_v2 : IVec S8x8192 32 := broadcastInDim S8x8192 ![] bcast_S_S8x8192 main_c_0
  let main_v3 : IVec S8x8192 1 := cmpi .slt main_arg0 main_v2
  let main_v4 : IVec S8x8192 1 := andi main_v1 main_v3
  let main_c_1 : IVec S_ 32 := constantI S_ 32 8#32
  let main_v5 : IVec S8x8192 32 := fn_remainder (F := F) main_arg0 main_c_1
  let main_c_2 : IVec S_ 32 := constantI S_ 32 0#32
  let main_v6 : IVec S8x8192 32 := broadcastInDim S8x8192 ![] bcast_S_S8x8192 main_c_2
  let main_v7 : IVec S8x8192 1 := cmpi .eq main_v5 main_v6
  let main_v8 : IVec S8x8192 1 := andi main_v4 main_v7
  let main_c_3 : IVec S_ 1 := constantI S_ 1 1#1
  let main_v9 : IVec S_ 1 := (fun x v => Host.reduce IntOp.andi x v reducesTo_S8x8192_S_d0_1 h_S_) main_v8 main_c_3
  main_v9
-- ==== Kernel.lean ====
abbrev S8x8192 : Shape := ⟨2, ![8, 8192]⟩
abbrev S8192x8 : Shape := ⟨2, ![8192, 8]⟩
abbrev S65536x128 : Shape := ⟨2, ![65536, 128]⟩
abbrev S524288x128 : Shape := ⟨2, ![524288, 128]⟩
abbrev S1x2048x512 : Shape := ⟨3, ![1, 2048, 512]⟩
abbrev S1x512x2048 : Shape := ⟨3, ![1, 512, 2048]⟩
abbrev S8192x2048 : Shape := ⟨2, ![8192, 2048]⟩
abbrev S2x12288 : Shape := ⟨2, ![2, 12288]⟩
abbrev S2048 : Shape := ⟨1, ![2048]⟩
abbrev S12x1x2048 : Shape := ⟨3, ![12, 1, 2048]⟩
abbrev S65536 : Shape := ⟨1, ![65536]⟩
abbrev S2048x512 : Shape := ⟨2, ![2048, 512]⟩
abbrev S512x2048 : Shape := ⟨2, ![512, 2048]⟩
abbrev S1x2048 : Shape := ⟨2, ![1, 2048]⟩
abbrev S256x8 : Shape := ⟨2, ![256, 8]⟩
abbrev S2048x128 : Shape := ⟨2, ![2048, 128]⟩
abbrev S256x2048 : Shape := ⟨2, ![256, 2048]⟩
abbrev S1x1x2048 : Shape := ⟨3, ![1, 1, 2048]⟩
abbrev S2x8x2048x128 : Shape := ⟨4, ![2, 8, 2048, 128]⟩
abbrev S2 : Shape := ⟨1, ![2]⟩
abbrev S1 : Shape := ⟨1, ![1]⟩
abbrev S_ : Shape := ⟨0, ![]⟩
abbrev S1x1x2048x128 : Shape := ⟨4, ![1, 1, 2048, 128]⟩
abbrev S8x128 : Shape := ⟨2, ![8, 128]⟩
abbrev S256x128 : Shape := ⟨2, ![256, 128]⟩
abbrev S256x1024 : Shape := ⟨2, ![256, 1024]⟩
abbrev S256x512 : Shape := ⟨2, ![256, 512]⟩
abbrev S8x8 : Shape := ⟨2, ![8, 8]⟩
abbrev S8x1 : Shape := ⟨2, ![8, 1]⟩
abbrev S1x1x8x128 : Shape := ⟨4, ![1, 1, 8, 128]⟩
abbrev S256 : Shape := ⟨1, ![256]⟩
abbrev S256x1 : Shape := ⟨2, ![256, 1]⟩

abbrev nBuf : Space → Nat
  | .hbm => 21
  | .vmem => 16
  | .smem => 4
  | _ => 0

abbrev bufTy : (tb : Table) → Fin (tcTables nBuf tb) → BufTy
  | .hbm, ⟨0, _⟩ => ⟨S8x8192, .i32⟩
  | .hbm, ⟨1, _⟩ => ⟨S8192x8, .f32⟩
  | .hbm, ⟨2, _⟩ => ⟨S65536x128, .i32⟩
  | .hbm, ⟨3, _⟩ => ⟨S524288x128, .i32⟩
  | .hbm, ⟨4, _⟩ => ⟨S1x2048x512, .f32⟩
  | .hbm, ⟨5, _⟩ => ⟨S1x2048x512, .f32⟩
  | .hbm, ⟨6, _⟩ => ⟨S1x512x2048, .f32⟩
  | .hbm, ⟨7, _⟩ => ⟨S8192x2048, .f32⟩
  | .hbm, ⟨8, _⟩ => ⟨S2x12288, .f32⟩
  | .hbm, ⟨9, _⟩ => ⟨S2048, .f32⟩
  | .hbm, ⟨10, _⟩ => ⟨S12x1x2048, .f32⟩
  | .hbm, ⟨11, _⟩ => ⟨S8192x8, .i32⟩
  | .hbm, ⟨12, _⟩ => ⟨S65536, .i32⟩
  | .hbm, ⟨13, _⟩ => ⟨S2048x512, .f32⟩
  | .hbm, ⟨14, _⟩ => ⟨S2048x512, .bf16⟩
  | .hbm, ⟨15, _⟩ => ⟨S2048x512, .f32⟩
  | .hbm, ⟨16, _⟩ => ⟨S2048x512, .bf16⟩
  | .hbm, ⟨17, _⟩ => ⟨S512x2048, .f32⟩
  | .hbm, ⟨18, _⟩ => ⟨S512x2048, .bf16⟩
  | .hbm, ⟨19, _⟩ => ⟨S1x2048, .f32⟩
  | .hbm, ⟨20, _⟩ => ⟨S8192x2048, .f32⟩
  | .local _ .vmem, ⟨0, _⟩ => ⟨S256x8, .f32⟩
  | .local _ .vmem, ⟨1, _⟩ => ⟨S256x8, .f32⟩
  | .local _ .vmem, ⟨2, _⟩ => ⟨S2048x128, .i32⟩
  | .local _ .vmem, ⟨3, _⟩ => ⟨S2048x128, .i32⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S256x2048, .f32⟩
  | .local _ .vmem, ⟨8, _⟩ => ⟨S256x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S2x8x2048x128, .i32⟩
  | .local _ .vmem, ⟨15, _⟩ => ⟨S256x2048, .f32⟩
  | .local _ .smem, ⟨0, _⟩ => ⟨S2048, .i32⟩
  | .local _ .smem, ⟨1, _⟩ => ⟨S2048, .i32⟩
  | .local _ .smem, ⟨2, _⟩ => ⟨S2048, .i32⟩
  | .local _ .smem, ⟨3, _⟩ => ⟨S2048, .i32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_44 : BitVec 32 := 0#32
  let c32_i32 : BitVec 32 := 32#32
  let v77 : BitVec 32 := Scalar.addi c0_i32_44 c32_i32
  let c1_i32_45 : BitVec 32 := 1#32
  ⟨c0_i32_44, v77, c1_i32_45⟩
def k0_off1 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_48 : BitVec 32 := 8#32
  let v80 : BitVec 32 := Scalar.muli v79 c8_i32_48
  let c0_i32_49 : BitVec 32 := 0#32
  let v81 : BitVec 32 := Scalar.addi v80 c0_i32_49
  let v82 : Index := Scalar.indexCast v81
  ![v82.toNat]
def k0_mult1 (v83 : BitVec 32) : BitVec 32 :=
  v83

def k0_mult2 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_50 : BitVec 32 := 8#32
  let v85 : BitVec 32 := Scalar.muli v79 c8_i32_50
  v85
def k0_off2 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_50 : BitVec 32 := 8#32
  let v85 : BitVec 32 := Scalar.muli v79 c8_i32_50
  let v86 : BitVec 32 := v85
  let c0_i32_56 : BitVec 32 := 0#32
  ![v86.toNat, 0]
def k0_off3 (v83 : BitVec 32) : Fin 2 → Nat :=
  let v84 : BitVec 32 := v83
  let c0_i32_57 : BitVec 32 := 0#32
  ![v84.toNat, 0]

def k0_chk1 (i : grid0.Coords) (v83 : BitVec 32) : Prop :=
  (∀ (k0_h1 : k0_cond1 i = 1#1), 8 ∣ (k0_mult1 v83).toNat) ∧
  (∀ (k0_h1 : k0_cond1 i = 1#1), ∀ a, (k0_off3 v83) a + S8x128.size a ≤ S524288x128.size a)
theorem k0_mult1_dvd : ∀ (i : grid0.Coords) (v83 : BitVec 32) (k0_hw1 : k0_chk1 i v83), ∀ (k0_h1 : k0_cond1 i = 1#1), 8 ∣ (k0_mult1 v83).toNat := fun i v83 k0_hw1 k0_h1 => k0_hw1.1 k0_h1
theorem k0_off3_inb : ∀ (i : grid0.Coords) (v83 : BitVec 32) (k0_hw1 : k0_chk1 i v83), ∀ (k0_h1 : k0_cond1 i = 1#1), ∀ a, (k0_off3 v83) a + S8x128.size a ≤ S524288x128.size a := fun i v83 k0_hw1 k0_h1 => k0_hw1.2 k0_h1

def k0_off4 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_58 : BitVec 32 := 8#32
  let v93 : BitVec 32 := Scalar.muli v79 c8_i32_58
  let c1_i32_59 : BitVec 32 := 1#32
  let v94 : BitVec 32 := Scalar.addi v93 c1_i32_59
  let v95 : Index := Scalar.indexCast v94
  ![v95.toNat]
def k0_mult3 (v96 : BitVec 32) : BitVec 32 :=
  v96

def k0_mult4 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_60 : BitVec 32 := 8#32
  let v98 : BitVec 32 := Scalar.muli v79 c8_i32_60
  v98
def k0_off5 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_60 : BitVec 32 := 8#32
  let v98 : BitVec 32 := Scalar.muli v79 c8_i32_60
  let v99 : BitVec 32 := v98
  let c0_i32_66 : BitVec 32 := 0#32
  ![v99.toNat, 0]
def k0_off6 (v96 : BitVec 32) : Fin 2 → Nat :=
  let v97 : BitVec 32 := v96
  let c0_i32_67 : BitVec 32 := 0#32
  ![v97.toNat, 0]

def k0_chk2 (i : grid0.Coords) (v96 : BitVec 32) : Prop :=
  (∀ (k0_h1 : k0_cond1 i = 1#1), 8 ∣ (k0_mult3 v96).toNat) ∧
  (∀ (k0_h1 : k0_cond1 i = 1#1), ∀ a, (k0_off6 v96) a + S8x128.size a ≤ S524288x128.size a)
theorem k0_mult3_dvd : ∀ (i : grid0.Coords) (v96 : BitVec 32) (k0_hw2 : k0_chk2 i v96), ∀ (k0_h1 : k0_cond1 i = 1#1), 8 ∣ (k0_mult3 v96).toNat := fun i v96 k0_hw2 k0_h1 => k0_hw2.1 k0_h1
theorem k0_off6_inb : ∀ (i : grid0.Coords) (v96 : BitVec 32) (k0_hw2 : k0_chk2 i v96), ∀ (k0_h1 : k0_cond1 i = 1#1), ∀ a, (k0_off6 v96) a + S8x128.size a ≤ S524288x128.size a := fun i v96 k0_hw2 k0_h1 => k0_hw2.2 k0_h1

def k0_off7 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_68 : BitVec 32 := 8#32
  let v106 : BitVec 32 := Scalar.muli v79 c8_i32_68
  let c2_i32_69 : BitVec 32 := 2#32
  let v107 : BitVec 32 := Scalar.addi v106 c2_i32_69
  let v108 : Index := Scalar.indexCast v107
  ![v108.toNat]
def k0_mult5 (v109 : BitVec 32) : BitVec 32 :=
  v109

def k0_mult6 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_70 : BitVec 32 := 8#32
  let v111 : BitVec 32 := Scalar.muli v79 c8_i32_70
  v111
def k0_off8 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_70 : BitVec 32 := 8#32
  let v111 : BitVec 32 := Scalar.muli v79 c8_i32_70
  let v112 : BitVec 32 := v111
  let c0_i32_76 : BitVec 32 := 0#32
  ![v112.toNat, 0]
def k0_off9 (v109 : BitVec 32) : Fin 2 → Nat :=
  let v110 : BitVec 32 := v109
  let c0_i32_77 : BitVec 32 := 0#32
  ![v110.toNat, 0]

def k0_chk3 (i : grid0.Coords) (v109 : BitVec 32) : Prop :=
  (∀ (k0_h1 : k0_cond1 i = 1#1), 8 ∣ (k0_mult5 v109).toNat) ∧
  (∀ (k0_h1 : k0_cond1 i = 1#1), ∀ a, (k0_off9 v109) a + S8x128.size a ≤ S524288x128.size a)
theorem k0_mult5_dvd : ∀ (i : grid0.Coords) (v109 : BitVec 32) (k0_hw3 : k0_chk3 i v109), ∀ (k0_h1 : k0_cond1 i = 1#1), 8 ∣ (k0_mult5 v109).toNat := fun i v109 k0_hw3 k0_h1 => k0_hw3.1 k0_h1
theorem k0_off9_inb : ∀ (i : grid0.Coords) (v109 : BitVec 32) (k0_hw3 : k0_chk3 i v109), ∀ (k0_h1 : k0_cond1 i = 1#1), ∀ a, (k0_off9 v109) a + S8x128.size a ≤ S524288x128.size a := fun i v109 k0_hw3 k0_h1 => k0_hw3.2 k0_h1

def k0_off10 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_78 : BitVec 32 := 8#32
  let v119 : BitVec 32 := Scalar.muli v79 c8_i32_78
  let c3_i32 : BitVec 32 := 3#32
  let v120 : BitVec 32 := Scalar.addi v119 c3_i32
  let v121 : Index := Scalar.indexCast v120
  ![v121.toNat]
def k0_mult7 (v122 : BitVec 32) : BitVec 32 :=
  v122

def k0_mult8 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_79 : BitVec 32 := 8#32
  let v124 : BitVec 32 := Scalar.muli v79 c8_i32_79
  v124
def k0_off11 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_79 : BitVec 32 := 8#32
  let v124 : BitVec 32 := Scalar.muli v79 c8_i32_79
  let v125 : BitVec 32 := v124
  let c0_i32_85 : BitVec 32 := 0#32
  ![v125.toNat, 0]
def k0_off12 (v122 : BitVec 32) : Fin 2 → Nat :=
  let v123 : BitVec 32 := v122
  let c0_i32_86 : BitVec 32 := 0#32
  ![v123.toNat, 0]

def k0_chk4 (i : grid0.Coords) (v122 : BitVec 32) : Prop :=
  (∀ (k0_h1 : k0_cond1 i = 1#1), 8 ∣ (k0_mult7 v122).toNat) ∧
  (∀ (k0_h1 : k0_cond1 i = 1#1), ∀ a, (k0_off12 v122) a + S8x128.size a ≤ S524288x128.size a)
theorem k0_mult7_dvd : ∀ (i : grid0.Coords) (v122 : BitVec 32) (k0_hw4 : k0_chk4 i v122), ∀ (k0_h1 : k0_cond1 i = 1#1), 8 ∣ (k0_mult7 v122).toNat := fun i v122 k0_hw4 k0_h1 => k0_hw4.1 k0_h1
theorem k0_off12_inb : ∀ (i : grid0.Coords) (v122 : BitVec 32) (k0_hw4 : k0_chk4 i v122), ∀ (k0_h1 : k0_cond1 i = 1#1), ∀ a, (k0_off12 v122) a + S8x128.size a ≤ S524288x128.size a := fun i v122 k0_hw4 k0_h1 => k0_hw4.2 k0_h1

def k0_off13 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_87 : BitVec 32 := 8#32
  let v132 : BitVec 32 := Scalar.muli v79 c8_i32_87
  let c4_i32 : BitVec 32 := 4#32
  let v133 : BitVec 32 := Scalar.addi v132 c4_i32
  let v134 : Index := Scalar.indexCast v133
  ![v134.toNat]
def k0_mult9 (v135 : BitVec 32) : BitVec 32 :=
  v135

def k0_mult10 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_88 : BitVec 32 := 8#32
  let v137 : BitVec 32 := Scalar.muli v79 c8_i32_88
  v137
def k0_off14 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_88 : BitVec 32 := 8#32
  let v137 : BitVec 32 := Scalar.muli v79 c8_i32_88
  let v138 : BitVec 32 := v137
  let c0_i32_94 : BitVec 32 := 0#32
  ![v138.toNat, 0]
def k0_off15 (v135 : BitVec 32) : Fin 2 → Nat :=
  let v136 : BitVec 32 := v135
  let c0_i32_95 : BitVec 32 := 0#32
  ![v136.toNat, 0]

def k0_chk5 (i : grid0.Coords) (v135 : BitVec 32) : Prop :=
  (∀ (k0_h1 : k0_cond1 i = 1#1), 8 ∣ (k0_mult9 v135).toNat) ∧
  (∀ (k0_h1 : k0_cond1 i = 1#1), ∀ a, (k0_off15 v135) a + S8x128.size a ≤ S524288x128.size a)
theorem k0_mult9_dvd : ∀ (i : grid0.Coords) (v135 : BitVec 32) (k0_hw5 : k0_chk5 i v135), ∀ (k0_h1 : k0_cond1 i = 1#1), 8 ∣ (k0_mult9 v135).toNat := fun i v135 k0_hw5 k0_h1 => k0_hw5.1 k0_h1
theorem k0_off15_inb : ∀ (i : grid0.Coords) (v135 : BitVec 32) (k0_hw5 : k0_chk5 i v135), ∀ (k0_h1 : k0_cond1 i = 1#1), ∀ a, (k0_off15 v135) a + S8x128.size a ≤ S524288x128.size a := fun i v135 k0_hw5 k0_h1 => k0_hw5.2 k0_h1

def k0_off16 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_96 : BitVec 32 := 8#32
  let v145 : BitVec 32 := Scalar.muli v79 c8_i32_96
  let c5_i32 : BitVec 32 := 5#32
  let v146 : BitVec 32 := Scalar.addi v145 c5_i32
  let v147 : Index := Scalar.indexCast v146
  ![v147.toNat]
def k0_mult11 (v148 : BitVec 32) : BitVec 32 :=
  v148

def k0_mult12 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_97 : BitVec 32 := 8#32
  let v150 : BitVec 32 := Scalar.muli v79 c8_i32_97
  v150
def k0_off17 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_97 : BitVec 32 := 8#32
  let v150 : BitVec 32 := Scalar.muli v79 c8_i32_97
  let v151 : BitVec 32 := v150
  let c0_i32_103 : BitVec 32 := 0#32
  ![v151.toNat, 0]
def k0_off18 (v148 : BitVec 32) : Fin 2 → Nat :=
  let v149 : BitVec 32 := v148
  let c0_i32_104 : BitVec 32 := 0#32
  ![v149.toNat, 0]

def k0_chk6 (i : grid0.Coords) (v148 : BitVec 32) : Prop :=
  (∀ (k0_h1 : k0_cond1 i = 1#1), 8 ∣ (k0_mult11 v148).toNat) ∧
  (∀ (k0_h1 : k0_cond1 i = 1#1), ∀ a, (k0_off18 v148) a + S8x128.size a ≤ S524288x128.size a)
theorem k0_mult11_dvd : ∀ (i : grid0.Coords) (v148 : BitVec 32) (k0_hw6 : k0_chk6 i v148), ∀ (k0_h1 : k0_cond1 i = 1#1), 8 ∣ (k0_mult11 v148).toNat := fun i v148 k0_hw6 k0_h1 => k0_hw6.1 k0_h1
theorem k0_off18_inb : ∀ (i : grid0.Coords) (v148 : BitVec 32) (k0_hw6 : k0_chk6 i v148), ∀ (k0_h1 : k0_cond1 i = 1#1), ∀ a, (k0_off18 v148) a + S8x128.size a ≤ S524288x128.size a := fun i v148 k0_hw6 k0_h1 => k0_hw6.2 k0_h1

def k0_off19 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_105 : BitVec 32 := 8#32
  let v158 : BitVec 32 := Scalar.muli v79 c8_i32_105
  let c6_i32 : BitVec 32 := 6#32
  let v159 : BitVec 32 := Scalar.addi v158 c6_i32
  let v160 : Index := Scalar.indexCast v159
  ![v160.toNat]
def k0_mult13 (v161 : BitVec 32) : BitVec 32 :=
  v161

def k0_mult14 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_106 : BitVec 32 := 8#32
  let v163 : BitVec 32 := Scalar.muli v79 c8_i32_106
  v163
def k0_off20 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_106 : BitVec 32 := 8#32
  let v163 : BitVec 32 := Scalar.muli v79 c8_i32_106
  let v164 : BitVec 32 := v163
  let c0_i32_112 : BitVec 32 := 0#32
  ![v164.toNat, 0]
def k0_off21 (v161 : BitVec 32) : Fin 2 → Nat :=
  let v162 : BitVec 32 := v161
  let c0_i32_113 : BitVec 32 := 0#32
  ![v162.toNat, 0]

def k0_chk7 (i : grid0.Coords) (v161 : BitVec 32) : Prop :=
  (∀ (k0_h1 : k0_cond1 i = 1#1), 8 ∣ (k0_mult13 v161).toNat) ∧
  (∀ (k0_h1 : k0_cond1 i = 1#1), ∀ a, (k0_off21 v161) a + S8x128.size a ≤ S524288x128.size a)
theorem k0_mult13_dvd : ∀ (i : grid0.Coords) (v161 : BitVec 32) (k0_hw7 : k0_chk7 i v161), ∀ (k0_h1 : k0_cond1 i = 1#1), 8 ∣ (k0_mult13 v161).toNat := fun i v161 k0_hw7 k0_h1 => k0_hw7.1 k0_h1
theorem k0_off21_inb : ∀ (i : grid0.Coords) (v161 : BitVec 32) (k0_hw7 : k0_chk7 i v161), ∀ (k0_h1 : k0_cond1 i = 1#1), ∀ a, (k0_off21 v161) a + S8x128.size a ≤ S524288x128.size a := fun i v161 k0_hw7 k0_h1 => k0_hw7.2 k0_h1

def k0_off22 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_114 : BitVec 32 := 8#32
  let v171 : BitVec 32 := Scalar.muli v79 c8_i32_114
  let c7_i32 : BitVec 32 := 7#32
  let v172 : BitVec 32 := Scalar.addi v171 c7_i32
  let v173 : Index := Scalar.indexCast v172
  ![v173.toNat]
def k0_mult15 (v174 : BitVec 32) : BitVec 32 :=
  v174

def k0_mult16 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_115 : BitVec 32 := 8#32
  let v176 : BitVec 32 := Scalar.muli v79 c8_i32_115
  v176
def k0_off23 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32 : BitVec 32 := 8#32
  let v78 : BitVec 32 := Scalar.muli arg16 c8_i32
  let c0_i32_47 : BitVec 32 := 0#32
  let v79 : BitVec 32 := Scalar.addi v78 c0_i32_47
  let c8_i32_115 : BitVec 32 := 8#32
  let v176 : BitVec 32 := Scalar.muli v79 c8_i32_115
  let v177 : BitVec 32 := v176
  let c0_i32_121 : BitVec 32 := 0#32
  ![v177.toNat, 0]
def k0_off24 (v174 : BitVec 32) : Fin 2 → Nat :=
  let v175 : BitVec 32 := v174
  let c0_i32_122 : BitVec 32 := 0#32
  ![v175.toNat, 0]

def k0_chk8 (i : grid0.Coords) (v174 : BitVec 32) : Prop :=
  (∀ (k0_h1 : k0_cond1 i = 1#1), 8 ∣ (k0_mult15 v174).toNat) ∧
  (∀ (k0_h1 : k0_cond1 i = 1#1), ∀ a, (k0_off24 v174) a + S8x128.size a ≤ S524288x128.size a)
theorem k0_mult15_dvd : ∀ (i : grid0.Coords) (v174 : BitVec 32) (k0_hw8 : k0_chk8 i v174), ∀ (k0_h1 : k0_cond1 i = 1#1), 8 ∣ (k0_mult15 v174).toNat := fun i v174 k0_hw8 k0_h1 => k0_hw8.1 k0_h1
theorem k0_off24_inb : ∀ (i : grid0.Coords) (v174 : BitVec 32) (k0_hw8 : k0_chk8 i v174), ∀ (k0_h1 : k0_cond1 i = 1#1), ∀ a, (k0_off24 v174) a + S8x128.size a ≤ S524288x128.size a := fun i v174 k0_hw8 k0_h1 => k0_hw8.2 k0_h1

def k0_off25 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_125 : BitVec 32 := 8#32
  let v186 : BitVec 32 := Scalar.muli v185 c8_i32_125
  let c0_i32_126 : BitVec 32 := 0#32
  let v187 : BitVec 32 := Scalar.addi v186 c0_i32_126
  let v188 : Index := Scalar.indexCast v187
  ![v188.toNat]
def k0_mult17 (v189 : BitVec 32) : BitVec 32 :=
  v189

def k0_mult18 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_127 : BitVec 32 := 8#32
  let v191 : BitVec 32 := Scalar.muli v185 c8_i32_127
  v191
def k0_off26 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_127 : BitVec 32 := 8#32
  let v191 : BitVec 32 := Scalar.muli v185 c8_i32_127
  let v192 : BitVec 32 := v191
  let c0_i32_133 : BitVec 32 := 0#32
  ![v192.toNat, 0]
def k0_off27 (v189 : BitVec 32) : Fin 2 → Nat :=
  let v190 : BitVec 32 := v189
  let c0_i32_134 : BitVec 32 := 0#32
  ![v190.toNat, 0]

def k0_chk9 (i : grid0.Coords) (v189 : BitVec 32) : Prop :=
  (∀ (k0_h1 : k0_cond1 i = 1#1), 8 ∣ (k0_mult17 v189).toNat) ∧
  (∀ (k0_h1 : k0_cond1 i = 1#1), ∀ a, (k0_off27 v189) a + S8x128.size a ≤ S524288x128.size a)
theorem k0_mult17_dvd : ∀ (i : grid0.Coords) (v189 : BitVec 32) (k0_hw9 : k0_chk9 i v189), ∀ (k0_h1 : k0_cond1 i = 1#1), 8 ∣ (k0_mult17 v189).toNat := fun i v189 k0_hw9 k0_h1 => k0_hw9.1 k0_h1
theorem k0_off27_inb : ∀ (i : grid0.Coords) (v189 : BitVec 32) (k0_hw9 : k0_chk9 i v189), ∀ (k0_h1 : k0_cond1 i = 1#1), ∀ a, (k0_off27 v189) a + S8x128.size a ≤ S524288x128.size a := fun i v189 k0_hw9 k0_h1 => k0_hw9.2 k0_h1

def k0_off28 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_135 : BitVec 32 := 8#32
  let v199 : BitVec 32 := Scalar.muli v185 c8_i32_135
  let c1_i32_136 : BitVec 32 := 1#32
  let v200 : BitVec 32 := Scalar.addi v199 c1_i32_136
  let v201 : Index := Scalar.indexCast v200
  ![v201.toNat]
def k0_mult19 (v202 : BitVec 32) : BitVec 32 :=
  v202

def k0_mult20 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_137 : BitVec 32 := 8#32
  let v204 : BitVec 32 := Scalar.muli v185 c8_i32_137
  v204
def k0_off29 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_137 : BitVec 32 := 8#32
  let v204 : BitVec 32 := Scalar.muli v185 c8_i32_137
  let v205 : BitVec 32 := v204
  let c0_i32_143 : BitVec 32 := 0#32
  ![v205.toNat, 0]
def k0_off30 (v202 : BitVec 32) : Fin 2 → Nat :=
  let v203 : BitVec 32 := v202
  let c0_i32_144 : BitVec 32 := 0#32
  ![v203.toNat, 0]

def k0_chk10 (i : grid0.Coords) (v202 : BitVec 32) : Prop :=
  (∀ (k0_h1 : k0_cond1 i = 1#1), 8 ∣ (k0_mult19 v202).toNat) ∧
  (∀ (k0_h1 : k0_cond1 i = 1#1), ∀ a, (k0_off30 v202) a + S8x128.size a ≤ S524288x128.size a)
theorem k0_mult19_dvd : ∀ (i : grid0.Coords) (v202 : BitVec 32) (k0_hw10 : k0_chk10 i v202), ∀ (k0_h1 : k0_cond1 i = 1#1), 8 ∣ (k0_mult19 v202).toNat := fun i v202 k0_hw10 k0_h1 => k0_hw10.1 k0_h1
theorem k0_off30_inb : ∀ (i : grid0.Coords) (v202 : BitVec 32) (k0_hw10 : k0_chk10 i v202), ∀ (k0_h1 : k0_cond1 i = 1#1), ∀ a, (k0_off30 v202) a + S8x128.size a ≤ S524288x128.size a := fun i v202 k0_hw10 k0_h1 => k0_hw10.2 k0_h1

def k0_off31 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_145 : BitVec 32 := 8#32
  let v212 : BitVec 32 := Scalar.muli v185 c8_i32_145
  let c2_i32_146 : BitVec 32 := 2#32
  let v213 : BitVec 32 := Scalar.addi v212 c2_i32_146
  let v214 : Index := Scalar.indexCast v213
  ![v214.toNat]
def k0_mult21 (v215 : BitVec 32) : BitVec 32 :=
  v215

def k0_mult22 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_147 : BitVec 32 := 8#32
  let v217 : BitVec 32 := Scalar.muli v185 c8_i32_147
  v217
def k0_off32 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_147 : BitVec 32 := 8#32
  let v217 : BitVec 32 := Scalar.muli v185 c8_i32_147
  let v218 : BitVec 32 := v217
  let c0_i32_153 : BitVec 32 := 0#32
  ![v218.toNat, 0]
def k0_off33 (v215 : BitVec 32) : Fin 2 → Nat :=
  let v216 : BitVec 32 := v215
  let c0_i32_154 : BitVec 32 := 0#32
  ![v216.toNat, 0]

def k0_chk11 (i : grid0.Coords) (v215 : BitVec 32) : Prop :=
  (∀ (k0_h1 : k0_cond1 i = 1#1), 8 ∣ (k0_mult21 v215).toNat) ∧
  (∀ (k0_h1 : k0_cond1 i = 1#1), ∀ a, (k0_off33 v215) a + S8x128.size a ≤ S524288x128.size a)
theorem k0_mult21_dvd : ∀ (i : grid0.Coords) (v215 : BitVec 32) (k0_hw11 : k0_chk11 i v215), ∀ (k0_h1 : k0_cond1 i = 1#1), 8 ∣ (k0_mult21 v215).toNat := fun i v215 k0_hw11 k0_h1 => k0_hw11.1 k0_h1
theorem k0_off33_inb : ∀ (i : grid0.Coords) (v215 : BitVec 32) (k0_hw11 : k0_chk11 i v215), ∀ (k0_h1 : k0_cond1 i = 1#1), ∀ a, (k0_off33 v215) a + S8x128.size a ≤ S524288x128.size a := fun i v215 k0_hw11 k0_h1 => k0_hw11.2 k0_h1

def k0_off34 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_155 : BitVec 32 := 8#32
  let v225 : BitVec 32 := Scalar.muli v185 c8_i32_155
  let c3_i32_156 : BitVec 32 := 3#32
  let v226 : BitVec 32 := Scalar.addi v225 c3_i32_156
  let v227 : Index := Scalar.indexCast v226
  ![v227.toNat]
def k0_mult23 (v228 : BitVec 32) : BitVec 32 :=
  v228

def k0_mult24 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_157 : BitVec 32 := 8#32
  let v230 : BitVec 32 := Scalar.muli v185 c8_i32_157
  v230
def k0_off35 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_157 : BitVec 32 := 8#32
  let v230 : BitVec 32 := Scalar.muli v185 c8_i32_157
  let v231 : BitVec 32 := v230
  let c0_i32_163 : BitVec 32 := 0#32
  ![v231.toNat, 0]
def k0_off36 (v228 : BitVec 32) : Fin 2 → Nat :=
  let v229 : BitVec 32 := v228
  let c0_i32_164 : BitVec 32 := 0#32
  ![v229.toNat, 0]

def k0_chk12 (i : grid0.Coords) (v228 : BitVec 32) : Prop :=
  (∀ (k0_h1 : k0_cond1 i = 1#1), 8 ∣ (k0_mult23 v228).toNat) ∧
  (∀ (k0_h1 : k0_cond1 i = 1#1), ∀ a, (k0_off36 v228) a + S8x128.size a ≤ S524288x128.size a)
theorem k0_mult23_dvd : ∀ (i : grid0.Coords) (v228 : BitVec 32) (k0_hw12 : k0_chk12 i v228), ∀ (k0_h1 : k0_cond1 i = 1#1), 8 ∣ (k0_mult23 v228).toNat := fun i v228 k0_hw12 k0_h1 => k0_hw12.1 k0_h1
theorem k0_off36_inb : ∀ (i : grid0.Coords) (v228 : BitVec 32) (k0_hw12 : k0_chk12 i v228), ∀ (k0_h1 : k0_cond1 i = 1#1), ∀ a, (k0_off36 v228) a + S8x128.size a ≤ S524288x128.size a := fun i v228 k0_hw12 k0_h1 => k0_hw12.2 k0_h1

def k0_off37 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_165 : BitVec 32 := 8#32
  let v238 : BitVec 32 := Scalar.muli v185 c8_i32_165
  let c4_i32_166 : BitVec 32 := 4#32
  let v239 : BitVec 32 := Scalar.addi v238 c4_i32_166
  let v240 : Index := Scalar.indexCast v239
  ![v240.toNat]
def k0_mult25 (v241 : BitVec 32) : BitVec 32 :=
  v241

def k0_mult26 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_167 : BitVec 32 := 8#32
  let v243 : BitVec 32 := Scalar.muli v185 c8_i32_167
  v243
def k0_off38 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_167 : BitVec 32 := 8#32
  let v243 : BitVec 32 := Scalar.muli v185 c8_i32_167
  let v244 : BitVec 32 := v243
  let c0_i32_173 : BitVec 32 := 0#32
  ![v244.toNat, 0]
def k0_off39 (v241 : BitVec 32) : Fin 2 → Nat :=
  let v242 : BitVec 32 := v241
  let c0_i32_174 : BitVec 32 := 0#32
  ![v242.toNat, 0]

def k0_chk13 (i : grid0.Coords) (v241 : BitVec 32) : Prop :=
  (∀ (k0_h1 : k0_cond1 i = 1#1), 8 ∣ (k0_mult25 v241).toNat) ∧
  (∀ (k0_h1 : k0_cond1 i = 1#1), ∀ a, (k0_off39 v241) a + S8x128.size a ≤ S524288x128.size a)
theorem k0_mult25_dvd : ∀ (i : grid0.Coords) (v241 : BitVec 32) (k0_hw13 : k0_chk13 i v241), ∀ (k0_h1 : k0_cond1 i = 1#1), 8 ∣ (k0_mult25 v241).toNat := fun i v241 k0_hw13 k0_h1 => k0_hw13.1 k0_h1
theorem k0_off39_inb : ∀ (i : grid0.Coords) (v241 : BitVec 32) (k0_hw13 : k0_chk13 i v241), ∀ (k0_h1 : k0_cond1 i = 1#1), ∀ a, (k0_off39 v241) a + S8x128.size a ≤ S524288x128.size a := fun i v241 k0_hw13 k0_h1 => k0_hw13.2 k0_h1

def k0_off40 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_175 : BitVec 32 := 8#32
  let v251 : BitVec 32 := Scalar.muli v185 c8_i32_175
  let c5_i32_176 : BitVec 32 := 5#32
  let v252 : BitVec 32 := Scalar.addi v251 c5_i32_176
  let v253 : Index := Scalar.indexCast v252
  ![v253.toNat]
def k0_mult27 (v254 : BitVec 32) : BitVec 32 :=
  v254

def k0_mult28 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_177 : BitVec 32 := 8#32
  let v256 : BitVec 32 := Scalar.muli v185 c8_i32_177
  v256
def k0_off41 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_177 : BitVec 32 := 8#32
  let v256 : BitVec 32 := Scalar.muli v185 c8_i32_177
  let v257 : BitVec 32 := v256
  let c0_i32_183 : BitVec 32 := 0#32
  ![v257.toNat, 0]
def k0_off42 (v254 : BitVec 32) : Fin 2 → Nat :=
  let v255 : BitVec 32 := v254
  let c0_i32_184 : BitVec 32 := 0#32
  ![v255.toNat, 0]

def k0_chk14 (i : grid0.Coords) (v254 : BitVec 32) : Prop :=
  (∀ (k0_h1 : k0_cond1 i = 1#1), 8 ∣ (k0_mult27 v254).toNat) ∧
  (∀ (k0_h1 : k0_cond1 i = 1#1), ∀ a, (k0_off42 v254) a + S8x128.size a ≤ S524288x128.size a)
theorem k0_mult27_dvd : ∀ (i : grid0.Coords) (v254 : BitVec 32) (k0_hw14 : k0_chk14 i v254), ∀ (k0_h1 : k0_cond1 i = 1#1), 8 ∣ (k0_mult27 v254).toNat := fun i v254 k0_hw14 k0_h1 => k0_hw14.1 k0_h1
theorem k0_off42_inb : ∀ (i : grid0.Coords) (v254 : BitVec 32) (k0_hw14 : k0_chk14 i v254), ∀ (k0_h1 : k0_cond1 i = 1#1), ∀ a, (k0_off42 v254) a + S8x128.size a ≤ S524288x128.size a := fun i v254 k0_hw14 k0_h1 => k0_hw14.2 k0_h1

def k0_off43 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_185 : BitVec 32 := 8#32
  let v264 : BitVec 32 := Scalar.muli v185 c8_i32_185
  let c6_i32_186 : BitVec 32 := 6#32
  let v265 : BitVec 32 := Scalar.addi v264 c6_i32_186
  let v266 : Index := Scalar.indexCast v265
  ![v266.toNat]
def k0_mult29 (v267 : BitVec 32) : BitVec 32 :=
  v267

def k0_mult30 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_187 : BitVec 32 := 8#32
  let v269 : BitVec 32 := Scalar.muli v185 c8_i32_187
  v269
def k0_off44 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_187 : BitVec 32 := 8#32
  let v269 : BitVec 32 := Scalar.muli v185 c8_i32_187
  let v270 : BitVec 32 := v269
  let c0_i32_193 : BitVec 32 := 0#32
  ![v270.toNat, 0]
def k0_off45 (v267 : BitVec 32) : Fin 2 → Nat :=
  let v268 : BitVec 32 := v267
  let c0_i32_194 : BitVec 32 := 0#32
  ![v268.toNat, 0]

def k0_chk15 (i : grid0.Coords) (v267 : BitVec 32) : Prop :=
  (∀ (k0_h1 : k0_cond1 i = 1#1), 8 ∣ (k0_mult29 v267).toNat) ∧
  (∀ (k0_h1 : k0_cond1 i = 1#1), ∀ a, (k0_off45 v267) a + S8x128.size a ≤ S524288x128.size a)
theorem k0_mult29_dvd : ∀ (i : grid0.Coords) (v267 : BitVec 32) (k0_hw15 : k0_chk15 i v267), ∀ (k0_h1 : k0_cond1 i = 1#1), 8 ∣ (k0_mult29 v267).toNat := fun i v267 k0_hw15 k0_h1 => k0_hw15.1 k0_h1
theorem k0_off45_inb : ∀ (i : grid0.Coords) (v267 : BitVec 32) (k0_hw15 : k0_chk15 i v267), ∀ (k0_h1 : k0_cond1 i = 1#1), ∀ a, (k0_off45 v267) a + S8x128.size a ≤ S524288x128.size a := fun i v267 k0_hw15 k0_h1 => k0_hw15.2 k0_h1

def k0_off46 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_195 : BitVec 32 := 8#32
  let v277 : BitVec 32 := Scalar.muli v185 c8_i32_195
  let c7_i32_196 : BitVec 32 := 7#32
  let v278 : BitVec 32 := Scalar.addi v277 c7_i32_196
  let v279 : Index := Scalar.indexCast v278
  ![v279.toNat]
def k0_mult31 (v280 : BitVec 32) : BitVec 32 :=
  v280

def k0_mult32 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_197 : BitVec 32 := 8#32
  let v282 : BitVec 32 := Scalar.muli v185 c8_i32_197
  v282
def k0_off47 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_123 : BitVec 32 := 8#32
  let v184 : BitVec 32 := Scalar.muli arg16 c8_i32_123
  let c1_i32_124 : BitVec 32 := 1#32
  let v185 : BitVec 32 := Scalar.addi v184 c1_i32_124
  let c8_i32_197 : BitVec 32 := 8#32
  let v282 : BitVec 32 := Scalar.muli v185 c8_i32_197
  let v283 : BitVec 32 := v282
  let c0_i32_203 : BitVec 32 := 0#32
  ![v283.toNat, 0]
def k0_off48 (v280 : BitVec 32) : Fin 2 → Nat :=
  let v281 : BitVec 32 := v280
  let c0_i32_204 : BitVec 32 := 0#32
  ![v281.toNat, 0]

def k0_chk16 (i : grid0.Coords) (v280 : BitVec 32) : Prop :=
  (∀ (k0_h1 : k0_cond1 i = 1#1), 8 ∣ (k0_mult31 v280).toNat) ∧
  (∀ (k0_h1 : k0_cond1 i = 1#1), ∀ a, (k0_off48 v280) a + S8x128.size a ≤ S524288x128.size a)
theorem k0_mult31_dvd : ∀ (i : grid0.Coords) (v280 : BitVec 32) (k0_hw16 : k0_chk16 i v280), ∀ (k0_h1 : k0_cond1 i = 1#1), 8 ∣ (k0_mult31 v280).toNat := fun i v280 k0_hw16 k0_h1 => k0_hw16.1 k0_h1
theorem k0_off48_inb : ∀ (i : grid0.Coords) (v280 : BitVec 32) (k0_hw16 : k0_chk16 i v280), ∀ (k0_h1 : k0_cond1 i = 1#1), ∀ a, (k0_off48 v280) a + S8x128.size a ≤ S524288x128.size a := fun i v280 k0_hw16 k0_h1 => k0_hw16.2 k0_h1

def k0_off49 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_207 : BitVec 32 := 8#32
  let v292 : BitVec 32 := Scalar.muli v291 c8_i32_207
  let c0_i32_208 : BitVec 32 := 0#32
  let v293 : BitVec 32 := Scalar.addi v292 c0_i32_208
  let v294 : Index := Scalar.indexCast v293
  ![v294.toNat]
def k0_mult33 (v295 : BitVec 32) : BitVec 32 :=
  v295

def k0_mult34 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_209 : BitVec 32 := 8#32
  let v297 : BitVec 32 := Scalar.muli v291 c8_i32_209
  v297
def k0_off50 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_209 : BitVec 32 := 8#32
  let v297 : BitVec 32 := Scalar.muli v291 c8_i32_209
  let v298 : BitVec 32 := v297
  let c0_i32_215 : BitVec 32 := 0#32
  ![v298.toNat, 0]
def k0_off51 (v295 : BitVec 32) : Fin 2 → Nat :=
  let v296 : BitVec 32 := v295
  let c0_i32_216 : BitVec 32 := 0#32
  ![v296.toNat, 0]

def k0_chk17 (i : grid0.Coords) (v295 : BitVec 32) : Prop :=
  (∀ (k0_h1 : k0_cond1 i = 1#1), 8 ∣ (k0_mult33 v295).toNat) ∧
  (∀ (k0_h1 : k0_cond1 i = 1#1), ∀ a, (k0_off51 v295) a + S8x128.size a ≤ S524288x128.size a)
theorem k0_mult33_dvd : ∀ (i : grid0.Coords) (v295 : BitVec 32) (k0_hw17 : k0_chk17 i v295), ∀ (k0_h1 : k0_cond1 i = 1#1), 8 ∣ (k0_mult33 v295).toNat := fun i v295 k0_hw17 k0_h1 => k0_hw17.1 k0_h1
theorem k0_off51_inb : ∀ (i : grid0.Coords) (v295 : BitVec 32) (k0_hw17 : k0_chk17 i v295), ∀ (k0_h1 : k0_cond1 i = 1#1), ∀ a, (k0_off51 v295) a + S8x128.size a ≤ S524288x128.size a := fun i v295 k0_hw17 k0_h1 => k0_hw17.2 k0_h1

def k0_off52 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_217 : BitVec 32 := 8#32
  let v305 : BitVec 32 := Scalar.muli v291 c8_i32_217
  let c1_i32_218 : BitVec 32 := 1#32
  let v306 : BitVec 32 := Scalar.addi v305 c1_i32_218
  let v307 : Index := Scalar.indexCast v306
  ![v307.toNat]
def k0_mult35 (v308 : BitVec 32) : BitVec 32 :=
  v308

def k0_mult36 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_219 : BitVec 32 := 8#32
  let v310 : BitVec 32 := Scalar.muli v291 c8_i32_219
  v310
def k0_off53 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_219 : BitVec 32 := 8#32
  let v310 : BitVec 32 := Scalar.muli v291 c8_i32_219
  let v311 : BitVec 32 := v310
  let c0_i32_225 : BitVec 32 := 0#32
  ![v311.toNat, 0]
def k0_off54 (v308 : BitVec 32) : Fin 2 → Nat :=
  let v309 : BitVec 32 := v308
  let c0_i32_226 : BitVec 32 := 0#32
  ![v309.toNat, 0]

def k0_chk18 (i : grid0.Coords) (v308 : BitVec 32) : Prop :=
  (∀ (k0_h1 : k0_cond1 i = 1#1), 8 ∣ (k0_mult35 v308).toNat) ∧
  (∀ (k0_h1 : k0_cond1 i = 1#1), ∀ a, (k0_off54 v308) a + S8x128.size a ≤ S524288x128.size a)
theorem k0_mult35_dvd : ∀ (i : grid0.Coords) (v308 : BitVec 32) (k0_hw18 : k0_chk18 i v308), ∀ (k0_h1 : k0_cond1 i = 1#1), 8 ∣ (k0_mult35 v308).toNat := fun i v308 k0_hw18 k0_h1 => k0_hw18.1 k0_h1
theorem k0_off54_inb : ∀ (i : grid0.Coords) (v308 : BitVec 32) (k0_hw18 : k0_chk18 i v308), ∀ (k0_h1 : k0_cond1 i = 1#1), ∀ a, (k0_off54 v308) a + S8x128.size a ≤ S524288x128.size a := fun i v308 k0_hw18 k0_h1 => k0_hw18.2 k0_h1

def k0_off55 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_227 : BitVec 32 := 8#32
  let v318 : BitVec 32 := Scalar.muli v291 c8_i32_227
  let c2_i32_228 : BitVec 32 := 2#32
  let v319 : BitVec 32 := Scalar.addi v318 c2_i32_228
  let v320 : Index := Scalar.indexCast v319
  ![v320.toNat]
def k0_mult37 (v321 : BitVec 32) : BitVec 32 :=
  v321

def k0_mult38 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_229 : BitVec 32 := 8#32
  let v323 : BitVec 32 := Scalar.muli v291 c8_i32_229
  v323
def k0_off56 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_229 : BitVec 32 := 8#32
  let v323 : BitVec 32 := Scalar.muli v291 c8_i32_229
  let v324 : BitVec 32 := v323
  let c0_i32_235 : BitVec 32 := 0#32
  ![v324.toNat, 0]
def k0_off57 (v321 : BitVec 32) : Fin 2 → Nat :=
  let v322 : BitVec 32 := v321
  let c0_i32_236 : BitVec 32 := 0#32
  ![v322.toNat, 0]

def k0_chk19 (i : grid0.Coords) (v321 : BitVec 32) : Prop :=
  (∀ (k0_h1 : k0_cond1 i = 1#1), 8 ∣ (k0_mult37 v321).toNat) ∧
  (∀ (k0_h1 : k0_cond1 i = 1#1), ∀ a, (k0_off57 v321) a + S8x128.size a ≤ S524288x128.size a)
theorem k0_mult37_dvd : ∀ (i : grid0.Coords) (v321 : BitVec 32) (k0_hw19 : k0_chk19 i v321), ∀ (k0_h1 : k0_cond1 i = 1#1), 8 ∣ (k0_mult37 v321).toNat := fun i v321 k0_hw19 k0_h1 => k0_hw19.1 k0_h1
theorem k0_off57_inb : ∀ (i : grid0.Coords) (v321 : BitVec 32) (k0_hw19 : k0_chk19 i v321), ∀ (k0_h1 : k0_cond1 i = 1#1), ∀ a, (k0_off57 v321) a + S8x128.size a ≤ S524288x128.size a := fun i v321 k0_hw19 k0_h1 => k0_hw19.2 k0_h1

def k0_off58 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_237 : BitVec 32 := 8#32
  let v331 : BitVec 32 := Scalar.muli v291 c8_i32_237
  let c3_i32_238 : BitVec 32 := 3#32
  let v332 : BitVec 32 := Scalar.addi v331 c3_i32_238
  let v333 : Index := Scalar.indexCast v332
  ![v333.toNat]
def k0_mult39 (v334 : BitVec 32) : BitVec 32 :=
  v334

def k0_mult40 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_239 : BitVec 32 := 8#32
  let v336 : BitVec 32 := Scalar.muli v291 c8_i32_239
  v336
def k0_off59 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_239 : BitVec 32 := 8#32
  let v336 : BitVec 32 := Scalar.muli v291 c8_i32_239
  let v337 : BitVec 32 := v336
  let c0_i32_245 : BitVec 32 := 0#32
  ![v337.toNat, 0]
def k0_off60 (v334 : BitVec 32) : Fin 2 → Nat :=
  let v335 : BitVec 32 := v334
  let c0_i32_246 : BitVec 32 := 0#32
  ![v335.toNat, 0]

def k0_chk20 (i : grid0.Coords) (v334 : BitVec 32) : Prop :=
  (∀ (k0_h1 : k0_cond1 i = 1#1), 8 ∣ (k0_mult39 v334).toNat) ∧
  (∀ (k0_h1 : k0_cond1 i = 1#1), ∀ a, (k0_off60 v334) a + S8x128.size a ≤ S524288x128.size a)
theorem k0_mult39_dvd : ∀ (i : grid0.Coords) (v334 : BitVec 32) (k0_hw20 : k0_chk20 i v334), ∀ (k0_h1 : k0_cond1 i = 1#1), 8 ∣ (k0_mult39 v334).toNat := fun i v334 k0_hw20 k0_h1 => k0_hw20.1 k0_h1
theorem k0_off60_inb : ∀ (i : grid0.Coords) (v334 : BitVec 32) (k0_hw20 : k0_chk20 i v334), ∀ (k0_h1 : k0_cond1 i = 1#1), ∀ a, (k0_off60 v334) a + S8x128.size a ≤ S524288x128.size a := fun i v334 k0_hw20 k0_h1 => k0_hw20.2 k0_h1

def k0_off61 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_247 : BitVec 32 := 8#32
  let v344 : BitVec 32 := Scalar.muli v291 c8_i32_247
  let c4_i32_248 : BitVec 32 := 4#32
  let v345 : BitVec 32 := Scalar.addi v344 c4_i32_248
  let v346 : Index := Scalar.indexCast v345
  ![v346.toNat]
def k0_mult41 (v347 : BitVec 32) : BitVec 32 :=
  v347

def k0_mult42 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_249 : BitVec 32 := 8#32
  let v349 : BitVec 32 := Scalar.muli v291 c8_i32_249
  v349
def k0_off62 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_249 : BitVec 32 := 8#32
  let v349 : BitVec 32 := Scalar.muli v291 c8_i32_249
  let v350 : BitVec 32 := v349
  let c0_i32_255 : BitVec 32 := 0#32
  ![v350.toNat, 0]
def k0_off63 (v347 : BitVec 32) : Fin 2 → Nat :=
  let v348 : BitVec 32 := v347
  let c0_i32_256 : BitVec 32 := 0#32
  ![v348.toNat, 0]

def k0_chk21 (i : grid0.Coords) (v347 : BitVec 32) : Prop :=
  (∀ (k0_h1 : k0_cond1 i = 1#1), 8 ∣ (k0_mult41 v347).toNat) ∧
  (∀ (k0_h1 : k0_cond1 i = 1#1), ∀ a, (k0_off63 v347) a + S8x128.size a ≤ S524288x128.size a)
theorem k0_mult41_dvd : ∀ (i : grid0.Coords) (v347 : BitVec 32) (k0_hw21 : k0_chk21 i v347), ∀ (k0_h1 : k0_cond1 i = 1#1), 8 ∣ (k0_mult41 v347).toNat := fun i v347 k0_hw21 k0_h1 => k0_hw21.1 k0_h1
theorem k0_off63_inb : ∀ (i : grid0.Coords) (v347 : BitVec 32) (k0_hw21 : k0_chk21 i v347), ∀ (k0_h1 : k0_cond1 i = 1#1), ∀ a, (k0_off63 v347) a + S8x128.size a ≤ S524288x128.size a := fun i v347 k0_hw21 k0_h1 => k0_hw21.2 k0_h1

def k0_off64 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_257 : BitVec 32 := 8#32
  let v357 : BitVec 32 := Scalar.muli v291 c8_i32_257
  let c5_i32_258 : BitVec 32 := 5#32
  let v358 : BitVec 32 := Scalar.addi v357 c5_i32_258
  let v359 : Index := Scalar.indexCast v358
  ![v359.toNat]
def k0_mult43 (v360 : BitVec 32) : BitVec 32 :=
  v360

def k0_mult44 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_259 : BitVec 32 := 8#32
  let v362 : BitVec 32 := Scalar.muli v291 c8_i32_259
  v362
def k0_off65 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_259 : BitVec 32 := 8#32
  let v362 : BitVec 32 := Scalar.muli v291 c8_i32_259
  let v363 : BitVec 32 := v362
  let c0_i32_265 : BitVec 32 := 0#32
  ![v363.toNat, 0]
def k0_off66 (v360 : BitVec 32) : Fin 2 → Nat :=
  let v361 : BitVec 32 := v360
  let c0_i32_266 : BitVec 32 := 0#32
  ![v361.toNat, 0]

def k0_chk22 (i : grid0.Coords) (v360 : BitVec 32) : Prop :=
  (∀ (k0_h1 : k0_cond1 i = 1#1), 8 ∣ (k0_mult43 v360).toNat) ∧
  (∀ (k0_h1 : k0_cond1 i = 1#1), ∀ a, (k0_off66 v360) a + S8x128.size a ≤ S524288x128.size a)
theorem k0_mult43_dvd : ∀ (i : grid0.Coords) (v360 : BitVec 32) (k0_hw22 : k0_chk22 i v360), ∀ (k0_h1 : k0_cond1 i = 1#1), 8 ∣ (k0_mult43 v360).toNat := fun i v360 k0_hw22 k0_h1 => k0_hw22.1 k0_h1
theorem k0_off66_inb : ∀ (i : grid0.Coords) (v360 : BitVec 32) (k0_hw22 : k0_chk22 i v360), ∀ (k0_h1 : k0_cond1 i = 1#1), ∀ a, (k0_off66 v360) a + S8x128.size a ≤ S524288x128.size a := fun i v360 k0_hw22 k0_h1 => k0_hw22.2 k0_h1

def k0_off67 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_267 : BitVec 32 := 8#32
  let v370 : BitVec 32 := Scalar.muli v291 c8_i32_267
  let c6_i32_268 : BitVec 32 := 6#32
  let v371 : BitVec 32 := Scalar.addi v370 c6_i32_268
  let v372 : Index := Scalar.indexCast v371
  ![v372.toNat]
def k0_mult45 (v373 : BitVec 32) : BitVec 32 :=
  v373

def k0_mult46 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_269 : BitVec 32 := 8#32
  let v375 : BitVec 32 := Scalar.muli v291 c8_i32_269
  v375
def k0_off68 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_269 : BitVec 32 := 8#32
  let v375 : BitVec 32 := Scalar.muli v291 c8_i32_269
  let v376 : BitVec 32 := v375
  let c0_i32_275 : BitVec 32 := 0#32
  ![v376.toNat, 0]
def k0_off69 (v373 : BitVec 32) : Fin 2 → Nat :=
  let v374 : BitVec 32 := v373
  let c0_i32_276 : BitVec 32 := 0#32
  ![v374.toNat, 0]

def k0_chk23 (i : grid0.Coords) (v373 : BitVec 32) : Prop :=
  (∀ (k0_h1 : k0_cond1 i = 1#1), 8 ∣ (k0_mult45 v373).toNat) ∧
  (∀ (k0_h1 : k0_cond1 i = 1#1), ∀ a, (k0_off69 v373) a + S8x128.size a ≤ S524288x128.size a)
theorem k0_mult45_dvd : ∀ (i : grid0.Coords) (v373 : BitVec 32) (k0_hw23 : k0_chk23 i v373), ∀ (k0_h1 : k0_cond1 i = 1#1), 8 ∣ (k0_mult45 v373).toNat := fun i v373 k0_hw23 k0_h1 => k0_hw23.1 k0_h1
theorem k0_off69_inb : ∀ (i : grid0.Coords) (v373 : BitVec 32) (k0_hw23 : k0_chk23 i v373), ∀ (k0_h1 : k0_cond1 i = 1#1), ∀ a, (k0_off69 v373) a + S8x128.size a ≤ S524288x128.size a := fun i v373 k0_hw23 k0_h1 => k0_hw23.2 k0_h1

def k0_off70 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_277 : BitVec 32 := 8#32
  let v383 : BitVec 32 := Scalar.muli v291 c8_i32_277
  let c7_i32_278 : BitVec 32 := 7#32
  let v384 : BitVec 32 := Scalar.addi v383 c7_i32_278
  let v385 : Index := Scalar.indexCast v384
  ![v385.toNat]
def k0_mult47 (v386 : BitVec 32) : BitVec 32 :=
  v386

def k0_mult48 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_279 : BitVec 32 := 8#32
  let v388 : BitVec 32 := Scalar.muli v291 c8_i32_279
  v388
def k0_off71 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_205 : BitVec 32 := 8#32
  let v290 : BitVec 32 := Scalar.muli arg16 c8_i32_205
  let c2_i32_206 : BitVec 32 := 2#32
  let v291 : BitVec 32 := Scalar.addi v290 c2_i32_206
  let c8_i32_279 : BitVec 32 := 8#32
  let v388 : BitVec 32 := Scalar.muli v291 c8_i32_279
  let v389 : BitVec 32 := v388
  let c0_i32_285 : BitVec 32 := 0#32
  ![v389.toNat, 0]
def k0_off72 (v386 : BitVec 32) : Fin 2 → Nat :=
  let v387 : BitVec 32 := v386
  let c0_i32_286 : BitVec 32 := 0#32
  ![v387.toNat, 0]

def k0_chk24 (i : grid0.Coords) (v386 : BitVec 32) : Prop :=
  (∀ (k0_h1 : k0_cond1 i = 1#1), 8 ∣ (k0_mult47 v386).toNat) ∧
  (∀ (k0_h1 : k0_cond1 i = 1#1), ∀ a, (k0_off72 v386) a + S8x128.size a ≤ S524288x128.size a)
theorem k0_mult47_dvd : ∀ (i : grid0.Coords) (v386 : BitVec 32) (k0_hw24 : k0_chk24 i v386), ∀ (k0_h1 : k0_cond1 i = 1#1), 8 ∣ (k0_mult47 v386).toNat := fun i v386 k0_hw24 k0_h1 => k0_hw24.1 k0_h1
theorem k0_off72_inb : ∀ (i : grid0.Coords) (v386 : BitVec 32) (k0_hw24 : k0_chk24 i v386), ∀ (k0_h1 : k0_cond1 i = 1#1), ∀ a, (k0_off72 v386) a + S8x128.size a ≤ S524288x128.size a := fun i v386 k0_hw24 k0_h1 => k0_hw24.2 k0_h1

def k0_off73 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_289 : BitVec 32 := 8#32
  let v398 : BitVec 32 := Scalar.muli v397 c8_i32_289
  let c0_i32_290 : BitVec 32 := 0#32
  let v399 : BitVec 32 := Scalar.addi v398 c0_i32_290
  let v400 : Index := Scalar.indexCast v399
  ![v400.toNat]
def k0_mult49 (v401 : BitVec 32) : BitVec 32 :=
  v401

def k0_mult50 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_291 : BitVec 32 := 8#32
  let v403 : BitVec 32 := Scalar.muli v397 c8_i32_291
  v403
def k0_off74 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_291 : BitVec 32 := 8#32
  let v403 : BitVec 32 := Scalar.muli v397 c8_i32_291
  let v404 : BitVec 32 := v403
  let c0_i32_297 : BitVec 32 := 0#32
  ![v404.toNat, 0]
def k0_off75 (v401 : BitVec 32) : Fin 2 → Nat :=
  let v402 : BitVec 32 := v401
  let c0_i32_298 : BitVec 32 := 0#32
  ![v402.toNat, 0]

def k0_chk25 (i : grid0.Coords) (v401 : BitVec 32) : Prop :=
  (∀ (k0_h1 : k0_cond1 i = 1#1), 8 ∣ (k0_mult49 v401).toNat) ∧
  (∀ (k0_h1 : k0_cond1 i = 1#1), ∀ a, (k0_off75 v401) a + S8x128.size a ≤ S524288x128.size a)
theorem k0_mult49_dvd : ∀ (i : grid0.Coords) (v401 : BitVec 32) (k0_hw25 : k0_chk25 i v401), ∀ (k0_h1 : k0_cond1 i = 1#1), 8 ∣ (k0_mult49 v401).toNat := fun i v401 k0_hw25 k0_h1 => k0_hw25.1 k0_h1
theorem k0_off75_inb : ∀ (i : grid0.Coords) (v401 : BitVec 32) (k0_hw25 : k0_chk25 i v401), ∀ (k0_h1 : k0_cond1 i = 1#1), ∀ a, (k0_off75 v401) a + S8x128.size a ≤ S524288x128.size a := fun i v401 k0_hw25 k0_h1 => k0_hw25.2 k0_h1

def k0_off76 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_299 : BitVec 32 := 8#32
  let v411 : BitVec 32 := Scalar.muli v397 c8_i32_299
  let c1_i32_300 : BitVec 32 := 1#32
  let v412 : BitVec 32 := Scalar.addi v411 c1_i32_300
  let v413 : Index := Scalar.indexCast v412
  ![v413.toNat]
def k0_mult51 (v414 : BitVec 32) : BitVec 32 :=
  v414

def k0_mult52 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_301 : BitVec 32 := 8#32
  let v416 : BitVec 32 := Scalar.muli v397 c8_i32_301
  v416
def k0_off77 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_301 : BitVec 32 := 8#32
  let v416 : BitVec 32 := Scalar.muli v397 c8_i32_301
  let v417 : BitVec 32 := v416
  let c0_i32_307 : BitVec 32 := 0#32
  ![v417.toNat, 0]
def k0_off78 (v414 : BitVec 32) : Fin 2 → Nat :=
  let v415 : BitVec 32 := v414
  let c0_i32_308 : BitVec 32 := 0#32
  ![v415.toNat, 0]

def k0_chk26 (i : grid0.Coords) (v414 : BitVec 32) : Prop :=
  (∀ (k0_h1 : k0_cond1 i = 1#1), 8 ∣ (k0_mult51 v414).toNat) ∧
  (∀ (k0_h1 : k0_cond1 i = 1#1), ∀ a, (k0_off78 v414) a + S8x128.size a ≤ S524288x128.size a)
theorem k0_mult51_dvd : ∀ (i : grid0.Coords) (v414 : BitVec 32) (k0_hw26 : k0_chk26 i v414), ∀ (k0_h1 : k0_cond1 i = 1#1), 8 ∣ (k0_mult51 v414).toNat := fun i v414 k0_hw26 k0_h1 => k0_hw26.1 k0_h1
theorem k0_off78_inb : ∀ (i : grid0.Coords) (v414 : BitVec 32) (k0_hw26 : k0_chk26 i v414), ∀ (k0_h1 : k0_cond1 i = 1#1), ∀ a, (k0_off78 v414) a + S8x128.size a ≤ S524288x128.size a := fun i v414 k0_hw26 k0_h1 => k0_hw26.2 k0_h1

def k0_off79 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_309 : BitVec 32 := 8#32
  let v424 : BitVec 32 := Scalar.muli v397 c8_i32_309
  let c2_i32_310 : BitVec 32 := 2#32
  let v425 : BitVec 32 := Scalar.addi v424 c2_i32_310
  let v426 : Index := Scalar.indexCast v425
  ![v426.toNat]
def k0_mult53 (v427 : BitVec 32) : BitVec 32 :=
  v427

def k0_mult54 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_311 : BitVec 32 := 8#32
  let v429 : BitVec 32 := Scalar.muli v397 c8_i32_311
  v429
def k0_off80 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_311 : BitVec 32 := 8#32
  let v429 : BitVec 32 := Scalar.muli v397 c8_i32_311
  let v430 : BitVec 32 := v429
  let c0_i32_317 : BitVec 32 := 0#32
  ![v430.toNat, 0]
def k0_off81 (v427 : BitVec 32) : Fin 2 → Nat :=
  let v428 : BitVec 32 := v427
  let c0_i32_318 : BitVec 32 := 0#32
  ![v428.toNat, 0]

def k0_chk27 (i : grid0.Coords) (v427 : BitVec 32) : Prop :=
  (∀ (k0_h1 : k0_cond1 i = 1#1), 8 ∣ (k0_mult53 v427).toNat) ∧
  (∀ (k0_h1 : k0_cond1 i = 1#1), ∀ a, (k0_off81 v427) a + S8x128.size a ≤ S524288x128.size a)
theorem k0_mult53_dvd : ∀ (i : grid0.Coords) (v427 : BitVec 32) (k0_hw27 : k0_chk27 i v427), ∀ (k0_h1 : k0_cond1 i = 1#1), 8 ∣ (k0_mult53 v427).toNat := fun i v427 k0_hw27 k0_h1 => k0_hw27.1 k0_h1
theorem k0_off81_inb : ∀ (i : grid0.Coords) (v427 : BitVec 32) (k0_hw27 : k0_chk27 i v427), ∀ (k0_h1 : k0_cond1 i = 1#1), ∀ a, (k0_off81 v427) a + S8x128.size a ≤ S524288x128.size a := fun i v427 k0_hw27 k0_h1 => k0_hw27.2 k0_h1

def k0_off82 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_319 : BitVec 32 := 8#32
  let v437 : BitVec 32 := Scalar.muli v397 c8_i32_319
  let c3_i32_320 : BitVec 32 := 3#32
  let v438 : BitVec 32 := Scalar.addi v437 c3_i32_320
  let v439 : Index := Scalar.indexCast v438
  ![v439.toNat]
def k0_mult55 (v440 : BitVec 32) : BitVec 32 :=
  v440

def k0_mult56 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_321 : BitVec 32 := 8#32
  let v442 : BitVec 32 := Scalar.muli v397 c8_i32_321
  v442
def k0_off83 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_321 : BitVec 32 := 8#32
  let v442 : BitVec 32 := Scalar.muli v397 c8_i32_321
  let v443 : BitVec 32 := v442
  let c0_i32_327 : BitVec 32 := 0#32
  ![v443.toNat, 0]
def k0_off84 (v440 : BitVec 32) : Fin 2 → Nat :=
  let v441 : BitVec 32 := v440
  let c0_i32_328 : BitVec 32 := 0#32
  ![v441.toNat, 0]

def k0_chk28 (i : grid0.Coords) (v440 : BitVec 32) : Prop :=
  (∀ (k0_h1 : k0_cond1 i = 1#1), 8 ∣ (k0_mult55 v440).toNat) ∧
  (∀ (k0_h1 : k0_cond1 i = 1#1), ∀ a, (k0_off84 v440) a + S8x128.size a ≤ S524288x128.size a)
theorem k0_mult55_dvd : ∀ (i : grid0.Coords) (v440 : BitVec 32) (k0_hw28 : k0_chk28 i v440), ∀ (k0_h1 : k0_cond1 i = 1#1), 8 ∣ (k0_mult55 v440).toNat := fun i v440 k0_hw28 k0_h1 => k0_hw28.1 k0_h1
theorem k0_off84_inb : ∀ (i : grid0.Coords) (v440 : BitVec 32) (k0_hw28 : k0_chk28 i v440), ∀ (k0_h1 : k0_cond1 i = 1#1), ∀ a, (k0_off84 v440) a + S8x128.size a ≤ S524288x128.size a := fun i v440 k0_hw28 k0_h1 => k0_hw28.2 k0_h1

def k0_off85 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_329 : BitVec 32 := 8#32
  let v450 : BitVec 32 := Scalar.muli v397 c8_i32_329
  let c4_i32_330 : BitVec 32 := 4#32
  let v451 : BitVec 32 := Scalar.addi v450 c4_i32_330
  let v452 : Index := Scalar.indexCast v451
  ![v452.toNat]
def k0_mult57 (v453 : BitVec 32) : BitVec 32 :=
  v453

def k0_mult58 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_331 : BitVec 32 := 8#32
  let v455 : BitVec 32 := Scalar.muli v397 c8_i32_331
  v455
def k0_off86 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_331 : BitVec 32 := 8#32
  let v455 : BitVec 32 := Scalar.muli v397 c8_i32_331
  let v456 : BitVec 32 := v455
  let c0_i32_337 : BitVec 32 := 0#32
  ![v456.toNat, 0]
def k0_off87 (v453 : BitVec 32) : Fin 2 → Nat :=
  let v454 : BitVec 32 := v453
  let c0_i32_338 : BitVec 32 := 0#32
  ![v454.toNat, 0]

def k0_chk29 (i : grid0.Coords) (v453 : BitVec 32) : Prop :=
  (∀ (k0_h1 : k0_cond1 i = 1#1), 8 ∣ (k0_mult57 v453).toNat) ∧
  (∀ (k0_h1 : k0_cond1 i = 1#1), ∀ a, (k0_off87 v453) a + S8x128.size a ≤ S524288x128.size a)
theorem k0_mult57_dvd : ∀ (i : grid0.Coords) (v453 : BitVec 32) (k0_hw29 : k0_chk29 i v453), ∀ (k0_h1 : k0_cond1 i = 1#1), 8 ∣ (k0_mult57 v453).toNat := fun i v453 k0_hw29 k0_h1 => k0_hw29.1 k0_h1
theorem k0_off87_inb : ∀ (i : grid0.Coords) (v453 : BitVec 32) (k0_hw29 : k0_chk29 i v453), ∀ (k0_h1 : k0_cond1 i = 1#1), ∀ a, (k0_off87 v453) a + S8x128.size a ≤ S524288x128.size a := fun i v453 k0_hw29 k0_h1 => k0_hw29.2 k0_h1

def k0_off88 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_339 : BitVec 32 := 8#32
  let v463 : BitVec 32 := Scalar.muli v397 c8_i32_339
  let c5_i32_340 : BitVec 32 := 5#32
  let v464 : BitVec 32 := Scalar.addi v463 c5_i32_340
  let v465 : Index := Scalar.indexCast v464
  ![v465.toNat]
def k0_mult59 (v466 : BitVec 32) : BitVec 32 :=
  v466

def k0_mult60 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_341 : BitVec 32 := 8#32
  let v468 : BitVec 32 := Scalar.muli v397 c8_i32_341
  v468
def k0_off89 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_341 : BitVec 32 := 8#32
  let v468 : BitVec 32 := Scalar.muli v397 c8_i32_341
  let v469 : BitVec 32 := v468
  let c0_i32_347 : BitVec 32 := 0#32
  ![v469.toNat, 0]
def k0_off90 (v466 : BitVec 32) : Fin 2 → Nat :=
  let v467 : BitVec 32 := v466
  let c0_i32_348 : BitVec 32 := 0#32
  ![v467.toNat, 0]

def k0_chk30 (i : grid0.Coords) (v466 : BitVec 32) : Prop :=
  (∀ (k0_h1 : k0_cond1 i = 1#1), 8 ∣ (k0_mult59 v466).toNat) ∧
  (∀ (k0_h1 : k0_cond1 i = 1#1), ∀ a, (k0_off90 v466) a + S8x128.size a ≤ S524288x128.size a)
theorem k0_mult59_dvd : ∀ (i : grid0.Coords) (v466 : BitVec 32) (k0_hw30 : k0_chk30 i v466), ∀ (k0_h1 : k0_cond1 i = 1#1), 8 ∣ (k0_mult59 v466).toNat := fun i v466 k0_hw30 k0_h1 => k0_hw30.1 k0_h1
theorem k0_off90_inb : ∀ (i : grid0.Coords) (v466 : BitVec 32) (k0_hw30 : k0_chk30 i v466), ∀ (k0_h1 : k0_cond1 i = 1#1), ∀ a, (k0_off90 v466) a + S8x128.size a ≤ S524288x128.size a := fun i v466 k0_hw30 k0_h1 => k0_hw30.2 k0_h1

def k0_off91 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_349 : BitVec 32 := 8#32
  let v476 : BitVec 32 := Scalar.muli v397 c8_i32_349
  let c6_i32_350 : BitVec 32 := 6#32
  let v477 : BitVec 32 := Scalar.addi v476 c6_i32_350
  let v478 : Index := Scalar.indexCast v477
  ![v478.toNat]
def k0_mult61 (v479 : BitVec 32) : BitVec 32 :=
  v479

def k0_mult62 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_351 : BitVec 32 := 8#32
  let v481 : BitVec 32 := Scalar.muli v397 c8_i32_351
  v481
def k0_off92 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_351 : BitVec 32 := 8#32
  let v481 : BitVec 32 := Scalar.muli v397 c8_i32_351
  let v482 : BitVec 32 := v481
  let c0_i32_357 : BitVec 32 := 0#32
  ![v482.toNat, 0]
def k0_off93 (v479 : BitVec 32) : Fin 2 → Nat :=
  let v480 : BitVec 32 := v479
  let c0_i32_358 : BitVec 32 := 0#32
  ![v480.toNat, 0]

def k0_chk31 (i : grid0.Coords) (v479 : BitVec 32) : Prop :=
  (∀ (k0_h1 : k0_cond1 i = 1#1), 8 ∣ (k0_mult61 v479).toNat) ∧
  (∀ (k0_h1 : k0_cond1 i = 1#1), ∀ a, (k0_off93 v479) a + S8x128.size a ≤ S524288x128.size a)
theorem k0_mult61_dvd : ∀ (i : grid0.Coords) (v479 : BitVec 32) (k0_hw31 : k0_chk31 i v479), ∀ (k0_h1 : k0_cond1 i = 1#1), 8 ∣ (k0_mult61 v479).toNat := fun i v479 k0_hw31 k0_h1 => k0_hw31.1 k0_h1
theorem k0_off93_inb : ∀ (i : grid0.Coords) (v479 : BitVec 32) (k0_hw31 : k0_chk31 i v479), ∀ (k0_h1 : k0_cond1 i = 1#1), ∀ a, (k0_off93 v479) a + S8x128.size a ≤ S524288x128.size a := fun i v479 k0_hw31 k0_h1 => k0_hw31.2 k0_h1

def k0_off94 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_359 : BitVec 32 := 8#32
  let v489 : BitVec 32 := Scalar.muli v397 c8_i32_359
  let c7_i32_360 : BitVec 32 := 7#32
  let v490 : BitVec 32 := Scalar.addi v489 c7_i32_360
  let v491 : Index := Scalar.indexCast v490
  ![v491.toNat]
def k0_mult63 (v492 : BitVec 32) : BitVec 32 :=
  v492

def k0_mult64 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_361 : BitVec 32 := 8#32
  let v494 : BitVec 32 := Scalar.muli v397 c8_i32_361
  v494
def k0_off95 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_287 : BitVec 32 := 8#32
  let v396 : BitVec 32 := Scalar.muli arg16 c8_i32_287
  let c3_i32_288 : BitVec 32 := 3#32
  let v397 : BitVec 32 := Scalar.addi v396 c3_i32_288
  let c8_i32_361 : BitVec 32 := 8#32
  let v494 : BitVec 32 := Scalar.muli v397 c8_i32_361
  let v495 : BitVec 32 := v494
  let c0_i32_367 : BitVec 32 := 0#32
  ![v495.toNat, 0]
def k0_off96 (v492 : BitVec 32) : Fin 2 → Nat :=
  let v493 : BitVec 32 := v492
  let c0_i32_368 : BitVec 32 := 0#32
  ![v493.toNat, 0]

def k0_chk32 (i : grid0.Coords) (v492 : BitVec 32) : Prop :=
  (∀ (k0_h1 : k0_cond1 i = 1#1), 8 ∣ (k0_mult63 v492).toNat) ∧
  (∀ (k0_h1 : k0_cond1 i = 1#1), ∀ a, (k0_off96 v492) a + S8x128.size a ≤ S524288x128.size a)
theorem k0_mult63_dvd : ∀ (i : grid0.Coords) (v492 : BitVec 32) (k0_hw32 : k0_chk32 i v492), ∀ (k0_h1 : k0_cond1 i = 1#1), 8 ∣ (k0_mult63 v492).toNat := fun i v492 k0_hw32 k0_h1 => k0_hw32.1 k0_h1
theorem k0_off96_inb : ∀ (i : grid0.Coords) (v492 : BitVec 32) (k0_hw32 : k0_chk32 i v492), ∀ (k0_h1 : k0_cond1 i = 1#1), ∀ a, (k0_off96 v492) a + S8x128.size a ≤ S524288x128.size a := fun i v492 k0_hw32 k0_h1 => k0_hw32.2 k0_h1

def k0_off97 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_371 : BitVec 32 := 8#32
  let v504 : BitVec 32 := Scalar.muli v503 c8_i32_371
  let c0_i32_372 : BitVec 32 := 0#32
  let v505 : BitVec 32 := Scalar.addi v504 c0_i32_372
  let v506 : Index := Scalar.indexCast v505
  ![v506.toNat]
def k0_mult65 (v507 : BitVec 32) : BitVec 32 :=
  v507

def k0_mult66 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_373 : BitVec 32 := 8#32
  let v509 : BitVec 32 := Scalar.muli v503 c8_i32_373
  v509
def k0_off98 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_373 : BitVec 32 := 8#32
  let v509 : BitVec 32 := Scalar.muli v503 c8_i32_373
  let v510 : BitVec 32 := v509
  let c0_i32_379 : BitVec 32 := 0#32
  ![v510.toNat, 0]
def k0_off99 (v507 : BitVec 32) : Fin 2 → Nat :=
  let v508 : BitVec 32 := v507
  let c0_i32_380 : BitVec 32 := 0#32
  ![v508.toNat, 0]

def k0_chk33 (i : grid0.Coords) (v507 : BitVec 32) : Prop :=
  (∀ (k0_h1 : k0_cond1 i = 1#1), 8 ∣ (k0_mult65 v507).toNat) ∧
  (∀ (k0_h1 : k0_cond1 i = 1#1), ∀ a, (k0_off99 v507) a + S8x128.size a ≤ S524288x128.size a)
theorem k0_mult65_dvd : ∀ (i : grid0.Coords) (v507 : BitVec 32) (k0_hw33 : k0_chk33 i v507), ∀ (k0_h1 : k0_cond1 i = 1#1), 8 ∣ (k0_mult65 v507).toNat := fun i v507 k0_hw33 k0_h1 => k0_hw33.1 k0_h1
theorem k0_off99_inb : ∀ (i : grid0.Coords) (v507 : BitVec 32) (k0_hw33 : k0_chk33 i v507), ∀ (k0_h1 : k0_cond1 i = 1#1), ∀ a, (k0_off99 v507) a + S8x128.size a ≤ S524288x128.size a := fun i v507 k0_hw33 k0_h1 => k0_hw33.2 k0_h1

def k0_off100 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_381 : BitVec 32 := 8#32
  let v517 : BitVec 32 := Scalar.muli v503 c8_i32_381
  let c1_i32_382 : BitVec 32 := 1#32
  let v518 : BitVec 32 := Scalar.addi v517 c1_i32_382
  let v519 : Index := Scalar.indexCast v518
  ![v519.toNat]
def k0_mult67 (v520 : BitVec 32) : BitVec 32 :=
  v520

def k0_mult68 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_383 : BitVec 32 := 8#32
  let v522 : BitVec 32 := Scalar.muli v503 c8_i32_383
  v522
def k0_off101 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_383 : BitVec 32 := 8#32
  let v522 : BitVec 32 := Scalar.muli v503 c8_i32_383
  let v523 : BitVec 32 := v522
  let c0_i32_389 : BitVec 32 := 0#32
  ![v523.toNat, 0]
def k0_off102 (v520 : BitVec 32) : Fin 2 → Nat :=
  let v521 : BitVec 32 := v520
  let c0_i32_390 : BitVec 32 := 0#32
  ![v521.toNat, 0]

def k0_chk34 (i : grid0.Coords) (v520 : BitVec 32) : Prop :=
  (∀ (k0_h1 : k0_cond1 i = 1#1), 8 ∣ (k0_mult67 v520).toNat) ∧
  (∀ (k0_h1 : k0_cond1 i = 1#1), ∀ a, (k0_off102 v520) a + S8x128.size a ≤ S524288x128.size a)
theorem k0_mult67_dvd : ∀ (i : grid0.Coords) (v520 : BitVec 32) (k0_hw34 : k0_chk34 i v520), ∀ (k0_h1 : k0_cond1 i = 1#1), 8 ∣ (k0_mult67 v520).toNat := fun i v520 k0_hw34 k0_h1 => k0_hw34.1 k0_h1
theorem k0_off102_inb : ∀ (i : grid0.Coords) (v520 : BitVec 32) (k0_hw34 : k0_chk34 i v520), ∀ (k0_h1 : k0_cond1 i = 1#1), ∀ a, (k0_off102 v520) a + S8x128.size a ≤ S524288x128.size a := fun i v520 k0_hw34 k0_h1 => k0_hw34.2 k0_h1

def k0_off103 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_391 : BitVec 32 := 8#32
  let v530 : BitVec 32 := Scalar.muli v503 c8_i32_391
  let c2_i32_392 : BitVec 32 := 2#32
  let v531 : BitVec 32 := Scalar.addi v530 c2_i32_392
  let v532 : Index := Scalar.indexCast v531
  ![v532.toNat]
def k0_mult69 (v533 : BitVec 32) : BitVec 32 :=
  v533

def k0_mult70 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_393 : BitVec 32 := 8#32
  let v535 : BitVec 32 := Scalar.muli v503 c8_i32_393
  v535
def k0_off104 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_393 : BitVec 32 := 8#32
  let v535 : BitVec 32 := Scalar.muli v503 c8_i32_393
  let v536 : BitVec 32 := v535
  let c0_i32_399 : BitVec 32 := 0#32
  ![v536.toNat, 0]
def k0_off105 (v533 : BitVec 32) : Fin 2 → Nat :=
  let v534 : BitVec 32 := v533
  let c0_i32_400 : BitVec 32 := 0#32
  ![v534.toNat, 0]

def k0_chk35 (i : grid0.Coords) (v533 : BitVec 32) : Prop :=
  (∀ (k0_h1 : k0_cond1 i = 1#1), 8 ∣ (k0_mult69 v533).toNat) ∧
  (∀ (k0_h1 : k0_cond1 i = 1#1), ∀ a, (k0_off105 v533) a + S8x128.size a ≤ S524288x128.size a)
theorem k0_mult69_dvd : ∀ (i : grid0.Coords) (v533 : BitVec 32) (k0_hw35 : k0_chk35 i v533), ∀ (k0_h1 : k0_cond1 i = 1#1), 8 ∣ (k0_mult69 v533).toNat := fun i v533 k0_hw35 k0_h1 => k0_hw35.1 k0_h1
theorem k0_off105_inb : ∀ (i : grid0.Coords) (v533 : BitVec 32) (k0_hw35 : k0_chk35 i v533), ∀ (k0_h1 : k0_cond1 i = 1#1), ∀ a, (k0_off105 v533) a + S8x128.size a ≤ S524288x128.size a := fun i v533 k0_hw35 k0_h1 => k0_hw35.2 k0_h1

def k0_off106 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_401 : BitVec 32 := 8#32
  let v543 : BitVec 32 := Scalar.muli v503 c8_i32_401
  let c3_i32_402 : BitVec 32 := 3#32
  let v544 : BitVec 32 := Scalar.addi v543 c3_i32_402
  let v545 : Index := Scalar.indexCast v544
  ![v545.toNat]
def k0_mult71 (v546 : BitVec 32) : BitVec 32 :=
  v546

def k0_mult72 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_403 : BitVec 32 := 8#32
  let v548 : BitVec 32 := Scalar.muli v503 c8_i32_403
  v548
def k0_off107 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_403 : BitVec 32 := 8#32
  let v548 : BitVec 32 := Scalar.muli v503 c8_i32_403
  let v549 : BitVec 32 := v548
  let c0_i32_409 : BitVec 32 := 0#32
  ![v549.toNat, 0]
def k0_off108 (v546 : BitVec 32) : Fin 2 → Nat :=
  let v547 : BitVec 32 := v546
  let c0_i32_410 : BitVec 32 := 0#32
  ![v547.toNat, 0]

def k0_chk36 (i : grid0.Coords) (v546 : BitVec 32) : Prop :=
  (∀ (k0_h1 : k0_cond1 i = 1#1), 8 ∣ (k0_mult71 v546).toNat) ∧
  (∀ (k0_h1 : k0_cond1 i = 1#1), ∀ a, (k0_off108 v546) a + S8x128.size a ≤ S524288x128.size a)
theorem k0_mult71_dvd : ∀ (i : grid0.Coords) (v546 : BitVec 32) (k0_hw36 : k0_chk36 i v546), ∀ (k0_h1 : k0_cond1 i = 1#1), 8 ∣ (k0_mult71 v546).toNat := fun i v546 k0_hw36 k0_h1 => k0_hw36.1 k0_h1
theorem k0_off108_inb : ∀ (i : grid0.Coords) (v546 : BitVec 32) (k0_hw36 : k0_chk36 i v546), ∀ (k0_h1 : k0_cond1 i = 1#1), ∀ a, (k0_off108 v546) a + S8x128.size a ≤ S524288x128.size a := fun i v546 k0_hw36 k0_h1 => k0_hw36.2 k0_h1

def k0_off109 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_411 : BitVec 32 := 8#32
  let v556 : BitVec 32 := Scalar.muli v503 c8_i32_411
  let c4_i32_412 : BitVec 32 := 4#32
  let v557 : BitVec 32 := Scalar.addi v556 c4_i32_412
  let v558 : Index := Scalar.indexCast v557
  ![v558.toNat]
def k0_mult73 (v559 : BitVec 32) : BitVec 32 :=
  v559

def k0_mult74 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_413 : BitVec 32 := 8#32
  let v561 : BitVec 32 := Scalar.muli v503 c8_i32_413
  v561
def k0_off110 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_413 : BitVec 32 := 8#32
  let v561 : BitVec 32 := Scalar.muli v503 c8_i32_413
  let v562 : BitVec 32 := v561
  let c0_i32_419 : BitVec 32 := 0#32
  ![v562.toNat, 0]
def k0_off111 (v559 : BitVec 32) : Fin 2 → Nat :=
  let v560 : BitVec 32 := v559
  let c0_i32_420 : BitVec 32 := 0#32
  ![v560.toNat, 0]

def k0_chk37 (i : grid0.Coords) (v559 : BitVec 32) : Prop :=
  (∀ (k0_h1 : k0_cond1 i = 1#1), 8 ∣ (k0_mult73 v559).toNat) ∧
  (∀ (k0_h1 : k0_cond1 i = 1#1), ∀ a, (k0_off111 v559) a + S8x128.size a ≤ S524288x128.size a)
theorem k0_mult73_dvd : ∀ (i : grid0.Coords) (v559 : BitVec 32) (k0_hw37 : k0_chk37 i v559), ∀ (k0_h1 : k0_cond1 i = 1#1), 8 ∣ (k0_mult73 v559).toNat := fun i v559 k0_hw37 k0_h1 => k0_hw37.1 k0_h1
theorem k0_off111_inb : ∀ (i : grid0.Coords) (v559 : BitVec 32) (k0_hw37 : k0_chk37 i v559), ∀ (k0_h1 : k0_cond1 i = 1#1), ∀ a, (k0_off111 v559) a + S8x128.size a ≤ S524288x128.size a := fun i v559 k0_hw37 k0_h1 => k0_hw37.2 k0_h1

def k0_off112 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_421 : BitVec 32 := 8#32
  let v569 : BitVec 32 := Scalar.muli v503 c8_i32_421
  let c5_i32_422 : BitVec 32 := 5#32
  let v570 : BitVec 32 := Scalar.addi v569 c5_i32_422
  let v571 : Index := Scalar.indexCast v570
  ![v571.toNat]
def k0_mult75 (v572 : BitVec 32) : BitVec 32 :=
  v572

def k0_mult76 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_423 : BitVec 32 := 8#32
  let v574 : BitVec 32 := Scalar.muli v503 c8_i32_423
  v574
def k0_off113 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_423 : BitVec 32 := 8#32
  let v574 : BitVec 32 := Scalar.muli v503 c8_i32_423
  let v575 : BitVec 32 := v574
  let c0_i32_429 : BitVec 32 := 0#32
  ![v575.toNat, 0]
def k0_off114 (v572 : BitVec 32) : Fin 2 → Nat :=
  let v573 : BitVec 32 := v572
  let c0_i32_430 : BitVec 32 := 0#32
  ![v573.toNat, 0]

def k0_chk38 (i : grid0.Coords) (v572 : BitVec 32) : Prop :=
  (∀ (k0_h1 : k0_cond1 i = 1#1), 8 ∣ (k0_mult75 v572).toNat) ∧
  (∀ (k0_h1 : k0_cond1 i = 1#1), ∀ a, (k0_off114 v572) a + S8x128.size a ≤ S524288x128.size a)
theorem k0_mult75_dvd : ∀ (i : grid0.Coords) (v572 : BitVec 32) (k0_hw38 : k0_chk38 i v572), ∀ (k0_h1 : k0_cond1 i = 1#1), 8 ∣ (k0_mult75 v572).toNat := fun i v572 k0_hw38 k0_h1 => k0_hw38.1 k0_h1
theorem k0_off114_inb : ∀ (i : grid0.Coords) (v572 : BitVec 32) (k0_hw38 : k0_chk38 i v572), ∀ (k0_h1 : k0_cond1 i = 1#1), ∀ a, (k0_off114 v572) a + S8x128.size a ≤ S524288x128.size a := fun i v572 k0_hw38 k0_h1 => k0_hw38.2 k0_h1

def k0_off115 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_431 : BitVec 32 := 8#32
  let v582 : BitVec 32 := Scalar.muli v503 c8_i32_431
  let c6_i32_432 : BitVec 32 := 6#32
  let v583 : BitVec 32 := Scalar.addi v582 c6_i32_432
  let v584 : Index := Scalar.indexCast v583
  ![v584.toNat]
def k0_mult77 (v585 : BitVec 32) : BitVec 32 :=
  v585

def k0_mult78 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_433 : BitVec 32 := 8#32
  let v587 : BitVec 32 := Scalar.muli v503 c8_i32_433
  v587
def k0_off116 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_433 : BitVec 32 := 8#32
  let v587 : BitVec 32 := Scalar.muli v503 c8_i32_433
  let v588 : BitVec 32 := v587
  let c0_i32_439 : BitVec 32 := 0#32
  ![v588.toNat, 0]
def k0_off117 (v585 : BitVec 32) : Fin 2 → Nat :=
  let v586 : BitVec 32 := v585
  let c0_i32_440 : BitVec 32 := 0#32
  ![v586.toNat, 0]

def k0_chk39 (i : grid0.Coords) (v585 : BitVec 32) : Prop :=
  (∀ (k0_h1 : k0_cond1 i = 1#1), 8 ∣ (k0_mult77 v585).toNat) ∧
  (∀ (k0_h1 : k0_cond1 i = 1#1), ∀ a, (k0_off117 v585) a + S8x128.size a ≤ S524288x128.size a)
theorem k0_mult77_dvd : ∀ (i : grid0.Coords) (v585 : BitVec 32) (k0_hw39 : k0_chk39 i v585), ∀ (k0_h1 : k0_cond1 i = 1#1), 8 ∣ (k0_mult77 v585).toNat := fun i v585 k0_hw39 k0_h1 => k0_hw39.1 k0_h1
theorem k0_off117_inb : ∀ (i : grid0.Coords) (v585 : BitVec 32) (k0_hw39 : k0_chk39 i v585), ∀ (k0_h1 : k0_cond1 i = 1#1), ∀ a, (k0_off117 v585) a + S8x128.size a ≤ S524288x128.size a := fun i v585 k0_hw39 k0_h1 => k0_hw39.2 k0_h1

def k0_off118 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_441 : BitVec 32 := 8#32
  let v595 : BitVec 32 := Scalar.muli v503 c8_i32_441
  let c7_i32_442 : BitVec 32 := 7#32
  let v596 : BitVec 32 := Scalar.addi v595 c7_i32_442
  let v597 : Index := Scalar.indexCast v596
  ![v597.toNat]
def k0_mult79 (v598 : BitVec 32) : BitVec 32 :=
  v598

def k0_mult80 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_443 : BitVec 32 := 8#32
  let v600 : BitVec 32 := Scalar.muli v503 c8_i32_443
  v600
def k0_off119 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_369 : BitVec 32 := 8#32
  let v502 : BitVec 32 := Scalar.muli arg16 c8_i32_369
  let c4_i32_370 : BitVec 32 := 4#32
  let v503 : BitVec 32 := Scalar.addi v502 c4_i32_370
  let c8_i32_443 : BitVec 32 := 8#32
  let v600 : BitVec 32 := Scalar.muli v503 c8_i32_443
  let v601 : BitVec 32 := v600
  let c0_i32_449 : BitVec 32 := 0#32
  ![v601.toNat, 0]
def k0_off120 (v598 : BitVec 32) : Fin 2 → Nat :=
  let v599 : BitVec 32 := v598
  let c0_i32_450 : BitVec 32 := 0#32
  ![v599.toNat, 0]

def k0_chk40 (i : grid0.Coords) (v598 : BitVec 32) : Prop :=
  (∀ (k0_h1 : k0_cond1 i = 1#1), 8 ∣ (k0_mult79 v598).toNat) ∧
  (∀ (k0_h1 : k0_cond1 i = 1#1), ∀ a, (k0_off120 v598) a + S8x128.size a ≤ S524288x128.size a)
theorem k0_mult79_dvd : ∀ (i : grid0.Coords) (v598 : BitVec 32) (k0_hw40 : k0_chk40 i v598), ∀ (k0_h1 : k0_cond1 i = 1#1), 8 ∣ (k0_mult79 v598).toNat := fun i v598 k0_hw40 k0_h1 => k0_hw40.1 k0_h1
theorem k0_off120_inb : ∀ (i : grid0.Coords) (v598 : BitVec 32) (k0_hw40 : k0_chk40 i v598), ∀ (k0_h1 : k0_cond1 i = 1#1), ∀ a, (k0_off120 v598) a + S8x128.size a ≤ S524288x128.size a := fun i v598 k0_hw40 k0_h1 => k0_hw40.2 k0_h1

def k0_off121 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_453 : BitVec 32 := 8#32
  let v610 : BitVec 32 := Scalar.muli v609 c8_i32_453
  let c0_i32_454 : BitVec 32 := 0#32
  let v611 : BitVec 32 := Scalar.addi v610 c0_i32_454
  let v612 : Index := Scalar.indexCast v611
  ![v612.toNat]
def k0_mult81 (v613 : BitVec 32) : BitVec 32 :=
  v613

def k0_mult82 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_455 : BitVec 32 := 8#32
  let v615 : BitVec 32 := Scalar.muli v609 c8_i32_455
  v615
def k0_off122 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_455 : BitVec 32 := 8#32
  let v615 : BitVec 32 := Scalar.muli v609 c8_i32_455
  let v616 : BitVec 32 := v615
  let c0_i32_461 : BitVec 32 := 0#32
  ![v616.toNat, 0]
def k0_off123 (v613 : BitVec 32) : Fin 2 → Nat :=
  let v614 : BitVec 32 := v613
  let c0_i32_462 : BitVec 32 := 0#32
  ![v614.toNat, 0]

def k0_chk41 (i : grid0.Coords) (v613 : BitVec 32) : Prop :=
  (∀ (k0_h1 : k0_cond1 i = 1#1), 8 ∣ (k0_mult81 v613).toNat) ∧
  (∀ (k0_h1 : k0_cond1 i = 1#1), ∀ a, (k0_off123 v613) a + S8x128.size a ≤ S524288x128.size a)
theorem k0_mult81_dvd : ∀ (i : grid0.Coords) (v613 : BitVec 32) (k0_hw41 : k0_chk41 i v613), ∀ (k0_h1 : k0_cond1 i = 1#1), 8 ∣ (k0_mult81 v613).toNat := fun i v613 k0_hw41 k0_h1 => k0_hw41.1 k0_h1
theorem k0_off123_inb : ∀ (i : grid0.Coords) (v613 : BitVec 32) (k0_hw41 : k0_chk41 i v613), ∀ (k0_h1 : k0_cond1 i = 1#1), ∀ a, (k0_off123 v613) a + S8x128.size a ≤ S524288x128.size a := fun i v613 k0_hw41 k0_h1 => k0_hw41.2 k0_h1

def k0_off124 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_463 : BitVec 32 := 8#32
  let v623 : BitVec 32 := Scalar.muli v609 c8_i32_463
  let c1_i32_464 : BitVec 32 := 1#32
  let v624 : BitVec 32 := Scalar.addi v623 c1_i32_464
  let v625 : Index := Scalar.indexCast v624
  ![v625.toNat]
def k0_mult83 (v626 : BitVec 32) : BitVec 32 :=
  v626

def k0_mult84 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_465 : BitVec 32 := 8#32
  let v628 : BitVec 32 := Scalar.muli v609 c8_i32_465
  v628
def k0_off125 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_465 : BitVec 32 := 8#32
  let v628 : BitVec 32 := Scalar.muli v609 c8_i32_465
  let v629 : BitVec 32 := v628
  let c0_i32_471 : BitVec 32 := 0#32
  ![v629.toNat, 0]
def k0_off126 (v626 : BitVec 32) : Fin 2 → Nat :=
  let v627 : BitVec 32 := v626
  let c0_i32_472 : BitVec 32 := 0#32
  ![v627.toNat, 0]

def k0_chk42 (i : grid0.Coords) (v626 : BitVec 32) : Prop :=
  (∀ (k0_h1 : k0_cond1 i = 1#1), 8 ∣ (k0_mult83 v626).toNat) ∧
  (∀ (k0_h1 : k0_cond1 i = 1#1), ∀ a, (k0_off126 v626) a + S8x128.size a ≤ S524288x128.size a)
theorem k0_mult83_dvd : ∀ (i : grid0.Coords) (v626 : BitVec 32) (k0_hw42 : k0_chk42 i v626), ∀ (k0_h1 : k0_cond1 i = 1#1), 8 ∣ (k0_mult83 v626).toNat := fun i v626 k0_hw42 k0_h1 => k0_hw42.1 k0_h1
theorem k0_off126_inb : ∀ (i : grid0.Coords) (v626 : BitVec 32) (k0_hw42 : k0_chk42 i v626), ∀ (k0_h1 : k0_cond1 i = 1#1), ∀ a, (k0_off126 v626) a + S8x128.size a ≤ S524288x128.size a := fun i v626 k0_hw42 k0_h1 => k0_hw42.2 k0_h1

def k0_off127 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_473 : BitVec 32 := 8#32
  let v636 : BitVec 32 := Scalar.muli v609 c8_i32_473
  let c2_i32_474 : BitVec 32 := 2#32
  let v637 : BitVec 32 := Scalar.addi v636 c2_i32_474
  let v638 : Index := Scalar.indexCast v637
  ![v638.toNat]
def k0_mult85 (v639 : BitVec 32) : BitVec 32 :=
  v639

def k0_mult86 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_475 : BitVec 32 := 8#32
  let v641 : BitVec 32 := Scalar.muli v609 c8_i32_475
  v641
def k0_off128 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_475 : BitVec 32 := 8#32
  let v641 : BitVec 32 := Scalar.muli v609 c8_i32_475
  let v642 : BitVec 32 := v641
  let c0_i32_481 : BitVec 32 := 0#32
  ![v642.toNat, 0]
def k0_off129 (v639 : BitVec 32) : Fin 2 → Nat :=
  let v640 : BitVec 32 := v639
  let c0_i32_482 : BitVec 32 := 0#32
  ![v640.toNat, 0]

def k0_chk43 (i : grid0.Coords) (v639 : BitVec 32) : Prop :=
  (∀ (k0_h1 : k0_cond1 i = 1#1), 8 ∣ (k0_mult85 v639).toNat) ∧
  (∀ (k0_h1 : k0_cond1 i = 1#1), ∀ a, (k0_off129 v639) a + S8x128.size a ≤ S524288x128.size a)
theorem k0_mult85_dvd : ∀ (i : grid0.Coords) (v639 : BitVec 32) (k0_hw43 : k0_chk43 i v639), ∀ (k0_h1 : k0_cond1 i = 1#1), 8 ∣ (k0_mult85 v639).toNat := fun i v639 k0_hw43 k0_h1 => k0_hw43.1 k0_h1
theorem k0_off129_inb : ∀ (i : grid0.Coords) (v639 : BitVec 32) (k0_hw43 : k0_chk43 i v639), ∀ (k0_h1 : k0_cond1 i = 1#1), ∀ a, (k0_off129 v639) a + S8x128.size a ≤ S524288x128.size a := fun i v639 k0_hw43 k0_h1 => k0_hw43.2 k0_h1

def k0_off130 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_483 : BitVec 32 := 8#32
  let v649 : BitVec 32 := Scalar.muli v609 c8_i32_483
  let c3_i32_484 : BitVec 32 := 3#32
  let v650 : BitVec 32 := Scalar.addi v649 c3_i32_484
  let v651 : Index := Scalar.indexCast v650
  ![v651.toNat]
def k0_mult87 (v652 : BitVec 32) : BitVec 32 :=
  v652

def k0_mult88 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_485 : BitVec 32 := 8#32
  let v654 : BitVec 32 := Scalar.muli v609 c8_i32_485
  v654
def k0_off131 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_485 : BitVec 32 := 8#32
  let v654 : BitVec 32 := Scalar.muli v609 c8_i32_485
  let v655 : BitVec 32 := v654
  let c0_i32_491 : BitVec 32 := 0#32
  ![v655.toNat, 0]
def k0_off132 (v652 : BitVec 32) : Fin 2 → Nat :=
  let v653 : BitVec 32 := v652
  let c0_i32_492 : BitVec 32 := 0#32
  ![v653.toNat, 0]

def k0_chk44 (i : grid0.Coords) (v652 : BitVec 32) : Prop :=
  (∀ (k0_h1 : k0_cond1 i = 1#1), 8 ∣ (k0_mult87 v652).toNat) ∧
  (∀ (k0_h1 : k0_cond1 i = 1#1), ∀ a, (k0_off132 v652) a + S8x128.size a ≤ S524288x128.size a)
theorem k0_mult87_dvd : ∀ (i : grid0.Coords) (v652 : BitVec 32) (k0_hw44 : k0_chk44 i v652), ∀ (k0_h1 : k0_cond1 i = 1#1), 8 ∣ (k0_mult87 v652).toNat := fun i v652 k0_hw44 k0_h1 => k0_hw44.1 k0_h1
theorem k0_off132_inb : ∀ (i : grid0.Coords) (v652 : BitVec 32) (k0_hw44 : k0_chk44 i v652), ∀ (k0_h1 : k0_cond1 i = 1#1), ∀ a, (k0_off132 v652) a + S8x128.size a ≤ S524288x128.size a := fun i v652 k0_hw44 k0_h1 => k0_hw44.2 k0_h1

def k0_off133 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_493 : BitVec 32 := 8#32
  let v662 : BitVec 32 := Scalar.muli v609 c8_i32_493
  let c4_i32_494 : BitVec 32 := 4#32
  let v663 : BitVec 32 := Scalar.addi v662 c4_i32_494
  let v664 : Index := Scalar.indexCast v663
  ![v664.toNat]
def k0_mult89 (v665 : BitVec 32) : BitVec 32 :=
  v665

def k0_mult90 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_495 : BitVec 32 := 8#32
  let v667 : BitVec 32 := Scalar.muli v609 c8_i32_495
  v667
def k0_off134 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_495 : BitVec 32 := 8#32
  let v667 : BitVec 32 := Scalar.muli v609 c8_i32_495
  let v668 : BitVec 32 := v667
  let c0_i32_501 : BitVec 32 := 0#32
  ![v668.toNat, 0]
def k0_off135 (v665 : BitVec 32) : Fin 2 → Nat :=
  let v666 : BitVec 32 := v665
  let c0_i32_502 : BitVec 32 := 0#32
  ![v666.toNat, 0]

def k0_chk45 (i : grid0.Coords) (v665 : BitVec 32) : Prop :=
  (∀ (k0_h1 : k0_cond1 i = 1#1), 8 ∣ (k0_mult89 v665).toNat) ∧
  (∀ (k0_h1 : k0_cond1 i = 1#1), ∀ a, (k0_off135 v665) a + S8x128.size a ≤ S524288x128.size a)
theorem k0_mult89_dvd : ∀ (i : grid0.Coords) (v665 : BitVec 32) (k0_hw45 : k0_chk45 i v665), ∀ (k0_h1 : k0_cond1 i = 1#1), 8 ∣ (k0_mult89 v665).toNat := fun i v665 k0_hw45 k0_h1 => k0_hw45.1 k0_h1
theorem k0_off135_inb : ∀ (i : grid0.Coords) (v665 : BitVec 32) (k0_hw45 : k0_chk45 i v665), ∀ (k0_h1 : k0_cond1 i = 1#1), ∀ a, (k0_off135 v665) a + S8x128.size a ≤ S524288x128.size a := fun i v665 k0_hw45 k0_h1 => k0_hw45.2 k0_h1

def k0_off136 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_503 : BitVec 32 := 8#32
  let v675 : BitVec 32 := Scalar.muli v609 c8_i32_503
  let c5_i32_504 : BitVec 32 := 5#32
  let v676 : BitVec 32 := Scalar.addi v675 c5_i32_504
  let v677 : Index := Scalar.indexCast v676
  ![v677.toNat]
def k0_mult91 (v678 : BitVec 32) : BitVec 32 :=
  v678

def k0_mult92 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_505 : BitVec 32 := 8#32
  let v680 : BitVec 32 := Scalar.muli v609 c8_i32_505
  v680
def k0_off137 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_505 : BitVec 32 := 8#32
  let v680 : BitVec 32 := Scalar.muli v609 c8_i32_505
  let v681 : BitVec 32 := v680
  let c0_i32_511 : BitVec 32 := 0#32
  ![v681.toNat, 0]
def k0_off138 (v678 : BitVec 32) : Fin 2 → Nat :=
  let v679 : BitVec 32 := v678
  let c0_i32_512 : BitVec 32 := 0#32
  ![v679.toNat, 0]

def k0_chk46 (i : grid0.Coords) (v678 : BitVec 32) : Prop :=
  (∀ (k0_h1 : k0_cond1 i = 1#1), 8 ∣ (k0_mult91 v678).toNat) ∧
  (∀ (k0_h1 : k0_cond1 i = 1#1), ∀ a, (k0_off138 v678) a + S8x128.size a ≤ S524288x128.size a)
theorem k0_mult91_dvd : ∀ (i : grid0.Coords) (v678 : BitVec 32) (k0_hw46 : k0_chk46 i v678), ∀ (k0_h1 : k0_cond1 i = 1#1), 8 ∣ (k0_mult91 v678).toNat := fun i v678 k0_hw46 k0_h1 => k0_hw46.1 k0_h1
theorem k0_off138_inb : ∀ (i : grid0.Coords) (v678 : BitVec 32) (k0_hw46 : k0_chk46 i v678), ∀ (k0_h1 : k0_cond1 i = 1#1), ∀ a, (k0_off138 v678) a + S8x128.size a ≤ S524288x128.size a := fun i v678 k0_hw46 k0_h1 => k0_hw46.2 k0_h1

def k0_off139 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_513 : BitVec 32 := 8#32
  let v688 : BitVec 32 := Scalar.muli v609 c8_i32_513
  let c6_i32_514 : BitVec 32 := 6#32
  let v689 : BitVec 32 := Scalar.addi v688 c6_i32_514
  let v690 : Index := Scalar.indexCast v689
  ![v690.toNat]
def k0_mult93 (v691 : BitVec 32) : BitVec 32 :=
  v691

def k0_mult94 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_515 : BitVec 32 := 8#32
  let v693 : BitVec 32 := Scalar.muli v609 c8_i32_515
  v693
def k0_off140 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_515 : BitVec 32 := 8#32
  let v693 : BitVec 32 := Scalar.muli v609 c8_i32_515
  let v694 : BitVec 32 := v693
  let c0_i32_521 : BitVec 32 := 0#32
  ![v694.toNat, 0]
def k0_off141 (v691 : BitVec 32) : Fin 2 → Nat :=
  let v692 : BitVec 32 := v691
  let c0_i32_522 : BitVec 32 := 0#32
  ![v692.toNat, 0]

def k0_chk47 (i : grid0.Coords) (v691 : BitVec 32) : Prop :=
  (∀ (k0_h1 : k0_cond1 i = 1#1), 8 ∣ (k0_mult93 v691).toNat) ∧
  (∀ (k0_h1 : k0_cond1 i = 1#1), ∀ a, (k0_off141 v691) a + S8x128.size a ≤ S524288x128.size a)
theorem k0_mult93_dvd : ∀ (i : grid0.Coords) (v691 : BitVec 32) (k0_hw47 : k0_chk47 i v691), ∀ (k0_h1 : k0_cond1 i = 1#1), 8 ∣ (k0_mult93 v691).toNat := fun i v691 k0_hw47 k0_h1 => k0_hw47.1 k0_h1
theorem k0_off141_inb : ∀ (i : grid0.Coords) (v691 : BitVec 32) (k0_hw47 : k0_chk47 i v691), ∀ (k0_h1 : k0_cond1 i = 1#1), ∀ a, (k0_off141 v691) a + S8x128.size a ≤ S524288x128.size a := fun i v691 k0_hw47 k0_h1 => k0_hw47.2 k0_h1

def k0_off142 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_523 : BitVec 32 := 8#32
  let v701 : BitVec 32 := Scalar.muli v609 c8_i32_523
  let c7_i32_524 : BitVec 32 := 7#32
  let v702 : BitVec 32 := Scalar.addi v701 c7_i32_524
  let v703 : Index := Scalar.indexCast v702
  ![v703.toNat]
def k0_mult95 (v704 : BitVec 32) : BitVec 32 :=
  v704

def k0_mult96 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_525 : BitVec 32 := 8#32
  let v706 : BitVec 32 := Scalar.muli v609 c8_i32_525
  v706
def k0_off143 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_451 : BitVec 32 := 8#32
  let v608 : BitVec 32 := Scalar.muli arg16 c8_i32_451
  let c5_i32_452 : BitVec 32 := 5#32
  let v609 : BitVec 32 := Scalar.addi v608 c5_i32_452
  let c8_i32_525 : BitVec 32 := 8#32
  let v706 : BitVec 32 := Scalar.muli v609 c8_i32_525
  let v707 : BitVec 32 := v706
  let c0_i32_531 : BitVec 32 := 0#32
  ![v707.toNat, 0]
def k0_off144 (v704 : BitVec 32) : Fin 2 → Nat :=
  let v705 : BitVec 32 := v704
  let c0_i32_532 : BitVec 32 := 0#32
  ![v705.toNat, 0]

def k0_chk48 (i : grid0.Coords) (v704 : BitVec 32) : Prop :=
  (∀ (k0_h1 : k0_cond1 i = 1#1), 8 ∣ (k0_mult95 v704).toNat) ∧
  (∀ (k0_h1 : k0_cond1 i = 1#1), ∀ a, (k0_off144 v704) a + S8x128.size a ≤ S524288x128.size a)
theorem k0_mult95_dvd : ∀ (i : grid0.Coords) (v704 : BitVec 32) (k0_hw48 : k0_chk48 i v704), ∀ (k0_h1 : k0_cond1 i = 1#1), 8 ∣ (k0_mult95 v704).toNat := fun i v704 k0_hw48 k0_h1 => k0_hw48.1 k0_h1
theorem k0_off144_inb : ∀ (i : grid0.Coords) (v704 : BitVec 32) (k0_hw48 : k0_chk48 i v704), ∀ (k0_h1 : k0_cond1 i = 1#1), ∀ a, (k0_off144 v704) a + S8x128.size a ≤ S524288x128.size a := fun i v704 k0_hw48 k0_h1 => k0_hw48.2 k0_h1

def k0_off145 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_535 : BitVec 32 := 8#32
  let v716 : BitVec 32 := Scalar.muli v715 c8_i32_535
  let c0_i32_536 : BitVec 32 := 0#32
  let v717 : BitVec 32 := Scalar.addi v716 c0_i32_536
  let v718 : Index := Scalar.indexCast v717
  ![v718.toNat]
def k0_mult97 (v719 : BitVec 32) : BitVec 32 :=
  v719

def k0_mult98 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_537 : BitVec 32 := 8#32
  let v721 : BitVec 32 := Scalar.muli v715 c8_i32_537
  v721
def k0_off146 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_537 : BitVec 32 := 8#32
  let v721 : BitVec 32 := Scalar.muli v715 c8_i32_537
  let v722 : BitVec 32 := v721
  let c0_i32_543 : BitVec 32 := 0#32
  ![v722.toNat, 0]
def k0_off147 (v719 : BitVec 32) : Fin 2 → Nat :=
  let v720 : BitVec 32 := v719
  let c0_i32_544 : BitVec 32 := 0#32
  ![v720.toNat, 0]

def k0_chk49 (i : grid0.Coords) (v719 : BitVec 32) : Prop :=
  (∀ (k0_h1 : k0_cond1 i = 1#1), 8 ∣ (k0_mult97 v719).toNat) ∧
  (∀ (k0_h1 : k0_cond1 i = 1#1), ∀ a, (k0_off147 v719) a + S8x128.size a ≤ S524288x128.size a)
theorem k0_mult97_dvd : ∀ (i : grid0.Coords) (v719 : BitVec 32) (k0_hw49 : k0_chk49 i v719), ∀ (k0_h1 : k0_cond1 i = 1#1), 8 ∣ (k0_mult97 v719).toNat := fun i v719 k0_hw49 k0_h1 => k0_hw49.1 k0_h1
theorem k0_off147_inb : ∀ (i : grid0.Coords) (v719 : BitVec 32) (k0_hw49 : k0_chk49 i v719), ∀ (k0_h1 : k0_cond1 i = 1#1), ∀ a, (k0_off147 v719) a + S8x128.size a ≤ S524288x128.size a := fun i v719 k0_hw49 k0_h1 => k0_hw49.2 k0_h1

def k0_off148 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_545 : BitVec 32 := 8#32
  let v729 : BitVec 32 := Scalar.muli v715 c8_i32_545
  let c1_i32_546 : BitVec 32 := 1#32
  let v730 : BitVec 32 := Scalar.addi v729 c1_i32_546
  let v731 : Index := Scalar.indexCast v730
  ![v731.toNat]
def k0_mult99 (v732 : BitVec 32) : BitVec 32 :=
  v732

def k0_mult100 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_547 : BitVec 32 := 8#32
  let v734 : BitVec 32 := Scalar.muli v715 c8_i32_547
  v734
def k0_off149 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_547 : BitVec 32 := 8#32
  let v734 : BitVec 32 := Scalar.muli v715 c8_i32_547
  let v735 : BitVec 32 := v734
  let c0_i32_553 : BitVec 32 := 0#32
  ![v735.toNat, 0]
def k0_off150 (v732 : BitVec 32) : Fin 2 → Nat :=
  let v733 : BitVec 32 := v732
  let c0_i32_554 : BitVec 32 := 0#32
  ![v733.toNat, 0]

def k0_chk50 (i : grid0.Coords) (v732 : BitVec 32) : Prop :=
  (∀ (k0_h1 : k0_cond1 i = 1#1), 8 ∣ (k0_mult99 v732).toNat) ∧
  (∀ (k0_h1 : k0_cond1 i = 1#1), ∀ a, (k0_off150 v732) a + S8x128.size a ≤ S524288x128.size a)
theorem k0_mult99_dvd : ∀ (i : grid0.Coords) (v732 : BitVec 32) (k0_hw50 : k0_chk50 i v732), ∀ (k0_h1 : k0_cond1 i = 1#1), 8 ∣ (k0_mult99 v732).toNat := fun i v732 k0_hw50 k0_h1 => k0_hw50.1 k0_h1
theorem k0_off150_inb : ∀ (i : grid0.Coords) (v732 : BitVec 32) (k0_hw50 : k0_chk50 i v732), ∀ (k0_h1 : k0_cond1 i = 1#1), ∀ a, (k0_off150 v732) a + S8x128.size a ≤ S524288x128.size a := fun i v732 k0_hw50 k0_h1 => k0_hw50.2 k0_h1

def k0_off151 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_555 : BitVec 32 := 8#32
  let v742 : BitVec 32 := Scalar.muli v715 c8_i32_555
  let c2_i32_556 : BitVec 32 := 2#32
  let v743 : BitVec 32 := Scalar.addi v742 c2_i32_556
  let v744 : Index := Scalar.indexCast v743
  ![v744.toNat]
def k0_mult101 (v745 : BitVec 32) : BitVec 32 :=
  v745

def k0_mult102 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_557 : BitVec 32 := 8#32
  let v747 : BitVec 32 := Scalar.muli v715 c8_i32_557
  v747
def k0_off152 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_557 : BitVec 32 := 8#32
  let v747 : BitVec 32 := Scalar.muli v715 c8_i32_557
  let v748 : BitVec 32 := v747
  let c0_i32_563 : BitVec 32 := 0#32
  ![v748.toNat, 0]
def k0_off153 (v745 : BitVec 32) : Fin 2 → Nat :=
  let v746 : BitVec 32 := v745
  let c0_i32_564 : BitVec 32 := 0#32
  ![v746.toNat, 0]

def k0_chk51 (i : grid0.Coords) (v745 : BitVec 32) : Prop :=
  (∀ (k0_h1 : k0_cond1 i = 1#1), 8 ∣ (k0_mult101 v745).toNat) ∧
  (∀ (k0_h1 : k0_cond1 i = 1#1), ∀ a, (k0_off153 v745) a + S8x128.size a ≤ S524288x128.size a)
theorem k0_mult101_dvd : ∀ (i : grid0.Coords) (v745 : BitVec 32) (k0_hw51 : k0_chk51 i v745), ∀ (k0_h1 : k0_cond1 i = 1#1), 8 ∣ (k0_mult101 v745).toNat := fun i v745 k0_hw51 k0_h1 => k0_hw51.1 k0_h1
theorem k0_off153_inb : ∀ (i : grid0.Coords) (v745 : BitVec 32) (k0_hw51 : k0_chk51 i v745), ∀ (k0_h1 : k0_cond1 i = 1#1), ∀ a, (k0_off153 v745) a + S8x128.size a ≤ S524288x128.size a := fun i v745 k0_hw51 k0_h1 => k0_hw51.2 k0_h1

def k0_off154 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_565 : BitVec 32 := 8#32
  let v755 : BitVec 32 := Scalar.muli v715 c8_i32_565
  let c3_i32_566 : BitVec 32 := 3#32
  let v756 : BitVec 32 := Scalar.addi v755 c3_i32_566
  let v757 : Index := Scalar.indexCast v756
  ![v757.toNat]
def k0_mult103 (v758 : BitVec 32) : BitVec 32 :=
  v758

def k0_mult104 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_567 : BitVec 32 := 8#32
  let v760 : BitVec 32 := Scalar.muli v715 c8_i32_567
  v760
def k0_off155 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_567 : BitVec 32 := 8#32
  let v760 : BitVec 32 := Scalar.muli v715 c8_i32_567
  let v761 : BitVec 32 := v760
  let c0_i32_573 : BitVec 32 := 0#32
  ![v761.toNat, 0]
def k0_off156 (v758 : BitVec 32) : Fin 2 → Nat :=
  let v759 : BitVec 32 := v758
  let c0_i32_574 : BitVec 32 := 0#32
  ![v759.toNat, 0]

def k0_chk52 (i : grid0.Coords) (v758 : BitVec 32) : Prop :=
  (∀ (k0_h1 : k0_cond1 i = 1#1), 8 ∣ (k0_mult103 v758).toNat) ∧
  (∀ (k0_h1 : k0_cond1 i = 1#1), ∀ a, (k0_off156 v758) a + S8x128.size a ≤ S524288x128.size a)
theorem k0_mult103_dvd : ∀ (i : grid0.Coords) (v758 : BitVec 32) (k0_hw52 : k0_chk52 i v758), ∀ (k0_h1 : k0_cond1 i = 1#1), 8 ∣ (k0_mult103 v758).toNat := fun i v758 k0_hw52 k0_h1 => k0_hw52.1 k0_h1
theorem k0_off156_inb : ∀ (i : grid0.Coords) (v758 : BitVec 32) (k0_hw52 : k0_chk52 i v758), ∀ (k0_h1 : k0_cond1 i = 1#1), ∀ a, (k0_off156 v758) a + S8x128.size a ≤ S524288x128.size a := fun i v758 k0_hw52 k0_h1 => k0_hw52.2 k0_h1

def k0_off157 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_575 : BitVec 32 := 8#32
  let v768 : BitVec 32 := Scalar.muli v715 c8_i32_575
  let c4_i32_576 : BitVec 32 := 4#32
  let v769 : BitVec 32 := Scalar.addi v768 c4_i32_576
  let v770 : Index := Scalar.indexCast v769
  ![v770.toNat]
def k0_mult105 (v771 : BitVec 32) : BitVec 32 :=
  v771

def k0_mult106 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_577 : BitVec 32 := 8#32
  let v773 : BitVec 32 := Scalar.muli v715 c8_i32_577
  v773
def k0_off158 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_577 : BitVec 32 := 8#32
  let v773 : BitVec 32 := Scalar.muli v715 c8_i32_577
  let v774 : BitVec 32 := v773
  let c0_i32_583 : BitVec 32 := 0#32
  ![v774.toNat, 0]
def k0_off159 (v771 : BitVec 32) : Fin 2 → Nat :=
  let v772 : BitVec 32 := v771
  let c0_i32_584 : BitVec 32 := 0#32
  ![v772.toNat, 0]

def k0_chk53 (i : grid0.Coords) (v771 : BitVec 32) : Prop :=
  (∀ (k0_h1 : k0_cond1 i = 1#1), 8 ∣ (k0_mult105 v771).toNat) ∧
  (∀ (k0_h1 : k0_cond1 i = 1#1), ∀ a, (k0_off159 v771) a + S8x128.size a ≤ S524288x128.size a)
theorem k0_mult105_dvd : ∀ (i : grid0.Coords) (v771 : BitVec 32) (k0_hw53 : k0_chk53 i v771), ∀ (k0_h1 : k0_cond1 i = 1#1), 8 ∣ (k0_mult105 v771).toNat := fun i v771 k0_hw53 k0_h1 => k0_hw53.1 k0_h1
theorem k0_off159_inb : ∀ (i : grid0.Coords) (v771 : BitVec 32) (k0_hw53 : k0_chk53 i v771), ∀ (k0_h1 : k0_cond1 i = 1#1), ∀ a, (k0_off159 v771) a + S8x128.size a ≤ S524288x128.size a := fun i v771 k0_hw53 k0_h1 => k0_hw53.2 k0_h1

def k0_off160 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_585 : BitVec 32 := 8#32
  let v781 : BitVec 32 := Scalar.muli v715 c8_i32_585
  let c5_i32_586 : BitVec 32 := 5#32
  let v782 : BitVec 32 := Scalar.addi v781 c5_i32_586
  let v783 : Index := Scalar.indexCast v782
  ![v783.toNat]
def k0_mult107 (v784 : BitVec 32) : BitVec 32 :=
  v784

def k0_mult108 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_587 : BitVec 32 := 8#32
  let v786 : BitVec 32 := Scalar.muli v715 c8_i32_587
  v786
def k0_off161 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_587 : BitVec 32 := 8#32
  let v786 : BitVec 32 := Scalar.muli v715 c8_i32_587
  let v787 : BitVec 32 := v786
  let c0_i32_593 : BitVec 32 := 0#32
  ![v787.toNat, 0]
def k0_off162 (v784 : BitVec 32) : Fin 2 → Nat :=
  let v785 : BitVec 32 := v784
  let c0_i32_594 : BitVec 32 := 0#32
  ![v785.toNat, 0]

def k0_chk54 (i : grid0.Coords) (v784 : BitVec 32) : Prop :=
  (∀ (k0_h1 : k0_cond1 i = 1#1), 8 ∣ (k0_mult107 v784).toNat) ∧
  (∀ (k0_h1 : k0_cond1 i = 1#1), ∀ a, (k0_off162 v784) a + S8x128.size a ≤ S524288x128.size a)
theorem k0_mult107_dvd : ∀ (i : grid0.Coords) (v784 : BitVec 32) (k0_hw54 : k0_chk54 i v784), ∀ (k0_h1 : k0_cond1 i = 1#1), 8 ∣ (k0_mult107 v784).toNat := fun i v784 k0_hw54 k0_h1 => k0_hw54.1 k0_h1
theorem k0_off162_inb : ∀ (i : grid0.Coords) (v784 : BitVec 32) (k0_hw54 : k0_chk54 i v784), ∀ (k0_h1 : k0_cond1 i = 1#1), ∀ a, (k0_off162 v784) a + S8x128.size a ≤ S524288x128.size a := fun i v784 k0_hw54 k0_h1 => k0_hw54.2 k0_h1

def k0_off163 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_595 : BitVec 32 := 8#32
  let v794 : BitVec 32 := Scalar.muli v715 c8_i32_595
  let c6_i32_596 : BitVec 32 := 6#32
  let v795 : BitVec 32 := Scalar.addi v794 c6_i32_596
  let v796 : Index := Scalar.indexCast v795
  ![v796.toNat]
def k0_mult109 (v797 : BitVec 32) : BitVec 32 :=
  v797

def k0_mult110 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_597 : BitVec 32 := 8#32
  let v799 : BitVec 32 := Scalar.muli v715 c8_i32_597
  v799
def k0_off164 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_597 : BitVec 32 := 8#32
  let v799 : BitVec 32 := Scalar.muli v715 c8_i32_597
  let v800 : BitVec 32 := v799
  let c0_i32_603 : BitVec 32 := 0#32
  ![v800.toNat, 0]
def k0_off165 (v797 : BitVec 32) : Fin 2 → Nat :=
  let v798 : BitVec 32 := v797
  let c0_i32_604 : BitVec 32 := 0#32
  ![v798.toNat, 0]

def k0_chk55 (i : grid0.Coords) (v797 : BitVec 32) : Prop :=
  (∀ (k0_h1 : k0_cond1 i = 1#1), 8 ∣ (k0_mult109 v797).toNat) ∧
  (∀ (k0_h1 : k0_cond1 i = 1#1), ∀ a, (k0_off165 v797) a + S8x128.size a ≤ S524288x128.size a)
theorem k0_mult109_dvd : ∀ (i : grid0.Coords) (v797 : BitVec 32) (k0_hw55 : k0_chk55 i v797), ∀ (k0_h1 : k0_cond1 i = 1#1), 8 ∣ (k0_mult109 v797).toNat := fun i v797 k0_hw55 k0_h1 => k0_hw55.1 k0_h1
theorem k0_off165_inb : ∀ (i : grid0.Coords) (v797 : BitVec 32) (k0_hw55 : k0_chk55 i v797), ∀ (k0_h1 : k0_cond1 i = 1#1), ∀ a, (k0_off165 v797) a + S8x128.size a ≤ S524288x128.size a := fun i v797 k0_hw55 k0_h1 => k0_hw55.2 k0_h1

def k0_off166 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_605 : BitVec 32 := 8#32
  let v807 : BitVec 32 := Scalar.muli v715 c8_i32_605
  let c7_i32_606 : BitVec 32 := 7#32
  let v808 : BitVec 32 := Scalar.addi v807 c7_i32_606
  let v809 : Index := Scalar.indexCast v808
  ![v809.toNat]
def k0_mult111 (v810 : BitVec 32) : BitVec 32 :=
  v810

def k0_mult112 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_607 : BitVec 32 := 8#32
  let v812 : BitVec 32 := Scalar.muli v715 c8_i32_607
  v812
def k0_off167 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_533 : BitVec 32 := 8#32
  let v714 : BitVec 32 := Scalar.muli arg16 c8_i32_533
  let c6_i32_534 : BitVec 32 := 6#32
  let v715 : BitVec 32 := Scalar.addi v714 c6_i32_534
  let c8_i32_607 : BitVec 32 := 8#32
  let v812 : BitVec 32 := Scalar.muli v715 c8_i32_607
  let v813 : BitVec 32 := v812
  let c0_i32_613 : BitVec 32 := 0#32
  ![v813.toNat, 0]
def k0_off168 (v810 : BitVec 32) : Fin 2 → Nat :=
  let v811 : BitVec 32 := v810
  let c0_i32_614 : BitVec 32 := 0#32
  ![v811.toNat, 0]

def k0_chk56 (i : grid0.Coords) (v810 : BitVec 32) : Prop :=
  (∀ (k0_h1 : k0_cond1 i = 1#1), 8 ∣ (k0_mult111 v810).toNat) ∧
  (∀ (k0_h1 : k0_cond1 i = 1#1), ∀ a, (k0_off168 v810) a + S8x128.size a ≤ S524288x128.size a)
theorem k0_mult111_dvd : ∀ (i : grid0.Coords) (v810 : BitVec 32) (k0_hw56 : k0_chk56 i v810), ∀ (k0_h1 : k0_cond1 i = 1#1), 8 ∣ (k0_mult111 v810).toNat := fun i v810 k0_hw56 k0_h1 => k0_hw56.1 k0_h1
theorem k0_off168_inb : ∀ (i : grid0.Coords) (v810 : BitVec 32) (k0_hw56 : k0_chk56 i v810), ∀ (k0_h1 : k0_cond1 i = 1#1), ∀ a, (k0_off168 v810) a + S8x128.size a ≤ S524288x128.size a := fun i v810 k0_hw56 k0_h1 => k0_hw56.2 k0_h1

def k0_off169 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_617 : BitVec 32 := 8#32
  let v822 : BitVec 32 := Scalar.muli v821 c8_i32_617
  let c0_i32_618 : BitVec 32 := 0#32
  let v823 : BitVec 32 := Scalar.addi v822 c0_i32_618
  let v824 : Index := Scalar.indexCast v823
  ![v824.toNat]
def k0_mult113 (v825 : BitVec 32) : BitVec 32 :=
  v825

def k0_mult114 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_619 : BitVec 32 := 8#32
  let v827 : BitVec 32 := Scalar.muli v821 c8_i32_619
  v827
def k0_off170 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_619 : BitVec 32 := 8#32
  let v827 : BitVec 32 := Scalar.muli v821 c8_i32_619
  let v828 : BitVec 32 := v827
  let c0_i32_625 : BitVec 32 := 0#32
  ![v828.toNat, 0]
def k0_off171 (v825 : BitVec 32) : Fin 2 → Nat :=
  let v826 : BitVec 32 := v825
  let c0_i32_626 : BitVec 32 := 0#32
  ![v826.toNat, 0]

def k0_chk57 (i : grid0.Coords) (v825 : BitVec 32) : Prop :=
  (∀ (k0_h1 : k0_cond1 i = 1#1), 8 ∣ (k0_mult113 v825).toNat) ∧
  (∀ (k0_h1 : k0_cond1 i = 1#1), ∀ a, (k0_off171 v825) a + S8x128.size a ≤ S524288x128.size a)
theorem k0_mult113_dvd : ∀ (i : grid0.Coords) (v825 : BitVec 32) (k0_hw57 : k0_chk57 i v825), ∀ (k0_h1 : k0_cond1 i = 1#1), 8 ∣ (k0_mult113 v825).toNat := fun i v825 k0_hw57 k0_h1 => k0_hw57.1 k0_h1
theorem k0_off171_inb : ∀ (i : grid0.Coords) (v825 : BitVec 32) (k0_hw57 : k0_chk57 i v825), ∀ (k0_h1 : k0_cond1 i = 1#1), ∀ a, (k0_off171 v825) a + S8x128.size a ≤ S524288x128.size a := fun i v825 k0_hw57 k0_h1 => k0_hw57.2 k0_h1

def k0_off172 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_627 : BitVec 32 := 8#32
  let v835 : BitVec 32 := Scalar.muli v821 c8_i32_627
  let c1_i32_628 : BitVec 32 := 1#32
  let v836 : BitVec 32 := Scalar.addi v835 c1_i32_628
  let v837 : Index := Scalar.indexCast v836
  ![v837.toNat]
def k0_mult115 (v838 : BitVec 32) : BitVec 32 :=
  v838

def k0_mult116 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_629 : BitVec 32 := 8#32
  let v840 : BitVec 32 := Scalar.muli v821 c8_i32_629
  v840
def k0_off173 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_629 : BitVec 32 := 8#32
  let v840 : BitVec 32 := Scalar.muli v821 c8_i32_629
  let v841 : BitVec 32 := v840
  let c0_i32_635 : BitVec 32 := 0#32
  ![v841.toNat, 0]
def k0_off174 (v838 : BitVec 32) : Fin 2 → Nat :=
  let v839 : BitVec 32 := v838
  let c0_i32_636 : BitVec 32 := 0#32
  ![v839.toNat, 0]

def k0_chk58 (i : grid0.Coords) (v838 : BitVec 32) : Prop :=
  (∀ (k0_h1 : k0_cond1 i = 1#1), 8 ∣ (k0_mult115 v838).toNat) ∧
  (∀ (k0_h1 : k0_cond1 i = 1#1), ∀ a, (k0_off174 v838) a + S8x128.size a ≤ S524288x128.size a)
theorem k0_mult115_dvd : ∀ (i : grid0.Coords) (v838 : BitVec 32) (k0_hw58 : k0_chk58 i v838), ∀ (k0_h1 : k0_cond1 i = 1#1), 8 ∣ (k0_mult115 v838).toNat := fun i v838 k0_hw58 k0_h1 => k0_hw58.1 k0_h1
theorem k0_off174_inb : ∀ (i : grid0.Coords) (v838 : BitVec 32) (k0_hw58 : k0_chk58 i v838), ∀ (k0_h1 : k0_cond1 i = 1#1), ∀ a, (k0_off174 v838) a + S8x128.size a ≤ S524288x128.size a := fun i v838 k0_hw58 k0_h1 => k0_hw58.2 k0_h1

def k0_off175 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_637 : BitVec 32 := 8#32
  let v848 : BitVec 32 := Scalar.muli v821 c8_i32_637
  let c2_i32_638 : BitVec 32 := 2#32
  let v849 : BitVec 32 := Scalar.addi v848 c2_i32_638
  let v850 : Index := Scalar.indexCast v849
  ![v850.toNat]
def k0_mult117 (v851 : BitVec 32) : BitVec 32 :=
  v851

def k0_mult118 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_639 : BitVec 32 := 8#32
  let v853 : BitVec 32 := Scalar.muli v821 c8_i32_639
  v853
def k0_off176 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_639 : BitVec 32 := 8#32
  let v853 : BitVec 32 := Scalar.muli v821 c8_i32_639
  let v854 : BitVec 32 := v853
  let c0_i32_645 : BitVec 32 := 0#32
  ![v854.toNat, 0]
def k0_off177 (v851 : BitVec 32) : Fin 2 → Nat :=
  let v852 : BitVec 32 := v851
  let c0_i32_646 : BitVec 32 := 0#32
  ![v852.toNat, 0]

def k0_chk59 (i : grid0.Coords) (v851 : BitVec 32) : Prop :=
  (∀ (k0_h1 : k0_cond1 i = 1#1), 8 ∣ (k0_mult117 v851).toNat) ∧
  (∀ (k0_h1 : k0_cond1 i = 1#1), ∀ a, (k0_off177 v851) a + S8x128.size a ≤ S524288x128.size a)
theorem k0_mult117_dvd : ∀ (i : grid0.Coords) (v851 : BitVec 32) (k0_hw59 : k0_chk59 i v851), ∀ (k0_h1 : k0_cond1 i = 1#1), 8 ∣ (k0_mult117 v851).toNat := fun i v851 k0_hw59 k0_h1 => k0_hw59.1 k0_h1
theorem k0_off177_inb : ∀ (i : grid0.Coords) (v851 : BitVec 32) (k0_hw59 : k0_chk59 i v851), ∀ (k0_h1 : k0_cond1 i = 1#1), ∀ a, (k0_off177 v851) a + S8x128.size a ≤ S524288x128.size a := fun i v851 k0_hw59 k0_h1 => k0_hw59.2 k0_h1

def k0_off178 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_647 : BitVec 32 := 8#32
  let v861 : BitVec 32 := Scalar.muli v821 c8_i32_647
  let c3_i32_648 : BitVec 32 := 3#32
  let v862 : BitVec 32 := Scalar.addi v861 c3_i32_648
  let v863 : Index := Scalar.indexCast v862
  ![v863.toNat]
def k0_mult119 (v864 : BitVec 32) : BitVec 32 :=
  v864

def k0_mult120 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_649 : BitVec 32 := 8#32
  let v866 : BitVec 32 := Scalar.muli v821 c8_i32_649
  v866
def k0_off179 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_649 : BitVec 32 := 8#32
  let v866 : BitVec 32 := Scalar.muli v821 c8_i32_649
  let v867 : BitVec 32 := v866
  let c0_i32_655 : BitVec 32 := 0#32
  ![v867.toNat, 0]
def k0_off180 (v864 : BitVec 32) : Fin 2 → Nat :=
  let v865 : BitVec 32 := v864
  let c0_i32_656 : BitVec 32 := 0#32
  ![v865.toNat, 0]

def k0_chk60 (i : grid0.Coords) (v864 : BitVec 32) : Prop :=
  (∀ (k0_h1 : k0_cond1 i = 1#1), 8 ∣ (k0_mult119 v864).toNat) ∧
  (∀ (k0_h1 : k0_cond1 i = 1#1), ∀ a, (k0_off180 v864) a + S8x128.size a ≤ S524288x128.size a)
theorem k0_mult119_dvd : ∀ (i : grid0.Coords) (v864 : BitVec 32) (k0_hw60 : k0_chk60 i v864), ∀ (k0_h1 : k0_cond1 i = 1#1), 8 ∣ (k0_mult119 v864).toNat := fun i v864 k0_hw60 k0_h1 => k0_hw60.1 k0_h1
theorem k0_off180_inb : ∀ (i : grid0.Coords) (v864 : BitVec 32) (k0_hw60 : k0_chk60 i v864), ∀ (k0_h1 : k0_cond1 i = 1#1), ∀ a, (k0_off180 v864) a + S8x128.size a ≤ S524288x128.size a := fun i v864 k0_hw60 k0_h1 => k0_hw60.2 k0_h1

def k0_off181 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_657 : BitVec 32 := 8#32
  let v874 : BitVec 32 := Scalar.muli v821 c8_i32_657
  let c4_i32_658 : BitVec 32 := 4#32
  let v875 : BitVec 32 := Scalar.addi v874 c4_i32_658
  let v876 : Index := Scalar.indexCast v875
  ![v876.toNat]
def k0_mult121 (v877 : BitVec 32) : BitVec 32 :=
  v877

def k0_mult122 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_659 : BitVec 32 := 8#32
  let v879 : BitVec 32 := Scalar.muli v821 c8_i32_659
  v879
def k0_off182 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_659 : BitVec 32 := 8#32
  let v879 : BitVec 32 := Scalar.muli v821 c8_i32_659
  let v880 : BitVec 32 := v879
  let c0_i32_665 : BitVec 32 := 0#32
  ![v880.toNat, 0]
def k0_off183 (v877 : BitVec 32) : Fin 2 → Nat :=
  let v878 : BitVec 32 := v877
  let c0_i32_666 : BitVec 32 := 0#32
  ![v878.toNat, 0]

def k0_chk61 (i : grid0.Coords) (v877 : BitVec 32) : Prop :=
  (∀ (k0_h1 : k0_cond1 i = 1#1), 8 ∣ (k0_mult121 v877).toNat) ∧
  (∀ (k0_h1 : k0_cond1 i = 1#1), ∀ a, (k0_off183 v877) a + S8x128.size a ≤ S524288x128.size a)
theorem k0_mult121_dvd : ∀ (i : grid0.Coords) (v877 : BitVec 32) (k0_hw61 : k0_chk61 i v877), ∀ (k0_h1 : k0_cond1 i = 1#1), 8 ∣ (k0_mult121 v877).toNat := fun i v877 k0_hw61 k0_h1 => k0_hw61.1 k0_h1
theorem k0_off183_inb : ∀ (i : grid0.Coords) (v877 : BitVec 32) (k0_hw61 : k0_chk61 i v877), ∀ (k0_h1 : k0_cond1 i = 1#1), ∀ a, (k0_off183 v877) a + S8x128.size a ≤ S524288x128.size a := fun i v877 k0_hw61 k0_h1 => k0_hw61.2 k0_h1

def k0_off184 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_667 : BitVec 32 := 8#32
  let v887 : BitVec 32 := Scalar.muli v821 c8_i32_667
  let c5_i32_668 : BitVec 32 := 5#32
  let v888 : BitVec 32 := Scalar.addi v887 c5_i32_668
  let v889 : Index := Scalar.indexCast v888
  ![v889.toNat]
def k0_mult123 (v890 : BitVec 32) : BitVec 32 :=
  v890

def k0_mult124 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_669 : BitVec 32 := 8#32
  let v892 : BitVec 32 := Scalar.muli v821 c8_i32_669
  v892
def k0_off185 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_669 : BitVec 32 := 8#32
  let v892 : BitVec 32 := Scalar.muli v821 c8_i32_669
  let v893 : BitVec 32 := v892
  let c0_i32_675 : BitVec 32 := 0#32
  ![v893.toNat, 0]
def k0_off186 (v890 : BitVec 32) : Fin 2 → Nat :=
  let v891 : BitVec 32 := v890
  let c0_i32_676 : BitVec 32 := 0#32
  ![v891.toNat, 0]

def k0_chk62 (i : grid0.Coords) (v890 : BitVec 32) : Prop :=
  (∀ (k0_h1 : k0_cond1 i = 1#1), 8 ∣ (k0_mult123 v890).toNat) ∧
  (∀ (k0_h1 : k0_cond1 i = 1#1), ∀ a, (k0_off186 v890) a + S8x128.size a ≤ S524288x128.size a)
theorem k0_mult123_dvd : ∀ (i : grid0.Coords) (v890 : BitVec 32) (k0_hw62 : k0_chk62 i v890), ∀ (k0_h1 : k0_cond1 i = 1#1), 8 ∣ (k0_mult123 v890).toNat := fun i v890 k0_hw62 k0_h1 => k0_hw62.1 k0_h1
theorem k0_off186_inb : ∀ (i : grid0.Coords) (v890 : BitVec 32) (k0_hw62 : k0_chk62 i v890), ∀ (k0_h1 : k0_cond1 i = 1#1), ∀ a, (k0_off186 v890) a + S8x128.size a ≤ S524288x128.size a := fun i v890 k0_hw62 k0_h1 => k0_hw62.2 k0_h1

def k0_off187 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_677 : BitVec 32 := 8#32
  let v900 : BitVec 32 := Scalar.muli v821 c8_i32_677
  let c6_i32_678 : BitVec 32 := 6#32
  let v901 : BitVec 32 := Scalar.addi v900 c6_i32_678
  let v902 : Index := Scalar.indexCast v901
  ![v902.toNat]
def k0_mult125 (v903 : BitVec 32) : BitVec 32 :=
  v903

def k0_mult126 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_679 : BitVec 32 := 8#32
  let v905 : BitVec 32 := Scalar.muli v821 c8_i32_679
  v905
def k0_off188 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_679 : BitVec 32 := 8#32
  let v905 : BitVec 32 := Scalar.muli v821 c8_i32_679
  let v906 : BitVec 32 := v905
  let c0_i32_685 : BitVec 32 := 0#32
  ![v906.toNat, 0]
def k0_off189 (v903 : BitVec 32) : Fin 2 → Nat :=
  let v904 : BitVec 32 := v903
  let c0_i32_686 : BitVec 32 := 0#32
  ![v904.toNat, 0]

def k0_chk63 (i : grid0.Coords) (v903 : BitVec 32) : Prop :=
  (∀ (k0_h1 : k0_cond1 i = 1#1), 8 ∣ (k0_mult125 v903).toNat) ∧
  (∀ (k0_h1 : k0_cond1 i = 1#1), ∀ a, (k0_off189 v903) a + S8x128.size a ≤ S524288x128.size a)
theorem k0_mult125_dvd : ∀ (i : grid0.Coords) (v903 : BitVec 32) (k0_hw63 : k0_chk63 i v903), ∀ (k0_h1 : k0_cond1 i = 1#1), 8 ∣ (k0_mult125 v903).toNat := fun i v903 k0_hw63 k0_h1 => k0_hw63.1 k0_h1
theorem k0_off189_inb : ∀ (i : grid0.Coords) (v903 : BitVec 32) (k0_hw63 : k0_chk63 i v903), ∀ (k0_h1 : k0_cond1 i = 1#1), ∀ a, (k0_off189 v903) a + S8x128.size a ≤ S524288x128.size a := fun i v903 k0_hw63 k0_h1 => k0_hw63.2 k0_h1

def k0_off190 (k0_t1 : Fin k0_t1_loop.trips) : Fin 1 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_687 : BitVec 32 := 8#32
  let v913 : BitVec 32 := Scalar.muli v821 c8_i32_687
  let c7_i32_688 : BitVec 32 := 7#32
  let v914 : BitVec 32 := Scalar.addi v913 c7_i32_688
  let v915 : Index := Scalar.indexCast v914
  ![v915.toNat]
def k0_mult127 (v916 : BitVec 32) : BitVec 32 :=
  v916

def k0_mult128 (k0_t1 : Fin k0_t1_loop.trips) : BitVec 32 :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_689 : BitVec 32 := 8#32
  let v918 : BitVec 32 := Scalar.muli v821 c8_i32_689
  v918
def k0_off191 (k0_t1 : Fin k0_t1_loop.trips) : Fin 2 → Nat :=
  let c0_i32_44 : BitVec 32 := 0#32
  let c1_i32_45 : BitVec 32 := 1#32
  let arg16 : BitVec 32 := Scf.iv c0_i32_44 c1_i32_45 k0_t1
  let c8_i32_615 : BitVec 32 := 8#32
  let v820 : BitVec 32 := Scalar.muli arg16 c8_i32_615
  let c7_i32_616 : BitVec 32 := 7#32
  let v821 : BitVec 32 := Scalar.addi v820 c7_i32_616
  let c8_i32_689 : BitVec 32 := 8#32
  let v918 : BitVec 32 := Scalar.muli v821 c8_i32_689
  let v919 : BitVec 32 := v918
  let c0_i32_695 : BitVec 32 := 0#32
  ![v919.toNat, 0]
def k0_off192 (v916 : BitVec 32) : Fin 2 → Nat :=
  let v917 : BitVec 32 := v916
  let c0_i32_696 : BitVec 32 := 0#32
  ![v917.toNat, 0]

def k0_chk64 (i : grid0.Coords) (v916 : BitVec 32) : Prop :=
  (∀ (k0_h1 : k0_cond1 i = 1#1), 8 ∣ (k0_mult127 v916).toNat) ∧
  (∀ (k0_h1 : k0_cond1 i = 1#1), ∀ a, (k0_off192 v916) a + S8x128.size a ≤ S524288x128.size a)
theorem k0_mult127_dvd : ∀ (i : grid0.Coords) (v916 : BitVec 32) (k0_hw64 : k0_chk64 i v916), ∀ (k0_h1 : k0_cond1 i = 1#1), 8 ∣ (k0_mult127 v916).toNat := fun i v916 k0_hw64 k0_h1 => k0_hw64.1 k0_h1
theorem k0_off192_inb : ∀ (i : grid0.Coords) (v916 : BitVec 32) (k0_hw64 : k0_chk64 i v916), ∀ (k0_h1 : k0_cond1 i = 1#1), ∀ a, (k0_off192 v916) a + S8x128.size a ≤ S524288x128.size a := fun i v916 k0_hw64 k0_h1 => k0_hw64.2 k0_h1

def k0_cond2 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_26 : BitVec 32 := 0#32
  let v49 : BitVec 1 := Scalar.cmpi .eq v9 c0_i32_26
  let v50 : BitVec 32 := Scalar.extui v49
  let c0_i32_27 : BitVec 32 := 0#32
  let v51 : BitVec 1 := Scalar.cmpi .ne v50 c0_i32_27
  v51

@[reducible] def k0_t2_loop : Scf.Loop 32 :=
  let c0_i32_95 : BitVec 32 := 0#32
  let c32_i32 : BitVec 32 := 32#32
  let v117 : BitVec 32 := Scalar.addi c0_i32_95 c32_i32
  let c1_i32_96 : BitVec 32 := 1#32
  ⟨c0_i32_95, v117, c1_i32_96⟩
def k0_off193 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_100 : BitVec 32 := 8#32
  let v123 : BitVec 32 := Scalar.muli v122 c8_i32_100
  let c0_i32_101 : BitVec 32 := 0#32
  let v124 : BitVec 32 := Scalar.addi v123 c0_i32_101
  let v125 : Index := Scalar.indexCast v124
  ![v125.toNat]
def k0_mult129 (v126 : BitVec 32) : BitVec 32 :=
  v126

def k0_mult130 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_102 : BitVec 32 := 8#32
  let v128 : BitVec 32 := Scalar.muli v122 c8_i32_102
  v128
def k0_off194 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_102 : BitVec 32 := 8#32
  let v128 : BitVec 32 := Scalar.muli v122 c8_i32_102
  let v129 : BitVec 32 := v128
  let c0_i32_108 : BitVec 32 := 0#32
  ![v129.toNat, 0]
def k0_off195 (v126 : BitVec 32) : Fin 2 → Nat :=
  let v127 : BitVec 32 := v126
  let c0_i32_109 : BitVec 32 := 0#32
  ![v127.toNat, 0]

def k0_chk65 (i : grid0.Coords) (v126 : BitVec 32) : Prop :=
  (∀ (k0_h2 : k0_cond2 i = 1#1), 8 ∣ (k0_mult129 v126).toNat) ∧
  (∀ (k0_h2 : k0_cond2 i = 1#1), ∀ a, (k0_off195 v126) a + S8x128.size a ≤ S524288x128.size a)
theorem k0_mult129_dvd : ∀ (i : grid0.Coords) (v126 : BitVec 32) (k0_hw65 : k0_chk65 i v126), ∀ (k0_h2 : k0_cond2 i = 1#1), 8 ∣ (k0_mult129 v126).toNat := fun i v126 k0_hw65 k0_h2 => k0_hw65.1 k0_h2
theorem k0_off195_inb : ∀ (i : grid0.Coords) (v126 : BitVec 32) (k0_hw65 : k0_chk65 i v126), ∀ (k0_h2 : k0_cond2 i = 1#1), ∀ a, (k0_off195 v126) a + S8x128.size a ≤ S524288x128.size a := fun i v126 k0_hw65 k0_h2 => k0_hw65.2 k0_h2

def k0_off196 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_110 : BitVec 32 := 8#32
  let v136 : BitVec 32 := Scalar.muli v122 c8_i32_110
  let c1_i32_111 : BitVec 32 := 1#32
  let v137 : BitVec 32 := Scalar.addi v136 c1_i32_111
  let v138 : Index := Scalar.indexCast v137
  ![v138.toNat]
def k0_mult131 (v139 : BitVec 32) : BitVec 32 :=
  v139

def k0_mult132 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_112 : BitVec 32 := 8#32
  let v141 : BitVec 32 := Scalar.muli v122 c8_i32_112
  v141
def k0_off197 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_112 : BitVec 32 := 8#32
  let v141 : BitVec 32 := Scalar.muli v122 c8_i32_112
  let v142 : BitVec 32 := v141
  let c0_i32_118 : BitVec 32 := 0#32
  ![v142.toNat, 0]
def k0_off198 (v139 : BitVec 32) : Fin 2 → Nat :=
  let v140 : BitVec 32 := v139
  let c0_i32_119 : BitVec 32 := 0#32
  ![v140.toNat, 0]

def k0_chk66 (i : grid0.Coords) (v139 : BitVec 32) : Prop :=
  (∀ (k0_h2 : k0_cond2 i = 1#1), 8 ∣ (k0_mult131 v139).toNat) ∧
  (∀ (k0_h2 : k0_cond2 i = 1#1), ∀ a, (k0_off198 v139) a + S8x128.size a ≤ S524288x128.size a)
theorem k0_mult131_dvd : ∀ (i : grid0.Coords) (v139 : BitVec 32) (k0_hw66 : k0_chk66 i v139), ∀ (k0_h2 : k0_cond2 i = 1#1), 8 ∣ (k0_mult131 v139).toNat := fun i v139 k0_hw66 k0_h2 => k0_hw66.1 k0_h2
theorem k0_off198_inb : ∀ (i : grid0.Coords) (v139 : BitVec 32) (k0_hw66 : k0_chk66 i v139), ∀ (k0_h2 : k0_cond2 i = 1#1), ∀ a, (k0_off198 v139) a + S8x128.size a ≤ S524288x128.size a := fun i v139 k0_hw66 k0_h2 => k0_hw66.2 k0_h2

def k0_off199 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_120 : BitVec 32 := 8#32
  let v149 : BitVec 32 := Scalar.muli v122 c8_i32_120
  let c2_i32_121 : BitVec 32 := 2#32
  let v150 : BitVec 32 := Scalar.addi v149 c2_i32_121
  let v151 : Index := Scalar.indexCast v150
  ![v151.toNat]
def k0_mult133 (v152 : BitVec 32) : BitVec 32 :=
  v152

def k0_mult134 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_122 : BitVec 32 := 8#32
  let v154 : BitVec 32 := Scalar.muli v122 c8_i32_122
  v154
def k0_off200 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_122 : BitVec 32 := 8#32
  let v154 : BitVec 32 := Scalar.muli v122 c8_i32_122
  let v155 : BitVec 32 := v154
  let c0_i32_128 : BitVec 32 := 0#32
  ![v155.toNat, 0]
def k0_off201 (v152 : BitVec 32) : Fin 2 → Nat :=
  let v153 : BitVec 32 := v152
  let c0_i32_129 : BitVec 32 := 0#32
  ![v153.toNat, 0]

def k0_chk67 (i : grid0.Coords) (v152 : BitVec 32) : Prop :=
  (∀ (k0_h2 : k0_cond2 i = 1#1), 8 ∣ (k0_mult133 v152).toNat) ∧
  (∀ (k0_h2 : k0_cond2 i = 1#1), ∀ a, (k0_off201 v152) a + S8x128.size a ≤ S524288x128.size a)
theorem k0_mult133_dvd : ∀ (i : grid0.Coords) (v152 : BitVec 32) (k0_hw67 : k0_chk67 i v152), ∀ (k0_h2 : k0_cond2 i = 1#1), 8 ∣ (k0_mult133 v152).toNat := fun i v152 k0_hw67 k0_h2 => k0_hw67.1 k0_h2
theorem k0_off201_inb : ∀ (i : grid0.Coords) (v152 : BitVec 32) (k0_hw67 : k0_chk67 i v152), ∀ (k0_h2 : k0_cond2 i = 1#1), ∀ a, (k0_off201 v152) a + S8x128.size a ≤ S524288x128.size a := fun i v152 k0_hw67 k0_h2 => k0_hw67.2 k0_h2

def k0_off202 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_130 : BitVec 32 := 8#32
  let v162 : BitVec 32 := Scalar.muli v122 c8_i32_130
  let c3_i32_131 : BitVec 32 := 3#32
  let v163 : BitVec 32 := Scalar.addi v162 c3_i32_131
  let v164 : Index := Scalar.indexCast v163
  ![v164.toNat]
def k0_mult135 (v165 : BitVec 32) : BitVec 32 :=
  v165

def k0_mult136 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_132 : BitVec 32 := 8#32
  let v167 : BitVec 32 := Scalar.muli v122 c8_i32_132
  v167
def k0_off203 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_132 : BitVec 32 := 8#32
  let v167 : BitVec 32 := Scalar.muli v122 c8_i32_132
  let v168 : BitVec 32 := v167
  let c0_i32_138 : BitVec 32 := 0#32
  ![v168.toNat, 0]
def k0_off204 (v165 : BitVec 32) : Fin 2 → Nat :=
  let v166 : BitVec 32 := v165
  let c0_i32_139 : BitVec 32 := 0#32
  ![v166.toNat, 0]

def k0_chk68 (i : grid0.Coords) (v165 : BitVec 32) : Prop :=
  (∀ (k0_h2 : k0_cond2 i = 1#1), 8 ∣ (k0_mult135 v165).toNat) ∧
  (∀ (k0_h2 : k0_cond2 i = 1#1), ∀ a, (k0_off204 v165) a + S8x128.size a ≤ S524288x128.size a)
theorem k0_mult135_dvd : ∀ (i : grid0.Coords) (v165 : BitVec 32) (k0_hw68 : k0_chk68 i v165), ∀ (k0_h2 : k0_cond2 i = 1#1), 8 ∣ (k0_mult135 v165).toNat := fun i v165 k0_hw68 k0_h2 => k0_hw68.1 k0_h2
theorem k0_off204_inb : ∀ (i : grid0.Coords) (v165 : BitVec 32) (k0_hw68 : k0_chk68 i v165), ∀ (k0_h2 : k0_cond2 i = 1#1), ∀ a, (k0_off204 v165) a + S8x128.size a ≤ S524288x128.size a := fun i v165 k0_hw68 k0_h2 => k0_hw68.2 k0_h2

def k0_off205 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_140 : BitVec 32 := 8#32
  let v175 : BitVec 32 := Scalar.muli v122 c8_i32_140
  let c4_i32_141 : BitVec 32 := 4#32
  let v176 : BitVec 32 := Scalar.addi v175 c4_i32_141
  let v177 : Index := Scalar.indexCast v176
  ![v177.toNat]
def k0_mult137 (v178 : BitVec 32) : BitVec 32 :=
  v178

def k0_mult138 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_142 : BitVec 32 := 8#32
  let v180 : BitVec 32 := Scalar.muli v122 c8_i32_142
  v180
def k0_off206 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_142 : BitVec 32 := 8#32
  let v180 : BitVec 32 := Scalar.muli v122 c8_i32_142
  let v181 : BitVec 32 := v180
  let c0_i32_148 : BitVec 32 := 0#32
  ![v181.toNat, 0]
def k0_off207 (v178 : BitVec 32) : Fin 2 → Nat :=
  let v179 : BitVec 32 := v178
  let c0_i32_149 : BitVec 32 := 0#32
  ![v179.toNat, 0]

def k0_chk69 (i : grid0.Coords) (v178 : BitVec 32) : Prop :=
  (∀ (k0_h2 : k0_cond2 i = 1#1), 8 ∣ (k0_mult137 v178).toNat) ∧
  (∀ (k0_h2 : k0_cond2 i = 1#1), ∀ a, (k0_off207 v178) a + S8x128.size a ≤ S524288x128.size a)
theorem k0_mult137_dvd : ∀ (i : grid0.Coords) (v178 : BitVec 32) (k0_hw69 : k0_chk69 i v178), ∀ (k0_h2 : k0_cond2 i = 1#1), 8 ∣ (k0_mult137 v178).toNat := fun i v178 k0_hw69 k0_h2 => k0_hw69.1 k0_h2
theorem k0_off207_inb : ∀ (i : grid0.Coords) (v178 : BitVec 32) (k0_hw69 : k0_chk69 i v178), ∀ (k0_h2 : k0_cond2 i = 1#1), ∀ a, (k0_off207 v178) a + S8x128.size a ≤ S524288x128.size a := fun i v178 k0_hw69 k0_h2 => k0_hw69.2 k0_h2

def k0_off208 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_150 : BitVec 32 := 8#32
  let v188 : BitVec 32 := Scalar.muli v122 c8_i32_150
  let c5_i32_151 : BitVec 32 := 5#32
  let v189 : BitVec 32 := Scalar.addi v188 c5_i32_151
  let v190 : Index := Scalar.indexCast v189
  ![v190.toNat]
def k0_mult139 (v191 : BitVec 32) : BitVec 32 :=
  v191

def k0_mult140 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_152 : BitVec 32 := 8#32
  let v193 : BitVec 32 := Scalar.muli v122 c8_i32_152
  v193
def k0_off209 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_152 : BitVec 32 := 8#32
  let v193 : BitVec 32 := Scalar.muli v122 c8_i32_152
  let v194 : BitVec 32 := v193
  let c0_i32_158 : BitVec 32 := 0#32
  ![v194.toNat, 0]
def k0_off210 (v191 : BitVec 32) : Fin 2 → Nat :=
  let v192 : BitVec 32 := v191
  let c0_i32_159 : BitVec 32 := 0#32
  ![v192.toNat, 0]

def k0_chk70 (i : grid0.Coords) (v191 : BitVec 32) : Prop :=
  (∀ (k0_h2 : k0_cond2 i = 1#1), 8 ∣ (k0_mult139 v191).toNat) ∧
  (∀ (k0_h2 : k0_cond2 i = 1#1), ∀ a, (k0_off210 v191) a + S8x128.size a ≤ S524288x128.size a)
theorem k0_mult139_dvd : ∀ (i : grid0.Coords) (v191 : BitVec 32) (k0_hw70 : k0_chk70 i v191), ∀ (k0_h2 : k0_cond2 i = 1#1), 8 ∣ (k0_mult139 v191).toNat := fun i v191 k0_hw70 k0_h2 => k0_hw70.1 k0_h2
theorem k0_off210_inb : ∀ (i : grid0.Coords) (v191 : BitVec 32) (k0_hw70 : k0_chk70 i v191), ∀ (k0_h2 : k0_cond2 i = 1#1), ∀ a, (k0_off210 v191) a + S8x128.size a ≤ S524288x128.size a := fun i v191 k0_hw70 k0_h2 => k0_hw70.2 k0_h2

def k0_off211 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_160 : BitVec 32 := 8#32
  let v201 : BitVec 32 := Scalar.muli v122 c8_i32_160
  let c6_i32_161 : BitVec 32 := 6#32
  let v202 : BitVec 32 := Scalar.addi v201 c6_i32_161
  let v203 : Index := Scalar.indexCast v202
  ![v203.toNat]
def k0_mult141 (v204 : BitVec 32) : BitVec 32 :=
  v204

def k0_mult142 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_162 : BitVec 32 := 8#32
  let v206 : BitVec 32 := Scalar.muli v122 c8_i32_162
  v206
def k0_off212 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_162 : BitVec 32 := 8#32
  let v206 : BitVec 32 := Scalar.muli v122 c8_i32_162
  let v207 : BitVec 32 := v206
  let c0_i32_168 : BitVec 32 := 0#32
  ![v207.toNat, 0]
def k0_off213 (v204 : BitVec 32) : Fin 2 → Nat :=
  let v205 : BitVec 32 := v204
  let c0_i32_169 : BitVec 32 := 0#32
  ![v205.toNat, 0]

def k0_chk71 (i : grid0.Coords) (v204 : BitVec 32) : Prop :=
  (∀ (k0_h2 : k0_cond2 i = 1#1), 8 ∣ (k0_mult141 v204).toNat) ∧
  (∀ (k0_h2 : k0_cond2 i = 1#1), ∀ a, (k0_off213 v204) a + S8x128.size a ≤ S524288x128.size a)
theorem k0_mult141_dvd : ∀ (i : grid0.Coords) (v204 : BitVec 32) (k0_hw71 : k0_chk71 i v204), ∀ (k0_h2 : k0_cond2 i = 1#1), 8 ∣ (k0_mult141 v204).toNat := fun i v204 k0_hw71 k0_h2 => k0_hw71.1 k0_h2
theorem k0_off213_inb : ∀ (i : grid0.Coords) (v204 : BitVec 32) (k0_hw71 : k0_chk71 i v204), ∀ (k0_h2 : k0_cond2 i = 1#1), ∀ a, (k0_off213 v204) a + S8x128.size a ≤ S524288x128.size a := fun i v204 k0_hw71 k0_h2 => k0_hw71.2 k0_h2

def k0_off214 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_170 : BitVec 32 := 8#32
  let v214 : BitVec 32 := Scalar.muli v122 c8_i32_170
  let c7_i32_171 : BitVec 32 := 7#32
  let v215 : BitVec 32 := Scalar.addi v214 c7_i32_171
  let v216 : Index := Scalar.indexCast v215
  ![v216.toNat]
def k0_mult143 (v217 : BitVec 32) : BitVec 32 :=
  v217

def k0_mult144 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_172 : BitVec 32 := 8#32
  let v219 : BitVec 32 := Scalar.muli v122 c8_i32_172
  v219
def k0_off215 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32 : BitVec 32 := 8#32
  let v121 : BitVec 32 := Scalar.muli arg16 c8_i32
  let c0_i32_99 : BitVec 32 := 0#32
  let v122 : BitVec 32 := Scalar.addi v121 c0_i32_99
  let c8_i32_172 : BitVec 32 := 8#32
  let v219 : BitVec 32 := Scalar.muli v122 c8_i32_172
  let v220 : BitVec 32 := v219
  let c0_i32_178 : BitVec 32 := 0#32
  ![v220.toNat, 0]
def k0_off216 (v217 : BitVec 32) : Fin 2 → Nat :=
  let v218 : BitVec 32 := v217
  let c0_i32_179 : BitVec 32 := 0#32
  ![v218.toNat, 0]

def k0_chk72 (i : grid0.Coords) (v217 : BitVec 32) : Prop :=
  (∀ (k0_h2 : k0_cond2 i = 1#1), 8 ∣ (k0_mult143 v217).toNat) ∧
  (∀ (k0_h2 : k0_cond2 i = 1#1), ∀ a, (k0_off216 v217) a + S8x128.size a ≤ S524288x128.size a)
theorem k0_mult143_dvd : ∀ (i : grid0.Coords) (v217 : BitVec 32) (k0_hw72 : k0_chk72 i v217), ∀ (k0_h2 : k0_cond2 i = 1#1), 8 ∣ (k0_mult143 v217).toNat := fun i v217 k0_hw72 k0_h2 => k0_hw72.1 k0_h2
theorem k0_off216_inb : ∀ (i : grid0.Coords) (v217 : BitVec 32) (k0_hw72 : k0_chk72 i v217), ∀ (k0_h2 : k0_cond2 i = 1#1), ∀ a, (k0_off216 v217) a + S8x128.size a ≤ S524288x128.size a := fun i v217 k0_hw72 k0_h2 => k0_hw72.2 k0_h2

def k0_off217 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_182 : BitVec 32 := 8#32
  let v229 : BitVec 32 := Scalar.muli v228 c8_i32_182
  let c0_i32_183 : BitVec 32 := 0#32
  let v230 : BitVec 32 := Scalar.addi v229 c0_i32_183
  let v231 : Index := Scalar.indexCast v230
  ![v231.toNat]
def k0_mult145 (v232 : BitVec 32) : BitVec 32 :=
  v232

def k0_mult146 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_184 : BitVec 32 := 8#32
  let v234 : BitVec 32 := Scalar.muli v228 c8_i32_184
  v234
def k0_off218 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_184 : BitVec 32 := 8#32
  let v234 : BitVec 32 := Scalar.muli v228 c8_i32_184
  let v235 : BitVec 32 := v234
  let c0_i32_190 : BitVec 32 := 0#32
  ![v235.toNat, 0]
def k0_off219 (v232 : BitVec 32) : Fin 2 → Nat :=
  let v233 : BitVec 32 := v232
  let c0_i32_191 : BitVec 32 := 0#32
  ![v233.toNat, 0]

def k0_chk73 (i : grid0.Coords) (v232 : BitVec 32) : Prop :=
  (∀ (k0_h2 : k0_cond2 i = 1#1), 8 ∣ (k0_mult145 v232).toNat) ∧
  (∀ (k0_h2 : k0_cond2 i = 1#1), ∀ a, (k0_off219 v232) a + S8x128.size a ≤ S524288x128.size a)
theorem k0_mult145_dvd : ∀ (i : grid0.Coords) (v232 : BitVec 32) (k0_hw73 : k0_chk73 i v232), ∀ (k0_h2 : k0_cond2 i = 1#1), 8 ∣ (k0_mult145 v232).toNat := fun i v232 k0_hw73 k0_h2 => k0_hw73.1 k0_h2
theorem k0_off219_inb : ∀ (i : grid0.Coords) (v232 : BitVec 32) (k0_hw73 : k0_chk73 i v232), ∀ (k0_h2 : k0_cond2 i = 1#1), ∀ a, (k0_off219 v232) a + S8x128.size a ≤ S524288x128.size a := fun i v232 k0_hw73 k0_h2 => k0_hw73.2 k0_h2

def k0_off220 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_192 : BitVec 32 := 8#32
  let v242 : BitVec 32 := Scalar.muli v228 c8_i32_192
  let c1_i32_193 : BitVec 32 := 1#32
  let v243 : BitVec 32 := Scalar.addi v242 c1_i32_193
  let v244 : Index := Scalar.indexCast v243
  ![v244.toNat]
def k0_mult147 (v245 : BitVec 32) : BitVec 32 :=
  v245

def k0_mult148 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_194 : BitVec 32 := 8#32
  let v247 : BitVec 32 := Scalar.muli v228 c8_i32_194
  v247
def k0_off221 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_194 : BitVec 32 := 8#32
  let v247 : BitVec 32 := Scalar.muli v228 c8_i32_194
  let v248 : BitVec 32 := v247
  let c0_i32_200 : BitVec 32 := 0#32
  ![v248.toNat, 0]
def k0_off222 (v245 : BitVec 32) : Fin 2 → Nat :=
  let v246 : BitVec 32 := v245
  let c0_i32_201 : BitVec 32 := 0#32
  ![v246.toNat, 0]

def k0_chk74 (i : grid0.Coords) (v245 : BitVec 32) : Prop :=
  (∀ (k0_h2 : k0_cond2 i = 1#1), 8 ∣ (k0_mult147 v245).toNat) ∧
  (∀ (k0_h2 : k0_cond2 i = 1#1), ∀ a, (k0_off222 v245) a + S8x128.size a ≤ S524288x128.size a)
theorem k0_mult147_dvd : ∀ (i : grid0.Coords) (v245 : BitVec 32) (k0_hw74 : k0_chk74 i v245), ∀ (k0_h2 : k0_cond2 i = 1#1), 8 ∣ (k0_mult147 v245).toNat := fun i v245 k0_hw74 k0_h2 => k0_hw74.1 k0_h2
theorem k0_off222_inb : ∀ (i : grid0.Coords) (v245 : BitVec 32) (k0_hw74 : k0_chk74 i v245), ∀ (k0_h2 : k0_cond2 i = 1#1), ∀ a, (k0_off222 v245) a + S8x128.size a ≤ S524288x128.size a := fun i v245 k0_hw74 k0_h2 => k0_hw74.2 k0_h2

def k0_off223 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_202 : BitVec 32 := 8#32
  let v255 : BitVec 32 := Scalar.muli v228 c8_i32_202
  let c2_i32_203 : BitVec 32 := 2#32
  let v256 : BitVec 32 := Scalar.addi v255 c2_i32_203
  let v257 : Index := Scalar.indexCast v256
  ![v257.toNat]
def k0_mult149 (v258 : BitVec 32) : BitVec 32 :=
  v258

def k0_mult150 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_204 : BitVec 32 := 8#32
  let v260 : BitVec 32 := Scalar.muli v228 c8_i32_204
  v260
def k0_off224 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_204 : BitVec 32 := 8#32
  let v260 : BitVec 32 := Scalar.muli v228 c8_i32_204
  let v261 : BitVec 32 := v260
  let c0_i32_210 : BitVec 32 := 0#32
  ![v261.toNat, 0]
def k0_off225 (v258 : BitVec 32) : Fin 2 → Nat :=
  let v259 : BitVec 32 := v258
  let c0_i32_211 : BitVec 32 := 0#32
  ![v259.toNat, 0]

def k0_chk75 (i : grid0.Coords) (v258 : BitVec 32) : Prop :=
  (∀ (k0_h2 : k0_cond2 i = 1#1), 8 ∣ (k0_mult149 v258).toNat) ∧
  (∀ (k0_h2 : k0_cond2 i = 1#1), ∀ a, (k0_off225 v258) a + S8x128.size a ≤ S524288x128.size a)
theorem k0_mult149_dvd : ∀ (i : grid0.Coords) (v258 : BitVec 32) (k0_hw75 : k0_chk75 i v258), ∀ (k0_h2 : k0_cond2 i = 1#1), 8 ∣ (k0_mult149 v258).toNat := fun i v258 k0_hw75 k0_h2 => k0_hw75.1 k0_h2
theorem k0_off225_inb : ∀ (i : grid0.Coords) (v258 : BitVec 32) (k0_hw75 : k0_chk75 i v258), ∀ (k0_h2 : k0_cond2 i = 1#1), ∀ a, (k0_off225 v258) a + S8x128.size a ≤ S524288x128.size a := fun i v258 k0_hw75 k0_h2 => k0_hw75.2 k0_h2

def k0_off226 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_212 : BitVec 32 := 8#32
  let v268 : BitVec 32 := Scalar.muli v228 c8_i32_212
  let c3_i32_213 : BitVec 32 := 3#32
  let v269 : BitVec 32 := Scalar.addi v268 c3_i32_213
  let v270 : Index := Scalar.indexCast v269
  ![v270.toNat]
def k0_mult151 (v271 : BitVec 32) : BitVec 32 :=
  v271

def k0_mult152 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_214 : BitVec 32 := 8#32
  let v273 : BitVec 32 := Scalar.muli v228 c8_i32_214
  v273
def k0_off227 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_214 : BitVec 32 := 8#32
  let v273 : BitVec 32 := Scalar.muli v228 c8_i32_214
  let v274 : BitVec 32 := v273
  let c0_i32_220 : BitVec 32 := 0#32
  ![v274.toNat, 0]
def k0_off228 (v271 : BitVec 32) : Fin 2 → Nat :=
  let v272 : BitVec 32 := v271
  let c0_i32_221 : BitVec 32 := 0#32
  ![v272.toNat, 0]

def k0_chk76 (i : grid0.Coords) (v271 : BitVec 32) : Prop :=
  (∀ (k0_h2 : k0_cond2 i = 1#1), 8 ∣ (k0_mult151 v271).toNat) ∧
  (∀ (k0_h2 : k0_cond2 i = 1#1), ∀ a, (k0_off228 v271) a + S8x128.size a ≤ S524288x128.size a)
theorem k0_mult151_dvd : ∀ (i : grid0.Coords) (v271 : BitVec 32) (k0_hw76 : k0_chk76 i v271), ∀ (k0_h2 : k0_cond2 i = 1#1), 8 ∣ (k0_mult151 v271).toNat := fun i v271 k0_hw76 k0_h2 => k0_hw76.1 k0_h2
theorem k0_off228_inb : ∀ (i : grid0.Coords) (v271 : BitVec 32) (k0_hw76 : k0_chk76 i v271), ∀ (k0_h2 : k0_cond2 i = 1#1), ∀ a, (k0_off228 v271) a + S8x128.size a ≤ S524288x128.size a := fun i v271 k0_hw76 k0_h2 => k0_hw76.2 k0_h2

def k0_off229 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_222 : BitVec 32 := 8#32
  let v281 : BitVec 32 := Scalar.muli v228 c8_i32_222
  let c4_i32_223 : BitVec 32 := 4#32
  let v282 : BitVec 32 := Scalar.addi v281 c4_i32_223
  let v283 : Index := Scalar.indexCast v282
  ![v283.toNat]
def k0_mult153 (v284 : BitVec 32) : BitVec 32 :=
  v284

def k0_mult154 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_224 : BitVec 32 := 8#32
  let v286 : BitVec 32 := Scalar.muli v228 c8_i32_224
  v286
def k0_off230 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_224 : BitVec 32 := 8#32
  let v286 : BitVec 32 := Scalar.muli v228 c8_i32_224
  let v287 : BitVec 32 := v286
  let c0_i32_230 : BitVec 32 := 0#32
  ![v287.toNat, 0]
def k0_off231 (v284 : BitVec 32) : Fin 2 → Nat :=
  let v285 : BitVec 32 := v284
  let c0_i32_231 : BitVec 32 := 0#32
  ![v285.toNat, 0]

def k0_chk77 (i : grid0.Coords) (v284 : BitVec 32) : Prop :=
  (∀ (k0_h2 : k0_cond2 i = 1#1), 8 ∣ (k0_mult153 v284).toNat) ∧
  (∀ (k0_h2 : k0_cond2 i = 1#1), ∀ a, (k0_off231 v284) a + S8x128.size a ≤ S524288x128.size a)
theorem k0_mult153_dvd : ∀ (i : grid0.Coords) (v284 : BitVec 32) (k0_hw77 : k0_chk77 i v284), ∀ (k0_h2 : k0_cond2 i = 1#1), 8 ∣ (k0_mult153 v284).toNat := fun i v284 k0_hw77 k0_h2 => k0_hw77.1 k0_h2
theorem k0_off231_inb : ∀ (i : grid0.Coords) (v284 : BitVec 32) (k0_hw77 : k0_chk77 i v284), ∀ (k0_h2 : k0_cond2 i = 1#1), ∀ a, (k0_off231 v284) a + S8x128.size a ≤ S524288x128.size a := fun i v284 k0_hw77 k0_h2 => k0_hw77.2 k0_h2

def k0_off232 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_232 : BitVec 32 := 8#32
  let v294 : BitVec 32 := Scalar.muli v228 c8_i32_232
  let c5_i32_233 : BitVec 32 := 5#32
  let v295 : BitVec 32 := Scalar.addi v294 c5_i32_233
  let v296 : Index := Scalar.indexCast v295
  ![v296.toNat]
def k0_mult155 (v297 : BitVec 32) : BitVec 32 :=
  v297

def k0_mult156 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_234 : BitVec 32 := 8#32
  let v299 : BitVec 32 := Scalar.muli v228 c8_i32_234
  v299
def k0_off233 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_234 : BitVec 32 := 8#32
  let v299 : BitVec 32 := Scalar.muli v228 c8_i32_234
  let v300 : BitVec 32 := v299
  let c0_i32_240 : BitVec 32 := 0#32
  ![v300.toNat, 0]
def k0_off234 (v297 : BitVec 32) : Fin 2 → Nat :=
  let v298 : BitVec 32 := v297
  let c0_i32_241 : BitVec 32 := 0#32
  ![v298.toNat, 0]

def k0_chk78 (i : grid0.Coords) (v297 : BitVec 32) : Prop :=
  (∀ (k0_h2 : k0_cond2 i = 1#1), 8 ∣ (k0_mult155 v297).toNat) ∧
  (∀ (k0_h2 : k0_cond2 i = 1#1), ∀ a, (k0_off234 v297) a + S8x128.size a ≤ S524288x128.size a)
theorem k0_mult155_dvd : ∀ (i : grid0.Coords) (v297 : BitVec 32) (k0_hw78 : k0_chk78 i v297), ∀ (k0_h2 : k0_cond2 i = 1#1), 8 ∣ (k0_mult155 v297).toNat := fun i v297 k0_hw78 k0_h2 => k0_hw78.1 k0_h2
theorem k0_off234_inb : ∀ (i : grid0.Coords) (v297 : BitVec 32) (k0_hw78 : k0_chk78 i v297), ∀ (k0_h2 : k0_cond2 i = 1#1), ∀ a, (k0_off234 v297) a + S8x128.size a ≤ S524288x128.size a := fun i v297 k0_hw78 k0_h2 => k0_hw78.2 k0_h2

def k0_off235 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_242 : BitVec 32 := 8#32
  let v307 : BitVec 32 := Scalar.muli v228 c8_i32_242
  let c6_i32_243 : BitVec 32 := 6#32
  let v308 : BitVec 32 := Scalar.addi v307 c6_i32_243
  let v309 : Index := Scalar.indexCast v308
  ![v309.toNat]
def k0_mult157 (v310 : BitVec 32) : BitVec 32 :=
  v310

def k0_mult158 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_244 : BitVec 32 := 8#32
  let v312 : BitVec 32 := Scalar.muli v228 c8_i32_244
  v312
def k0_off236 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_244 : BitVec 32 := 8#32
  let v312 : BitVec 32 := Scalar.muli v228 c8_i32_244
  let v313 : BitVec 32 := v312
  let c0_i32_250 : BitVec 32 := 0#32
  ![v313.toNat, 0]
def k0_off237 (v310 : BitVec 32) : Fin 2 → Nat :=
  let v311 : BitVec 32 := v310
  let c0_i32_251 : BitVec 32 := 0#32
  ![v311.toNat, 0]

def k0_chk79 (i : grid0.Coords) (v310 : BitVec 32) : Prop :=
  (∀ (k0_h2 : k0_cond2 i = 1#1), 8 ∣ (k0_mult157 v310).toNat) ∧
  (∀ (k0_h2 : k0_cond2 i = 1#1), ∀ a, (k0_off237 v310) a + S8x128.size a ≤ S524288x128.size a)
theorem k0_mult157_dvd : ∀ (i : grid0.Coords) (v310 : BitVec 32) (k0_hw79 : k0_chk79 i v310), ∀ (k0_h2 : k0_cond2 i = 1#1), 8 ∣ (k0_mult157 v310).toNat := fun i v310 k0_hw79 k0_h2 => k0_hw79.1 k0_h2
theorem k0_off237_inb : ∀ (i : grid0.Coords) (v310 : BitVec 32) (k0_hw79 : k0_chk79 i v310), ∀ (k0_h2 : k0_cond2 i = 1#1), ∀ a, (k0_off237 v310) a + S8x128.size a ≤ S524288x128.size a := fun i v310 k0_hw79 k0_h2 => k0_hw79.2 k0_h2

def k0_off238 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_252 : BitVec 32 := 8#32
  let v320 : BitVec 32 := Scalar.muli v228 c8_i32_252
  let c7_i32_253 : BitVec 32 := 7#32
  let v321 : BitVec 32 := Scalar.addi v320 c7_i32_253
  let v322 : Index := Scalar.indexCast v321
  ![v322.toNat]
def k0_mult159 (v323 : BitVec 32) : BitVec 32 :=
  v323

def k0_mult160 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_254 : BitVec 32 := 8#32
  let v325 : BitVec 32 := Scalar.muli v228 c8_i32_254
  v325
def k0_off239 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_180 : BitVec 32 := 8#32
  let v227 : BitVec 32 := Scalar.muli arg16 c8_i32_180
  let c1_i32_181 : BitVec 32 := 1#32
  let v228 : BitVec 32 := Scalar.addi v227 c1_i32_181
  let c8_i32_254 : BitVec 32 := 8#32
  let v325 : BitVec 32 := Scalar.muli v228 c8_i32_254
  let v326 : BitVec 32 := v325
  let c0_i32_260 : BitVec 32 := 0#32
  ![v326.toNat, 0]
def k0_off240 (v323 : BitVec 32) : Fin 2 → Nat :=
  let v324 : BitVec 32 := v323
  let c0_i32_261 : BitVec 32 := 0#32
  ![v324.toNat, 0]

def k0_chk80 (i : grid0.Coords) (v323 : BitVec 32) : Prop :=
  (∀ (k0_h2 : k0_cond2 i = 1#1), 8 ∣ (k0_mult159 v323).toNat) ∧
  (∀ (k0_h2 : k0_cond2 i = 1#1), ∀ a, (k0_off240 v323) a + S8x128.size a ≤ S524288x128.size a)
theorem k0_mult159_dvd : ∀ (i : grid0.Coords) (v323 : BitVec 32) (k0_hw80 : k0_chk80 i v323), ∀ (k0_h2 : k0_cond2 i = 1#1), 8 ∣ (k0_mult159 v323).toNat := fun i v323 k0_hw80 k0_h2 => k0_hw80.1 k0_h2
theorem k0_off240_inb : ∀ (i : grid0.Coords) (v323 : BitVec 32) (k0_hw80 : k0_chk80 i v323), ∀ (k0_h2 : k0_cond2 i = 1#1), ∀ a, (k0_off240 v323) a + S8x128.size a ≤ S524288x128.size a := fun i v323 k0_hw80 k0_h2 => k0_hw80.2 k0_h2

def k0_off241 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_264 : BitVec 32 := 8#32
  let v335 : BitVec 32 := Scalar.muli v334 c8_i32_264
  let c0_i32_265 : BitVec 32 := 0#32
  let v336 : BitVec 32 := Scalar.addi v335 c0_i32_265
  let v337 : Index := Scalar.indexCast v336
  ![v337.toNat]
def k0_mult161 (v338 : BitVec 32) : BitVec 32 :=
  v338

def k0_mult162 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_266 : BitVec 32 := 8#32
  let v340 : BitVec 32 := Scalar.muli v334 c8_i32_266
  v340
def k0_off242 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_266 : BitVec 32 := 8#32
  let v340 : BitVec 32 := Scalar.muli v334 c8_i32_266
  let v341 : BitVec 32 := v340
  let c0_i32_272 : BitVec 32 := 0#32
  ![v341.toNat, 0]
def k0_off243 (v338 : BitVec 32) : Fin 2 → Nat :=
  let v339 : BitVec 32 := v338
  let c0_i32_273 : BitVec 32 := 0#32
  ![v339.toNat, 0]

def k0_chk81 (i : grid0.Coords) (v338 : BitVec 32) : Prop :=
  (∀ (k0_h2 : k0_cond2 i = 1#1), 8 ∣ (k0_mult161 v338).toNat) ∧
  (∀ (k0_h2 : k0_cond2 i = 1#1), ∀ a, (k0_off243 v338) a + S8x128.size a ≤ S524288x128.size a)
theorem k0_mult161_dvd : ∀ (i : grid0.Coords) (v338 : BitVec 32) (k0_hw81 : k0_chk81 i v338), ∀ (k0_h2 : k0_cond2 i = 1#1), 8 ∣ (k0_mult161 v338).toNat := fun i v338 k0_hw81 k0_h2 => k0_hw81.1 k0_h2
theorem k0_off243_inb : ∀ (i : grid0.Coords) (v338 : BitVec 32) (k0_hw81 : k0_chk81 i v338), ∀ (k0_h2 : k0_cond2 i = 1#1), ∀ a, (k0_off243 v338) a + S8x128.size a ≤ S524288x128.size a := fun i v338 k0_hw81 k0_h2 => k0_hw81.2 k0_h2

def k0_off244 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_274 : BitVec 32 := 8#32
  let v348 : BitVec 32 := Scalar.muli v334 c8_i32_274
  let c1_i32_275 : BitVec 32 := 1#32
  let v349 : BitVec 32 := Scalar.addi v348 c1_i32_275
  let v350 : Index := Scalar.indexCast v349
  ![v350.toNat]
def k0_mult163 (v351 : BitVec 32) : BitVec 32 :=
  v351

def k0_mult164 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_276 : BitVec 32 := 8#32
  let v353 : BitVec 32 := Scalar.muli v334 c8_i32_276
  v353
def k0_off245 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_276 : BitVec 32 := 8#32
  let v353 : BitVec 32 := Scalar.muli v334 c8_i32_276
  let v354 : BitVec 32 := v353
  let c0_i32_282 : BitVec 32 := 0#32
  ![v354.toNat, 0]
def k0_off246 (v351 : BitVec 32) : Fin 2 → Nat :=
  let v352 : BitVec 32 := v351
  let c0_i32_283 : BitVec 32 := 0#32
  ![v352.toNat, 0]

def k0_chk82 (i : grid0.Coords) (v351 : BitVec 32) : Prop :=
  (∀ (k0_h2 : k0_cond2 i = 1#1), 8 ∣ (k0_mult163 v351).toNat) ∧
  (∀ (k0_h2 : k0_cond2 i = 1#1), ∀ a, (k0_off246 v351) a + S8x128.size a ≤ S524288x128.size a)
theorem k0_mult163_dvd : ∀ (i : grid0.Coords) (v351 : BitVec 32) (k0_hw82 : k0_chk82 i v351), ∀ (k0_h2 : k0_cond2 i = 1#1), 8 ∣ (k0_mult163 v351).toNat := fun i v351 k0_hw82 k0_h2 => k0_hw82.1 k0_h2
theorem k0_off246_inb : ∀ (i : grid0.Coords) (v351 : BitVec 32) (k0_hw82 : k0_chk82 i v351), ∀ (k0_h2 : k0_cond2 i = 1#1), ∀ a, (k0_off246 v351) a + S8x128.size a ≤ S524288x128.size a := fun i v351 k0_hw82 k0_h2 => k0_hw82.2 k0_h2

def k0_off247 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_284 : BitVec 32 := 8#32
  let v361 : BitVec 32 := Scalar.muli v334 c8_i32_284
  let c2_i32_285 : BitVec 32 := 2#32
  let v362 : BitVec 32 := Scalar.addi v361 c2_i32_285
  let v363 : Index := Scalar.indexCast v362
  ![v363.toNat]
def k0_mult165 (v364 : BitVec 32) : BitVec 32 :=
  v364

def k0_mult166 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_286 : BitVec 32 := 8#32
  let v366 : BitVec 32 := Scalar.muli v334 c8_i32_286
  v366
def k0_off248 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_286 : BitVec 32 := 8#32
  let v366 : BitVec 32 := Scalar.muli v334 c8_i32_286
  let v367 : BitVec 32 := v366
  let c0_i32_292 : BitVec 32 := 0#32
  ![v367.toNat, 0]
def k0_off249 (v364 : BitVec 32) : Fin 2 → Nat :=
  let v365 : BitVec 32 := v364
  let c0_i32_293 : BitVec 32 := 0#32
  ![v365.toNat, 0]

def k0_chk83 (i : grid0.Coords) (v364 : BitVec 32) : Prop :=
  (∀ (k0_h2 : k0_cond2 i = 1#1), 8 ∣ (k0_mult165 v364).toNat) ∧
  (∀ (k0_h2 : k0_cond2 i = 1#1), ∀ a, (k0_off249 v364) a + S8x128.size a ≤ S524288x128.size a)
theorem k0_mult165_dvd : ∀ (i : grid0.Coords) (v364 : BitVec 32) (k0_hw83 : k0_chk83 i v364), ∀ (k0_h2 : k0_cond2 i = 1#1), 8 ∣ (k0_mult165 v364).toNat := fun i v364 k0_hw83 k0_h2 => k0_hw83.1 k0_h2
theorem k0_off249_inb : ∀ (i : grid0.Coords) (v364 : BitVec 32) (k0_hw83 : k0_chk83 i v364), ∀ (k0_h2 : k0_cond2 i = 1#1), ∀ a, (k0_off249 v364) a + S8x128.size a ≤ S524288x128.size a := fun i v364 k0_hw83 k0_h2 => k0_hw83.2 k0_h2

def k0_off250 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_294 : BitVec 32 := 8#32
  let v374 : BitVec 32 := Scalar.muli v334 c8_i32_294
  let c3_i32_295 : BitVec 32 := 3#32
  let v375 : BitVec 32 := Scalar.addi v374 c3_i32_295
  let v376 : Index := Scalar.indexCast v375
  ![v376.toNat]
def k0_mult167 (v377 : BitVec 32) : BitVec 32 :=
  v377

def k0_mult168 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_296 : BitVec 32 := 8#32
  let v379 : BitVec 32 := Scalar.muli v334 c8_i32_296
  v379
def k0_off251 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_296 : BitVec 32 := 8#32
  let v379 : BitVec 32 := Scalar.muli v334 c8_i32_296
  let v380 : BitVec 32 := v379
  let c0_i32_302 : BitVec 32 := 0#32
  ![v380.toNat, 0]
def k0_off252 (v377 : BitVec 32) : Fin 2 → Nat :=
  let v378 : BitVec 32 := v377
  let c0_i32_303 : BitVec 32 := 0#32
  ![v378.toNat, 0]

def k0_chk84 (i : grid0.Coords) (v377 : BitVec 32) : Prop :=
  (∀ (k0_h2 : k0_cond2 i = 1#1), 8 ∣ (k0_mult167 v377).toNat) ∧
  (∀ (k0_h2 : k0_cond2 i = 1#1), ∀ a, (k0_off252 v377) a + S8x128.size a ≤ S524288x128.size a)
theorem k0_mult167_dvd : ∀ (i : grid0.Coords) (v377 : BitVec 32) (k0_hw84 : k0_chk84 i v377), ∀ (k0_h2 : k0_cond2 i = 1#1), 8 ∣ (k0_mult167 v377).toNat := fun i v377 k0_hw84 k0_h2 => k0_hw84.1 k0_h2
theorem k0_off252_inb : ∀ (i : grid0.Coords) (v377 : BitVec 32) (k0_hw84 : k0_chk84 i v377), ∀ (k0_h2 : k0_cond2 i = 1#1), ∀ a, (k0_off252 v377) a + S8x128.size a ≤ S524288x128.size a := fun i v377 k0_hw84 k0_h2 => k0_hw84.2 k0_h2

def k0_off253 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_304 : BitVec 32 := 8#32
  let v387 : BitVec 32 := Scalar.muli v334 c8_i32_304
  let c4_i32_305 : BitVec 32 := 4#32
  let v388 : BitVec 32 := Scalar.addi v387 c4_i32_305
  let v389 : Index := Scalar.indexCast v388
  ![v389.toNat]
def k0_mult169 (v390 : BitVec 32) : BitVec 32 :=
  v390

def k0_mult170 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_306 : BitVec 32 := 8#32
  let v392 : BitVec 32 := Scalar.muli v334 c8_i32_306
  v392
def k0_off254 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_306 : BitVec 32 := 8#32
  let v392 : BitVec 32 := Scalar.muli v334 c8_i32_306
  let v393 : BitVec 32 := v392
  let c0_i32_312 : BitVec 32 := 0#32
  ![v393.toNat, 0]
def k0_off255 (v390 : BitVec 32) : Fin 2 → Nat :=
  let v391 : BitVec 32 := v390
  let c0_i32_313 : BitVec 32 := 0#32
  ![v391.toNat, 0]

def k0_chk85 (i : grid0.Coords) (v390 : BitVec 32) : Prop :=
  (∀ (k0_h2 : k0_cond2 i = 1#1), 8 ∣ (k0_mult169 v390).toNat) ∧
  (∀ (k0_h2 : k0_cond2 i = 1#1), ∀ a, (k0_off255 v390) a + S8x128.size a ≤ S524288x128.size a)
theorem k0_mult169_dvd : ∀ (i : grid0.Coords) (v390 : BitVec 32) (k0_hw85 : k0_chk85 i v390), ∀ (k0_h2 : k0_cond2 i = 1#1), 8 ∣ (k0_mult169 v390).toNat := fun i v390 k0_hw85 k0_h2 => k0_hw85.1 k0_h2
theorem k0_off255_inb : ∀ (i : grid0.Coords) (v390 : BitVec 32) (k0_hw85 : k0_chk85 i v390), ∀ (k0_h2 : k0_cond2 i = 1#1), ∀ a, (k0_off255 v390) a + S8x128.size a ≤ S524288x128.size a := fun i v390 k0_hw85 k0_h2 => k0_hw85.2 k0_h2

def k0_off256 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_314 : BitVec 32 := 8#32
  let v400 : BitVec 32 := Scalar.muli v334 c8_i32_314
  let c5_i32_315 : BitVec 32 := 5#32
  let v401 : BitVec 32 := Scalar.addi v400 c5_i32_315
  let v402 : Index := Scalar.indexCast v401
  ![v402.toNat]
def k0_mult171 (v403 : BitVec 32) : BitVec 32 :=
  v403

def k0_mult172 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_316 : BitVec 32 := 8#32
  let v405 : BitVec 32 := Scalar.muli v334 c8_i32_316
  v405
def k0_off257 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_316 : BitVec 32 := 8#32
  let v405 : BitVec 32 := Scalar.muli v334 c8_i32_316
  let v406 : BitVec 32 := v405
  let c0_i32_322 : BitVec 32 := 0#32
  ![v406.toNat, 0]
def k0_off258 (v403 : BitVec 32) : Fin 2 → Nat :=
  let v404 : BitVec 32 := v403
  let c0_i32_323 : BitVec 32 := 0#32
  ![v404.toNat, 0]

def k0_chk86 (i : grid0.Coords) (v403 : BitVec 32) : Prop :=
  (∀ (k0_h2 : k0_cond2 i = 1#1), 8 ∣ (k0_mult171 v403).toNat) ∧
  (∀ (k0_h2 : k0_cond2 i = 1#1), ∀ a, (k0_off258 v403) a + S8x128.size a ≤ S524288x128.size a)
theorem k0_mult171_dvd : ∀ (i : grid0.Coords) (v403 : BitVec 32) (k0_hw86 : k0_chk86 i v403), ∀ (k0_h2 : k0_cond2 i = 1#1), 8 ∣ (k0_mult171 v403).toNat := fun i v403 k0_hw86 k0_h2 => k0_hw86.1 k0_h2
theorem k0_off258_inb : ∀ (i : grid0.Coords) (v403 : BitVec 32) (k0_hw86 : k0_chk86 i v403), ∀ (k0_h2 : k0_cond2 i = 1#1), ∀ a, (k0_off258 v403) a + S8x128.size a ≤ S524288x128.size a := fun i v403 k0_hw86 k0_h2 => k0_hw86.2 k0_h2

def k0_off259 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_324 : BitVec 32 := 8#32
  let v413 : BitVec 32 := Scalar.muli v334 c8_i32_324
  let c6_i32_325 : BitVec 32 := 6#32
  let v414 : BitVec 32 := Scalar.addi v413 c6_i32_325
  let v415 : Index := Scalar.indexCast v414
  ![v415.toNat]
def k0_mult173 (v416 : BitVec 32) : BitVec 32 :=
  v416

def k0_mult174 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_326 : BitVec 32 := 8#32
  let v418 : BitVec 32 := Scalar.muli v334 c8_i32_326
  v418
def k0_off260 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_326 : BitVec 32 := 8#32
  let v418 : BitVec 32 := Scalar.muli v334 c8_i32_326
  let v419 : BitVec 32 := v418
  let c0_i32_332 : BitVec 32 := 0#32
  ![v419.toNat, 0]
def k0_off261 (v416 : BitVec 32) : Fin 2 → Nat :=
  let v417 : BitVec 32 := v416
  let c0_i32_333 : BitVec 32 := 0#32
  ![v417.toNat, 0]

def k0_chk87 (i : grid0.Coords) (v416 : BitVec 32) : Prop :=
  (∀ (k0_h2 : k0_cond2 i = 1#1), 8 ∣ (k0_mult173 v416).toNat) ∧
  (∀ (k0_h2 : k0_cond2 i = 1#1), ∀ a, (k0_off261 v416) a + S8x128.size a ≤ S524288x128.size a)
theorem k0_mult173_dvd : ∀ (i : grid0.Coords) (v416 : BitVec 32) (k0_hw87 : k0_chk87 i v416), ∀ (k0_h2 : k0_cond2 i = 1#1), 8 ∣ (k0_mult173 v416).toNat := fun i v416 k0_hw87 k0_h2 => k0_hw87.1 k0_h2
theorem k0_off261_inb : ∀ (i : grid0.Coords) (v416 : BitVec 32) (k0_hw87 : k0_chk87 i v416), ∀ (k0_h2 : k0_cond2 i = 1#1), ∀ a, (k0_off261 v416) a + S8x128.size a ≤ S524288x128.size a := fun i v416 k0_hw87 k0_h2 => k0_hw87.2 k0_h2

def k0_off262 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_334 : BitVec 32 := 8#32
  let v426 : BitVec 32 := Scalar.muli v334 c8_i32_334
  let c7_i32_335 : BitVec 32 := 7#32
  let v427 : BitVec 32 := Scalar.addi v426 c7_i32_335
  let v428 : Index := Scalar.indexCast v427
  ![v428.toNat]
def k0_mult175 (v429 : BitVec 32) : BitVec 32 :=
  v429

def k0_mult176 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_336 : BitVec 32 := 8#32
  let v431 : BitVec 32 := Scalar.muli v334 c8_i32_336
  v431
def k0_off263 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_262 : BitVec 32 := 8#32
  let v333 : BitVec 32 := Scalar.muli arg16 c8_i32_262
  let c2_i32_263 : BitVec 32 := 2#32
  let v334 : BitVec 32 := Scalar.addi v333 c2_i32_263
  let c8_i32_336 : BitVec 32 := 8#32
  let v431 : BitVec 32 := Scalar.muli v334 c8_i32_336
  let v432 : BitVec 32 := v431
  let c0_i32_342 : BitVec 32 := 0#32
  ![v432.toNat, 0]
def k0_off264 (v429 : BitVec 32) : Fin 2 → Nat :=
  let v430 : BitVec 32 := v429
  let c0_i32_343 : BitVec 32 := 0#32
  ![v430.toNat, 0]

def k0_chk88 (i : grid0.Coords) (v429 : BitVec 32) : Prop :=
  (∀ (k0_h2 : k0_cond2 i = 1#1), 8 ∣ (k0_mult175 v429).toNat) ∧
  (∀ (k0_h2 : k0_cond2 i = 1#1), ∀ a, (k0_off264 v429) a + S8x128.size a ≤ S524288x128.size a)
theorem k0_mult175_dvd : ∀ (i : grid0.Coords) (v429 : BitVec 32) (k0_hw88 : k0_chk88 i v429), ∀ (k0_h2 : k0_cond2 i = 1#1), 8 ∣ (k0_mult175 v429).toNat := fun i v429 k0_hw88 k0_h2 => k0_hw88.1 k0_h2
theorem k0_off264_inb : ∀ (i : grid0.Coords) (v429 : BitVec 32) (k0_hw88 : k0_chk88 i v429), ∀ (k0_h2 : k0_cond2 i = 1#1), ∀ a, (k0_off264 v429) a + S8x128.size a ≤ S524288x128.size a := fun i v429 k0_hw88 k0_h2 => k0_hw88.2 k0_h2

def k0_off265 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_346 : BitVec 32 := 8#32
  let v441 : BitVec 32 := Scalar.muli v440 c8_i32_346
  let c0_i32_347 : BitVec 32 := 0#32
  let v442 : BitVec 32 := Scalar.addi v441 c0_i32_347
  let v443 : Index := Scalar.indexCast v442
  ![v443.toNat]
def k0_mult177 (v444 : BitVec 32) : BitVec 32 :=
  v444

def k0_mult178 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_348 : BitVec 32 := 8#32
  let v446 : BitVec 32 := Scalar.muli v440 c8_i32_348
  v446
def k0_off266 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_348 : BitVec 32 := 8#32
  let v446 : BitVec 32 := Scalar.muli v440 c8_i32_348
  let v447 : BitVec 32 := v446
  let c0_i32_354 : BitVec 32 := 0#32
  ![v447.toNat, 0]
def k0_off267 (v444 : BitVec 32) : Fin 2 → Nat :=
  let v445 : BitVec 32 := v444
  let c0_i32_355 : BitVec 32 := 0#32
  ![v445.toNat, 0]

def k0_chk89 (i : grid0.Coords) (v444 : BitVec 32) : Prop :=
  (∀ (k0_h2 : k0_cond2 i = 1#1), 8 ∣ (k0_mult177 v444).toNat) ∧
  (∀ (k0_h2 : k0_cond2 i = 1#1), ∀ a, (k0_off267 v444) a + S8x128.size a ≤ S524288x128.size a)
theorem k0_mult177_dvd : ∀ (i : grid0.Coords) (v444 : BitVec 32) (k0_hw89 : k0_chk89 i v444), ∀ (k0_h2 : k0_cond2 i = 1#1), 8 ∣ (k0_mult177 v444).toNat := fun i v444 k0_hw89 k0_h2 => k0_hw89.1 k0_h2
theorem k0_off267_inb : ∀ (i : grid0.Coords) (v444 : BitVec 32) (k0_hw89 : k0_chk89 i v444), ∀ (k0_h2 : k0_cond2 i = 1#1), ∀ a, (k0_off267 v444) a + S8x128.size a ≤ S524288x128.size a := fun i v444 k0_hw89 k0_h2 => k0_hw89.2 k0_h2

def k0_off268 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_356 : BitVec 32 := 8#32
  let v454 : BitVec 32 := Scalar.muli v440 c8_i32_356
  let c1_i32_357 : BitVec 32 := 1#32
  let v455 : BitVec 32 := Scalar.addi v454 c1_i32_357
  let v456 : Index := Scalar.indexCast v455
  ![v456.toNat]
def k0_mult179 (v457 : BitVec 32) : BitVec 32 :=
  v457

def k0_mult180 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_358 : BitVec 32 := 8#32
  let v459 : BitVec 32 := Scalar.muli v440 c8_i32_358
  v459
def k0_off269 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_358 : BitVec 32 := 8#32
  let v459 : BitVec 32 := Scalar.muli v440 c8_i32_358
  let v460 : BitVec 32 := v459
  let c0_i32_364 : BitVec 32 := 0#32
  ![v460.toNat, 0]
def k0_off270 (v457 : BitVec 32) : Fin 2 → Nat :=
  let v458 : BitVec 32 := v457
  let c0_i32_365 : BitVec 32 := 0#32
  ![v458.toNat, 0]

def k0_chk90 (i : grid0.Coords) (v457 : BitVec 32) : Prop :=
  (∀ (k0_h2 : k0_cond2 i = 1#1), 8 ∣ (k0_mult179 v457).toNat) ∧
  (∀ (k0_h2 : k0_cond2 i = 1#1), ∀ a, (k0_off270 v457) a + S8x128.size a ≤ S524288x128.size a)
theorem k0_mult179_dvd : ∀ (i : grid0.Coords) (v457 : BitVec 32) (k0_hw90 : k0_chk90 i v457), ∀ (k0_h2 : k0_cond2 i = 1#1), 8 ∣ (k0_mult179 v457).toNat := fun i v457 k0_hw90 k0_h2 => k0_hw90.1 k0_h2
theorem k0_off270_inb : ∀ (i : grid0.Coords) (v457 : BitVec 32) (k0_hw90 : k0_chk90 i v457), ∀ (k0_h2 : k0_cond2 i = 1#1), ∀ a, (k0_off270 v457) a + S8x128.size a ≤ S524288x128.size a := fun i v457 k0_hw90 k0_h2 => k0_hw90.2 k0_h2

def k0_off271 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_366 : BitVec 32 := 8#32
  let v467 : BitVec 32 := Scalar.muli v440 c8_i32_366
  let c2_i32_367 : BitVec 32 := 2#32
  let v468 : BitVec 32 := Scalar.addi v467 c2_i32_367
  let v469 : Index := Scalar.indexCast v468
  ![v469.toNat]
def k0_mult181 (v470 : BitVec 32) : BitVec 32 :=
  v470

def k0_mult182 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_368 : BitVec 32 := 8#32
  let v472 : BitVec 32 := Scalar.muli v440 c8_i32_368
  v472
def k0_off272 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_368 : BitVec 32 := 8#32
  let v472 : BitVec 32 := Scalar.muli v440 c8_i32_368
  let v473 : BitVec 32 := v472
  let c0_i32_374 : BitVec 32 := 0#32
  ![v473.toNat, 0]
def k0_off273 (v470 : BitVec 32) : Fin 2 → Nat :=
  let v471 : BitVec 32 := v470
  let c0_i32_375 : BitVec 32 := 0#32
  ![v471.toNat, 0]

def k0_chk91 (i : grid0.Coords) (v470 : BitVec 32) : Prop :=
  (∀ (k0_h2 : k0_cond2 i = 1#1), 8 ∣ (k0_mult181 v470).toNat) ∧
  (∀ (k0_h2 : k0_cond2 i = 1#1), ∀ a, (k0_off273 v470) a + S8x128.size a ≤ S524288x128.size a)
theorem k0_mult181_dvd : ∀ (i : grid0.Coords) (v470 : BitVec 32) (k0_hw91 : k0_chk91 i v470), ∀ (k0_h2 : k0_cond2 i = 1#1), 8 ∣ (k0_mult181 v470).toNat := fun i v470 k0_hw91 k0_h2 => k0_hw91.1 k0_h2
theorem k0_off273_inb : ∀ (i : grid0.Coords) (v470 : BitVec 32) (k0_hw91 : k0_chk91 i v470), ∀ (k0_h2 : k0_cond2 i = 1#1), ∀ a, (k0_off273 v470) a + S8x128.size a ≤ S524288x128.size a := fun i v470 k0_hw91 k0_h2 => k0_hw91.2 k0_h2

def k0_off274 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_376 : BitVec 32 := 8#32
  let v480 : BitVec 32 := Scalar.muli v440 c8_i32_376
  let c3_i32_377 : BitVec 32 := 3#32
  let v481 : BitVec 32 := Scalar.addi v480 c3_i32_377
  let v482 : Index := Scalar.indexCast v481
  ![v482.toNat]
def k0_mult183 (v483 : BitVec 32) : BitVec 32 :=
  v483

def k0_mult184 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_378 : BitVec 32 := 8#32
  let v485 : BitVec 32 := Scalar.muli v440 c8_i32_378
  v485
def k0_off275 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_378 : BitVec 32 := 8#32
  let v485 : BitVec 32 := Scalar.muli v440 c8_i32_378
  let v486 : BitVec 32 := v485
  let c0_i32_384 : BitVec 32 := 0#32
  ![v486.toNat, 0]
def k0_off276 (v483 : BitVec 32) : Fin 2 → Nat :=
  let v484 : BitVec 32 := v483
  let c0_i32_385 : BitVec 32 := 0#32
  ![v484.toNat, 0]

def k0_chk92 (i : grid0.Coords) (v483 : BitVec 32) : Prop :=
  (∀ (k0_h2 : k0_cond2 i = 1#1), 8 ∣ (k0_mult183 v483).toNat) ∧
  (∀ (k0_h2 : k0_cond2 i = 1#1), ∀ a, (k0_off276 v483) a + S8x128.size a ≤ S524288x128.size a)
theorem k0_mult183_dvd : ∀ (i : grid0.Coords) (v483 : BitVec 32) (k0_hw92 : k0_chk92 i v483), ∀ (k0_h2 : k0_cond2 i = 1#1), 8 ∣ (k0_mult183 v483).toNat := fun i v483 k0_hw92 k0_h2 => k0_hw92.1 k0_h2
theorem k0_off276_inb : ∀ (i : grid0.Coords) (v483 : BitVec 32) (k0_hw92 : k0_chk92 i v483), ∀ (k0_h2 : k0_cond2 i = 1#1), ∀ a, (k0_off276 v483) a + S8x128.size a ≤ S524288x128.size a := fun i v483 k0_hw92 k0_h2 => k0_hw92.2 k0_h2

def k0_off277 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_386 : BitVec 32 := 8#32
  let v493 : BitVec 32 := Scalar.muli v440 c8_i32_386
  let c4_i32_387 : BitVec 32 := 4#32
  let v494 : BitVec 32 := Scalar.addi v493 c4_i32_387
  let v495 : Index := Scalar.indexCast v494
  ![v495.toNat]
def k0_mult185 (v496 : BitVec 32) : BitVec 32 :=
  v496

def k0_mult186 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_388 : BitVec 32 := 8#32
  let v498 : BitVec 32 := Scalar.muli v440 c8_i32_388
  v498
def k0_off278 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_388 : BitVec 32 := 8#32
  let v498 : BitVec 32 := Scalar.muli v440 c8_i32_388
  let v499 : BitVec 32 := v498
  let c0_i32_394 : BitVec 32 := 0#32
  ![v499.toNat, 0]
def k0_off279 (v496 : BitVec 32) : Fin 2 → Nat :=
  let v497 : BitVec 32 := v496
  let c0_i32_395 : BitVec 32 := 0#32
  ![v497.toNat, 0]

def k0_chk93 (i : grid0.Coords) (v496 : BitVec 32) : Prop :=
  (∀ (k0_h2 : k0_cond2 i = 1#1), 8 ∣ (k0_mult185 v496).toNat) ∧
  (∀ (k0_h2 : k0_cond2 i = 1#1), ∀ a, (k0_off279 v496) a + S8x128.size a ≤ S524288x128.size a)
theorem k0_mult185_dvd : ∀ (i : grid0.Coords) (v496 : BitVec 32) (k0_hw93 : k0_chk93 i v496), ∀ (k0_h2 : k0_cond2 i = 1#1), 8 ∣ (k0_mult185 v496).toNat := fun i v496 k0_hw93 k0_h2 => k0_hw93.1 k0_h2
theorem k0_off279_inb : ∀ (i : grid0.Coords) (v496 : BitVec 32) (k0_hw93 : k0_chk93 i v496), ∀ (k0_h2 : k0_cond2 i = 1#1), ∀ a, (k0_off279 v496) a + S8x128.size a ≤ S524288x128.size a := fun i v496 k0_hw93 k0_h2 => k0_hw93.2 k0_h2

def k0_off280 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_396 : BitVec 32 := 8#32
  let v506 : BitVec 32 := Scalar.muli v440 c8_i32_396
  let c5_i32_397 : BitVec 32 := 5#32
  let v507 : BitVec 32 := Scalar.addi v506 c5_i32_397
  let v508 : Index := Scalar.indexCast v507
  ![v508.toNat]
def k0_mult187 (v509 : BitVec 32) : BitVec 32 :=
  v509

def k0_mult188 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_398 : BitVec 32 := 8#32
  let v511 : BitVec 32 := Scalar.muli v440 c8_i32_398
  v511
def k0_off281 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_398 : BitVec 32 := 8#32
  let v511 : BitVec 32 := Scalar.muli v440 c8_i32_398
  let v512 : BitVec 32 := v511
  let c0_i32_404 : BitVec 32 := 0#32
  ![v512.toNat, 0]
def k0_off282 (v509 : BitVec 32) : Fin 2 → Nat :=
  let v510 : BitVec 32 := v509
  let c0_i32_405 : BitVec 32 := 0#32
  ![v510.toNat, 0]

def k0_chk94 (i : grid0.Coords) (v509 : BitVec 32) : Prop :=
  (∀ (k0_h2 : k0_cond2 i = 1#1), 8 ∣ (k0_mult187 v509).toNat) ∧
  (∀ (k0_h2 : k0_cond2 i = 1#1), ∀ a, (k0_off282 v509) a + S8x128.size a ≤ S524288x128.size a)
theorem k0_mult187_dvd : ∀ (i : grid0.Coords) (v509 : BitVec 32) (k0_hw94 : k0_chk94 i v509), ∀ (k0_h2 : k0_cond2 i = 1#1), 8 ∣ (k0_mult187 v509).toNat := fun i v509 k0_hw94 k0_h2 => k0_hw94.1 k0_h2
theorem k0_off282_inb : ∀ (i : grid0.Coords) (v509 : BitVec 32) (k0_hw94 : k0_chk94 i v509), ∀ (k0_h2 : k0_cond2 i = 1#1), ∀ a, (k0_off282 v509) a + S8x128.size a ≤ S524288x128.size a := fun i v509 k0_hw94 k0_h2 => k0_hw94.2 k0_h2

def k0_off283 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_406 : BitVec 32 := 8#32
  let v519 : BitVec 32 := Scalar.muli v440 c8_i32_406
  let c6_i32_407 : BitVec 32 := 6#32
  let v520 : BitVec 32 := Scalar.addi v519 c6_i32_407
  let v521 : Index := Scalar.indexCast v520
  ![v521.toNat]
def k0_mult189 (v522 : BitVec 32) : BitVec 32 :=
  v522

def k0_mult190 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_408 : BitVec 32 := 8#32
  let v524 : BitVec 32 := Scalar.muli v440 c8_i32_408
  v524
def k0_off284 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_408 : BitVec 32 := 8#32
  let v524 : BitVec 32 := Scalar.muli v440 c8_i32_408
  let v525 : BitVec 32 := v524
  let c0_i32_414 : BitVec 32 := 0#32
  ![v525.toNat, 0]
def k0_off285 (v522 : BitVec 32) : Fin 2 → Nat :=
  let v523 : BitVec 32 := v522
  let c0_i32_415 : BitVec 32 := 0#32
  ![v523.toNat, 0]

def k0_chk95 (i : grid0.Coords) (v522 : BitVec 32) : Prop :=
  (∀ (k0_h2 : k0_cond2 i = 1#1), 8 ∣ (k0_mult189 v522).toNat) ∧
  (∀ (k0_h2 : k0_cond2 i = 1#1), ∀ a, (k0_off285 v522) a + S8x128.size a ≤ S524288x128.size a)
theorem k0_mult189_dvd : ∀ (i : grid0.Coords) (v522 : BitVec 32) (k0_hw95 : k0_chk95 i v522), ∀ (k0_h2 : k0_cond2 i = 1#1), 8 ∣ (k0_mult189 v522).toNat := fun i v522 k0_hw95 k0_h2 => k0_hw95.1 k0_h2
theorem k0_off285_inb : ∀ (i : grid0.Coords) (v522 : BitVec 32) (k0_hw95 : k0_chk95 i v522), ∀ (k0_h2 : k0_cond2 i = 1#1), ∀ a, (k0_off285 v522) a + S8x128.size a ≤ S524288x128.size a := fun i v522 k0_hw95 k0_h2 => k0_hw95.2 k0_h2

def k0_off286 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_416 : BitVec 32 := 8#32
  let v532 : BitVec 32 := Scalar.muli v440 c8_i32_416
  let c7_i32_417 : BitVec 32 := 7#32
  let v533 : BitVec 32 := Scalar.addi v532 c7_i32_417
  let v534 : Index := Scalar.indexCast v533
  ![v534.toNat]
def k0_mult191 (v535 : BitVec 32) : BitVec 32 :=
  v535

def k0_mult192 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_418 : BitVec 32 := 8#32
  let v537 : BitVec 32 := Scalar.muli v440 c8_i32_418
  v537
def k0_off287 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_344 : BitVec 32 := 8#32
  let v439 : BitVec 32 := Scalar.muli arg16 c8_i32_344
  let c3_i32_345 : BitVec 32 := 3#32
  let v440 : BitVec 32 := Scalar.addi v439 c3_i32_345
  let c8_i32_418 : BitVec 32 := 8#32
  let v537 : BitVec 32 := Scalar.muli v440 c8_i32_418
  let v538 : BitVec 32 := v537
  let c0_i32_424 : BitVec 32 := 0#32
  ![v538.toNat, 0]
def k0_off288 (v535 : BitVec 32) : Fin 2 → Nat :=
  let v536 : BitVec 32 := v535
  let c0_i32_425 : BitVec 32 := 0#32
  ![v536.toNat, 0]

def k0_chk96 (i : grid0.Coords) (v535 : BitVec 32) : Prop :=
  (∀ (k0_h2 : k0_cond2 i = 1#1), 8 ∣ (k0_mult191 v535).toNat) ∧
  (∀ (k0_h2 : k0_cond2 i = 1#1), ∀ a, (k0_off288 v535) a + S8x128.size a ≤ S524288x128.size a)
theorem k0_mult191_dvd : ∀ (i : grid0.Coords) (v535 : BitVec 32) (k0_hw96 : k0_chk96 i v535), ∀ (k0_h2 : k0_cond2 i = 1#1), 8 ∣ (k0_mult191 v535).toNat := fun i v535 k0_hw96 k0_h2 => k0_hw96.1 k0_h2
theorem k0_off288_inb : ∀ (i : grid0.Coords) (v535 : BitVec 32) (k0_hw96 : k0_chk96 i v535), ∀ (k0_h2 : k0_cond2 i = 1#1), ∀ a, (k0_off288 v535) a + S8x128.size a ≤ S524288x128.size a := fun i v535 k0_hw96 k0_h2 => k0_hw96.2 k0_h2

def k0_off289 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_428 : BitVec 32 := 8#32
  let v547 : BitVec 32 := Scalar.muli v546 c8_i32_428
  let c0_i32_429 : BitVec 32 := 0#32
  let v548 : BitVec 32 := Scalar.addi v547 c0_i32_429
  let v549 : Index := Scalar.indexCast v548
  ![v549.toNat]
def k0_mult193 (v550 : BitVec 32) : BitVec 32 :=
  v550

def k0_mult194 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_430 : BitVec 32 := 8#32
  let v552 : BitVec 32 := Scalar.muli v546 c8_i32_430
  v552
def k0_off290 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_430 : BitVec 32 := 8#32
  let v552 : BitVec 32 := Scalar.muli v546 c8_i32_430
  let v553 : BitVec 32 := v552
  let c0_i32_436 : BitVec 32 := 0#32
  ![v553.toNat, 0]
def k0_off291 (v550 : BitVec 32) : Fin 2 → Nat :=
  let v551 : BitVec 32 := v550
  let c0_i32_437 : BitVec 32 := 0#32
  ![v551.toNat, 0]

def k0_chk97 (i : grid0.Coords) (v550 : BitVec 32) : Prop :=
  (∀ (k0_h2 : k0_cond2 i = 1#1), 8 ∣ (k0_mult193 v550).toNat) ∧
  (∀ (k0_h2 : k0_cond2 i = 1#1), ∀ a, (k0_off291 v550) a + S8x128.size a ≤ S524288x128.size a)
theorem k0_mult193_dvd : ∀ (i : grid0.Coords) (v550 : BitVec 32) (k0_hw97 : k0_chk97 i v550), ∀ (k0_h2 : k0_cond2 i = 1#1), 8 ∣ (k0_mult193 v550).toNat := fun i v550 k0_hw97 k0_h2 => k0_hw97.1 k0_h2
theorem k0_off291_inb : ∀ (i : grid0.Coords) (v550 : BitVec 32) (k0_hw97 : k0_chk97 i v550), ∀ (k0_h2 : k0_cond2 i = 1#1), ∀ a, (k0_off291 v550) a + S8x128.size a ≤ S524288x128.size a := fun i v550 k0_hw97 k0_h2 => k0_hw97.2 k0_h2

def k0_off292 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_438 : BitVec 32 := 8#32
  let v560 : BitVec 32 := Scalar.muli v546 c8_i32_438
  let c1_i32_439 : BitVec 32 := 1#32
  let v561 : BitVec 32 := Scalar.addi v560 c1_i32_439
  let v562 : Index := Scalar.indexCast v561
  ![v562.toNat]
def k0_mult195 (v563 : BitVec 32) : BitVec 32 :=
  v563

def k0_mult196 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_440 : BitVec 32 := 8#32
  let v565 : BitVec 32 := Scalar.muli v546 c8_i32_440
  v565
def k0_off293 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_440 : BitVec 32 := 8#32
  let v565 : BitVec 32 := Scalar.muli v546 c8_i32_440
  let v566 : BitVec 32 := v565
  let c0_i32_446 : BitVec 32 := 0#32
  ![v566.toNat, 0]
def k0_off294 (v563 : BitVec 32) : Fin 2 → Nat :=
  let v564 : BitVec 32 := v563
  let c0_i32_447 : BitVec 32 := 0#32
  ![v564.toNat, 0]

def k0_chk98 (i : grid0.Coords) (v563 : BitVec 32) : Prop :=
  (∀ (k0_h2 : k0_cond2 i = 1#1), 8 ∣ (k0_mult195 v563).toNat) ∧
  (∀ (k0_h2 : k0_cond2 i = 1#1), ∀ a, (k0_off294 v563) a + S8x128.size a ≤ S524288x128.size a)
theorem k0_mult195_dvd : ∀ (i : grid0.Coords) (v563 : BitVec 32) (k0_hw98 : k0_chk98 i v563), ∀ (k0_h2 : k0_cond2 i = 1#1), 8 ∣ (k0_mult195 v563).toNat := fun i v563 k0_hw98 k0_h2 => k0_hw98.1 k0_h2
theorem k0_off294_inb : ∀ (i : grid0.Coords) (v563 : BitVec 32) (k0_hw98 : k0_chk98 i v563), ∀ (k0_h2 : k0_cond2 i = 1#1), ∀ a, (k0_off294 v563) a + S8x128.size a ≤ S524288x128.size a := fun i v563 k0_hw98 k0_h2 => k0_hw98.2 k0_h2

def k0_off295 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_448 : BitVec 32 := 8#32
  let v573 : BitVec 32 := Scalar.muli v546 c8_i32_448
  let c2_i32_449 : BitVec 32 := 2#32
  let v574 : BitVec 32 := Scalar.addi v573 c2_i32_449
  let v575 : Index := Scalar.indexCast v574
  ![v575.toNat]
def k0_mult197 (v576 : BitVec 32) : BitVec 32 :=
  v576

def k0_mult198 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_450 : BitVec 32 := 8#32
  let v578 : BitVec 32 := Scalar.muli v546 c8_i32_450
  v578
def k0_off296 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_450 : BitVec 32 := 8#32
  let v578 : BitVec 32 := Scalar.muli v546 c8_i32_450
  let v579 : BitVec 32 := v578
  let c0_i32_456 : BitVec 32 := 0#32
  ![v579.toNat, 0]
def k0_off297 (v576 : BitVec 32) : Fin 2 → Nat :=
  let v577 : BitVec 32 := v576
  let c0_i32_457 : BitVec 32 := 0#32
  ![v577.toNat, 0]

def k0_chk99 (i : grid0.Coords) (v576 : BitVec 32) : Prop :=
  (∀ (k0_h2 : k0_cond2 i = 1#1), 8 ∣ (k0_mult197 v576).toNat) ∧
  (∀ (k0_h2 : k0_cond2 i = 1#1), ∀ a, (k0_off297 v576) a + S8x128.size a ≤ S524288x128.size a)
theorem k0_mult197_dvd : ∀ (i : grid0.Coords) (v576 : BitVec 32) (k0_hw99 : k0_chk99 i v576), ∀ (k0_h2 : k0_cond2 i = 1#1), 8 ∣ (k0_mult197 v576).toNat := fun i v576 k0_hw99 k0_h2 => k0_hw99.1 k0_h2
theorem k0_off297_inb : ∀ (i : grid0.Coords) (v576 : BitVec 32) (k0_hw99 : k0_chk99 i v576), ∀ (k0_h2 : k0_cond2 i = 1#1), ∀ a, (k0_off297 v576) a + S8x128.size a ≤ S524288x128.size a := fun i v576 k0_hw99 k0_h2 => k0_hw99.2 k0_h2

def k0_off298 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_458 : BitVec 32 := 8#32
  let v586 : BitVec 32 := Scalar.muli v546 c8_i32_458
  let c3_i32_459 : BitVec 32 := 3#32
  let v587 : BitVec 32 := Scalar.addi v586 c3_i32_459
  let v588 : Index := Scalar.indexCast v587
  ![v588.toNat]
def k0_mult199 (v589 : BitVec 32) : BitVec 32 :=
  v589

def k0_mult200 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_460 : BitVec 32 := 8#32
  let v591 : BitVec 32 := Scalar.muli v546 c8_i32_460
  v591
def k0_off299 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_460 : BitVec 32 := 8#32
  let v591 : BitVec 32 := Scalar.muli v546 c8_i32_460
  let v592 : BitVec 32 := v591
  let c0_i32_466 : BitVec 32 := 0#32
  ![v592.toNat, 0]
def k0_off300 (v589 : BitVec 32) : Fin 2 → Nat :=
  let v590 : BitVec 32 := v589
  let c0_i32_467 : BitVec 32 := 0#32
  ![v590.toNat, 0]

def k0_chk100 (i : grid0.Coords) (v589 : BitVec 32) : Prop :=
  (∀ (k0_h2 : k0_cond2 i = 1#1), 8 ∣ (k0_mult199 v589).toNat) ∧
  (∀ (k0_h2 : k0_cond2 i = 1#1), ∀ a, (k0_off300 v589) a + S8x128.size a ≤ S524288x128.size a)
theorem k0_mult199_dvd : ∀ (i : grid0.Coords) (v589 : BitVec 32) (k0_hw100 : k0_chk100 i v589), ∀ (k0_h2 : k0_cond2 i = 1#1), 8 ∣ (k0_mult199 v589).toNat := fun i v589 k0_hw100 k0_h2 => k0_hw100.1 k0_h2
theorem k0_off300_inb : ∀ (i : grid0.Coords) (v589 : BitVec 32) (k0_hw100 : k0_chk100 i v589), ∀ (k0_h2 : k0_cond2 i = 1#1), ∀ a, (k0_off300 v589) a + S8x128.size a ≤ S524288x128.size a := fun i v589 k0_hw100 k0_h2 => k0_hw100.2 k0_h2

def k0_off301 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_468 : BitVec 32 := 8#32
  let v599 : BitVec 32 := Scalar.muli v546 c8_i32_468
  let c4_i32_469 : BitVec 32 := 4#32
  let v600 : BitVec 32 := Scalar.addi v599 c4_i32_469
  let v601 : Index := Scalar.indexCast v600
  ![v601.toNat]
def k0_mult201 (v602 : BitVec 32) : BitVec 32 :=
  v602

def k0_mult202 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_470 : BitVec 32 := 8#32
  let v604 : BitVec 32 := Scalar.muli v546 c8_i32_470
  v604
def k0_off302 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_470 : BitVec 32 := 8#32
  let v604 : BitVec 32 := Scalar.muli v546 c8_i32_470
  let v605 : BitVec 32 := v604
  let c0_i32_476 : BitVec 32 := 0#32
  ![v605.toNat, 0]
def k0_off303 (v602 : BitVec 32) : Fin 2 → Nat :=
  let v603 : BitVec 32 := v602
  let c0_i32_477 : BitVec 32 := 0#32
  ![v603.toNat, 0]

def k0_chk101 (i : grid0.Coords) (v602 : BitVec 32) : Prop :=
  (∀ (k0_h2 : k0_cond2 i = 1#1), 8 ∣ (k0_mult201 v602).toNat) ∧
  (∀ (k0_h2 : k0_cond2 i = 1#1), ∀ a, (k0_off303 v602) a + S8x128.size a ≤ S524288x128.size a)
theorem k0_mult201_dvd : ∀ (i : grid0.Coords) (v602 : BitVec 32) (k0_hw101 : k0_chk101 i v602), ∀ (k0_h2 : k0_cond2 i = 1#1), 8 ∣ (k0_mult201 v602).toNat := fun i v602 k0_hw101 k0_h2 => k0_hw101.1 k0_h2
theorem k0_off303_inb : ∀ (i : grid0.Coords) (v602 : BitVec 32) (k0_hw101 : k0_chk101 i v602), ∀ (k0_h2 : k0_cond2 i = 1#1), ∀ a, (k0_off303 v602) a + S8x128.size a ≤ S524288x128.size a := fun i v602 k0_hw101 k0_h2 => k0_hw101.2 k0_h2

def k0_off304 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_478 : BitVec 32 := 8#32
  let v612 : BitVec 32 := Scalar.muli v546 c8_i32_478
  let c5_i32_479 : BitVec 32 := 5#32
  let v613 : BitVec 32 := Scalar.addi v612 c5_i32_479
  let v614 : Index := Scalar.indexCast v613
  ![v614.toNat]
def k0_mult203 (v615 : BitVec 32) : BitVec 32 :=
  v615

def k0_mult204 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_480 : BitVec 32 := 8#32
  let v617 : BitVec 32 := Scalar.muli v546 c8_i32_480
  v617
def k0_off305 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_480 : BitVec 32 := 8#32
  let v617 : BitVec 32 := Scalar.muli v546 c8_i32_480
  let v618 : BitVec 32 := v617
  let c0_i32_486 : BitVec 32 := 0#32
  ![v618.toNat, 0]
def k0_off306 (v615 : BitVec 32) : Fin 2 → Nat :=
  let v616 : BitVec 32 := v615
  let c0_i32_487 : BitVec 32 := 0#32
  ![v616.toNat, 0]

def k0_chk102 (i : grid0.Coords) (v615 : BitVec 32) : Prop :=
  (∀ (k0_h2 : k0_cond2 i = 1#1), 8 ∣ (k0_mult203 v615).toNat) ∧
  (∀ (k0_h2 : k0_cond2 i = 1#1), ∀ a, (k0_off306 v615) a + S8x128.size a ≤ S524288x128.size a)
theorem k0_mult203_dvd : ∀ (i : grid0.Coords) (v615 : BitVec 32) (k0_hw102 : k0_chk102 i v615), ∀ (k0_h2 : k0_cond2 i = 1#1), 8 ∣ (k0_mult203 v615).toNat := fun i v615 k0_hw102 k0_h2 => k0_hw102.1 k0_h2
theorem k0_off306_inb : ∀ (i : grid0.Coords) (v615 : BitVec 32) (k0_hw102 : k0_chk102 i v615), ∀ (k0_h2 : k0_cond2 i = 1#1), ∀ a, (k0_off306 v615) a + S8x128.size a ≤ S524288x128.size a := fun i v615 k0_hw102 k0_h2 => k0_hw102.2 k0_h2

def k0_off307 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_488 : BitVec 32 := 8#32
  let v625 : BitVec 32 := Scalar.muli v546 c8_i32_488
  let c6_i32_489 : BitVec 32 := 6#32
  let v626 : BitVec 32 := Scalar.addi v625 c6_i32_489
  let v627 : Index := Scalar.indexCast v626
  ![v627.toNat]
def k0_mult205 (v628 : BitVec 32) : BitVec 32 :=
  v628

def k0_mult206 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_490 : BitVec 32 := 8#32
  let v630 : BitVec 32 := Scalar.muli v546 c8_i32_490
  v630
def k0_off308 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_490 : BitVec 32 := 8#32
  let v630 : BitVec 32 := Scalar.muli v546 c8_i32_490
  let v631 : BitVec 32 := v630
  let c0_i32_496 : BitVec 32 := 0#32
  ![v631.toNat, 0]
def k0_off309 (v628 : BitVec 32) : Fin 2 → Nat :=
  let v629 : BitVec 32 := v628
  let c0_i32_497 : BitVec 32 := 0#32
  ![v629.toNat, 0]

def k0_chk103 (i : grid0.Coords) (v628 : BitVec 32) : Prop :=
  (∀ (k0_h2 : k0_cond2 i = 1#1), 8 ∣ (k0_mult205 v628).toNat) ∧
  (∀ (k0_h2 : k0_cond2 i = 1#1), ∀ a, (k0_off309 v628) a + S8x128.size a ≤ S524288x128.size a)
theorem k0_mult205_dvd : ∀ (i : grid0.Coords) (v628 : BitVec 32) (k0_hw103 : k0_chk103 i v628), ∀ (k0_h2 : k0_cond2 i = 1#1), 8 ∣ (k0_mult205 v628).toNat := fun i v628 k0_hw103 k0_h2 => k0_hw103.1 k0_h2
theorem k0_off309_inb : ∀ (i : grid0.Coords) (v628 : BitVec 32) (k0_hw103 : k0_chk103 i v628), ∀ (k0_h2 : k0_cond2 i = 1#1), ∀ a, (k0_off309 v628) a + S8x128.size a ≤ S524288x128.size a := fun i v628 k0_hw103 k0_h2 => k0_hw103.2 k0_h2

def k0_off310 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_498 : BitVec 32 := 8#32
  let v638 : BitVec 32 := Scalar.muli v546 c8_i32_498
  let c7_i32_499 : BitVec 32 := 7#32
  let v639 : BitVec 32 := Scalar.addi v638 c7_i32_499
  let v640 : Index := Scalar.indexCast v639
  ![v640.toNat]
def k0_mult207 (v641 : BitVec 32) : BitVec 32 :=
  v641

def k0_mult208 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_500 : BitVec 32 := 8#32
  let v643 : BitVec 32 := Scalar.muli v546 c8_i32_500
  v643
def k0_off311 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_426 : BitVec 32 := 8#32
  let v545 : BitVec 32 := Scalar.muli arg16 c8_i32_426
  let c4_i32_427 : BitVec 32 := 4#32
  let v546 : BitVec 32 := Scalar.addi v545 c4_i32_427
  let c8_i32_500 : BitVec 32 := 8#32
  let v643 : BitVec 32 := Scalar.muli v546 c8_i32_500
  let v644 : BitVec 32 := v643
  let c0_i32_506 : BitVec 32 := 0#32
  ![v644.toNat, 0]
def k0_off312 (v641 : BitVec 32) : Fin 2 → Nat :=
  let v642 : BitVec 32 := v641
  let c0_i32_507 : BitVec 32 := 0#32
  ![v642.toNat, 0]

def k0_chk104 (i : grid0.Coords) (v641 : BitVec 32) : Prop :=
  (∀ (k0_h2 : k0_cond2 i = 1#1), 8 ∣ (k0_mult207 v641).toNat) ∧
  (∀ (k0_h2 : k0_cond2 i = 1#1), ∀ a, (k0_off312 v641) a + S8x128.size a ≤ S524288x128.size a)
theorem k0_mult207_dvd : ∀ (i : grid0.Coords) (v641 : BitVec 32) (k0_hw104 : k0_chk104 i v641), ∀ (k0_h2 : k0_cond2 i = 1#1), 8 ∣ (k0_mult207 v641).toNat := fun i v641 k0_hw104 k0_h2 => k0_hw104.1 k0_h2
theorem k0_off312_inb : ∀ (i : grid0.Coords) (v641 : BitVec 32) (k0_hw104 : k0_chk104 i v641), ∀ (k0_h2 : k0_cond2 i = 1#1), ∀ a, (k0_off312 v641) a + S8x128.size a ≤ S524288x128.size a := fun i v641 k0_hw104 k0_h2 => k0_hw104.2 k0_h2

def k0_off313 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_510 : BitVec 32 := 8#32
  let v653 : BitVec 32 := Scalar.muli v652 c8_i32_510
  let c0_i32_511 : BitVec 32 := 0#32
  let v654 : BitVec 32 := Scalar.addi v653 c0_i32_511
  let v655 : Index := Scalar.indexCast v654
  ![v655.toNat]
def k0_mult209 (v656 : BitVec 32) : BitVec 32 :=
  v656

def k0_mult210 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_512 : BitVec 32 := 8#32
  let v658 : BitVec 32 := Scalar.muli v652 c8_i32_512
  v658
def k0_off314 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_512 : BitVec 32 := 8#32
  let v658 : BitVec 32 := Scalar.muli v652 c8_i32_512
  let v659 : BitVec 32 := v658
  let c0_i32_518 : BitVec 32 := 0#32
  ![v659.toNat, 0]
def k0_off315 (v656 : BitVec 32) : Fin 2 → Nat :=
  let v657 : BitVec 32 := v656
  let c0_i32_519 : BitVec 32 := 0#32
  ![v657.toNat, 0]

def k0_chk105 (i : grid0.Coords) (v656 : BitVec 32) : Prop :=
  (∀ (k0_h2 : k0_cond2 i = 1#1), 8 ∣ (k0_mult209 v656).toNat) ∧
  (∀ (k0_h2 : k0_cond2 i = 1#1), ∀ a, (k0_off315 v656) a + S8x128.size a ≤ S524288x128.size a)
theorem k0_mult209_dvd : ∀ (i : grid0.Coords) (v656 : BitVec 32) (k0_hw105 : k0_chk105 i v656), ∀ (k0_h2 : k0_cond2 i = 1#1), 8 ∣ (k0_mult209 v656).toNat := fun i v656 k0_hw105 k0_h2 => k0_hw105.1 k0_h2
theorem k0_off315_inb : ∀ (i : grid0.Coords) (v656 : BitVec 32) (k0_hw105 : k0_chk105 i v656), ∀ (k0_h2 : k0_cond2 i = 1#1), ∀ a, (k0_off315 v656) a + S8x128.size a ≤ S524288x128.size a := fun i v656 k0_hw105 k0_h2 => k0_hw105.2 k0_h2

def k0_off316 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_520 : BitVec 32 := 8#32
  let v666 : BitVec 32 := Scalar.muli v652 c8_i32_520
  let c1_i32_521 : BitVec 32 := 1#32
  let v667 : BitVec 32 := Scalar.addi v666 c1_i32_521
  let v668 : Index := Scalar.indexCast v667
  ![v668.toNat]
def k0_mult211 (v669 : BitVec 32) : BitVec 32 :=
  v669

def k0_mult212 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_522 : BitVec 32 := 8#32
  let v671 : BitVec 32 := Scalar.muli v652 c8_i32_522
  v671
def k0_off317 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_522 : BitVec 32 := 8#32
  let v671 : BitVec 32 := Scalar.muli v652 c8_i32_522
  let v672 : BitVec 32 := v671
  let c0_i32_528 : BitVec 32 := 0#32
  ![v672.toNat, 0]
def k0_off318 (v669 : BitVec 32) : Fin 2 → Nat :=
  let v670 : BitVec 32 := v669
  let c0_i32_529 : BitVec 32 := 0#32
  ![v670.toNat, 0]

def k0_chk106 (i : grid0.Coords) (v669 : BitVec 32) : Prop :=
  (∀ (k0_h2 : k0_cond2 i = 1#1), 8 ∣ (k0_mult211 v669).toNat) ∧
  (∀ (k0_h2 : k0_cond2 i = 1#1), ∀ a, (k0_off318 v669) a + S8x128.size a ≤ S524288x128.size a)
theorem k0_mult211_dvd : ∀ (i : grid0.Coords) (v669 : BitVec 32) (k0_hw106 : k0_chk106 i v669), ∀ (k0_h2 : k0_cond2 i = 1#1), 8 ∣ (k0_mult211 v669).toNat := fun i v669 k0_hw106 k0_h2 => k0_hw106.1 k0_h2
theorem k0_off318_inb : ∀ (i : grid0.Coords) (v669 : BitVec 32) (k0_hw106 : k0_chk106 i v669), ∀ (k0_h2 : k0_cond2 i = 1#1), ∀ a, (k0_off318 v669) a + S8x128.size a ≤ S524288x128.size a := fun i v669 k0_hw106 k0_h2 => k0_hw106.2 k0_h2

def k0_off319 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_530 : BitVec 32 := 8#32
  let v679 : BitVec 32 := Scalar.muli v652 c8_i32_530
  let c2_i32_531 : BitVec 32 := 2#32
  let v680 : BitVec 32 := Scalar.addi v679 c2_i32_531
  let v681 : Index := Scalar.indexCast v680
  ![v681.toNat]
def k0_mult213 (v682 : BitVec 32) : BitVec 32 :=
  v682

def k0_mult214 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_532 : BitVec 32 := 8#32
  let v684 : BitVec 32 := Scalar.muli v652 c8_i32_532
  v684
def k0_off320 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_532 : BitVec 32 := 8#32
  let v684 : BitVec 32 := Scalar.muli v652 c8_i32_532
  let v685 : BitVec 32 := v684
  let c0_i32_538 : BitVec 32 := 0#32
  ![v685.toNat, 0]
def k0_off321 (v682 : BitVec 32) : Fin 2 → Nat :=
  let v683 : BitVec 32 := v682
  let c0_i32_539 : BitVec 32 := 0#32
  ![v683.toNat, 0]

def k0_chk107 (i : grid0.Coords) (v682 : BitVec 32) : Prop :=
  (∀ (k0_h2 : k0_cond2 i = 1#1), 8 ∣ (k0_mult213 v682).toNat) ∧
  (∀ (k0_h2 : k0_cond2 i = 1#1), ∀ a, (k0_off321 v682) a + S8x128.size a ≤ S524288x128.size a)
theorem k0_mult213_dvd : ∀ (i : grid0.Coords) (v682 : BitVec 32) (k0_hw107 : k0_chk107 i v682), ∀ (k0_h2 : k0_cond2 i = 1#1), 8 ∣ (k0_mult213 v682).toNat := fun i v682 k0_hw107 k0_h2 => k0_hw107.1 k0_h2
theorem k0_off321_inb : ∀ (i : grid0.Coords) (v682 : BitVec 32) (k0_hw107 : k0_chk107 i v682), ∀ (k0_h2 : k0_cond2 i = 1#1), ∀ a, (k0_off321 v682) a + S8x128.size a ≤ S524288x128.size a := fun i v682 k0_hw107 k0_h2 => k0_hw107.2 k0_h2

def k0_off322 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_540 : BitVec 32 := 8#32
  let v692 : BitVec 32 := Scalar.muli v652 c8_i32_540
  let c3_i32_541 : BitVec 32 := 3#32
  let v693 : BitVec 32 := Scalar.addi v692 c3_i32_541
  let v694 : Index := Scalar.indexCast v693
  ![v694.toNat]
def k0_mult215 (v695 : BitVec 32) : BitVec 32 :=
  v695

def k0_mult216 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_542 : BitVec 32 := 8#32
  let v697 : BitVec 32 := Scalar.muli v652 c8_i32_542
  v697
def k0_off323 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_542 : BitVec 32 := 8#32
  let v697 : BitVec 32 := Scalar.muli v652 c8_i32_542
  let v698 : BitVec 32 := v697
  let c0_i32_548 : BitVec 32 := 0#32
  ![v698.toNat, 0]
def k0_off324 (v695 : BitVec 32) : Fin 2 → Nat :=
  let v696 : BitVec 32 := v695
  let c0_i32_549 : BitVec 32 := 0#32
  ![v696.toNat, 0]

def k0_chk108 (i : grid0.Coords) (v695 : BitVec 32) : Prop :=
  (∀ (k0_h2 : k0_cond2 i = 1#1), 8 ∣ (k0_mult215 v695).toNat) ∧
  (∀ (k0_h2 : k0_cond2 i = 1#1), ∀ a, (k0_off324 v695) a + S8x128.size a ≤ S524288x128.size a)
theorem k0_mult215_dvd : ∀ (i : grid0.Coords) (v695 : BitVec 32) (k0_hw108 : k0_chk108 i v695), ∀ (k0_h2 : k0_cond2 i = 1#1), 8 ∣ (k0_mult215 v695).toNat := fun i v695 k0_hw108 k0_h2 => k0_hw108.1 k0_h2
theorem k0_off324_inb : ∀ (i : grid0.Coords) (v695 : BitVec 32) (k0_hw108 : k0_chk108 i v695), ∀ (k0_h2 : k0_cond2 i = 1#1), ∀ a, (k0_off324 v695) a + S8x128.size a ≤ S524288x128.size a := fun i v695 k0_hw108 k0_h2 => k0_hw108.2 k0_h2

def k0_off325 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_550 : BitVec 32 := 8#32
  let v705 : BitVec 32 := Scalar.muli v652 c8_i32_550
  let c4_i32_551 : BitVec 32 := 4#32
  let v706 : BitVec 32 := Scalar.addi v705 c4_i32_551
  let v707 : Index := Scalar.indexCast v706
  ![v707.toNat]
def k0_mult217 (v708 : BitVec 32) : BitVec 32 :=
  v708

def k0_mult218 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_552 : BitVec 32 := 8#32
  let v710 : BitVec 32 := Scalar.muli v652 c8_i32_552
  v710
def k0_off326 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_552 : BitVec 32 := 8#32
  let v710 : BitVec 32 := Scalar.muli v652 c8_i32_552
  let v711 : BitVec 32 := v710
  let c0_i32_558 : BitVec 32 := 0#32
  ![v711.toNat, 0]
def k0_off327 (v708 : BitVec 32) : Fin 2 → Nat :=
  let v709 : BitVec 32 := v708
  let c0_i32_559 : BitVec 32 := 0#32
  ![v709.toNat, 0]

def k0_chk109 (i : grid0.Coords) (v708 : BitVec 32) : Prop :=
  (∀ (k0_h2 : k0_cond2 i = 1#1), 8 ∣ (k0_mult217 v708).toNat) ∧
  (∀ (k0_h2 : k0_cond2 i = 1#1), ∀ a, (k0_off327 v708) a + S8x128.size a ≤ S524288x128.size a)
theorem k0_mult217_dvd : ∀ (i : grid0.Coords) (v708 : BitVec 32) (k0_hw109 : k0_chk109 i v708), ∀ (k0_h2 : k0_cond2 i = 1#1), 8 ∣ (k0_mult217 v708).toNat := fun i v708 k0_hw109 k0_h2 => k0_hw109.1 k0_h2
theorem k0_off327_inb : ∀ (i : grid0.Coords) (v708 : BitVec 32) (k0_hw109 : k0_chk109 i v708), ∀ (k0_h2 : k0_cond2 i = 1#1), ∀ a, (k0_off327 v708) a + S8x128.size a ≤ S524288x128.size a := fun i v708 k0_hw109 k0_h2 => k0_hw109.2 k0_h2

def k0_off328 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_560 : BitVec 32 := 8#32
  let v718 : BitVec 32 := Scalar.muli v652 c8_i32_560
  let c5_i32_561 : BitVec 32 := 5#32
  let v719 : BitVec 32 := Scalar.addi v718 c5_i32_561
  let v720 : Index := Scalar.indexCast v719
  ![v720.toNat]
def k0_mult219 (v721 : BitVec 32) : BitVec 32 :=
  v721

def k0_mult220 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_562 : BitVec 32 := 8#32
  let v723 : BitVec 32 := Scalar.muli v652 c8_i32_562
  v723
def k0_off329 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_562 : BitVec 32 := 8#32
  let v723 : BitVec 32 := Scalar.muli v652 c8_i32_562
  let v724 : BitVec 32 := v723
  let c0_i32_568 : BitVec 32 := 0#32
  ![v724.toNat, 0]
def k0_off330 (v721 : BitVec 32) : Fin 2 → Nat :=
  let v722 : BitVec 32 := v721
  let c0_i32_569 : BitVec 32 := 0#32
  ![v722.toNat, 0]

def k0_chk110 (i : grid0.Coords) (v721 : BitVec 32) : Prop :=
  (∀ (k0_h2 : k0_cond2 i = 1#1), 8 ∣ (k0_mult219 v721).toNat) ∧
  (∀ (k0_h2 : k0_cond2 i = 1#1), ∀ a, (k0_off330 v721) a + S8x128.size a ≤ S524288x128.size a)
theorem k0_mult219_dvd : ∀ (i : grid0.Coords) (v721 : BitVec 32) (k0_hw110 : k0_chk110 i v721), ∀ (k0_h2 : k0_cond2 i = 1#1), 8 ∣ (k0_mult219 v721).toNat := fun i v721 k0_hw110 k0_h2 => k0_hw110.1 k0_h2
theorem k0_off330_inb : ∀ (i : grid0.Coords) (v721 : BitVec 32) (k0_hw110 : k0_chk110 i v721), ∀ (k0_h2 : k0_cond2 i = 1#1), ∀ a, (k0_off330 v721) a + S8x128.size a ≤ S524288x128.size a := fun i v721 k0_hw110 k0_h2 => k0_hw110.2 k0_h2

def k0_off331 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_570 : BitVec 32 := 8#32
  let v731 : BitVec 32 := Scalar.muli v652 c8_i32_570
  let c6_i32_571 : BitVec 32 := 6#32
  let v732 : BitVec 32 := Scalar.addi v731 c6_i32_571
  let v733 : Index := Scalar.indexCast v732
  ![v733.toNat]
def k0_mult221 (v734 : BitVec 32) : BitVec 32 :=
  v734

def k0_mult222 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_572 : BitVec 32 := 8#32
  let v736 : BitVec 32 := Scalar.muli v652 c8_i32_572
  v736
def k0_off332 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_572 : BitVec 32 := 8#32
  let v736 : BitVec 32 := Scalar.muli v652 c8_i32_572
  let v737 : BitVec 32 := v736
  let c0_i32_578 : BitVec 32 := 0#32
  ![v737.toNat, 0]
def k0_off333 (v734 : BitVec 32) : Fin 2 → Nat :=
  let v735 : BitVec 32 := v734
  let c0_i32_579 : BitVec 32 := 0#32
  ![v735.toNat, 0]

def k0_chk111 (i : grid0.Coords) (v734 : BitVec 32) : Prop :=
  (∀ (k0_h2 : k0_cond2 i = 1#1), 8 ∣ (k0_mult221 v734).toNat) ∧
  (∀ (k0_h2 : k0_cond2 i = 1#1), ∀ a, (k0_off333 v734) a + S8x128.size a ≤ S524288x128.size a)
theorem k0_mult221_dvd : ∀ (i : grid0.Coords) (v734 : BitVec 32) (k0_hw111 : k0_chk111 i v734), ∀ (k0_h2 : k0_cond2 i = 1#1), 8 ∣ (k0_mult221 v734).toNat := fun i v734 k0_hw111 k0_h2 => k0_hw111.1 k0_h2
theorem k0_off333_inb : ∀ (i : grid0.Coords) (v734 : BitVec 32) (k0_hw111 : k0_chk111 i v734), ∀ (k0_h2 : k0_cond2 i = 1#1), ∀ a, (k0_off333 v734) a + S8x128.size a ≤ S524288x128.size a := fun i v734 k0_hw111 k0_h2 => k0_hw111.2 k0_h2

def k0_off334 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_580 : BitVec 32 := 8#32
  let v744 : BitVec 32 := Scalar.muli v652 c8_i32_580
  let c7_i32_581 : BitVec 32 := 7#32
  let v745 : BitVec 32 := Scalar.addi v744 c7_i32_581
  let v746 : Index := Scalar.indexCast v745
  ![v746.toNat]
def k0_mult223 (v747 : BitVec 32) : BitVec 32 :=
  v747

def k0_mult224 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_582 : BitVec 32 := 8#32
  let v749 : BitVec 32 := Scalar.muli v652 c8_i32_582
  v749
def k0_off335 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_508 : BitVec 32 := 8#32
  let v651 : BitVec 32 := Scalar.muli arg16 c8_i32_508
  let c5_i32_509 : BitVec 32 := 5#32
  let v652 : BitVec 32 := Scalar.addi v651 c5_i32_509
  let c8_i32_582 : BitVec 32 := 8#32
  let v749 : BitVec 32 := Scalar.muli v652 c8_i32_582
  let v750 : BitVec 32 := v749
  let c0_i32_588 : BitVec 32 := 0#32
  ![v750.toNat, 0]
def k0_off336 (v747 : BitVec 32) : Fin 2 → Nat :=
  let v748 : BitVec 32 := v747
  let c0_i32_589 : BitVec 32 := 0#32
  ![v748.toNat, 0]

def k0_chk112 (i : grid0.Coords) (v747 : BitVec 32) : Prop :=
  (∀ (k0_h2 : k0_cond2 i = 1#1), 8 ∣ (k0_mult223 v747).toNat) ∧
  (∀ (k0_h2 : k0_cond2 i = 1#1), ∀ a, (k0_off336 v747) a + S8x128.size a ≤ S524288x128.size a)
theorem k0_mult223_dvd : ∀ (i : grid0.Coords) (v747 : BitVec 32) (k0_hw112 : k0_chk112 i v747), ∀ (k0_h2 : k0_cond2 i = 1#1), 8 ∣ (k0_mult223 v747).toNat := fun i v747 k0_hw112 k0_h2 => k0_hw112.1 k0_h2
theorem k0_off336_inb : ∀ (i : grid0.Coords) (v747 : BitVec 32) (k0_hw112 : k0_chk112 i v747), ∀ (k0_h2 : k0_cond2 i = 1#1), ∀ a, (k0_off336 v747) a + S8x128.size a ≤ S524288x128.size a := fun i v747 k0_hw112 k0_h2 => k0_hw112.2 k0_h2

def k0_off337 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_592 : BitVec 32 := 8#32
  let v759 : BitVec 32 := Scalar.muli v758 c8_i32_592
  let c0_i32_593 : BitVec 32 := 0#32
  let v760 : BitVec 32 := Scalar.addi v759 c0_i32_593
  let v761 : Index := Scalar.indexCast v760
  ![v761.toNat]
def k0_mult225 (v762 : BitVec 32) : BitVec 32 :=
  v762

def k0_mult226 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_594 : BitVec 32 := 8#32
  let v764 : BitVec 32 := Scalar.muli v758 c8_i32_594
  v764
def k0_off338 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_594 : BitVec 32 := 8#32
  let v764 : BitVec 32 := Scalar.muli v758 c8_i32_594
  let v765 : BitVec 32 := v764
  let c0_i32_600 : BitVec 32 := 0#32
  ![v765.toNat, 0]
def k0_off339 (v762 : BitVec 32) : Fin 2 → Nat :=
  let v763 : BitVec 32 := v762
  let c0_i32_601 : BitVec 32 := 0#32
  ![v763.toNat, 0]

def k0_chk113 (i : grid0.Coords) (v762 : BitVec 32) : Prop :=
  (∀ (k0_h2 : k0_cond2 i = 1#1), 8 ∣ (k0_mult225 v762).toNat) ∧
  (∀ (k0_h2 : k0_cond2 i = 1#1), ∀ a, (k0_off339 v762) a + S8x128.size a ≤ S524288x128.size a)
theorem k0_mult225_dvd : ∀ (i : grid0.Coords) (v762 : BitVec 32) (k0_hw113 : k0_chk113 i v762), ∀ (k0_h2 : k0_cond2 i = 1#1), 8 ∣ (k0_mult225 v762).toNat := fun i v762 k0_hw113 k0_h2 => k0_hw113.1 k0_h2
theorem k0_off339_inb : ∀ (i : grid0.Coords) (v762 : BitVec 32) (k0_hw113 : k0_chk113 i v762), ∀ (k0_h2 : k0_cond2 i = 1#1), ∀ a, (k0_off339 v762) a + S8x128.size a ≤ S524288x128.size a := fun i v762 k0_hw113 k0_h2 => k0_hw113.2 k0_h2

def k0_off340 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_602 : BitVec 32 := 8#32
  let v772 : BitVec 32 := Scalar.muli v758 c8_i32_602
  let c1_i32_603 : BitVec 32 := 1#32
  let v773 : BitVec 32 := Scalar.addi v772 c1_i32_603
  let v774 : Index := Scalar.indexCast v773
  ![v774.toNat]
def k0_mult227 (v775 : BitVec 32) : BitVec 32 :=
  v775

def k0_mult228 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_604 : BitVec 32 := 8#32
  let v777 : BitVec 32 := Scalar.muli v758 c8_i32_604
  v777
def k0_off341 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_604 : BitVec 32 := 8#32
  let v777 : BitVec 32 := Scalar.muli v758 c8_i32_604
  let v778 : BitVec 32 := v777
  let c0_i32_610 : BitVec 32 := 0#32
  ![v778.toNat, 0]
def k0_off342 (v775 : BitVec 32) : Fin 2 → Nat :=
  let v776 : BitVec 32 := v775
  let c0_i32_611 : BitVec 32 := 0#32
  ![v776.toNat, 0]

def k0_chk114 (i : grid0.Coords) (v775 : BitVec 32) : Prop :=
  (∀ (k0_h2 : k0_cond2 i = 1#1), 8 ∣ (k0_mult227 v775).toNat) ∧
  (∀ (k0_h2 : k0_cond2 i = 1#1), ∀ a, (k0_off342 v775) a + S8x128.size a ≤ S524288x128.size a)
theorem k0_mult227_dvd : ∀ (i : grid0.Coords) (v775 : BitVec 32) (k0_hw114 : k0_chk114 i v775), ∀ (k0_h2 : k0_cond2 i = 1#1), 8 ∣ (k0_mult227 v775).toNat := fun i v775 k0_hw114 k0_h2 => k0_hw114.1 k0_h2
theorem k0_off342_inb : ∀ (i : grid0.Coords) (v775 : BitVec 32) (k0_hw114 : k0_chk114 i v775), ∀ (k0_h2 : k0_cond2 i = 1#1), ∀ a, (k0_off342 v775) a + S8x128.size a ≤ S524288x128.size a := fun i v775 k0_hw114 k0_h2 => k0_hw114.2 k0_h2

def k0_off343 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_612 : BitVec 32 := 8#32
  let v785 : BitVec 32 := Scalar.muli v758 c8_i32_612
  let c2_i32_613 : BitVec 32 := 2#32
  let v786 : BitVec 32 := Scalar.addi v785 c2_i32_613
  let v787 : Index := Scalar.indexCast v786
  ![v787.toNat]
def k0_mult229 (v788 : BitVec 32) : BitVec 32 :=
  v788

def k0_mult230 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_614 : BitVec 32 := 8#32
  let v790 : BitVec 32 := Scalar.muli v758 c8_i32_614
  v790
def k0_off344 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_614 : BitVec 32 := 8#32
  let v790 : BitVec 32 := Scalar.muli v758 c8_i32_614
  let v791 : BitVec 32 := v790
  let c0_i32_620 : BitVec 32 := 0#32
  ![v791.toNat, 0]
def k0_off345 (v788 : BitVec 32) : Fin 2 → Nat :=
  let v789 : BitVec 32 := v788
  let c0_i32_621 : BitVec 32 := 0#32
  ![v789.toNat, 0]

def k0_chk115 (i : grid0.Coords) (v788 : BitVec 32) : Prop :=
  (∀ (k0_h2 : k0_cond2 i = 1#1), 8 ∣ (k0_mult229 v788).toNat) ∧
  (∀ (k0_h2 : k0_cond2 i = 1#1), ∀ a, (k0_off345 v788) a + S8x128.size a ≤ S524288x128.size a)
theorem k0_mult229_dvd : ∀ (i : grid0.Coords) (v788 : BitVec 32) (k0_hw115 : k0_chk115 i v788), ∀ (k0_h2 : k0_cond2 i = 1#1), 8 ∣ (k0_mult229 v788).toNat := fun i v788 k0_hw115 k0_h2 => k0_hw115.1 k0_h2
theorem k0_off345_inb : ∀ (i : grid0.Coords) (v788 : BitVec 32) (k0_hw115 : k0_chk115 i v788), ∀ (k0_h2 : k0_cond2 i = 1#1), ∀ a, (k0_off345 v788) a + S8x128.size a ≤ S524288x128.size a := fun i v788 k0_hw115 k0_h2 => k0_hw115.2 k0_h2

def k0_off346 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_622 : BitVec 32 := 8#32
  let v798 : BitVec 32 := Scalar.muli v758 c8_i32_622
  let c3_i32_623 : BitVec 32 := 3#32
  let v799 : BitVec 32 := Scalar.addi v798 c3_i32_623
  let v800 : Index := Scalar.indexCast v799
  ![v800.toNat]
def k0_mult231 (v801 : BitVec 32) : BitVec 32 :=
  v801

def k0_mult232 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_624 : BitVec 32 := 8#32
  let v803 : BitVec 32 := Scalar.muli v758 c8_i32_624
  v803
def k0_off347 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_624 : BitVec 32 := 8#32
  let v803 : BitVec 32 := Scalar.muli v758 c8_i32_624
  let v804 : BitVec 32 := v803
  let c0_i32_630 : BitVec 32 := 0#32
  ![v804.toNat, 0]
def k0_off348 (v801 : BitVec 32) : Fin 2 → Nat :=
  let v802 : BitVec 32 := v801
  let c0_i32_631 : BitVec 32 := 0#32
  ![v802.toNat, 0]

def k0_chk116 (i : grid0.Coords) (v801 : BitVec 32) : Prop :=
  (∀ (k0_h2 : k0_cond2 i = 1#1), 8 ∣ (k0_mult231 v801).toNat) ∧
  (∀ (k0_h2 : k0_cond2 i = 1#1), ∀ a, (k0_off348 v801) a + S8x128.size a ≤ S524288x128.size a)
theorem k0_mult231_dvd : ∀ (i : grid0.Coords) (v801 : BitVec 32) (k0_hw116 : k0_chk116 i v801), ∀ (k0_h2 : k0_cond2 i = 1#1), 8 ∣ (k0_mult231 v801).toNat := fun i v801 k0_hw116 k0_h2 => k0_hw116.1 k0_h2
theorem k0_off348_inb : ∀ (i : grid0.Coords) (v801 : BitVec 32) (k0_hw116 : k0_chk116 i v801), ∀ (k0_h2 : k0_cond2 i = 1#1), ∀ a, (k0_off348 v801) a + S8x128.size a ≤ S524288x128.size a := fun i v801 k0_hw116 k0_h2 => k0_hw116.2 k0_h2

def k0_off349 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_632 : BitVec 32 := 8#32
  let v811 : BitVec 32 := Scalar.muli v758 c8_i32_632
  let c4_i32_633 : BitVec 32 := 4#32
  let v812 : BitVec 32 := Scalar.addi v811 c4_i32_633
  let v813 : Index := Scalar.indexCast v812
  ![v813.toNat]
def k0_mult233 (v814 : BitVec 32) : BitVec 32 :=
  v814

def k0_mult234 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_634 : BitVec 32 := 8#32
  let v816 : BitVec 32 := Scalar.muli v758 c8_i32_634
  v816
def k0_off350 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_634 : BitVec 32 := 8#32
  let v816 : BitVec 32 := Scalar.muli v758 c8_i32_634
  let v817 : BitVec 32 := v816
  let c0_i32_640 : BitVec 32 := 0#32
  ![v817.toNat, 0]
def k0_off351 (v814 : BitVec 32) : Fin 2 → Nat :=
  let v815 : BitVec 32 := v814
  let c0_i32_641 : BitVec 32 := 0#32
  ![v815.toNat, 0]

def k0_chk117 (i : grid0.Coords) (v814 : BitVec 32) : Prop :=
  (∀ (k0_h2 : k0_cond2 i = 1#1), 8 ∣ (k0_mult233 v814).toNat) ∧
  (∀ (k0_h2 : k0_cond2 i = 1#1), ∀ a, (k0_off351 v814) a + S8x128.size a ≤ S524288x128.size a)
theorem k0_mult233_dvd : ∀ (i : grid0.Coords) (v814 : BitVec 32) (k0_hw117 : k0_chk117 i v814), ∀ (k0_h2 : k0_cond2 i = 1#1), 8 ∣ (k0_mult233 v814).toNat := fun i v814 k0_hw117 k0_h2 => k0_hw117.1 k0_h2
theorem k0_off351_inb : ∀ (i : grid0.Coords) (v814 : BitVec 32) (k0_hw117 : k0_chk117 i v814), ∀ (k0_h2 : k0_cond2 i = 1#1), ∀ a, (k0_off351 v814) a + S8x128.size a ≤ S524288x128.size a := fun i v814 k0_hw117 k0_h2 => k0_hw117.2 k0_h2

def k0_off352 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_642 : BitVec 32 := 8#32
  let v824 : BitVec 32 := Scalar.muli v758 c8_i32_642
  let c5_i32_643 : BitVec 32 := 5#32
  let v825 : BitVec 32 := Scalar.addi v824 c5_i32_643
  let v826 : Index := Scalar.indexCast v825
  ![v826.toNat]
def k0_mult235 (v827 : BitVec 32) : BitVec 32 :=
  v827

def k0_mult236 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_644 : BitVec 32 := 8#32
  let v829 : BitVec 32 := Scalar.muli v758 c8_i32_644
  v829
def k0_off353 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_644 : BitVec 32 := 8#32
  let v829 : BitVec 32 := Scalar.muli v758 c8_i32_644
  let v830 : BitVec 32 := v829
  let c0_i32_650 : BitVec 32 := 0#32
  ![v830.toNat, 0]
def k0_off354 (v827 : BitVec 32) : Fin 2 → Nat :=
  let v828 : BitVec 32 := v827
  let c0_i32_651 : BitVec 32 := 0#32
  ![v828.toNat, 0]

def k0_chk118 (i : grid0.Coords) (v827 : BitVec 32) : Prop :=
  (∀ (k0_h2 : k0_cond2 i = 1#1), 8 ∣ (k0_mult235 v827).toNat) ∧
  (∀ (k0_h2 : k0_cond2 i = 1#1), ∀ a, (k0_off354 v827) a + S8x128.size a ≤ S524288x128.size a)
theorem k0_mult235_dvd : ∀ (i : grid0.Coords) (v827 : BitVec 32) (k0_hw118 : k0_chk118 i v827), ∀ (k0_h2 : k0_cond2 i = 1#1), 8 ∣ (k0_mult235 v827).toNat := fun i v827 k0_hw118 k0_h2 => k0_hw118.1 k0_h2
theorem k0_off354_inb : ∀ (i : grid0.Coords) (v827 : BitVec 32) (k0_hw118 : k0_chk118 i v827), ∀ (k0_h2 : k0_cond2 i = 1#1), ∀ a, (k0_off354 v827) a + S8x128.size a ≤ S524288x128.size a := fun i v827 k0_hw118 k0_h2 => k0_hw118.2 k0_h2

def k0_off355 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_652 : BitVec 32 := 8#32
  let v837 : BitVec 32 := Scalar.muli v758 c8_i32_652
  let c6_i32_653 : BitVec 32 := 6#32
  let v838 : BitVec 32 := Scalar.addi v837 c6_i32_653
  let v839 : Index := Scalar.indexCast v838
  ![v839.toNat]
def k0_mult237 (v840 : BitVec 32) : BitVec 32 :=
  v840

def k0_mult238 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_654 : BitVec 32 := 8#32
  let v842 : BitVec 32 := Scalar.muli v758 c8_i32_654
  v842
def k0_off356 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_654 : BitVec 32 := 8#32
  let v842 : BitVec 32 := Scalar.muli v758 c8_i32_654
  let v843 : BitVec 32 := v842
  let c0_i32_660 : BitVec 32 := 0#32
  ![v843.toNat, 0]
def k0_off357 (v840 : BitVec 32) : Fin 2 → Nat :=
  let v841 : BitVec 32 := v840
  let c0_i32_661 : BitVec 32 := 0#32
  ![v841.toNat, 0]

def k0_chk119 (i : grid0.Coords) (v840 : BitVec 32) : Prop :=
  (∀ (k0_h2 : k0_cond2 i = 1#1), 8 ∣ (k0_mult237 v840).toNat) ∧
  (∀ (k0_h2 : k0_cond2 i = 1#1), ∀ a, (k0_off357 v840) a + S8x128.size a ≤ S524288x128.size a)
theorem k0_mult237_dvd : ∀ (i : grid0.Coords) (v840 : BitVec 32) (k0_hw119 : k0_chk119 i v840), ∀ (k0_h2 : k0_cond2 i = 1#1), 8 ∣ (k0_mult237 v840).toNat := fun i v840 k0_hw119 k0_h2 => k0_hw119.1 k0_h2
theorem k0_off357_inb : ∀ (i : grid0.Coords) (v840 : BitVec 32) (k0_hw119 : k0_chk119 i v840), ∀ (k0_h2 : k0_cond2 i = 1#1), ∀ a, (k0_off357 v840) a + S8x128.size a ≤ S524288x128.size a := fun i v840 k0_hw119 k0_h2 => k0_hw119.2 k0_h2

def k0_off358 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_662 : BitVec 32 := 8#32
  let v850 : BitVec 32 := Scalar.muli v758 c8_i32_662
  let c7_i32_663 : BitVec 32 := 7#32
  let v851 : BitVec 32 := Scalar.addi v850 c7_i32_663
  let v852 : Index := Scalar.indexCast v851
  ![v852.toNat]
def k0_mult239 (v853 : BitVec 32) : BitVec 32 :=
  v853

def k0_mult240 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_664 : BitVec 32 := 8#32
  let v855 : BitVec 32 := Scalar.muli v758 c8_i32_664
  v855
def k0_off359 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_590 : BitVec 32 := 8#32
  let v757 : BitVec 32 := Scalar.muli arg16 c8_i32_590
  let c6_i32_591 : BitVec 32 := 6#32
  let v758 : BitVec 32 := Scalar.addi v757 c6_i32_591
  let c8_i32_664 : BitVec 32 := 8#32
  let v855 : BitVec 32 := Scalar.muli v758 c8_i32_664
  let v856 : BitVec 32 := v855
  let c0_i32_670 : BitVec 32 := 0#32
  ![v856.toNat, 0]
def k0_off360 (v853 : BitVec 32) : Fin 2 → Nat :=
  let v854 : BitVec 32 := v853
  let c0_i32_671 : BitVec 32 := 0#32
  ![v854.toNat, 0]

def k0_chk120 (i : grid0.Coords) (v853 : BitVec 32) : Prop :=
  (∀ (k0_h2 : k0_cond2 i = 1#1), 8 ∣ (k0_mult239 v853).toNat) ∧
  (∀ (k0_h2 : k0_cond2 i = 1#1), ∀ a, (k0_off360 v853) a + S8x128.size a ≤ S524288x128.size a)
theorem k0_mult239_dvd : ∀ (i : grid0.Coords) (v853 : BitVec 32) (k0_hw120 : k0_chk120 i v853), ∀ (k0_h2 : k0_cond2 i = 1#1), 8 ∣ (k0_mult239 v853).toNat := fun i v853 k0_hw120 k0_h2 => k0_hw120.1 k0_h2
theorem k0_off360_inb : ∀ (i : grid0.Coords) (v853 : BitVec 32) (k0_hw120 : k0_chk120 i v853), ∀ (k0_h2 : k0_cond2 i = 1#1), ∀ a, (k0_off360 v853) a + S8x128.size a ≤ S524288x128.size a := fun i v853 k0_hw120 k0_h2 => k0_hw120.2 k0_h2

def k0_off361 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_674 : BitVec 32 := 8#32
  let v865 : BitVec 32 := Scalar.muli v864 c8_i32_674
  let c0_i32_675 : BitVec 32 := 0#32
  let v866 : BitVec 32 := Scalar.addi v865 c0_i32_675
  let v867 : Index := Scalar.indexCast v866
  ![v867.toNat]
def k0_mult241 (v868 : BitVec 32) : BitVec 32 :=
  v868

def k0_mult242 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_676 : BitVec 32 := 8#32
  let v870 : BitVec 32 := Scalar.muli v864 c8_i32_676
  v870
def k0_off362 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_676 : BitVec 32 := 8#32
  let v870 : BitVec 32 := Scalar.muli v864 c8_i32_676
  let v871 : BitVec 32 := v870
  let c0_i32_682 : BitVec 32 := 0#32
  ![v871.toNat, 0]
def k0_off363 (v868 : BitVec 32) : Fin 2 → Nat :=
  let v869 : BitVec 32 := v868
  let c0_i32_683 : BitVec 32 := 0#32
  ![v869.toNat, 0]

def k0_chk121 (i : grid0.Coords) (v868 : BitVec 32) : Prop :=
  (∀ (k0_h2 : k0_cond2 i = 1#1), 8 ∣ (k0_mult241 v868).toNat) ∧
  (∀ (k0_h2 : k0_cond2 i = 1#1), ∀ a, (k0_off363 v868) a + S8x128.size a ≤ S524288x128.size a)
theorem k0_mult241_dvd : ∀ (i : grid0.Coords) (v868 : BitVec 32) (k0_hw121 : k0_chk121 i v868), ∀ (k0_h2 : k0_cond2 i = 1#1), 8 ∣ (k0_mult241 v868).toNat := fun i v868 k0_hw121 k0_h2 => k0_hw121.1 k0_h2
theorem k0_off363_inb : ∀ (i : grid0.Coords) (v868 : BitVec 32) (k0_hw121 : k0_chk121 i v868), ∀ (k0_h2 : k0_cond2 i = 1#1), ∀ a, (k0_off363 v868) a + S8x128.size a ≤ S524288x128.size a := fun i v868 k0_hw121 k0_h2 => k0_hw121.2 k0_h2

def k0_off364 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_684 : BitVec 32 := 8#32
  let v878 : BitVec 32 := Scalar.muli v864 c8_i32_684
  let c1_i32_685 : BitVec 32 := 1#32
  let v879 : BitVec 32 := Scalar.addi v878 c1_i32_685
  let v880 : Index := Scalar.indexCast v879
  ![v880.toNat]
def k0_mult243 (v881 : BitVec 32) : BitVec 32 :=
  v881

def k0_mult244 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_686 : BitVec 32 := 8#32
  let v883 : BitVec 32 := Scalar.muli v864 c8_i32_686
  v883
def k0_off365 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_686 : BitVec 32 := 8#32
  let v883 : BitVec 32 := Scalar.muli v864 c8_i32_686
  let v884 : BitVec 32 := v883
  let c0_i32_692 : BitVec 32 := 0#32
  ![v884.toNat, 0]
def k0_off366 (v881 : BitVec 32) : Fin 2 → Nat :=
  let v882 : BitVec 32 := v881
  let c0_i32_693 : BitVec 32 := 0#32
  ![v882.toNat, 0]

def k0_chk122 (i : grid0.Coords) (v881 : BitVec 32) : Prop :=
  (∀ (k0_h2 : k0_cond2 i = 1#1), 8 ∣ (k0_mult243 v881).toNat) ∧
  (∀ (k0_h2 : k0_cond2 i = 1#1), ∀ a, (k0_off366 v881) a + S8x128.size a ≤ S524288x128.size a)
theorem k0_mult243_dvd : ∀ (i : grid0.Coords) (v881 : BitVec 32) (k0_hw122 : k0_chk122 i v881), ∀ (k0_h2 : k0_cond2 i = 1#1), 8 ∣ (k0_mult243 v881).toNat := fun i v881 k0_hw122 k0_h2 => k0_hw122.1 k0_h2
theorem k0_off366_inb : ∀ (i : grid0.Coords) (v881 : BitVec 32) (k0_hw122 : k0_chk122 i v881), ∀ (k0_h2 : k0_cond2 i = 1#1), ∀ a, (k0_off366 v881) a + S8x128.size a ≤ S524288x128.size a := fun i v881 k0_hw122 k0_h2 => k0_hw122.2 k0_h2

def k0_off367 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_694 : BitVec 32 := 8#32
  let v891 : BitVec 32 := Scalar.muli v864 c8_i32_694
  let c2_i32_695 : BitVec 32 := 2#32
  let v892 : BitVec 32 := Scalar.addi v891 c2_i32_695
  let v893 : Index := Scalar.indexCast v892
  ![v893.toNat]
def k0_mult245 (v894 : BitVec 32) : BitVec 32 :=
  v894

def k0_mult246 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_696 : BitVec 32 := 8#32
  let v896 : BitVec 32 := Scalar.muli v864 c8_i32_696
  v896
def k0_off368 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_696 : BitVec 32 := 8#32
  let v896 : BitVec 32 := Scalar.muli v864 c8_i32_696
  let v897 : BitVec 32 := v896
  let c0_i32_702 : BitVec 32 := 0#32
  ![v897.toNat, 0]
def k0_off369 (v894 : BitVec 32) : Fin 2 → Nat :=
  let v895 : BitVec 32 := v894
  let c0_i32_703 : BitVec 32 := 0#32
  ![v895.toNat, 0]

def k0_chk123 (i : grid0.Coords) (v894 : BitVec 32) : Prop :=
  (∀ (k0_h2 : k0_cond2 i = 1#1), 8 ∣ (k0_mult245 v894).toNat) ∧
  (∀ (k0_h2 : k0_cond2 i = 1#1), ∀ a, (k0_off369 v894) a + S8x128.size a ≤ S524288x128.size a)
theorem k0_mult245_dvd : ∀ (i : grid0.Coords) (v894 : BitVec 32) (k0_hw123 : k0_chk123 i v894), ∀ (k0_h2 : k0_cond2 i = 1#1), 8 ∣ (k0_mult245 v894).toNat := fun i v894 k0_hw123 k0_h2 => k0_hw123.1 k0_h2
theorem k0_off369_inb : ∀ (i : grid0.Coords) (v894 : BitVec 32) (k0_hw123 : k0_chk123 i v894), ∀ (k0_h2 : k0_cond2 i = 1#1), ∀ a, (k0_off369 v894) a + S8x128.size a ≤ S524288x128.size a := fun i v894 k0_hw123 k0_h2 => k0_hw123.2 k0_h2

def k0_off370 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_704 : BitVec 32 := 8#32
  let v904 : BitVec 32 := Scalar.muli v864 c8_i32_704
  let c3_i32_705 : BitVec 32 := 3#32
  let v905 : BitVec 32 := Scalar.addi v904 c3_i32_705
  let v906 : Index := Scalar.indexCast v905
  ![v906.toNat]
def k0_mult247 (v907 : BitVec 32) : BitVec 32 :=
  v907

def k0_mult248 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_706 : BitVec 32 := 8#32
  let v909 : BitVec 32 := Scalar.muli v864 c8_i32_706
  v909
def k0_off371 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_706 : BitVec 32 := 8#32
  let v909 : BitVec 32 := Scalar.muli v864 c8_i32_706
  let v910 : BitVec 32 := v909
  let c0_i32_712 : BitVec 32 := 0#32
  ![v910.toNat, 0]
def k0_off372 (v907 : BitVec 32) : Fin 2 → Nat :=
  let v908 : BitVec 32 := v907
  let c0_i32_713 : BitVec 32 := 0#32
  ![v908.toNat, 0]

def k0_chk124 (i : grid0.Coords) (v907 : BitVec 32) : Prop :=
  (∀ (k0_h2 : k0_cond2 i = 1#1), 8 ∣ (k0_mult247 v907).toNat) ∧
  (∀ (k0_h2 : k0_cond2 i = 1#1), ∀ a, (k0_off372 v907) a + S8x128.size a ≤ S524288x128.size a)
theorem k0_mult247_dvd : ∀ (i : grid0.Coords) (v907 : BitVec 32) (k0_hw124 : k0_chk124 i v907), ∀ (k0_h2 : k0_cond2 i = 1#1), 8 ∣ (k0_mult247 v907).toNat := fun i v907 k0_hw124 k0_h2 => k0_hw124.1 k0_h2
theorem k0_off372_inb : ∀ (i : grid0.Coords) (v907 : BitVec 32) (k0_hw124 : k0_chk124 i v907), ∀ (k0_h2 : k0_cond2 i = 1#1), ∀ a, (k0_off372 v907) a + S8x128.size a ≤ S524288x128.size a := fun i v907 k0_hw124 k0_h2 => k0_hw124.2 k0_h2

def k0_off373 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_714 : BitVec 32 := 8#32
  let v917 : BitVec 32 := Scalar.muli v864 c8_i32_714
  let c4_i32_715 : BitVec 32 := 4#32
  let v918 : BitVec 32 := Scalar.addi v917 c4_i32_715
  let v919 : Index := Scalar.indexCast v918
  ![v919.toNat]
def k0_mult249 (v920 : BitVec 32) : BitVec 32 :=
  v920

def k0_mult250 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_716 : BitVec 32 := 8#32
  let v922 : BitVec 32 := Scalar.muli v864 c8_i32_716
  v922
def k0_off374 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_716 : BitVec 32 := 8#32
  let v922 : BitVec 32 := Scalar.muli v864 c8_i32_716
  let v923 : BitVec 32 := v922
  let c0_i32_722 : BitVec 32 := 0#32
  ![v923.toNat, 0]
def k0_off375 (v920 : BitVec 32) : Fin 2 → Nat :=
  let v921 : BitVec 32 := v920
  let c0_i32_723 : BitVec 32 := 0#32
  ![v921.toNat, 0]

def k0_chk125 (i : grid0.Coords) (v920 : BitVec 32) : Prop :=
  (∀ (k0_h2 : k0_cond2 i = 1#1), 8 ∣ (k0_mult249 v920).toNat) ∧
  (∀ (k0_h2 : k0_cond2 i = 1#1), ∀ a, (k0_off375 v920) a + S8x128.size a ≤ S524288x128.size a)
theorem k0_mult249_dvd : ∀ (i : grid0.Coords) (v920 : BitVec 32) (k0_hw125 : k0_chk125 i v920), ∀ (k0_h2 : k0_cond2 i = 1#1), 8 ∣ (k0_mult249 v920).toNat := fun i v920 k0_hw125 k0_h2 => k0_hw125.1 k0_h2
theorem k0_off375_inb : ∀ (i : grid0.Coords) (v920 : BitVec 32) (k0_hw125 : k0_chk125 i v920), ∀ (k0_h2 : k0_cond2 i = 1#1), ∀ a, (k0_off375 v920) a + S8x128.size a ≤ S524288x128.size a := fun i v920 k0_hw125 k0_h2 => k0_hw125.2 k0_h2

def k0_off376 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_724 : BitVec 32 := 8#32
  let v930 : BitVec 32 := Scalar.muli v864 c8_i32_724
  let c5_i32_725 : BitVec 32 := 5#32
  let v931 : BitVec 32 := Scalar.addi v930 c5_i32_725
  let v932 : Index := Scalar.indexCast v931
  ![v932.toNat]
def k0_mult251 (v933 : BitVec 32) : BitVec 32 :=
  v933

def k0_mult252 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_726 : BitVec 32 := 8#32
  let v935 : BitVec 32 := Scalar.muli v864 c8_i32_726
  v935
def k0_off377 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_726 : BitVec 32 := 8#32
  let v935 : BitVec 32 := Scalar.muli v864 c8_i32_726
  let v936 : BitVec 32 := v935
  let c0_i32_732 : BitVec 32 := 0#32
  ![v936.toNat, 0]
def k0_off378 (v933 : BitVec 32) : Fin 2 → Nat :=
  let v934 : BitVec 32 := v933
  let c0_i32_733 : BitVec 32 := 0#32
  ![v934.toNat, 0]

def k0_chk126 (i : grid0.Coords) (v933 : BitVec 32) : Prop :=
  (∀ (k0_h2 : k0_cond2 i = 1#1), 8 ∣ (k0_mult251 v933).toNat) ∧
  (∀ (k0_h2 : k0_cond2 i = 1#1), ∀ a, (k0_off378 v933) a + S8x128.size a ≤ S524288x128.size a)
theorem k0_mult251_dvd : ∀ (i : grid0.Coords) (v933 : BitVec 32) (k0_hw126 : k0_chk126 i v933), ∀ (k0_h2 : k0_cond2 i = 1#1), 8 ∣ (k0_mult251 v933).toNat := fun i v933 k0_hw126 k0_h2 => k0_hw126.1 k0_h2
theorem k0_off378_inb : ∀ (i : grid0.Coords) (v933 : BitVec 32) (k0_hw126 : k0_chk126 i v933), ∀ (k0_h2 : k0_cond2 i = 1#1), ∀ a, (k0_off378 v933) a + S8x128.size a ≤ S524288x128.size a := fun i v933 k0_hw126 k0_h2 => k0_hw126.2 k0_h2

def k0_off379 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_734 : BitVec 32 := 8#32
  let v943 : BitVec 32 := Scalar.muli v864 c8_i32_734
  let c6_i32_735 : BitVec 32 := 6#32
  let v944 : BitVec 32 := Scalar.addi v943 c6_i32_735
  let v945 : Index := Scalar.indexCast v944
  ![v945.toNat]
def k0_mult253 (v946 : BitVec 32) : BitVec 32 :=
  v946

def k0_mult254 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_736 : BitVec 32 := 8#32
  let v948 : BitVec 32 := Scalar.muli v864 c8_i32_736
  v948
def k0_off380 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_736 : BitVec 32 := 8#32
  let v948 : BitVec 32 := Scalar.muli v864 c8_i32_736
  let v949 : BitVec 32 := v948
  let c0_i32_742 : BitVec 32 := 0#32
  ![v949.toNat, 0]
def k0_off381 (v946 : BitVec 32) : Fin 2 → Nat :=
  let v947 : BitVec 32 := v946
  let c0_i32_743 : BitVec 32 := 0#32
  ![v947.toNat, 0]

def k0_chk127 (i : grid0.Coords) (v946 : BitVec 32) : Prop :=
  (∀ (k0_h2 : k0_cond2 i = 1#1), 8 ∣ (k0_mult253 v946).toNat) ∧
  (∀ (k0_h2 : k0_cond2 i = 1#1), ∀ a, (k0_off381 v946) a + S8x128.size a ≤ S524288x128.size a)
theorem k0_mult253_dvd : ∀ (i : grid0.Coords) (v946 : BitVec 32) (k0_hw127 : k0_chk127 i v946), ∀ (k0_h2 : k0_cond2 i = 1#1), 8 ∣ (k0_mult253 v946).toNat := fun i v946 k0_hw127 k0_h2 => k0_hw127.1 k0_h2
theorem k0_off381_inb : ∀ (i : grid0.Coords) (v946 : BitVec 32) (k0_hw127 : k0_chk127 i v946), ∀ (k0_h2 : k0_cond2 i = 1#1), ∀ a, (k0_off381 v946) a + S8x128.size a ≤ S524288x128.size a := fun i v946 k0_hw127 k0_h2 => k0_hw127.2 k0_h2

def k0_off382 (k0_t2 : Fin k0_t2_loop.trips) : Fin 1 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_744 : BitVec 32 := 8#32
  let v956 : BitVec 32 := Scalar.muli v864 c8_i32_744
  let c7_i32_745 : BitVec 32 := 7#32
  let v957 : BitVec 32 := Scalar.addi v956 c7_i32_745
  let v958 : Index := Scalar.indexCast v957
  ![v958.toNat]
def k0_mult255 (v959 : BitVec 32) : BitVec 32 :=
  v959

def k0_mult256 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_746 : BitVec 32 := 8#32
  let v961 : BitVec 32 := Scalar.muli v864 c8_i32_746
  v961
def k0_off383 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_672 : BitVec 32 := 8#32
  let v863 : BitVec 32 := Scalar.muli arg16 c8_i32_672
  let c7_i32_673 : BitVec 32 := 7#32
  let v864 : BitVec 32 := Scalar.addi v863 c7_i32_673
  let c8_i32_746 : BitVec 32 := 8#32
  let v961 : BitVec 32 := Scalar.muli v864 c8_i32_746
  let v962 : BitVec 32 := v961
  let c0_i32_752 : BitVec 32 := 0#32
  ![v962.toNat, 0]
def k0_off384 (v959 : BitVec 32) : Fin 2 → Nat :=
  let v960 : BitVec 32 := v959
  let c0_i32_753 : BitVec 32 := 0#32
  ![v960.toNat, 0]

def k0_chk128 (i : grid0.Coords) (v959 : BitVec 32) : Prop :=
  (∀ (k0_h2 : k0_cond2 i = 1#1), 8 ∣ (k0_mult255 v959).toNat) ∧
  (∀ (k0_h2 : k0_cond2 i = 1#1), ∀ a, (k0_off384 v959) a + S8x128.size a ≤ S524288x128.size a)
theorem k0_mult255_dvd : ∀ (i : grid0.Coords) (v959 : BitVec 32) (k0_hw128 : k0_chk128 i v959), ∀ (k0_h2 : k0_cond2 i = 1#1), 8 ∣ (k0_mult255 v959).toNat := fun i v959 k0_hw128 k0_h2 => k0_hw128.1 k0_h2
theorem k0_off384_inb : ∀ (i : grid0.Coords) (v959 : BitVec 32) (k0_hw128 : k0_chk128 i v959), ∀ (k0_h2 : k0_cond2 i = 1#1), ∀ a, (k0_off384 v959) a + S8x128.size a ≤ S524288x128.size a := fun i v959 k0_hw128 k0_h2 => k0_hw128.2 k0_h2

def k0_mult257 (k0_t2 : Fin k0_t2_loop.trips) : BitVec 32 :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  v969
def k0_off385 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v971 : Index := Scalar.indexCast v970
  let c0_755 : Index := 0#32
  ![v971.toNat, 0]
def k0_off386 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v981 : Index := Scalar.indexCast v970
  let c0_756 : Index := 0#32
  ![v981.toNat, 0]
def k0_off387 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v983 : Index := Scalar.indexCast v970
  let c1024 : Index := 1024#32
  ![v983.toNat, 1024]
def k0_off388 (k0_t2 : Fin k0_t2_loop.trips) (c0_i32_757 : BitVec 32) : Fin 4 → Nat :=
  let c0_758 : Index := 0#32
  let c0_759 : Index := 0#32
  let c0_i32_95 : BitVec 32 := 0#32
  let c1_i32_96 : BitVec 32 := 1#32
  let arg16 : BitVec 32 := Scf.iv c0_i32_95 c1_i32_96 k0_t2
  let c64_i32 : BitVec 32 := 64#32
  let v985 : BitVec 32 := Scalar.muli arg16 c64_i32
  let v986 : BitVec 32 := Scalar.addi v985 c0_i32_757
  let v987 : Index := Scalar.indexCast v986
  let c0_760 : Index := 0#32
  ![0, 0, v987.toNat, 0]
def k0_off389 (k0_t2 : Fin k0_t2_loop.trips) (c0_i32_762 : BitVec 32) : Fin 4 → Nat :=
  let c0_763 : Index := 0#32
  let c1_764 : Index := 1#32
  let c0_i32_95 : BitVec 32 := 0#32
  let c1_i32_96 : BitVec 32 := 1#32
  let arg16 : BitVec 32 := Scf.iv c0_i32_95 c1_i32_96 k0_t2
  let c64_i32_761 : BitVec 32 := 64#32
  let v998 : BitVec 32 := Scalar.muli arg16 c64_i32_761
  let v999 : BitVec 32 := Scalar.addi v998 c0_i32_762
  let v1000 : Index := Scalar.indexCast v999
  let c0_765 : Index := 0#32
  ![0, 1, v1000.toNat, 0]
def k0_off390 (k0_t2 : Fin k0_t2_loop.trips) (c0_i32_767 : BitVec 32) : Fin 4 → Nat :=
  let c0_768 : Index := 0#32
  let c2_769 : Index := 2#32
  let c0_i32_95 : BitVec 32 := 0#32
  let c1_i32_96 : BitVec 32 := 1#32
  let arg16 : BitVec 32 := Scf.iv c0_i32_95 c1_i32_96 k0_t2
  let c64_i32_766 : BitVec 32 := 64#32
  let v1011 : BitVec 32 := Scalar.muli arg16 c64_i32_766
  let v1012 : BitVec 32 := Scalar.addi v1011 c0_i32_767
  let v1013 : Index := Scalar.indexCast v1012
  let c0_770 : Index := 0#32
  ![0, 2, v1013.toNat, 0]
def k0_off391 (k0_t2 : Fin k0_t2_loop.trips) (c0_i32_772 : BitVec 32) : Fin 4 → Nat :=
  let c0_773 : Index := 0#32
  let c3_774 : Index := 3#32
  let c0_i32_95 : BitVec 32 := 0#32
  let c1_i32_96 : BitVec 32 := 1#32
  let arg16 : BitVec 32 := Scf.iv c0_i32_95 c1_i32_96 k0_t2
  let c64_i32_771 : BitVec 32 := 64#32
  let v1024 : BitVec 32 := Scalar.muli arg16 c64_i32_771
  let v1025 : BitVec 32 := Scalar.addi v1024 c0_i32_772
  let v1026 : Index := Scalar.indexCast v1025
  let c0_775 : Index := 0#32
  ![0, 3, v1026.toNat, 0]
def k0_off392 (k0_t2 : Fin k0_t2_loop.trips) (c0_i32_777 : BitVec 32) : Fin 4 → Nat :=
  let c0_778 : Index := 0#32
  let c4_779 : Index := 4#32
  let c0_i32_95 : BitVec 32 := 0#32
  let c1_i32_96 : BitVec 32 := 1#32
  let arg16 : BitVec 32 := Scf.iv c0_i32_95 c1_i32_96 k0_t2
  let c64_i32_776 : BitVec 32 := 64#32
  let v1037 : BitVec 32 := Scalar.muli arg16 c64_i32_776
  let v1038 : BitVec 32 := Scalar.addi v1037 c0_i32_777
  let v1039 : Index := Scalar.indexCast v1038
  let c0_780 : Index := 0#32
  ![0, 4, v1039.toNat, 0]
def k0_off393 (k0_t2 : Fin k0_t2_loop.trips) (c0_i32_782 : BitVec 32) : Fin 4 → Nat :=
  let c0_783 : Index := 0#32
  let c5_784 : Index := 5#32
  let c0_i32_95 : BitVec 32 := 0#32
  let c1_i32_96 : BitVec 32 := 1#32
  let arg16 : BitVec 32 := Scf.iv c0_i32_95 c1_i32_96 k0_t2
  let c64_i32_781 : BitVec 32 := 64#32
  let v1050 : BitVec 32 := Scalar.muli arg16 c64_i32_781
  let v1051 : BitVec 32 := Scalar.addi v1050 c0_i32_782
  let v1052 : Index := Scalar.indexCast v1051
  let c0_785 : Index := 0#32
  ![0, 5, v1052.toNat, 0]
def k0_off394 (k0_t2 : Fin k0_t2_loop.trips) (c0_i32_787 : BitVec 32) : Fin 4 → Nat :=
  let c0_788 : Index := 0#32
  let c6_789 : Index := 6#32
  let c0_i32_95 : BitVec 32 := 0#32
  let c1_i32_96 : BitVec 32 := 1#32
  let arg16 : BitVec 32 := Scf.iv c0_i32_95 c1_i32_96 k0_t2
  let c64_i32_786 : BitVec 32 := 64#32
  let v1063 : BitVec 32 := Scalar.muli arg16 c64_i32_786
  let v1064 : BitVec 32 := Scalar.addi v1063 c0_i32_787
  let v1065 : Index := Scalar.indexCast v1064
  let c0_790 : Index := 0#32
  ![0, 6, v1065.toNat, 0]
def k0_off395 (k0_t2 : Fin k0_t2_loop.trips) (c0_i32_792 : BitVec 32) : Fin 4 → Nat :=
  let c0_793 : Index := 0#32
  let c7_794 : Index := 7#32
  let c0_i32_95 : BitVec 32 := 0#32
  let c1_i32_96 : BitVec 32 := 1#32
  let arg16 : BitVec 32 := Scf.iv c0_i32_95 c1_i32_96 k0_t2
  let c64_i32_791 : BitVec 32 := 64#32
  let v1076 : BitVec 32 := Scalar.muli arg16 c64_i32_791
  let v1077 : BitVec 32 := Scalar.addi v1076 c0_i32_792
  let v1078 : Index := Scalar.indexCast v1077
  let c0_795 : Index := 0#32
  ![0, 7, v1078.toNat, 0]
def k0_off396 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1097 : Index := Scalar.indexCast v970
  let c128 : Index := 128#32
  ![v1097.toNat, 128]
def k0_off397 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1099 : Index := Scalar.indexCast v970
  let c1152 : Index := 1152#32
  ![v1099.toNat, 1152]
def k0_off398 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1213 : Index := Scalar.indexCast v970
  let c256 : Index := 256#32
  ![v1213.toNat, 256]
def k0_off399 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1215 : Index := Scalar.indexCast v970
  let c1280 : Index := 1280#32
  ![v1215.toNat, 1280]
def k0_off400 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1329 : Index := Scalar.indexCast v970
  let c384 : Index := 384#32
  ![v1329.toNat, 384]
def k0_off401 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1331 : Index := Scalar.indexCast v970
  let c1408 : Index := 1408#32
  ![v1331.toNat, 1408]
def k0_off402 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1445 : Index := Scalar.indexCast v970
  let c512 : Index := 512#32
  ![v1445.toNat, 512]
def k0_off403 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1447 : Index := Scalar.indexCast v970
  let c1536 : Index := 1536#32
  ![v1447.toNat, 1536]
def k0_off404 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1561 : Index := Scalar.indexCast v970
  let c640 : Index := 640#32
  ![v1561.toNat, 640]
def k0_off405 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1563 : Index := Scalar.indexCast v970
  let c1664 : Index := 1664#32
  ![v1563.toNat, 1664]
def k0_off406 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1677 : Index := Scalar.indexCast v970
  let c768 : Index := 768#32
  ![v1677.toNat, 768]
def k0_off407 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1679 : Index := Scalar.indexCast v970
  let c1792 : Index := 1792#32
  ![v1679.toNat, 1792]
def k0_off408 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1793 : Index := Scalar.indexCast v970
  let c896 : Index := 896#32
  ![v1793.toNat, 896]
def k0_off409 (k0_t2 : Fin k0_t2_loop.trips) : Fin 2 → Nat :=
  let c0_i32_95 : BitVec 32 := 0#32
  let c1_i32_96 : BitVec 32 := 1#32
  let arg16 : BitVec 32 := Scf.iv c0_i32_95 c1_i32_96 k0_t2
  let c8_i32_754 : BitVec 32 := 8#32
  let v969 : BitVec 32 := Scalar.muli arg16 c8_i32_754
  let v970 : BitVec 32 := v969
  let v1795 : Index := Scalar.indexCast v970
  let c1920 : Index := 1920#32
  ![v1795.toNat, 1920]
def k0_cond4 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_28 : BitVec 32 := 1#32
  let v52 : BitVec 1 := Scalar.cmpi .eq v9 c1_i32_28
  let v53 : BitVec 32 := Scalar.extui v52
  let c0_i32_29 : BitVec 32 := 0#32
  let v54 : BitVec 1 := Scalar.cmpi .ne v53 c0_i32_29
  v54

@[reducible] def k0_t3_loop : Scf.Loop 32 :=
  let c0_i32_95 : BitVec 32 := 0#32
  let c32_i32 : BitVec 32 := 32#32
  let v117 : BitVec 32 := Scalar.addi c0_i32_95 c32_i32
  let c1_i32_96 : BitVec 32 := 1#32
  ⟨c0_i32_95, v117, c1_i32_96⟩
def k0_off410 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_100 : BitVec 32 := 8#32
  let v123 : BitVec 32 := Scalar.muli v122 c8_i32_100
  let c0_i32_101 : BitVec 32 := 0#32
  let v124 : BitVec 32 := Scalar.addi v123 c0_i32_101
  let v125 : Index := Scalar.indexCast v124
  ![v125.toNat]
def k0_mult258 (v126 : BitVec 32) : BitVec 32 :=
  v126

def k0_mult259 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_102 : BitVec 32 := 8#32
  let v128 : BitVec 32 := Scalar.muli v122 c8_i32_102
  v128
def k0_off411 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_102 : BitVec 32 := 8#32
  let v128 : BitVec 32 := Scalar.muli v122 c8_i32_102
  let v129 : BitVec 32 := v128
  let c0_i32_108 : BitVec 32 := 0#32
  ![v129.toNat, 0]
def k0_off412 (v126 : BitVec 32) : Fin 2 → Nat :=
  let v127 : BitVec 32 := v126
  let c0_i32_109 : BitVec 32 := 0#32
  ![v127.toNat, 0]

def k0_chk129 (i : grid0.Coords) (v126 : BitVec 32) : Prop :=
  (∀ (k0_h4 : k0_cond4 i = 1#1), 8 ∣ (k0_mult258 v126).toNat) ∧
  (∀ (k0_h4 : k0_cond4 i = 1#1), ∀ a, (k0_off412 v126) a + S8x128.size a ≤ S524288x128.size a)
theorem k0_mult258_dvd : ∀ (i : grid0.Coords) (v126 : BitVec 32) (k0_hw129 : k0_chk129 i v126), ∀ (k0_h4 : k0_cond4 i = 1#1), 8 ∣ (k0_mult258 v126).toNat := fun i v126 k0_hw129 k0_h4 => k0_hw129.1 k0_h4
theorem k0_off412_inb : ∀ (i : grid0.Coords) (v126 : BitVec 32) (k0_hw129 : k0_chk129 i v126), ∀ (k0_h4 : k0_cond4 i = 1#1), ∀ a, (k0_off412 v126) a + S8x128.size a ≤ S524288x128.size a := fun i v126 k0_hw129 k0_h4 => k0_hw129.2 k0_h4

def k0_off413 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_110 : BitVec 32 := 8#32
  let v136 : BitVec 32 := Scalar.muli v122 c8_i32_110
  let c1_i32_111 : BitVec 32 := 1#32
  let v137 : BitVec 32 := Scalar.addi v136 c1_i32_111
  let v138 : Index := Scalar.indexCast v137
  ![v138.toNat]
def k0_mult260 (v139 : BitVec 32) : BitVec 32 :=
  v139

def k0_mult261 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_112 : BitVec 32 := 8#32
  let v141 : BitVec 32 := Scalar.muli v122 c8_i32_112
  v141
def k0_off414 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_112 : BitVec 32 := 8#32
  let v141 : BitVec 32 := Scalar.muli v122 c8_i32_112
  let v142 : BitVec 32 := v141
  let c0_i32_118 : BitVec 32 := 0#32
  ![v142.toNat, 0]
def k0_off415 (v139 : BitVec 32) : Fin 2 → Nat :=
  let v140 : BitVec 32 := v139
  let c0_i32_119 : BitVec 32 := 0#32
  ![v140.toNat, 0]

def k0_chk130 (i : grid0.Coords) (v139 : BitVec 32) : Prop :=
  (∀ (k0_h4 : k0_cond4 i = 1#1), 8 ∣ (k0_mult260 v139).toNat) ∧
  (∀ (k0_h4 : k0_cond4 i = 1#1), ∀ a, (k0_off415 v139) a + S8x128.size a ≤ S524288x128.size a)
theorem k0_mult260_dvd : ∀ (i : grid0.Coords) (v139 : BitVec 32) (k0_hw130 : k0_chk130 i v139), ∀ (k0_h4 : k0_cond4 i = 1#1), 8 ∣ (k0_mult260 v139).toNat := fun i v139 k0_hw130 k0_h4 => k0_hw130.1 k0_h4
theorem k0_off415_inb : ∀ (i : grid0.Coords) (v139 : BitVec 32) (k0_hw130 : k0_chk130 i v139), ∀ (k0_h4 : k0_cond4 i = 1#1), ∀ a, (k0_off415 v139) a + S8x128.size a ≤ S524288x128.size a := fun i v139 k0_hw130 k0_h4 => k0_hw130.2 k0_h4

def k0_off416 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_120 : BitVec 32 := 8#32
  let v149 : BitVec 32 := Scalar.muli v122 c8_i32_120
  let c2_i32_121 : BitVec 32 := 2#32
  let v150 : BitVec 32 := Scalar.addi v149 c2_i32_121
  let v151 : Index := Scalar.indexCast v150
  ![v151.toNat]
def k0_mult262 (v152 : BitVec 32) : BitVec 32 :=
  v152

def k0_mult263 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_122 : BitVec 32 := 8#32
  let v154 : BitVec 32 := Scalar.muli v122 c8_i32_122
  v154
def k0_off417 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_122 : BitVec 32 := 8#32
  let v154 : BitVec 32 := Scalar.muli v122 c8_i32_122
  let v155 : BitVec 32 := v154
  let c0_i32_128 : BitVec 32 := 0#32
  ![v155.toNat, 0]
def k0_off418 (v152 : BitVec 32) : Fin 2 → Nat :=
  let v153 : BitVec 32 := v152
  let c0_i32_129 : BitVec 32 := 0#32
  ![v153.toNat, 0]

def k0_chk131 (i : grid0.Coords) (v152 : BitVec 32) : Prop :=
  (∀ (k0_h4 : k0_cond4 i = 1#1), 8 ∣ (k0_mult262 v152).toNat) ∧
  (∀ (k0_h4 : k0_cond4 i = 1#1), ∀ a, (k0_off418 v152) a + S8x128.size a ≤ S524288x128.size a)
theorem k0_mult262_dvd : ∀ (i : grid0.Coords) (v152 : BitVec 32) (k0_hw131 : k0_chk131 i v152), ∀ (k0_h4 : k0_cond4 i = 1#1), 8 ∣ (k0_mult262 v152).toNat := fun i v152 k0_hw131 k0_h4 => k0_hw131.1 k0_h4
theorem k0_off418_inb : ∀ (i : grid0.Coords) (v152 : BitVec 32) (k0_hw131 : k0_chk131 i v152), ∀ (k0_h4 : k0_cond4 i = 1#1), ∀ a, (k0_off418 v152) a + S8x128.size a ≤ S524288x128.size a := fun i v152 k0_hw131 k0_h4 => k0_hw131.2 k0_h4

def k0_off419 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_130 : BitVec 32 := 8#32
  let v162 : BitVec 32 := Scalar.muli v122 c8_i32_130
  let c3_i32_131 : BitVec 32 := 3#32
  let v163 : BitVec 32 := Scalar.addi v162 c3_i32_131
  let v164 : Index := Scalar.indexCast v163
  ![v164.toNat]
def k0_mult264 (v165 : BitVec 32) : BitVec 32 :=
  v165

def k0_mult265 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_132 : BitVec 32 := 8#32
  let v167 : BitVec 32 := Scalar.muli v122 c8_i32_132
  v167
def k0_off420 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_132 : BitVec 32 := 8#32
  let v167 : BitVec 32 := Scalar.muli v122 c8_i32_132
  let v168 : BitVec 32 := v167
  let c0_i32_138 : BitVec 32 := 0#32
  ![v168.toNat, 0]
def k0_off421 (v165 : BitVec 32) : Fin 2 → Nat :=
  let v166 : BitVec 32 := v165
  let c0_i32_139 : BitVec 32 := 0#32
  ![v166.toNat, 0]

def k0_chk132 (i : grid0.Coords) (v165 : BitVec 32) : Prop :=
  (∀ (k0_h4 : k0_cond4 i = 1#1), 8 ∣ (k0_mult264 v165).toNat) ∧
  (∀ (k0_h4 : k0_cond4 i = 1#1), ∀ a, (k0_off421 v165) a + S8x128.size a ≤ S524288x128.size a)
theorem k0_mult264_dvd : ∀ (i : grid0.Coords) (v165 : BitVec 32) (k0_hw132 : k0_chk132 i v165), ∀ (k0_h4 : k0_cond4 i = 1#1), 8 ∣ (k0_mult264 v165).toNat := fun i v165 k0_hw132 k0_h4 => k0_hw132.1 k0_h4
theorem k0_off421_inb : ∀ (i : grid0.Coords) (v165 : BitVec 32) (k0_hw132 : k0_chk132 i v165), ∀ (k0_h4 : k0_cond4 i = 1#1), ∀ a, (k0_off421 v165) a + S8x128.size a ≤ S524288x128.size a := fun i v165 k0_hw132 k0_h4 => k0_hw132.2 k0_h4

def k0_off422 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_140 : BitVec 32 := 8#32
  let v175 : BitVec 32 := Scalar.muli v122 c8_i32_140
  let c4_i32_141 : BitVec 32 := 4#32
  let v176 : BitVec 32 := Scalar.addi v175 c4_i32_141
  let v177 : Index := Scalar.indexCast v176
  ![v177.toNat]
def k0_mult266 (v178 : BitVec 32) : BitVec 32 :=
  v178

def k0_mult267 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_142 : BitVec 32 := 8#32
  let v180 : BitVec 32 := Scalar.muli v122 c8_i32_142
  v180
def k0_off423 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_142 : BitVec 32 := 8#32
  let v180 : BitVec 32 := Scalar.muli v122 c8_i32_142
  let v181 : BitVec 32 := v180
  let c0_i32_148 : BitVec 32 := 0#32
  ![v181.toNat, 0]
def k0_off424 (v178 : BitVec 32) : Fin 2 → Nat :=
  let v179 : BitVec 32 := v178
  let c0_i32_149 : BitVec 32 := 0#32
  ![v179.toNat, 0]

def k0_chk133 (i : grid0.Coords) (v178 : BitVec 32) : Prop :=
  (∀ (k0_h4 : k0_cond4 i = 1#1), 8 ∣ (k0_mult266 v178).toNat) ∧
  (∀ (k0_h4 : k0_cond4 i = 1#1), ∀ a, (k0_off424 v178) a + S8x128.size a ≤ S524288x128.size a)
theorem k0_mult266_dvd : ∀ (i : grid0.Coords) (v178 : BitVec 32) (k0_hw133 : k0_chk133 i v178), ∀ (k0_h4 : k0_cond4 i = 1#1), 8 ∣ (k0_mult266 v178).toNat := fun i v178 k0_hw133 k0_h4 => k0_hw133.1 k0_h4
theorem k0_off424_inb : ∀ (i : grid0.Coords) (v178 : BitVec 32) (k0_hw133 : k0_chk133 i v178), ∀ (k0_h4 : k0_cond4 i = 1#1), ∀ a, (k0_off424 v178) a + S8x128.size a ≤ S524288x128.size a := fun i v178 k0_hw133 k0_h4 => k0_hw133.2 k0_h4

def k0_off425 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_150 : BitVec 32 := 8#32
  let v188 : BitVec 32 := Scalar.muli v122 c8_i32_150
  let c5_i32_151 : BitVec 32 := 5#32
  let v189 : BitVec 32 := Scalar.addi v188 c5_i32_151
  let v190 : Index := Scalar.indexCast v189
  ![v190.toNat]
def k0_mult268 (v191 : BitVec 32) : BitVec 32 :=
  v191

def k0_mult269 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_152 : BitVec 32 := 8#32
  let v193 : BitVec 32 := Scalar.muli v122 c8_i32_152
  v193
def k0_off426 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_152 : BitVec 32 := 8#32
  let v193 : BitVec 32 := Scalar.muli v122 c8_i32_152
  let v194 : BitVec 32 := v193
  let c0_i32_158 : BitVec 32 := 0#32
  ![v194.toNat, 0]
def k0_off427 (v191 : BitVec 32) : Fin 2 → Nat :=
  let v192 : BitVec 32 := v191
  let c0_i32_159 : BitVec 32 := 0#32
  ![v192.toNat, 0]

def k0_chk134 (i : grid0.Coords) (v191 : BitVec 32) : Prop :=
  (∀ (k0_h4 : k0_cond4 i = 1#1), 8 ∣ (k0_mult268 v191).toNat) ∧
  (∀ (k0_h4 : k0_cond4 i = 1#1), ∀ a, (k0_off427 v191) a + S8x128.size a ≤ S524288x128.size a)
theorem k0_mult268_dvd : ∀ (i : grid0.Coords) (v191 : BitVec 32) (k0_hw134 : k0_chk134 i v191), ∀ (k0_h4 : k0_cond4 i = 1#1), 8 ∣ (k0_mult268 v191).toNat := fun i v191 k0_hw134 k0_h4 => k0_hw134.1 k0_h4
theorem k0_off427_inb : ∀ (i : grid0.Coords) (v191 : BitVec 32) (k0_hw134 : k0_chk134 i v191), ∀ (k0_h4 : k0_cond4 i = 1#1), ∀ a, (k0_off427 v191) a + S8x128.size a ≤ S524288x128.size a := fun i v191 k0_hw134 k0_h4 => k0_hw134.2 k0_h4

def k0_off428 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_160 : BitVec 32 := 8#32
  let v201 : BitVec 32 := Scalar.muli v122 c8_i32_160
  let c6_i32_161 : BitVec 32 := 6#32
  let v202 : BitVec 32 := Scalar.addi v201 c6_i32_161
  let v203 : Index := Scalar.indexCast v202
  ![v203.toNat]
def k0_mult270 (v204 : BitVec 32) : BitVec 32 :=
  v204

def k0_mult271 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_162 : BitVec 32 := 8#32
  let v206 : BitVec 32 := Scalar.muli v122 c8_i32_162
  v206
def k0_off429 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_162 : BitVec 32 := 8#32
  let v206 : BitVec 32 := Scalar.muli v122 c8_i32_162
  let v207 : BitVec 32 := v206
  let c0_i32_168 : BitVec 32 := 0#32
  ![v207.toNat, 0]
def k0_off430 (v204 : BitVec 32) : Fin 2 → Nat :=
  let v205 : BitVec 32 := v204
  let c0_i32_169 : BitVec 32 := 0#32
  ![v205.toNat, 0]

def k0_chk135 (i : grid0.Coords) (v204 : BitVec 32) : Prop :=
  (∀ (k0_h4 : k0_cond4 i = 1#1), 8 ∣ (k0_mult270 v204).toNat) ∧
  (∀ (k0_h4 : k0_cond4 i = 1#1), ∀ a, (k0_off430 v204) a + S8x128.size a ≤ S524288x128.size a)
theorem k0_mult270_dvd : ∀ (i : grid0.Coords) (v204 : BitVec 32) (k0_hw135 : k0_chk135 i v204), ∀ (k0_h4 : k0_cond4 i = 1#1), 8 ∣ (k0_mult270 v204).toNat := fun i v204 k0_hw135 k0_h4 => k0_hw135.1 k0_h4
theorem k0_off430_inb : ∀ (i : grid0.Coords) (v204 : BitVec 32) (k0_hw135 : k0_chk135 i v204), ∀ (k0_h4 : k0_cond4 i = 1#1), ∀ a, (k0_off430 v204) a + S8x128.size a ≤ S524288x128.size a := fun i v204 k0_hw135 k0_h4 => k0_hw135.2 k0_h4

def k0_off431 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_170 : BitVec 32 := 8#32
  let v214 : BitVec 32 := Scalar.muli v122 c8_i32_170
  let c7_i32_171 : BitVec 32 := 7#32
  let v215 : BitVec 32 := Scalar.addi v214 c7_i32_171
  let v216 : Index := Scalar.indexCast v215
  ![v216.toNat]
def k0_mult272 (v217 : BitVec 32) : BitVec 32 :=
  v217

def k0_mult273 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_172 : BitVec 32 := 8#32
  let v219 : BitVec 32 := Scalar.muli v122 c8_i32_172
  v219
def k0_off432 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32 : BitVec 32 := 8#32
  let v121 : BitVec 32 := Scalar.muli arg16 c8_i32
  let c0_i32_99 : BitVec 32 := 0#32
  let v122 : BitVec 32 := Scalar.addi v121 c0_i32_99
  let c8_i32_172 : BitVec 32 := 8#32
  let v219 : BitVec 32 := Scalar.muli v122 c8_i32_172
  let v220 : BitVec 32 := v219
  let c0_i32_178 : BitVec 32 := 0#32
  ![v220.toNat, 0]
def k0_off433 (v217 : BitVec 32) : Fin 2 → Nat :=
  let v218 : BitVec 32 := v217
  let c0_i32_179 : BitVec 32 := 0#32
  ![v218.toNat, 0]

def k0_chk136 (i : grid0.Coords) (v217 : BitVec 32) : Prop :=
  (∀ (k0_h4 : k0_cond4 i = 1#1), 8 ∣ (k0_mult272 v217).toNat) ∧
  (∀ (k0_h4 : k0_cond4 i = 1#1), ∀ a, (k0_off433 v217) a + S8x128.size a ≤ S524288x128.size a)
theorem k0_mult272_dvd : ∀ (i : grid0.Coords) (v217 : BitVec 32) (k0_hw136 : k0_chk136 i v217), ∀ (k0_h4 : k0_cond4 i = 1#1), 8 ∣ (k0_mult272 v217).toNat := fun i v217 k0_hw136 k0_h4 => k0_hw136.1 k0_h4
theorem k0_off433_inb : ∀ (i : grid0.Coords) (v217 : BitVec 32) (k0_hw136 : k0_chk136 i v217), ∀ (k0_h4 : k0_cond4 i = 1#1), ∀ a, (k0_off433 v217) a + S8x128.size a ≤ S524288x128.size a := fun i v217 k0_hw136 k0_h4 => k0_hw136.2 k0_h4

def k0_off434 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_182 : BitVec 32 := 8#32
  let v229 : BitVec 32 := Scalar.muli v228 c8_i32_182
  let c0_i32_183 : BitVec 32 := 0#32
  let v230 : BitVec 32 := Scalar.addi v229 c0_i32_183
  let v231 : Index := Scalar.indexCast v230
  ![v231.toNat]
def k0_mult274 (v232 : BitVec 32) : BitVec 32 :=
  v232

def k0_mult275 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_184 : BitVec 32 := 8#32
  let v234 : BitVec 32 := Scalar.muli v228 c8_i32_184
  v234
def k0_off435 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_184 : BitVec 32 := 8#32
  let v234 : BitVec 32 := Scalar.muli v228 c8_i32_184
  let v235 : BitVec 32 := v234
  let c0_i32_190 : BitVec 32 := 0#32
  ![v235.toNat, 0]
def k0_off436 (v232 : BitVec 32) : Fin 2 → Nat :=
  let v233 : BitVec 32 := v232
  let c0_i32_191 : BitVec 32 := 0#32
  ![v233.toNat, 0]

def k0_chk137 (i : grid0.Coords) (v232 : BitVec 32) : Prop :=
  (∀ (k0_h4 : k0_cond4 i = 1#1), 8 ∣ (k0_mult274 v232).toNat) ∧
  (∀ (k0_h4 : k0_cond4 i = 1#1), ∀ a, (k0_off436 v232) a + S8x128.size a ≤ S524288x128.size a)
theorem k0_mult274_dvd : ∀ (i : grid0.Coords) (v232 : BitVec 32) (k0_hw137 : k0_chk137 i v232), ∀ (k0_h4 : k0_cond4 i = 1#1), 8 ∣ (k0_mult274 v232).toNat := fun i v232 k0_hw137 k0_h4 => k0_hw137.1 k0_h4
theorem k0_off436_inb : ∀ (i : grid0.Coords) (v232 : BitVec 32) (k0_hw137 : k0_chk137 i v232), ∀ (k0_h4 : k0_cond4 i = 1#1), ∀ a, (k0_off436 v232) a + S8x128.size a ≤ S524288x128.size a := fun i v232 k0_hw137 k0_h4 => k0_hw137.2 k0_h4

def k0_off437 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_192 : BitVec 32 := 8#32
  let v242 : BitVec 32 := Scalar.muli v228 c8_i32_192
  let c1_i32_193 : BitVec 32 := 1#32
  let v243 : BitVec 32 := Scalar.addi v242 c1_i32_193
  let v244 : Index := Scalar.indexCast v243
  ![v244.toNat]
def k0_mult276 (v245 : BitVec 32) : BitVec 32 :=
  v245

def k0_mult277 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_194 : BitVec 32 := 8#32
  let v247 : BitVec 32 := Scalar.muli v228 c8_i32_194
  v247
def k0_off438 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_194 : BitVec 32 := 8#32
  let v247 : BitVec 32 := Scalar.muli v228 c8_i32_194
  let v248 : BitVec 32 := v247
  let c0_i32_200 : BitVec 32 := 0#32
  ![v248.toNat, 0]
def k0_off439 (v245 : BitVec 32) : Fin 2 → Nat :=
  let v246 : BitVec 32 := v245
  let c0_i32_201 : BitVec 32 := 0#32
  ![v246.toNat, 0]

def k0_chk138 (i : grid0.Coords) (v245 : BitVec 32) : Prop :=
  (∀ (k0_h4 : k0_cond4 i = 1#1), 8 ∣ (k0_mult276 v245).toNat) ∧
  (∀ (k0_h4 : k0_cond4 i = 1#1), ∀ a, (k0_off439 v245) a + S8x128.size a ≤ S524288x128.size a)
theorem k0_mult276_dvd : ∀ (i : grid0.Coords) (v245 : BitVec 32) (k0_hw138 : k0_chk138 i v245), ∀ (k0_h4 : k0_cond4 i = 1#1), 8 ∣ (k0_mult276 v245).toNat := fun i v245 k0_hw138 k0_h4 => k0_hw138.1 k0_h4
theorem k0_off439_inb : ∀ (i : grid0.Coords) (v245 : BitVec 32) (k0_hw138 : k0_chk138 i v245), ∀ (k0_h4 : k0_cond4 i = 1#1), ∀ a, (k0_off439 v245) a + S8x128.size a ≤ S524288x128.size a := fun i v245 k0_hw138 k0_h4 => k0_hw138.2 k0_h4

def k0_off440 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_202 : BitVec 32 := 8#32
  let v255 : BitVec 32 := Scalar.muli v228 c8_i32_202
  let c2_i32_203 : BitVec 32 := 2#32
  let v256 : BitVec 32 := Scalar.addi v255 c2_i32_203
  let v257 : Index := Scalar.indexCast v256
  ![v257.toNat]
def k0_mult278 (v258 : BitVec 32) : BitVec 32 :=
  v258

def k0_mult279 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_204 : BitVec 32 := 8#32
  let v260 : BitVec 32 := Scalar.muli v228 c8_i32_204
  v260
def k0_off441 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_204 : BitVec 32 := 8#32
  let v260 : BitVec 32 := Scalar.muli v228 c8_i32_204
  let v261 : BitVec 32 := v260
  let c0_i32_210 : BitVec 32 := 0#32
  ![v261.toNat, 0]
def k0_off442 (v258 : BitVec 32) : Fin 2 → Nat :=
  let v259 : BitVec 32 := v258
  let c0_i32_211 : BitVec 32 := 0#32
  ![v259.toNat, 0]

def k0_chk139 (i : grid0.Coords) (v258 : BitVec 32) : Prop :=
  (∀ (k0_h4 : k0_cond4 i = 1#1), 8 ∣ (k0_mult278 v258).toNat) ∧
  (∀ (k0_h4 : k0_cond4 i = 1#1), ∀ a, (k0_off442 v258) a + S8x128.size a ≤ S524288x128.size a)
theorem k0_mult278_dvd : ∀ (i : grid0.Coords) (v258 : BitVec 32) (k0_hw139 : k0_chk139 i v258), ∀ (k0_h4 : k0_cond4 i = 1#1), 8 ∣ (k0_mult278 v258).toNat := fun i v258 k0_hw139 k0_h4 => k0_hw139.1 k0_h4
theorem k0_off442_inb : ∀ (i : grid0.Coords) (v258 : BitVec 32) (k0_hw139 : k0_chk139 i v258), ∀ (k0_h4 : k0_cond4 i = 1#1), ∀ a, (k0_off442 v258) a + S8x128.size a ≤ S524288x128.size a := fun i v258 k0_hw139 k0_h4 => k0_hw139.2 k0_h4

def k0_off443 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_212 : BitVec 32 := 8#32
  let v268 : BitVec 32 := Scalar.muli v228 c8_i32_212
  let c3_i32_213 : BitVec 32 := 3#32
  let v269 : BitVec 32 := Scalar.addi v268 c3_i32_213
  let v270 : Index := Scalar.indexCast v269
  ![v270.toNat]
def k0_mult280 (v271 : BitVec 32) : BitVec 32 :=
  v271

def k0_mult281 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_214 : BitVec 32 := 8#32
  let v273 : BitVec 32 := Scalar.muli v228 c8_i32_214
  v273
def k0_off444 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_214 : BitVec 32 := 8#32
  let v273 : BitVec 32 := Scalar.muli v228 c8_i32_214
  let v274 : BitVec 32 := v273
  let c0_i32_220 : BitVec 32 := 0#32
  ![v274.toNat, 0]
def k0_off445 (v271 : BitVec 32) : Fin 2 → Nat :=
  let v272 : BitVec 32 := v271
  let c0_i32_221 : BitVec 32 := 0#32
  ![v272.toNat, 0]

def k0_chk140 (i : grid0.Coords) (v271 : BitVec 32) : Prop :=
  (∀ (k0_h4 : k0_cond4 i = 1#1), 8 ∣ (k0_mult280 v271).toNat) ∧
  (∀ (k0_h4 : k0_cond4 i = 1#1), ∀ a, (k0_off445 v271) a + S8x128.size a ≤ S524288x128.size a)
theorem k0_mult280_dvd : ∀ (i : grid0.Coords) (v271 : BitVec 32) (k0_hw140 : k0_chk140 i v271), ∀ (k0_h4 : k0_cond4 i = 1#1), 8 ∣ (k0_mult280 v271).toNat := fun i v271 k0_hw140 k0_h4 => k0_hw140.1 k0_h4
theorem k0_off445_inb : ∀ (i : grid0.Coords) (v271 : BitVec 32) (k0_hw140 : k0_chk140 i v271), ∀ (k0_h4 : k0_cond4 i = 1#1), ∀ a, (k0_off445 v271) a + S8x128.size a ≤ S524288x128.size a := fun i v271 k0_hw140 k0_h4 => k0_hw140.2 k0_h4

def k0_off446 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_222 : BitVec 32 := 8#32
  let v281 : BitVec 32 := Scalar.muli v228 c8_i32_222
  let c4_i32_223 : BitVec 32 := 4#32
  let v282 : BitVec 32 := Scalar.addi v281 c4_i32_223
  let v283 : Index := Scalar.indexCast v282
  ![v283.toNat]
def k0_mult282 (v284 : BitVec 32) : BitVec 32 :=
  v284

def k0_mult283 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_224 : BitVec 32 := 8#32
  let v286 : BitVec 32 := Scalar.muli v228 c8_i32_224
  v286
def k0_off447 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_224 : BitVec 32 := 8#32
  let v286 : BitVec 32 := Scalar.muli v228 c8_i32_224
  let v287 : BitVec 32 := v286
  let c0_i32_230 : BitVec 32 := 0#32
  ![v287.toNat, 0]
def k0_off448 (v284 : BitVec 32) : Fin 2 → Nat :=
  let v285 : BitVec 32 := v284
  let c0_i32_231 : BitVec 32 := 0#32
  ![v285.toNat, 0]

def k0_chk141 (i : grid0.Coords) (v284 : BitVec 32) : Prop :=
  (∀ (k0_h4 : k0_cond4 i = 1#1), 8 ∣ (k0_mult282 v284).toNat) ∧
  (∀ (k0_h4 : k0_cond4 i = 1#1), ∀ a, (k0_off448 v284) a + S8x128.size a ≤ S524288x128.size a)
theorem k0_mult282_dvd : ∀ (i : grid0.Coords) (v284 : BitVec 32) (k0_hw141 : k0_chk141 i v284), ∀ (k0_h4 : k0_cond4 i = 1#1), 8 ∣ (k0_mult282 v284).toNat := fun i v284 k0_hw141 k0_h4 => k0_hw141.1 k0_h4
theorem k0_off448_inb : ∀ (i : grid0.Coords) (v284 : BitVec 32) (k0_hw141 : k0_chk141 i v284), ∀ (k0_h4 : k0_cond4 i = 1#1), ∀ a, (k0_off448 v284) a + S8x128.size a ≤ S524288x128.size a := fun i v284 k0_hw141 k0_h4 => k0_hw141.2 k0_h4

def k0_off449 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_232 : BitVec 32 := 8#32
  let v294 : BitVec 32 := Scalar.muli v228 c8_i32_232
  let c5_i32_233 : BitVec 32 := 5#32
  let v295 : BitVec 32 := Scalar.addi v294 c5_i32_233
  let v296 : Index := Scalar.indexCast v295
  ![v296.toNat]
def k0_mult284 (v297 : BitVec 32) : BitVec 32 :=
  v297

def k0_mult285 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_234 : BitVec 32 := 8#32
  let v299 : BitVec 32 := Scalar.muli v228 c8_i32_234
  v299
def k0_off450 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_234 : BitVec 32 := 8#32
  let v299 : BitVec 32 := Scalar.muli v228 c8_i32_234
  let v300 : BitVec 32 := v299
  let c0_i32_240 : BitVec 32 := 0#32
  ![v300.toNat, 0]
def k0_off451 (v297 : BitVec 32) : Fin 2 → Nat :=
  let v298 : BitVec 32 := v297
  let c0_i32_241 : BitVec 32 := 0#32
  ![v298.toNat, 0]

def k0_chk142 (i : grid0.Coords) (v297 : BitVec 32) : Prop :=
  (∀ (k0_h4 : k0_cond4 i = 1#1), 8 ∣ (k0_mult284 v297).toNat) ∧
  (∀ (k0_h4 : k0_cond4 i = 1#1), ∀ a, (k0_off451 v297) a + S8x128.size a ≤ S524288x128.size a)
theorem k0_mult284_dvd : ∀ (i : grid0.Coords) (v297 : BitVec 32) (k0_hw142 : k0_chk142 i v297), ∀ (k0_h4 : k0_cond4 i = 1#1), 8 ∣ (k0_mult284 v297).toNat := fun i v297 k0_hw142 k0_h4 => k0_hw142.1 k0_h4
theorem k0_off451_inb : ∀ (i : grid0.Coords) (v297 : BitVec 32) (k0_hw142 : k0_chk142 i v297), ∀ (k0_h4 : k0_cond4 i = 1#1), ∀ a, (k0_off451 v297) a + S8x128.size a ≤ S524288x128.size a := fun i v297 k0_hw142 k0_h4 => k0_hw142.2 k0_h4

def k0_off452 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_242 : BitVec 32 := 8#32
  let v307 : BitVec 32 := Scalar.muli v228 c8_i32_242
  let c6_i32_243 : BitVec 32 := 6#32
  let v308 : BitVec 32 := Scalar.addi v307 c6_i32_243
  let v309 : Index := Scalar.indexCast v308
  ![v309.toNat]
def k0_mult286 (v310 : BitVec 32) : BitVec 32 :=
  v310

def k0_mult287 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_244 : BitVec 32 := 8#32
  let v312 : BitVec 32 := Scalar.muli v228 c8_i32_244
  v312
def k0_off453 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_244 : BitVec 32 := 8#32
  let v312 : BitVec 32 := Scalar.muli v228 c8_i32_244
  let v313 : BitVec 32 := v312
  let c0_i32_250 : BitVec 32 := 0#32
  ![v313.toNat, 0]
def k0_off454 (v310 : BitVec 32) : Fin 2 → Nat :=
  let v311 : BitVec 32 := v310
  let c0_i32_251 : BitVec 32 := 0#32
  ![v311.toNat, 0]

def k0_chk143 (i : grid0.Coords) (v310 : BitVec 32) : Prop :=
  (∀ (k0_h4 : k0_cond4 i = 1#1), 8 ∣ (k0_mult286 v310).toNat) ∧
  (∀ (k0_h4 : k0_cond4 i = 1#1), ∀ a, (k0_off454 v310) a + S8x128.size a ≤ S524288x128.size a)
theorem k0_mult286_dvd : ∀ (i : grid0.Coords) (v310 : BitVec 32) (k0_hw143 : k0_chk143 i v310), ∀ (k0_h4 : k0_cond4 i = 1#1), 8 ∣ (k0_mult286 v310).toNat := fun i v310 k0_hw143 k0_h4 => k0_hw143.1 k0_h4
theorem k0_off454_inb : ∀ (i : grid0.Coords) (v310 : BitVec 32) (k0_hw143 : k0_chk143 i v310), ∀ (k0_h4 : k0_cond4 i = 1#1), ∀ a, (k0_off454 v310) a + S8x128.size a ≤ S524288x128.size a := fun i v310 k0_hw143 k0_h4 => k0_hw143.2 k0_h4

def k0_off455 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_252 : BitVec 32 := 8#32
  let v320 : BitVec 32 := Scalar.muli v228 c8_i32_252
  let c7_i32_253 : BitVec 32 := 7#32
  let v321 : BitVec 32 := Scalar.addi v320 c7_i32_253
  let v322 : Index := Scalar.indexCast v321
  ![v322.toNat]
def k0_mult288 (v323 : BitVec 32) : BitVec 32 :=
  v323

def k0_mult289 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_254 : BitVec 32 := 8#32
  let v325 : BitVec 32 := Scalar.muli v228 c8_i32_254
  v325
def k0_off456 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_180 : BitVec 32 := 8#32
  let v227 : BitVec 32 := Scalar.muli arg16 c8_i32_180
  let c1_i32_181 : BitVec 32 := 1#32
  let v228 : BitVec 32 := Scalar.addi v227 c1_i32_181
  let c8_i32_254 : BitVec 32 := 8#32
  let v325 : BitVec 32 := Scalar.muli v228 c8_i32_254
  let v326 : BitVec 32 := v325
  let c0_i32_260 : BitVec 32 := 0#32
  ![v326.toNat, 0]
def k0_off457 (v323 : BitVec 32) : Fin 2 → Nat :=
  let v324 : BitVec 32 := v323
  let c0_i32_261 : BitVec 32 := 0#32
  ![v324.toNat, 0]

def k0_chk144 (i : grid0.Coords) (v323 : BitVec 32) : Prop :=
  (∀ (k0_h4 : k0_cond4 i = 1#1), 8 ∣ (k0_mult288 v323).toNat) ∧
  (∀ (k0_h4 : k0_cond4 i = 1#1), ∀ a, (k0_off457 v323) a + S8x128.size a ≤ S524288x128.size a)
theorem k0_mult288_dvd : ∀ (i : grid0.Coords) (v323 : BitVec 32) (k0_hw144 : k0_chk144 i v323), ∀ (k0_h4 : k0_cond4 i = 1#1), 8 ∣ (k0_mult288 v323).toNat := fun i v323 k0_hw144 k0_h4 => k0_hw144.1 k0_h4
theorem k0_off457_inb : ∀ (i : grid0.Coords) (v323 : BitVec 32) (k0_hw144 : k0_chk144 i v323), ∀ (k0_h4 : k0_cond4 i = 1#1), ∀ a, (k0_off457 v323) a + S8x128.size a ≤ S524288x128.size a := fun i v323 k0_hw144 k0_h4 => k0_hw144.2 k0_h4

def k0_off458 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_264 : BitVec 32 := 8#32
  let v335 : BitVec 32 := Scalar.muli v334 c8_i32_264
  let c0_i32_265 : BitVec 32 := 0#32
  let v336 : BitVec 32 := Scalar.addi v335 c0_i32_265
  let v337 : Index := Scalar.indexCast v336
  ![v337.toNat]
def k0_mult290 (v338 : BitVec 32) : BitVec 32 :=
  v338

def k0_mult291 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_266 : BitVec 32 := 8#32
  let v340 : BitVec 32 := Scalar.muli v334 c8_i32_266
  v340
def k0_off459 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_266 : BitVec 32 := 8#32
  let v340 : BitVec 32 := Scalar.muli v334 c8_i32_266
  let v341 : BitVec 32 := v340
  let c0_i32_272 : BitVec 32 := 0#32
  ![v341.toNat, 0]
def k0_off460 (v338 : BitVec 32) : Fin 2 → Nat :=
  let v339 : BitVec 32 := v338
  let c0_i32_273 : BitVec 32 := 0#32
  ![v339.toNat, 0]

def k0_chk145 (i : grid0.Coords) (v338 : BitVec 32) : Prop :=
  (∀ (k0_h4 : k0_cond4 i = 1#1), 8 ∣ (k0_mult290 v338).toNat) ∧
  (∀ (k0_h4 : k0_cond4 i = 1#1), ∀ a, (k0_off460 v338) a + S8x128.size a ≤ S524288x128.size a)
theorem k0_mult290_dvd : ∀ (i : grid0.Coords) (v338 : BitVec 32) (k0_hw145 : k0_chk145 i v338), ∀ (k0_h4 : k0_cond4 i = 1#1), 8 ∣ (k0_mult290 v338).toNat := fun i v338 k0_hw145 k0_h4 => k0_hw145.1 k0_h4
theorem k0_off460_inb : ∀ (i : grid0.Coords) (v338 : BitVec 32) (k0_hw145 : k0_chk145 i v338), ∀ (k0_h4 : k0_cond4 i = 1#1), ∀ a, (k0_off460 v338) a + S8x128.size a ≤ S524288x128.size a := fun i v338 k0_hw145 k0_h4 => k0_hw145.2 k0_h4

def k0_off461 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_274 : BitVec 32 := 8#32
  let v348 : BitVec 32 := Scalar.muli v334 c8_i32_274
  let c1_i32_275 : BitVec 32 := 1#32
  let v349 : BitVec 32 := Scalar.addi v348 c1_i32_275
  let v350 : Index := Scalar.indexCast v349
  ![v350.toNat]
def k0_mult292 (v351 : BitVec 32) : BitVec 32 :=
  v351

def k0_mult293 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_276 : BitVec 32 := 8#32
  let v353 : BitVec 32 := Scalar.muli v334 c8_i32_276
  v353
def k0_off462 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_276 : BitVec 32 := 8#32
  let v353 : BitVec 32 := Scalar.muli v334 c8_i32_276
  let v354 : BitVec 32 := v353
  let c0_i32_282 : BitVec 32 := 0#32
  ![v354.toNat, 0]
def k0_off463 (v351 : BitVec 32) : Fin 2 → Nat :=
  let v352 : BitVec 32 := v351
  let c0_i32_283 : BitVec 32 := 0#32
  ![v352.toNat, 0]

def k0_chk146 (i : grid0.Coords) (v351 : BitVec 32) : Prop :=
  (∀ (k0_h4 : k0_cond4 i = 1#1), 8 ∣ (k0_mult292 v351).toNat) ∧
  (∀ (k0_h4 : k0_cond4 i = 1#1), ∀ a, (k0_off463 v351) a + S8x128.size a ≤ S524288x128.size a)
theorem k0_mult292_dvd : ∀ (i : grid0.Coords) (v351 : BitVec 32) (k0_hw146 : k0_chk146 i v351), ∀ (k0_h4 : k0_cond4 i = 1#1), 8 ∣ (k0_mult292 v351).toNat := fun i v351 k0_hw146 k0_h4 => k0_hw146.1 k0_h4
theorem k0_off463_inb : ∀ (i : grid0.Coords) (v351 : BitVec 32) (k0_hw146 : k0_chk146 i v351), ∀ (k0_h4 : k0_cond4 i = 1#1), ∀ a, (k0_off463 v351) a + S8x128.size a ≤ S524288x128.size a := fun i v351 k0_hw146 k0_h4 => k0_hw146.2 k0_h4

def k0_off464 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_284 : BitVec 32 := 8#32
  let v361 : BitVec 32 := Scalar.muli v334 c8_i32_284
  let c2_i32_285 : BitVec 32 := 2#32
  let v362 : BitVec 32 := Scalar.addi v361 c2_i32_285
  let v363 : Index := Scalar.indexCast v362
  ![v363.toNat]
def k0_mult294 (v364 : BitVec 32) : BitVec 32 :=
  v364

def k0_mult295 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_286 : BitVec 32 := 8#32
  let v366 : BitVec 32 := Scalar.muli v334 c8_i32_286
  v366
def k0_off465 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_286 : BitVec 32 := 8#32
  let v366 : BitVec 32 := Scalar.muli v334 c8_i32_286
  let v367 : BitVec 32 := v366
  let c0_i32_292 : BitVec 32 := 0#32
  ![v367.toNat, 0]
def k0_off466 (v364 : BitVec 32) : Fin 2 → Nat :=
  let v365 : BitVec 32 := v364
  let c0_i32_293 : BitVec 32 := 0#32
  ![v365.toNat, 0]

def k0_chk147 (i : grid0.Coords) (v364 : BitVec 32) : Prop :=
  (∀ (k0_h4 : k0_cond4 i = 1#1), 8 ∣ (k0_mult294 v364).toNat) ∧
  (∀ (k0_h4 : k0_cond4 i = 1#1), ∀ a, (k0_off466 v364) a + S8x128.size a ≤ S524288x128.size a)
theorem k0_mult294_dvd : ∀ (i : grid0.Coords) (v364 : BitVec 32) (k0_hw147 : k0_chk147 i v364), ∀ (k0_h4 : k0_cond4 i = 1#1), 8 ∣ (k0_mult294 v364).toNat := fun i v364 k0_hw147 k0_h4 => k0_hw147.1 k0_h4
theorem k0_off466_inb : ∀ (i : grid0.Coords) (v364 : BitVec 32) (k0_hw147 : k0_chk147 i v364), ∀ (k0_h4 : k0_cond4 i = 1#1), ∀ a, (k0_off466 v364) a + S8x128.size a ≤ S524288x128.size a := fun i v364 k0_hw147 k0_h4 => k0_hw147.2 k0_h4

def k0_off467 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_294 : BitVec 32 := 8#32
  let v374 : BitVec 32 := Scalar.muli v334 c8_i32_294
  let c3_i32_295 : BitVec 32 := 3#32
  let v375 : BitVec 32 := Scalar.addi v374 c3_i32_295
  let v376 : Index := Scalar.indexCast v375
  ![v376.toNat]
def k0_mult296 (v377 : BitVec 32) : BitVec 32 :=
  v377

def k0_mult297 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_296 : BitVec 32 := 8#32
  let v379 : BitVec 32 := Scalar.muli v334 c8_i32_296
  v379
def k0_off468 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_296 : BitVec 32 := 8#32
  let v379 : BitVec 32 := Scalar.muli v334 c8_i32_296
  let v380 : BitVec 32 := v379
  let c0_i32_302 : BitVec 32 := 0#32
  ![v380.toNat, 0]
def k0_off469 (v377 : BitVec 32) : Fin 2 → Nat :=
  let v378 : BitVec 32 := v377
  let c0_i32_303 : BitVec 32 := 0#32
  ![v378.toNat, 0]

def k0_chk148 (i : grid0.Coords) (v377 : BitVec 32) : Prop :=
  (∀ (k0_h4 : k0_cond4 i = 1#1), 8 ∣ (k0_mult296 v377).toNat) ∧
  (∀ (k0_h4 : k0_cond4 i = 1#1), ∀ a, (k0_off469 v377) a + S8x128.size a ≤ S524288x128.size a)
theorem k0_mult296_dvd : ∀ (i : grid0.Coords) (v377 : BitVec 32) (k0_hw148 : k0_chk148 i v377), ∀ (k0_h4 : k0_cond4 i = 1#1), 8 ∣ (k0_mult296 v377).toNat := fun i v377 k0_hw148 k0_h4 => k0_hw148.1 k0_h4
theorem k0_off469_inb : ∀ (i : grid0.Coords) (v377 : BitVec 32) (k0_hw148 : k0_chk148 i v377), ∀ (k0_h4 : k0_cond4 i = 1#1), ∀ a, (k0_off469 v377) a + S8x128.size a ≤ S524288x128.size a := fun i v377 k0_hw148 k0_h4 => k0_hw148.2 k0_h4

def k0_off470 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_304 : BitVec 32 := 8#32
  let v387 : BitVec 32 := Scalar.muli v334 c8_i32_304
  let c4_i32_305 : BitVec 32 := 4#32
  let v388 : BitVec 32 := Scalar.addi v387 c4_i32_305
  let v389 : Index := Scalar.indexCast v388
  ![v389.toNat]
def k0_mult298 (v390 : BitVec 32) : BitVec 32 :=
  v390

def k0_mult299 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_306 : BitVec 32 := 8#32
  let v392 : BitVec 32 := Scalar.muli v334 c8_i32_306
  v392
def k0_off471 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_306 : BitVec 32 := 8#32
  let v392 : BitVec 32 := Scalar.muli v334 c8_i32_306
  let v393 : BitVec 32 := v392
  let c0_i32_312 : BitVec 32 := 0#32
  ![v393.toNat, 0]
def k0_off472 (v390 : BitVec 32) : Fin 2 → Nat :=
  let v391 : BitVec 32 := v390
  let c0_i32_313 : BitVec 32 := 0#32
  ![v391.toNat, 0]

def k0_chk149 (i : grid0.Coords) (v390 : BitVec 32) : Prop :=
  (∀ (k0_h4 : k0_cond4 i = 1#1), 8 ∣ (k0_mult298 v390).toNat) ∧
  (∀ (k0_h4 : k0_cond4 i = 1#1), ∀ a, (k0_off472 v390) a + S8x128.size a ≤ S524288x128.size a)
theorem k0_mult298_dvd : ∀ (i : grid0.Coords) (v390 : BitVec 32) (k0_hw149 : k0_chk149 i v390), ∀ (k0_h4 : k0_cond4 i = 1#1), 8 ∣ (k0_mult298 v390).toNat := fun i v390 k0_hw149 k0_h4 => k0_hw149.1 k0_h4
theorem k0_off472_inb : ∀ (i : grid0.Coords) (v390 : BitVec 32) (k0_hw149 : k0_chk149 i v390), ∀ (k0_h4 : k0_cond4 i = 1#1), ∀ a, (k0_off472 v390) a + S8x128.size a ≤ S524288x128.size a := fun i v390 k0_hw149 k0_h4 => k0_hw149.2 k0_h4

def k0_off473 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_314 : BitVec 32 := 8#32
  let v400 : BitVec 32 := Scalar.muli v334 c8_i32_314
  let c5_i32_315 : BitVec 32 := 5#32
  let v401 : BitVec 32 := Scalar.addi v400 c5_i32_315
  let v402 : Index := Scalar.indexCast v401
  ![v402.toNat]
def k0_mult300 (v403 : BitVec 32) : BitVec 32 :=
  v403

def k0_mult301 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_316 : BitVec 32 := 8#32
  let v405 : BitVec 32 := Scalar.muli v334 c8_i32_316
  v405
def k0_off474 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_316 : BitVec 32 := 8#32
  let v405 : BitVec 32 := Scalar.muli v334 c8_i32_316
  let v406 : BitVec 32 := v405
  let c0_i32_322 : BitVec 32 := 0#32
  ![v406.toNat, 0]
def k0_off475 (v403 : BitVec 32) : Fin 2 → Nat :=
  let v404 : BitVec 32 := v403
  let c0_i32_323 : BitVec 32 := 0#32
  ![v404.toNat, 0]

def k0_chk150 (i : grid0.Coords) (v403 : BitVec 32) : Prop :=
  (∀ (k0_h4 : k0_cond4 i = 1#1), 8 ∣ (k0_mult300 v403).toNat) ∧
  (∀ (k0_h4 : k0_cond4 i = 1#1), ∀ a, (k0_off475 v403) a + S8x128.size a ≤ S524288x128.size a)
theorem k0_mult300_dvd : ∀ (i : grid0.Coords) (v403 : BitVec 32) (k0_hw150 : k0_chk150 i v403), ∀ (k0_h4 : k0_cond4 i = 1#1), 8 ∣ (k0_mult300 v403).toNat := fun i v403 k0_hw150 k0_h4 => k0_hw150.1 k0_h4
theorem k0_off475_inb : ∀ (i : grid0.Coords) (v403 : BitVec 32) (k0_hw150 : k0_chk150 i v403), ∀ (k0_h4 : k0_cond4 i = 1#1), ∀ a, (k0_off475 v403) a + S8x128.size a ≤ S524288x128.size a := fun i v403 k0_hw150 k0_h4 => k0_hw150.2 k0_h4

def k0_off476 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_324 : BitVec 32 := 8#32
  let v413 : BitVec 32 := Scalar.muli v334 c8_i32_324
  let c6_i32_325 : BitVec 32 := 6#32
  let v414 : BitVec 32 := Scalar.addi v413 c6_i32_325
  let v415 : Index := Scalar.indexCast v414
  ![v415.toNat]
def k0_mult302 (v416 : BitVec 32) : BitVec 32 :=
  v416

def k0_mult303 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_326 : BitVec 32 := 8#32
  let v418 : BitVec 32 := Scalar.muli v334 c8_i32_326
  v418
def k0_off477 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_326 : BitVec 32 := 8#32
  let v418 : BitVec 32 := Scalar.muli v334 c8_i32_326
  let v419 : BitVec 32 := v418
  let c0_i32_332 : BitVec 32 := 0#32
  ![v419.toNat, 0]
def k0_off478 (v416 : BitVec 32) : Fin 2 → Nat :=
  let v417 : BitVec 32 := v416
  let c0_i32_333 : BitVec 32 := 0#32
  ![v417.toNat, 0]

def k0_chk151 (i : grid0.Coords) (v416 : BitVec 32) : Prop :=
  (∀ (k0_h4 : k0_cond4 i = 1#1), 8 ∣ (k0_mult302 v416).toNat) ∧
  (∀ (k0_h4 : k0_cond4 i = 1#1), ∀ a, (k0_off478 v416) a + S8x128.size a ≤ S524288x128.size a)
theorem k0_mult302_dvd : ∀ (i : grid0.Coords) (v416 : BitVec 32) (k0_hw151 : k0_chk151 i v416), ∀ (k0_h4 : k0_cond4 i = 1#1), 8 ∣ (k0_mult302 v416).toNat := fun i v416 k0_hw151 k0_h4 => k0_hw151.1 k0_h4
theorem k0_off478_inb : ∀ (i : grid0.Coords) (v416 : BitVec 32) (k0_hw151 : k0_chk151 i v416), ∀ (k0_h4 : k0_cond4 i = 1#1), ∀ a, (k0_off478 v416) a + S8x128.size a ≤ S524288x128.size a := fun i v416 k0_hw151 k0_h4 => k0_hw151.2 k0_h4

def k0_off479 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_334 : BitVec 32 := 8#32
  let v426 : BitVec 32 := Scalar.muli v334 c8_i32_334
  let c7_i32_335 : BitVec 32 := 7#32
  let v427 : BitVec 32 := Scalar.addi v426 c7_i32_335
  let v428 : Index := Scalar.indexCast v427
  ![v428.toNat]
def k0_mult304 (v429 : BitVec 32) : BitVec 32 :=
  v429

def k0_mult305 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_336 : BitVec 32 := 8#32
  let v431 : BitVec 32 := Scalar.muli v334 c8_i32_336
  v431
def k0_off480 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_262 : BitVec 32 := 8#32
  let v333 : BitVec 32 := Scalar.muli arg16 c8_i32_262
  let c2_i32_263 : BitVec 32 := 2#32
  let v334 : BitVec 32 := Scalar.addi v333 c2_i32_263
  let c8_i32_336 : BitVec 32 := 8#32
  let v431 : BitVec 32 := Scalar.muli v334 c8_i32_336
  let v432 : BitVec 32 := v431
  let c0_i32_342 : BitVec 32 := 0#32
  ![v432.toNat, 0]
def k0_off481 (v429 : BitVec 32) : Fin 2 → Nat :=
  let v430 : BitVec 32 := v429
  let c0_i32_343 : BitVec 32 := 0#32
  ![v430.toNat, 0]

def k0_chk152 (i : grid0.Coords) (v429 : BitVec 32) : Prop :=
  (∀ (k0_h4 : k0_cond4 i = 1#1), 8 ∣ (k0_mult304 v429).toNat) ∧
  (∀ (k0_h4 : k0_cond4 i = 1#1), ∀ a, (k0_off481 v429) a + S8x128.size a ≤ S524288x128.size a)
theorem k0_mult304_dvd : ∀ (i : grid0.Coords) (v429 : BitVec 32) (k0_hw152 : k0_chk152 i v429), ∀ (k0_h4 : k0_cond4 i = 1#1), 8 ∣ (k0_mult304 v429).toNat := fun i v429 k0_hw152 k0_h4 => k0_hw152.1 k0_h4
theorem k0_off481_inb : ∀ (i : grid0.Coords) (v429 : BitVec 32) (k0_hw152 : k0_chk152 i v429), ∀ (k0_h4 : k0_cond4 i = 1#1), ∀ a, (k0_off481 v429) a + S8x128.size a ≤ S524288x128.size a := fun i v429 k0_hw152 k0_h4 => k0_hw152.2 k0_h4

def k0_off482 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_346 : BitVec 32 := 8#32
  let v441 : BitVec 32 := Scalar.muli v440 c8_i32_346
  let c0_i32_347 : BitVec 32 := 0#32
  let v442 : BitVec 32 := Scalar.addi v441 c0_i32_347
  let v443 : Index := Scalar.indexCast v442
  ![v443.toNat]
def k0_mult306 (v444 : BitVec 32) : BitVec 32 :=
  v444

def k0_mult307 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_348 : BitVec 32 := 8#32
  let v446 : BitVec 32 := Scalar.muli v440 c8_i32_348
  v446
def k0_off483 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_348 : BitVec 32 := 8#32
  let v446 : BitVec 32 := Scalar.muli v440 c8_i32_348
  let v447 : BitVec 32 := v446
  let c0_i32_354 : BitVec 32 := 0#32
  ![v447.toNat, 0]
def k0_off484 (v444 : BitVec 32) : Fin 2 → Nat :=
  let v445 : BitVec 32 := v444
  let c0_i32_355 : BitVec 32 := 0#32
  ![v445.toNat, 0]

def k0_chk153 (i : grid0.Coords) (v444 : BitVec 32) : Prop :=
  (∀ (k0_h4 : k0_cond4 i = 1#1), 8 ∣ (k0_mult306 v444).toNat) ∧
  (∀ (k0_h4 : k0_cond4 i = 1#1), ∀ a, (k0_off484 v444) a + S8x128.size a ≤ S524288x128.size a)
theorem k0_mult306_dvd : ∀ (i : grid0.Coords) (v444 : BitVec 32) (k0_hw153 : k0_chk153 i v444), ∀ (k0_h4 : k0_cond4 i = 1#1), 8 ∣ (k0_mult306 v444).toNat := fun i v444 k0_hw153 k0_h4 => k0_hw153.1 k0_h4
theorem k0_off484_inb : ∀ (i : grid0.Coords) (v444 : BitVec 32) (k0_hw153 : k0_chk153 i v444), ∀ (k0_h4 : k0_cond4 i = 1#1), ∀ a, (k0_off484 v444) a + S8x128.size a ≤ S524288x128.size a := fun i v444 k0_hw153 k0_h4 => k0_hw153.2 k0_h4

def k0_off485 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_356 : BitVec 32 := 8#32
  let v454 : BitVec 32 := Scalar.muli v440 c8_i32_356
  let c1_i32_357 : BitVec 32 := 1#32
  let v455 : BitVec 32 := Scalar.addi v454 c1_i32_357
  let v456 : Index := Scalar.indexCast v455
  ![v456.toNat]
def k0_mult308 (v457 : BitVec 32) : BitVec 32 :=
  v457

def k0_mult309 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_358 : BitVec 32 := 8#32
  let v459 : BitVec 32 := Scalar.muli v440 c8_i32_358
  v459
def k0_off486 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_358 : BitVec 32 := 8#32
  let v459 : BitVec 32 := Scalar.muli v440 c8_i32_358
  let v460 : BitVec 32 := v459
  let c0_i32_364 : BitVec 32 := 0#32
  ![v460.toNat, 0]
def k0_off487 (v457 : BitVec 32) : Fin 2 → Nat :=
  let v458 : BitVec 32 := v457
  let c0_i32_365 : BitVec 32 := 0#32
  ![v458.toNat, 0]

def k0_chk154 (i : grid0.Coords) (v457 : BitVec 32) : Prop :=
  (∀ (k0_h4 : k0_cond4 i = 1#1), 8 ∣ (k0_mult308 v457).toNat) ∧
  (∀ (k0_h4 : k0_cond4 i = 1#1), ∀ a, (k0_off487 v457) a + S8x128.size a ≤ S524288x128.size a)
theorem k0_mult308_dvd : ∀ (i : grid0.Coords) (v457 : BitVec 32) (k0_hw154 : k0_chk154 i v457), ∀ (k0_h4 : k0_cond4 i = 1#1), 8 ∣ (k0_mult308 v457).toNat := fun i v457 k0_hw154 k0_h4 => k0_hw154.1 k0_h4
theorem k0_off487_inb : ∀ (i : grid0.Coords) (v457 : BitVec 32) (k0_hw154 : k0_chk154 i v457), ∀ (k0_h4 : k0_cond4 i = 1#1), ∀ a, (k0_off487 v457) a + S8x128.size a ≤ S524288x128.size a := fun i v457 k0_hw154 k0_h4 => k0_hw154.2 k0_h4

def k0_off488 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_366 : BitVec 32 := 8#32
  let v467 : BitVec 32 := Scalar.muli v440 c8_i32_366
  let c2_i32_367 : BitVec 32 := 2#32
  let v468 : BitVec 32 := Scalar.addi v467 c2_i32_367
  let v469 : Index := Scalar.indexCast v468
  ![v469.toNat]
def k0_mult310 (v470 : BitVec 32) : BitVec 32 :=
  v470

def k0_mult311 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_368 : BitVec 32 := 8#32
  let v472 : BitVec 32 := Scalar.muli v440 c8_i32_368
  v472
def k0_off489 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_368 : BitVec 32 := 8#32
  let v472 : BitVec 32 := Scalar.muli v440 c8_i32_368
  let v473 : BitVec 32 := v472
  let c0_i32_374 : BitVec 32 := 0#32
  ![v473.toNat, 0]
def k0_off490 (v470 : BitVec 32) : Fin 2 → Nat :=
  let v471 : BitVec 32 := v470
  let c0_i32_375 : BitVec 32 := 0#32
  ![v471.toNat, 0]

def k0_chk155 (i : grid0.Coords) (v470 : BitVec 32) : Prop :=
  (∀ (k0_h4 : k0_cond4 i = 1#1), 8 ∣ (k0_mult310 v470).toNat) ∧
  (∀ (k0_h4 : k0_cond4 i = 1#1), ∀ a, (k0_off490 v470) a + S8x128.size a ≤ S524288x128.size a)
theorem k0_mult310_dvd : ∀ (i : grid0.Coords) (v470 : BitVec 32) (k0_hw155 : k0_chk155 i v470), ∀ (k0_h4 : k0_cond4 i = 1#1), 8 ∣ (k0_mult310 v470).toNat := fun i v470 k0_hw155 k0_h4 => k0_hw155.1 k0_h4
theorem k0_off490_inb : ∀ (i : grid0.Coords) (v470 : BitVec 32) (k0_hw155 : k0_chk155 i v470), ∀ (k0_h4 : k0_cond4 i = 1#1), ∀ a, (k0_off490 v470) a + S8x128.size a ≤ S524288x128.size a := fun i v470 k0_hw155 k0_h4 => k0_hw155.2 k0_h4

def k0_off491 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_376 : BitVec 32 := 8#32
  let v480 : BitVec 32 := Scalar.muli v440 c8_i32_376
  let c3_i32_377 : BitVec 32 := 3#32
  let v481 : BitVec 32 := Scalar.addi v480 c3_i32_377
  let v482 : Index := Scalar.indexCast v481
  ![v482.toNat]
def k0_mult312 (v483 : BitVec 32) : BitVec 32 :=
  v483

def k0_mult313 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_378 : BitVec 32 := 8#32
  let v485 : BitVec 32 := Scalar.muli v440 c8_i32_378
  v485
def k0_off492 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_378 : BitVec 32 := 8#32
  let v485 : BitVec 32 := Scalar.muli v440 c8_i32_378
  let v486 : BitVec 32 := v485
  let c0_i32_384 : BitVec 32 := 0#32
  ![v486.toNat, 0]
def k0_off493 (v483 : BitVec 32) : Fin 2 → Nat :=
  let v484 : BitVec 32 := v483
  let c0_i32_385 : BitVec 32 := 0#32
  ![v484.toNat, 0]

def k0_chk156 (i : grid0.Coords) (v483 : BitVec 32) : Prop :=
  (∀ (k0_h4 : k0_cond4 i = 1#1), 8 ∣ (k0_mult312 v483).toNat) ∧
  (∀ (k0_h4 : k0_cond4 i = 1#1), ∀ a, (k0_off493 v483) a + S8x128.size a ≤ S524288x128.size a)
theorem k0_mult312_dvd : ∀ (i : grid0.Coords) (v483 : BitVec 32) (k0_hw156 : k0_chk156 i v483), ∀ (k0_h4 : k0_cond4 i = 1#1), 8 ∣ (k0_mult312 v483).toNat := fun i v483 k0_hw156 k0_h4 => k0_hw156.1 k0_h4
theorem k0_off493_inb : ∀ (i : grid0.Coords) (v483 : BitVec 32) (k0_hw156 : k0_chk156 i v483), ∀ (k0_h4 : k0_cond4 i = 1#1), ∀ a, (k0_off493 v483) a + S8x128.size a ≤ S524288x128.size a := fun i v483 k0_hw156 k0_h4 => k0_hw156.2 k0_h4

def k0_off494 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_386 : BitVec 32 := 8#32
  let v493 : BitVec 32 := Scalar.muli v440 c8_i32_386
  let c4_i32_387 : BitVec 32 := 4#32
  let v494 : BitVec 32 := Scalar.addi v493 c4_i32_387
  let v495 : Index := Scalar.indexCast v494
  ![v495.toNat]
def k0_mult314 (v496 : BitVec 32) : BitVec 32 :=
  v496

def k0_mult315 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_388 : BitVec 32 := 8#32
  let v498 : BitVec 32 := Scalar.muli v440 c8_i32_388
  v498
def k0_off495 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_388 : BitVec 32 := 8#32
  let v498 : BitVec 32 := Scalar.muli v440 c8_i32_388
  let v499 : BitVec 32 := v498
  let c0_i32_394 : BitVec 32 := 0#32
  ![v499.toNat, 0]
def k0_off496 (v496 : BitVec 32) : Fin 2 → Nat :=
  let v497 : BitVec 32 := v496
  let c0_i32_395 : BitVec 32 := 0#32
  ![v497.toNat, 0]

def k0_chk157 (i : grid0.Coords) (v496 : BitVec 32) : Prop :=
  (∀ (k0_h4 : k0_cond4 i = 1#1), 8 ∣ (k0_mult314 v496).toNat) ∧
  (∀ (k0_h4 : k0_cond4 i = 1#1), ∀ a, (k0_off496 v496) a + S8x128.size a ≤ S524288x128.size a)
theorem k0_mult314_dvd : ∀ (i : grid0.Coords) (v496 : BitVec 32) (k0_hw157 : k0_chk157 i v496), ∀ (k0_h4 : k0_cond4 i = 1#1), 8 ∣ (k0_mult314 v496).toNat := fun i v496 k0_hw157 k0_h4 => k0_hw157.1 k0_h4
theorem k0_off496_inb : ∀ (i : grid0.Coords) (v496 : BitVec 32) (k0_hw157 : k0_chk157 i v496), ∀ (k0_h4 : k0_cond4 i = 1#1), ∀ a, (k0_off496 v496) a + S8x128.size a ≤ S524288x128.size a := fun i v496 k0_hw157 k0_h4 => k0_hw157.2 k0_h4

def k0_off497 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_396 : BitVec 32 := 8#32
  let v506 : BitVec 32 := Scalar.muli v440 c8_i32_396
  let c5_i32_397 : BitVec 32 := 5#32
  let v507 : BitVec 32 := Scalar.addi v506 c5_i32_397
  let v508 : Index := Scalar.indexCast v507
  ![v508.toNat]
def k0_mult316 (v509 : BitVec 32) : BitVec 32 :=
  v509

def k0_mult317 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_398 : BitVec 32 := 8#32
  let v511 : BitVec 32 := Scalar.muli v440 c8_i32_398
  v511
def k0_off498 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_398 : BitVec 32 := 8#32
  let v511 : BitVec 32 := Scalar.muli v440 c8_i32_398
  let v512 : BitVec 32 := v511
  let c0_i32_404 : BitVec 32 := 0#32
  ![v512.toNat, 0]
def k0_off499 (v509 : BitVec 32) : Fin 2 → Nat :=
  let v510 : BitVec 32 := v509
  let c0_i32_405 : BitVec 32 := 0#32
  ![v510.toNat, 0]

def k0_chk158 (i : grid0.Coords) (v509 : BitVec 32) : Prop :=
  (∀ (k0_h4 : k0_cond4 i = 1#1), 8 ∣ (k0_mult316 v509).toNat) ∧
  (∀ (k0_h4 : k0_cond4 i = 1#1), ∀ a, (k0_off499 v509) a + S8x128.size a ≤ S524288x128.size a)
theorem k0_mult316_dvd : ∀ (i : grid0.Coords) (v509 : BitVec 32) (k0_hw158 : k0_chk158 i v509), ∀ (k0_h4 : k0_cond4 i = 1#1), 8 ∣ (k0_mult316 v509).toNat := fun i v509 k0_hw158 k0_h4 => k0_hw158.1 k0_h4
theorem k0_off499_inb : ∀ (i : grid0.Coords) (v509 : BitVec 32) (k0_hw158 : k0_chk158 i v509), ∀ (k0_h4 : k0_cond4 i = 1#1), ∀ a, (k0_off499 v509) a + S8x128.size a ≤ S524288x128.size a := fun i v509 k0_hw158 k0_h4 => k0_hw158.2 k0_h4

def k0_off500 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_406 : BitVec 32 := 8#32
  let v519 : BitVec 32 := Scalar.muli v440 c8_i32_406
  let c6_i32_407 : BitVec 32 := 6#32
  let v520 : BitVec 32 := Scalar.addi v519 c6_i32_407
  let v521 : Index := Scalar.indexCast v520
  ![v521.toNat]
def k0_mult318 (v522 : BitVec 32) : BitVec 32 :=
  v522

def k0_mult319 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_408 : BitVec 32 := 8#32
  let v524 : BitVec 32 := Scalar.muli v440 c8_i32_408
  v524
def k0_off501 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_408 : BitVec 32 := 8#32
  let v524 : BitVec 32 := Scalar.muli v440 c8_i32_408
  let v525 : BitVec 32 := v524
  let c0_i32_414 : BitVec 32 := 0#32
  ![v525.toNat, 0]
def k0_off502 (v522 : BitVec 32) : Fin 2 → Nat :=
  let v523 : BitVec 32 := v522
  let c0_i32_415 : BitVec 32 := 0#32
  ![v523.toNat, 0]

def k0_chk159 (i : grid0.Coords) (v522 : BitVec 32) : Prop :=
  (∀ (k0_h4 : k0_cond4 i = 1#1), 8 ∣ (k0_mult318 v522).toNat) ∧
  (∀ (k0_h4 : k0_cond4 i = 1#1), ∀ a, (k0_off502 v522) a + S8x128.size a ≤ S524288x128.size a)
theorem k0_mult318_dvd : ∀ (i : grid0.Coords) (v522 : BitVec 32) (k0_hw159 : k0_chk159 i v522), ∀ (k0_h4 : k0_cond4 i = 1#1), 8 ∣ (k0_mult318 v522).toNat := fun i v522 k0_hw159 k0_h4 => k0_hw159.1 k0_h4
theorem k0_off502_inb : ∀ (i : grid0.Coords) (v522 : BitVec 32) (k0_hw159 : k0_chk159 i v522), ∀ (k0_h4 : k0_cond4 i = 1#1), ∀ a, (k0_off502 v522) a + S8x128.size a ≤ S524288x128.size a := fun i v522 k0_hw159 k0_h4 => k0_hw159.2 k0_h4

def k0_off503 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_416 : BitVec 32 := 8#32
  let v532 : BitVec 32 := Scalar.muli v440 c8_i32_416
  let c7_i32_417 : BitVec 32 := 7#32
  let v533 : BitVec 32 := Scalar.addi v532 c7_i32_417
  let v534 : Index := Scalar.indexCast v533
  ![v534.toNat]
def k0_mult320 (v535 : BitVec 32) : BitVec 32 :=
  v535

def k0_mult321 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_418 : BitVec 32 := 8#32
  let v537 : BitVec 32 := Scalar.muli v440 c8_i32_418
  v537
def k0_off504 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_344 : BitVec 32 := 8#32
  let v439 : BitVec 32 := Scalar.muli arg16 c8_i32_344
  let c3_i32_345 : BitVec 32 := 3#32
  let v440 : BitVec 32 := Scalar.addi v439 c3_i32_345
  let c8_i32_418 : BitVec 32 := 8#32
  let v537 : BitVec 32 := Scalar.muli v440 c8_i32_418
  let v538 : BitVec 32 := v537
  let c0_i32_424 : BitVec 32 := 0#32
  ![v538.toNat, 0]
def k0_off505 (v535 : BitVec 32) : Fin 2 → Nat :=
  let v536 : BitVec 32 := v535
  let c0_i32_425 : BitVec 32 := 0#32
  ![v536.toNat, 0]

def k0_chk160 (i : grid0.Coords) (v535 : BitVec 32) : Prop :=
  (∀ (k0_h4 : k0_cond4 i = 1#1), 8 ∣ (k0_mult320 v535).toNat) ∧
  (∀ (k0_h4 : k0_cond4 i = 1#1), ∀ a, (k0_off505 v535) a + S8x128.size a ≤ S524288x128.size a)
theorem k0_mult320_dvd : ∀ (i : grid0.Coords) (v535 : BitVec 32) (k0_hw160 : k0_chk160 i v535), ∀ (k0_h4 : k0_cond4 i = 1#1), 8 ∣ (k0_mult320 v535).toNat := fun i v535 k0_hw160 k0_h4 => k0_hw160.1 k0_h4
theorem k0_off505_inb : ∀ (i : grid0.Coords) (v535 : BitVec 32) (k0_hw160 : k0_chk160 i v535), ∀ (k0_h4 : k0_cond4 i = 1#1), ∀ a, (k0_off505 v535) a + S8x128.size a ≤ S524288x128.size a := fun i v535 k0_hw160 k0_h4 => k0_hw160.2 k0_h4

def k0_off506 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_428 : BitVec 32 := 8#32
  let v547 : BitVec 32 := Scalar.muli v546 c8_i32_428
  let c0_i32_429 : BitVec 32 := 0#32
  let v548 : BitVec 32 := Scalar.addi v547 c0_i32_429
  let v549 : Index := Scalar.indexCast v548
  ![v549.toNat]
def k0_mult322 (v550 : BitVec 32) : BitVec 32 :=
  v550

def k0_mult323 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_430 : BitVec 32 := 8#32
  let v552 : BitVec 32 := Scalar.muli v546 c8_i32_430
  v552
def k0_off507 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_430 : BitVec 32 := 8#32
  let v552 : BitVec 32 := Scalar.muli v546 c8_i32_430
  let v553 : BitVec 32 := v552
  let c0_i32_436 : BitVec 32 := 0#32
  ![v553.toNat, 0]
def k0_off508 (v550 : BitVec 32) : Fin 2 → Nat :=
  let v551 : BitVec 32 := v550
  let c0_i32_437 : BitVec 32 := 0#32
  ![v551.toNat, 0]

def k0_chk161 (i : grid0.Coords) (v550 : BitVec 32) : Prop :=
  (∀ (k0_h4 : k0_cond4 i = 1#1), 8 ∣ (k0_mult322 v550).toNat) ∧
  (∀ (k0_h4 : k0_cond4 i = 1#1), ∀ a, (k0_off508 v550) a + S8x128.size a ≤ S524288x128.size a)
theorem k0_mult322_dvd : ∀ (i : grid0.Coords) (v550 : BitVec 32) (k0_hw161 : k0_chk161 i v550), ∀ (k0_h4 : k0_cond4 i = 1#1), 8 ∣ (k0_mult322 v550).toNat := fun i v550 k0_hw161 k0_h4 => k0_hw161.1 k0_h4
theorem k0_off508_inb : ∀ (i : grid0.Coords) (v550 : BitVec 32) (k0_hw161 : k0_chk161 i v550), ∀ (k0_h4 : k0_cond4 i = 1#1), ∀ a, (k0_off508 v550) a + S8x128.size a ≤ S524288x128.size a := fun i v550 k0_hw161 k0_h4 => k0_hw161.2 k0_h4

def k0_off509 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_438 : BitVec 32 := 8#32
  let v560 : BitVec 32 := Scalar.muli v546 c8_i32_438
  let c1_i32_439 : BitVec 32 := 1#32
  let v561 : BitVec 32 := Scalar.addi v560 c1_i32_439
  let v562 : Index := Scalar.indexCast v561
  ![v562.toNat]
def k0_mult324 (v563 : BitVec 32) : BitVec 32 :=
  v563

def k0_mult325 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_440 : BitVec 32 := 8#32
  let v565 : BitVec 32 := Scalar.muli v546 c8_i32_440
  v565
def k0_off510 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_440 : BitVec 32 := 8#32
  let v565 : BitVec 32 := Scalar.muli v546 c8_i32_440
  let v566 : BitVec 32 := v565
  let c0_i32_446 : BitVec 32 := 0#32
  ![v566.toNat, 0]
def k0_off511 (v563 : BitVec 32) : Fin 2 → Nat :=
  let v564 : BitVec 32 := v563
  let c0_i32_447 : BitVec 32 := 0#32
  ![v564.toNat, 0]

def k0_chk162 (i : grid0.Coords) (v563 : BitVec 32) : Prop :=
  (∀ (k0_h4 : k0_cond4 i = 1#1), 8 ∣ (k0_mult324 v563).toNat) ∧
  (∀ (k0_h4 : k0_cond4 i = 1#1), ∀ a, (k0_off511 v563) a + S8x128.size a ≤ S524288x128.size a)
theorem k0_mult324_dvd : ∀ (i : grid0.Coords) (v563 : BitVec 32) (k0_hw162 : k0_chk162 i v563), ∀ (k0_h4 : k0_cond4 i = 1#1), 8 ∣ (k0_mult324 v563).toNat := fun i v563 k0_hw162 k0_h4 => k0_hw162.1 k0_h4
theorem k0_off511_inb : ∀ (i : grid0.Coords) (v563 : BitVec 32) (k0_hw162 : k0_chk162 i v563), ∀ (k0_h4 : k0_cond4 i = 1#1), ∀ a, (k0_off511 v563) a + S8x128.size a ≤ S524288x128.size a := fun i v563 k0_hw162 k0_h4 => k0_hw162.2 k0_h4

def k0_off512 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_448 : BitVec 32 := 8#32
  let v573 : BitVec 32 := Scalar.muli v546 c8_i32_448
  let c2_i32_449 : BitVec 32 := 2#32
  let v574 : BitVec 32 := Scalar.addi v573 c2_i32_449
  let v575 : Index := Scalar.indexCast v574
  ![v575.toNat]
def k0_mult326 (v576 : BitVec 32) : BitVec 32 :=
  v576

def k0_mult327 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_450 : BitVec 32 := 8#32
  let v578 : BitVec 32 := Scalar.muli v546 c8_i32_450
  v578
def k0_off513 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_450 : BitVec 32 := 8#32
  let v578 : BitVec 32 := Scalar.muli v546 c8_i32_450
  let v579 : BitVec 32 := v578
  let c0_i32_456 : BitVec 32 := 0#32
  ![v579.toNat, 0]
def k0_off514 (v576 : BitVec 32) : Fin 2 → Nat :=
  let v577 : BitVec 32 := v576
  let c0_i32_457 : BitVec 32 := 0#32
  ![v577.toNat, 0]

def k0_chk163 (i : grid0.Coords) (v576 : BitVec 32) : Prop :=
  (∀ (k0_h4 : k0_cond4 i = 1#1), 8 ∣ (k0_mult326 v576).toNat) ∧
  (∀ (k0_h4 : k0_cond4 i = 1#1), ∀ a, (k0_off514 v576) a + S8x128.size a ≤ S524288x128.size a)
theorem k0_mult326_dvd : ∀ (i : grid0.Coords) (v576 : BitVec 32) (k0_hw163 : k0_chk163 i v576), ∀ (k0_h4 : k0_cond4 i = 1#1), 8 ∣ (k0_mult326 v576).toNat := fun i v576 k0_hw163 k0_h4 => k0_hw163.1 k0_h4
theorem k0_off514_inb : ∀ (i : grid0.Coords) (v576 : BitVec 32) (k0_hw163 : k0_chk163 i v576), ∀ (k0_h4 : k0_cond4 i = 1#1), ∀ a, (k0_off514 v576) a + S8x128.size a ≤ S524288x128.size a := fun i v576 k0_hw163 k0_h4 => k0_hw163.2 k0_h4

def k0_off515 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_458 : BitVec 32 := 8#32
  let v586 : BitVec 32 := Scalar.muli v546 c8_i32_458
  let c3_i32_459 : BitVec 32 := 3#32
  let v587 : BitVec 32 := Scalar.addi v586 c3_i32_459
  let v588 : Index := Scalar.indexCast v587
  ![v588.toNat]
def k0_mult328 (v589 : BitVec 32) : BitVec 32 :=
  v589

def k0_mult329 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_460 : BitVec 32 := 8#32
  let v591 : BitVec 32 := Scalar.muli v546 c8_i32_460
  v591
def k0_off516 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_460 : BitVec 32 := 8#32
  let v591 : BitVec 32 := Scalar.muli v546 c8_i32_460
  let v592 : BitVec 32 := v591
  let c0_i32_466 : BitVec 32 := 0#32
  ![v592.toNat, 0]
def k0_off517 (v589 : BitVec 32) : Fin 2 → Nat :=
  let v590 : BitVec 32 := v589
  let c0_i32_467 : BitVec 32 := 0#32
  ![v590.toNat, 0]

def k0_chk164 (i : grid0.Coords) (v589 : BitVec 32) : Prop :=
  (∀ (k0_h4 : k0_cond4 i = 1#1), 8 ∣ (k0_mult328 v589).toNat) ∧
  (∀ (k0_h4 : k0_cond4 i = 1#1), ∀ a, (k0_off517 v589) a + S8x128.size a ≤ S524288x128.size a)
theorem k0_mult328_dvd : ∀ (i : grid0.Coords) (v589 : BitVec 32) (k0_hw164 : k0_chk164 i v589), ∀ (k0_h4 : k0_cond4 i = 1#1), 8 ∣ (k0_mult328 v589).toNat := fun i v589 k0_hw164 k0_h4 => k0_hw164.1 k0_h4
theorem k0_off517_inb : ∀ (i : grid0.Coords) (v589 : BitVec 32) (k0_hw164 : k0_chk164 i v589), ∀ (k0_h4 : k0_cond4 i = 1#1), ∀ a, (k0_off517 v589) a + S8x128.size a ≤ S524288x128.size a := fun i v589 k0_hw164 k0_h4 => k0_hw164.2 k0_h4

def k0_off518 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_468 : BitVec 32 := 8#32
  let v599 : BitVec 32 := Scalar.muli v546 c8_i32_468
  let c4_i32_469 : BitVec 32 := 4#32
  let v600 : BitVec 32 := Scalar.addi v599 c4_i32_469
  let v601 : Index := Scalar.indexCast v600
  ![v601.toNat]
def k0_mult330 (v602 : BitVec 32) : BitVec 32 :=
  v602

def k0_mult331 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_470 : BitVec 32 := 8#32
  let v604 : BitVec 32 := Scalar.muli v546 c8_i32_470
  v604
def k0_off519 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_470 : BitVec 32 := 8#32
  let v604 : BitVec 32 := Scalar.muli v546 c8_i32_470
  let v605 : BitVec 32 := v604
  let c0_i32_476 : BitVec 32 := 0#32
  ![v605.toNat, 0]
def k0_off520 (v602 : BitVec 32) : Fin 2 → Nat :=
  let v603 : BitVec 32 := v602
  let c0_i32_477 : BitVec 32 := 0#32
  ![v603.toNat, 0]

def k0_chk165 (i : grid0.Coords) (v602 : BitVec 32) : Prop :=
  (∀ (k0_h4 : k0_cond4 i = 1#1), 8 ∣ (k0_mult330 v602).toNat) ∧
  (∀ (k0_h4 : k0_cond4 i = 1#1), ∀ a, (k0_off520 v602) a + S8x128.size a ≤ S524288x128.size a)
theorem k0_mult330_dvd : ∀ (i : grid0.Coords) (v602 : BitVec 32) (k0_hw165 : k0_chk165 i v602), ∀ (k0_h4 : k0_cond4 i = 1#1), 8 ∣ (k0_mult330 v602).toNat := fun i v602 k0_hw165 k0_h4 => k0_hw165.1 k0_h4
theorem k0_off520_inb : ∀ (i : grid0.Coords) (v602 : BitVec 32) (k0_hw165 : k0_chk165 i v602), ∀ (k0_h4 : k0_cond4 i = 1#1), ∀ a, (k0_off520 v602) a + S8x128.size a ≤ S524288x128.size a := fun i v602 k0_hw165 k0_h4 => k0_hw165.2 k0_h4

def k0_off521 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_478 : BitVec 32 := 8#32
  let v612 : BitVec 32 := Scalar.muli v546 c8_i32_478
  let c5_i32_479 : BitVec 32 := 5#32
  let v613 : BitVec 32 := Scalar.addi v612 c5_i32_479
  let v614 : Index := Scalar.indexCast v613
  ![v614.toNat]
def k0_mult332 (v615 : BitVec 32) : BitVec 32 :=
  v615

def k0_mult333 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_480 : BitVec 32 := 8#32
  let v617 : BitVec 32 := Scalar.muli v546 c8_i32_480
  v617
def k0_off522 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_480 : BitVec 32 := 8#32
  let v617 : BitVec 32 := Scalar.muli v546 c8_i32_480
  let v618 : BitVec 32 := v617
  let c0_i32_486 : BitVec 32 := 0#32
  ![v618.toNat, 0]
def k0_off523 (v615 : BitVec 32) : Fin 2 → Nat :=
  let v616 : BitVec 32 := v615
  let c0_i32_487 : BitVec 32 := 0#32
  ![v616.toNat, 0]

def k0_chk166 (i : grid0.Coords) (v615 : BitVec 32) : Prop :=
  (∀ (k0_h4 : k0_cond4 i = 1#1), 8 ∣ (k0_mult332 v615).toNat) ∧
  (∀ (k0_h4 : k0_cond4 i = 1#1), ∀ a, (k0_off523 v615) a + S8x128.size a ≤ S524288x128.size a)
theorem k0_mult332_dvd : ∀ (i : grid0.Coords) (v615 : BitVec 32) (k0_hw166 : k0_chk166 i v615), ∀ (k0_h4 : k0_cond4 i = 1#1), 8 ∣ (k0_mult332 v615).toNat := fun i v615 k0_hw166 k0_h4 => k0_hw166.1 k0_h4
theorem k0_off523_inb : ∀ (i : grid0.Coords) (v615 : BitVec 32) (k0_hw166 : k0_chk166 i v615), ∀ (k0_h4 : k0_cond4 i = 1#1), ∀ a, (k0_off523 v615) a + S8x128.size a ≤ S524288x128.size a := fun i v615 k0_hw166 k0_h4 => k0_hw166.2 k0_h4

def k0_off524 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_488 : BitVec 32 := 8#32
  let v625 : BitVec 32 := Scalar.muli v546 c8_i32_488
  let c6_i32_489 : BitVec 32 := 6#32
  let v626 : BitVec 32 := Scalar.addi v625 c6_i32_489
  let v627 : Index := Scalar.indexCast v626
  ![v627.toNat]
def k0_mult334 (v628 : BitVec 32) : BitVec 32 :=
  v628

def k0_mult335 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_490 : BitVec 32 := 8#32
  let v630 : BitVec 32 := Scalar.muli v546 c8_i32_490
  v630
def k0_off525 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_490 : BitVec 32 := 8#32
  let v630 : BitVec 32 := Scalar.muli v546 c8_i32_490
  let v631 : BitVec 32 := v630
  let c0_i32_496 : BitVec 32 := 0#32
  ![v631.toNat, 0]
def k0_off526 (v628 : BitVec 32) : Fin 2 → Nat :=
  let v629 : BitVec 32 := v628
  let c0_i32_497 : BitVec 32 := 0#32
  ![v629.toNat, 0]

def k0_chk167 (i : grid0.Coords) (v628 : BitVec 32) : Prop :=
  (∀ (k0_h4 : k0_cond4 i = 1#1), 8 ∣ (k0_mult334 v628).toNat) ∧
  (∀ (k0_h4 : k0_cond4 i = 1#1), ∀ a, (k0_off526 v628) a + S8x128.size a ≤ S524288x128.size a)
theorem k0_mult334_dvd : ∀ (i : grid0.Coords) (v628 : BitVec 32) (k0_hw167 : k0_chk167 i v628), ∀ (k0_h4 : k0_cond4 i = 1#1), 8 ∣ (k0_mult334 v628).toNat := fun i v628 k0_hw167 k0_h4 => k0_hw167.1 k0_h4
theorem k0_off526_inb : ∀ (i : grid0.Coords) (v628 : BitVec 32) (k0_hw167 : k0_chk167 i v628), ∀ (k0_h4 : k0_cond4 i = 1#1), ∀ a, (k0_off526 v628) a + S8x128.size a ≤ S524288x128.size a := fun i v628 k0_hw167 k0_h4 => k0_hw167.2 k0_h4

def k0_off527 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_498 : BitVec 32 := 8#32
  let v638 : BitVec 32 := Scalar.muli v546 c8_i32_498
  let c7_i32_499 : BitVec 32 := 7#32
  let v639 : BitVec 32 := Scalar.addi v638 c7_i32_499
  let v640 : Index := Scalar.indexCast v639
  ![v640.toNat]
def k0_mult336 (v641 : BitVec 32) : BitVec 32 :=
  v641

def k0_mult337 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_500 : BitVec 32 := 8#32
  let v643 : BitVec 32 := Scalar.muli v546 c8_i32_500
  v643
def k0_off528 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_426 : BitVec 32 := 8#32
  let v545 : BitVec 32 := Scalar.muli arg16 c8_i32_426
  let c4_i32_427 : BitVec 32 := 4#32
  let v546 : BitVec 32 := Scalar.addi v545 c4_i32_427
  let c8_i32_500 : BitVec 32 := 8#32
  let v643 : BitVec 32 := Scalar.muli v546 c8_i32_500
  let v644 : BitVec 32 := v643
  let c0_i32_506 : BitVec 32 := 0#32
  ![v644.toNat, 0]
def k0_off529 (v641 : BitVec 32) : Fin 2 → Nat :=
  let v642 : BitVec 32 := v641
  let c0_i32_507 : BitVec 32 := 0#32
  ![v642.toNat, 0]

def k0_chk168 (i : grid0.Coords) (v641 : BitVec 32) : Prop :=
  (∀ (k0_h4 : k0_cond4 i = 1#1), 8 ∣ (k0_mult336 v641).toNat) ∧
  (∀ (k0_h4 : k0_cond4 i = 1#1), ∀ a, (k0_off529 v641) a + S8x128.size a ≤ S524288x128.size a)
theorem k0_mult336_dvd : ∀ (i : grid0.Coords) (v641 : BitVec 32) (k0_hw168 : k0_chk168 i v641), ∀ (k0_h4 : k0_cond4 i = 1#1), 8 ∣ (k0_mult336 v641).toNat := fun i v641 k0_hw168 k0_h4 => k0_hw168.1 k0_h4
theorem k0_off529_inb : ∀ (i : grid0.Coords) (v641 : BitVec 32) (k0_hw168 : k0_chk168 i v641), ∀ (k0_h4 : k0_cond4 i = 1#1), ∀ a, (k0_off529 v641) a + S8x128.size a ≤ S524288x128.size a := fun i v641 k0_hw168 k0_h4 => k0_hw168.2 k0_h4

def k0_off530 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_510 : BitVec 32 := 8#32
  let v653 : BitVec 32 := Scalar.muli v652 c8_i32_510
  let c0_i32_511 : BitVec 32 := 0#32
  let v654 : BitVec 32 := Scalar.addi v653 c0_i32_511
  let v655 : Index := Scalar.indexCast v654
  ![v655.toNat]
def k0_mult338 (v656 : BitVec 32) : BitVec 32 :=
  v656

def k0_mult339 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_512 : BitVec 32 := 8#32
  let v658 : BitVec 32 := Scalar.muli v652 c8_i32_512
  v658
def k0_off531 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_512 : BitVec 32 := 8#32
  let v658 : BitVec 32 := Scalar.muli v652 c8_i32_512
  let v659 : BitVec 32 := v658
  let c0_i32_518 : BitVec 32 := 0#32
  ![v659.toNat, 0]
def k0_off532 (v656 : BitVec 32) : Fin 2 → Nat :=
  let v657 : BitVec 32 := v656
  let c0_i32_519 : BitVec 32 := 0#32
  ![v657.toNat, 0]

def k0_chk169 (i : grid0.Coords) (v656 : BitVec 32) : Prop :=
  (∀ (k0_h4 : k0_cond4 i = 1#1), 8 ∣ (k0_mult338 v656).toNat) ∧
  (∀ (k0_h4 : k0_cond4 i = 1#1), ∀ a, (k0_off532 v656) a + S8x128.size a ≤ S524288x128.size a)
theorem k0_mult338_dvd : ∀ (i : grid0.Coords) (v656 : BitVec 32) (k0_hw169 : k0_chk169 i v656), ∀ (k0_h4 : k0_cond4 i = 1#1), 8 ∣ (k0_mult338 v656).toNat := fun i v656 k0_hw169 k0_h4 => k0_hw169.1 k0_h4
theorem k0_off532_inb : ∀ (i : grid0.Coords) (v656 : BitVec 32) (k0_hw169 : k0_chk169 i v656), ∀ (k0_h4 : k0_cond4 i = 1#1), ∀ a, (k0_off532 v656) a + S8x128.size a ≤ S524288x128.size a := fun i v656 k0_hw169 k0_h4 => k0_hw169.2 k0_h4

def k0_off533 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_520 : BitVec 32 := 8#32
  let v666 : BitVec 32 := Scalar.muli v652 c8_i32_520
  let c1_i32_521 : BitVec 32 := 1#32
  let v667 : BitVec 32 := Scalar.addi v666 c1_i32_521
  let v668 : Index := Scalar.indexCast v667
  ![v668.toNat]
def k0_mult340 (v669 : BitVec 32) : BitVec 32 :=
  v669

def k0_mult341 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_522 : BitVec 32 := 8#32
  let v671 : BitVec 32 := Scalar.muli v652 c8_i32_522
  v671
def k0_off534 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_522 : BitVec 32 := 8#32
  let v671 : BitVec 32 := Scalar.muli v652 c8_i32_522
  let v672 : BitVec 32 := v671
  let c0_i32_528 : BitVec 32 := 0#32
  ![v672.toNat, 0]
def k0_off535 (v669 : BitVec 32) : Fin 2 → Nat :=
  let v670 : BitVec 32 := v669
  let c0_i32_529 : BitVec 32 := 0#32
  ![v670.toNat, 0]

def k0_chk170 (i : grid0.Coords) (v669 : BitVec 32) : Prop :=
  (∀ (k0_h4 : k0_cond4 i = 1#1), 8 ∣ (k0_mult340 v669).toNat) ∧
  (∀ (k0_h4 : k0_cond4 i = 1#1), ∀ a, (k0_off535 v669) a + S8x128.size a ≤ S524288x128.size a)
theorem k0_mult340_dvd : ∀ (i : grid0.Coords) (v669 : BitVec 32) (k0_hw170 : k0_chk170 i v669), ∀ (k0_h4 : k0_cond4 i = 1#1), 8 ∣ (k0_mult340 v669).toNat := fun i v669 k0_hw170 k0_h4 => k0_hw170.1 k0_h4
theorem k0_off535_inb : ∀ (i : grid0.Coords) (v669 : BitVec 32) (k0_hw170 : k0_chk170 i v669), ∀ (k0_h4 : k0_cond4 i = 1#1), ∀ a, (k0_off535 v669) a + S8x128.size a ≤ S524288x128.size a := fun i v669 k0_hw170 k0_h4 => k0_hw170.2 k0_h4

def k0_off536 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_530 : BitVec 32 := 8#32
  let v679 : BitVec 32 := Scalar.muli v652 c8_i32_530
  let c2_i32_531 : BitVec 32 := 2#32
  let v680 : BitVec 32 := Scalar.addi v679 c2_i32_531
  let v681 : Index := Scalar.indexCast v680
  ![v681.toNat]
def k0_mult342 (v682 : BitVec 32) : BitVec 32 :=
  v682

def k0_mult343 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_532 : BitVec 32 := 8#32
  let v684 : BitVec 32 := Scalar.muli v652 c8_i32_532
  v684
def k0_off537 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_532 : BitVec 32 := 8#32
  let v684 : BitVec 32 := Scalar.muli v652 c8_i32_532
  let v685 : BitVec 32 := v684
  let c0_i32_538 : BitVec 32 := 0#32
  ![v685.toNat, 0]
def k0_off538 (v682 : BitVec 32) : Fin 2 → Nat :=
  let v683 : BitVec 32 := v682
  let c0_i32_539 : BitVec 32 := 0#32
  ![v683.toNat, 0]

def k0_chk171 (i : grid0.Coords) (v682 : BitVec 32) : Prop :=
  (∀ (k0_h4 : k0_cond4 i = 1#1), 8 ∣ (k0_mult342 v682).toNat) ∧
  (∀ (k0_h4 : k0_cond4 i = 1#1), ∀ a, (k0_off538 v682) a + S8x128.size a ≤ S524288x128.size a)
theorem k0_mult342_dvd : ∀ (i : grid0.Coords) (v682 : BitVec 32) (k0_hw171 : k0_chk171 i v682), ∀ (k0_h4 : k0_cond4 i = 1#1), 8 ∣ (k0_mult342 v682).toNat := fun i v682 k0_hw171 k0_h4 => k0_hw171.1 k0_h4
theorem k0_off538_inb : ∀ (i : grid0.Coords) (v682 : BitVec 32) (k0_hw171 : k0_chk171 i v682), ∀ (k0_h4 : k0_cond4 i = 1#1), ∀ a, (k0_off538 v682) a + S8x128.size a ≤ S524288x128.size a := fun i v682 k0_hw171 k0_h4 => k0_hw171.2 k0_h4

def k0_off539 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_540 : BitVec 32 := 8#32
  let v692 : BitVec 32 := Scalar.muli v652 c8_i32_540
  let c3_i32_541 : BitVec 32 := 3#32
  let v693 : BitVec 32 := Scalar.addi v692 c3_i32_541
  let v694 : Index := Scalar.indexCast v693
  ![v694.toNat]
def k0_mult344 (v695 : BitVec 32) : BitVec 32 :=
  v695

def k0_mult345 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_542 : BitVec 32 := 8#32
  let v697 : BitVec 32 := Scalar.muli v652 c8_i32_542
  v697
def k0_off540 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_542 : BitVec 32 := 8#32
  let v697 : BitVec 32 := Scalar.muli v652 c8_i32_542
  let v698 : BitVec 32 := v697
  let c0_i32_548 : BitVec 32 := 0#32
  ![v698.toNat, 0]
def k0_off541 (v695 : BitVec 32) : Fin 2 → Nat :=
  let v696 : BitVec 32 := v695
  let c0_i32_549 : BitVec 32 := 0#32
  ![v696.toNat, 0]

def k0_chk172 (i : grid0.Coords) (v695 : BitVec 32) : Prop :=
  (∀ (k0_h4 : k0_cond4 i = 1#1), 8 ∣ (k0_mult344 v695).toNat) ∧
  (∀ (k0_h4 : k0_cond4 i = 1#1), ∀ a, (k0_off541 v695) a + S8x128.size a ≤ S524288x128.size a)
theorem k0_mult344_dvd : ∀ (i : grid0.Coords) (v695 : BitVec 32) (k0_hw172 : k0_chk172 i v695), ∀ (k0_h4 : k0_cond4 i = 1#1), 8 ∣ (k0_mult344 v695).toNat := fun i v695 k0_hw172 k0_h4 => k0_hw172.1 k0_h4
theorem k0_off541_inb : ∀ (i : grid0.Coords) (v695 : BitVec 32) (k0_hw172 : k0_chk172 i v695), ∀ (k0_h4 : k0_cond4 i = 1#1), ∀ a, (k0_off541 v695) a + S8x128.size a ≤ S524288x128.size a := fun i v695 k0_hw172 k0_h4 => k0_hw172.2 k0_h4

def k0_off542 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_550 : BitVec 32 := 8#32
  let v705 : BitVec 32 := Scalar.muli v652 c8_i32_550
  let c4_i32_551 : BitVec 32 := 4#32
  let v706 : BitVec 32 := Scalar.addi v705 c4_i32_551
  let v707 : Index := Scalar.indexCast v706
  ![v707.toNat]
def k0_mult346 (v708 : BitVec 32) : BitVec 32 :=
  v708

def k0_mult347 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_552 : BitVec 32 := 8#32
  let v710 : BitVec 32 := Scalar.muli v652 c8_i32_552
  v710
def k0_off543 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_552 : BitVec 32 := 8#32
  let v710 : BitVec 32 := Scalar.muli v652 c8_i32_552
  let v711 : BitVec 32 := v710
  let c0_i32_558 : BitVec 32 := 0#32
  ![v711.toNat, 0]
def k0_off544 (v708 : BitVec 32) : Fin 2 → Nat :=
  let v709 : BitVec 32 := v708
  let c0_i32_559 : BitVec 32 := 0#32
  ![v709.toNat, 0]

def k0_chk173 (i : grid0.Coords) (v708 : BitVec 32) : Prop :=
  (∀ (k0_h4 : k0_cond4 i = 1#1), 8 ∣ (k0_mult346 v708).toNat) ∧
  (∀ (k0_h4 : k0_cond4 i = 1#1), ∀ a, (k0_off544 v708) a + S8x128.size a ≤ S524288x128.size a)
theorem k0_mult346_dvd : ∀ (i : grid0.Coords) (v708 : BitVec 32) (k0_hw173 : k0_chk173 i v708), ∀ (k0_h4 : k0_cond4 i = 1#1), 8 ∣ (k0_mult346 v708).toNat := fun i v708 k0_hw173 k0_h4 => k0_hw173.1 k0_h4
theorem k0_off544_inb : ∀ (i : grid0.Coords) (v708 : BitVec 32) (k0_hw173 : k0_chk173 i v708), ∀ (k0_h4 : k0_cond4 i = 1#1), ∀ a, (k0_off544 v708) a + S8x128.size a ≤ S524288x128.size a := fun i v708 k0_hw173 k0_h4 => k0_hw173.2 k0_h4

def k0_off545 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_560 : BitVec 32 := 8#32
  let v718 : BitVec 32 := Scalar.muli v652 c8_i32_560
  let c5_i32_561 : BitVec 32 := 5#32
  let v719 : BitVec 32 := Scalar.addi v718 c5_i32_561
  let v720 : Index := Scalar.indexCast v719
  ![v720.toNat]
def k0_mult348 (v721 : BitVec 32) : BitVec 32 :=
  v721

def k0_mult349 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_562 : BitVec 32 := 8#32
  let v723 : BitVec 32 := Scalar.muli v652 c8_i32_562
  v723
def k0_off546 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_562 : BitVec 32 := 8#32
  let v723 : BitVec 32 := Scalar.muli v652 c8_i32_562
  let v724 : BitVec 32 := v723
  let c0_i32_568 : BitVec 32 := 0#32
  ![v724.toNat, 0]
def k0_off547 (v721 : BitVec 32) : Fin 2 → Nat :=
  let v722 : BitVec 32 := v721
  let c0_i32_569 : BitVec 32 := 0#32
  ![v722.toNat, 0]

def k0_chk174 (i : grid0.Coords) (v721 : BitVec 32) : Prop :=
  (∀ (k0_h4 : k0_cond4 i = 1#1), 8 ∣ (k0_mult348 v721).toNat) ∧
  (∀ (k0_h4 : k0_cond4 i = 1#1), ∀ a, (k0_off547 v721) a + S8x128.size a ≤ S524288x128.size a)
theorem k0_mult348_dvd : ∀ (i : grid0.Coords) (v721 : BitVec 32) (k0_hw174 : k0_chk174 i v721), ∀ (k0_h4 : k0_cond4 i = 1#1), 8 ∣ (k0_mult348 v721).toNat := fun i v721 k0_hw174 k0_h4 => k0_hw174.1 k0_h4
theorem k0_off547_inb : ∀ (i : grid0.Coords) (v721 : BitVec 32) (k0_hw174 : k0_chk174 i v721), ∀ (k0_h4 : k0_cond4 i = 1#1), ∀ a, (k0_off547 v721) a + S8x128.size a ≤ S524288x128.size a := fun i v721 k0_hw174 k0_h4 => k0_hw174.2 k0_h4

def k0_off548 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_570 : BitVec 32 := 8#32
  let v731 : BitVec 32 := Scalar.muli v652 c8_i32_570
  let c6_i32_571 : BitVec 32 := 6#32
  let v732 : BitVec 32 := Scalar.addi v731 c6_i32_571
  let v733 : Index := Scalar.indexCast v732
  ![v733.toNat]
def k0_mult350 (v734 : BitVec 32) : BitVec 32 :=
  v734

def k0_mult351 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_572 : BitVec 32 := 8#32
  let v736 : BitVec 32 := Scalar.muli v652 c8_i32_572
  v736
def k0_off549 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_572 : BitVec 32 := 8#32
  let v736 : BitVec 32 := Scalar.muli v652 c8_i32_572
  let v737 : BitVec 32 := v736
  let c0_i32_578 : BitVec 32 := 0#32
  ![v737.toNat, 0]
def k0_off550 (v734 : BitVec 32) : Fin 2 → Nat :=
  let v735 : BitVec 32 := v734
  let c0_i32_579 : BitVec 32 := 0#32
  ![v735.toNat, 0]

def k0_chk175 (i : grid0.Coords) (v734 : BitVec 32) : Prop :=
  (∀ (k0_h4 : k0_cond4 i = 1#1), 8 ∣ (k0_mult350 v734).toNat) ∧
  (∀ (k0_h4 : k0_cond4 i = 1#1), ∀ a, (k0_off550 v734) a + S8x128.size a ≤ S524288x128.size a)
theorem k0_mult350_dvd : ∀ (i : grid0.Coords) (v734 : BitVec 32) (k0_hw175 : k0_chk175 i v734), ∀ (k0_h4 : k0_cond4 i = 1#1), 8 ∣ (k0_mult350 v734).toNat := fun i v734 k0_hw175 k0_h4 => k0_hw175.1 k0_h4
theorem k0_off550_inb : ∀ (i : grid0.Coords) (v734 : BitVec 32) (k0_hw175 : k0_chk175 i v734), ∀ (k0_h4 : k0_cond4 i = 1#1), ∀ a, (k0_off550 v734) a + S8x128.size a ≤ S524288x128.size a := fun i v734 k0_hw175 k0_h4 => k0_hw175.2 k0_h4

def k0_off551 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_580 : BitVec 32 := 8#32
  let v744 : BitVec 32 := Scalar.muli v652 c8_i32_580
  let c7_i32_581 : BitVec 32 := 7#32
  let v745 : BitVec 32 := Scalar.addi v744 c7_i32_581
  let v746 : Index := Scalar.indexCast v745
  ![v746.toNat]
def k0_mult352 (v747 : BitVec 32) : BitVec 32 :=
  v747

def k0_mult353 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_582 : BitVec 32 := 8#32
  let v749 : BitVec 32 := Scalar.muli v652 c8_i32_582
  v749
def k0_off552 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_508 : BitVec 32 := 8#32
  let v651 : BitVec 32 := Scalar.muli arg16 c8_i32_508
  let c5_i32_509 : BitVec 32 := 5#32
  let v652 : BitVec 32 := Scalar.addi v651 c5_i32_509
  let c8_i32_582 : BitVec 32 := 8#32
  let v749 : BitVec 32 := Scalar.muli v652 c8_i32_582
  let v750 : BitVec 32 := v749
  let c0_i32_588 : BitVec 32 := 0#32
  ![v750.toNat, 0]
def k0_off553 (v747 : BitVec 32) : Fin 2 → Nat :=
  let v748 : BitVec 32 := v747
  let c0_i32_589 : BitVec 32 := 0#32
  ![v748.toNat, 0]

def k0_chk176 (i : grid0.Coords) (v747 : BitVec 32) : Prop :=
  (∀ (k0_h4 : k0_cond4 i = 1#1), 8 ∣ (k0_mult352 v747).toNat) ∧
  (∀ (k0_h4 : k0_cond4 i = 1#1), ∀ a, (k0_off553 v747) a + S8x128.size a ≤ S524288x128.size a)
theorem k0_mult352_dvd : ∀ (i : grid0.Coords) (v747 : BitVec 32) (k0_hw176 : k0_chk176 i v747), ∀ (k0_h4 : k0_cond4 i = 1#1), 8 ∣ (k0_mult352 v747).toNat := fun i v747 k0_hw176 k0_h4 => k0_hw176.1 k0_h4
theorem k0_off553_inb : ∀ (i : grid0.Coords) (v747 : BitVec 32) (k0_hw176 : k0_chk176 i v747), ∀ (k0_h4 : k0_cond4 i = 1#1), ∀ a, (k0_off553 v747) a + S8x128.size a ≤ S524288x128.size a := fun i v747 k0_hw176 k0_h4 => k0_hw176.2 k0_h4

def k0_off554 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_592 : BitVec 32 := 8#32
  let v759 : BitVec 32 := Scalar.muli v758 c8_i32_592
  let c0_i32_593 : BitVec 32 := 0#32
  let v760 : BitVec 32 := Scalar.addi v759 c0_i32_593
  let v761 : Index := Scalar.indexCast v760
  ![v761.toNat]
def k0_mult354 (v762 : BitVec 32) : BitVec 32 :=
  v762

def k0_mult355 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_594 : BitVec 32 := 8#32
  let v764 : BitVec 32 := Scalar.muli v758 c8_i32_594
  v764
def k0_off555 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_594 : BitVec 32 := 8#32
  let v764 : BitVec 32 := Scalar.muli v758 c8_i32_594
  let v765 : BitVec 32 := v764
  let c0_i32_600 : BitVec 32 := 0#32
  ![v765.toNat, 0]
def k0_off556 (v762 : BitVec 32) : Fin 2 → Nat :=
  let v763 : BitVec 32 := v762
  let c0_i32_601 : BitVec 32 := 0#32
  ![v763.toNat, 0]

def k0_chk177 (i : grid0.Coords) (v762 : BitVec 32) : Prop :=
  (∀ (k0_h4 : k0_cond4 i = 1#1), 8 ∣ (k0_mult354 v762).toNat) ∧
  (∀ (k0_h4 : k0_cond4 i = 1#1), ∀ a, (k0_off556 v762) a + S8x128.size a ≤ S524288x128.size a)
theorem k0_mult354_dvd : ∀ (i : grid0.Coords) (v762 : BitVec 32) (k0_hw177 : k0_chk177 i v762), ∀ (k0_h4 : k0_cond4 i = 1#1), 8 ∣ (k0_mult354 v762).toNat := fun i v762 k0_hw177 k0_h4 => k0_hw177.1 k0_h4
theorem k0_off556_inb : ∀ (i : grid0.Coords) (v762 : BitVec 32) (k0_hw177 : k0_chk177 i v762), ∀ (k0_h4 : k0_cond4 i = 1#1), ∀ a, (k0_off556 v762) a + S8x128.size a ≤ S524288x128.size a := fun i v762 k0_hw177 k0_h4 => k0_hw177.2 k0_h4

def k0_off557 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_602 : BitVec 32 := 8#32
  let v772 : BitVec 32 := Scalar.muli v758 c8_i32_602
  let c1_i32_603 : BitVec 32 := 1#32
  let v773 : BitVec 32 := Scalar.addi v772 c1_i32_603
  let v774 : Index := Scalar.indexCast v773
  ![v774.toNat]
def k0_mult356 (v775 : BitVec 32) : BitVec 32 :=
  v775

def k0_mult357 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_604 : BitVec 32 := 8#32
  let v777 : BitVec 32 := Scalar.muli v758 c8_i32_604
  v777
def k0_off558 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_604 : BitVec 32 := 8#32
  let v777 : BitVec 32 := Scalar.muli v758 c8_i32_604
  let v778 : BitVec 32 := v777
  let c0_i32_610 : BitVec 32 := 0#32
  ![v778.toNat, 0]
def k0_off559 (v775 : BitVec 32) : Fin 2 → Nat :=
  let v776 : BitVec 32 := v775
  let c0_i32_611 : BitVec 32 := 0#32
  ![v776.toNat, 0]

def k0_chk178 (i : grid0.Coords) (v775 : BitVec 32) : Prop :=
  (∀ (k0_h4 : k0_cond4 i = 1#1), 8 ∣ (k0_mult356 v775).toNat) ∧
  (∀ (k0_h4 : k0_cond4 i = 1#1), ∀ a, (k0_off559 v775) a + S8x128.size a ≤ S524288x128.size a)
theorem k0_mult356_dvd : ∀ (i : grid0.Coords) (v775 : BitVec 32) (k0_hw178 : k0_chk178 i v775), ∀ (k0_h4 : k0_cond4 i = 1#1), 8 ∣ (k0_mult356 v775).toNat := fun i v775 k0_hw178 k0_h4 => k0_hw178.1 k0_h4
theorem k0_off559_inb : ∀ (i : grid0.Coords) (v775 : BitVec 32) (k0_hw178 : k0_chk178 i v775), ∀ (k0_h4 : k0_cond4 i = 1#1), ∀ a, (k0_off559 v775) a + S8x128.size a ≤ S524288x128.size a := fun i v775 k0_hw178 k0_h4 => k0_hw178.2 k0_h4

def k0_off560 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_612 : BitVec 32 := 8#32
  let v785 : BitVec 32 := Scalar.muli v758 c8_i32_612
  let c2_i32_613 : BitVec 32 := 2#32
  let v786 : BitVec 32 := Scalar.addi v785 c2_i32_613
  let v787 : Index := Scalar.indexCast v786
  ![v787.toNat]
def k0_mult358 (v788 : BitVec 32) : BitVec 32 :=
  v788

def k0_mult359 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_614 : BitVec 32 := 8#32
  let v790 : BitVec 32 := Scalar.muli v758 c8_i32_614
  v790
def k0_off561 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_614 : BitVec 32 := 8#32
  let v790 : BitVec 32 := Scalar.muli v758 c8_i32_614
  let v791 : BitVec 32 := v790
  let c0_i32_620 : BitVec 32 := 0#32
  ![v791.toNat, 0]
def k0_off562 (v788 : BitVec 32) : Fin 2 → Nat :=
  let v789 : BitVec 32 := v788
  let c0_i32_621 : BitVec 32 := 0#32
  ![v789.toNat, 0]

def k0_chk179 (i : grid0.Coords) (v788 : BitVec 32) : Prop :=
  (∀ (k0_h4 : k0_cond4 i = 1#1), 8 ∣ (k0_mult358 v788).toNat) ∧
  (∀ (k0_h4 : k0_cond4 i = 1#1), ∀ a, (k0_off562 v788) a + S8x128.size a ≤ S524288x128.size a)
theorem k0_mult358_dvd : ∀ (i : grid0.Coords) (v788 : BitVec 32) (k0_hw179 : k0_chk179 i v788), ∀ (k0_h4 : k0_cond4 i = 1#1), 8 ∣ (k0_mult358 v788).toNat := fun i v788 k0_hw179 k0_h4 => k0_hw179.1 k0_h4
theorem k0_off562_inb : ∀ (i : grid0.Coords) (v788 : BitVec 32) (k0_hw179 : k0_chk179 i v788), ∀ (k0_h4 : k0_cond4 i = 1#1), ∀ a, (k0_off562 v788) a + S8x128.size a ≤ S524288x128.size a := fun i v788 k0_hw179 k0_h4 => k0_hw179.2 k0_h4

def k0_off563 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_622 : BitVec 32 := 8#32
  let v798 : BitVec 32 := Scalar.muli v758 c8_i32_622
  let c3_i32_623 : BitVec 32 := 3#32
  let v799 : BitVec 32 := Scalar.addi v798 c3_i32_623
  let v800 : Index := Scalar.indexCast v799
  ![v800.toNat]
def k0_mult360 (v801 : BitVec 32) : BitVec 32 :=
  v801

def k0_mult361 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_624 : BitVec 32 := 8#32
  let v803 : BitVec 32 := Scalar.muli v758 c8_i32_624
  v803
def k0_off564 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_624 : BitVec 32 := 8#32
  let v803 : BitVec 32 := Scalar.muli v758 c8_i32_624
  let v804 : BitVec 32 := v803
  let c0_i32_630 : BitVec 32 := 0#32
  ![v804.toNat, 0]
def k0_off565 (v801 : BitVec 32) : Fin 2 → Nat :=
  let v802 : BitVec 32 := v801
  let c0_i32_631 : BitVec 32 := 0#32
  ![v802.toNat, 0]

def k0_chk180 (i : grid0.Coords) (v801 : BitVec 32) : Prop :=
  (∀ (k0_h4 : k0_cond4 i = 1#1), 8 ∣ (k0_mult360 v801).toNat) ∧
  (∀ (k0_h4 : k0_cond4 i = 1#1), ∀ a, (k0_off565 v801) a + S8x128.size a ≤ S524288x128.size a)
theorem k0_mult360_dvd : ∀ (i : grid0.Coords) (v801 : BitVec 32) (k0_hw180 : k0_chk180 i v801), ∀ (k0_h4 : k0_cond4 i = 1#1), 8 ∣ (k0_mult360 v801).toNat := fun i v801 k0_hw180 k0_h4 => k0_hw180.1 k0_h4
theorem k0_off565_inb : ∀ (i : grid0.Coords) (v801 : BitVec 32) (k0_hw180 : k0_chk180 i v801), ∀ (k0_h4 : k0_cond4 i = 1#1), ∀ a, (k0_off565 v801) a + S8x128.size a ≤ S524288x128.size a := fun i v801 k0_hw180 k0_h4 => k0_hw180.2 k0_h4

def k0_off566 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_632 : BitVec 32 := 8#32
  let v811 : BitVec 32 := Scalar.muli v758 c8_i32_632
  let c4_i32_633 : BitVec 32 := 4#32
  let v812 : BitVec 32 := Scalar.addi v811 c4_i32_633
  let v813 : Index := Scalar.indexCast v812
  ![v813.toNat]
def k0_mult362 (v814 : BitVec 32) : BitVec 32 :=
  v814

def k0_mult363 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_634 : BitVec 32 := 8#32
  let v816 : BitVec 32 := Scalar.muli v758 c8_i32_634
  v816
def k0_off567 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_634 : BitVec 32 := 8#32
  let v816 : BitVec 32 := Scalar.muli v758 c8_i32_634
  let v817 : BitVec 32 := v816
  let c0_i32_640 : BitVec 32 := 0#32
  ![v817.toNat, 0]
def k0_off568 (v814 : BitVec 32) : Fin 2 → Nat :=
  let v815 : BitVec 32 := v814
  let c0_i32_641 : BitVec 32 := 0#32
  ![v815.toNat, 0]

def k0_chk181 (i : grid0.Coords) (v814 : BitVec 32) : Prop :=
  (∀ (k0_h4 : k0_cond4 i = 1#1), 8 ∣ (k0_mult362 v814).toNat) ∧
  (∀ (k0_h4 : k0_cond4 i = 1#1), ∀ a, (k0_off568 v814) a + S8x128.size a ≤ S524288x128.size a)
theorem k0_mult362_dvd : ∀ (i : grid0.Coords) (v814 : BitVec 32) (k0_hw181 : k0_chk181 i v814), ∀ (k0_h4 : k0_cond4 i = 1#1), 8 ∣ (k0_mult362 v814).toNat := fun i v814 k0_hw181 k0_h4 => k0_hw181.1 k0_h4
theorem k0_off568_inb : ∀ (i : grid0.Coords) (v814 : BitVec 32) (k0_hw181 : k0_chk181 i v814), ∀ (k0_h4 : k0_cond4 i = 1#1), ∀ a, (k0_off568 v814) a + S8x128.size a ≤ S524288x128.size a := fun i v814 k0_hw181 k0_h4 => k0_hw181.2 k0_h4

def k0_off569 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_642 : BitVec 32 := 8#32
  let v824 : BitVec 32 := Scalar.muli v758 c8_i32_642
  let c5_i32_643 : BitVec 32 := 5#32
  let v825 : BitVec 32 := Scalar.addi v824 c5_i32_643
  let v826 : Index := Scalar.indexCast v825
  ![v826.toNat]
def k0_mult364 (v827 : BitVec 32) : BitVec 32 :=
  v827

def k0_mult365 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_644 : BitVec 32 := 8#32
  let v829 : BitVec 32 := Scalar.muli v758 c8_i32_644
  v829
def k0_off570 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_644 : BitVec 32 := 8#32
  let v829 : BitVec 32 := Scalar.muli v758 c8_i32_644
  let v830 : BitVec 32 := v829
  let c0_i32_650 : BitVec 32 := 0#32
  ![v830.toNat, 0]
def k0_off571 (v827 : BitVec 32) : Fin 2 → Nat :=
  let v828 : BitVec 32 := v827
  let c0_i32_651 : BitVec 32 := 0#32
  ![v828.toNat, 0]

def k0_chk182 (i : grid0.Coords) (v827 : BitVec 32) : Prop :=
  (∀ (k0_h4 : k0_cond4 i = 1#1), 8 ∣ (k0_mult364 v827).toNat) ∧
  (∀ (k0_h4 : k0_cond4 i = 1#1), ∀ a, (k0_off571 v827) a + S8x128.size a ≤ S524288x128.size a)
theorem k0_mult364_dvd : ∀ (i : grid0.Coords) (v827 : BitVec 32) (k0_hw182 : k0_chk182 i v827), ∀ (k0_h4 : k0_cond4 i = 1#1), 8 ∣ (k0_mult364 v827).toNat := fun i v827 k0_hw182 k0_h4 => k0_hw182.1 k0_h4
theorem k0_off571_inb : ∀ (i : grid0.Coords) (v827 : BitVec 32) (k0_hw182 : k0_chk182 i v827), ∀ (k0_h4 : k0_cond4 i = 1#1), ∀ a, (k0_off571 v827) a + S8x128.size a ≤ S524288x128.size a := fun i v827 k0_hw182 k0_h4 => k0_hw182.2 k0_h4

def k0_off572 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_652 : BitVec 32 := 8#32
  let v837 : BitVec 32 := Scalar.muli v758 c8_i32_652
  let c6_i32_653 : BitVec 32 := 6#32
  let v838 : BitVec 32 := Scalar.addi v837 c6_i32_653
  let v839 : Index := Scalar.indexCast v838
  ![v839.toNat]
def k0_mult366 (v840 : BitVec 32) : BitVec 32 :=
  v840

def k0_mult367 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_654 : BitVec 32 := 8#32
  let v842 : BitVec 32 := Scalar.muli v758 c8_i32_654
  v842
def k0_off573 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_654 : BitVec 32 := 8#32
  let v842 : BitVec 32 := Scalar.muli v758 c8_i32_654
  let v843 : BitVec 32 := v842
  let c0_i32_660 : BitVec 32 := 0#32
  ![v843.toNat, 0]
def k0_off574 (v840 : BitVec 32) : Fin 2 → Nat :=
  let v841 : BitVec 32 := v840
  let c0_i32_661 : BitVec 32 := 0#32
  ![v841.toNat, 0]

def k0_chk183 (i : grid0.Coords) (v840 : BitVec 32) : Prop :=
  (∀ (k0_h4 : k0_cond4 i = 1#1), 8 ∣ (k0_mult366 v840).toNat) ∧
  (∀ (k0_h4 : k0_cond4 i = 1#1), ∀ a, (k0_off574 v840) a + S8x128.size a ≤ S524288x128.size a)
theorem k0_mult366_dvd : ∀ (i : grid0.Coords) (v840 : BitVec 32) (k0_hw183 : k0_chk183 i v840), ∀ (k0_h4 : k0_cond4 i = 1#1), 8 ∣ (k0_mult366 v840).toNat := fun i v840 k0_hw183 k0_h4 => k0_hw183.1 k0_h4
theorem k0_off574_inb : ∀ (i : grid0.Coords) (v840 : BitVec 32) (k0_hw183 : k0_chk183 i v840), ∀ (k0_h4 : k0_cond4 i = 1#1), ∀ a, (k0_off574 v840) a + S8x128.size a ≤ S524288x128.size a := fun i v840 k0_hw183 k0_h4 => k0_hw183.2 k0_h4

def k0_off575 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_662 : BitVec 32 := 8#32
  let v850 : BitVec 32 := Scalar.muli v758 c8_i32_662
  let c7_i32_663 : BitVec 32 := 7#32
  let v851 : BitVec 32 := Scalar.addi v850 c7_i32_663
  let v852 : Index := Scalar.indexCast v851
  ![v852.toNat]
def k0_mult368 (v853 : BitVec 32) : BitVec 32 :=
  v853

def k0_mult369 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_664 : BitVec 32 := 8#32
  let v855 : BitVec 32 := Scalar.muli v758 c8_i32_664
  v855
def k0_off576 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_590 : BitVec 32 := 8#32
  let v757 : BitVec 32 := Scalar.muli arg16 c8_i32_590
  let c6_i32_591 : BitVec 32 := 6#32
  let v758 : BitVec 32 := Scalar.addi v757 c6_i32_591
  let c8_i32_664 : BitVec 32 := 8#32
  let v855 : BitVec 32 := Scalar.muli v758 c8_i32_664
  let v856 : BitVec 32 := v855
  let c0_i32_670 : BitVec 32 := 0#32
  ![v856.toNat, 0]
def k0_off577 (v853 : BitVec 32) : Fin 2 → Nat :=
  let v854 : BitVec 32 := v853
  let c0_i32_671 : BitVec 32 := 0#32
  ![v854.toNat, 0]

def k0_chk184 (i : grid0.Coords) (v853 : BitVec 32) : Prop :=
  (∀ (k0_h4 : k0_cond4 i = 1#1), 8 ∣ (k0_mult368 v853).toNat) ∧
  (∀ (k0_h4 : k0_cond4 i = 1#1), ∀ a, (k0_off577 v853) a + S8x128.size a ≤ S524288x128.size a)
theorem k0_mult368_dvd : ∀ (i : grid0.Coords) (v853 : BitVec 32) (k0_hw184 : k0_chk184 i v853), ∀ (k0_h4 : k0_cond4 i = 1#1), 8 ∣ (k0_mult368 v853).toNat := fun i v853 k0_hw184 k0_h4 => k0_hw184.1 k0_h4
theorem k0_off577_inb : ∀ (i : grid0.Coords) (v853 : BitVec 32) (k0_hw184 : k0_chk184 i v853), ∀ (k0_h4 : k0_cond4 i = 1#1), ∀ a, (k0_off577 v853) a + S8x128.size a ≤ S524288x128.size a := fun i v853 k0_hw184 k0_h4 => k0_hw184.2 k0_h4

def k0_off578 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_674 : BitVec 32 := 8#32
  let v865 : BitVec 32 := Scalar.muli v864 c8_i32_674
  let c0_i32_675 : BitVec 32 := 0#32
  let v866 : BitVec 32 := Scalar.addi v865 c0_i32_675
  let v867 : Index := Scalar.indexCast v866
  ![v867.toNat]
def k0_mult370 (v868 : BitVec 32) : BitVec 32 :=
  v868

def k0_mult371 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_676 : BitVec 32 := 8#32
  let v870 : BitVec 32 := Scalar.muli v864 c8_i32_676
  v870
def k0_off579 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_676 : BitVec 32 := 8#32
  let v870 : BitVec 32 := Scalar.muli v864 c8_i32_676
  let v871 : BitVec 32 := v870
  let c0_i32_682 : BitVec 32 := 0#32
  ![v871.toNat, 0]
def k0_off580 (v868 : BitVec 32) : Fin 2 → Nat :=
  let v869 : BitVec 32 := v868
  let c0_i32_683 : BitVec 32 := 0#32
  ![v869.toNat, 0]

def k0_chk185 (i : grid0.Coords) (v868 : BitVec 32) : Prop :=
  (∀ (k0_h4 : k0_cond4 i = 1#1), 8 ∣ (k0_mult370 v868).toNat) ∧
  (∀ (k0_h4 : k0_cond4 i = 1#1), ∀ a, (k0_off580 v868) a + S8x128.size a ≤ S524288x128.size a)
theorem k0_mult370_dvd : ∀ (i : grid0.Coords) (v868 : BitVec 32) (k0_hw185 : k0_chk185 i v868), ∀ (k0_h4 : k0_cond4 i = 1#1), 8 ∣ (k0_mult370 v868).toNat := fun i v868 k0_hw185 k0_h4 => k0_hw185.1 k0_h4
theorem k0_off580_inb : ∀ (i : grid0.Coords) (v868 : BitVec 32) (k0_hw185 : k0_chk185 i v868), ∀ (k0_h4 : k0_cond4 i = 1#1), ∀ a, (k0_off580 v868) a + S8x128.size a ≤ S524288x128.size a := fun i v868 k0_hw185 k0_h4 => k0_hw185.2 k0_h4

def k0_off581 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_684 : BitVec 32 := 8#32
  let v878 : BitVec 32 := Scalar.muli v864 c8_i32_684
  let c1_i32_685 : BitVec 32 := 1#32
  let v879 : BitVec 32 := Scalar.addi v878 c1_i32_685
  let v880 : Index := Scalar.indexCast v879
  ![v880.toNat]
def k0_mult372 (v881 : BitVec 32) : BitVec 32 :=
  v881

def k0_mult373 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_686 : BitVec 32 := 8#32
  let v883 : BitVec 32 := Scalar.muli v864 c8_i32_686
  v883
def k0_off582 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_686 : BitVec 32 := 8#32
  let v883 : BitVec 32 := Scalar.muli v864 c8_i32_686
  let v884 : BitVec 32 := v883
  let c0_i32_692 : BitVec 32 := 0#32
  ![v884.toNat, 0]
def k0_off583 (v881 : BitVec 32) : Fin 2 → Nat :=
  let v882 : BitVec 32 := v881
  let c0_i32_693 : BitVec 32 := 0#32
  ![v882.toNat, 0]

def k0_chk186 (i : grid0.Coords) (v881 : BitVec 32) : Prop :=
  (∀ (k0_h4 : k0_cond4 i = 1#1), 8 ∣ (k0_mult372 v881).toNat) ∧
  (∀ (k0_h4 : k0_cond4 i = 1#1), ∀ a, (k0_off583 v881) a + S8x128.size a ≤ S524288x128.size a)
theorem k0_mult372_dvd : ∀ (i : grid0.Coords) (v881 : BitVec 32) (k0_hw186 : k0_chk186 i v881), ∀ (k0_h4 : k0_cond4 i = 1#1), 8 ∣ (k0_mult372 v881).toNat := fun i v881 k0_hw186 k0_h4 => k0_hw186.1 k0_h4
theorem k0_off583_inb : ∀ (i : grid0.Coords) (v881 : BitVec 32) (k0_hw186 : k0_chk186 i v881), ∀ (k0_h4 : k0_cond4 i = 1#1), ∀ a, (k0_off583 v881) a + S8x128.size a ≤ S524288x128.size a := fun i v881 k0_hw186 k0_h4 => k0_hw186.2 k0_h4

def k0_off584 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_694 : BitVec 32 := 8#32
  let v891 : BitVec 32 := Scalar.muli v864 c8_i32_694
  let c2_i32_695 : BitVec 32 := 2#32
  let v892 : BitVec 32 := Scalar.addi v891 c2_i32_695
  let v893 : Index := Scalar.indexCast v892
  ![v893.toNat]
def k0_mult374 (v894 : BitVec 32) : BitVec 32 :=
  v894

def k0_mult375 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_696 : BitVec 32 := 8#32
  let v896 : BitVec 32 := Scalar.muli v864 c8_i32_696
  v896
def k0_off585 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_696 : BitVec 32 := 8#32
  let v896 : BitVec 32 := Scalar.muli v864 c8_i32_696
  let v897 : BitVec 32 := v896
  let c0_i32_702 : BitVec 32 := 0#32
  ![v897.toNat, 0]
def k0_off586 (v894 : BitVec 32) : Fin 2 → Nat :=
  let v895 : BitVec 32 := v894
  let c0_i32_703 : BitVec 32 := 0#32
  ![v895.toNat, 0]

def k0_chk187 (i : grid0.Coords) (v894 : BitVec 32) : Prop :=
  (∀ (k0_h4 : k0_cond4 i = 1#1), 8 ∣ (k0_mult374 v894).toNat) ∧
  (∀ (k0_h4 : k0_cond4 i = 1#1), ∀ a, (k0_off586 v894) a + S8x128.size a ≤ S524288x128.size a)
theorem k0_mult374_dvd : ∀ (i : grid0.Coords) (v894 : BitVec 32) (k0_hw187 : k0_chk187 i v894), ∀ (k0_h4 : k0_cond4 i = 1#1), 8 ∣ (k0_mult374 v894).toNat := fun i v894 k0_hw187 k0_h4 => k0_hw187.1 k0_h4
theorem k0_off586_inb : ∀ (i : grid0.Coords) (v894 : BitVec 32) (k0_hw187 : k0_chk187 i v894), ∀ (k0_h4 : k0_cond4 i = 1#1), ∀ a, (k0_off586 v894) a + S8x128.size a ≤ S524288x128.size a := fun i v894 k0_hw187 k0_h4 => k0_hw187.2 k0_h4

def k0_off587 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_704 : BitVec 32 := 8#32
  let v904 : BitVec 32 := Scalar.muli v864 c8_i32_704
  let c3_i32_705 : BitVec 32 := 3#32
  let v905 : BitVec 32 := Scalar.addi v904 c3_i32_705
  let v906 : Index := Scalar.indexCast v905
  ![v906.toNat]
def k0_mult376 (v907 : BitVec 32) : BitVec 32 :=
  v907

def k0_mult377 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_706 : BitVec 32 := 8#32
  let v909 : BitVec 32 := Scalar.muli v864 c8_i32_706
  v909
def k0_off588 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_706 : BitVec 32 := 8#32
  let v909 : BitVec 32 := Scalar.muli v864 c8_i32_706
  let v910 : BitVec 32 := v909
  let c0_i32_712 : BitVec 32 := 0#32
  ![v910.toNat, 0]
def k0_off589 (v907 : BitVec 32) : Fin 2 → Nat :=
  let v908 : BitVec 32 := v907
  let c0_i32_713 : BitVec 32 := 0#32
  ![v908.toNat, 0]

def k0_chk188 (i : grid0.Coords) (v907 : BitVec 32) : Prop :=
  (∀ (k0_h4 : k0_cond4 i = 1#1), 8 ∣ (k0_mult376 v907).toNat) ∧
  (∀ (k0_h4 : k0_cond4 i = 1#1), ∀ a, (k0_off589 v907) a + S8x128.size a ≤ S524288x128.size a)
theorem k0_mult376_dvd : ∀ (i : grid0.Coords) (v907 : BitVec 32) (k0_hw188 : k0_chk188 i v907), ∀ (k0_h4 : k0_cond4 i = 1#1), 8 ∣ (k0_mult376 v907).toNat := fun i v907 k0_hw188 k0_h4 => k0_hw188.1 k0_h4
theorem k0_off589_inb : ∀ (i : grid0.Coords) (v907 : BitVec 32) (k0_hw188 : k0_chk188 i v907), ∀ (k0_h4 : k0_cond4 i = 1#1), ∀ a, (k0_off589 v907) a + S8x128.size a ≤ S524288x128.size a := fun i v907 k0_hw188 k0_h4 => k0_hw188.2 k0_h4

def k0_off590 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_714 : BitVec 32 := 8#32
  let v917 : BitVec 32 := Scalar.muli v864 c8_i32_714
  let c4_i32_715 : BitVec 32 := 4#32
  let v918 : BitVec 32 := Scalar.addi v917 c4_i32_715
  let v919 : Index := Scalar.indexCast v918
  ![v919.toNat]
def k0_mult378 (v920 : BitVec 32) : BitVec 32 :=
  v920

def k0_mult379 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_716 : BitVec 32 := 8#32
  let v922 : BitVec 32 := Scalar.muli v864 c8_i32_716
  v922
def k0_off591 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_716 : BitVec 32 := 8#32
  let v922 : BitVec 32 := Scalar.muli v864 c8_i32_716
  let v923 : BitVec 32 := v922
  let c0_i32_722 : BitVec 32 := 0#32
  ![v923.toNat, 0]
def k0_off592 (v920 : BitVec 32) : Fin 2 → Nat :=
  let v921 : BitVec 32 := v920
  let c0_i32_723 : BitVec 32 := 0#32
  ![v921.toNat, 0]

def k0_chk189 (i : grid0.Coords) (v920 : BitVec 32) : Prop :=
  (∀ (k0_h4 : k0_cond4 i = 1#1), 8 ∣ (k0_mult378 v920).toNat) ∧
  (∀ (k0_h4 : k0_cond4 i = 1#1), ∀ a, (k0_off592 v920) a + S8x128.size a ≤ S524288x128.size a)
theorem k0_mult378_dvd : ∀ (i : grid0.Coords) (v920 : BitVec 32) (k0_hw189 : k0_chk189 i v920), ∀ (k0_h4 : k0_cond4 i = 1#1), 8 ∣ (k0_mult378 v920).toNat := fun i v920 k0_hw189 k0_h4 => k0_hw189.1 k0_h4
theorem k0_off592_inb : ∀ (i : grid0.Coords) (v920 : BitVec 32) (k0_hw189 : k0_chk189 i v920), ∀ (k0_h4 : k0_cond4 i = 1#1), ∀ a, (k0_off592 v920) a + S8x128.size a ≤ S524288x128.size a := fun i v920 k0_hw189 k0_h4 => k0_hw189.2 k0_h4

def k0_off593 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_724 : BitVec 32 := 8#32
  let v930 : BitVec 32 := Scalar.muli v864 c8_i32_724
  let c5_i32_725 : BitVec 32 := 5#32
  let v931 : BitVec 32 := Scalar.addi v930 c5_i32_725
  let v932 : Index := Scalar.indexCast v931
  ![v932.toNat]
def k0_mult380 (v933 : BitVec 32) : BitVec 32 :=
  v933

def k0_mult381 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_726 : BitVec 32 := 8#32
  let v935 : BitVec 32 := Scalar.muli v864 c8_i32_726
  v935
def k0_off594 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_726 : BitVec 32 := 8#32
  let v935 : BitVec 32 := Scalar.muli v864 c8_i32_726
  let v936 : BitVec 32 := v935
  let c0_i32_732 : BitVec 32 := 0#32
  ![v936.toNat, 0]
def k0_off595 (v933 : BitVec 32) : Fin 2 → Nat :=
  let v934 : BitVec 32 := v933
  let c0_i32_733 : BitVec 32 := 0#32
  ![v934.toNat, 0]

def k0_chk190 (i : grid0.Coords) (v933 : BitVec 32) : Prop :=
  (∀ (k0_h4 : k0_cond4 i = 1#1), 8 ∣ (k0_mult380 v933).toNat) ∧
  (∀ (k0_h4 : k0_cond4 i = 1#1), ∀ a, (k0_off595 v933) a + S8x128.size a ≤ S524288x128.size a)
theorem k0_mult380_dvd : ∀ (i : grid0.Coords) (v933 : BitVec 32) (k0_hw190 : k0_chk190 i v933), ∀ (k0_h4 : k0_cond4 i = 1#1), 8 ∣ (k0_mult380 v933).toNat := fun i v933 k0_hw190 k0_h4 => k0_hw190.1 k0_h4
theorem k0_off595_inb : ∀ (i : grid0.Coords) (v933 : BitVec 32) (k0_hw190 : k0_chk190 i v933), ∀ (k0_h4 : k0_cond4 i = 1#1), ∀ a, (k0_off595 v933) a + S8x128.size a ≤ S524288x128.size a := fun i v933 k0_hw190 k0_h4 => k0_hw190.2 k0_h4

def k0_off596 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_734 : BitVec 32 := 8#32
  let v943 : BitVec 32 := Scalar.muli v864 c8_i32_734
  let c6_i32_735 : BitVec 32 := 6#32
  let v944 : BitVec 32 := Scalar.addi v943 c6_i32_735
  let v945 : Index := Scalar.indexCast v944
  ![v945.toNat]
def k0_mult382 (v946 : BitVec 32) : BitVec 32 :=
  v946

def k0_mult383 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_736 : BitVec 32 := 8#32
  let v948 : BitVec 32 := Scalar.muli v864 c8_i32_736
  v948
def k0_off597 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_736 : BitVec 32 := 8#32
  let v948 : BitVec 32 := Scalar.muli v864 c8_i32_736
  let v949 : BitVec 32 := v948
  let c0_i32_742 : BitVec 32 := 0#32
  ![v949.toNat, 0]
def k0_off598 (v946 : BitVec 32) : Fin 2 → Nat :=
  let v947 : BitVec 32 := v946
  let c0_i32_743 : BitVec 32 := 0#32
  ![v947.toNat, 0]

def k0_chk191 (i : grid0.Coords) (v946 : BitVec 32) : Prop :=
  (∀ (k0_h4 : k0_cond4 i = 1#1), 8 ∣ (k0_mult382 v946).toNat) ∧
  (∀ (k0_h4 : k0_cond4 i = 1#1), ∀ a, (k0_off598 v946) a + S8x128.size a ≤ S524288x128.size a)
theorem k0_mult382_dvd : ∀ (i : grid0.Coords) (v946 : BitVec 32) (k0_hw191 : k0_chk191 i v946), ∀ (k0_h4 : k0_cond4 i = 1#1), 8 ∣ (k0_mult382 v946).toNat := fun i v946 k0_hw191 k0_h4 => k0_hw191.1 k0_h4
theorem k0_off598_inb : ∀ (i : grid0.Coords) (v946 : BitVec 32) (k0_hw191 : k0_chk191 i v946), ∀ (k0_h4 : k0_cond4 i = 1#1), ∀ a, (k0_off598 v946) a + S8x128.size a ≤ S524288x128.size a := fun i v946 k0_hw191 k0_h4 => k0_hw191.2 k0_h4

def k0_off599 (k0_t3 : Fin k0_t3_loop.trips) : Fin 1 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_744 : BitVec 32 := 8#32
  let v956 : BitVec 32 := Scalar.muli v864 c8_i32_744
  let c7_i32_745 : BitVec 32 := 7#32
  let v957 : BitVec 32 := Scalar.addi v956 c7_i32_745
  let v958 : Index := Scalar.indexCast v957
  ![v958.toNat]
def k0_mult384 (v959 : BitVec 32) : BitVec 32 :=
  v959

def k0_mult385 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_746 : BitVec 32 := 8#32
  let v961 : BitVec 32 := Scalar.muli v864 c8_i32_746
  v961
def k0_off600 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_672 : BitVec 32 := 8#32
  let v863 : BitVec 32 := Scalar.muli arg16 c8_i32_672
  let c7_i32_673 : BitVec 32 := 7#32
  let v864 : BitVec 32 := Scalar.addi v863 c7_i32_673
  let c8_i32_746 : BitVec 32 := 8#32
  let v961 : BitVec 32 := Scalar.muli v864 c8_i32_746
  let v962 : BitVec 32 := v961
  let c0_i32_752 : BitVec 32 := 0#32
  ![v962.toNat, 0]
def k0_off601 (v959 : BitVec 32) : Fin 2 → Nat :=
  let v960 : BitVec 32 := v959
  let c0_i32_753 : BitVec 32 := 0#32
  ![v960.toNat, 0]

def k0_chk192 (i : grid0.Coords) (v959 : BitVec 32) : Prop :=
  (∀ (k0_h4 : k0_cond4 i = 1#1), 8 ∣ (k0_mult384 v959).toNat) ∧
  (∀ (k0_h4 : k0_cond4 i = 1#1), ∀ a, (k0_off601 v959) a + S8x128.size a ≤ S524288x128.size a)
theorem k0_mult384_dvd : ∀ (i : grid0.Coords) (v959 : BitVec 32) (k0_hw192 : k0_chk192 i v959), ∀ (k0_h4 : k0_cond4 i = 1#1), 8 ∣ (k0_mult384 v959).toNat := fun i v959 k0_hw192 k0_h4 => k0_hw192.1 k0_h4
theorem k0_off601_inb : ∀ (i : grid0.Coords) (v959 : BitVec 32) (k0_hw192 : k0_chk192 i v959), ∀ (k0_h4 : k0_cond4 i = 1#1), ∀ a, (k0_off601 v959) a + S8x128.size a ≤ S524288x128.size a := fun i v959 k0_hw192 k0_h4 => k0_hw192.2 k0_h4

def k0_mult386 (k0_t3 : Fin k0_t3_loop.trips) : BitVec 32 :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  v969
def k0_off602 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v971 : Index := Scalar.indexCast v970
  let c0_755 : Index := 0#32
  ![v971.toNat, 0]
def k0_off603 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v981 : Index := Scalar.indexCast v970
  let c0_756 : Index := 0#32
  ![v981.toNat, 0]
def k0_off604 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v983 : Index := Scalar.indexCast v970
  let c1024 : Index := 1024#32
  ![v983.toNat, 1024]
def k0_off605 (k0_t3 : Fin k0_t3_loop.trips) (c0_i32_757 : BitVec 32) : Fin 4 → Nat :=
  let c1_758 : Index := 1#32
  let c0_759 : Index := 0#32
  let c0_i32_95 : BitVec 32 := 0#32
  let c1_i32_96 : BitVec 32 := 1#32
  let arg16 : BitVec 32 := Scf.iv c0_i32_95 c1_i32_96 k0_t3
  let c64_i32 : BitVec 32 := 64#32
  let v985 : BitVec 32 := Scalar.muli arg16 c64_i32
  let v986 : BitVec 32 := Scalar.addi v985 c0_i32_757
  let v987 : Index := Scalar.indexCast v986
  let c0_760 : Index := 0#32
  ![1, 0, v987.toNat, 0]
def k0_off606 (k0_t3 : Fin k0_t3_loop.trips) (c0_i32_762 : BitVec 32) : Fin 4 → Nat :=
  let c1_763 : Index := 1#32
  let c1_764 : Index := 1#32
  let c0_i32_95 : BitVec 32 := 0#32
  let c1_i32_96 : BitVec 32 := 1#32
  let arg16 : BitVec 32 := Scf.iv c0_i32_95 c1_i32_96 k0_t3
  let c64_i32_761 : BitVec 32 := 64#32
  let v998 : BitVec 32 := Scalar.muli arg16 c64_i32_761
  let v999 : BitVec 32 := Scalar.addi v998 c0_i32_762
  let v1000 : Index := Scalar.indexCast v999
  let c0_765 : Index := 0#32
  ![1, 1, v1000.toNat, 0]
def k0_off607 (k0_t3 : Fin k0_t3_loop.trips) (c0_i32_767 : BitVec 32) : Fin 4 → Nat :=
  let c1_768 : Index := 1#32
  let c2_769 : Index := 2#32
  let c0_i32_95 : BitVec 32 := 0#32
  let c1_i32_96 : BitVec 32 := 1#32
  let arg16 : BitVec 32 := Scf.iv c0_i32_95 c1_i32_96 k0_t3
  let c64_i32_766 : BitVec 32 := 64#32
  let v1011 : BitVec 32 := Scalar.muli arg16 c64_i32_766
  let v1012 : BitVec 32 := Scalar.addi v1011 c0_i32_767
  let v1013 : Index := Scalar.indexCast v1012
  let c0_770 : Index := 0#32
  ![1, 2, v1013.toNat, 0]
def k0_off608 (k0_t3 : Fin k0_t3_loop.trips) (c0_i32_772 : BitVec 32) : Fin 4 → Nat :=
  let c1_773 : Index := 1#32
  let c3_774 : Index := 3#32
  let c0_i32_95 : BitVec 32 := 0#32
  let c1_i32_96 : BitVec 32 := 1#32
  let arg16 : BitVec 32 := Scf.iv c0_i32_95 c1_i32_96 k0_t3
  let c64_i32_771 : BitVec 32 := 64#32
  let v1024 : BitVec 32 := Scalar.muli arg16 c64_i32_771
  let v1025 : BitVec 32 := Scalar.addi v1024 c0_i32_772
  let v1026 : Index := Scalar.indexCast v1025
  let c0_775 : Index := 0#32
  ![1, 3, v1026.toNat, 0]
def k0_off609 (k0_t3 : Fin k0_t3_loop.trips) (c0_i32_777 : BitVec 32) : Fin 4 → Nat :=
  let c1_778 : Index := 1#32
  let c4_779 : Index := 4#32
  let c0_i32_95 : BitVec 32 := 0#32
  let c1_i32_96 : BitVec 32 := 1#32
  let arg16 : BitVec 32 := Scf.iv c0_i32_95 c1_i32_96 k0_t3
  let c64_i32_776 : BitVec 32 := 64#32
  let v1037 : BitVec 32 := Scalar.muli arg16 c64_i32_776
  let v1038 : BitVec 32 := Scalar.addi v1037 c0_i32_777
  let v1039 : Index := Scalar.indexCast v1038
  let c0_780 : Index := 0#32
  ![1, 4, v1039.toNat, 0]
def k0_off610 (k0_t3 : Fin k0_t3_loop.trips) (c0_i32_782 : BitVec 32) : Fin 4 → Nat :=
  let c1_783 : Index := 1#32
  let c5_784 : Index := 5#32
  let c0_i32_95 : BitVec 32 := 0#32
  let c1_i32_96 : BitVec 32 := 1#32
  let arg16 : BitVec 32 := Scf.iv c0_i32_95 c1_i32_96 k0_t3
  let c64_i32_781 : BitVec 32 := 64#32
  let v1050 : BitVec 32 := Scalar.muli arg16 c64_i32_781
  let v1051 : BitVec 32 := Scalar.addi v1050 c0_i32_782
  let v1052 : Index := Scalar.indexCast v1051
  let c0_785 : Index := 0#32
  ![1, 5, v1052.toNat, 0]
def k0_off611 (k0_t3 : Fin k0_t3_loop.trips) (c0_i32_787 : BitVec 32) : Fin 4 → Nat :=
  let c1_788 : Index := 1#32
  let c6_789 : Index := 6#32
  let c0_i32_95 : BitVec 32 := 0#32
  let c1_i32_96 : BitVec 32 := 1#32
  let arg16 : BitVec 32 := Scf.iv c0_i32_95 c1_i32_96 k0_t3
  let c64_i32_786 : BitVec 32 := 64#32
  let v1063 : BitVec 32 := Scalar.muli arg16 c64_i32_786
  let v1064 : BitVec 32 := Scalar.addi v1063 c0_i32_787
  let v1065 : Index := Scalar.indexCast v1064
  let c0_790 : Index := 0#32
  ![1, 6, v1065.toNat, 0]
def k0_off612 (k0_t3 : Fin k0_t3_loop.trips) (c0_i32_792 : BitVec 32) : Fin 4 → Nat :=
  let c1_793 : Index := 1#32
  let c7_794 : Index := 7#32
  let c0_i32_95 : BitVec 32 := 0#32
  let c1_i32_96 : BitVec 32 := 1#32
  let arg16 : BitVec 32 := Scf.iv c0_i32_95 c1_i32_96 k0_t3
  let c64_i32_791 : BitVec 32 := 64#32
  let v1076 : BitVec 32 := Scalar.muli arg16 c64_i32_791
  let v1077 : BitVec 32 := Scalar.addi v1076 c0_i32_792
  let v1078 : Index := Scalar.indexCast v1077
  let c0_795 : Index := 0#32
  ![1, 7, v1078.toNat, 0]
def k0_off613 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1097 : Index := Scalar.indexCast v970
  let c128 : Index := 128#32
  ![v1097.toNat, 128]
def k0_off614 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1099 : Index := Scalar.indexCast v970
  let c1152 : Index := 1152#32
  ![v1099.toNat, 1152]
def k0_off615 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1213 : Index := Scalar.indexCast v970
  let c256 : Index := 256#32
  ![v1213.toNat, 256]
def k0_off616 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1215 : Index := Scalar.indexCast v970
  let c1280 : Index := 1280#32
  ![v1215.toNat, 1280]
def k0_off617 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1329 : Index := Scalar.indexCast v970
  let c384 : Index := 384#32
  ![v1329.toNat, 384]
def k0_off618 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1331 : Index := Scalar.indexCast v970
  let c1408 : Index := 1408#32
  ![v1331.toNat, 1408]
def k0_off619 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1445 : Index := Scalar.indexCast v970
  let c512 : Index := 512#32
  ![v1445.toNat, 512]
def k0_off620 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1447 : Index := Scalar.indexCast v970
  let c1536 : Index := 1536#32
  ![v1447.toNat, 1536]
def k0_off621 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1561 : Index := Scalar.indexCast v970
  let c640 : Index := 640#32
  ![v1561.toNat, 640]
def k0_off622 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1563 : Index := Scalar.indexCast v970
  let c1664 : Index := 1664#32
  ![v1563.toNat, 1664]
def k0_off623 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1677 : Index := Scalar.indexCast v970
  let c768 : Index := 768#32
  ![v1677.toNat, 768]
def k0_off624 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1679 : Index := Scalar.indexCast v970
  let c1792 : Index := 1792#32
  ![v1679.toNat, 1792]
def k0_off625 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1793 : Index := Scalar.indexCast v970
  let c896 : Index := 896#32
  ![v1793.toNat, 896]
def k0_off626 (k0_t3 : Fin k0_t3_loop.trips) : Fin 2 → Nat :=
  let c0_i32_95 : BitVec 32 := 0#32
  let c1_i32_96 : BitVec 32 := 1#32
  let arg16 : BitVec 32 := Scf.iv c0_i32_95 c1_i32_96 k0_t3
  let c8_i32_754 : BitVec 32 := 8#32
  let v969 : BitVec 32 := Scalar.muli arg16 c8_i32_754
  let v970 : BitVec 32 := v969
  let v1795 : Index := Scalar.indexCast v970
  let c1920 : Index := 1920#32
  ![v1795.toNat, 1920]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  ![v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x8192 : Shape := ⟨2, ![8, 8192]⟩
abbrev S8192x8 : Shape := ⟨2, ![8192, 8]⟩
abbrev S65536x128 : Shape := ⟨2, ![65536, 128]⟩
abbrev S524288x128 : Shape := ⟨2, ![524288, 128]⟩
abbrev S1x2048x512 : Shape := ⟨3, ![1, 2048, 512]⟩
abbrev S1x512x2048 : Shape := ⟨3, ![1, 512, 2048]⟩
abbrev S8192x2048 : Shape := ⟨2, ![8192, 2048]⟩
abbrev S2x12288 : Shape := ⟨2, ![2, 12288]⟩
abbrev S2048 : Shape := ⟨1, ![2048]⟩
abbrev S8192x1024 : Shape := ⟨2, ![8192, 1024]⟩
abbrev S8192x1024x2 : Shape := ⟨3, ![8192, 1024, 2]⟩
abbrev S8192x1024x1 : Shape := ⟨3, ![8192, 1024, 1]⟩
abbrev S65536x1024 : Shape := ⟨2, ![65536, 1024]⟩
abbrev S65536x1024x2 : Shape := ⟨3, ![65536, 1024, 2]⟩
abbrev S65536x1024x1 : Shape := ⟨3, ![65536, 1024, 1]⟩
abbrev S65536x2048 : Shape := ⟨2, ![65536, 2048]⟩
abbrev S_ : Shape := ⟨0, ![]⟩
abbrev S8192x1 : Shape := ⟨2, ![8192, 1]⟩
abbrev S1x8192 : Shape := ⟨2, ![1, 8192]⟩
abbrev S8192 : Shape := ⟨1, ![8192]⟩
abbrev S2048x512 : Shape := ⟨2, ![2048, 512]⟩
abbrev S512x2048 : Shape := ⟨2, ![512, 2048]⟩
abbrev S8192x512 : Shape := ⟨2, ![8192, 512]⟩
abbrev S2x2048 : Shape := ⟨2, ![2, 2048]⟩
abbrev S2x1x2048 : Shape := ⟨3, ![2, 1, 2048]⟩
abbrev S2x4096x2048 : Shape := ⟨3, ![2, 4096, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 212
  | .vmem => 0
  | .smem => 0
  | _ => 0

abbrev hbmTy0_0 (i : Nat) : BufTy := match i % 128 with
  | 0 => ⟨S8x8192, .i32⟩
  | 1 => ⟨S8192x8, .f32⟩
  | 2 => ⟨S65536x128, .i32⟩
  | 3 => ⟨S524288x128, .i32⟩
  | 4 => ⟨S1x2048x512, .f32⟩
  | 5 => ⟨S1x2048x512, .f32⟩
  | 6 => ⟨S1x512x2048, .f32⟩
  | 7 => ⟨S8192x2048, .f32⟩
  | 8 => ⟨S2x12288, .f32⟩
  | 9 => ⟨S2048, .f32⟩
  | 10 => ⟨S8192x1024, .i32⟩
  | 11 => ⟨S8192x1024x2, .bf16⟩
  | 12 => ⟨S8192x1024x2, .f32⟩
  | 13 => ⟨S8192x1024x1, .f32⟩
  | 14 => ⟨S8192x1024, .f32⟩
  | 15 => ⟨S8192x1024x1, .f32⟩
  | 16 => ⟨S8192x1024, .f32⟩
  | 17 => ⟨S8192x2048, .f32⟩
  | 18 => ⟨S65536x1024, .i32⟩
  | 19 => ⟨S65536x1024x2, .bf16⟩
  | 20 => ⟨S65536x1024x2, .f32⟩
  | 21 => ⟨S65536x1024x1, .f32⟩
  | 22 => ⟨S65536x1024, .f32⟩
  | 23 => ⟨S65536x1024x1, .f32⟩
  | 24 => ⟨S65536x1024, .f32⟩
  | 25 => ⟨S65536x2048, .f32⟩
  | 26 => ⟨S_, .i32⟩
  | 27 => ⟨S_, .i32⟩
  | 28 => ⟨S8x8192, .i32⟩
  | 29 => ⟨S8x8192, .i32⟩
  | 30 => ⟨S8x8192, .i32⟩
  | 31 => ⟨S_, .i32⟩
  | 32 => ⟨S8x8192, .i32⟩
  | 33 => ⟨S8x8192, .i1⟩
  | 34 => ⟨S8x8192, .i32⟩
  | 35 => ⟨S8x8192, .i32⟩
  | 36 => ⟨S_, .i32⟩
  | 37 => ⟨S8x8192, .i32⟩
  | 38 => ⟨S8x8192, .i1⟩
  | 39 => ⟨S8x8192, .i1⟩
  | 40 => ⟨S_, .i32⟩
  | 41 => ⟨S8x8192, .i32⟩
  | 42 => ⟨S8x8192, .i32⟩
  | 43 => ⟨S8x8192, .i32⟩
  | 44 => ⟨S8192x1, .f32⟩
  | 45 => ⟨S1x8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x2048, .f32⟩
  | 56 => ⟨S8192x2048, .f32⟩
  | 57 => ⟨S8192x2048, .f32⟩
  | 58 => ⟨S_, .f32⟩
  | 59 => ⟨S8192x2048, .f32⟩
  | 60 => ⟨S8192x2048, .f32⟩
  | 61 => ⟨S8192x1, .f32⟩
  | 62 => ⟨S1x8192, .i32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x2048, .f32⟩
  | 73 => ⟨S8192x2048, .f32⟩
  | 74 => ⟨S8192x2048, .f32⟩
  | 75 => ⟨S8192x2048, .f32⟩
  | 76 => ⟨S8192x1, .f32⟩
  | 77 => ⟨S1x8192, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x2048, .f32⟩
  | 88 => ⟨S8192x2048, .f32⟩
  | 89 => ⟨S8192x2048, .f32⟩
  | 90 => ⟨S8192x2048, .f32⟩
  | 91 => ⟨S8192x1, .f32⟩
  | 92 => ⟨S1x8192, .i32⟩
  | 93 => ⟨S8192, .i32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x2048, .f32⟩
  | 103 => ⟨S8192x2048, .f32⟩
  | 104 => ⟨S8192x2048, .f32⟩
  | 105 => ⟨S8192x2048, .f32⟩
  | 106 => ⟨S8192x1, .f32⟩
  | 107 => ⟨S1x8192, .i32⟩
  | 108 => ⟨S8192, .i32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S8192x2048, .f32⟩
  | 118 => ⟨S8192x2048, .f32⟩
  | 119 => ⟨S8192x2048, .f32⟩
  | 120 => ⟨S8192x2048, .f32⟩
  | 121 => ⟨S8192x1, .f32⟩
  | 122 => ⟨S1x8192, .i32⟩
  | 123 => ⟨S8192, .i32⟩
  | 124 => ⟨S_, .i32⟩
  | 125 => ⟨S8192, .i32⟩
  | 126 => ⟨S8192, .i1⟩
  | 127 => ⟨S_, .i32⟩
  | _ => ⟨S8x8192, .i32⟩

abbrev hbmTy0_1 (i : Nat) : BufTy := match i % 128 with
  | 0 => ⟨S8192, .i32⟩
  | 1 => ⟨S8192, .i32⟩
  | 2 => ⟨S8192, .i32⟩
  | 3 => ⟨S8192x1, .i32⟩
  | 4 => ⟨S8192x2048, .f32⟩
  | 5 => ⟨S8192x2048, .f32⟩
  | 6 => ⟨S8192x2048, .f32⟩
  | 7 => ⟨S8192x2048, .f32⟩
  | 8 => ⟨S8192x1, .f32⟩
  | 9 => ⟨S1x8192, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x2048, .f32⟩
  | 20 => ⟨S8192x2048, .f32⟩
  | 21 => ⟨S8192x2048, .f32⟩
  | 22 => ⟨S8192x2048, .f32⟩
  | 23 => ⟨S8192x1, .f32⟩
  | 24 => ⟨S1x8192, .i32⟩
  | 25 => ⟨S8192, .i32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x2048, .f32⟩
  | 35 => ⟨S8192x2048, .f32⟩
  | 36 => ⟨S8192x2048, .f32⟩
  | 37 => ⟨S8192x2048, .f32⟩
  | 38 => ⟨S2048x512, .f32⟩
  | 39 => ⟨S2048x512, .f32⟩
  | 40 => ⟨S512x2048, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S8192x2048, .f32⟩
  | 54 => ⟨S2x2048, .f32⟩
  | 55 => ⟨S2x2048, .f32⟩
  | 56 => ⟨S2x2048, .f32⟩
  | 57 => ⟨S2x2048, .f32⟩
  | 58 => ⟨S2x2048, .f32⟩
  | 59 => ⟨S2x2048, .f32⟩
  | 60 => ⟨S2x1x2048, .f32⟩
  | 61 => ⟨S2x4096x2048, .f32⟩
  | 62 => ⟨S8192x2048, .f32⟩
  | 63 => ⟨S2x4096x2048, .f32⟩
  | 64 => ⟨S2x4096x2048, .f32⟩
  | 65 => ⟨S2x4096x2048, .f32⟩
  | 66 => ⟨S2x4096x2048, .f32⟩
  | 67 => ⟨S2x4096x2048, .f32⟩
  | 68 => ⟨S_, .f32⟩
  | 69 => ⟨S2x4096, .f32⟩
  | 70 => ⟨S2x4096x1, .f32⟩
  | 71 => ⟨S_, .f32⟩
  | 72 => ⟨S2x4096x1, .f32⟩
  | 73 => ⟨S2x4096x1, .f32⟩
  | 74 => ⟨S_, .f32⟩
  | 75 => ⟨S2x4096x1, .f32⟩
  | 76 => ⟨S2x4096x1, .f32⟩
  | 77 => ⟨S2x4096x1, .f32⟩
  | 78 => ⟨S2x4096x2048, .f32⟩
  | 79 => ⟨S2x4096x2048, .f32⟩
  | 80 => ⟨S1x1x2048, .f32⟩
  | 81 => ⟨S2x4096x2048, .f32⟩
  | 82 => ⟨S2x4096x2048, .f32⟩
  | 83 => ⟨S8192x2048, .f32⟩
  | _ => ⟨S8x8192, .i32⟩

abbrev hbmTy (i : Nat) : BufTy := match i / 128 with
  | 0 => hbmTy0_0 i
  | 1 => hbmTy0_1 i
  | _ => ⟨S8x8192, .i32⟩

abbrev bufTy : (tb : Table) → Fin (tcTables nBuf tb) → BufTy
  | .hbm, ⟨i, _⟩ => hbmTy i
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_0 : Ref sig .tc := ⟨.hbm, 47, rfl⟩
abbrev main_v20 : Ref sig .tc := ⟨.hbm, 48, rfl⟩
abbrev main_v21 : Ref sig .tc := ⟨.hbm, 49, rfl⟩
abbrev main_c_1 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_2 : Ref sig .tc := ⟨.hbm, 64, rfl⟩
abbrev main_v34 : Ref sig .tc := ⟨.hbm, 65, rfl⟩
abbrev main_v35 : Ref sig .tc := ⟨.hbm, 66, rfl⟩
abbrev main_c_3 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_4 : Ref sig .tc := ⟨.hbm, 79, rfl⟩
abbrev main_v47 : Ref sig .tc := ⟨.hbm, 80, rfl⟩
abbrev main_v48 : Ref sig .tc := ⟨.hbm, 81, rfl⟩
abbrev main_c_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_6 : Ref sig .tc := ⟨.hbm, 94, rfl⟩
abbrev main_v60 : Ref sig .tc := ⟨.hbm, 95, rfl⟩
abbrev main_v61 : Ref sig .tc := ⟨.hbm, 96, rfl⟩
abbrev main_c_7 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_8 : Ref sig .tc := ⟨.hbm, 109, rfl⟩
abbrev main_v73 : Ref sig .tc := ⟨.hbm, 110, rfl⟩
abbrev main_v74 : Ref sig .tc := ⟨.hbm, 111, rfl⟩
abbrev main_c_9 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_10 : Ref sig .tc := ⟨.hbm, 124, rfl⟩
abbrev main_v86 : Ref sig .tc := ⟨.hbm, 125, rfl⟩
abbrev main_v87 : Ref sig .tc := ⟨.hbm, 126, rfl⟩
abbrev main_c_11 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_12 : Ref sig .tc := ⟨.hbm, 139, rfl⟩
abbrev main_v99 : Ref sig .tc := ⟨.hbm, 140, rfl⟩
abbrev main_v100 : Ref sig .tc := ⟨.hbm, 141, rfl⟩
abbrev main_c_13 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_14 : Ref sig .tc := ⟨.hbm, 154, rfl⟩
abbrev main_v112 : Ref sig .tc := ⟨.hbm, 155, rfl⟩
abbrev main_v113 : Ref sig .tc := ⟨.hbm, 156, rfl⟩
abbrev main_c_15 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_call1_v0 : Ref sig .tc := ⟨.hbm, 170, rfl⟩
abbrev main_call1_v1 : Ref sig .tc := ⟨.hbm, 171, rfl⟩
abbrev main_call1_cst : Ref sig .tc := ⟨.hbm, 172, rfl⟩
abbrev main_call1_v2 : Ref sig .tc := ⟨.hbm, 173, rfl⟩
abbrev main_call1_v3 : Ref sig .tc := ⟨.hbm, 174, rfl⟩
abbrev main_call1_cst_0 : Ref sig .tc := ⟨.hbm, 175, rfl⟩
abbrev main_call1_v4 : Ref sig .tc := ⟨.hbm, 176, rfl⟩
abbrev main_call1_v5 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_16 : Ref sig .tc := ⟨.hbm, 196, rfl⟩
abbrev main_v144 : Ref sig .tc := ⟨.hbm, 197, rfl⟩
abbrev main_v145 : Ref sig .tc := ⟨.hbm, 198, rfl⟩
abbrev main_cst_17 : Ref sig .tc := ⟨.hbm, 199, rfl⟩
abbrev main_v146 : Ref sig .tc := ⟨.hbm, 200, rfl⟩
abbrev main_v147 : Ref sig .tc := ⟨.hbm, 201, rfl⟩
abbrev main_cst_18 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩

abbrev nD : Nat := 1
abbrev τ : Topo := Topo.v7x

variable {F : FTy → Type} [FloatOps F]
-- ==== Kernel2.lean ====
abbrev S8192x2048 : Shape := ⟨2, ![8192, 2048]⟩
abbrev S8192x64 : Shape := ⟨2, ![8192, 64]⟩
abbrev S1x64x2048x512 : Shape := ⟨4, ![1, 64, 2048, 512]⟩
abbrev S1x64x512x2048 : Shape := ⟨4, ![1, 64, 512, 2048]⟩
abbrev S1x2048x512 : Shape := ⟨3, ![1, 2048, 512]⟩
abbrev S1x512x2048 : Shape := ⟨3, ![1, 512, 2048]⟩
abbrev S2x12288 : Shape := ⟨2, ![2, 12288]⟩
abbrev S2048 : Shape := ⟨1, ![2048]⟩
abbrev S12x1x2048 : Shape := ⟨3, ![12, 1, 2048]⟩
abbrev S64x2048x512 : Shape := ⟨3, ![64, 2048, 512]⟩
abbrev S64x512x2048 : Shape := ⟨3, ![64, 512, 2048]⟩
abbrev S2048x512 : Shape := ⟨2, ![2048, 512]⟩
abbrev S512x2048 : Shape := ⟨2, ![512, 2048]⟩
abbrev S1x2048 : Shape := ⟨2, ![1, 2048]⟩
abbrev S512x64 : Shape := ⟨2, ![512, 64]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩

abbrev nBuf : Space → Nat
  | .hbm => 26
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S8192x64, .f32⟩
  | .hbm, ⟨2, _⟩ => ⟨S1x64x2048x512, .f32⟩
  | .hbm, ⟨3, _⟩ => ⟨S1x64x2048x512, .f32⟩
  | .hbm, ⟨4, _⟩ => ⟨S1x64x512x2048, .f32⟩
  | .hbm, ⟨5, _⟩ => ⟨S1x2048x512, .f32⟩
  | .hbm, ⟨6, _⟩ => ⟨S1x2048x512, .f32⟩
  | .hbm, ⟨7, _⟩ => ⟨S1x512x2048, .f32⟩
  | .hbm, ⟨8, _⟩ => ⟨S8192x2048, .f32⟩
  | .hbm, ⟨9, _⟩ => ⟨S2x12288, .f32⟩
  | .hbm, ⟨10, _⟩ => ⟨S2048, .f32⟩
  | .hbm, ⟨11, _⟩ => ⟨S12x1x2048, .f32⟩
  | .hbm, ⟨12, _⟩ => ⟨S64x2048x512, .f32⟩
  | .hbm, ⟨13, _⟩ => ⟨S64x2048x512, .bf16⟩
  | .hbm, ⟨14, _⟩ => ⟨S64x2048x512, .f32⟩
  | .hbm, ⟨15, _⟩ => ⟨S64x2048x512, .bf16⟩
  | .hbm, ⟨16, _⟩ => ⟨S64x512x2048, .f32⟩
  | .hbm, ⟨17, _⟩ => ⟨S64x512x2048, .bf16⟩
  | .hbm, ⟨18, _⟩ => ⟨S2048x512, .f32⟩
  | .hbm, ⟨19, _⟩ => ⟨S2048x512, .bf16⟩
  | .hbm, ⟨20, _⟩ => ⟨S2048x512, .f32⟩
  | .hbm, ⟨21, _⟩ => ⟨S2048x512, .bf16⟩
  | .hbm, ⟨22, _⟩ => ⟨S512x2048, .f32⟩
  | .hbm, ⟨23, _⟩ => ⟨S512x2048, .bf16⟩
  | .hbm, ⟨24, _⟩ => ⟨S1x2048, .f32⟩
  | .hbm, ⟨25, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x64, .f32⟩
  | .local _ .vmem, ⟨3, _⟩ => ⟨S512x64, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 64], ![false, false]⟩

def k0_cond2 (i : grid0.Coords) : BitVec 1 :=
  let arg1 : BitVec 32 := BitVec.ofNat 32 (i 1).val
  let c63_i32 : BitVec 32 := 63#32
  let v38 : BitVec 1 := Scalar.cmpi .eq arg1 c63_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S8192x2048 : Shape := ⟨2, ![8192, 2048]⟩
abbrev S8192x64 : Shape := ⟨2, ![8192, 64]⟩
abbrev S1x64x2048x512 : Shape := ⟨4, ![1, 64, 2048, 512]⟩
abbrev S1x64x512x2048 : Shape := ⟨4, ![1, 64, 512, 2048]⟩
abbrev S1x2048x512 : Shape := ⟨3, ![1, 2048, 512]⟩
abbrev S1x512x2048 : Shape := ⟨3, ![1, 512, 2048]⟩
abbrev S2x12288 : Shape := ⟨2, ![2, 12288]⟩
abbrev S2048 : Shape := ⟨1, ![2048]⟩
abbrev S64x2048x512 : Shape := ⟨3, ![64, 2048, 512]⟩
abbrev S64x512x8192 : Shape := ⟨3, ![64, 512, 8192]⟩
abbrev S64x8192x512 : Shape := ⟨3, ![64, 8192, 512]⟩
abbrev S_ : Shape := ⟨0, ![]⟩
abbrev S64x512x2048 : Shape := ⟨3, ![64, 512, 2048]⟩
abbrev S64x8192x2048 : Shape := ⟨3, ![64, 8192, 2048]⟩
abbrev S64x8192 : Shape := ⟨2, ![64, 8192]⟩
abbrev S64x8192x1 : Shape := ⟨3, ![64, 8192, 1]⟩
abbrev S2048x512 : Shape := ⟨2, ![2048, 512]⟩
abbrev S512x2048 : Shape := ⟨2, ![512, 2048]⟩
abbrev S8192x512 : Shape := ⟨2, ![8192, 512]⟩
abbrev S2x2048 : Shape := ⟨2, ![2, 2048]⟩
abbrev S2x1x2048 : Shape := ⟨3, ![2, 1, 2048]⟩
abbrev S2x4096x2048 : Shape := ⟨3, ![2, 4096, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x64, .f32⟩
  | .hbm, ⟨2, _⟩ => ⟨S1x64x2048x512, .f32⟩
  | .hbm, ⟨3, _⟩ => ⟨S1x64x2048x512, .f32⟩
  | .hbm, ⟨4, _⟩ => ⟨S1x64x512x2048, .f32⟩
  | .hbm, ⟨5, _⟩ => ⟨S1x2048x512, .f32⟩
  | .hbm, ⟨6, _⟩ => ⟨S1x2048x512, .f32⟩
  | .hbm, ⟨7, _⟩ => ⟨S1x512x2048, .f32⟩
  | .hbm, ⟨8, _⟩ => ⟨S8192x2048, .f32⟩
  | .hbm, ⟨9, _⟩ => ⟨S2x12288, .f32⟩
  | .hbm, ⟨10, _⟩ => ⟨S2048, .f32⟩
  | .hbm, ⟨11, _⟩ => ⟨S8192x2048, .f32⟩
  | .hbm, ⟨12, _⟩ => ⟨S64x2048x512, .f32⟩
  | .hbm, ⟨13, _⟩ => ⟨S64x512x8192, .f32⟩
  | .hbm, ⟨14, _⟩ => ⟨S64x8192x512, .f32⟩
  | .hbm, ⟨15, _⟩ => ⟨S64x2048x512, .f32⟩
  | .hbm, ⟨16, _⟩ => ⟨S64x512x8192, .f32⟩
  | .hbm, ⟨17, _⟩ => ⟨S64x8192x512, .f32⟩
  | .hbm, ⟨18, _⟩ => ⟨S64x8192x512, .f32⟩
  | .hbm, ⟨19, _⟩ => ⟨S64x8192x512, .f32⟩
  | .hbm, ⟨20, _⟩ => ⟨S_, .f32⟩
  | .hbm, ⟨21, _⟩ => ⟨S64x8192x512, .f32⟩
  | .hbm, ⟨22, _⟩ => ⟨S64x8192x512, .f32⟩
  | .hbm, ⟨23, _⟩ => ⟨S_, .f32⟩
  | .hbm, ⟨24, _⟩ => ⟨S64x8192x512, .f32⟩
  | .hbm, ⟨25, _⟩ => ⟨S64x8192x512, .f32⟩
  | .hbm, ⟨26, _⟩ => ⟨S64x8192x512, .f32⟩
  | .hbm, ⟨27, _⟩ => ⟨S64x8192x512, .f32⟩
  | .hbm, ⟨28, _⟩ => ⟨S64x512x2048, .f32⟩
  | .hbm, ⟨29, _⟩ => ⟨S64x8192x2048, .f32⟩
  | .hbm, ⟨30, _⟩ => ⟨S64x8192, .f32⟩
  | .hbm, ⟨31, _⟩ => ⟨S64x8192x1, .f32⟩
  | .hbm, ⟨32, _⟩ => ⟨S64x8192x2048, .f32⟩
  | .hbm, ⟨33, _⟩ => ⟨S64x8192x2048, .f32⟩
  | .hbm, ⟨34, _⟩ => ⟨S_, .f32⟩
  | .hbm, ⟨35, _⟩ => ⟨S8192x2048, .f32⟩
  | .hbm, ⟨36, _⟩ => ⟨S2048x512, .f32⟩
  | .hbm, ⟨37, _⟩ => ⟨S2048x512, .f32⟩
  | .hbm, ⟨38, _⟩ => ⟨S512x2048, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x2048, .f32⟩
  | .hbm, ⟨52, _⟩ => ⟨S2x2048, .f32⟩
  | .hbm, ⟨53, _⟩ => ⟨S2x2048, .f32⟩
  | .hbm, ⟨54, _⟩ => ⟨S2x2048, .f32⟩
  | .hbm, ⟨55, _⟩ => ⟨S2x2048, .f32⟩
  | .hbm, ⟨56, _⟩ => ⟨S2x2048, .f32⟩
  | .hbm, ⟨57, _⟩ => ⟨S2x2048, .f32⟩
  | .hbm, ⟨58, _⟩ => ⟨S2x1x2048, .f32⟩
  | .hbm, ⟨59, _⟩ => ⟨S2x4096x2048, .f32⟩
  | .hbm, ⟨60, _⟩ => ⟨S8192x2048, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S_, .f32⟩
  | .hbm, ⟨67, _⟩ => ⟨S2x4096, .f32⟩
  | .hbm, ⟨68, _⟩ => ⟨S2x4096x1, .f32⟩
  | .hbm, ⟨69, _⟩ => ⟨S_, .f32⟩
  | .hbm, ⟨70, _⟩ => ⟨S2x4096x1, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S2x4096x1, .f32⟩
  | .hbm, ⟨76, _⟩ => ⟨S2x4096x2048, .f32⟩
  | .hbm, ⟨77, _⟩ => ⟨S2x4096x2048, .f32⟩
  | .hbm, ⟨78, _⟩ => ⟨S1x1x2048, .f32⟩
  | .hbm, ⟨79, _⟩ => ⟨S2x4096x2048, .f32⟩
  | .hbm, ⟨80, _⟩ => ⟨S2x4096x2048, .f32⟩
  | .hbm, ⟨81, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_0 : Ref sig .tc := ⟨.hbm, 66, rfl⟩
abbrev main_v38 : Ref sig .tc := ⟨.hbm, 67, rfl⟩
abbrev main_v39 : Ref sig .tc := ⟨.hbm, 68, rfl⟩
abbrev main_cst_1 : Ref sig .tc := ⟨.hbm, 69, rfl⟩
abbrev main_v40 : Ref sig .tc := ⟨.hbm, 70, rfl⟩
abbrev main_v41 : Ref sig .tc := ⟨.hbm, 71, rfl⟩
abbrev main_cst_2 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩

abbrev nD : Nat := 1
abbrev τ : Topo := Topo.v7x

variable {F : FTy → Type} [FloatOps F]
-- ==== Kernel3.lean ====
abbrev S8192x2048 : Shape := ⟨2, ![8192, 2048]⟩
abbrev S1x2048x11776 : Shape := ⟨3, ![1, 2048, 11776]⟩
abbrev S2048x11776 : Shape := ⟨2, ![2048, 11776]⟩
abbrev S8192x11776 : Shape := ⟨2, ![8192, 11776]⟩
abbrev S2048x2048 : Shape := ⟨2, ![2048, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x11776, .f32⟩
  | .hbm, ⟨2, _⟩ => ⟨S2048x11776, .f32⟩
  | .hbm, ⟨3, _⟩ => ⟨S8192x11776, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![23, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .slt arg0 c15_i32
  let c8_i32 : BitVec 32 := 8#32
  let v1 : BitVec 32 := Scalar.addi arg0 c8_i32
  let c15_i32_0 : BitVec 32 := 15#32
  let v2 : BitVec 32 := Scalar.subi arg0 c15_i32_0
  let v3 : BitVec 32 := Scalar.select v0 v1 v2
  let c0_i32 : BitVec 32 := 0#32
  ![arg1.toNat, v3.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S1x2048x11776 : Shape := ⟨3, ![1, 2048, 11776]⟩
abbrev S2048x11776 : Shape := ⟨2, ![2048, 11776]⟩
abbrev S8192x11776 : Shape := ⟨2, ![8192, 11776]⟩
abbrev S8192x4096 : Shape := ⟨2, ![8192, 4096]⟩
abbrev S8192x7680 : Shape := ⟨2, ![8192, 7680]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11776, .f32⟩
  | .hbm, ⟨2, _⟩ => ⟨S8192x2048, .f32⟩
  | .hbm, ⟨3, _⟩ => ⟨S2048x11776, .f32⟩
  | .hbm, ⟨4, _⟩ => ⟨S8192x11776, .f32⟩
  | .hbm, ⟨5, _⟩ => ⟨S8192x4096, .f32⟩
  | .hbm, ⟨6, _⟩ => ⟨S8192x7680, .f32⟩
  | .hbm, ⟨7, _⟩ => ⟨S8192x11776, .f32⟩
  | .hbm, ⟨8, _⟩ => ⟨S8192x11776, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S8192x11776 : Shape := ⟨2, ![8192, 11776]⟩
abbrev S8192x512 : Shape := ⟨2, ![8192, 512]⟩
abbrev S8192x2048 : Shape := ⟨2, ![8192, 2048]⟩
abbrev S1x3x1024 : Shape := ⟨3, ![1, 3, 1024]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S2x12288 : Shape := ⟨2, ![2, 12288]⟩
abbrev S1x2048 : Shape := ⟨2, ![1, 2048]⟩
abbrev S1x2048x64 : Shape := ⟨3, ![1, 2048, 64]⟩
abbrev S12x1x2048 : Shape := ⟨3, ![12, 1, 2048]⟩
abbrev S3x1024 : Shape := ⟨2, ![3, 1024]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S2048x64 : Shape := ⟨2, ![2048, 64]⟩
abbrev S64x2048 : Shape := ⟨2, ![64, 2048]⟩
abbrev S64x8192 : Shape := ⟨2, ![64, 8192]⟩
abbrev S256x1024 : Shape := ⟨2, ![256, 1024]⟩
abbrev S16x1024 : Shape := ⟨2, ![16, 1024]⟩
abbrev S256x2048 : Shape := ⟨2, ![256, 2048]⟩
abbrev S256x512 : Shape := ⟨2, ![256, 512]⟩
abbrev S1x1x2048 : Shape := ⟨3, ![1, 1, 2048]⟩
abbrev S64x256 : Shape := ⟨2, ![64, 256]⟩
abbrev S1x1024 : Shape := ⟨2, ![1, 1024]⟩
abbrev S256 : Shape := ⟨1, ![256]⟩
abbrev S256x1 : Shape := ⟨2, ![256, 1]⟩

abbrev nBuf : Space → Nat
  | .hbm => 25
  | .vmem => 36
  | .smem => 0
  | _ => 0

abbrev bufTy : (tb : Table) → Fin (tcTables nBuf tb) → BufTy
  | .hbm, ⟨0, _⟩ => ⟨S8192x11776, .bf16⟩
  | .hbm, ⟨1, _⟩ => ⟨S8192x512, .bf16⟩
  | .hbm, ⟨2, _⟩ => ⟨S8192x2048, .f32⟩
  | .hbm, ⟨3, _⟩ => ⟨S1x3x1024, .f32⟩
  | .hbm, ⟨4, _⟩ => ⟨S1x1024x2048, .f32⟩
  | .hbm, ⟨5, _⟩ => ⟨S1x512x2048, .f32⟩
  | .hbm, ⟨6, _⟩ => ⟨S1x2048x2048, .f32⟩
  | .hbm, ⟨7, _⟩ => ⟨S2x12288, .f32⟩
  | .hbm, ⟨8, _⟩ => ⟨S1x2048, .f32⟩
  | .hbm, ⟨9, _⟩ => ⟨S1x2048x64, .f32⟩
  | .hbm, ⟨10, _⟩ => ⟨S12x1x2048, .f32⟩
  | .hbm, ⟨11, _⟩ => ⟨S3x1024, .f32⟩
  | .hbm, ⟨12, _⟩ => ⟨S1024x2048, .f32⟩
  | .hbm, ⟨13, _⟩ => ⟨S1024x2048, .bf16⟩
  | .hbm, ⟨14, _⟩ => ⟨S512x2048, .f32⟩
  | .hbm, ⟨15, _⟩ => ⟨S512x2048, .bf16⟩
  | .hbm, ⟨16, _⟩ => ⟨S2048x2048, .f32⟩
  | .hbm, ⟨17, _⟩ => ⟨S2048x2048, .bf16⟩
  | .hbm, ⟨18, _⟩ => ⟨S2048, .f32⟩
  | .hbm, ⟨19, _⟩ => ⟨S1x2048, .f32⟩
  | .hbm, ⟨20, _⟩ => ⟨S2048x64, .f32⟩
  | .hbm, ⟨21, _⟩ => ⟨S64x2048, .f32⟩
  | .hbm, ⟨22, _⟩ => ⟨S8192x2048, .f32⟩
  | .hbm, ⟨23, _⟩ => ⟨S8192x2048, .bf16⟩
  | .hbm, ⟨24, _⟩ => ⟨S64x8192, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x512, .bf16⟩
  | .local _ .vmem, ⟨15, _⟩ => ⟨S256x512, .bf16⟩
  | .local _ .vmem, ⟨16, _⟩ => ⟨S256x2048, .f32⟩
  | .local _ .vmem, ⟨17, _⟩ => ⟨S256x2048, .f32⟩
  | .local _ .vmem, ⟨18, _⟩ => ⟨S3x1024, .f32⟩
  | .local _ .vmem, ⟨19, _⟩ => ⟨S1024x2048, .bf16⟩
  | .local _ .vmem, ⟨20, _⟩ => ⟨S512x2048, .bf16⟩
  | .local _ .vmem, ⟨21, _⟩ => ⟨S2048x2048, .bf16⟩
  | .local _ .vmem, ⟨22, _⟩ => ⟨S1x1x2048, .f32⟩
  | .local _ .vmem, ⟨23, _⟩ => ⟨S1x1x2048, .f32⟩
  | .local _ .vmem, ⟨24, _⟩ => ⟨S1x2048, .f32⟩
  | .local _ .vmem, ⟨25, _⟩ => ⟨S1x1x2048, .f32⟩
  | .local _ .vmem, ⟨26, _⟩ => ⟨S1x1x2048, .f32⟩
  | .local _ .vmem, ⟨27, _⟩ => ⟨S1x1x2048, .f32⟩
  | .local _ .vmem, ⟨28, _⟩ => ⟨S1x1x2048, .f32⟩
  | .local _ .vmem, ⟨29, _⟩ => ⟨S64x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .bf16⟩
  | .local _ .vmem, ⟨33, _⟩ => ⟨S256x2048, .bf16⟩
  | .local _ .vmem, ⟨34, _⟩ => ⟨S64x256, .f32⟩
  | .local _ .vmem, ⟨35, _⟩ => ⟨S64x256, .f32⟩
  | _, _ => ⟨S8192x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S64x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S8192x11776 : Shape := ⟨2, ![8192, 11776]⟩
abbrev S8192x512 : Shape := ⟨2, ![8192, 512]⟩
abbrev S8192x2048 : Shape := ⟨2, ![8192, 2048]⟩
abbrev S1x3x1024 : Shape := ⟨3, ![1, 3, 1024]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S2x12288 : Shape := ⟨2, ![2, 12288]⟩
abbrev S1x2048 : Shape := ⟨2, ![1, 2048]⟩
abbrev S1x2048x64 : Shape := ⟨3, ![1, 2048, 64]⟩
abbrev S2x4096x11776 : Shape := ⟨3, ![2, 4096, 11776]⟩
abbrev S2x4096x2048 : Shape := ⟨3, ![2, 4096, 2048]⟩
abbrev S2x4096x1024 : Shape := ⟨3, ![2, 4096, 1024]⟩
abbrev S2x2048 : Shape := ⟨2, ![2, 2048]⟩
abbrev S2x1x2048 : Shape := ⟨3, ![2, 1, 2048]⟩
abbrev S3x1024 : Shape := ⟨2, ![3, 1024]⟩
abbrev S_ : Shape := ⟨0, ![]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S1024x2048 : Shape := ⟨2, ![1024, 2048]⟩
abbrev S2x4096x512 : Shape := ⟨3, ![2, 4096, 512]⟩
abbrev S512x2048 : Shape := ⟨2, ![512, 2048]⟩
abbrev S2048x2048 : Shape := ⟨2, ![2048, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S2048x64 : Shape := ⟨2, ![2048, 64]⟩
abbrev S8192x64 : Shape := ⟨2, ![8192, 64]⟩
abbrev S64x8192 : Shape := ⟨2, ![64, 8192]⟩

abbrev nBuf : Space → Nat
  | .hbm => 119
  | .vmem => 0
  | .smem => 0
  | _ => 0

abbrev bufTy : (tb : Table) → Fin (tcTables nBuf tb) → BufTy
  | .hbm, ⟨0, _⟩ => ⟨S8192x11776, .bf16⟩
  | .hbm, ⟨1, _⟩ => ⟨S8192x512, .bf16⟩
  | .hbm, ⟨2, _⟩ => ⟨S8192x2048, .f32⟩
  | .hbm, ⟨3, _⟩ => ⟨S1x3x1024, .f32⟩
  | .hbm, ⟨4, _⟩ => ⟨S1x1024x2048, .f32⟩
  | .hbm, ⟨5, _⟩ => ⟨S1x512x2048, .f32⟩
  | .hbm, ⟨6, _⟩ => ⟨S1x2048x2048, .f32⟩
  | .hbm, ⟨7, _⟩ => ⟨S2x12288, .f32⟩
  | .hbm, ⟨8, _⟩ => ⟨S1x2048, .f32⟩
  | .hbm, ⟨9, _⟩ => ⟨S1x2048x64, .f32⟩
  | .hbm, ⟨10, _⟩ => ⟨S8192x11776, .f32⟩
  | .hbm, ⟨11, _⟩ => ⟨S2x4096x11776, .f32⟩
  | .hbm, ⟨12, _⟩ => ⟨S2x4096x2048, .f32⟩
  | .hbm, ⟨13, _⟩ => ⟨S2x4096x2048, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x2048, .f32⟩
  | .hbm, ⟨18, _⟩ => ⟨S2x2048, .f32⟩
  | .hbm, ⟨19, _⟩ => ⟨S2x2048, .f32⟩
  | .hbm, ⟨20, _⟩ => ⟨S2x2048, .f32⟩
  | .hbm, ⟨21, _⟩ => ⟨S2x2048, .f32⟩
  | .hbm, ⟨22, _⟩ => ⟨S2x2048, .f32⟩
  | .hbm, ⟨23, _⟩ => ⟨S2x1x2048, .f32⟩
  | .hbm, ⟨24, _⟩ => ⟨S2x1x2048, .f32⟩
  | .hbm, ⟨25, _⟩ => ⟨S2x1x2048, .f32⟩
  | .hbm, ⟨26, _⟩ => ⟨S2x1x2048, .f32⟩
  | .hbm, ⟨27, _⟩ => ⟨S2x1x2048, .f32⟩
  | .hbm, ⟨28, _⟩ => ⟨S2x1x2048, .f32⟩
  | .hbm, ⟨29, _⟩ => ⟨S3x1024, .f32⟩
  | .hbm, ⟨30, _⟩ => ⟨S2x4096x1024, .f32⟩
  | .hbm, ⟨31, _⟩ => ⟨S_, .i32⟩
  | .hbm, ⟨32, _⟩ => ⟨S_, .f32⟩
  | .hbm, ⟨33, _⟩ => ⟨S2x4098x1024, .f32⟩
  | .hbm, ⟨34, _⟩ => ⟨S1x1024, .f32⟩
  | .hbm, ⟨35, _⟩ => ⟨S1024, .f32⟩
  | .hbm, ⟨36, _⟩ => ⟨S2x4096x1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S2x4096x1024, .f32⟩
  | .hbm, ⟨42, _⟩ => ⟨S2x4096x1024, .f32⟩
  | .hbm, ⟨43, _⟩ => ⟨S1x1024, .f32⟩
  | .hbm, ⟨44, _⟩ => ⟨S1024, .f32⟩
  | .hbm, ⟨45, _⟩ => ⟨S2x4096x1024, .f32⟩
  | .hbm, ⟨46, _⟩ => ⟨S1x1x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S1x1024, .f32⟩
  | .hbm, ⟨51, _⟩ => ⟨S1024, .f32⟩
  | .hbm, ⟨52, _⟩ => ⟨S2x4096x1024, .f32⟩
  | .hbm, ⟨53, _⟩ => ⟨S1x1x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S2x4096x1024, .f32⟩
  | .hbm, ⟨58, _⟩ => ⟨S1024x2048, .f32⟩
  | .hbm, ⟨59, _⟩ => ⟨S2x4096x2048, .f32⟩
  | .hbm, ⟨60, _⟩ => ⟨S8192x512, .f32⟩
  | .hbm, ⟨61, _⟩ => ⟨S2x4096x512, .f32⟩
  | .hbm, ⟨62, _⟩ => ⟨S512x2048, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S_, .f32⟩
  | .hbm, ⟨67, _⟩ => ⟨S2x4096x2048, .f32⟩
  | .hbm, ⟨68, _⟩ => ⟨S2x4096x2048, .f32⟩
  | .hbm, ⟨69, _⟩ => ⟨S_, .f32⟩
  | .hbm, ⟨70, _⟩ => ⟨S2x4096x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S2x4096x2048, .f32⟩
  | .hbm, ⟨75, _⟩ => ⟨S_, .f32⟩
  | .hbm, ⟨76, _⟩ => ⟨S2x4096x2048, .f32⟩
  | .hbm, ⟨77, _⟩ => ⟨S2x4096x2048, .f32⟩
  | .hbm, ⟨78, _⟩ => ⟨S_, .f32⟩
  | .hbm, ⟨79, _⟩ => ⟨S2x4096x2048, .f32⟩
  | .hbm, ⟨80, _⟩ => ⟨S2x4096x2048, .f32⟩
  | .hbm, ⟨81, _⟩ => ⟨S2x4096x2048, .f32⟩
  | .hbm, ⟨82, _⟩ => ⟨S2x4096x2048, .f32⟩
  | .hbm, ⟨83, _⟩ => ⟨S2x4096x2048, .f32⟩
  | .hbm, ⟨84, _⟩ => ⟨S2048x2048, .f32⟩
  | .hbm, ⟨85, _⟩ => ⟨S2x4096x2048, .f32⟩
  | .hbm, ⟨86, _⟩ => ⟨S2x4096x2048, .f32⟩
  | .hbm, ⟨87, _⟩ => ⟨S2x4096x2048, .f32⟩
  | .hbm, ⟨88, _⟩ => ⟨S2x4096x2048, .f32⟩
  | .hbm, ⟨89, _⟩ => ⟨S2048, .f32⟩
  | .hbm, ⟨90, _⟩ => ⟨S2x4096x2048, .f32⟩
  | .hbm, ⟨91, _⟩ => ⟨S_, .f32⟩
  | .hbm, ⟨92, _⟩ => ⟨S2x4096, .f32⟩
  | .hbm, ⟨93, _⟩ => ⟨S2x4096x1, .f32⟩
  | .hbm, ⟨94, _⟩ => ⟨S_, .f32⟩
  | .hbm, ⟨95, _⟩ => ⟨S2x4096x1, .f32⟩
  | .hbm, ⟨96, _⟩ => ⟨S2x4096x1, .f32⟩
  | .hbm, ⟨97, _⟩ => ⟨S_, .f32⟩
  | .hbm, ⟨98, _⟩ => ⟨S2x4096x1, .f32⟩
  | .hbm, ⟨99, _⟩ => ⟨S2x4096x1, .f32⟩
  | .hbm, ⟨100, _⟩ => ⟨S2x4096x1, .f32⟩
  | .hbm, ⟨101, _⟩ => ⟨S2x4096x2048, .f32⟩
  | .hbm, ⟨102, _⟩ => ⟨S2x4096x2048, .f32⟩
  | .hbm, ⟨103, _⟩ => ⟨S1x1x2048, .f32⟩
  | .hbm, ⟨104, _⟩ => ⟨S2x4096x2048, .f32⟩
  | .hbm, ⟨105, _⟩ => ⟨S2x4096x2048, .f32⟩
  | .hbm, ⟨106, _⟩ => ⟨S_, .f32⟩
  | .hbm, ⟨107, _⟩ => ⟨S2x1x2048, .f32⟩
  | .hbm, ⟨108, _⟩ => ⟨S2x1x2048, .f32⟩
  | .hbm, ⟨109, _⟩ => ⟨S2x4096x2048, .f32⟩
  | .hbm, ⟨110, _⟩ => ⟨S2x4096x2048, .f32⟩
  | .hbm, ⟨111, _⟩ => ⟨S2x4096x2048, .f32⟩
  | .hbm, ⟨112, _⟩ => ⟨S2x4096x2048, .f32⟩
  | .hbm, ⟨113, _⟩ => ⟨S8192x2048, .f32⟩
  | .hbm, ⟨114, _⟩ => ⟨S8192x2048, .f32⟩
  | .hbm, ⟨115, _⟩ => ⟨S8192x2048, .bf16⟩
  | .hbm, ⟨116, _⟩ => ⟨S2048x64, .f32⟩
  | .hbm, ⟨117, _⟩ => ⟨S8192x64, .f32⟩
  | .hbm, ⟨118, _⟩ => ⟨S64x8192, .f32⟩
  | _, _ => ⟨S8192x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_0 : Ref sig .tc := ⟨.hbm, 66, rfl⟩
abbrev main_v53 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_2 : Ref sig .tc := ⟨.hbm, 75, rfl⟩
abbrev main_v60 : Ref sig .tc := ⟨.hbm, 76, rfl⟩
abbrev main_v61 : Ref sig .tc := ⟨.hbm, 77, rfl⟩
abbrev main_cst_3 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_4 : Ref sig .tc := ⟨.hbm, 91, rfl⟩
abbrev main_v74 : Ref sig .tc := ⟨.hbm, 92, rfl⟩
abbrev main_v75 : Ref sig .tc := ⟨.hbm, 93, rfl⟩
abbrev main_cst_5 : Ref sig .tc := ⟨.hbm, 94, rfl⟩
abbrev main_v76 : Ref sig .tc := ⟨.hbm, 95, rfl⟩
abbrev main_v77 : Ref sig .tc := ⟨.hbm, 96, rfl⟩
abbrev main_cst_6 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S2x12288 : Shape := ⟨2, ![2, 12288]⟩
abbrev S12x1x2048 : Shape := ⟨3, ![12, 1, 2048]⟩
abbrev S2048 : Shape := ⟨1, ![2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x12288, .f32⟩
  | .hbm, ⟨3, _⟩ => ⟨S12x1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x2048 : Shape := ⟨2, ![8192, 2048]⟩
abbrev S1x2048 : Shape := ⟨2, ![1, 2048]⟩
abbrev S2x12288 : Shape := ⟨2, ![2, 12288]⟩
abbrev S2x2048 : Shape := ⟨2, ![2, 2048]⟩
abbrev S2x1x2048 : Shape := ⟨3, ![2, 1, 2048]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x12288, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x4096x2048, .f32⟩
  | .hbm, ⟨16, _⟩ => ⟨S2048, .f32⟩
  | .hbm, ⟨17, _⟩ => ⟨S2x4096x2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x2048, .f32⟩
  | .hbm, ⟨29, _⟩ => ⟨S2x4096x2048, .f32⟩
  | .hbm, ⟨30, _⟩ => ⟨S1x1x2048, .f32⟩
  | .hbm, ⟨31, _⟩ => ⟨S2x4096x2048, .f32⟩
  | .hbm, ⟨32, _⟩ => ⟨S2x4096x2048, .f32⟩
  | .hbm, ⟨33, _⟩ => ⟨S_, .f32⟩
  | .hbm, ⟨34, _⟩ => ⟨S2x1x2048, .f32⟩
  | .hbm, ⟨35, _⟩ => ⟨S2x1x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S8192x2048, .f32⟩
  | .hbm, ⟨41, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel6.lean ====
abbrev S2x2048 : Shape := ⟨2, ![2, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S2x12288 : Shape := ⟨2, ![2, 12288]⟩
abbrev S2048x1024 : Shape := ⟨2, ![2048, 1024]⟩
abbrev S1x1024 : Shape := ⟨2, ![1, 1024]⟩
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S2x12288, .f32⟩
  | .local _ .vmem, ⟨0, _⟩ => ⟨S2x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x2048 : Shape := ⟨2, ![2, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S2x12288 : Shape := ⟨2, ![2, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048x12288, .f32⟩
  | .hbm, ⟨13, _⟩ => ⟨S2x12288, .f32⟩
  | .hbm, ⟨14, _⟩ => ⟨S12288, .f32⟩
  | .hbm, ⟨15, _⟩ => ⟨S1x12288, .f32⟩
  | .hbm, ⟨16, _⟩ => ⟨S2x12288, .f32⟩
  | .hbm, ⟨17, _⟩ => ⟨S2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel7.lean ====
abbrev S2x4096 : Shape := ⟨2, ![2, 4096]⟩
abbrev S64 : Shape := ⟨1, ![64]⟩
abbrev S_ : Shape := ⟨0, ![]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 27
  | .vmem => 8
  | .smem => 0
  | _ => 0

abbrev bufTy : (tb : Table) → Fin (tcTables nBuf tb) → BufTy
  | .hbm, ⟨0, _⟩ => ⟨S2x4096, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S8192x1, .i32⟩
  | .hbm, ⟨25, _⟩ => ⟨S8192x128, .f32⟩
  | .hbm, ⟨26, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S2x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S2x4096 : Shape := ⟨2, ![2, 4096]⟩
abbrev S64 : Shape := ⟨1, ![64]⟩
abbrev S_ : Shape := ⟨0, ![]⟩
abbrev S2x4096x1 : Shape := ⟨3, ![2, 4096, 1]⟩
abbrev S1x1x64 : Shape := ⟨3, ![1, 1, 64]⟩
abbrev S2x4096x64 : Shape := ⟨3, ![2, 4096, 64]⟩
abbrev S2x4096x128 : Shape := ⟨3, ![2, 4096, 128]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S2x4096, .f32⟩
  | .hbm, ⟨16, _⟩ => ⟨S2x4096x1, .f32⟩
  | .hbm, ⟨17, _⟩ => ⟨S1x1x64, .f32⟩
  | .hbm, ⟨18, _⟩ => ⟨S2x4096x64, .f32⟩
  | .hbm, ⟨19, _⟩ => ⟨S2x4096x64, .f32⟩
  | .hbm, ⟨20, _⟩ => ⟨S2x4096x64, .f32⟩
  | .hbm, ⟨21, _⟩ => ⟨S2x4096x64, .f32⟩
  | .hbm, ⟨22, _⟩ => ⟨S2x4096x64, .f32⟩
  | .hbm, ⟨23, _⟩ => ⟨S2x4096x128, .f32⟩
  | .hbm, ⟨24, _⟩ => ⟨S8192x128, .f32⟩
  | .hbm, ⟨25, _⟩ => ⟨S2x4096x64, .f32⟩
  | .hbm, ⟨26, _⟩ => ⟨S2x4096x128, .f32⟩
  | .hbm, ⟨27, _⟩ => ⟨S8192x128, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Proof.Steps.lean ====
/- The kernel body's two repeated pieces of code as functions of their indices: one row transfer (`issue`), and
   one block of columns of the weighted sum (`sumCol`). The printed body writes 64 transfers and 8 blocks out one
   after another in each of its loops; here each loop's region is shown to be that function, repeated. -/
module

public import proofs.«01_k».proof.Proof.Gen.KernelIdeal.Skeleton

@[expose] public section

set_option maxRecDepth 65536

noncomputable section

namespace Cert.KernelIdeal.Steps

open Cert.KernelIdeal Cert.KernelIdeal.Gen
open Idealize.ShloMosaic Idealize.SL.Sem

variable {F : FTy → Type} [FloatOps F]

/-- The effects of the kernel's body. -/
abbrev Eff (F : FTy → Type) := TpuEff nD τ sig (Elt F) Λ₀ .tc

/-- `f 0; f 1; …; f (n - 1)`. -/
def forFin : (n : ℕ) → (Fin n → Prog (Eff F) Unit) → Prog (Eff F) Unit
  | 0, _ => pure ⟨⟩
  | n + 1, f => f 0 >>= fun _ => forFin n (fun j => f j.succ)

/-- What the body assumes of a slot word it has read: a multiple of 8 that leaves eight rows of the table, whenever
    the branch `C` is taken. -/
def chk (C : Prop) (v : BitVec 32) : Prop :=
  (∀ (_ : C), 8 ∣ v.toNat) ∧
  (∀ (_ : C), ∀ a, (![v.toNat, 0] : Fin 2 → ℕ) a + S8x128.size a ≤ S524288x128.size a)
instance chk.dec (C : Prop) [Decidable C] (v : BitVec 32) : Decidable (chk C v) := decidable_of_iff' _ (Iff.of_eq (chk.eq_1 C v))

/-- The trip's token `8 g + tl`, as the body computes it from the trip number. -/
def tokW (g : ℕ) (tl : Fin 8) : BitVec 32 :=
  Scalar.addi (Scalar.muli (Scf.iv 0#32 1#32 g) 8#32) (BitVec.ofNat 32 tl.val)
/-- Where the slot word of the `k`-th expert of that token lies. -/
def offW (g : ℕ) (tl k : Fin 8) : Fin 1 → ℕ :=
  ![(Scalar.indexCast (Scalar.addi (Scalar.muli (tokW g tl) 8#32) (BitVec.ofNat 32 k.val))).toNat]
/-- Where that token's eight rows lie in one slab of the buffer. -/
def offT (g : ℕ) (tl : Fin 8) : Fin 2 → ℕ := ![(Scalar.muli (tokW g tl) 8#32).toNat, 0]

theorem offW_inb : ∀ (g : Fin 32) (tl k : Fin 8), ∀ a, offW g.val tl k a + S1.size a ≤ S2048.size a := by decide +kernel
theorem offT_inb : ∀ (g : Fin 32) (tl : Fin 8), ∀ a, offT g.val tl a + S8x128.size a ≤ S2048x128.size a := by decide +kernel
theorem slab_inb : ∀ (s : Fin 2) (k : Fin 8), ∀ a, (![s.val, k.val, 0, 0] : Fin 4 → ℕ) a + S1x1x2048x128.size a ≤ S2x8x2048x128.size a := by decide
theorem sem_inb : ∀ (s : Fin 2), ∀ a, (![s.val] : Fin 1 → ℕ) a + S1.size a ≤ S2.size a := by decide

/-- One transfer: read the slot word of token `8 g + tl`'s `k`-th expert, check it, and start the copy of the eight
    rows it names to that token's place in slab `(s, k)` of the buffer. -/
def issue (C : Prop) [Decidable C] (hC : C) (tbl : Memref sig .tc .smem S2048 .i32) (ys : Memref sig .tc .hbm S524288x128 .i32)
    (buf : Memref sig .tc .vmem S2x8x2048x128 .i32) (sems : DmaSems sig S2) (s : Fin 2) (g : Fin 32) (tl k : Fin 8) :
    Prog (Eff F) Unit := do
  let v : Elt F .i32 ← smemLoad tbl (Rect.unit (s := S2048) (offW g.val tl k) S1.size (offW_inb g tl k)) numel1_S1 rfl
  have hw : chk C v := (← Prog.lift (TpuEff.assume (chk C v) (chk.dec C v))).down
  let sem : DmaSems sig S_ := (sems.slice (Rect.unit (s := S2) ![s.val] S1.size (sem_inb s))).squeeze S_ squeezes_S1_S_
  let slab : Memref sig .tc .vmem S2048x128 .i32 :=
    (buf.slice (Rect.unit (s := S2x8x2048x128) ![s.val, k.val, 0, 0] S1x1x2048x128.size (slab_inb s k)) (fun _ => rfl)).squeeze S2048x128 squeezes_S1x1x2048x128_S2048x128
  let dst : Memref sig .tc .vmem S8x128 .i32 := slab.slice (Rect.unit (s := S2048x128) (offT g.val tl) S8x128.size (offT_inb g tl)) (fun _ => rfl)
  let src : Memref sig .tc .hbm S8x128 .i32 := ys.slice (Rect.unit (s := S524288x128) ![v.toNat, 0] S8x128.size (hw.2 hC)) (fun _ => rfl)
  Prog.lift (.enqueueDma src (.here dst) (.dma sem.sem) (View.wordExact_bits rfl) (View.wordExact_bits rfl) ⟨Or.inl rfl, trivial⟩)

/-- The 64 transfers of one group of eight tokens. -/
def gather (C : Prop) [Decidable C] (hC : C) (tbl : Memref sig .tc .smem S2048 .i32) (ys : Memref sig .tc .hbm S524288x128 .i32)
    (buf : Memref sig .tc .vmem S2x8x2048x128 .i32) (sems : DmaSems sig S2) (s : Fin 2) (g : Fin 32) : Prog (Eff F) Unit :=
  forFin 8 fun tl => forFin 8 fun k => issue C hC tbl ys buf sems s g tl k

/-- Where the eight tokens of a trip's group lie in the buffers that hold a row per token, column `col` on. -/
def offR (g col : ℕ) : Fin 2 → ℕ := ![(Scalar.indexCast (Scalar.muli (Scf.iv 0#32 1#32 g) 8#32)).toNat, col]
/-- Where the words of column block `cb` of the group's eight tokens start in slab `(s, k)`: every eighth row from there. -/
def offS (s : Fin 2) (g : ℕ) (k cb : Fin 8) : Fin 4 → ℕ :=
  ![s.val, k.val, (Scalar.indexCast (Scalar.addi (Scalar.muli (Scf.iv 0#32 1#32 g) 64#32) (BitVec.ofNat 32 cb.val))).toNat, 0]

theorem offR_w_inb : ∀ g : Fin 32, ∀ a, offR g.val 0 a + S8x8.size a ≤ S256x8.size a := by decide +kernel
theorem offR_lo_inb : ∀ (g : Fin 32) (cb : Fin 8), ∀ a, offR g.val (128 * cb.val) a + S8x128.size a ≤ S256x2048.size a := by decide +kernel
theorem offR_hi_inb : ∀ (g : Fin 32) (cb : Fin 8), ∀ a, offR g.val (1024 + 128 * cb.val) a + S8x128.size a ≤ S256x2048.size a := by decide +kernel
theorem offS_inb : ∀ (s : Fin 2) (g : Fin 32) (k cb : Fin 8), ∀ a, S1x1x8x128.size a = 0 ∨
    offS s g.val k cb a + (![1, 1, 8, 1] : Fin 4 → ℕ) a * (S1x1x8x128.size a - 1) < S2x8x2048x128.size a := by decide +kernel
theorem wk_slices : ∀ k : Fin 8, S8x8.Slices ![0, k.val] S8x1 := by decide

/-- `f 0 >=> f 1 >=> … >=> f (n - 1)` from `x`. -/
def foldFin {σ' : Type} : (n : ℕ) → (Fin n → σ' → Prog (Eff F) σ') → σ' → Prog (Eff F) σ'
  | 0, _, x => pure x
  | n + 1, f, x => f 0 x >>= fun y => foldFin n (fun j => f j.succ) y

/-- The rectangle of the words one expert contributes to a column block of a group. -/
abbrev rectS (s : Fin 2) (g : Fin 32) (k cb : Fin 8) : LoadRect S2x8x2048x128 :=
  ⟨offS s g.val k cb, S1x1x8x128.size, ![1, 1, 8, 1], offS_inb s g k cb⟩
/-- The group's rows in the low and in the high half of column block `cb`. -/
abbrev rectLo (g : Fin 32) (cb : Fin 8) : Rect S256x2048 := Rect.unit (s := S256x2048) (offR g.val (128 * cb.val)) S8x128.size (offR_lo_inb g cb)
abbrev rectHi (g : Fin 32) (cb : Fin 8) : Rect S256x2048 := Rect.unit (s := S256x2048) (offR g.val (1024 + 128 * cb.val)) S8x128.size (offR_hi_inb g cb)

/-- The weights of the `k`-th expert of the group's tokens, along the lanes. -/
def wkB (wg : Vec F S8x8 .f32) (k : Fin 8) : FVec F S8x128 .f32 :=
  broadcastTo S8x128 (extractStridedSlice S8x1 ![0, k.val] wg (wk_slices k)) broadcasts_S8x1_S8x128

/-- One expert's contribution to both halves of a column block: the words' low and high halves, weighted and added. -/
def addExpert (wg : Vec F S8x8 .f32) (k : Fin 8) (v : Vec F S1x1x8x128 .i32) (acc : FVec F S8x128 .f32 × FVec F S8x128 .f32) :
    FVec F S8x128 .f32 × FVec F S8x128 .f32 :=
  (addf acc.1 (mulf (wkB wg k) (unpackElementwise 0 (shapeCast S8x128 v shapeCasts_S1x1x8x128_S8x128))),
   addf acc.2 (mulf (wkB wg k) (unpackElementwise 1 (shapeCast S8x128 v shapeCasts_S1x1x8x128_S8x128))))

/-- One column block of the weighted sum of a group: both halves read, the eight experts' words added in, both halves stored. -/
def sumCol (wg : Vec F S8x8 .f32) (buf : Memref sig .tc .vmem S2x8x2048x128 .i32) (moe : Memref sig .tc .vmem S256x2048 .f32)
    (s : Fin 2) (g : Fin 32) (cb : Fin 8) : Prog (Eff F) Unit := do
  let lo : Vec F S8x128 .f32 ← Prog.lift (.load moe (rectLo g cb).toLoadRect (View.loadsAt_vmem h_S8x128))
  let hi : Vec F S8x128 .f32 ← Prog.lift (.load moe (rectHi g cb).toLoadRect (View.loadsAt_vmem h_S8x128))
  let acc ← foldFin 8 (fun k acc => do
    let v : Vec F S1x1x8x128 .i32 ← Prog.lift (.load buf (rectS s g k cb) (View.loadsAt_vmem h_S1x1x8x128))
    pure (addExpert wg k v acc)) (lo, hi)
  let _ : Vec F S8x128 .f32 ← Prog.lift (.load moe (rectLo g cb).toLoadRect (View.loadsAt_vmem h_S8x128))
  Prog.lift (.store moe (rectLo g cb) (shapeCast S8x128 acc.1 shapeCasts_S8x128_S8x128) Finset.univ (View.stores_vmem_bits_univ h_S8x128 rfl) (.inl rfl))
  let _ : Vec F S8x128 .f32 ← Prog.lift (.load moe (rectHi g cb).toLoadRect (View.loadsAt_vmem h_S8x128))
  Prog.lift (.store moe (rectHi g cb) (shapeCast S8x128 acc.2 shapeCasts_S8x128_S8x128) Finset.univ (View.stores_vmem_bits_univ h_S8x128 rfl) (.inl rfl))

/-- The weighted sum of one group of eight tokens, from slot `s` of the buffer. -/
def sumGroup (w : Memref sig .tc .vmem S256x8 .f32) (buf : Memref sig .tc .vmem S2x8x2048x128 .i32)
    (moe : Memref sig .tc .vmem S256x2048 .f32) (s : Fin 2) (g : Fin 32) : Prog (Eff F) Unit := do
  let wg : Vec F S8x8 .f32 ← Prog.lift (.load w (Rect.unit (s := S256x8) (offR g.val 0) S8x8.size (offR_w_inb g)).toLoadRect (View.loadsAt_vmem h_S8x8))
  forFin 8 fun cb => sumCol wg buf moe s g cb

/-- The waits for the eight slabs of slot `s`. -/
def waits (ys : Memref sig .tc .hbm S524288x128 .i32) (buf : Memref sig .tc .vmem S2x8x2048x128 .i32) (sems : DmaSems sig S2) (s : Fin 2) :
    Prog (Eff F) Unit :=
  forFin 8 fun k =>
    let sem : DmaSems sig S_ := (sems.slice (Rect.unit (s := S2) ![s.val] S1.size (sem_inb s))).squeeze S_ squeezes_S1_S_
    let slab : Memref sig .tc .vmem S2048x128 .i32 :=
      (buf.slice (Rect.unit (s := S2x8x2048x128) ![s.val, k.val, 0, 0] S1x1x2048x128.size (slab_inb s k)) (fun _ => rfl)).squeeze S2048x128 squeezes_S1x1x2048x128_S2048x128
    let src : Memref sig .tc .hbm S2048x128 .i32 := ys.slice (Rect.unit (s := S524288x128) ![0, 0] S2048x128.size inb_S524288x128_S2048x128_0_0) (fun _ => rfl)
    Prog.lift (.waitDma2 sem.sem src slab (View.wordExact_bits rfl) ((View.wordExact_bits rfl).reshape _ _))

section
variable (i : grid0.Coords) (arg1 : Memref sig .tc .smem S2048 .i32) (harg1 : arg1.IsWhole) (arg2 : Memref sig .tc .smem S2048 .i32) (harg2 : arg2.IsWhole) (arg3 : Memref sig .tc .vmem S256x8 .f32) (harg3 : arg3.IsWhole) (arg4 : Memref sig .tc .vmem S2048x128 .i32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S256x2048 .f32) (harg8 : arg8.IsWhole) (arg9 : Memref sig .tc .vmem S1x1x2048 .f32) (harg9 : arg9.IsWhole) (arg10 : Memref sig .tc .vmem S1x2048 .f32) (harg10 : arg10.IsWhole) (arg11 : Memref sig .tc .hbm S524288x128 .i32) (harg11 : arg11.IsWhole) (arg12 : Memref sig .tc .vmem S256x2048 .f32) (harg12 : arg12.IsWhole) (arg13 : Memref sig .tc .vmem S2x8x2048x128 .i32) (harg13 : arg13.IsWhole) (arg14 : Memref sig .tc .vmem S256x2048 .f32) (harg14 : arg14.IsWhole) (arg15 : DmaSems sig S2)

set_option maxHeartbeats 4000000 in
theorem t1_body_eq (h : k0_cond1 i = 1#1) (g : Fin k0_t1_loop.trips) (a : Unit) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h g a = gather (k0_cond1 i = 1#1) h arg1 arg11 arg13 arg15 0 g := rfl

set_option maxHeartbeats 16000000 in
theorem t2_body_eq (v9 arg0 : BitVec 32) (v26 : FVec F S256x2048 .bf16) (v29 : FVec F S256x512 .f32) (h : k0_cond2 i = 1#1) (g : Fin k0_t2_loop.trips) (a : Unit) :
    k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h g a
      = gather (k0_cond2 i = 1#1) h arg2 arg11 arg13 arg15 1 g >>= fun _ => sumGroup arg3 arg13 arg14 0 g := rfl

set_option maxHeartbeats 16000000 in
theorem t3_body_eq (v9 arg0 : BitVec 32) (v26 : FVec F S256x2048 .bf16) (v29 : FVec F S256x512 .f32) (h : k0_cond4 i = 1#1) (g : Fin k0_t3_loop.trips) (a : Unit) :
    k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h g a
      = gather (k0_cond4 i = 1#1) h arg2 arg11 arg13 arg15 0 g >>= fun _ => sumGroup arg3 arg13 arg14 1 g := rfl

end

end Cert.KernelIdeal.Steps
end
-- ==== Proof.Rows.lean ====
/- Where the gathered rows go and where they come from: the elements of the buffer a transfer writes, the rows of the
   table it reads, and what the buffer holds once they have landed. -/
module

public import proofs.«01_k».proof.Proof.Steps
public import proofs.«01_k».proof.Proof.Gen.KernelIdeal.Points
public import Idealize.ShloMosaic.Lib.Batch
public import Idealize.ShloMosaic.Lib.Ring
public import Idealize.ShloMosaic.Lib.Tactic
public import Idealize.ShloMosaic.Lib.ValueIdxCore
public import Idealize.ShloMosaic.Lib.ValueLayout

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx

variable {F : FTy → Type} [FloatOps F]

abbrev bufM : Memref sig .tc .vmem S2x8x2048x128 .i32 := Memref.whole cc0_scratch0
abbrev ysM : Memref sig .tc .hbm S524288x128 .i32 := Memref.whole main_arg3
abbrev moeM : Memref sig .tc .vmem S256x2048 .f32 := Memref.whole cc0_scratch1

/-! ### The offsets, in numbers -/

theorem offW_val : ∀ (g : Fin 32) (tl k : Fin 8), offW g.val tl k 0 = 64 * g.val + 8 * tl.val + k.val := by decide +kernel
theorem offT_val : ∀ (g : Fin 32) (tl : Fin 8), offT g.val tl 0 = 64 * g.val + 8 * tl.val := by decide +kernel
theorem offR_val : ∀ (g : Fin 32), offR g.val 0 0 = 8 * g.val := by decide +kernel
theorem offS_val : ∀ (g : Fin 32) (cb : Fin 8), offS 0 g.val 0 cb 2 = 64 * g.val + cb.val := by decide +kernel

/-- The number of a transfer in its block's batch. -/
def num (g : Fin 32) (tl k : Fin 8) : Fin 2048 := ⟨64 * g.val + 8 * tl.val + k.val, by omega⟩

/-! ### Elements -/

/-- Slab `k` of slot `s`, and the eight rows of it that a transfer writes. -/
def slabM (s : Fin 2) (k : Fin 8) : Memref sig .tc .vmem S2048x128 .i32 :=
  (bufM.slice (Rect.unit (s := S2x8x2048x128) ![s.val, k.val, 0, 0] S1x1x2048x128.size (slab_inb s k)) (fun _ => rfl)).squeeze S2048x128 squeezes_S1x1x2048x128_S2048x128
def dstM (s : Fin 2) (g : Fin 32) (tl k : Fin 8) : Memref sig .tc .vmem S8x128 .i32 :=
  (slabM s k).slice (Rect.unit (s := S2048x128) (offT g.val tl) S8x128.size (offT_inb g tl)) (fun _ => rfl)
def srcM (v : ℕ) (h : ∀ a, (![v, 0] : Fin 2 → ℕ) a + S8x128.size a ≤ S524288x128.size a) : Memref sig .tc .hbm S8x128 .i32 :=
  ysM.slice (Rect.unit (s := S524288x128) ![v, 0] S8x128.size h) (fun _ => rfl)

/-- Transfer `j`'s elements of the buffer: of slab `j % 8` of the slot, token `j / 8`'s eight rows. -/
def dset (s : Fin 2) (j : Fin 2048) : Finset S2x8x2048x128.Idx :=
  Finset.univ.filter fun y => (y 0).val = s.val ∧ (y 1).val = j.val % 8 ∧ (y 2).val / 8 = j.val / 8
/-- The slot's elements. -/
def slot (s : Fin 2) : Finset S2x8x2048x128.Idx := Finset.univ.filter fun y => (y 0).val = s.val
/-- The eight rows of the table from row `v` on. -/
def sset (v : ℕ) : Finset S524288x128.Idx := Finset.univ.filter fun y => v ≤ (y 0).val ∧ (y 0).val < v + 8

theorem mem_dset (s : Fin 2) (j : Fin 2048) (y : S2x8x2048x128.Idx) :
    y ∈ dset s j ↔ (y 0).val = s.val ∧ (y 1).val = j.val % 8 ∧ (y 2).val / 8 = j.val / 8 := by simp [dset]
theorem mem_slot (s : Fin 2) (y : S2x8x2048x128.Idx) : y ∈ slot s ↔ (y 0).val = s.val := by simp [slot]
theorem mem_sset (v : ℕ) (y : S524288x128.Idx) : y ∈ sset v ↔ v ≤ (y 0).val ∧ (y 0).val < v + 8 := by simp [sset]

theorem dset_disjoint (s : Fin 2) : ∀ j j' : Fin 2048, j ≠ j' → Disjoint (dset s j) (dset s j') := fun j j' hne => by
  rw [Finset.disjoint_left]; intro y hy hy'; rw [mem_dset] at hy hy'; exact hne (Fin.ext (by omega))
theorem dset_cover (s : Fin 2) : Finset.univ.biUnion (dset s) = slot s := by
  ext y
  simp only [Finset.mem_biUnion, Finset.mem_univ, true_and, mem_dset, mem_slot]
  constructor
  · rintro ⟨j, h, -⟩; exact h
  · intro h
    have h1 : (y 1).val < 8 := (y 1).isLt
    have h2 : (y 2).val < 2048 := (y 2).isLt
    exact ⟨⟨8 * ((y 2).val / 8) + (y 1).val, by omega⟩, h, by show (y 1).val = (8 * ((y 2).val / 8) + (y 1).val) % 8; omega,
      by show (y 2).val / 8 = (8 * ((y 2).val / 8) + (y 1).val) / 8; omega⟩
theorem slot_disjoint : Disjoint (slot 0) (slot 1) := by
  rw [Finset.disjoint_left]; intro y hy hy'; rw [mem_slot] at hy hy'; rw [hy] at hy'; exact absurd hy' (by decide)
theorem slot_cover : slot 0 ∪ slot 1 = Finset.univ := by
  ext y
  have h0 : (y 0).val < 2 := (y 0).isLt
  simp only [Finset.mem_union, mem_slot, Finset.mem_univ, iff_true]
  show (y 0).val = 0 ∨ (y 0).val = 1
  omega

theorem dst_emb (s : Fin 2) (g : Fin 32) (tl k : Fin 8) (x : S8x128.Idx) :
    (dstM s g tl k).view.emb x = (ix4 s k (⟨64 * g.val + 8 * tl.val + (x 0).val, by have : (x 0).val < 8 := (x 0).isLt; omega⟩ : Fin 2048) (x 1) : S2x8x2048x128.Idx) := by
  have hx : (x 0).val < 8 := (x 0).isLt
  have e : (Rect.unit (s := S2048x128) (offT g.val tl) S8x128.size (offT_inb g tl)).emb x
      = (ix2 (⟨64 * g.val + 8 * tl.val + (x 0).val, by omega⟩ : Fin 2048) (x 1) : S2048x128.Idx) := by
    funext a; match a with
    | ⟨0, _⟩ => exact Fin.ext (by show offT g.val tl 0 + 1 * (x 0).val = 64 * g.val + 8 * tl.val + (x 0).val; rw [offT_val]; omega)
    | ⟨1, _⟩ => exact Fin.ext (by show 0 + 1 * (x 1).val = (x 1).val; omega)
  show (Rect.unit (s := S2x8x2048x128) ![s.val, k.val, 0, 0] S1x1x2048x128.size (slab_inb s k)).emb (Shape.reshapeEquiv _ ((Rect.unit (s := S2048x128) (offT g.val tl) S8x128.size (offT_inb g tl)).emb x)) = _
  refine (congrArg (fun z => (Rect.unit (s := S2x8x2048x128) ![s.val, k.val, 0, 0] S1x1x2048x128.size (slab_inb s k)).emb z)
    ((congrArg _ e).trans (reshapeEquiv_ix2_11ab _ (⟨64 * g.val + 8 * tl.val + (x 0).val, by omega⟩ : Fin 2048) (x 1)))).trans ?_
  funext a; match a with
    | ⟨0, _⟩ => exact Fin.ext (by show s.val + 1 * 0 = s.val; omega)
    | ⟨1, _⟩ => exact Fin.ext (by show k.val + 1 * 0 = k.val; omega)
    | ⟨2, _⟩ => exact Fin.ext (by show 0 + 1 * (64 * g.val + 8 * tl.val + (x 0).val) = 64 * g.val + 8 * tl.val + (x 0).val; omega)
    | ⟨3, _⟩ => exact Fin.ext (by show 0 + 1 * (x 1).val = (x 1).val; omega)

theorem src_emb (v : ℕ) (h) (x : S8x128.Idx) :
    (srcM v h).view.emb x = (ix2 (⟨v + (x 0).val, by have hx : (x 0).val < 8 := (x 0).isLt; have : v + 8 ≤ 524288 := h 0; omega⟩ : Fin 524288) (x 1) : S524288x128.Idx) := by
  funext a; match a with
    | ⟨0, _⟩ => exact Fin.ext (by show v + 1 * (x 0).val = v + (x 0).val; omega)
    | ⟨1, _⟩ => exact Fin.ext (by show 0 + 1 * (x 1).val = (x 1).val; omega)

theorem mem_viewSet {sp : Space} {sh : Shape} {e : EltTy} (v : View sig .tc sp sh e) (y) : y ∈ v.set ↔ ∃ x, v.emb x = y := by
  rw [View.set, Finset.mem_map]; exact ⟨fun ⟨x, _, h⟩ => ⟨x, h⟩, fun ⟨x, h⟩ => ⟨x, Finset.mem_univ x, h⟩⟩

theorem dst_set (s : Fin 2) (g : Fin 32) (tl k : Fin 8) : (dstM s g tl k).view.set = dset s (num g tl k) := by
  refine Finset.ext fun (y : S2x8x2048x128.Idx) => ?_
  refine (mem_viewSet (dstM s g tl k).view y).trans (Iff.trans ?_ (mem_dset s (num g tl k) y).symm)
  constructor
  · rintro ⟨x, h⟩
    have hx : (x 0).val < 8 := (x 0).isLt
    have h := h.symm.trans (dst_emb s g tl k x)
    subst h
    refine ⟨rfl, ?_, ?_⟩
    · show k.val = (64 * g.val + 8 * tl.val + k.val) % 8; omega
    · show (64 * g.val + 8 * tl.val + (x 0).val) / 8 = (64 * g.val + 8 * tl.val + k.val) / 8; omega
  · rintro ⟨h0, h1, h2⟩
    have hn : (num g tl k).val = 64 * g.val + 8 * tl.val + k.val := rfl
    rw [hn] at h1 h2
    have hl : (y 1).val < 8 := (y 1).isLt
    refine ⟨(ix2 (⟨(y 2).val - (64 * g.val + 8 * tl.val), by omega⟩ : Fin 8) (y 3) : S8x128.Idx), ?_⟩
    refine (dst_emb s g tl k _).trans ?_
    funext a; match a with
    | ⟨0, _⟩ => exact Fin.ext h0.symm
    | ⟨1, _⟩ => exact Fin.ext (by show k.val = (y 1).val; omega)
    | ⟨2, _⟩ => exact Fin.ext (by show 64 * g.val + 8 * tl.val + ((y 2).val - (64 * g.val + 8 * tl.val)) = (y 2).val; omega)
    | ⟨3, _⟩ => rfl

theorem src_set (v : ℕ) (h) : (srcM v h).view.set = sset v := by
  unfold srcM
  ext y
  rw [View.set_slice_whole, Rect.mem_set_unit, mem_sset]
  have h1 : (y 1).val < 128 := (y 1).isLt
  constructor
  · intro H; have a0 : v ≤ (y 0).val ∧ (y 0).val < v + 8 := H 0; exact a0
  · intro H a; match a with
    | ⟨0, _⟩ => exact H
    | ⟨1, _⟩ => exact ⟨Nat.zero_le _, by show (y 1).val < 0 + 128; omega⟩

/-! ### What lands -/

/-- The slot words of a block are usable: each a multiple of 8 that leaves eight rows of the table. -/
def Slots (p : S2048.Idx → BitVec 32) : Prop := ∀ j : Fin 2048, 8 ∣ (p (ix1 j)).toNat ∧ (p (ix1 j)).toNat + 8 ≤ 524288

/-- Row `r`, lane `l` of the table. -/
def rowAt (r : ℕ) (l : Fin 128) : S524288x128.Idx := ix2 (⟨r % 524288, Nat.mod_lt _ (by decide)⟩ : Fin 524288) l
/-- Word row `r` of slab `k`, once every transfer has landed: row `r % 8` of the eight that token `r / 8`'s `k`-th slot names. -/
def landed (p : S2048.Idx → BitVec 32) (f : S524288x128.Idx → BitVec 32) : S2x8x2048x128.Idx → BitVec 32 := fun y =>
  f (rowAt ((p (ix1 (⟨8 * ((y 2).val / 8) + (y 1).val, by
    have h1 : (y 1).val < 8 := (y 1).isLt; have h2 : (y 2).val < 2048 := (y 2).isLt; omega⟩ : Fin 2048))).toNat + (y 2).val % 8) (y 3))

/-- A transfer leaves the landed contents on its elements. -/
theorem write_landed (p : S2048.Idx → BitVec 32) (f : S524288x128.Idx → BitVec 32) (fd : S2x8x2048x128.Idx → BitVec 32)
    (s : Fin 2) (g : Fin 32) (tl k : Fin 8) (v : BitVec 32) (hv : v = p (ix1 (num g tl k))) (h) :
    ∀ y ∈ dset s (num g tl k), (dstM s g tl k).view.write (Elt F) fd ((srcM v.toNat h).view.read (Elt F) f) Finset.univ y = landed p f y := by
  intro y hy
  rw [← dst_set] at hy
  obtain ⟨x, hxy⟩ := (mem_viewSet (dstM s g tl k).view y).mp hy
  subst hxy
  have hx : (x 0).val < 8 := (x 0).isLt
  have h0 : v.toNat + 8 ≤ 524288 := h 0
  refine (View.write_emb_of_mem _ _ (Finset.mem_univ x)).trans ?_
  refine Eq.trans (b := f ((srcM v.toNat h).view.emb x)) rfl ?_
  refine (congrArg f (src_emb v.toNat h x)).trans (Eq.trans ?_ (congrArg (landed p f) (dst_emb s g tl k x).symm))
  unfold landed
  subst hv
  refine congrArg f ?_
  have e : (ix1 (⟨8 * ((64 * g.val + 8 * tl.val + (x 0).val) / 8) + k.val, by omega⟩ : Fin 2048) : S2048.Idx) = ix1 (num g tl k) :=
    congrArg ix1 (Fin.ext (by show _ = 64 * g.val + 8 * tl.val + k.val; show 8 * ((64 * g.val + 8 * tl.val + (x 0).val) / 8) + k.val = _; omega))
  show _ = rowAt ((p (ix1 (⟨8 * ((64 * g.val + 8 * tl.val + (x 0).val) / 8) + k.val, by omega⟩ : Fin 2048))).toNat + (64 * g.val + 8 * tl.val + (x 0).val) % 8) (x 1)
  refine Eq.trans ?_ (congrArg (fun z => rowAt ((p z).toNat + (64 * g.val + 8 * tl.val + (x 0).val) % 8) (x 1)) e.symm)
  unfold rowAt
  exact congrArg (fun r => ix2 r (x 1)) (Fin.ext (by
    show (p (ix1 (num g tl k))).toNat + (x 0).val = ((p (ix1 (num g tl k))).toNat + (64 * g.val + 8 * tl.val + (x 0).val) % 8) % 524288
    omega))

end Cert.KernelIdeal.Steps
end
-- ==== Proof.Body.lean ====
/- The kernel's body at a grid point, with its three loops and its waits in the form of `Steps`: the first point's
   gather, the shared expert, the slot's branch (waits, then one trip per group of eight tokens), the result. -/
module

public import proofs.«01_k».proof.Proof.Steps

@[expose] public section

set_option maxRecDepth 65536

noncomputable section

namespace Cert.KernelIdeal.Steps

open Cert.KernelIdeal Cert.KernelIdeal.Gen
open Idealize.ShloMosaic Idealize.SL.Sem

variable {F : FTy → Type} [FloatOps F]

/-- The first point's gather of its own block's rows into slot 0. -/
def first (C : Prop) [Decidable C] (hC : C) (hok : k0_t1_loop.OK) (tbl : Memref sig .tc .smem S2048 .i32)
    (ys : Memref sig .tc .hbm S524288x128 .i32) (buf : Memref sig .tc .vmem S2x8x2048x128 .i32) (sems : DmaSems sig S2) : Prog (Eff F) Unit :=
  Scf.Loop.for k0_t1_loop hok ⟨⟩ (fun g _ => gather C hC tbl ys buf sems 0 g)

/-- The condition under which the last point waits for the rows it gathered once more. -/
def lastCond (arg0 : BitVec 32) : BitVec 1 := Scalar.cmpi .ne (Scalar.extui (Scalar.cmpi .eq arg0 31#32) : BitVec 32) 0#32

/-- The trips of one slot: gather a group of the next block into the other slot, sum the same group of this block. -/
def trips (C : Prop) [Decidable C] (hC : C) (hok : k0_t2_loop.OK) (tbl : Memref sig .tc .smem S2048 .i32)
    (w : Memref sig .tc .vmem S256x8 .f32) (ys : Memref sig .tc .hbm S524288x128 .i32) (buf : Memref sig .tc .vmem S2x8x2048x128 .i32)
    (moe : Memref sig .tc .vmem S256x2048 .f32) (sems : DmaSems sig S2) (s s' : Fin 2) : Prog (Eff F) Unit :=
  Scf.Loop.for k0_t2_loop hok ⟨⟩ (fun g _ => gather C hC tbl ys buf sems s' g >>= fun _ => sumGroup w buf moe s g)

/-- One slot's branch of the body. -/
def phase (C : Prop) [Decidable C] (hC : C) (hok : k0_t2_loop.OK) (arg0 : BitVec 32) (tbl : Memref sig .tc .smem S2048 .i32)
    (w : Memref sig .tc .vmem S256x8 .f32) (ys : Memref sig .tc .hbm S524288x128 .i32) (buf : Memref sig .tc .vmem S2x8x2048x128 .i32)
    (moe : Memref sig .tc .vmem S256x2048 .f32) (sems : DmaSems sig S2) (s s' : Fin 2) : Prog (Eff F) Unit := do
  waits ys buf sems s
  trips C hC hok tbl w ys buf moe sems s s'
  if lastCond arg0 = 1#1 then waits ys buf sems s' else pure ⟨⟩

section
variable (i : grid0.Coords) (arg1 : Memref sig .tc .smem S2048 .i32) (harg1 : arg1.IsWhole) (arg2 : Memref sig .tc .smem S2048 .i32) (harg2 : arg2.IsWhole) (arg3 : Memref sig .tc .vmem S256x8 .f32) (harg3 : arg3.IsWhole) (arg4 : Memref sig .tc .vmem S2048x128 .i32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S256x2048 .f32) (harg8 : arg8.IsWhole) (arg9 : Memref sig .tc .vmem S1x1x2048 .f32) (harg9 : arg9.IsWhole) (arg10 : Memref sig .tc .vmem S1x2048 .f32) (harg10 : arg10.IsWhole) (arg11 : Memref sig .tc .hbm S524288x128 .i32) (harg11 : arg11.IsWhole) (arg12 : Memref sig .tc .vmem S256x2048 .f32) (harg12 : arg12.IsWhole) (arg13 : Memref sig .tc .vmem S2x8x2048x128 .i32) (harg13 : arg13.IsWhole) (arg14 : Memref sig .tc .vmem S256x2048 .f32) (harg14 : arg14.IsWhole) (arg15 : DmaSems sig S2)

/-- The packed features of the block's tokens: every eighth word row, from each of the first eight. -/
def loadHp : Prog (Eff F) (Fin 8 → Vec F S256x128 .i32) := do
  let v13 : Vec F S256x128 .i32 ← Prog.lift (.load arg4 (⟨![0, 0], S256x128.size, ![8, 1], inb_S2048x128_S256x128_0_0_s_8_1⟩ : LoadRect S2048x128) (View.loadsAt_vmem h_S256x128))
  let v14 : Vec F S256x128 .i32 ← Prog.lift (.load arg4 (⟨![1, 0], S256x128.size, ![8, 1], inb_S2048x128_S256x128_1_0_s_8_1⟩ : LoadRect S2048x128) (View.loadsAt_vmem h_S256x128))
  let v15 : Vec F S256x128 .i32 ← Prog.lift (.load arg4 (⟨![2, 0], S256x128.size, ![8, 1], inb_S2048x128_S256x128_2_0_s_8_1⟩ : LoadRect S2048x128) (View.loadsAt_vmem h_S256x128))
  let v16 : Vec F S256x128 .i32 ← Prog.lift (.load arg4 (⟨![3, 0], S256x128.size, ![8, 1], inb_S2048x128_S256x128_3_0_s_8_1⟩ : LoadRect S2048x128) (View.loadsAt_vmem h_S256x128))
  let v17 : Vec F S256x128 .i32 ← Prog.lift (.load arg4 (⟨![4, 0], S256x128.size, ![8, 1], inb_S2048x128_S256x128_4_0_s_8_1⟩ : LoadRect S2048x128) (View.loadsAt_vmem h_S256x128))
  let v18 : Vec F S256x128 .i32 ← Prog.lift (.load arg4 (⟨![5, 0], S256x128.size, ![8, 1], inb_S2048x128_S256x128_5_0_s_8_1⟩ : LoadRect S2048x128) (View.loadsAt_vmem h_S256x128))
  let v19 : Vec F S256x128 .i32 ← Prog.lift (.load arg4 (⟨![6, 0], S256x128.size, ![8, 1], inb_S2048x128_S256x128_6_0_s_8_1⟩ : LoadRect S2048x128) (View.loadsAt_vmem h_S256x128))
  let v20 : Vec F S256x128 .i32 ← Prog.lift (.load arg4 (⟨![7, 0], S256x128.size, ![8, 1], inb_S2048x128_S256x128_7_0_s_8_1⟩ : LoadRect S2048x128) (View.loadsAt_vmem h_S256x128))
  pure ![v13, v14, v15, v16, v17, v18, v19, v20]

/-- The bf16 features, and their product with the gate weights, off the eight loads. -/
def feat (v : Fin 8 → Vec F S256x128 .i32) : FVec F S256x2048 .bf16 := k0_pay264 (v 0) (v 1) (v 2) (v 3) (v 4) (v 5) (v 6) (v 7)
def gateDot (v : Fin 8 → Vec F S256x128 .i32) (sg : Vec F S2048x512 .bf16) : FVec F S256x512 .f32 :=
  k0_pay265 (v 0) (v 1) (v 2) (v 3) (v 4) (v 5) (v 6) (v 7) sg

/-- The shared expert, left in the accumulator. -/
def shared : Prog (Eff F) Unit := do
  let v ← loadHp arg4
  let sg : Vec F S2048x512 .bf16 ← Prog.lift (.load arg5 (Rect.unit (s := S2048x512) ![0, 0] S2048x512.size inb_S2048x512_S2048x512_0_0).toLoadRect (View.loadsAt_vmem h_S2048x512))
  let su : Vec F S2048x512 .bf16 ← Prog.lift (.load arg6 (Rect.unit (s := S2048x512) ![0, 0] S2048x512.size inb_S2048x512_S2048x512_0_0).toLoadRect (View.loadsAt_vmem h_S2048x512))
  let sd : Vec F S512x2048 .bf16 ← Prog.lift (.load arg7 (Rect.unit (s := S512x2048) ![0, 0] S512x2048.size inb_S512x2048_S512x2048_0_0).toLoadRect (View.loadsAt_vmem h_S512x2048))
  let _ : Vec F S256x2048 .f32 ← Prog.lift (.load arg14 (Rect.unit (s := S256x2048) ![0, 0] S256x2048.size inb_S256x2048_S256x2048_0_0).toLoadRect (View.loadsAt_vmem h_S256x2048))
  Prog.lift (.store arg14 (Rect.unit (s := S256x2048) ![0, 0] S256x2048.size inb_S256x2048_S256x2048_0_0) (k0_pay266 (feat v) (gateDot v sg) su sd) Finset.univ (View.stores_vmem_bits_univ h_S256x2048 rfl) (.inl rfl))

/-- The gated residual and the final norm, off the accumulator. -/
def finish : Prog (Eff F) Unit := do
  let v55 : Vec F S256x2048 .f32 ← Prog.lift (.load arg8 (Rect.unit (s := S256x2048) ![0, 0] S256x2048.size inb_S256x2048_S256x2048_0_0).toLoadRect (View.loadsAt_vmem h_S256x2048))
  let v56 : Vec F S1x1x2048 .f32 ← Prog.lift (.load arg9 (Rect.unit (s := S1x1x2048) ![0, 0, 0] S1x1x2048.size inb_S1x1x2048_S1x1x2048_0_0_0).toLoadRect (View.loadsAt_vmem h_S1x1x2048))
  let v58 : Vec F S256x2048 .f32 ← Prog.lift (.load arg14 (Rect.unit (s := S256x2048) ![0, 0] S256x2048.size inb_S256x2048_S256x2048_0_0).toLoadRect (View.loadsAt_vmem h_S256x2048))
  let v72 : Vec F S1x2048 .f32 ← Prog.lift (.load arg10 (Rect.unit (s := S1x2048) ![0, 0] S1x2048.size inb_S1x2048_S1x2048_0_0).toLoadRect (View.loadsAt_vmem h_S1x2048))
  let _ : Vec F S256x2048 .f32 ← Prog.lift (.load arg12 (Rect.unit (s := S256x2048) ![0, 0] S256x2048.size inb_S256x2048_S256x2048_0_0).toLoadRect (View.loadsAt_vmem h_S256x2048))
  Prog.lift (.store arg12 (Rect.unit (s := S256x2048) ![0, 0] S256x2048.size inb_S256x2048_S256x2048_0_0) (k0_pay1 (k0_pay269 v55 v56 v58) (k0_pay270 v55 v56 v58) v72) Finset.univ (View.stores_vmem_bits_univ h_S256x2048 rfl) (.inl rfl))

/-- The first point's gather; the branch of each slot: at the points that take it. -/
def firstIf : Prog (Eff F) Unit :=
  if h : k0_cond1 i = 1#1 then first (k0_cond1 i = 1#1) h (k0_t1_ok i h) arg1 arg11 arg13 arg15 else pure ⟨⟩
def phase0If : Prog (Eff F) Unit :=
  if h : k0_cond2 i = 1#1 then phase (k0_cond2 i = 1#1) h (k0_t2_ok i h) (BitVec.ofNat 32 (i 0).val) arg2 arg3 arg11 arg13 arg14 arg15 0 1 else pure ⟨⟩
def phase1If : Prog (Eff F) Unit :=
  if h : k0_cond4 i = 1#1 then phase (k0_cond4 i = 1#1) h (k0_t3_ok i h) (BitVec.ofNat 32 (i 0).val) arg2 arg3 arg11 arg13 arg14 arg15 1 0 else pure ⟨⟩

/-- The body in order. -/
def combineBody : Prog (Eff F) Unit := do
  firstIf i arg1 arg11 arg13 arg15
  shared arg4 arg5 arg6 arg7 arg14
  phase0If i arg2 arg3 arg11 arg13 arg14 arg15
  phase1If i arg2 arg3 arg11 arg13 arg14 arg15
  finish arg8 arg9 arg10 arg12 arg14

theorem t1_fun_eq (h : k0_cond1 i = 1#1) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h = fun g _ => gather (k0_cond1 i = 1#1) h arg1 arg11 arg13 arg15 0 g := rfl
theorem t2_fun_eq (v9 arg0 : BitVec 32) (v26 : FVec F S256x2048 .bf16) (v29 : FVec F S256x512 .f32) (h : k0_cond2 i = 1#1) :
    k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h = fun g _ => gather (k0_cond2 i = 1#1) h arg2 arg11 arg13 arg15 1 g >>= fun _ => sumGroup arg3 arg13 arg14 0 g :=
  funext fun g => funext fun a => t2_body_eq i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h g a
theorem t3_fun_eq (v9 arg0 : BitVec 32) (v26 : FVec F S256x2048 .bf16) (v29 : FVec F S256x512 .f32) (h : k0_cond4 i = 1#1) :
    k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h = fun g _ => gather (k0_cond4 i = 1#1) h arg2 arg11 arg13 arg15 0 g >>= fun _ => sumGroup arg3 arg13 arg14 1 g :=
  funext fun g => funext fun a => t3_body_eq i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h g a

set_option maxHeartbeats 4000000 in
theorem head_eq : k0_part130 (F := F) i arg1 harg1 arg2 harg2 arg3 harg3 arg4 harg4 arg5 harg5 arg6 harg6 arg7 harg7 arg8 harg8 arg9 harg9 arg10 harg10 arg11 harg11 arg12 harg12 arg13 harg13 arg14 harg14 arg15 = (do
    if h : k0_cond1 i = 1#1 then first (k0_cond1 i = 1#1) h (k0_t1_ok i h) arg1 arg11 arg13 arg15 else pure ⟨⟩
    let v ← loadHp arg4
    let sg : Vec F S2048x512 .bf16 ← Prog.lift (.load arg5 (Rect.unit (s := S2048x512) ![0, 0] S2048x512.size inb_S2048x512_S2048x512_0_0).toLoadRect (View.loadsAt_vmem h_S2048x512))
    pure ⟨BitVec.ofNat 32 (i 0).val, Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32)), feat v, gateDot v sg⟩) := by
  by_cases h : k0_cond1 i = 1#1
  · rw [k0_part130_eq_skeleton]
    unfold k0_part130_skel
    simp only [dif_pos h, bind_assoc, pure_bind]
    rfl
  · rw [k0_part130_eq_skeleton]
    unfold k0_part130_skel
    simp only [dif_neg h, bind_assoc, pure_bind]
    rfl

set_option maxHeartbeats 4000000 in
theorem tail_eq (v9 : BitVec 32) (v : Fin 8 → Vec F S256x128 .i32) (sg : Vec F S2048x512 .bf16) :
    k0_part131 (F := F) i arg1 harg1 arg2 harg2 arg3 harg3 arg4 harg4 arg5 harg5 arg6 harg6 arg7 harg7 arg8 harg8 arg9 harg9 arg10 harg10 arg11 harg11 arg12 harg12 arg13 harg13 arg14 harg14 arg15 (BitVec.ofNat 32 (i 0).val) v9 (feat v) (gateDot v sg) = (do
    let su : Vec F S2048x512 .bf16 ← Prog.lift (.load arg6 (Rect.unit (s := S2048x512) ![0, 0] S2048x512.size inb_S2048x512_S2048x512_0_0).toLoadRect (View.loadsAt_vmem h_S2048x512))
    let sd : Vec F S512x2048 .bf16 ← Prog.lift (.load arg7 (Rect.unit (s := S512x2048) ![0, 0] S512x2048.size inb_S512x2048_S512x2048_0_0).toLoadRect (View.loadsAt_vmem h_S512x2048))
    let _ : Vec F S256x2048 .f32 ← Prog.lift (.load arg14 (Rect.unit (s := S256x2048) ![0, 0] S256x2048.size inb_S256x2048_S256x2048_0_0).toLoadRect (View.loadsAt_vmem h_S256x2048))
    Prog.lift (.store arg14 (Rect.unit (s := S256x2048) ![0, 0] S256x2048.size inb_S256x2048_S256x2048_0_0) (k0_pay266 (feat v) (gateDot v sg) su sd) Finset.univ (View.stores_vmem_bits_univ h_S256x2048 rfl) (.inl rfl))
    if h : k0_cond2 i = 1#1 then phase (k0_cond2 i = 1#1) h (k0_t2_ok i h) (BitVec.ofNat 32 (i 0).val) arg2 arg3 arg11 arg13 arg14 arg15 0 1 else pure ⟨⟩
    if h : k0_cond4 i = 1#1 then phase (k0_cond4 i = 1#1) h (k0_t3_ok i h) (BitVec.ofNat 32 (i 0).val) arg2 arg3 arg11 arg13 arg14 arg15 1 0 else pure ⟨⟩
    let v55 : Vec F S256x2048 .f32 ← Prog.lift (.load arg8 (Rect.unit (s := S256x2048) ![0, 0] S256x2048.size inb_S256x2048_S256x2048_0_0).toLoadRect (View.loadsAt_vmem h_S256x2048))
    let v56 : Vec F S1x1x2048 .f32 ← Prog.lift (.load arg9 (Rect.unit (s := S1x1x2048) ![0, 0, 0] S1x1x2048.size inb_S1x1x2048_S1x1x2048_0_0_0).toLoadRect (View.loadsAt_vmem h_S1x1x2048))
    let v58 : Vec F S256x2048 .f32 ← Prog.lift (.load arg14 (Rect.unit (s := S256x2048) ![0, 0] S256x2048.size inb_S256x2048_S256x2048_0_0).toLoadRect (View.loadsAt_vmem h_S256x2048))
    pure ⟨k0_pay269 v55 v56 v58, k0_pay270 v55 v56 v58⟩) := by
  rw [k0_part131_eq_skeleton]
  unfold k0_part131_skel phase trips lastCond
  simp only [t2_fun_eq, t3_fun_eq]
  by_cases h3 : Scalar.cmpi .ne (Scalar.extui (Scalar.cmpi .eq (BitVec.ofNat 32 (i 0).val) 31#32) : BitVec 32) 0#32 = 1#1
  all_goals by_cases h2 : k0_cond2 i = 1#1
  all_goals by_cases h4 : k0_cond4 i = 1#1
  all_goals
    simp only [h2, h3, h4, dif_pos, dif_neg, if_pos, if_neg, not_false_eq_true, bind_assoc, pure_bind]
    try rfl

set_option maxHeartbeats 4000000 in
/-- The printed body is the body in order. -/
theorem body_eq : cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 = combineBody i arg1 arg2 arg3 arg4 arg5 arg6 arg7 arg8 arg9 arg10 arg11 arg12 arg13 arg14 arg15 := by
  rw [cc0_combine_eq_skeleton]
  unfold cc0_combine_skel combineBody shared finish firstIf phase0If phase1If
  rw [head_eq]
  by_cases h1 : k0_cond1 i = 1#1
  all_goals by_cases h2 : k0_cond2 i = 1#1
  all_goals by_cases h4 : k0_cond4 i = 1#1
  all_goals
    simp only [h1, h2, h4, dif_pos, dif_neg, not_false_eq_true, bind_assoc, pure_bind, tail_eq]
    try rfl

end

end Cert.KernelIdeal.Steps
end
-- ==== Proof.Gather.lean ====
/- The gathers' rows in flight: what a transfer delivers, and one transfer, one group's 64 and one slot's drain stepped. -/
module

public import proofs.«01_k».proof.Proof.Rows
public import proofs.«01_k».proof.Proof.Body

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a piece of the body on core `c`. -/
abbrev wpB {α : Type} (c : Dev nD) (p : Prog (Eff F) α) (Q : α → sProp 𝕄) : sProp 𝕄 :=
  wp frame (wpE (defs₀ (F := F)) Variants.none (c : Thread nD τ) none) Set.univ p Q

/-- A step repeated: an invariant each step carries on is carried through. -/
theorem wp_forFin (c : Dev nD) : (n : ℕ) → (f : Fin n → Prog (Eff F) Unit) → (I : ℕ → sProp 𝕄) →
    (∀ j : Fin n, I j.val ⊢ wpB c (f j) (fun _ => I (j.val + 1))) → (I 0 ⊢ wpB c (forFin n f) (fun _ => I n))
  | 0, f, I, h => by
    show I 0 ⊢ wpB c (pure PUnit.unit) (fun _ => I 0)
    unfold wpB; rw [wp_pure]; exact fupd_intro
  | n + 1, f, I, h => by
    show I 0 ⊢ wpB c (f 0 >>= fun _ => forFin n (fun j => f j.succ)) (fun _ => I (n + 1))
    unfold wpB; rw [wp_bind]
    exact (h 0).trans (wp_mono _ _ _ fun _ => wp_forFin c n (fun j => f j.succ) (fun j => I (j + 1)) (fun j => h j.succ))

section
variable (c : Dev nD)

abbrev bufL : Loc nD τ sig := bufM.view.loc (c : Thread nD τ)
abbrev ysL : Loc nD τ sig := ysM.view.loc (c : Thread nD τ)

/-- The slot's semaphore. -/
def cell (s : Fin 2) : DmaSem sig := ((cc0_scratch2.slice (Rect.unit (s := S2) ![s.val] S1.size (sem_inb s))).squeeze S_ squeezes_S1_S_).sem
/-- What one transfer credits. -/
def NN : ℕ := (dstM 0 0 0 0).view.dmaCredit
theorem NN_pos : 0 < NN := by unfold NN; decide +kernel
theorem dst_credit (s : Fin 2) (g : Fin 32) (tl k : Fin 8) : (dstM s g tl k).view.dmaCredit = NN := rfl
theorem slab_credit (s : Fin 2) (k : Fin 8) : (slabM s k).view.dmaCredit = 256 * NN := by
  have : (slabM s k).view.dmaCredit = (slabM 0 0).view.dmaCredit := rfl
  rw [this]; decide +kernel

variable (p : S2048.Idx → BitVec 32) (f : S524288x128.Idx → BitVec 32) (fd : S2x8x2048x128.Idx → BitVec 32) (s : Fin 2)

/-- The first row transfer `j` reads. -/
abbrev row (j : Fin 2048) : ℕ := (p (ix1 j)).toNat
/-- Transfer `j`'s share of the table. -/
abbrev tok (j : Fin 2048) : PosShare TreeShare := Transfers.shareTok fullShare 2048 j
/-- What transfer `j` delivers: its elements of the buffer, landed, and the rows it read. -/
def Del (j : Fin 2048) : sProp 𝕄 :=
  iprop((bufL c ↦[dset s j]{fullShare} landed p f) ∗ (ysL c ↦[sset (row p j)]{tok j} f))
instance Del_storable (j : Fin 2048) : BI.Storable (upEmb : UEmb _ 𝕄) (Del c p f s j) := by unfold Del; infer_instance
/-- What is kept of transfer `j`'s share of the table meanwhile. -/
def Kept (j : Fin 2048) : sProp 𝕄 := iprop(ysL c ↦[Finset.univ \ sset (row p j)]{tok j} f)
/-- What transfer `j` starts from. -/
def Todo (j : Fin 2048) : sProp 𝕄 :=
  iprop((bufL c ↦[dset s j]{fullShare} fd) ∗ (ysL c ↦{tok j} f))
/-- The batch of a block's transfers, `j` started and `u` units waited for. -/
abbrev batch (j u : ℕ) : sProp 𝕄 :=
  Transfers.Batch (countersEmb (U := Pipeline.UD sig nD τ)) (c : Thread nD τ) (.dma (cell s)) () NN (Del c p f s) j u
/-- `n` transfers started. -/
def Started (n : ℕ) : sProp 𝕄 :=
  iprop(batch c p f s n 0 ∗ bigSep (Ring.rangeSet 2048 n 2048) (Todo c f fd s) ∗ bigSep (Ring.rangeSet 2048 0 n) (Kept c p f))

/-- One transfer started: its number taken off the batch, what is not read of its share kept. -/
theorem dma_step (g : Fin 32) (tl k : Fin 8) (v : BitVec 32) (hv : v = p (ix1 (num g tl k))) (h) :
    iprop(batch c p f s (num g tl k).val 0 ∗ Todo c f fd s (num g tl k))
      ⊢ wpB (F := F) c (.op (.enqueueDma (srcM v.toNat h) (.here (dstM s g tl k)) (.dma (cell s)) (View.wordExact_bits rfl) (View.wordExact_bits rfl) ⟨Or.inl rfl, trivial⟩) .ret)
          (fun _ => iprop(batch c p f s ((num g tl k).val + 1) 0 ∗ Kept c p f (num g tl k))) := by
  have hj := (num g tl k).isLt
  have hrow : (srcM v.toNat h).view.set = sset (row p (num g tl k)) :=
    (src_set v.toNat h).trans (congrArg (fun w : BitVec 32 => sset w.toNat) hv)
  have hN : (dstM s g tl k).view.amount (.dma (cell s)) = NN := (View.amount_dma _ _).trans (dst_credit s g tl k)
  unfold Todo
  iintro ⟨HB, Hd, Hy⟩
  ihave Hy' := (pointsTo_split_subset (Finset.subset_univ (sset (row p (num g tl k))))).1 $$ Hy
  icases Hy' with ⟨Hy, Hk⟩
  iapply (Transfers.wp_dmaBatch (countersEmb (U := Pipeline.UD sig nD τ)) Variants.none (c : Thread nD τ) none (src := srcM v.toNat h) (dst := dstM s g tl k) (via := ReadAs.same) () NN hN (Sd := dset s (num g tl k))
    (Finset.Subset.refl _ |>.trans (dst_set s g tl k).subset) hj (Nat.zero_le _) (D := Del c p f s) (fs := f) (fd := fd) (q := tok (num g tl k)) (by
      unfold Del
      refine BIClass.sep_mono ?_ ?_
      · exact Entails.of_eq (pointsTo_congr (write_landed (F := F) p f fd s g tl k v hv h))
      · exact Entails.of_eq (by rw [hrow]; rfl))) $$ [Hy Hd HB]
  · isplitl [Hy]
    · iapply (Entails.of_eq (by rw [hrow]; rfl)) $$ Hy
    isplitl [Hd]; · iexact Hd
    iexact HB
  iintro HB
  rw [wp_ret]
  imodintro
  isplitl [HB]; · iexact HB
  unfold Kept; iexact Hk

theorem issue_step (hp : Slots p) (C : Prop) [Decidable C] (hC : C) (tbl : Memref sig .tc .smem S2048 .i32) (g : Fin 32) (tl k : Fin 8) :
    iprop(owns (c : Thread nD τ) tbl fullShare p ∗ Started c p f fd s (num g tl k).val)
      ⊢ wpB (F := F) c (issue (F := F) C hC tbl ysM bufM cc0_scratch2 s g tl k)
          (fun _ => iprop(owns (c : Thread nD τ) tbl fullShare p ∗ Started c p f fd s ((num g tl k).val + 1))) := by
  have hj := (num g tl k).isLt
  unfold Started
  rw [Ring.bigSep_rangeSet_head (Φ := Todo c f fd s) hj hj,
    Ring.bigSep_rangeSet_last (Φ := Kept c p f) (hi := (num g tl k).val + 1) (by omega) (by omega)]
  unfold owns Todo
  have hx : ∀ ft : Buf (Elt F) (tbl.view.loc (c : Thread nD τ)), tbl.view.read (Elt F) ft = p →
      (tbl.access (Rect.unit (s := S2048) (offW g.val tl k) S1.size (offW_inb g tl k))).read (Elt F) ft (Shape.Idx.first (numel1_S1.symm ▸ Nat.one_pos)) = p (ix1 (num g tl k)) := by
    intro ft hft
    refine Eq.trans (b := tbl.view.read (Elt F) ft ((Rect.unit (s := S2048) (offW g.val tl k) S1.size (offW_inb g tl k)).emb (Shape.Idx.first (numel1_S1.symm ▸ Nat.one_pos)))) rfl ?_
    rw [hft]
    refine congrArg p ?_
    funext a; match a with
    | ⟨0, _⟩ => exact Fin.ext (by show offW g.val tl k 0 + 1 * 0 = 64 * g.val + 8 * tl.val + k.val; rw [offW_val]; omega)
  have hdiv : 8 ∣ (p (ix1 (num g tl k))).toNat ∧ (p (ix1 (num g tl k))).toNat + 8 ≤ 524288 := hp (num g tl k)
  have hC' : ∀ v : BitVec 32, v = p (ix1 (num g tl k)) → chk C v := fun v hv =>
    ⟨fun _ => hv ▸ hdiv.1, fun _ a => match a with
      | ⟨0, _⟩ => hv ▸ hdiv.2
      | ⟨1, _⟩ => by show 0 + 128 ≤ 128; omega⟩
  show _ ⊢ wpB (F := F) c (smemLoadElt (Val := Elt F) tbl (Rect.unit (s := S2048) (offW g.val tl k) S1.size (offW_inb g tl k)) (View.loads_smem_one rfl numel1_S1)
    (Shape.Idx.first (numel1_S1.symm ▸ Nat.one_pos)) fun v : BitVec 32 => .op (.assume (chk C v) (chk.dec C v)) fun hw => .op (.enqueueDma (srcM v.toNat (hw.down.2 hC)) (.here (dstM s g tl k)) (.dma (cell s)) (View.wordExact_bits rfl) (View.wordExact_bits rfl) ⟨Or.inl rfl, trivial⟩) .ret) _
  iintro ⟨⟨%ft, %hft, Ht⟩, HB, ⟨⟨Hd, Hy⟩, HT⟩, HK⟩
  have hv := hx ft hft
  ihave Ht' := (show (tbl.view.loc (c : Thread nD τ) ↦[tbl.view.set]{fullShare} ft : sProp 𝕄) ⊢
    ((tbl.access (Rect.unit (s := S2048) (offW g.val tl k) S1.size (offW_inb g tl k))).loc (c : Thread nD τ) ↦[tbl.view.set]{fullShare} ft) from .rfl) $$ Ht
  iapply (wp_smemLoadElt Variants.none (c : Thread nD τ) none Set.univ (S := tbl.view.set) (View.set_slice_subset _ _)) $$ Ht'
  iintro Ht
  generalize (tbl.access (Rect.unit (s := S2048) (offW g.val tl k) S1.size (offW_inb g tl k))).read (Elt F) ft (Shape.Idx.first (numel1_S1.symm ▸ Nat.one_pos)) = v at hv
  iapply (wp_assume Variants.none (c : Thread nD τ) none Set.univ (hC' v hv))
  ihave Hw := (dma_step c p f fd s g tl k v hv ((hC' v hv).2 hC)) $$ [HB Hd Hy]
  · isplitl [HB]; · iexact HB
    unfold Todo; isplitl [Hd] <;> iassumption
  iapply (wp_wand_r _ _ _)
  isplitl [Hw]; · iexact Hw
  iintro %a ⟨HB, Hk⟩
  isplitl [Ht]
  · iexists ft
    isplitr; · ipureintro; exact hft
    iexact Ht
  isplitl [HB]; · iexact HB
  isplitl [HT]; · iexact HT
  isplitl [Hk]; · iexact Hk
  iexact HK
/-- One group's 64 transfers. -/
theorem gather_step (hp : Slots p) (C : Prop) [Decidable C] (hC : C) (tbl : Memref sig .tc .smem S2048 .i32) (g : Fin 32) :
    iprop(owns (c : Thread nD τ) tbl fullShare p ∗ Started c p f fd s (64 * g.val))
      ⊢ wpB (F := F) c (gather (F := F) C hC tbl ysM bufM cc0_scratch2 s g)
          (fun _ => iprop(owns (c : Thread nD τ) tbl fullShare p ∗ Started c p f fd s (64 * (g.val + 1)))) :=
  wp_forFin c 8 _ (fun tl => iprop(owns (c : Thread nD τ) tbl fullShare p ∗ Started c p f fd s (64 * g.val + 8 * tl))) fun tl =>
    wp_forFin c 8 _ (fun k => iprop(owns (c : Thread nD τ) tbl fullShare p ∗ Started c p f fd s (64 * g.val + 8 * tl.val + k))) fun k =>
      issue_step c p f fd s hp C hC tbl g tl k

/-- All of a block's transfers in flight into slot `s`, and the rest of the table. -/
def InFlight : sProp 𝕄 :=
  iprop(batch c p f s 2048 0 ∗ bigSep Finset.univ (Kept c p f) ∗ (ysL c ↦{Transfers.shareDrop fullShare 2048} f))

/-- The gathers begin: the slot's elements and the table's shares dealt out, the batch opened on the slot's semaphore. -/
theorem start_gather : iprop(semVal ((c : Thread nD τ), SemLoc.dma (cell s)) 0 ∗ (bufL c ↦[slot s]{fullShare} fd) ∗ (ysL c ↦{fullShare} f))
    ⊢ (iprop(|={Set.univ}=> (Started c p f fd s 0 ∗ (ysL c ↦{Transfers.shareDrop fullShare 2048} f))) : sProp 𝕄) := by
  iintro ⟨Hc, Hb, Hy⟩
  imod (Transfers.batch_alloc' (countersEmb (U := Pipeline.UD sig nD τ)) (c : Thread nD τ) () NN (Del c p f s) (sm := .dma (cell s)) (E := Set.univ)) $$ Hc with HB
  ihave Hy' := (Transfers.pointsTo_toks_split fullShare 2048) $$ Hy
  icases Hy' with ⟨Hd, Ht⟩
  ihave Hb' := (Entails.of_eq (Ring.pointsTo_sub_blocks (ℓ := bufL c) (dset s) (dset_disjoint s) (slot s) (dset_cover s) (q := fullShare) fd)) $$ Hb
  imodintro
  isplitr [Hd]
  · unfold Started
    isplitl [HB]; · iexact HB
    isplitl [Hb' Ht]
    · rw [Ring.rangeSet_univ]
      iapply (show (iprop(bigSep Finset.univ (fun j => (bufL c ↦[dset s j]{fullShare} fd : sProp 𝕄)) ∗ bigSep Finset.univ (fun j => (ysL c ↦{tok j} f : sProp 𝕄)))) ⊢ bigSep Finset.univ (Todo c f fd s) from
        Entails.of_eq (BI.bigSep_sep _ _ _).symm)
      isplitl [Hb']; · iexact Hb'
      iexact Ht
    · rw [Ring.bigSep_rangeSet_empty (le_refl 0)]; iempintro
  · iexact Hd

theorem started_all : iprop(Started c p f fd s 2048 ∗ (ysL c ↦{Transfers.shareDrop fullShare 2048} f)) ⊢ (InFlight c p f s : sProp 𝕄) := by
  unfold Started InFlight
  rw [Ring.rangeSet_univ]
  iintro ⟨⟨HB, -, HK⟩, Hy⟩
  isplitl [HB]; · iexact HB
  isplitl [HK] <;> iassumption

theorem kept_join (j : Fin 2048) : (iprop((ysL c ↦[sset (row p j)]{tok j} f) ∗ Kept c p f j) : sProp 𝕄) ⊢ ysL c ↦{tok j} f := by
  unfold Kept
  iintro ⟨Ha, Hb⟩
  iapply (pointsTo_split_subset (Finset.subset_univ (sset (row p j)))).2
  isplitl [Ha] <;> iassumption

/-- Everything delivered: the slot holds the landed rows and the table is whole again. -/
theorem collect : iprop(bigSep Finset.univ (Del c p f s) ∗ bigSep Finset.univ (Kept c p f) ∗ (ysL c ↦{Transfers.shareDrop fullShare 2048} f))
    ⊢ (iprop((bufL c ↦[slot s]{fullShare} landed p f) ∗ (ysL c ↦{fullShare} f)) : sProp 𝕄) := by
  unfold Del
  iintro ⟨HD, HK, Hd⟩
  ihave HD' := (show _ ⊢ (iprop(bigSep Finset.univ (fun j => (bufL c ↦[dset s j]{fullShare} landed p f : sProp 𝕄)) ∗ bigSep Finset.univ (fun j => (ysL c ↦[sset (row p j)]{tok j} f : sProp 𝕄)))) from
    Entails.of_eq (BI.bigSep_sep _ _ _)) $$ HD
  icases HD' with ⟨Hb, Hs⟩
  isplitl [Hb]
  · iapply (Entails.of_eq (Ring.pointsTo_sub_blocks (ℓ := bufL c) (dset s) (dset_disjoint s) (slot s) (dset_cover s) (q := fullShare) (landed p f)).symm) $$ Hb
  · iapply (Transfers.pointsTo_toks_join fullShare 2048)
    isplitl [Hd]; · iexact Hd
    ihave Hj := (show (iprop(bigSep Finset.univ (fun j => (ysL c ↦[sset (row p j)]{tok j} f : sProp 𝕄)) ∗ bigSep Finset.univ (Kept c p f))) ⊢ _ from
      Entails.of_eq (BI.bigSep_sep _ _ _).symm) $$ [Hs HK]
    · isplitl [Hs] <;> iassumption
    iapply (show bigSep Finset.univ (fun j => iprop((ysL c ↦[sset (row p j)]{tok j} f) ∗ Kept c p f j)) ⊢ bigSep Finset.univ (fun j => (ysL c ↦{tok j} f : sProp 𝕄)) from
      BI.bigSep_mono fun j _ => kept_join c p f j) $$ Hj

/-- The waits: nothing comes back before the last, which brings every row. -/
theorem waits_step (W : Waits sig Unit) :
    iprop(InFlight c p f s ∗ owes (c : Thread nD τ) 0 W)
      ⊢ wpB (F := F) c (waits (F := F) ysM bufM cc0_scratch2 s)
          (fun _ => iprop((bufL c ↦[slot s]{fullShare} landed p f) ∗ (ysL c ↦{fullShare} f)
            ∗ semVal ((c : Thread nD τ), SemLoc.dma (cell s)) 0 ∗ ∃ W, owes (c : Thread nD τ) 0 W)) := by
  have hrun : iprop(batch c p f s 2048 0 ∗ ∃ W, owes (c : Thread nD τ) 0 W) ⊢ wpB (F := F) c (waits (F := F) ysM bufM cc0_scratch2 s)
      (fun _ => iprop(bigSep Finset.univ (Del c p f s) ∗ semVal ((c : Thread nD τ), SemLoc.dma (cell s)) 0 ∗ ∃ W, owes (c : Thread nD τ) 0 W)) := by
    refine (Entails.of_eq ?_).trans (wp_forFin c 8 _ (fun k => if k < 8 then iprop(batch c p f s 2048 (k * (256 * NN)) ∗ ∃ W, owes (c : Thread nD τ) 0 W)
      else iprop(bigSep Finset.univ (Del c p f s) ∗ semVal ((c : Thread nD τ), SemLoc.dma (cell s)) 0 ∗ ∃ W, owes (c : Thread nD τ) 0 W)) fun k => ?_)
    · rw [if_pos (by decide), Nat.zero_mul]
    · have hk := k.isLt
      rw [if_pos hk]
      show _ ⊢ wpB (F := F) c (.op (.waitDma2 (cell s) (ysM.slice (Rect.unit (s := S524288x128) ![0, 0] S2048x128.size inb_S524288x128_S2048x128_0_0) (fun _ => rfl)) (slabM s k) (View.wordExact_bits rfl) ((View.wordExact_bits rfl).reshape _ _)) .ret) _
      iintro ⟨HB, ⟨%W, HO⟩⟩
      by_cases h : k.val + 1 < 8
      · rw [if_pos h]
        iapply (Transfers.wp_waitBatchMul (countersEmb (U := Pipeline.UD sig nD τ)) Variants.none (c : Thread nD τ) none (srcw := ysM.slice (Rect.unit (s := S524288x128) ![0, 0] S2048x128.size inb_S524288x128_S2048x128_0_0) (fun _ => rfl)) (dstw := slabM s k) (hsrc := View.wordExact_bits rfl) (hdst := (View.wordExact_bits rfl).reshape _ _) () (N := NN) 256 (slab_credit s k) (D := Del c p f s) (j := 2048) (u := k.val * (256 * NN)) (by rw [show NN * 2048 = 8 * (256 * NN) by omega]; exact (Nat.succ_mul _ _).symm.le.trans (Nat.mul_le_mul_right _ hk))) $$ [HB HO]
        · isplitl [HB] <;> iassumption
        iintro ⟨HB, HO⟩
        rw [wp_ret]; imodintro
        rw [show (k.val + 1) * (256 * NN) = k.val * (256 * NN) + 256 * NN from Nat.succ_mul _ _]
        isplitl [HB]; · iexact HB
        iexists _; iexact HO
      · rw [if_neg h]
        iapply (Transfers.wp_waitBatchAll (countersEmb (U := Pipeline.UD sig nD τ)) Variants.none (c : Thread nD τ) none (srcw := ysM.slice (Rect.unit (s := S524288x128) ![0, 0] S2048x128.size inb_S524288x128_S2048x128_0_0) (fun _ => rfl)) (dstw := slabM s k) (hsrc := View.wordExact_bits rfl) (hdst := (View.wordExact_bits rfl).reshape _ _) () (N := NN) (slab_credit s k) NN_pos (D := Del c p f s) (u := k.val * (256 * NN))
          (by rw [show k.val = 7 by omega, Nat.mul_comm NN 2048]; omega)) $$ [HB HO]
        · isplitl [HB] <;> iassumption
        iintro ⟨HD, Hc, HO⟩
        rw [wp_ret]; imodintro
        isplitl [HD]; · iexact HD
        isplitl [Hc]; · iexact Hc
        iexists _; iexact HO
  unfold InFlight
  iintro ⟨⟨HB, HK, Hd⟩, HO⟩
  ihave Hw := hrun $$ [HB HO]
  · isplitl [HB]; · iexact HB
    iexists W; iexact HO
  iapply (wp_wand_r _ _ _)
  isplitl [Hw]; · iexact Hw
  iintro %a ⟨HD, Hc, HO⟩
  ihave Hr := (collect c p f s) $$ [HD HK Hd]
  · isplitl [HD]; · iexact HD
    isplitl [HK] <;> iassumption
  icases Hr with ⟨Hb, Hy⟩
  isplitl [Hb]; · iexact Hb
  isplitl [Hy]; · iexact Hy
  isplitl [Hc] <;> iassumption
end

end Cert.KernelIdeal.Steps
end
-- ==== Proof.Sum.lean ====
/- The weighted sum of the experts' rows, element by element: what one column block of one group adds to the
   accumulator, and the steps of the body that do it. -/
module

public import proofs.«01_k».proof.Proof.Gather
public import Idealize.ShloMosaic.Lib.Pipeline.Value
public import Idealize.ShloMosaic.Lib.Pointwise.ElementwiseCore

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### Repeated steps that return a value -/

/-- `f (n - 1) (… (f 0 x))`. -/
def foldPure {σ' : Type} : (n : ℕ) → (Fin n → σ' → σ') → σ' → σ'
  | 0, _, x => x
  | n + 1, f, x => foldPure n (fun j => f j.succ) (f 0 x)

theorem foldPure_proj {σ' ρ' : Type} (π : σ' → ρ') : (n : ℕ) → (h : Fin n → σ' → σ') → (h' : Fin n → ρ' → ρ') →
    (∀ k x, π (h k x) = h' k (π x)) → ∀ x, π (foldPure n h x) = foldPure n h' (π x)
  | 0, _, _, _, _ => rfl
  | n + 1, h, h', hh, x => by
    show π (foldPure n (fun j => h j.succ) (h 0 x)) = foldPure n (fun j => h' j.succ) (h' 0 (π x))
    rw [foldPure_proj π n _ (fun j => h' j.succ) (fun k x => hh k.succ x), hh]

theorem wp_foldFin (c : Dev nD) {σ' : Type} (R : sProp 𝕄) : (n : ℕ) → (f : Fin n → σ' → Prog (Eff F) σ') → (h : Fin n → σ' → σ') →
    (∀ k x, R ⊢ wpB c (f k x) (fun y => iprop(⌜y = h k x⌝ ∗ R))) → ∀ x, (R ⊢ wpB c (foldFin n f x) (fun y => iprop(⌜y = foldPure n h x⌝ ∗ R)))
  | 0, f, h, hh, x => by
    show R ⊢ wpB c (pure x) (fun y => iprop(⌜y = x⌝ ∗ R))
    unfold wpB; rw [wp_pure]
    iintro H; imodintro
    isplitr; · ipureintro; rfl
    iexact H
  | n + 1, f, h, hh, x => by
    show R ⊢ wpB c (f 0 x >>= fun y => foldFin n (fun j => f j.succ) y) (fun y => iprop(⌜y = foldPure n (fun j => h j.succ) (h 0 x)⌝ ∗ R))
    unfold wpB; rw [wp_bind]
    refine (hh 0 x).trans (wp_mono _ _ _ fun y => ?_)
    iintro ⟨%hy, HR⟩
    subst hy
    iapply (wp_foldFin c R n (fun j => f j.succ) (fun j => h j.succ) (fun k x => hh k.succ x) (h 0 x)) $$ HR

/-! ### The sum at an element -/

/-- A word's low (`h = 0`) or high (`h = 1`) 16 bits, as the 32-bit value the body reads them at. -/
def half (h : ℕ) (v : BitVec 32) : F .f32 := FloatOps.extf .f32 (by decide) (FloatOps.ofBits .bf16 (v.extractLsb' (h * 16) 16))

/-- Row `r`'s, column `j`'s weighted sum of the eight experts' values, from `a`: of expert `k`, the weight `w r k` times
    half `j / 1024` of lane `j % 128` of its word row `8 r + (j % 1024) / 128` in the slot. -/
def wsum (w : S256x8.Idx → F .f32) (G : S2x8x2048x128.Idx → BitVec 32) (s : Fin 2) (r : Fin 256) (j : Fin 2048) (a : F .f32) : F .f32 :=
  foldPure 8 (fun k a => FloatOps.addf a (FloatOps.mulf (w (ix2 r k))
    (half (j.val / 1024) (G (ix4 s k (⟨8 * r.val + j.val % 1024 / 128, by omega⟩ : Fin 2048) (⟨j.val % 128, by omega⟩ : Fin 128)))))) a

/-- The accumulator when the column blocks numbered below `n` — 8 to a group of eight rows — have been summed. -/
def stage (w : S256x8.Idx → F .f32) (G : S2x8x2048x128.Idx → BitVec 32) (s : Fin 2) (M : S256x2048.Idx → F .f32) (n : ℕ) : S256x2048.Idx → F .f32 := fun y =>
  if 8 * ((y 0).val / 8) + (y 1).val % 1024 / 128 < n then wsum w G s (y 0) (y 1) (M y) else M y

theorem stage_zero (w : S256x8.Idx → F .f32) (G) (s : Fin 2) (M) : stage w G s M 0 = M := by
  funext y; unfold stage; rw [if_neg (Nat.not_lt_zero _)]
theorem stage_all (w : S256x8.Idx → F .f32) (G) (s : Fin 2) (M) : stage w G s M 256 = fun y => wsum w G s (y 0) (y 1) (M y) := by
  funext y; unfold stage
  have h0 : (y 0).val < 256 := (y 0).isLt
  rw [if_pos (by omega)]

/-- The weights of a group. -/
def wgOf (w : S256x8.Idx → F .f32) (g : Fin 32) : S8x8.Idx → F .f32 := fun x =>
  w (ix2 (⟨8 * g.val + (x 0).val, by have : (x 0).val < 8 := (x 0).isLt; omega⟩ : Fin 256) (x 1))
/-- The words of expert `k` in a column block of a group. -/
def wordsOf (G : S2x8x2048x128.Idx → BitVec 32) (s : Fin 2) (g : Fin 32) (cb k : Fin 8) : S1x1x8x128.Idx → BitVec 32 := fun x =>
  G (ix4 s k (⟨64 * g.val + cb.val + 8 * (x 2).val, by have : (x 2).val < 8 := (x 2).isLt; omega⟩ : Fin 2048) (x 3))

theorem wkB_apply (wg : Vec F S8x8 .f32) (k : Fin 8) (x : S8x128.Idx) : wkB wg k x = wg (ix2 (x 0) k) := by
  unfold wkB
  refine (broadcastTo_apply _ _ x (ix2 (x 0) (0 : Fin 1) : S8x1.Idx) (by
    intro a; match a with
    | ⟨0, _⟩ => rfl
    | ⟨1, _⟩ => rfl)).trans ?_
  refine extractStridedSlice_apply _ _ _ _ (ix2 (x 0) k : S8x8.Idx) (by
    intro a; match a with
    | ⟨0, _⟩ => exact (Nat.zero_add _).symm
    | ⟨1, _⟩ => rfl)

theorem cast_apply (v : S1x1x8x128.Idx → BitVec 32) (x : S8x128.Idx) :
    shapeCast S8x128 v shapeCasts_S1x1x8x128_S8x128 x = v (ix4 (0 : Fin 1) (0 : Fin 1) (x 0) (x 1)) := by
  unfold shapeCast
  refine congrArg v ?_
  have e : x = (ix2 (x 0) (x 1) : S8x128.Idx) := eq_ix2 x
  exact (congrArg _ e).trans (reshapeEquiv_ix2_11ab _ (x 0) (x 1))

/-- What the eight experts add to an element of the low and of the high half. -/
theorem fold_fst (wg : Vec F S8x8 .f32) (v : Fin 8 → Vec F S1x1x8x128 .i32) (lo hi : FVec F S8x128 .f32) (x : S8x128.Idx) :
    (foldPure 8 (fun k acc => addExpert wg k (v k) acc) (lo, hi)).1 x
      = foldPure 8 (fun k a => FloatOps.addf a (FloatOps.mulf (wg (ix2 (x 0) k)) (half 0 (v k (ix4 (0 : Fin 1) (0 : Fin 1) (x 0) (x 1)))))) (lo x) :=
  foldPure_proj (fun acc : FVec F S8x128 .f32 × FVec F S8x128 .f32 => acc.1 x) 8 _ _ (fun k acc => by
    show FloatOps.addf (acc.1 x) (FloatOps.mulf (wkB wg k x) (half 0 (shapeCast S8x128 (v k) shapeCasts_S1x1x8x128_S8x128 x))) = _
    rw [wkB_apply, cast_apply]) (lo, hi)
theorem fold_snd (wg : Vec F S8x8 .f32) (v : Fin 8 → Vec F S1x1x8x128 .i32) (lo hi : FVec F S8x128 .f32) (x : S8x128.Idx) :
    (foldPure 8 (fun k acc => addExpert wg k (v k) acc) (lo, hi)).2 x
      = foldPure 8 (fun k a => FloatOps.addf a (FloatOps.mulf (wg (ix2 (x 0) k)) (half 1 (v k (ix4 (0 : Fin 1) (0 : Fin 1) (x 0) (x 1)))))) (hi x) :=
  foldPure_proj (fun acc : FVec F S8x128 .f32 × FVec F S8x128 .f32 => acc.2 x) 8 _ _ (fun k acc => by
    show FloatOps.addf (acc.2 x) (FloatOps.mulf (wkB wg k x) (half 1 (shapeCast S8x128 (v k) shapeCasts_S1x1x8x128_S8x128 x))) = _
    rw [wkB_apply, cast_apply]) (lo, hi)

/-! ### Where a column block's elements lie -/

theorem offR_col (g : Fin 32) (col : ℕ) : offR g.val col 0 = 8 * g.val := offR_val g
theorem lo_emb (g : Fin 32) (cb : Fin 8) (x : S8x128.Idx) : (rectLo g cb).emb x
    = (ix2 (⟨8 * g.val + (x 0).val, by have : (x 0).val < 8 := (x 0).isLt; omega⟩ : Fin 256) (⟨128 * cb.val + (x 1).val, by have : (x 1).val < 128 := (x 1).isLt; omega⟩ : Fin 2048) : S256x2048.Idx) := by
  funext a; match a with
  | ⟨0, _⟩ => exact Fin.ext (by show offR g.val (128 * cb.val) 0 + 1 * (x 0).val = 8 * g.val + (x 0).val; rw [offR_col]; omega)
  | ⟨1, _⟩ => exact Fin.ext (by show 128 * cb.val + 1 * (x 1).val = 128 * cb.val + (x 1).val; omega)
theorem hi_emb (g : Fin 32) (cb : Fin 8) (x : S8x128.Idx) : (rectHi g cb).emb x
    = (ix2 (⟨8 * g.val + (x 0).val, by have : (x 0).val < 8 := (x 0).isLt; omega⟩ : Fin 256) (⟨1024 + 128 * cb.val + (x 1).val, by have : (x 1).val < 128 := (x 1).isLt; omega⟩ : Fin 2048) : S256x2048.Idx) := by
  funext a; match a with
  | ⟨0, _⟩ => exact Fin.ext (by show offR g.val (1024 + 128 * cb.val) 0 + 1 * (x 0).val = 8 * g.val + (x 0).val; rw [offR_col]; omega)
  | ⟨1, _⟩ => exact Fin.ext (by show 1024 + 128 * cb.val + 1 * (x 1).val = 1024 + 128 * cb.val + (x 1).val; omega)

theorem wg_idx (g : Fin 32) (x : S8x8.Idx) : (Rect.unit (s := S256x8) (offR g.val 0) S8x8.size (offR_w_inb g)).toLoadRect.idx x
    = (ix2 (⟨8 * g.val + (x 0).val, by have : (x 0).val < 8 := (x 0).isLt; omega⟩ : Fin 256) (x 1) : S256x8.Idx) := by
  funext a; match a with
  | ⟨0, _⟩ => exact Fin.ext (by show offR g.val 0 0 + 1 * (x 0).val = 8 * g.val + (x 0).val; rw [offR_col]; omega)
  | ⟨1, _⟩ => exact Fin.ext (by show 0 + 1 * (x 1).val = (x 1).val; omega)
theorem words_idx (s : Fin 2) (g : Fin 32) (k cb : Fin 8) (x : S1x1x8x128.Idx) : (rectS s g k cb).idx x
    = (ix4 s k (⟨64 * g.val + cb.val + 8 * (x 2).val, by have : (x 2).val < 8 := (x 2).isLt; omega⟩ : Fin 2048) (x 3) : S2x8x2048x128.Idx) := by
  have h0 : (x 0).val < 1 := (x 0).isLt
  have h1 : (x 1).val < 1 := (x 1).isLt
  funext a; match a with
  | ⟨0, _⟩ => exact Fin.ext (by show s.val + 1 * (x 0).val = s.val; omega)
  | ⟨1, _⟩ => exact Fin.ext (by show k.val + 1 * (x 1).val = k.val; omega)
  | ⟨2, _⟩ => exact Fin.ext (by show offS 0 g.val 0 cb 2 + 8 * (x 2).val = 64 * g.val + cb.val + 8 * (x 2).val; rw [offS_val])
  | ⟨3, _⟩ => exact Fin.ext (by show 0 + 1 * (x 3).val = (x 3).val; omega)

/-- Both halves of a column block written with their sums: the accumulator one block further. -/
theorem stage_succ (w : S256x8.Idx → F .f32) (G : S2x8x2048x128.Idx → BitVec 32) (s : Fin 2) (M : S256x2048.Idx → F .f32) (g : Fin 32) (cb : Fin 8)
    (wg : Vec F S8x8 .f32) (hwg : wg = wgOf w g) (v : Fin 8 → Vec F S1x1x8x128 .i32) (hv : ∀ k, v k = wordsOf G s g cb k)
    (lo hi : FVec F S8x128 .f32) (hlo : ∀ x, lo x = stage w G s M (8 * g.val + cb.val) ((rectLo g cb).emb x))
    (hhi : ∀ x, hi x = stage w G s M (8 * g.val + cb.val) ((rectHi g cb).emb x)) (N : S256x2048.Idx → F .f32)
    (hN : ∀ y, (∀ x, (rectLo g cb).emb x = y → N y = (foldPure 8 (fun k acc => addExpert wg k (v k) acc) (lo, hi)).1 x)
      ∧ (∀ x, (rectHi g cb).emb x = y → N y = (foldPure 8 (fun k acc => addExpert wg k (v k) acc) (lo, hi)).2 x)
      ∧ ((∀ x, (rectLo g cb).emb x ≠ y) → (∀ x, (rectHi g cb).emb x ≠ y) → N y = stage w G s M (8 * g.val + cb.val) y)) :
    N = stage w G s M (8 * g.val + cb.val + 1) := by
  funext y
  have h0 : (y 0).val < 256 := (y 0).isLt
  have h1 : (y 1).val < 2048 := (y 1).isLt
  obtain ⟨N1, N2, N3⟩ := hN y
  by_cases hb : 8 * ((y 0).val / 8) + (y 1).val % 1024 / 128 = 8 * g.val + cb.val
  · let x : S8x128.Idx := ix2 (⟨(y 0).val - 8 * g.val, by omega⟩ : Fin 8) (⟨(y 1).val % 128, by omega⟩ : Fin 128)
    have hx0 : (x 0).val = (y 0).val - 8 * g.val := rfl
    have hx1 : (x 1).val = (y 1).val % 128 := rfl
    have hst : stage w G s M (8 * g.val + cb.val) y = M y := by unfold stage; rw [if_neg (by omega)]
    have hst' : stage w G s M (8 * g.val + cb.val + 1) y = wsum w G s (y 0) (y 1) (M y) := by unfold stage; rw [if_pos (by omega)]
    have hw : ∀ k, wg (ix2 (x 0) k) = w (ix2 (y 0) k) := fun k => by
      subst hwg
      exact congrArg (fun r : Fin 256 => w (ix2 r k)) (Fin.ext (by show 8 * g.val + ((y 0).val - 8 * g.val) = (y 0).val; omega))
    have hG : ∀ k, v k (ix4 (0 : Fin 1) (0 : Fin 1) (x 0) (x 1))
        = G (ix4 s k (⟨8 * (y 0).val + (y 1).val % 1024 / 128, by omega⟩ : Fin 2048) (⟨(y 1).val % 128, by omega⟩ : Fin 128)) := fun k => by
      rw [hv k]
      exact congrArg (fun r : Fin 2048 => G (ix4 s k r (⟨(y 1).val % 128, by omega⟩ : Fin 128)))
        (Fin.ext (by show 64 * g.val + cb.val + 8 * ((y 0).val - 8 * g.val) = 8 * (y 0).val + (y 1).val % 1024 / 128; omega))
    rw [hst']
    by_cases hh : (y 1).val < 1024
    · have hxy : (rectLo g cb).emb x = y := (lo_emb g cb x).trans (by
        funext a; match a with
        | ⟨0, _⟩ => exact Fin.ext (by show 8 * g.val + ((y 0).val - 8 * g.val) = (y 0).val; omega)
        | ⟨1, _⟩ => exact Fin.ext (by show 128 * cb.val + (y 1).val % 128 = (y 1).val; omega))
      rw [N1 x hxy, fold_fst, hlo x, hxy, hst]
      unfold wsum
      refine congrArg (fun f => foldPure 8 f (M y)) (funext fun k => funext fun a => ?_)
      rw [hw k, hG k, show (y 1).val / 1024 = 0 by omega]
    · have hxy : (rectHi g cb).emb x = y := (hi_emb g cb x).trans (by
        funext a; match a with
        | ⟨0, _⟩ => exact Fin.ext (by show 8 * g.val + ((y 0).val - 8 * g.val) = (y 0).val; omega)
        | ⟨1, _⟩ => exact Fin.ext (by show 1024 + 128 * cb.val + (y 1).val % 128 = (y 1).val; omega))
      rw [N2 x hxy, fold_snd, hhi x, hxy, hst]
      unfold wsum
      refine congrArg (fun f => foldPure 8 f (M y)) (funext fun k => funext fun a => ?_)
      rw [hw k, hG k, show (y 1).val / 1024 = 1 by omega]
  · have hnl : ∀ x, (rectLo g cb).emb x ≠ y := fun x hxy => hb (by
      have hxy := (lo_emb g cb x).symm.trans hxy
      have hx0 : (x 0).val < 8 := (x 0).isLt
      have hx1 : (x 1).val < 128 := (x 1).isLt
      have e0 : 8 * g.val + (x 0).val = (y 0).val := congrArg (fun z : S256x2048.Idx => (z 0).val) hxy
      have e1 : 128 * cb.val + (x 1).val = (y 1).val := congrArg (fun z : S256x2048.Idx => (z 1).val) hxy
      omega)
    have hnh : ∀ x, (rectHi g cb).emb x ≠ y := fun x hxy => hb (by
      have hxy := (hi_emb g cb x).symm.trans hxy
      have hx0 : (x 0).val < 8 := (x 0).isLt
      have hx1 : (x 1).val < 128 := (x 1).isLt
      have e0 : 8 * g.val + (x 0).val = (y 0).val := congrArg (fun z : S256x2048.Idx => (z 0).val) hxy
      have e1 : 1024 + 128 * cb.val + (x 1).val = (y 1).val := congrArg (fun z : S256x2048.Idx => (z 1).val) hxy
      omega)
    rw [N3 hnl hnh]
    unfold stage
    by_cases hlt : 8 * ((y 0).val / 8) + (y 1).val % 1024 / 128 < 8 * g.val + cb.val
    · rw [if_pos hlt, if_pos (by omega)]
    · rw [if_neg hlt, if_neg (by omega)]

theorem lo_ne_hi (g : Fin 32) (cb : Fin 8) (x x' : S8x128.Idx) : (rectLo g cb).emb x ≠ (rectHi g cb).emb x' := fun h => by
  have h := ((lo_emb g cb x).symm.trans h).trans (hi_emb g cb x')
  have hx1 : (x 1).val < 128 := (x 1).isLt
  have e1 : 128 * cb.val + (x 1).val = 1024 + 128 * cb.val + (x' 1).val := congrArg (fun z : S256x2048.Idx => (z 1).val) h
  omega

/-- The accumulator with both halves of a column block written. -/
def put (g : Fin 32) (cb : Fin 8) (M : S256x2048.Idx → F .f32) (a b : FVec F S8x128 .f32) : S256x2048.Idx → F .f32 :=
  (moeM.access (rectHi g cb)).write (Elt F) ((moeM.access (rectLo g cb)).write (Elt F) M a Finset.univ) b Finset.univ

theorem put_spec (g : Fin 32) (cb : Fin 8) (M : S256x2048.Idx → F .f32) (a b : FVec F S8x128 .f32) (y : S256x2048.Idx) :
    (∀ x, (rectLo g cb).emb x = y → put g cb M a b y = a x) ∧ (∀ x, (rectHi g cb).emb x = y → put g cb M a b y = b x)
      ∧ ((∀ x, (rectLo g cb).emb x ≠ y) → (∀ x, (rectHi g cb).emb x ≠ y) → put g cb M a b y = M y) := by
  have hi_not : ∀ y : S256x2048.Idx, (∀ x, (rectHi g cb).emb x ≠ y) → y ∉ (moeM.access (rectHi g cb)).setOn Finset.univ := fun y h hm => by
    obtain ⟨x, -, hx⟩ := Finset.mem_map.mp hm; exact h x hx
  have lo_not : ∀ y : S256x2048.Idx, (∀ x, (rectLo g cb).emb x ≠ y) → y ∉ (moeM.access (rectLo g cb)).setOn Finset.univ := fun y h hm => by
    obtain ⟨x, -, hx⟩ := Finset.mem_map.mp hm; exact h x hx
  unfold put
  refine ⟨fun x hx => ?_, fun x hx => ?_, fun h1 h2 => ?_⟩
  · subst hx
    refine (View.write_of_not_mem _ _ _ (hi_not _ fun x' => (lo_ne_hi g cb x x').symm)).trans ?_
    exact View.write_emb_of_mem (v := moeM.access (rectLo g cb)) _ _ (Finset.mem_univ x)
  · subst hx
    exact View.write_emb_of_mem (v := moeM.access (rectHi g cb)) _ _ (Finset.mem_univ x)
  · exact (View.write_of_not_mem _ _ _ (hi_not _ h2)).trans (View.write_of_not_mem _ _ _ (lo_not _ h1))

/-! ### The steps -/

section
variable (c : Dev nD)

abbrev moeL : Loc nD τ sig := moeM.view.loc (c : Thread nD τ)

theorem words_sub (s : Fin 2) (g : Fin 32) (k cb : Fin 8) : bufM.view.setOn (rectS s g k cb).set ⊆ slot s := by
  intro y hy
  obtain ⟨z, hz, hzy⟩ := Finset.mem_map.mp hy
  obtain ⟨x, hx⟩ := (rectS s g k cb).exists_idx_of_mem hz
  have hzy : z = y := hzy
  subst hzy; subst hx
  rw [mem_slot]
  exact congrArg (fun z : S2x8x2048x128.Idx => (z 0).val) (words_idx s g k cb x)

/-- A rectangle of the accumulator read, and one written. -/
theorem load_moe {α : Type} (r : Rect S256x2048) {hl : moeM.view.LoadsAt r.toLoadRect} (k : (r.shape.Idx → Elt F .f32) → Prog (Eff F) α) (M : S256x2048.Idx → F .f32) (Q : α → sProp 𝕄) :
    iprop((moeL c ↦{fullShare} M) ∗ ((moeL c ↦{fullShare} M) -∗ wpB c (k fun x => M (r.emb x)) Q))
      ⊢ wpB (F := F) c (.op (.load moeM r.toLoadRect hl) k) Q := by
  iintro ⟨Hm, Hk⟩
  iapply (wp_load (m := moeM) (r := r.toLoadRect) (S := Finset.univ) (f := M) (q := fullShare) Variants.none (c : Thread nD τ) none Set.univ (Finset.subset_univ _)) $$ Hm
  iintro Hm
  iapply Hk $$ Hm
theorem store_moe {α : Type} (r : Rect S256x2048) (a : r.shape.Idx → Elt F .f32) {hx : (moeM.access r).Stores Finset.univ} {hm} (k : PUnit → Prog (Eff F) α) (M : S256x2048.Idx → F .f32) (Q : α → sProp 𝕄) :
    iprop((moeL c ↦{fullShare} M) ∗ ((moeL c ↦{fullShare} (moeM.access r).write (Elt F) M a Finset.univ) -∗ wpB c (k ⟨⟩) Q))
      ⊢ wpB (F := F) c (.op (.store moeM r a Finset.univ hx hm) k) Q := by
  iintro ⟨Hm, Hk⟩
  ihave Hm' := (show (moeL c ↦{fullShare} M : sProp 𝕄) ⊢ ((moeM.access r).loc (c : Thread nD τ) ↦[Finset.univ]{fullShare} M) from .rfl) $$ Hm
  iapply (wp_store (m := moeM) (r := r) (S := Finset.univ) (f := M) Variants.none (c : Thread nD τ) none Set.univ (Finset.subset_univ _)) $$ Hm'
  iintro Hm
  iapply Hk $$ Hm

theorem load_buf {α : Type} (r : LoadRect S2x8x2048x128) {hl : bufM.view.LoadsAt r} (k : (r.shape.Idx → Elt F .i32) → Prog (Eff F) α)
    (S : Finset S2x8x2048x128.Idx) (hS : bufM.view.setOn r.set ⊆ S) (G : S2x8x2048x128.Idx → BitVec 32) (Q : α → sProp 𝕄) :
    iprop((bufL c ↦[S]{fullShare} G) ∗ ((bufL c ↦[S]{fullShare} G) -∗ wpB c (k fun x => G (r.idx x)) Q))
      ⊢ wpB (F := F) c (.op (.load bufM r hl) k) Q := by
  iintro ⟨Hm, Hk⟩
  iapply (wp_load (m := bufM) (r := r) (S := S) (f := G) (q := fullShare) Variants.none (c : Thread nD τ) none Set.univ hS) $$ Hm
  iintro Hm
  iapply Hk $$ Hm

theorem wordsLoad_step (wg : Vec F S8x8 .f32) (G : S2x8x2048x128.Idx → BitVec 32) (s : Fin 2) (g : Fin 32) (cb k : Fin 8) (acc : FVec F S8x128 .f32 × FVec F S8x128 .f32) :
    (bufL c ↦[slot s]{fullShare} G)
      ⊢ wpB (F := F) c ((Prog.lift (TpuEff.load bufM (rectS s g k cb) (View.loadsAt_vmem h_S1x1x8x128)) : Prog (Eff F) (Vec F S1x1x8x128 .i32)) >>= fun v => pure (addExpert wg k v acc))
          (fun y => iprop(⌜y = addExpert wg k (wordsOf G s g cb k) acc⌝ ∗ (bufL c ↦[slot s]{fullShare} G))) := by
  refine BIBase.Entails.trans ?_ (load_buf c (rectS s g k cb) (fun v : Vec F S1x1x8x128 .i32 => .ret (addExpert wg k v acc)) (slot s) (words_sub s g k cb) G _)
  iintro Hb
  isplitl [Hb]; · iexact Hb
  iintro Hb
  unfold wpB
  rw [wp_ret]
  imodintro
  isplitr
  · ipureintro
    exact congrArg (fun v => addExpert wg k v acc) (funext fun x => congrArg G (words_idx s g k cb x))
  iexact Hb

theorem sumCol_step (w : S256x8.Idx → F .f32) (G : S2x8x2048x128.Idx → BitVec 32) (s : Fin 2) (M : S256x2048.Idx → F .f32) (g : Fin 32) (cb : Fin 8) :
    iprop((bufL c ↦[slot s]{fullShare} G) ∗ (moeL c ↦{fullShare} stage w G s M (8 * g.val + cb.val)))
      ⊢ wpB (F := F) c (sumCol (F := F) (wgOf w g) bufM moeM s g cb)
        (fun _ => iprop((bufL c ↦[slot s]{fullShare} G) ∗ (moeL c ↦{fullShare} stage w G s M (8 * g.val + cb.val + 1)))) := by
  have hsucc := stage_succ w G s M g cb (wgOf w g) rfl (wordsOf G s g cb) (fun _ => rfl)
    (fun x => stage w G s M (8 * g.val + cb.val) ((rectLo g cb).emb x)) (fun x => stage w G s M (8 * g.val + cb.val) ((rectHi g cb).emb x))
    (fun _ => rfl) (fun _ => rfl) _ (fun y => put_spec g cb (stage w G s M (8 * g.val + cb.val)) _ _ y)
  rw [← hsucc]
  generalize stage w G s M (8 * g.val + cb.val) = M'
  have hfold : ∀ x, _ := wp_foldFin (F := F) c (bufL c ↦[slot s]{fullShare} G) 8 _ _ (fun k acc => wordsLoad_step c (wgOf w g) G s g cb k acc)
  have htail : ∀ acc : FVec F S8x128 .f32 × FVec F S8x128 .f32, (iprop(moeL c ↦{fullShare} M') : sProp 𝕄) ⊢ wpB (F := F) c
      (.op (.load moeM (rectLo g cb).toLoadRect (View.loadsAt_vmem h_S8x128)) fun _ : Vec F S8x128 .f32 =>
        .op (.store moeM (rectLo g cb) (shapeCast S8x128 acc.1 shapeCasts_S8x128_S8x128) Finset.univ (View.stores_vmem_bits_univ h_S8x128 rfl) (.inl rfl)) fun _ =>
        .op (.load moeM (rectHi g cb).toLoadRect (View.loadsAt_vmem h_S8x128)) fun _ : Vec F S8x128 .f32 =>
        .op (.store moeM (rectHi g cb) (shapeCast S8x128 acc.2 shapeCasts_S8x128_S8x128) Finset.univ (View.stores_vmem_bits_univ h_S8x128 rfl) (.inl rfl)) .ret)
      (fun _ => iprop(moeL c ↦{fullShare} put g cb M' acc.1 acc.2)) := fun acc => by
    have e1 : shapeCast S8x128 acc.1 shapeCasts_S8x128_S8x128 = acc.1 := shapeCast_self _ _
    have e2 : shapeCast S8x128 acc.2 shapeCasts_S8x128_S8x128 = acc.2 := shapeCast_self _ _
    rw [e1, e2]
    iintro Hm
    iapply (load_moe c (rectLo g cb))
    isplitl [Hm]; · iexact Hm
    iintro Hm
    iapply (store_moe c (rectLo g cb))
    isplitl [Hm]; · iexact Hm
    iintro Hm
    iapply (load_moe c (rectHi g cb))
    isplitl [Hm]; · iexact Hm
    iintro Hm
    iapply (store_moe c (rectHi g cb))
    isplitl [Hm]; · iexact Hm
    iintro Hm
    unfold wpB
    rw [wp_ret]
    imodintro
    unfold put; iexact Hm
  have hmid : ∀ x : FVec F S8x128 .f32 × FVec F S8x128 .f32, (iprop((bufL c ↦[slot s]{fullShare} G) ∗ (moeL c ↦{fullShare} M')) : sProp 𝕄) ⊢ wpB (F := F) c
      (foldFin 8 (fun k acc => Prog.lift (TpuEff.load bufM (rectS s g k cb) (View.loadsAt_vmem h_S1x1x8x128)) >>= fun v : Vec F S1x1x8x128 .i32 => pure (addExpert (wgOf w g) k v acc)) x
        >>= fun acc => (.op (.load moeM (rectLo g cb).toLoadRect (View.loadsAt_vmem h_S8x128)) fun _ : Vec F S8x128 .f32 =>
        .op (.store moeM (rectLo g cb) (shapeCast S8x128 acc.1 shapeCasts_S8x128_S8x128) Finset.univ (View.stores_vmem_bits_univ h_S8x128 rfl) (.inl rfl)) fun _ =>
        .op (.load moeM (rectHi g cb).toLoadRect (View.loadsAt_vmem h_S8x128)) fun _ : Vec F S8x128 .f32 =>
        .op (.store moeM (rectHi g cb) (shapeCast S8x128 acc.2 shapeCasts_S8x128_S8x128) Finset.univ (View.stores_vmem_bits_univ h_S8x128 rfl) (.inl rfl)) .ret))
      (fun _ => iprop((bufL c ↦[slot s]{fullShare} G) ∗ (moeL c ↦{fullShare} put g cb M'
        (foldPure 8 (fun k acc => addExpert (wgOf w g) k (wordsOf G s g cb k) acc) x).1 (foldPure 8 (fun k acc => addExpert (wgOf w g) k (wordsOf G s g cb k) acc) x).2))) := fun x => by
    unfold wpB
    rw [wp_bind]
    iintro ⟨Hb, Hm⟩
    ihave Hw := (hfold x) $$ Hb
    iapply (wp_wand_r _ _ _)
    isplitl [Hw]; · iexact Hw
    iintro %acc ⟨%hacc, Hb⟩
    subst hacc
    ihave Hw := (htail _) $$ Hm
    iapply (wp_wand_r _ _ _)
    isplitl [Hw]; · iexact Hw
    iintro %u Hm
    isplitl [Hb] <;> iassumption
  iintro ⟨Hb, Hm⟩
  unfold sumCol
  iapply (load_moe c (rectLo g cb))
  isplitl [Hm]; · iexact Hm
  iintro Hm
  iapply (load_moe c (rectHi g cb))
  isplitl [Hm]; · iexact Hm
  iintro Hm
  iapply (hmid _)
  isplitl [Hb] <;> iassumption

theorem sumGroup_step (arg3 : Memref sig .tc .vmem S256x8 .f32) (w : S256x8.Idx → F .f32) (G : S2x8x2048x128.Idx → BitVec 32) (s : Fin 2) (M : S256x2048.Idx → F .f32) (g : Fin 32) :
    iprop(owns (c : Thread nD τ) arg3 fullShare w ∗ (bufL c ↦[slot s]{fullShare} G) ∗ (moeL c ↦{fullShare} stage w G s M (8 * g.val)))
      ⊢ wpB (F := F) c (sumGroup (F := F) arg3 bufM moeM s g)
        (fun _ => iprop(owns (c : Thread nD τ) arg3 fullShare w ∗ (bufL c ↦[slot s]{fullShare} G) ∗ (moeL c ↦{fullShare} stage w G s M (8 * (g.val + 1))))) := by
  have hrun := wp_forFin (F := F) c 8 _ (fun cb => iprop((bufL c ↦[slot s]{fullShare} G) ∗ (moeL c ↦{fullShare} stage w G s M (8 * g.val + cb)))) fun cb => sumCol_step c w G s M g cb
  unfold sumGroup owns
  iintro ⟨⟨%fw, %hw, Hw⟩, Hb, Hm⟩
  iapply (wp_load (m := arg3) (r := (Rect.unit (s := S256x8) (offR g.val 0) S8x8.size (offR_w_inb g)).toLoadRect) (S := arg3.view.set) (f := fw) (q := fullShare)
    Variants.none (c : Thread nD τ) none Set.univ (by rw [View.set]; exact Finset.map_subset_map.mpr (Finset.subset_univ _))) $$ Hw
  iintro Hw
  have hr : arg3.view.readAt (Elt F) (Rect.unit (s := S256x8) (offR g.val 0) S8x8.size (offR_w_inb g)).toLoadRect fw = wgOf w g := by
    subst hw
    exact funext fun x => congrArg (arg3.view.read (Elt F) fw) (wg_idx g x)
  rw [hr]
  ihave Hr := hrun $$ [Hb Hm]
  · isplitl [Hb] <;> iassumption
  iapply (wp_wand_r _ _ _)
  isplitl [Hr]; · iexact Hr
  iintro %u ⟨Hb, Hm⟩
  isplitl [Hw]
  · iexists fw
    isplitr; · ipureintro; exact hw
    iexact Hw
  isplitl [Hb] <;> iassumption
end

end Cert.KernelIdeal.Steps
end
-- ==== Proof.Point.lean ====
/- One grid point of the kernel: the rows gathered and waited for, the shared expert and the weighted sum, the
   gated residual and its norm, each piece stepped and the whole body put together. -/
module

public import proofs.«01_k».proof.Proof.Sum
public import proofs.«01_k».proof.Proof.Body

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD)

/-! ### Staged operands read and written -/

theorem load_owns {α : Type} {sh : Shape} {e : EltTy} (m : Memref sig .tc .vmem sh e) (r : LoadRect sh) {hl : m.view.LoadsAt r}
    (k : (r.shape.Idx → Elt F e) → Prog (Eff F) α) (X : sh.Idx → Elt F e) (Q : α → sProp 𝕄) :
    iprop(owns (c : Thread nD τ) m fullShare X ∗ (owns (c : Thread nD τ) m fullShare X -∗ wpB c (k fun x => X (r.idx x)) Q))
      ⊢ wpB (F := F) c (.op (.load m r hl) k) Q := by
  unfold owns
  iintro ⟨⟨%f, %hf, Hm⟩, Hk⟩
  subst hf
  iapply (wp_load (m := m) (r := r) (S := m.view.set) (f := f) (q := fullShare) Variants.none (c : Thread nD τ) none Set.univ
    (by rw [View.set]; exact Finset.map_subset_map.mpr (Finset.subset_univ _))) $$ Hm
  iintro Hm
  iapply Hk
  iexists f
  isplitr; · ipureintro; rfl
  iexact Hm

theorem store_owns {α : Type} {sh : Shape} {e : EltTy} (m : Memref sig .tc .vmem sh e) (r : Rect sh) (a : r.shape.Idx → Elt F e)
    (b : sh.Idx → Elt F e) (hb : ∀ x, ∃ x', r.emb x' = x ∧ b x = a x') {hx : (m.access r).Stores Finset.univ} {hm}
    (k : PUnit → Prog (Eff F) α) (X : sh.Idx → Elt F e) (Q : α → sProp 𝕄) :
    iprop(owns (c : Thread nD τ) m fullShare X ∗ (owns (c : Thread nD τ) m fullShare b -∗ wpB c (k ⟨⟩) Q))
      ⊢ wpB (F := F) c (.op (.store m r a Finset.univ hx hm) k) Q := by
  unfold owns
  iintro ⟨⟨%f, %hf, Hm⟩, Hk⟩
  ihave Hm' := (show (m.view.loc (c : Thread nD τ) ↦[m.view.set]{fullShare} f : sProp 𝕄) ⊢ ((m.access r).loc (c : Thread nD τ) ↦[m.view.set]{fullShare} f) from .rfl) $$ Hm
  iapply (wp_store (m := m) (r := r) (S := m.view.set) (f := f) Variants.none (c : Thread nD τ) none Set.univ (View.set_slice_subset _ _)) $$ Hm'
  iintro Hm
  iapply Hk
  iexists ((m.access r).write (Elt F) f a Finset.univ)
  isplitr
  · ipureintro
    funext x
    obtain ⟨x', hx', hbx⟩ := hb x
    subst hx'
    rw [hbx]
    exact congrFun (View.read_write_univ (v := m.access r) (Val := Elt F) f a) x'
  iexact Hm

/-! ### The gathers of a whole block -/

variable (f : S524288x128.Idx → BitVec 32)

/-- The accumulator with the eight experts' rows summed in. -/
def summed (w : S256x8.Idx → F .f32) (G : S2x8x2048x128.Idx → BitVec 32) (s : Fin 2) (M : S256x2048.Idx → F .f32) : S256x2048.Idx → F .f32 :=
  fun y => wsum w G s (y 0) (y 1) (M y)

theorem first_step (p : S2048.Idx → BitVec 32) (fd : S2x8x2048x128.Idx → BitVec 32) (hp : Slots p) (C : Prop) [Decidable C] (hC : C) (hok : k0_t1_loop.OK)
    (tbl : Memref sig .tc .smem S2048 .i32) :
    iprop(owns (c : Thread nD τ) tbl fullShare p ∗ Started c p f fd 0 0)
      ⊢ wpB (F := F) c (first (F := F) C hC hok tbl ysM bufM cc0_scratch2)
          (fun _ => iprop(owns (c : Thread nD τ) tbl fullShare p ∗ Started c p f fd 0 2048)) := by
  have h := Scf.wp_for frame (wpE (defs₀ (F := F)) Variants.none (c : Thread nD τ) none) Set.univ k0_t1_loop.lb k0_t1_loop.ub k0_t1_loop.st hok ()
    (fun g _ => gather (F := F) C hC tbl ysM bufM cc0_scratch2 0 g)
    (fun g _ => iprop(owns (c : Thread nD τ) tbl fullShare p ∗ Started c p f fd 0 (64 * g)))
    (fun g _ => gather_step c p f fd 0 hp C hC tbl g)
    (Q := fun _ => iprop(owns (c : Thread nD τ) tbl fullShare p ∗ Started c p f fd 0 2048))
  refine BIBase.Entails.trans ?_ h
  iintro H
  isplitl [H]; · iexact H
  iintro %acc H
  iexact H

theorem trips_step (p : S2048.Idx → BitVec 32) (fd : S2x8x2048x128.Idx → BitVec 32) (hp : Slots p) (C : Prop) [Decidable C] (hC : C) (hok : k0_t2_loop.OK)
    (tbl : Memref sig .tc .smem S2048 .i32) (arg3 : Memref sig .tc .vmem S256x8 .f32) (w : S256x8.Idx → F .f32) (G : S2x8x2048x128.Idx → BitVec 32)
    (s s' : Fin 2) (M : S256x2048.Idx → F .f32) :
    iprop(owns (c : Thread nD τ) tbl fullShare p ∗ owns (c : Thread nD τ) arg3 fullShare w ∗ Started c p f fd s' 0
        ∗ (bufL c ↦[slot s]{fullShare} G) ∗ (moeL c ↦{fullShare} M))
      ⊢ wpB (F := F) c (trips (F := F) C hC hok tbl arg3 ysM bufM moeM cc0_scratch2 s s')
          (fun _ => iprop(owns (c : Thread nD τ) tbl fullShare p ∗ owns (c : Thread nD τ) arg3 fullShare w ∗ Started c p f fd s' 2048
        ∗ (bufL c ↦[slot s]{fullShare} G) ∗ (moeL c ↦{fullShare} summed w G s M))) := by
  have h := Scf.wp_for frame (wpE (defs₀ (F := F)) Variants.none (c : Thread nD τ) none) Set.univ k0_t2_loop.lb k0_t2_loop.ub k0_t2_loop.st hok ()
    (fun g _ => gather (F := F) C hC tbl ysM bufM cc0_scratch2 s' g >>= fun _ => sumGroup arg3 bufM moeM s g)
    (fun g _ => iprop(owns (c : Thread nD τ) tbl fullShare p ∗ owns (c : Thread nD τ) arg3 fullShare w ∗ Started c p f fd s' (64 * g)
        ∗ (bufL c ↦[slot s]{fullShare} G) ∗ (moeL c ↦{fullShare} stage w G s M (8 * g))))
    (fun g _ => by
      rw [wp_bind]
      iintro ⟨Ht, Hw, HS, Hb, Hm⟩
      ihave Hg := (gather_step c p f fd s' hp C hC tbl g) $$ [Ht HS]
      · isplitl [Ht] <;> iassumption
      iapply (wp_wand_r _ _ _)
      isplitl [Hg]; · iexact Hg
      iintro %a ⟨Ht, HS⟩
      ihave Hg := (sumGroup_step c arg3 w G s M g) $$ [Hw Hb Hm]
      · isplitl [Hw]; · iexact Hw
        isplitl [Hb] <;> iassumption
      iapply (wp_wand_r _ _ _)
      isplitl [Hg]; · iexact Hg
      iintro %b ⟨Hw, Hb, Hm⟩
      isplitl [Ht]; · iexact Ht
      isplitl [Hw]; · iexact Hw
      isplitl [HS]; · iexact HS
      isplitl [Hb] <;> iassumption)
    (Q := fun _ => iprop(owns (c : Thread nD τ) tbl fullShare p ∗ owns (c : Thread nD τ) arg3 fullShare w ∗ Started c p f fd s' 2048
        ∗ (bufL c ↦[slot s]{fullShare} G) ∗ (moeL c ↦{fullShare} summed w G s M)))
  refine BIBase.Entails.trans ?_ h
  rw [stage_zero]
  iintro H
  isplitl [H]; · iexact H
  iintro %acc H
  rw [show summed w G s M = stage w G s M 256 from (stage_all w G s M).symm]
  iexact H

/-! ### Between the points -/

/-- Nothing in flight: the table whole, both slots and both semaphores free. -/
def Idle : sProp 𝕄 :=
  iprop((ysL c ↦{fullShare} f) ∗ (∃ fd, bufL c ↦[slot 0]{fullShare} fd) ∗ (∃ fd, bufL c ↦[slot 1]{fullShare} fd)
    ∗ semVal ((c : Thread nD τ), SemLoc.dma (cell 0)) 0 ∗ semVal ((c : Thread nD τ), SemLoc.dma (cell 1)) 0)
/-- A block's rows in flight into slot `s`, the other free. -/
def Fly (p : S2048.Idx → BitVec 32) (s s' : Fin 2) : sProp 𝕄 :=
  iprop(InFlight c p f s ∗ (∃ fd, bufL c ↦[slot s']{fullShare} fd) ∗ semVal ((c : Thread nD τ), SemLoc.dma (cell s')) 0)

/-- The first point's gather. -/
theorem firstGather (p : S2048.Idx → BitVec 32) (hp : Slots p) (C : Prop) [Decidable C] (hC : C) (hok : k0_t1_loop.OK)
    (tbl : Memref sig .tc .smem S2048 .i32) :
    iprop(owns (c : Thread nD τ) tbl fullShare p ∗ Idle c f)
      ⊢ wpB (F := F) c (first (F := F) C hC hok tbl ysM bufM cc0_scratch2)
          (fun _ => iprop(owns (c : Thread nD τ) tbl fullShare p ∗ Fly c f p 0 1)) := by
  unfold Idle Fly
  iintro ⟨Ht, Hy, ⟨%fd, H0⟩, H1, Hc0, Hc1⟩
  unfold wpB
  iapply (fupd_wp _ _ _ _)
  imod (start_gather c p f fd 0) $$ [Hc0 H0 Hy] with ⟨HS, Hr⟩
  · isplitl [Hc0]; · iexact Hc0
    isplitl [H0] <;> iassumption
  imodintro
  ihave Hw := (first_step c f p fd hp C hC hok tbl) $$ [Ht HS]
  · isplitl [Ht] <;> iassumption
  iapply (wp_wand_r _ _ _)
  isplitl [Hw]; · iexact Hw
  iintro %a ⟨Ht, HS⟩
  isplitl [Ht]; · iexact Ht
  isplitl [HS Hr]
  · iapply (started_all c p f fd 0)
    isplitl [HS] <;> iassumption
  isplitl [H1] <;> iassumption

/-- One slot's branch, at a point where it is taken. -/
theorem phase_step (p p' : S2048.Idx → BitVec 32) (hp' : Slots p') (C : Prop) [Decidable C] (hC : C) (hok : k0_t2_loop.OK) (arg0 : BitVec 32)
    (tbl : Memref sig .tc .smem S2048 .i32) (arg3 : Memref sig .tc .vmem S256x8 .f32) (w : S256x8.Idx → F .f32)
    (s s' : Fin 2) (hss : (s = 0 ∧ s' = 1) ∨ (s = 1 ∧ s' = 0)) (M : S256x2048.Idx → F .f32) (W : Waits sig Unit) :
    iprop(owns (c : Thread nD τ) tbl fullShare p' ∗ owns (c : Thread nD τ) arg3 fullShare w ∗ Fly c f p s s' ∗ (moeL c ↦{fullShare} M) ∗ owes (c : Thread nD τ) 0 W)
      ⊢ wpB (F := F) c (phase (F := F) C hC hok arg0 tbl arg3 ysM bufM moeM cc0_scratch2 s s')
          (fun _ => iprop(owns (c : Thread nD τ) tbl fullShare p' ∗ owns (c : Thread nD τ) arg3 fullShare w
            ∗ (if lastCond arg0 = 1#1 then Idle c f else Fly c f p' s' s) ∗ (moeL c ↦{fullShare} summed w (landed p f) s M)
            ∗ ∃ W, owes (c : Thread nD τ) 0 W)) := by
  unfold phase Fly wpB
  rw [wp_bind]
  iintro ⟨Ht, Hw, ⟨HF, ⟨%fd, Hb'⟩, Hc'⟩, Hm, HO⟩
  ihave Hr := (waits_step c p f s W) $$ [HF HO]
  · isplitl [HF] <;> iassumption
  iapply (wp_wand_r _ _ _)
  isplitl [Hr]; · iexact Hr
  iintro %a ⟨Hb, Hy, Hc, ⟨%W1, HO⟩⟩
  rw [wp_bind]
  iapply (fupd_wp _ _ _ _)
  imod (start_gather c p' f fd s') $$ [Hc' Hb' Hy] with ⟨HS, Hr⟩
  · isplitl [Hc']; · iexact Hc'
    isplitl [Hb'] <;> iassumption
  imodintro
  ihave Hg := (trips_step c f p' fd hp' C hC hok tbl arg3 w (landed p f) s s' M) $$ [Ht Hw HS Hb Hm]
  · isplitl [Ht]; · iexact Ht
    isplitl [Hw]; · iexact Hw
    isplitl [HS]; · iexact HS
    isplitl [Hb] <;> iassumption
  iapply (wp_wand_r _ _ _)
  isplitl [Hg]; · iexact Hg
  iintro %b ⟨Ht, Hw, HS, Hb, Hm⟩
  ihave HF := (started_all c p' f fd s') $$ [HS Hr]
  · isplitl [HS] <;> iassumption
  by_cases hl : lastCond arg0 = 1#1
  · rw [if_pos hl]
    simp only [if_pos hl]
    ihave Hr := (waits_step c p' f s' W1) $$ [HF HO]
    · isplitl [HF] <;> iassumption
    iapply (wp_wand_r _ _ _)
    isplitl [Hr]; · iexact Hr
    iintro %a' ⟨Hb', Hy, Hc', HO⟩
    isplitl [Ht]; · iexact Ht
    isplitl [Hw]; · iexact Hw
    isplitr [Hm HO]
    · unfold Idle
      isplitl [Hy]; · iexact Hy
      rcases hss with ⟨rfl, rfl⟩ | ⟨rfl, rfl⟩
      · isplitl [Hb]; · iexists _; iexact Hb
        isplitl [Hb']; · iexists _; iexact Hb'
        isplitl [Hc] <;> iassumption
      · isplitl [Hb']; · iexists _; iexact Hb'
        isplitl [Hb]; · iexists _; iexact Hb
        isplitl [Hc'] <;> iassumption
    isplitl [Hm] <;> iassumption
  · rw [if_neg hl]
    simp only [if_neg hl]
    rw [wp_pure]
    imodintro
    isplitl [Ht]; · iexact Ht
    isplitl [Hw]; · iexact Hw
    isplitr [Hm HO]
    · isplitl [HF]; · iexact HF
      isplitl [Hb]; · iexists _; iexact Hb
      iexact Hc
    isplitl [Hm]; · iexact Hm
    iexists W1; iexact HO

/-! ### The shared expert and the last lines -/

/-- The eight strided loads of the packed features. -/
def hpOf (h : S2048x128.Idx → BitVec 32) : Fin 8 → Vec F S256x128 .i32 :=
  ![
    fun x => h ((⟨![0, 0], S256x128.size, ![8, 1], inb_S2048x128_S256x128_0_0_s_8_1⟩ : LoadRect S2048x128).idx x),
    fun x => h ((⟨![1, 0], S256x128.size, ![8, 1], inb_S2048x128_S256x128_1_0_s_8_1⟩ : LoadRect S2048x128).idx x),
    fun x => h ((⟨![2, 0], S256x128.size, ![8, 1], inb_S2048x128_S256x128_2_0_s_8_1⟩ : LoadRect S2048x128).idx x),
    fun x => h ((⟨![3, 0], S256x128.size, ![8, 1], inb_S2048x128_S256x128_3_0_s_8_1⟩ : LoadRect S2048x128).idx x),
    fun x => h ((⟨![4, 0], S256x128.size, ![8, 1], inb_S2048x128_S256x128_4_0_s_8_1⟩ : LoadRect S2048x128).idx x),
    fun x => h ((⟨![5, 0], S256x128.size, ![8, 1], inb_S2048x128_S256x128_5_0_s_8_1⟩ : LoadRect S2048x128).idx x),
    fun x => h ((⟨![6, 0], S256x128.size, ![8, 1], inb_S2048x128_S256x128_6_0_s_8_1⟩ : LoadRect S2048x128).idx x),
    fun x => h ((⟨![7, 0], S256x128.size, ![8, 1], inb_S2048x128_S256x128_7_0_s_8_1⟩ : LoadRect S2048x128).idx x)]

/-- What the shared expert leaves in the accumulator; what the last lines store. -/
def sharedVal (h : S2048x128.Idx → BitVec 32) (sg su : Vec F S2048x512 .bf16) (sd : Vec F S512x2048 .bf16) : Vec F S256x2048 .f32 :=
  k0_pay266 (feat (hpOf h)) (gateDot (hpOf h) sg) su sd
def finishVal (x : Vec F S256x2048 .f32) (g : Vec F S1x1x2048 .f32) (M : Vec F S256x2048 .f32) (gf : Vec F S1x2048 .f32) : Vec F S256x2048 .f32 :=
  k0_pay1 (k0_pay269 x g M) (k0_pay270 x g M) gf

theorem whole_emb {s : Shape} (o : Fin s.rank → ℕ) (h0 : ∀ a, o a = 0) (h) (x : s.Idx) : (Rect.unit (s := s) o s.size h).emb x = x := by
  funext a
  apply Fin.ext
  simp [Rect.emb, Rect.unit, h0]

theorem ret_step {α : Type} (a : α) (Q : α → sProp 𝕄) : Q a ⊢ wpB (F := F) c (.ret a) Q := by
  unfold wpB
  rw [wp_ret]
  iintro H
  imodintro
  iexact H

theorem load_whole {α : Type} {sh : Shape} {e : EltTy} (m : Memref sig .tc .vmem sh e) (o : Fin sh.rank → ℕ) (h0 : ∀ a, o a = 0) {h}
    {hl : m.view.LoadsAt (Rect.unit (s := sh) o sh.size h).toLoadRect} (k : (sh.Idx → Elt F e) → Prog (Eff F) α) (X : sh.Idx → Elt F e) (Q : α → sProp 𝕄) :
    iprop(owns (c : Thread nD τ) m fullShare X ∗ (owns (c : Thread nD τ) m fullShare X -∗ wpB c (k X) Q))
      ⊢ wpB (F := F) c (.op (.load m (Rect.unit (s := sh) o sh.size h).toLoadRect hl) k) Q := by
  refine BIBase.Entails.trans ?_ (load_owns c m (Rect.unit (s := sh) o sh.size h).toLoadRect k X Q)
  rw [show (fun x => X ((Rect.unit (s := sh) o sh.size h).toLoadRect.idx x)) = X from funext fun x => congrArg X (whole_emb o h0 h x)]

theorem store_whole {α : Type} {sh : Shape} {e : EltTy} (m : Memref sig .tc .vmem sh e) (o : Fin sh.rank → ℕ) (h0 : ∀ a, o a = 0) {h} (a : sh.Idx → Elt F e)
    {hx : (m.access (Rect.unit (s := sh) o sh.size h)).Stores Finset.univ} {hm}
    (k : PUnit → Prog (Eff F) α) (X : sh.Idx → Elt F e) (Q : α → sProp 𝕄) :
    iprop(owns (c : Thread nD τ) m fullShare X ∗ (owns (c : Thread nD τ) m fullShare a -∗ wpB c (k ⟨⟩) Q))
      ⊢ wpB (F := F) c (.op (.store m (Rect.unit (s := sh) o sh.size h) a Finset.univ hx hm) k) Q :=
  store_owns c m (Rect.unit (s := sh) o sh.size h) a a (fun x => ⟨x, whole_emb o h0 h x, rfl⟩) k X Q

theorem zero2 : ∀ a : Fin 2, (![0, 0] : Fin 2 → ℕ) a = 0 := by decide
theorem zero3 : ∀ a : Fin 3, (![0, 0, 0] : Fin 3 → ℕ) a = 0 := by decide

theorem owns_moe (M : S256x2048.Idx → F .f32) : (owns (c : Thread nD τ) moeM fullShare M : sProp 𝕄) ⊢ (moeL c ↦{fullShare} M) := by
  unfold owns
  iintro ⟨%f, %hf, H⟩
  have hf' : f = M := hf
  subst hf'
  rw [show moeM.view.set = Finset.univ from View.set_whole _]
  iexact H
theorem moe_owns (M : S256x2048.Idx → F .f32) : (moeL c ↦{fullShare} M : sProp 𝕄) ⊢ owns (c : Thread nD τ) moeM fullShare M := by
  unfold owns
  iintro H
  iexists M
  isplitr; · ipureintro; rfl
  rw [show moeM.view.set = Finset.univ from View.set_whole _]
  iexact H

theorem hp_step (arg4 : Memref sig .tc .vmem S2048x128 .i32) (h : S2048x128.Idx → BitVec 32) :
    (owns (c : Thread nD τ) arg4 fullShare h : sProp 𝕄)
      ⊢ wpB (F := F) c (loadHp (F := F) arg4) (fun v => iprop(⌜v = hpOf h⌝ ∗ owns (c : Thread nD τ) arg4 fullShare h)) := by
  unfold loadHp
  iintro H
  iapply (load_owns c arg4 _ _ h _)
  isplitl [H]; · iexact H
  iintro H
  iapply (load_owns c arg4 _ _ h _)
  isplitl [H]; · iexact H
  iintro H
  iapply (load_owns c arg4 _ _ h _)
  isplitl [H]; · iexact H
  iintro H
  iapply (load_owns c arg4 _ _ h _)
  isplitl [H]; · iexact H
  iintro H
  iapply (load_owns c arg4 _ _ h _)
  isplitl [H]; · iexact H
  iintro H
  iapply (load_owns c arg4 _ _ h _)
  isplitl [H]; · iexact H
  iintro H
  iapply (load_owns c arg4 _ _ h _)
  isplitl [H]; · iexact H
  iintro H
  iapply (load_owns c arg4 _ _ h _)
  isplitl [H]; · iexact H
  iintro H
  iapply (ret_step c _ _)
  isplitr
  · ipureintro; rfl
  iexact H

theorem shared_step (arg4 : Memref sig .tc .vmem S2048x128 .i32) (arg5 arg6 : Memref sig .tc .vmem S2048x512 .bf16) (arg7 : Memref sig .tc .vmem S512x2048 .bf16)
    (h : S2048x128.Idx → BitVec 32) (sg su : Vec F S2048x512 .bf16) (sd : Vec F S512x2048 .bf16) (M : S256x2048.Idx → F .f32) :
    iprop(owns (c : Thread nD τ) arg4 fullShare h ∗ owns (c : Thread nD τ) arg5 fullShare sg ∗ owns (c : Thread nD τ) arg6 fullShare su
        ∗ owns (c : Thread nD τ) arg7 fullShare sd ∗ (moeL c ↦{fullShare} M))
      ⊢ wpB (F := F) c (shared (F := F) arg4 arg5 arg6 arg7 moeM)
        (fun _ => iprop(owns (c : Thread nD τ) arg4 fullShare h ∗ owns (c : Thread nD τ) arg5 fullShare sg ∗ owns (c : Thread nD τ) arg6 fullShare su
        ∗ owns (c : Thread nD τ) arg7 fullShare sd ∗ (moeL c ↦{fullShare} sharedVal h sg su sd))) := by
  unfold shared wpB
  rw [wp_bind]
  iintro ⟨H4, H5, H6, H7, Hm⟩
  ihave Hm := (moe_owns c M) $$ Hm
  ihave Hw := (hp_step (F := F) c arg4 h) $$ H4
  iapply (wp_wand_r _ _ _)
  isplitl [Hw]; · iexact Hw
  iintro %v ⟨%hv, H4⟩
  subst hv
  iapply (load_whole c arg5 ![0, 0] zero2 _ sg _)
  isplitl [H5]; · iexact H5
  iintro H5
  iapply (load_whole c arg6 ![0, 0] zero2 _ su _)
  isplitl [H6]; · iexact H6
  iintro H6
  iapply (load_whole c arg7 ![0, 0] zero2 _ sd _)
  isplitl [H7]; · iexact H7
  iintro H7
  iapply (load_whole c moeM ![0, 0] zero2 _ M _)
  isplitl [Hm]; · iexact Hm
  iintro Hm
  iapply (store_whole c moeM ![0, 0] zero2 _ _ M _)
  isplitl [Hm]; · iexact Hm
  iintro Hm
  iapply (ret_step c _ _)
  isplitl [H4]; · iexact H4
  isplitl [H5]; · iexact H5
  isplitl [H6]; · iexact H6
  isplitl [H7]; · iexact H7
  iapply (owns_moe c _) $$ Hm

theorem finish_step (arg8 : Memref sig .tc .vmem S256x2048 .f32) (arg9 : Memref sig .tc .vmem S1x1x2048 .f32) (arg10 : Memref sig .tc .vmem S1x2048 .f32)
    (arg12 : Memref sig .tc .vmem S256x2048 .f32)
    (x : Vec F S256x2048 .f32) (g : Vec F S1x1x2048 .f32) (gf : Vec F S1x2048 .f32) (M d : S256x2048.Idx → F .f32) :
    iprop(owns (c : Thread nD τ) arg8 fullShare x ∗ owns (c : Thread nD τ) arg9 fullShare g ∗ owns (c : Thread nD τ) arg10 fullShare gf
        ∗ owns (c : Thread nD τ) arg12 fullShare d ∗ (moeL c ↦{fullShare} M))
      ⊢ wpB (F := F) c (finish (F := F) arg8 arg9 arg10 arg12 moeM)
        (fun _ => iprop(owns (c : Thread nD τ) arg8 fullShare x ∗ owns (c : Thread nD τ) arg9 fullShare g ∗ owns (c : Thread nD τ) arg10 fullShare gf
        ∗ owns (c : Thread nD τ) arg12 fullShare (finishVal x g M gf) ∗ (moeL c ↦{fullShare} M))) := by
  unfold finish
  iintro ⟨H8, H9, H10, H12, Hm⟩
  ihave Hm := (moe_owns c M) $$ Hm
  iapply (load_whole c arg8 ![0, 0] zero2 _ x _)
  isplitl [H8]; · iexact H8
  iintro H8
  iapply (load_whole c arg9 ![0, 0, 0] zero3 _ g _)
  isplitl [H9]; · iexact H9
  iintro H9
  iapply (load_whole c moeM ![0, 0] zero2 _ M _)
  isplitl [Hm]; · iexact Hm
  iintro Hm
  iapply (load_whole c arg10 ![0, 0] zero2 _ gf _)
  isplitl [H10]; · iexact H10
  iintro H10
  iapply (load_whole c arg12 ![0, 0] zero2 _ d _)
  isplitl [H12]; · iexact H12
  iintro H12
  iapply (store_whole c arg12 ![0, 0] zero2 _ _ d _)
  isplitl [H12]; · iexact H12
  iintro H12
  iapply (ret_step c _ _)
  isplitl [H8]; · iexact H8
  isplitl [H9]; · iexact H9
  isplitl [H10]; · iexact H10
  isplitl [H12]; · iexact H12
  iapply (owns_moe c _) $$ Hm

/-! ### The body at one point -/

theorem cond1_iff (i : grid0.Coords) : k0_cond1 i = 1#1 ↔ (i 0).val = 0 := by
  have h : ∀ n : Fin 32, Scalar.cmpi .ne (Scalar.extui (Scalar.cmpi .eq (BitVec.ofNat 32 n.val) 0#32) : BitVec 32) 0#32 = 1#1 ↔ n.val = 0 := by decide +kernel
  exact h (i 0)
theorem last_iff (n : Fin 32) : lastCond (BitVec.ofNat 32 n.val) = 1#1 ↔ n.val = 31 := by
  revert n; unfold lastCond; decide +kernel
theorem cond2_iff (i : grid0.Coords) : k0_cond2 i = 1#1 ↔ (i 0).val % 2 = 0 := by
  unfold k0_cond2
  generalize i 0 = n
  change Fin 32 at n
  revert n
  decide +kernel
theorem cond4_iff (i : grid0.Coords) : k0_cond4 i = 1#1 ↔ (i 0).val % 2 = 1 := by
  unfold k0_cond4
  generalize i 0 = n
  change Fin 32 at n
  revert n
  decide +kernel

/-- The block in flight when `n` points are done: into the slot of `n`'s parity. -/
def Par (p : S2048.Idx → BitVec 32) (n : ℕ) : sProp 𝕄 := if n % 2 = 0 then Fly c f p 0 1 else Fly c f p 1 0
/-- What a point finds, and leaves, of the rows. -/
def Before (p : S2048.Idx → BitVec 32) (n : ℕ) : sProp 𝕄 := if n = 0 then Idle c f else Par c f p n
def After (p : S2048.Idx → BitVec 32) (n : ℕ) : sProp 𝕄 := if n = 31 then Idle c f else Par c f p (n + 1)

theorem firstIf_step (i : grid0.Coords) (p : S2048.Idx → BitVec 32) (hp : Slots p) (tbl : Memref sig .tc .smem S2048 .i32) :
    iprop(owns (c : Thread nD τ) tbl fullShare p ∗ Before c f p (i 0).val)
      ⊢ wpB (F := F) c (firstIf (F := F) i tbl ysM bufM cc0_scratch2)
          (fun _ => iprop(owns (c : Thread nD τ) tbl fullShare p ∗ Par c f p (i 0).val)) := by
  unfold firstIf Before
  by_cases h : k0_cond1 i = 1#1
  · have h0 := (cond1_iff i).mp h
    rw [dif_pos h, if_pos h0]
    refine BIBase.Entails.trans (firstGather c f p hp _ h (k0_t1_ok i h) tbl) ?_
    unfold Par
    rw [h0]
    exact .rfl
  · have h0 := mt (cond1_iff i).mpr h
    rw [dif_neg h, if_neg h0]
    unfold wpB
    rw [wp_pure]
    iintro H
    imodintro
    iexact H

theorem phases_step (i : grid0.Coords) (p p' : S2048.Idx → BitVec 32) (hp' : Slots p')
    (tbl : Memref sig .tc .smem S2048 .i32) (arg3 : Memref sig .tc .vmem S256x8 .f32) (w : S256x8.Idx → F .f32)
    (M : S256x2048.Idx → F .f32) (W : Waits sig Unit) :
    iprop(owns (c : Thread nD τ) tbl fullShare p' ∗ owns (c : Thread nD τ) arg3 fullShare w ∗ Par c f p (i 0).val ∗ (moeL c ↦{fullShare} M) ∗ owes (c : Thread nD τ) 0 W)
      ⊢ wpB (F := F) c (phase0If (F := F) i tbl arg3 ysM bufM moeM cc0_scratch2 >>= fun _ => phase1If (F := F) i tbl arg3 ysM bufM moeM cc0_scratch2)
          (fun _ => iprop(owns (c : Thread nD τ) tbl fullShare p' ∗ owns (c : Thread nD τ) arg3 fullShare w
            ∗ After c f p' (i 0).val ∗ (moeL c ↦{fullShare} summed w (landed p f) 0 M)
            ∗ ∃ W, owes (c : Thread nD τ) 0 W)) := by
  have hl := last_iff (i 0)
  unfold phase0If phase1If Par After
  by_cases h2 : (i 0).val % 2 = 0
  · have h4 : ¬ k0_cond4 i = 1#1 := fun h => by have := (cond4_iff i).mp h; omega
    rw [dif_pos ((cond2_iff i).mpr h2), dif_neg h4, if_pos h2]
    rw [show ∀ q : Prog (Eff F) Unit, (q >>= fun _ => pure ⟨⟩) = q from fun q => bind_pure q]
    refine BIBase.Entails.trans (phase_step c f p p' hp' _ ((cond2_iff i).mpr h2) (k0_t2_ok i ((cond2_iff i).mpr h2)) (BitVec.ofNat 32 (i 0).val) tbl arg3 w 0 1 (.inl ⟨rfl, rfl⟩) M W) ?_
    unfold Par
    rw [if_congr hl rfl rfl, if_neg (show ¬ ((i 0).val + 1) % 2 = 0 by omega)]
  · have h4 : ¬ k0_cond2 i = 1#1 := fun h => h2 ((cond2_iff i).mp h)
    have h4' : k0_cond4 i = 1#1 := (cond4_iff i).mpr (by omega)
    rw [dif_pos h4', dif_neg h4, if_neg h2]
    rw [pure_bind]
    refine BIBase.Entails.trans (phase_step c f p p' hp' _ h4' (k0_t3_ok i h4') (BitVec.ofNat 32 (i 0).val) tbl arg3 w 1 0 (.inr ⟨rfl, rfl⟩) M W) ?_
    unfold Par
    rw [if_congr hl rfl rfl, if_pos (show ((i 0).val + 1) % 2 = 0 by omega)]
    exact .rfl

/-- What a point stores: from its tables, weights, features, shared weights, residual, gate and norm weights. -/
def outVal (p : S2048.Idx → BitVec 32) (w : S256x8.Idx → F .f32) (h : S2048x128.Idx → BitVec 32) (sg su : Vec F S2048x512 .bf16) (sd : Vec F S512x2048 .bf16)
    (x : Vec F S256x2048 .f32) (g : Vec F S1x1x2048 .f32) (gf : Vec F S1x2048 .f32) : Vec F S256x2048 .f32 :=
  finishVal x g (summed w (landed p f) 0 (sharedVal h sg su sd)) gf

theorem body_step (i : grid0.Coords) (p p' : S2048.Idx → BitVec 32) (hp : Slots p) (hp' : Slots p')
    (arg1 arg2 : Memref sig .tc .smem S2048 .i32) (arg3 : Memref sig .tc .vmem S256x8 .f32) (w : S256x8.Idx → F .f32)
    (arg4 : Memref sig .tc .vmem S2048x128 .i32) (arg5 arg6 : Memref sig .tc .vmem S2048x512 .bf16) (arg7 : Memref sig .tc .vmem S512x2048 .bf16)
    (h : S2048x128.Idx → BitVec 32) (sg su : Vec F S2048x512 .bf16) (sd : Vec F S512x2048 .bf16)
    (arg8 : Memref sig .tc .vmem S256x2048 .f32) (arg9 : Memref sig .tc .vmem S1x1x2048 .f32) (arg10 : Memref sig .tc .vmem S1x2048 .f32)
    (arg12 : Memref sig .tc .vmem S256x2048 .f32)
    (x : Vec F S256x2048 .f32) (g : Vec F S1x1x2048 .f32) (gf : Vec F S1x2048 .f32) (M d : S256x2048.Idx → F .f32) (W : Waits sig Unit) :
    iprop((owns (c : Thread nD τ) arg1 fullShare p ∗ owns (c : Thread nD τ) arg2 fullShare p' ∗ owns (c : Thread nD τ) arg3 fullShare w
        ∗ owns (c : Thread nD τ) arg4 fullShare h ∗ owns (c : Thread nD τ) arg5 fullShare sg ∗ owns (c : Thread nD τ) arg6 fullShare su
        ∗ owns (c : Thread nD τ) arg7 fullShare sd ∗ owns (c : Thread nD τ) arg8 fullShare x ∗ owns (c : Thread nD τ) arg9 fullShare g
        ∗ owns (c : Thread nD τ) arg10 fullShare gf ∗ owns (c : Thread nD τ) arg12 fullShare d)
        ∗ Before c f p (i 0).val ∗ (moeL c ↦{fullShare} M) ∗ owes (c : Thread nD τ) 0 W)
      ⊢ wpB (F := F) c (combineBody (F := F) i arg1 arg2 arg3 arg4 arg5 arg6 arg7 arg8 arg9 arg10 ysM arg12 bufM moeM cc0_scratch2)
        (fun _ => iprop((owns (c : Thread nD τ) arg1 fullShare p ∗ owns (c : Thread nD τ) arg2 fullShare p' ∗ owns (c : Thread nD τ) arg3 fullShare w
        ∗ owns (c : Thread nD τ) arg4 fullShare h ∗ owns (c : Thread nD τ) arg5 fullShare sg ∗ owns (c : Thread nD τ) arg6 fullShare su
        ∗ owns (c : Thread nD τ) arg7 fullShare sd ∗ owns (c : Thread nD τ) arg8 fullShare x ∗ owns (c : Thread nD τ) arg9 fullShare g
        ∗ owns (c : Thread nD τ) arg10 fullShare gf ∗ owns (c : Thread nD τ) arg12 fullShare (outVal f p w h sg su sd x g gf))
        ∗ After c f p' (i 0).val ∗ (∃ M, moeL c ↦{fullShare} M) ∗ ∃ W, owes (c : Thread nD τ) 0 W)) := by
  unfold combineBody wpB
  rw [wp_bind]
  iintro ⟨⟨H1, H2, H3, H4, H5, H6, H7, H8, H9, H10, H12⟩, HB, Hm, HO⟩
  ihave Hw := (firstIf_step (F := F) c f i p hp arg1) $$ [H1 HB]
  · isplitl [H1] <;> iassumption
  iapply (wp_wand_r _ _ _)
  isplitl [Hw]; · iexact Hw
  iintro %a1 ⟨H1, HP⟩
  rw [wp_bind]
  ihave Hw := (shared_step (F := F) c arg4 arg5 arg6 arg7 h sg su sd M) $$ [H4 H5 H6 H7 Hm]
  · isplitl [H4]; · iexact H4
    isplitl [H5]; · iexact H5
    isplitl [H6]; · iexact H6
    isplitl [H7] <;> iassumption
  iapply (wp_wand_r _ _ _)
  isplitl [Hw]; · iexact Hw
  iintro %a2 ⟨H4, H5, H6, H7, Hm⟩
  rw [← bind_assoc, wp_bind]
  ihave Hw := (phases_step (F := F) c f i p p' hp' arg2 arg3 w _ W) $$ [H2 H3 HP Hm HO]
  · isplitl [H2]; · iexact H2
    isplitl [H3]; · iexact H3
    isplitl [HP]; · iexact HP
    isplitl [Hm] <;> iassumption
  iapply (wp_wand_r _ _ _)
  isplitl [Hw]; · iexact Hw
  iintro %a3 ⟨H2, H3, HA, Hm, HO⟩
  ihave Hw := (finish_step (F := F) c arg8 arg9 arg10 arg12 x g gf _ d) $$ [H8 H9 H10 H12 Hm]
  · isplitl [H8]; · iexact H8
    isplitl [H9]; · iexact H9
    isplitl [H10]; · iexact H10
    isplitl [H12] <;> iassumption
  iapply (wp_wand_r _ _ _)
  isplitl [Hw]; · iexact Hw
  iintro %a4 ⟨H8, H9, H10, H12, Hm⟩
  isplitl [H1 H2 H3 H4 H5 H6 H7 H8 H9 H10 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H12
  isplitl [HA]; · iexact HA
  isplitl [Hm]; · iexists _; iexact Hm
  iexact HO

end

end Cert.KernelIdeal.Steps
end
-- ==== Proof.Frame.lean ====
/- The launch: what each point finds and leaves, the run of the whole program over any float values, and the frame. -/
module

public import proofs.«01_k».proof.Proof.Point
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### What a core holds at the region's entry and exit -/

abbrev osem0 : Fin 2 → SemLoc sig := fun j => SemLoc.dma (cell j)
theorem ownSemFacts0 : Pipeline.OwnSemFacts spec0 osem0 := by decide +kernel
theorem ownSems0_two (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl
def H0 : Finset (Ref sig .tc) := {main_arg3}
theorem H0_sub : H0 ⊆ Pipeline.restRefs sig spec0 := by decide
theorem hbm_eq (c : Dev nD) :
    (bigSep H0 (fun b => ((c : Thread nD τ).loc b) ↦{fullShare} V m c b) : sProp 𝕄) = (ysL c ↦{fullShare} V m c main_arg3) := by
  rw [BI.bigSep_eq_bigSepL_of_eq [main_arg3] (by decide) (by decide)]; rfl

/-- Block `n` of the tables, the last from there on. -/
def blkPos (c : Dev nD) (n : ℕ) : S2048.Idx → BitVec 32 := iblk m c 0 ⟨min n 31, by have := N_0; show min n 31 < grid0.N; omega⟩
/-- The rows' part of what is held before point `n`. -/
def Mid (c : Dev nD) (n : ℕ) : sProp 𝕄 :=
  if n = 0 ∨ n = 32 then Idle c (V m c main_arg3) else Par c (V m c main_arg3) (blkPos m c n) n
/-- What is held before point `n`. -/
def State (c : Dev nD) (n : ℕ) : sProp 𝕄 :=
  iprop((∃ M, moeL c ↦{fullShare} M) ∗ (∃ r, prngReg c r) ∗ Mid m c n)

theorem buf_split (c : Dev nD) (f : S2x8x2048x128.Idx → BitVec 32) :
    (bufL c ↦{fullShare} f : sProp 𝕄) ⊢ iprop((bufL c ↦[slot 0]{fullShare} f) ∗ (bufL c ↦[slot 1]{fullShare} f)) :=
  (Entails.of_eq (by rw [slot_cover])).trans (pointsTo_union slot_disjoint).1
theorem buf_join (c : Dev nD) :
    iprop((∃ f, bufL c ↦[slot 0]{fullShare} f) ∗ (∃ f, bufL c ↦[slot 1]{fullShare} f)) ⊢ iprop(∃ f, (bufL c ↦{fullShare} f : sProp 𝕄)) := by
  iintro ⟨⟨%f, Hf⟩, ⟨%g, Hg⟩⟩
  iexists ((slot 1).piecewise g f)
  have h := pointsTo_join (ℓ := bufL c) (q := fullShare) (f := f) (g := g) (Ix := Unit) (Name := ℕ) (U := Pipeline.UD sig nD τ) (Lvl := ℕ) slot_disjoint
  rw [slot_cover] at h
  iapply h
  isplitl [Hf] <;> iassumption

theorem state_first (c : Dev nD) : Pipeline.ΦD osem0 spec0 H0 (V m) c ⊢ State m c 0 := by
  rw [Pipeline.ΦD_eq, scopedRest0_eq, ownSems0_two, hbm_eq]
  unfold State Mid Idle
  rw [if_pos (Or.inl rfl)]
  iintro ⟨⟨⟨%fb, Hb⟩, Hm⟩, Hr, ⟨Hc0, Hc1⟩, Hy⟩
  ihave Hb := (buf_split c fb) $$ Hb
  icases Hb with ⟨Hb0, Hb1⟩
  isplitl [Hm]; · iexact Hm
  isplitl [Hr]; · iexact Hr
  isplitl [Hy]; · iexact Hy
  isplitl [Hb0]; · iexists _; iexact Hb0
  isplitl [Hb1]; · iexists _; iexact Hb1
  isplitl [Hc0] <;> iassumption

theorem state_last (c : Dev nD) : State m c 32 ⊢ Pipeline.ΦD osem0 spec0 H0 (V m) c := by
  rw [Pipeline.ΦD_eq, scopedRest0_eq, ownSems0_two, hbm_eq]
  unfold State Mid Idle
  rw [if_pos (Or.inr rfl)]
  iintro ⟨Hm, Hr, Hy, Hb0, Hb1, Hc0, Hc1⟩
  isplitl [Hm Hb0 Hb1]
  · isplitl [Hb0 Hb1]
    · iapply (buf_join c)
      isplitl [Hb0] <;> iassumption
    iexact Hm
  isplitl [Hr]; · iexact Hr
  isplitl [Hc0 Hc1]
  · isplitl [Hc0] <;> iassumption
  iexact Hy

/-! ### The proof data -/

/-- What the result's block holds after point `t`. -/
def blockVal (c : Dev nD) (t : Fin cfg0.N) : S256x2048.Idx → F .f32 :=
  outVal (V m c main_arg3) (iblk m c 0 t) (iblk m c 2 t) (iblk m c 3 t) (iblk m c 4 t) (iblk m c 5 t) (iblk m c 6 t) (iblk m c 7 t) (iblk m c 8 t) (iblk m c 9 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => blockVal m c t
  Φ t := State m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = blockVal m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

end Cert.KernelIdeal.Steps
end
-- ==== Proof.Blocks.lean ====
/- Each window's block at a point, read off its array. -/
module

public import proofs.«01_k».proof.Proof.Frame

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem coords_val (t : Fin cfg0.N) : (grid0.coords t 0).val = t.val := by
  revert t; show ∀ t : Fin grid0.N, (grid0.coords t 0).val = t.val; decide +kernel

/-! ### An element of a block is an element of its array -/

theorem iblk0_at (c : Dev nD) (t : Fin cfg0.N) (y : S2048.Idx) (z : S65536.Idx)
    (hz : ∀ a, (z a).val = cc0_transform_0 (grid0.coords t) a * S2048.size a + (y a).val) : iblk m c 0 t y = V m c main_v2 z := by
  unfold iblk
  show V m c main_v2 _ = _
  refine congrArg (V m c main_v2) (funext fun a => Fin.ext ?_)
  rw [hz]
  show _ + 1 * _ = _
  rw [Nat.one_mul]
  rfl
theorem iblk1_at (c : Dev nD) (t : Fin cfg0.N) (y : S2048.Idx) (z : S65536.Idx)
    (hz : ∀ a, (z a).val = cc0_transform_1 (grid0.coords t) a * S2048.size a + (y a).val) : iblk m c 1 t y = V m c main_v2 z := by
  unfold iblk
  show V m c main_v2 _ = _
  refine congrArg (V m c main_v2) (funext fun a => Fin.ext ?_)
  rw [hz]
  show _ + 1 * _ = _
  rw [Nat.one_mul]
  rfl
theorem iblk2_at (c : Dev nD) (t : Fin cfg0.N) (y : S256x8.Idx) (z : S8192x8.Idx)
    (hz : ∀ a, (z a).val = cc0_transform_2 (grid0.coords t) a * S256x8.size a + (y a).val) : iblk m c 2 t y = V m c main_arg1 z := by
  unfold iblk
  show V m c main_arg1 _ = _
  refine congrArg (V m c main_arg1) (funext fun a => Fin.ext ?_)
  rw [hz]
  show _ + 1 * _ = _
  rw [Nat.one_mul]
  rfl
theorem iblk3_at (c : Dev nD) (t : Fin cfg0.N) (y : S2048x128.Idx) (z : S65536x128.Idx)
    (hz : ∀ a, (z a).val = cc0_transform_3 (grid0.coords t) a * S2048x128.size a + (y a).val) : iblk m c 3 t y = V m c main_arg2 z := by
  unfold iblk
  show V m c main_arg2 _ = _
  refine congrArg (V m c main_arg2) (funext fun a => Fin.ext ?_)
  rw [hz]
  show _ + 1 * _ = _
  rw [Nat.one_mul]
  rfl
theorem iblk4_at (c : Dev nD) (t : Fin cfg0.N) (y : S2048x512.Idx) (z : S2048x512.Idx)
    (hz : ∀ a, (z a).val = cc0_transform_4 (grid0.coords t) a * S2048x512.size a + (y a).val) : iblk m c 4 t y = V m c main_v4 z := by
  unfold iblk
  show V m c main_v4 _ = _
  refine congrArg (V m c main_v4) (funext fun a => Fin.ext ?_)
  rw [hz]
  show _ + 1 * _ = _
  rw [Nat.one_mul]
  rfl
theorem iblk5_at (c : Dev nD) (t : Fin cfg0.N) (y : S2048x512.Idx) (z : S2048x512.Idx)
    (hz : ∀ a, (z a).val = cc0_transform_5 (grid0.coords t) a * S2048x512.size a + (y a).val) : iblk m c 5 t y = V m c main_v6 z := by
  unfold iblk
  show V m c main_v6 _ = _
  refine congrArg (V m c main_v6) (funext fun a => Fin.ext ?_)
  rw [hz]
  show _ + 1 * _ = _
  rw [Nat.one_mul]
  rfl
theorem iblk6_at (c : Dev nD) (t : Fin cfg0.N) (y : S512x2048.Idx) (z : S512x2048.Idx)
    (hz : ∀ a, (z a).val = cc0_transform_6 (grid0.coords t) a * S512x2048.size a + (y a).val) : iblk m c 6 t y = V m c main_v8 z := by
  unfold iblk
  show V m c main_v8 _ = _
  refine congrArg (V m c main_v8) (funext fun a => Fin.ext ?_)
  rw [hz]
  show _ + 1 * _ = _
  rw [Nat.one_mul]
  rfl
theorem iblk7_at (c : Dev nD) (t : Fin cfg0.N) (y : S256x2048.Idx) (z : S8192x2048.Idx)
    (hz : ∀ a, (z a).val = cc0_transform_7 (grid0.coords t) a * S256x2048.size a + (y a).val) : iblk m c 7 t y = V m c main_arg7 z := by
  unfold iblk
  show V m c main_arg7 _ = _
  refine congrArg (V m c main_arg7) (funext fun a => Fin.ext ?_)
  rw [hz]
  show _ + 1 * _ = _
  rw [Nat.one_mul]
  rfl
theorem iblk8_at (c : Dev nD) (t : Fin cfg0.N) (y : S1x1x2048.Idx) (z : S12x1x2048.Idx)
    (hz : ∀ a, (z a).val = cc0_transform_8 (grid0.coords t) a * S1x1x2048.size a + (y a).val) : iblk m c 8 t y = V m c main_v0 z := by
  unfold iblk
  show V m c main_v0 _ = _
  refine congrArg (V m c main_v0) (funext fun a => Fin.ext ?_)
  rw [hz]
  show _ + 1 * _ = _
  rw [Nat.one_mul]
  rfl
theorem iblk9_at (c : Dev nD) (t : Fin cfg0.N) (y : S1x2048.Idx) (z : S1x2048.Idx)
    (hz : ∀ a, (z a).val = cc0_transform_9 (grid0.coords t) a * S1x2048.size a + (y a).val) : iblk m c 9 t y = V m c main_v9 z := by
  unfold iblk
  show V m c main_v9 _ = _
  refine congrArg (V m c main_v9) (funext fun a => Fin.ext ?_)
  rw [hz]
  show _ + 1 * _ = _
  rw [Nat.one_mul]
  rfl

/-! ### Where each block lies -/

theorem at_0 (t : Fin cfg0.N) : cc0_transform_0 (grid0.coords t) 0 = t.val := by
  revert t; show ∀ t : Fin grid0.N, cc0_transform_0 (grid0.coords t) 0 = t.val; decide +kernel
theorem at_1 (t : Fin cfg0.N) : cc0_transform_1 (grid0.coords t) 0 = min (t.val + 1) 31 := by
  revert t; show ∀ t : Fin grid0.N, cc0_transform_1 (grid0.coords t) 0 = min (t.val + 1) 31; decide +kernel
theorem at_2 (t : Fin cfg0.N) : cc0_transform_2 (grid0.coords t) 0 = t.val ∧ cc0_transform_2 (grid0.coords t) 1 = 0 := by
  revert t; show ∀ t : Fin grid0.N, cc0_transform_2 (grid0.coords t) 0 = t.val ∧ cc0_transform_2 (grid0.coords t) 1 = 0; decide +kernel
theorem at_3 (t : Fin cfg0.N) : cc0_transform_3 (grid0.coords t) 0 = t.val ∧ cc0_transform_3 (grid0.coords t) 1 = 0 := by
  revert t; show ∀ t : Fin grid0.N, cc0_transform_3 (grid0.coords t) 0 = t.val ∧ cc0_transform_3 (grid0.coords t) 1 = 0; decide +kernel
theorem at_4 (t : Fin cfg0.N) : cc0_transform_4 (grid0.coords t) 0 = 0 ∧ cc0_transform_4 (grid0.coords t) 1 = 0 := by
  revert t; show ∀ t : Fin grid0.N, cc0_transform_4 (grid0.coords t) 0 = 0 ∧ cc0_transform_4 (grid0.coords t) 1 = 0; decide +kernel
theorem at_5 (t : Fin cfg0.N) : cc0_transform_5 (grid0.coords t) 0 = 0 ∧ cc0_transform_5 (grid0.coords t) 1 = 0 := by
  revert t; show ∀ t : Fin grid0.N, cc0_transform_5 (grid0.coords t) 0 = 0 ∧ cc0_transform_5 (grid0.coords t) 1 = 0; decide +kernel
theorem at_6 (t : Fin cfg0.N) : cc0_transform_6 (grid0.coords t) 0 = 0 ∧ cc0_transform_6 (grid0.coords t) 1 = 0 := by
  revert t; show ∀ t : Fin grid0.N, cc0_transform_6 (grid0.coords t) 0 = 0 ∧ cc0_transform_6 (grid0.coords t) 1 = 0; decide +kernel
theorem at_7 (t : Fin cfg0.N) : cc0_transform_7 (grid0.coords t) 0 = t.val ∧ cc0_transform_7 (grid0.coords t) 1 = 0 := by
  revert t; show ∀ t : Fin grid0.N, cc0_transform_7 (grid0.coords t) 0 = t.val ∧ cc0_transform_7 (grid0.coords t) 1 = 0; decide +kernel
theorem at_8 (t : Fin cfg0.N) : cc0_transform_8 (grid0.coords t) 0 = 6 * (t.val / 16) + 5 ∧ cc0_transform_8 (grid0.coords t) 1 = 0 ∧ cc0_transform_8 (grid0.coords t) 2 = 0 := by
  revert t; show ∀ t : Fin grid0.N, cc0_transform_8 (grid0.coords t) 0 = 6 * (t.val / 16) + 5 ∧ cc0_transform_8 (grid0.coords t) 1 = 0 ∧ cc0_transform_8 (grid0.coords t) 2 = 0; decide +kernel
theorem at_9 (t : Fin cfg0.N) : cc0_transform_9 (grid0.coords t) 0 = 0 ∧ cc0_transform_9 (grid0.coords t) 1 = 0 := by
  revert t; show ∀ t : Fin grid0.N, cc0_transform_9 (grid0.coords t) 0 = 0 ∧ cc0_transform_9 (grid0.coords t) 1 = 0; decide +kernel

theorem points (t : Fin cfg0.N) : t.val < 32 := by have := t.isLt; have := N_0; have h : t.val < grid0.N := t.isLt; omega

theorem iblk0_eq (c : Dev nD) (t : Fin cfg0.N) (y : S2048.Idx) (z : S65536.Idx) (hz : (z 0).val = 2048 * t.val + (y 0).val) : iblk m c 0 t y = V m c main_v2 z :=
  iblk0_at m c t y z fun a => by
    match a with
    | 0 => rw [at_0]; show _ = _ * 2048 + _; omega
theorem iblk1_eq (c : Dev nD) (t : Fin cfg0.N) (y : S2048.Idx) (z : S65536.Idx) (hz : (z 0).val = 2048 * min (t.val + 1) 31 + (y 0).val) : iblk m c 1 t y = V m c main_v2 z :=
  iblk1_at m c t y z fun a => by
    match a with
    | 0 => rw [at_1]; show _ = _ * 2048 + _; omega
theorem iblk2_eq (c : Dev nD) (t : Fin cfg0.N) (y : S256x8.Idx) (z : S8192x8.Idx) (h0 : (z 0).val = 256 * t.val + (y 0).val) (h1 : (z 1).val = (y 1).val) :
    iblk m c 2 t y = V m c main_arg1 z :=
  iblk2_at m c t y z fun a => by
    match a with
    | 0 => rw [(at_2 t).1]; show _ = _ * 256 + _; omega
    | 1 => rw [(at_2 t).2]; show _ = 0 * _ + _; omega
theorem iblk3_eq (c : Dev nD) (t : Fin cfg0.N) (y : S2048x128.Idx) (z : S65536x128.Idx) (h0 : (z 0).val = 2048 * t.val + (y 0).val) (h1 : (z 1).val = (y 1).val) :
    iblk m c 3 t y = V m c main_arg2 z :=
  iblk3_at m c t y z fun a => by
    match a with
    | 0 => rw [(at_3 t).1]; show _ = _ * 2048 + _; omega
    | 1 => rw [(at_3 t).2]; show _ = 0 * _ + _; omega
theorem iblk7_eq (c : Dev nD) (t : Fin cfg0.N) (y : S256x2048.Idx) (z : S8192x2048.Idx) (h0 : (z 0).val = 256 * t.val + (y 0).val) (h1 : (z 1).val = (y 1).val) :
    iblk m c 7 t y = V m c main_arg7 z :=
  iblk7_at m c t y z fun a => by
    match a with
    | 0 => rw [(at_7 t).1]; show _ = _ * 256 + _; omega
    | 1 => rw [(at_7 t).2]; show _ = 0 * _ + _; omega
theorem iblk4_eq (c : Dev nD) (t : Fin cfg0.N) : (iblk m c 4 t : S2048x512.Idx → _) = V m c main_v4 :=
  funext fun y => iblk4_at m c t y y fun a => by
    match a with
    | 0 => rw [(at_4 t).1]; show _ = 0 * _ + _; omega
    | 1 => rw [(at_4 t).2]; show _ = 0 * _ + _; omega
theorem iblk5_eq (c : Dev nD) (t : Fin cfg0.N) : (iblk m c 5 t : S2048x512.Idx → _) = V m c main_v6 :=
  funext fun y => iblk5_at m c t y y fun a => by
    match a with
    | 0 => rw [(at_5 t).1]; show _ = 0 * _ + _; omega
    | 1 => rw [(at_5 t).2]; show _ = 0 * _ + _; omega
theorem iblk6_eq (c : Dev nD) (t : Fin cfg0.N) : (iblk m c 6 t : S512x2048.Idx → _) = V m c main_v8 :=
  funext fun y => iblk6_at m c t y y fun a => by
    match a with
    | 0 => rw [(at_6 t).1]; show _ = 0 * _ + _; omega
    | 1 => rw [(at_6 t).2]; show _ = 0 * _ + _; omega
theorem iblk9_eq (c : Dev nD) (t : Fin cfg0.N) : (iblk m c 9 t : S1x2048.Idx → _) = V m c main_v9 :=
  funext fun y => iblk9_at m c t y y fun a => by
    match a with
    | 0 => rw [(at_9 t).1]; show _ = 0 * _ + _; omega
    | 1 => rw [(at_9 t).2]; show _ = 0 * _ + _; omega
theorem iblk8_eq (c : Dev nD) (t : Fin cfg0.N) (y : S1x1x2048.Idx) (z : S12x1x2048.Idx) (h0 : (z 0).val = 6 * (t.val / 16) + 5) (h2 : (z 2).val = (y 2).val) :
    iblk m c 8 t y = V m c main_v0 z :=
  iblk8_at m c t y z fun a => by
    have hy : (y 0).val < 1 := (y 0).isLt
    have hy1 : (y 1).val < 1 := (y 1).isLt
    have hz1 : (z 1).val < 1 := (z 1).isLt
    match a with
    | 0 => rw [(at_8 t).1]; show _ = _ * 1 + _; omega
    | 1 => rw [(at_8 t).2.1]; show _ = 0 * _ + _; omega
    | 2 => rw [(at_8 t).2.2]; show _ = 0 * _ + _; omega

/-- A point's next table is the following block. -/
theorem next_block (c : Dev nD) (t : Fin cfg0.N) : (iblk m c 1 t : S2048.Idx → BitVec 32) = blkPos m c (t.val + 1) := by
  funext y
  have hy : (y 0).val < 2048 := (y 0).isLt
  have hz : 2048 * min (t.val + 1) 31 + (y 0).val < 65536 := by omega
  unfold blkPos
  rw [iblk1_eq m c t y (ix1 ⟨_, hz⟩) rfl]
  exact (iblk0_eq m c _ y (ix1 ⟨_, hz⟩) rfl).symm
theorem this_block (c : Dev nD) (t : Fin cfg0.N) : (iblk m c 0 t : S2048.Idx → BitVec 32) = blkPos m c t.val := by
  have h := points t
  funext y
  have hy : (y 0).val < 2048 := (y 0).isLt
  have hz : 2048 * t.val + (y 0).val < 65536 := by omega
  unfold blkPos
  rw [iblk0_eq m c t y (ix1 ⟨_, hz⟩) rfl]
  refine (iblk0_eq m c _ y (ix1 ⟨_, hz⟩) ?_).symm
  show 2048 * t.val + (y 0).val = 2048 * min t.val 31 + (y 0).val
  omega

/-- Every slot of every token names eight rows of the table. -/
def InTable (c : Dev nD) : Prop := ∀ z : S65536.Idx, 8 ∣ BitVec.toNat (w := 32) (V m c main_v2 z) ∧ BitVec.toNat (w := 32) (V m c main_v2 z) + 8 ≤ 524288

theorem slots_block (c : Dev nD) (h : InTable m c) (n : ℕ) : Slots (blkPos m c n) := fun j => by
  have hz : 2048 * min n 31 + j.val < 65536 := by have := j.isLt; omega
  unfold blkPos
  rw [iblk0_eq m c _ (ix1 j) (ix1 ⟨_, hz⟩) rfl]
  exact h _

end Cert.KernelIdeal.Steps
end
-- ==== Proof.Run.lean ====
/- The body's obligation at a point, the run of the whole program over any float values, and the frame. -/
module

public import proofs.«01_k».proof.Proof.Blocks

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem state_before (c : Dev nD) (t : Fin cfg0.N) : Mid m c t.val = Before c (V m c main_arg3) (blkPos m c t.val) t.val := by
  have h := points t
  unfold Mid Before
  exact if_congr (by omega) rfl rfl
theorem state_after (c : Dev nD) (t : Fin cfg0.N) : After c (V m c main_arg3) (blkPos m c (t.val + 1)) t.val = Mid m c (t.val + 1) := by
  have h := points t
  unfold Mid After
  exact if_congr (by omega) rfl rfl

theorem Phi_at (c : Dev nD) (t : Fin cfg0.N) : (dats m 0 c).Φ t.castSucc = State m c t.val := rfl
theorem Phi_next (c : Dev nD) (t : Fin cfg0.N) : (dats m 0 c).Φ t.succ = State m c (t.val + 1) := rfl

set_option maxHeartbeats 1000000 in
theorem sound_body (c : Dev nD) (h : InTable m c) (t : Fin cfg0.N) :
    bodyPre m c t ⊢ wpB (F := F) c (bodyAt0 t) (fun _ => bodyPost m c t) := by
  unfold bodyPre bodyPost bodyAt0
  rw [body_eq, Phi_at, Phi_next]
  simp only [before_0, before_1, before_2, before_3, before_4, before_5, before_6, before_7, before_8, before_9]
  rw [after_0, after_1, after_2, after_3, after_4, after_5, after_6, after_7, after_8, after_9, after_10]
  unfold Dat.owesAt Pipeline.owesWithin State
  rw [show (dats m 0 c).owed t.castSucc = 0 from rfl, show (dats m 0 c).owed t.succ = 0 from rfl]
  iintro ⟨⟨⟨%M, Hm⟩, Hr, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hb := body_step (F := F) c (V m c main_arg3) (grid0.coords t) (iblk m c 0 t) (iblk m c 1 t)
    (by rw [this_block]; exact slots_block m c h _) (by rw [next_block]; exact slots_block m c h _)
    (st0_0 t) (st0_1 t) (st0_2 t) (iblk m c 2 t) (st0_3 t) (st0_4 t) (st0_5 t) (st0_6 t) (iblk m c 3 t) (iblk m c 4 t) (iblk m c 5 t) (iblk m c 6 t)
    (st0_7 t) (st0_8 t) (st0_9 t) (st0_10 t) (iblk m c 7 t) (iblk m c 8 t) (iblk m c 9 t) M ((dats m 0 c).before 10 t d10) W
  rw [coords_val] at hb
  rw [show (Before c (V m c main_arg3) (iblk m c 0 t) t.val : sProp 𝕄) = Mid m c t.val from by rw [state_before, this_block],
    show (After c (V m c main_arg3) (iblk m c 1 t) t.val : sProp 𝕄) = Mid m c (t.val + 1) from by rw [← state_after, next_block]] at hb
  ihave Hw := hb $$ [H0 H1 H2 H3 H4 H5 H6 H7 H8 H9 H10 HS Hm HW]
  · isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [HS]; · iexact HS
    isplitl [Hm]; · iexact Hm
    iexact HW
  unfold wpB
  iapply (wp_wand_r _ _ _)
  isplitl [Hw]; · iexact Hw
  iintro %a ⟨⟨H0, H1, H2, H3, H4, H5, H6, H7, H8, H9, H10⟩, HS, Hm, ⟨%W', HW⟩⟩
  isplitl [HS Hm Hr]
  · isplitl [Hm]; · iexact Hm
    isplitl [Hr]; · iexact Hr
    iexact HS
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) (h : InTable m c) : BodyObligation (dats (F := F) m 0 c) (defs₀ (F := F)) Variants.none () Set.univ := fun t => by
  rw [bigSep_W0, bigSep_W0, defs₀_row]
  exact triple_restated (sound_body m c h t) rfl .rfl fun _ => .rfl

/-! ### The run and the frame -/

theorem hmain_D : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main (h : ∀ c, InTable m c) :
    θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c (h c)).loose) (hq := fun _ _ _ => rfl)
    (howed := fun _ _ => rfl) (V := V m) (hmain := hmain_D m) (hA := A_eq m)
    (hin := state_first m) (hout := state_last m) (hQ' := fun _ h => h)

/-- The arguments end as launched, every counter at zero, and the result holds what the points stored. -/
theorem run_values (h : ∀ c, InTable m c) :
    θ_run defs (onTc (τ := τ) (main (F := F))) ⟨m, fun _ => 0, ρ⟩ (fun r => (∀ c : Dev nD,
      r.2.mem ((c.tc : Thread nD τ).loc main_v10) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c).1 10,
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).1 7).trans (((dats m 0 c).arrAt_in 7 rfl _).trans ((A_eq m c 7).trans (V_main_arg7 m c))),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ h)

end Cert.KernelIdeal.Steps
end
-- ==== Proof.Pre.lean ====
/- What the precondition says of the table of rows: every row number is a multiple of eight, and eight rows from it lie inside the array. -/
module

public import proofs.«01_k».proof.Proof.Run
public import proofs.«01_k».proof.Proof.Gen.Pre_slots_in_range
public import Idealize.ShloMosaic.Lib.ReduceAll

@[expose] public section

set_option maxRecDepth 16384

noncomputable section

namespace Cert.KernelIdeal.Steps

open Cert.KernelIdeal Cert.KernelIdeal.Gen
open Idealize.ShloMosaic Idealize.ShloMosaic.TcCoe Idealize.ShloMosaic.ValueIdx Idealize.ShloMosaic.Tactic
open Idealize.SL.Sem

variable {F : FTy → Type} [FloatOps F]

/-- The remainder by eight as the host takes it of a word. -/
def remWord (a : BitVec 32) : BitVec 32 :=
  if IntOp.andi (IntOp.cmpi .ne (IntOp.cmpi .slt (IntOp.remsi .host a 8#32) 0#32) (IntOp.cmpi .slt 8#32 0#32))
    (IntOp.cmpi .ne (IntOp.remsi .host a 8#32) 0#32) = 1 then IntOp.addi (IntOp.remsi .host a 8#32) 8#32 else IntOp.remsi .host a 8#32

theorem row_word (a : BitVec 32) (lo : IntOp.cmpi .sge a 0#32 = 1#1) (hi : IntOp.cmpi .slt a 524288#32 = 1#1)
    (r : IntOp.cmpi .eq (remWord a) 0#32 = 1#1) : 8 ∣ a.toNat ∧ a.toNat + 8 ≤ 524288 := by
  have hlt : a.toNat < 524288 := by
    have h1 : (BitVec.ofBool (decide ((0#32).toInt ≤ a.toInt))) = 1#1 := lo
    have h2 : (BitVec.ofBool (decide (a.toInt < (524288#32).toInt))) = 1#1 := hi
    have e1 : (0#32).toInt ≤ a.toInt := by
      by_contra hh; rw [decide_eq_false hh] at h1; exact absurd h1 (by decide)
    have e2 : a.toInt < (524288#32).toInt := by
      by_contra hh; rw [decide_eq_false hh] at h2; exact absurd h2 (by decide)
    rw [show (0#32).toInt = 0 from by decide] at e1
    rw [show (524288#32).toInt = 524288 from by decide] at e2
    rw [BitVec.toInt_eq_toNat_cond] at e1 e2
    have := a.isLt
    split at e1 <;> omega
  have hm : a.msb = false := by rw [BitVec.msb_eq_false_iff_two_mul_lt]; omega
  have hs : IntOp.remsi .host a 8#32 = a % 8#32 := by
    unfold IntOp.remsi
    rw [if_neg (by unfold IntOp.SDivCorner; intro hh; rcases hh with hh | hh
                   · exact absurd hh (by decide)
                   · exact absurd hh.2 (by decide))]
    rw [BitVec.srem_eq, hm, show (8#32).msb = false from by decide]
  have hr : (a % 8#32).toNat < 8 := by rw [BitVec.toNat_umod]; exact Nat.mod_lt _ (by decide)
  have key : remWord a = a % 8#32 := by
    unfold remWord; rw [hs]
    rw [show IntOp.cmpi .slt (a % 8#32) 0#32 = 0#1 from by
      show BitVec.ofBool (decide ((a % 8#32).toInt < (0#32).toInt)) = 0#1
      rw [decide_eq_false]; rfl
      rw [BitVec.toInt_eq_toNat_cond, if_pos (by omega)]; simp only [BitVec.toInt_zero]; omega]
    rw [if_neg]
    rw [show IntOp.cmpi .ne 0#1 (IntOp.cmpi .slt 8#32 0#32) = 0#1 from by decide]
    unfold IntOp.andi; rw [BitVec.zero_and]; decide
  rw [key] at r
  have hz : a % 8#32 = 0#32 := by
    by_contra hh
    have : BitVec.ofBool (a % 8#32 == 0#32) = 1#1 := r
    rw [beq_eq_false_iff_ne.mpr hh] at this; exact absurd this (by decide)
  have := congrArg BitVec.toNat hz
  rw [BitVec.toNat_umod, show (8#32).toNat = 8 from rfl, show (0#32).toNat = 0 from rfl] at this
  constructor <;> omega

theorem rows_of_pre (a0 : IVec S8x8192 32) {a1 a2 a3 a4 a5 a6 a7 a8 a9}
    (h : Cert.Pre_slots_in_range.fn (F := F) a0 a1 a2 a3 a4 a5 a6 a7 a8 a9 = fun _ => 1#1) (i : S8x8192.Idx) :
    8 ∣ (a0 i).toNat ∧ (a0 i).toNat + 8 ≤ 524288 := by
  have hi := Host.reduce_andi_all _ _ _ _ _ (congrFun h (fun k => Fin.elim0 k)) i
  obtain ⟨h1, h2⟩ := IntOp.andi_eq_one.mp hi
  obtain ⟨h3, h4⟩ := IntOp.andi_eq_one.mp h1
  exact row_word (a0 i) h3 h4 h2

variable (m : (ℓ : Loc nD τ sig) → Buf (Elt F) ℓ)

theorem inTable_of (c : Dev nD)
    (h : ∀ i : S8x8192.Idx, 8 ∣ BitVec.toNat (w := 32) (m ((c.tc : Thread nD τ).loc main_arg0) i)
      ∧ BitVec.toNat (w := 32) (m ((c.tc : Thread nD τ).loc main_arg0) i) + 8 ≤ 524288) : InTable m c := by
  intro z
  have e : ∃ i : S8x8192.Idx, V m c main_v2 z = m ((c.tc : Thread nD τ).loc main_arg0) i := ⟨_, rfl⟩
  obtain ⟨i, e⟩ := e
  rw [e]; exact h i

end Cert.KernelIdeal.Steps
end
-- ==== Proof.Same.lean ====
/- The two printings of the kernel are one program: the same text, read over any float values. -/
module

public import proofs.«01_k».proof.Proof.Body
public import proofs.«01_k».proof.Proof.Gen.Kernel.Skeleton

@[expose] public section

set_option maxRecDepth 65536

noncomputable section

namespace Cert.KernelIdeal.Steps

open Cert.KernelIdeal Cert.KernelIdeal.Gen
open Idealize.ShloMosaic Idealize.SL.Sem

variable {F : FTy → Type} [FloatOps F]

section
variable (i : grid0.Coords) (arg1 : Memref sig .tc .smem S2048 .i32) (harg1 : arg1.IsWhole) (arg2 : Memref sig .tc .smem S2048 .i32) (harg2 : arg2.IsWhole) (arg3 : Memref sig .tc .vmem S256x8 .f32) (harg3 : arg3.IsWhole) (arg4 : Memref sig .tc .vmem S2048x128 .i32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S256x2048 .f32) (harg8 : arg8.IsWhole) (arg9 : Memref sig .tc .vmem S1x1x2048 .f32) (harg9 : arg9.IsWhole) (arg10 : Memref sig .tc .vmem S1x2048 .f32) (harg10 : arg10.IsWhole) (arg11 : Memref sig .tc .hbm S524288x128 .i32) (harg11 : arg11.IsWhole) (arg12 : Memref sig .tc .vmem S256x2048 .f32) (harg12 : arg12.IsWhole) (arg13 : Memref sig .tc .vmem S2x8x2048x128 .i32) (harg13 : arg13.IsWhole) (arg14 : Memref sig .tc .vmem S256x2048 .f32) (harg14 : arg14.IsWhole) (arg15 : DmaSems sig S2)

set_option maxHeartbeats 16000000 in
theorem t1_same (h : k0_cond1 i = 1#1) :
    Cert.Kernel.Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h = k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h :=
  funext fun g => funext fun a => Eq.trans rfl (t1_body_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 h g a).symm

set_option maxHeartbeats 16000000 in
theorem t2_same (v9 arg0 : BitVec 32) (v26 : FVec F S256x2048 .bf16) (v29 : FVec F S256x512 .f32) (h : k0_cond2 i = 1#1) :
    Cert.Kernel.Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h = k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h :=
  funext fun g => funext fun a => Eq.trans rfl (t2_body_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h g a).symm

set_option maxHeartbeats 16000000 in
theorem t3_same (v9 arg0 : BitVec 32) (v26 : FVec F S256x2048 .bf16) (v29 : FVec F S256x512 .f32) (h : k0_cond4 i = 1#1) :
    Cert.Kernel.Gen.k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h = k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h :=
  funext fun g => funext fun a => Eq.trans rfl (t3_body_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 v9 arg0 v26 v29 h g a).symm

set_option maxHeartbeats 4000000 in
theorem head_same : Cert.Kernel.k0_part130 (F := F) i arg1 harg1 arg2 harg2 arg3 harg3 arg4 harg4 arg5 harg5 arg6 harg6 arg7 harg7 arg8 harg8 arg9 harg9 arg10 harg10 arg11 harg11 arg12 harg12 arg13 harg13 arg14 harg14 arg15 = k0_part130 (F := F) i arg1 harg1 arg2 harg2 arg3 harg3 arg4 harg4 arg5 harg5 arg6 harg6 arg7 harg7 arg8 harg8 arg9 harg9 arg10 harg10 arg11 harg11 arg12 harg12 arg13 harg13 arg14 harg14 arg15 := by
  rw [Cert.Kernel.Gen.k0_part130_eq_skeleton, k0_part130_eq_skeleton]
  unfold Cert.Kernel.Gen.k0_part130_skel k0_part130_skel
  simp only [t1_same]
  rfl

end

end Cert.KernelIdeal.Steps
end
-- ==== Proof.Same2.lean ====
/- The two printings of the kernel are one program: the same text, read over any float values. -/
module

public import proofs.«01_k».proof.Proof.Same

@[expose] public section

set_option maxRecDepth 65536

noncomputable section

namespace Cert.KernelIdeal.Steps

open Cert.KernelIdeal Cert.KernelIdeal.Gen
open Idealize.ShloMosaic Idealize.SL.Sem

variable {F : FTy → Type} [FloatOps F]

section
variable (i : grid0.Coords) (arg1 : Memref sig .tc .smem S2048 .i32) (harg1 : arg1.IsWhole) (arg2 : Memref sig .tc .smem S2048 .i32) (harg2 : arg2.IsWhole) (arg3 : Memref sig .tc .vmem S256x8 .f32) (harg3 : arg3.IsWhole) (arg4 : Memref sig .tc .vmem S2048x128 .i32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S256x2048 .f32) (harg8 : arg8.IsWhole) (arg9 : Memref sig .tc .vmem S1x1x2048 .f32) (harg9 : arg9.IsWhole) (arg10 : Memref sig .tc .vmem S1x2048 .f32) (harg10 : arg10.IsWhole) (arg11 : Memref sig .tc .hbm S524288x128 .i32) (harg11 : arg11.IsWhole) (arg12 : Memref sig .tc .vmem S256x2048 .f32) (harg12 : arg12.IsWhole) (arg13 : Memref sig .tc .vmem S2x8x2048x128 .i32) (harg13 : arg13.IsWhole) (arg14 : Memref sig .tc .vmem S256x2048 .f32) (harg14 : arg14.IsWhole) (arg15 : DmaSems sig S2)

set_option maxHeartbeats 16000000 in
theorem tail_same (arg0 v9 : BitVec 32) (v26 : FVec F S256x2048 .bf16) (v29 : FVec F S256x512 .f32) :
    Cert.Kernel.k0_part131 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg0 v9 v26 v29 = k0_part131 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg0 v9 v26 v29 := by
  rw [Cert.Kernel.Gen.k0_part131_eq_skeleton, k0_part131_eq_skeleton]
  unfold Cert.Kernel.Gen.k0_part131_skel k0_part131_skel
  simp only [t2_same, t3_same]
  rfl

set_option maxHeartbeats 16000000 in
theorem body_same : Cert.Kernel.cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 = cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 := by
  rw [Cert.Kernel.Gen.cc0_combine_eq_skeleton, cc0_combine_eq_skeleton]
  unfold Cert.Kernel.Gen.cc0_combine_skel cc0_combine_skel
  rw [head_same]
  simp only [tail_same]
  rfl

end

end Cert.KernelIdeal.Steps
end
-- ==== Proof.Frames.lean ====
/- The frames of the kernel's two printings, from the one run. -/
module

public import proofs.«01_k».proof.Defs
public import proofs.«01_k».proof.Proof.Pre
public import proofs.«01_k».proof.Proof.Same2
public import proofs.«01_k».proof.Proof.Gen.Kernel
public import proofs.«01_k».proof.Proof.Gen.ReferenceIdeal.Run
public import Idealize.ShloMosaic.Adequacy

@[expose] public section

set_option maxRecDepth 65536

noncomputable section

namespace Cert.Proof

open Idealize.ShloMosaic Idealize.SL.Sem
open Cert.KernelIdeal.Steps (rows_of_pre inTable_of run_values body_same)

variable {F : FTy → Type} [FloatOps F]

theorem frame_ideal : Cert.quiescent_KernelIdeal := fun m ρ h =>
  (θ_run Cert.KernelIdeal.defs _ _).mono (fun _ e => ⟨fun c => (e.1 c).2, e.2⟩)
    (run_values (F := Ideal) m ρ fun c => inTable_of m c (rows_of_pre _ (h c)))

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.Proof
end
-- ==== Proof.FrameK.lean ====
/- The frame of the kernel at machine floats: its bodies, its schedule and its host program are the ones the run was proved for. -/
module

public import proofs.«01_k».proof.Defs
public import proofs.«01_k».proof.Proof.Pre
public import proofs.«01_k».proof.Proof.Same2
public import proofs.«01_k».proof.Proof.Gen.Kernel

@[expose] public section

set_option maxRecDepth 65536

noncomputable section

namespace Cert.Proof

open Idealize.ShloMosaic Idealize.SL.Sem
open Cert.KernelIdeal.Steps (rows_of_pre inTable_of run_values body_same)

variable {F : FTy → Type} [FloatOps F]

/-- The two printings have the same table of bodies. -/
theorem bodies_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => exact body_same ..

set_option maxHeartbeats 4000000 in
theorem tables_same : Cert.Kernel.defs (F := F) = Cert.KernelIdeal.defs (F := F) := by
  unfold Cert.Kernel.defs Cert.KernelIdeal.defs
  rw [bodies_same]
  rfl

set_option maxHeartbeats 4000000 in
theorem main_same : Cert.Kernel.main (F := F) = Cert.KernelIdeal.main (F := F) := by
  unfold Cert.Kernel.main Cert.KernelIdeal.main
  rfl

theorem frame_kernel : Cert.quiescent_Kernel := fun m ρ h => by
  have e := run_values (F := Bits) m ρ fun c => inTable_of m c (rows_of_pre _ (h c))
  rw [← tables_same, ← main_same] at e
  exact (θ_run Cert.Kernel.defs _ _).mono (fun _ e => ⟨fun c => (e.1 c).2, e.2⟩) e

end Cert.Proof
end
-- ==== Proof.Spec.lean ====
/- The combine step as a formula: what one element of its result is, in extended reals, of the arguments. -/
module

public import Idealize.ShloMosaic.Lib.Pointwise

@[expose] public section

noncomputable section

namespace Cert.Proof

open Idealize.ShloMosaic

/-- Feature `j` of packed row `T`: the low (`j < 1024`) or the high half of the row's word `j % 1024`, a bf16. -/
def feature {n : ℕ} (A : (⟨2, ![n, 128]⟩ : Shape).Idx → BitVec 32) (T : ℕ) (h : 8 * T + 8 ≤ n) (j : Fin 2048) : EReal :=
  Ideal.ofBits .bf16 ((A (ix2 (⟨T * 8 + j.val % 1024 / 128, by omega⟩ : Fin n) (⟨j.val % 128, by omega⟩ : Fin 128))).extractLsb' (j.val / 1024 * 16) 16)

/-- A feature of the low half. -/
theorem feature_low {n : ℕ} (A : (⟨2, ![n, 128]⟩ : Shape).Idx → BitVec 32) (T : ℕ) (h : 8 * T + 8 ≤ n) (j : Fin 2048) (hj : j.val < 1024) :
    Ideal.ofBits .bf16 ((A (ix2 (⟨T * 8 + j.val / 128, by omega⟩ : Fin n) (⟨j.val % 128, by omega⟩ : Fin 128))).extractLsb' (0 * 16) 16) = feature A T h j := by
  unfold feature
  have h1 : j.val / 1024 = 0 := by omega
  have h2 : j.val % 1024 = j.val := by omega
  simp only [h1, h2]

/-- A feature of the high half. -/
theorem feature_high {n : ℕ} (A : (⟨2, ![n, 128]⟩ : Shape).Idx → BitVec 32) (T : ℕ) (h : 8 * T + 8 ≤ n) (j : Fin 2048) (hj : ¬ j.val < 1024) :
    Ideal.ofBits .bf16 ((A (ix2 (⟨T * 8 + (j.val - 1024) / 128, by omega⟩ : Fin n) (⟨(j.val - 1024) % 128, by omega⟩ : Fin 128))).extractLsb' (1 * 16) 16) = feature A T h j := by
  unfold feature
  have h1 : j.val / 1024 = 1 := by omega
  have h2 : j.val % 1024 = j.val - 1024 := by omega
  have h3 : (j.val - 1024) % 128 = j.val % 128 := by omega
  simp only [h1, h2, h3]

/-- The shared expert on the features `t` of one token: `(silu(t · gate) * (t · up)) · down`. -/
def sharedAt (t : Fin 2048 → EReal) (sg su : (⟨3, ![1, 2048, 512]⟩ : Shape).Idx → EReal) (sd : (⟨3, ![1, 512, 2048]⟩ : Shape).Idx → EReal)
    (j : Fin 2048) : EReal :=
  ∑ l : Fin 512, ((∑ k : Fin 2048, t k * sg (ix3 0 k l)) * Ideal.div 1 (1 + Ideal.exp (-(∑ k : Fin 2048, t k * sg (ix3 0 k l)))))
    * (∑ k : Fin 2048, t k * su (ix3 0 k l)) * sd (ix3 0 l j)

/-- A row `x` of features divided by the square root of its mean square (with `1e-6` added), times the gain `g`. -/
def normAt (x : Fin 2048 → EReal) (g : (⟨1, ![2048]⟩ : Shape).Idx → EReal) (j : Fin 2048) : EReal :=
  x j * Ideal.rsqrt (Ideal.div (∑ k : Fin 2048, x k * x k) (Ideal.ofBits .f32 0x45000000#32) + Ideal.ofBits .f32 0x358637BD#32) * g (ix1 j)

/-- Every entry of the slot table is the first word row of a packed row: a multiple of 8, inside the table of rows. -/
def RowsOk (a0 : (⟨2, ![8, 8192]⟩ : Shape).Idx → BitVec 32) : Prop := ∀ i, 8 ∣ (a0 i).toNat ∧ (a0 i).toNat + 8 ≤ 524288

/-- The routed experts on token `T`: the sum over its eight choices of the weight times the row that the choice names. -/
def routedAt (a0 : (⟨2, ![8, 8192]⟩ : Shape).Idx → BitVec 32) (h : RowsOk a0) (w : (⟨2, ![8192, 8]⟩ : Shape).Idx → EReal)
    (ys : (⟨2, ![524288, 128]⟩ : Shape).Idx → BitVec 32) (T : Fin 8192) (j : Fin 2048) : EReal :=
  ∑ k : Fin 8, w (ix2 T k) * feature ys ((a0 (ix2 k T)).toNat / 8) (by have := h (ix2 k T); omega) j

/-- The residual row of token `T` after the combine: the token, plus the gate of its sequence times both experts' sum. -/
def rowAt (a0 : (⟨2, ![8, 8192]⟩ : Shape).Idx → BitVec 32) (h : RowsOk a0) (w : (⟨2, ![8192, 8]⟩ : Shape).Idx → EReal)
    (hp : (⟨2, ![65536, 128]⟩ : Shape).Idx → BitVec 32) (ys : (⟨2, ![524288, 128]⟩ : Shape).Idx → BitVec 32)
    (sg su : (⟨3, ![1, 2048, 512]⟩ : Shape).Idx → EReal) (sd : (⟨3, ![1, 512, 2048]⟩ : Shape).Idx → EReal)
    (x1 : (⟨2, ![8192, 2048]⟩ : Shape).Idx → EReal) (gate : (⟨2, ![2, 12288]⟩ : Shape).Idx → EReal) (T : Fin 8192) (j : Fin 2048) : EReal :=
  x1 (ix2 T j) + gate (ix2 (⟨T.val / 4096, by omega⟩ : Fin 2) (⟨10240 + j.val, by omega⟩ : Fin 12288))
    * (routedAt a0 h w ys T j + sharedAt (feature hp T.val (by omega)) sg su sd j)

end Cert.Proof
end
-- ==== Proof.KerVal.lean ====
/- What the body leaves of a block, read at an index. -/
module

public import proofs.«01_k».proof.Proof.Spec
public import proofs.«01_k».proof.Proof.Point
public import Idealize.ShloMosaic.Lib.Pipeline.Value

@[expose] public section

set_option maxRecDepth 16384

noncomputable section

namespace Cert.Proof

open Cert.KernelIdeal Cert.KernelIdeal.Gen
open Cert.KernelIdeal.Steps (feat gateDot hpOf sharedVal finishVal summed landed outVal half wsum foldPure Slots)
open Idealize.ShloMosaic Idealize.ShloMosaic.TcCoe

/-- Row `r` of the words in column block `c`: word row `8 r + c`. -/
theorem hp_at (h : S2048x128.Idx → BitVec 32) (c : Fin 8) (r : Fin 256) (l : Fin 128) :
    hpOf (F := Ideal) h c (ix2 r l) = h (ix2 (⟨r.val * 8 + c.val, by omega⟩ : Fin 2048) l) := by
  have key : ∀ (o : ℕ) (ho : o < 8) (hi) (y : S2048x128.Idx), (y = fun a => (⟨![o, 0], S256x128.size, ![8, 1], hi⟩ : LoadRect S2048x128).idx (ix2 r l) a) →
      h y = h (ix2 (⟨r.val * 8 + o, by omega⟩ : Fin 2048) l) := by
    intro o ho hi y hy
    congr 1
    rw [hy]
    funext a
    match a with
    | ⟨0, _⟩ => refine Fin.ext ?_; show o + 8 * r.val = r.val * 8 + o; omega
    | ⟨1, _⟩ => refine Fin.ext ?_; show 0 + 1 * l.val = l.val; omega
  match c with
  | 0 => exact key 0 (by decide) _ _ rfl
  | 1 => exact key 1 (by decide) _ _ rfl
  | 2 => exact key 2 (by decide) _ _ rfl
  | 3 => exact key 3 (by decide) _ _ rfl
  | 4 => exact key 4 (by decide) _ _ rfl
  | 5 => exact key 5 (by decide) _ _ rfl
  | 6 => exact key 6 (by decide) _ _ rfl
  | 7 => exact key 7 (by decide) _ _ rfl

/-- The eight column blocks side by side. -/
theorem words_eq (v : Fin 8 → S256x128.Idx → BitVec 32) (h) :
    concatenate S256x1024 1 [⟨S256x128, v 0⟩, ⟨S256x128, v 1⟩, ⟨S256x128, v 2⟩, ⟨S256x128, v 3⟩, ⟨S256x128, v 4⟩, ⟨S256x128, v 5⟩, ⟨S256x128, v 6⟩, ⟨S256x128, v 7⟩] h
      = fun y => v ⟨(y 1).val / 128, by have : (y 1).val < 1024 := (y 1).isLt; omega⟩
          (ix2 (y 0) (⟨(y 1).val % 128, by omega⟩ : Fin 128)) := by
  funext y
  have hy : (y 1).val < 1024 := (y 1).isLt
  refine concatenate_ofFn_apply (s₁ := S256x128) (t := S256x1024) 1 v h rfl 128 rfl y ⟨(y 1).val / 128, by omega⟩ rfl _ rfl fun b hb => ?_
  match b with
  | ⟨0, _⟩ => rfl
  | ⟨1, _⟩ => exact absurd rfl hb

/-- Feature `j` of the block's row `r`. -/
theorem feat_at (h : S2048x128.Idx → BitVec 32) (r : Fin 256) (j : Fin 2048) :
    feat (F := Ideal) (hpOf (F := Ideal) h) (ix2 r j) = feature (n := 2048) h r.val (by omega) j := by
  unfold feat k0_pay264
  simp only [words_eq]
  pointwise [hp_at]
  split
  · exact feature_low (n := 2048) h r.val _ j ‹_›
  · exact feature_high (n := 2048) h r.val _ j ‹_›

/-- The shared expert on the block's row `r`. -/
theorem shared_at (h : S2048x128.Idx → BitVec 32) (sg su : Vec Ideal S2048x512 .bf16) (sd : Vec Ideal S512x2048 .bf16) (r : Fin 256) (j : Fin 2048) :
    sharedVal (F := Ideal) h sg su sd (ix2 r j) = sharedAt (feature (n := 2048) h r.val (by omega)) (fun y => sg (ix2 (y 1) (y 2))) (fun y => su (ix2 (y 1) (y 2))) (fun y => sd (ix2 (y 1) (y 2))) j := by
  unfold sharedVal k0_pay266 gateDot k0_pay265
  pointwise
  simp only [show ∀ x, k0_pay264 (F := Ideal) (hpOf (F := Ideal) h 0) (hpOf (F := Ideal) h 1) (hpOf (F := Ideal) h 2) (hpOf (F := Ideal) h 3) (hpOf (F := Ideal) h 4) (hpOf (F := Ideal) h 5) (hpOf (F := Ideal) h 6) (hpOf (F := Ideal) h 7) (ix2 r x) = _ from feat_at h r,
    feat_at, zero_sub]
  rfl

/-- A left fold of additions is the sum added on. -/
theorem foldPure_add : (n : ℕ) → (t : Fin n → EReal) → (a : EReal) → foldPure n (fun k a => a + t k) a = a + ∑ k, t k
  | 0, t, a => by show a = _; rw [Fin.sum_univ_zero, add_zero]
  | n + 1, t, a => by
    show foldPure n (fun k a => a + t k.succ) (a + t 0) = _
    rw [foldPure_add n (fun k => t k.succ), Fin.sum_univ_succ, add_assoc]

/-- One choice's feature, read from the word rows that its transfer lands. -/
theorem landed_at (p : S2048.Idx → BitVec 32) (f : S524288x128.Idx → BitVec 32) (r : Fin 256) (k : Fin 8) (j : Fin 2048)
    (h8 : 8 ∣ (p (ix1 (⟨8 * r.val + k.val, by omega⟩ : Fin 2048))).toNat) (hb : (p (ix1 (⟨8 * r.val + k.val, by omega⟩ : Fin 2048))).toNat + 8 ≤ 524288) :
    half (F := Ideal) (j.val / 1024) (landed p f (ValueIdx.ix4 (0 : Fin 2) k (⟨8 * r.val + j.val % 1024 / 128, by omega⟩ : Fin 2048) (⟨j.val % 128, by omega⟩ : Fin 128)))
      = feature (n := 524288) f ((p (ix1 (⟨8 * r.val + k.val, by omega⟩ : Fin 2048))).toNat / 8) (by omega) j := by
  unfold landed Steps.rowAt feature
  rw [ix1_eq_valueIdx] at *
  have e : 8 * ((8 * r.val + j.val % 1024 / 128) / 8) + k.val = 8 * r.val + k.val := by omega
  show Ideal.ofBits .bf16 ((f (ValueIdx.ix2 (⟨((p (ValueIdx.ix1 (⟨8 * ((8 * r.val + j.val % 1024 / 128) / 8) + k.val, by omega⟩ : Fin 2048))).toNat + (8 * r.val + j.val % 1024 / 128) % 8) % 524288, _⟩ : Fin 524288) (⟨j.val % 128, _⟩ : Fin 128))).extractLsb' (j.val / 1024 * 16) 16) = _
  simp only [e, ix2_eq_valueIdx]
  congr 5
  rw [ix1_eq_valueIdx]
  omega

/-- The block's routed sum, added to what the accumulator held. -/
theorem summed_at (p : S2048.Idx → BitVec 32) (f : S524288x128.Idx → BitVec 32) (w : S256x8.Idx → EReal) (M : S256x2048.Idx → EReal) (r : Fin 256) (j : Fin 2048)
    (h8 : ∀ i, 8 ∣ (p i).toNat) (hb : ∀ i, (p i).toNat + 8 ≤ 524288) :
    summed (F := Ideal) w (landed p f) 0 M (ix2 r j)
      = M (ix2 r j) + ∑ k : Fin 8, w (ix2 r k) * feature (n := 524288) f ((p (ix1 (⟨8 * r.val + k.val, by omega⟩ : Fin 2048))).toNat / 8) (by have := hb (ix1 (⟨8 * r.val + k.val, by omega⟩ : Fin 2048)); omega) j := by
  rw [← foldPure_add]
  unfold summed wsum
  have e := fun k : Fin 8 => landed_at p f r k j (h8 _) (hb _)
  simp only [← e, ix2_eq_valueIdx]
  rfl

/-- The block's result at row `r`, column `j`. -/
theorem out_at (f : S524288x128.Idx → BitVec 32) (p : S2048.Idx → BitVec 32) (w : S256x8.Idx → EReal) (h : S2048x128.Idx → BitVec 32) (sg su : Vec Ideal S2048x512 .bf16) (sd : Vec Ideal S512x2048 .bf16)
    (x : Vec Ideal S256x2048 .f32) (g : Vec Ideal S1x1x2048 .f32) (gf : Vec Ideal S1x2048 .f32) (r : Fin 256) (j : Fin 2048) :
    outVal (F := Ideal) f p w h sg su sd x g gf (ix2 r j)
      = normAt (fun j => x (ix2 r j) + g (ix3 0 0 j) * summed (F := Ideal) w (landed p f) 0 (sharedVal h sg su sd) (ix2 r j)) (fun y => gf (ix2 0 (y 0))) j := by
  unfold outVal finishVal k0_pay1 k0_pay270 k0_pay269
  generalize summed (F := Ideal) w (landed p f) 0 (sharedVal h sg su sd) = M
  pointwise
  rfl

end Cert.Proof
end
-- ==== Proof.KerOut.lean ====
/- The kernel's result, whole, read at an index. -/
module

public import proofs.«01_k».proof.Proof.KerVal
public import proofs.«01_k».proof.Proof.Pre
public import Idealize.ShloMosaic.Lib.Pipeline.Value
public import Idealize.ShloMosaic.Lib.Pipeline.ValueKit.Geometry

@[expose] public section

set_option maxRecDepth 16384

noncomputable section

namespace Cert.Proof

open Cert.KernelIdeal Cert.KernelIdeal.Gen
open Cert.KernelIdeal.Steps (summed landed sharedVal outVal blockVal dats InTable points)
open Idealize.ShloMosaic Idealize.ShloMosaic.TcCoe Idealize.ShloMosaic.Tactic
open Idealize.ShloMosaic.Pipeline (Dat Cfg Window)

variable (m : (ℓ : Loc nD τ sig) → Buf (Elt Ideal) ℓ)

/-! ### What the host lays out for the kernel -/

/-- The slot table with its tokens outermost, flat. -/
theorem slots_flat (a : S8x8192.Idx → BitVec 32) (h h') (T : Fin 8192) (k : Fin 8) :
    shapeCast S65536 (transpose S8192x8 [1, 0] a h) h' (ix1 (⟨8 * T.val + k.val, by omega⟩ : Fin 65536)) = a (ix2 k T) := by
  pointwise

theorem gates_flat (a : S2x12288.Idx → EReal) (h) (b : Fin 2) (j : Fin 2048) :
    shapeCast S12x1x2048 a h (ix3 (⟨6 * b.val + 5, by omega⟩ : Fin 12) 0 j) = a (ix2 b (⟨10240 + j.val, by omega⟩ : Fin 12288)) := by
  pointwise
  congr 2 <;> refine Fin.ext ?_ <;> simp <;> omega

theorem gate_flat (a : S1x2048x512.Idx → EReal) (h) (k : Fin 2048) (l : Fin 512) : shapeCast S2048x512 a h (ix2 k l) = a (ix3 0 k l) := by
  pointwise

theorem down_flat (a : S1x512x2048.Idx → EReal) (h) (k : Fin 512) (l : Fin 2048) : shapeCast S512x2048 a h (ix2 k l) = a (ix3 0 k l) := by
  pointwise

theorem gain_flat (a : S2048.Idx → EReal) (h) (j : Fin 2048) : shapeCast S1x2048 a h (ix2 0 j) = a (ix1 j) := by
  pointwise

/-- The slot of choice `k` of token `T` is entry `8 T + k` of the table that the kernel reads. -/
theorem slots_at (c : Dev nD) (T : Fin 8192) (k : Fin 8) :
    (V m c main_v2 : S65536.Idx → BitVec 32) (ix1 (⟨8 * T.val + k.val, by omega⟩ : Fin 65536)) = (m ((c.tc : Thread nD τ).loc main_arg0) : S8x8192.Idx → BitVec 32) (ix2 k T) :=
  slots_flat (m ((c.tc : Thread nD τ).loc main_arg0)) _ _ T k

theorem gates_at (c : Dev nD) (b : Fin 2) (j : Fin 2048) :
    (V m c main_v0 : S12x1x2048.Idx → EReal) (ix3 (⟨6 * b.val + 5, by omega⟩ : Fin 12) 0 j) = (m ((c.tc : Thread nD τ).loc main_arg8) : S2x12288.Idx → EReal) (ix2 b (⟨10240 + j.val, by omega⟩ : Fin 12288)) :=
  gates_flat (m ((c.tc : Thread nD τ).loc main_arg8)) _ b j

theorem sg_at (c : Dev nD) (k : Fin 2048) (l : Fin 512) :
    (V m c main_v4 : S2048x512.Idx → EReal) (ix2 k l) = (m ((c.tc : Thread nD τ).loc main_arg4) : S1x2048x512.Idx → EReal) (ix3 0 k l) :=
  gate_flat (m ((c.tc : Thread nD τ).loc main_arg4)) _ k l

theorem su_at (c : Dev nD) (k : Fin 2048) (l : Fin 512) :
    (V m c main_v6 : S2048x512.Idx → EReal) (ix2 k l) = (m ((c.tc : Thread nD τ).loc main_arg5) : S1x2048x512.Idx → EReal) (ix3 0 k l) :=
  gate_flat (m ((c.tc : Thread nD τ).loc main_arg5)) _ k l

theorem sd_at (c : Dev nD) (k : Fin 512) (l : Fin 2048) :
    (V m c main_v8 : S512x2048.Idx → EReal) (ix2 k l) = (m ((c.tc : Thread nD τ).loc main_arg6) : S1x512x2048.Idx → EReal) (ix3 0 k l) :=
  down_flat (m ((c.tc : Thread nD τ).loc main_arg6)) _ k l

theorem gain_at (c : Dev nD) (j : Fin 2048) :
    (V m c main_v9 : S1x2048.Idx → EReal) (ix2 0 j) = (m ((c.tc : Thread nD τ).loc main_arg9) : S2048.Idx → EReal) (ix1 j) :=
  gain_flat (m ((c.tc : Thread nD τ).loc main_arg9)) _ j

/-- An index of a three-axis shape whose first axis has one element. -/
theorem ix3_first {p q : ℕ} (y : (⟨3, ![1, p, q]⟩ : Shape).Idx) : ix3 0 (y 1) (y 2) = y := by
  funext a
  match a with
  | ⟨0, _⟩ => exact Fin.ext (by have : (y 0).val < 1 := (y 0).isLt; show 0 = (y 0).val; omega)
  | ⟨1, _⟩ => rfl
  | ⟨2, _⟩ => rfl

theorem sg_all (c : Dev nD) : (fun y : S1x2048x512.Idx => (V m c main_v4 : S2048x512.Idx → EReal) (ix2 (y 1) (y 2))) = m ((c.tc : Thread nD τ).loc main_arg4) :=
  funext fun y => (sg_at m c (y 1) (y 2)).trans (congrArg _ (ix3_first y))

theorem su_all (c : Dev nD) : (fun y : S1x2048x512.Idx => (V m c main_v6 : S2048x512.Idx → EReal) (ix2 (y 1) (y 2))) = m ((c.tc : Thread nD τ).loc main_arg5) :=
  funext fun y => (su_at m c (y 1) (y 2)).trans (congrArg _ (ix3_first y))

theorem sd_all (c : Dev nD) : (fun y : S1x512x2048.Idx => (V m c main_v8 : S512x2048.Idx → EReal) (ix2 (y 1) (y 2))) = m ((c.tc : Thread nD τ).loc main_arg6) :=
  funext fun y => (sd_at m c (y 1) (y 2)).trans (congrArg _ (ix3_first y))

/-! ### A block's row is a row of the formula -/

/-- The slots of point `t`'s block. -/
theorem block_slot (c : Dev nD) (t : Fin cfg0.N) (r : Fin 256) (k : Fin 8) :
    (iblk m c 0 t : S2048.Idx → BitVec 32) (ix1 (⟨8 * r.val + k.val, by omega⟩ : Fin 2048))
      = (m ((c.tc : Thread nD τ).loc main_arg0) : S8x8192.Idx → BitVec 32) (ix2 k (⟨256 * t.val + r.val, by have := points t; omega⟩ : Fin 8192)) := by
  have ht := points t
  rw [← slots_at m c (⟨256 * t.val + r.val, by omega⟩ : Fin 8192) k]
  exact Steps.iblk0_eq m c t _ _ (by show 8 * (256 * t.val + r.val) + k.val = 2048 * t.val + (8 * r.val + k.val); omega)

/-- A feature of the block's token `r` is the feature of token `256 t + r`. -/
theorem block_feature (c : Dev nD) (t : Fin cfg0.N) (r : Fin 256) :
    feature (n := 2048) (iblk m c 3 t : S2048x128.Idx → BitVec 32) r.val (by omega)
      = feature (n := 65536) (m ((c.tc : Thread nD τ).loc main_arg2) : S65536x128.Idx → BitVec 32) (256 * t.val + r.val) (by have := points t; omega) := by
  funext j
  unfold feature
  have e := Steps.iblk3_eq m c t (ix2 (⟨r.val * 8 + j.val % 1024 / 128, by omega⟩ : Fin 2048) (⟨j.val % 128, by omega⟩ : Fin 128))
    (ix2 (⟨(256 * t.val + r.val) * 8 + j.val % 1024 / 128, by have := points t; omega⟩ : Fin 65536) (⟨j.val % 128, by omega⟩ : Fin 128))
    (by show (256 * t.val + r.val) * 8 + j.val % 1024 / 128 = 2048 * t.val + (r.val * 8 + j.val % 1024 / 128); omega) rfl
  rw [V_main_arg2] at e
  rw [e]

/-- The result's block at row `r`: the formula at token `256 t + r`. -/
theorem block_at (c : Dev nD) (h : RowsOk (m ((c.tc : Thread nD τ).loc main_arg0))) (t : Fin cfg0.N) (r : Fin 256) (j : Fin 2048) :
    blockVal m c t (ix2 r j)
      = normAt (rowAt (m ((c.tc : Thread nD τ).loc main_arg0)) h (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (⟨256 * t.val + r.val, by have := points t; omega⟩ : Fin 8192)) (m ((c.tc : Thread nD τ).loc main_arg9)) j := by
  have ht := points t
  have hslot : ∀ i : S2048.Idx, 8 ∣ BitVec.toNat (w := 32) (iblk m c 0 t i) ∧ BitVec.toNat (w := 32) (iblk m c 0 t i) + 8 ≤ 524288 := fun i => by
    have hi : (i 0).val < 2048 := (i 0).isLt
    have e : i = ix1 (⟨8 * ((i 0).val / 8) + (i 0).val % 8, by omega⟩ : Fin 2048) := by
      funext a
      match a with
      | ⟨0, _⟩ => refine Fin.ext ?_; show (i 0).val = 8 * ((i 0).val / 8) + (i 0).val % 8; omega
    rw [e]
    have := block_slot m c t (⟨(i 0).val / 8, by omega⟩ : Fin 256) (⟨(i 0).val % 8, by omega⟩ : Fin 8)
    rw [show iblk m c 0 t (ix1 (⟨8 * ((i 0).val / 8) + (i 0).val % 8, by omega⟩ : Fin 2048)) = _ from this]
    exact h _
  unfold blockVal
  rw [out_at]
  congr 1
  · funext j
    rw [summed_at _ _ _ _ r j (fun i => (hslot i).1) (fun i => (hslot i).2), shared_at, block_feature, add_comm (sharedAt _ _ _ _ _)]
    unfold rowAt routedAt
    simp only [block_slot]
    have ex : (iblk m c 7 t : S256x2048.Idx → EReal) (ix2 r j) = (m ((c.tc : Thread nD τ).loc main_arg7) : S8192x2048.Idx → EReal) (ix2 (⟨256 * t.val + r.val, by omega⟩ : Fin 8192) j) := by
      rw [← V_main_arg7 m c]; exact Steps.iblk7_eq m c t _ _ rfl rfl
    have ew : ∀ k : Fin 8, (iblk m c 2 t : S256x8.Idx → EReal) (ix2 r k) = (m ((c.tc : Thread nD τ).loc main_arg1) : S8192x8.Idx → EReal) (ix2 (⟨256 * t.val + r.val, by omega⟩ : Fin 8192) k) := fun k => by
      rw [← V_main_arg1 m c]; exact Steps.iblk2_eq m c t _ _ rfl rfl
    have eg : (iblk m c 8 t : S1x1x2048.Idx → EReal) (ix3 0 0 j) = (m ((c.tc : Thread nD τ).loc main_arg8) : S2x12288.Idx → EReal) (ix2 (⟨(256 * t.val + r.val) / 4096, by omega⟩ : Fin 2) (⟨10240 + j.val, by omega⟩ : Fin 12288)) := by
      rw [← gates_at m c]
      exact Steps.iblk8_eq m c t _ _ (by show 6 * ((256 * t.val + r.val) / 4096) + 5 = 6 * (t.val / 16) + 5; omega) rfl
    rw [ex, eg]
    simp only [ew]
    rw [Steps.iblk4_eq, Steps.iblk5_eq, Steps.iblk6_eq, sg_all, su_all, sd_all, V_main_arg3]
  · funext y
    rw [Steps.iblk9_eq]
    refine (gain_at m c (y 0)).trans ?_
    congr 1
    funext a
    match a with
    | ⟨0, _⟩ => rfl

/-- Point `t` stores the result's row block `t`. -/
theorem at_10 (t : Fin cfg0.N) : win0_10.index t 0 = t.val ∧ win0_10.index t 1 = 0 := by
  revert t; show ∀ t : Fin grid0.N, win0_10.index t 0 = t.val ∧ win0_10.index t 1 = 0; decide +kernel

/-- An element of the result after the run. -/
theorem ker_value (c : Dev nD) (h : RowsOk (m ((c.tc : Thread nD τ).loc main_arg0))) (T : Fin 8192) (j : Fin 2048) :
    ((dats m 0 c).arrAt 10 cfg0.N : S8192x2048.Idx → EReal) (ix2 T j)
      = normAt (rowAt (m ((c.tc : Thread nD τ).loc main_arg0)) h (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) T) (m ((c.tc : Thread nD τ).loc main_arg9)) j := by
  refine (dats m 0 c).arrAt_forall_of_covers 10 (fun i v => (v : EReal) = normAt (rowAt (m ((c.tc : Thread nD τ).loc main_arg0)) h (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (i 0)) (m ((c.tc : Thread nD τ).loc main_arg9)) (i 1)) (by decide +kernel) (fun t hf y => ?_) (ix2 T j)
  rw [Steps.after_10]
  have ht := points t
  have h0 : (y 0).val < 256 := (y 0).isLt
  have h1 : (y 1).val < 2048 := (y 1).isLt
  have e0 : ((cfg0.win 10).blk t).view.emb y 0 = (⟨256 * t.val + (y 0).val, by omega⟩ : Fin 8192) := Fin.ext (by
    blk_simp
    rw [(at_10 t).1]
    show t.val * 256 + (y 0).val = 256 * t.val + (y 0).val
    omega)
  have e1 : ((cfg0.win 10).blk t).view.emb y 1 = (⟨(y 1).val, h1⟩ : Fin 2048) := Fin.ext (by
    blk_simp
    rw [(at_10 t).2]
    show 0 * 2048 + (y 1).val = (y 1).val
    omega)
  rw [e0, e1, ← block_at m c h t (⟨(y 0).val, h0⟩ : Fin 256)]
  show blockVal m c t _ = blockVal m c t _
  congr 1
  funext a
  match a with
  | ⟨0, _⟩ => rfl
  | ⟨1, _⟩ => rfl

end Cert.Proof
end
-- ==== Proof.RefVal.lean ====
/- The reference's result read at an index. -/
module

public import proofs.«01_k».proof.Proof.Spec
public import proofs.«01_k».proof.Proof.Gen.ReferenceIdeal.Run
public import Idealize.ShloMosaic.Lib.BitcastConvert

@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-- A half of a word of the packed tokens. -/
theorem ref_half (T : Fin 8192) (q : Fin 1024) (h : Fin 2) :
    res_main_v2 V0 (ix3 T q h) = Ideal.ofBits .bf16 (((V0 (Proc.devRef .tc main_arg2) : S65536x128.Idx → BitVec 32) (ix2 (⟨T.val * 8 + q.val / 128, by omega⟩ : Fin 65536) (⟨q.val % 128, by omega⟩ : Fin 128))).extractLsb' (h.val * 16) 16) := by
  unfold res_main_v2
  pointwise

/-- A half of a word of the packed rows of the experts. -/
theorem ref_half_rows (T : Fin 65536) (q : Fin 1024) (h : Fin 2) :
    res_main_v10 V0 (ix3 T q h) = Ideal.ofBits .bf16 (((V0 (Proc.devRef .tc main_arg3) : S524288x128.Idx → BitVec 32) (ix2 (⟨T.val * 8 + q.val / 128, by omega⟩ : Fin 524288) (⟨q.val % 128, by omega⟩ : Fin 128))).extractLsb' (h.val * 16) 16) := by
  unfold res_main_v10
  pointwise

/-- The reference's features of token `T`. -/
theorem ref_feature (T : Fin 8192) (j : Fin 2048) :
    res_main_v7 V0 (ix2 T j) = feature (n := 65536) (V0 (Proc.devRef .tc main_arg2)) T.val (by omega) j := by
  unfold res_main_v7
  pointwise
  split
  · rw [ref_half]; exact feature_low (n := 65536) (V0 (Proc.devRef .tc main_arg2)) T.val _ j ‹_›
  · rw [ref_half]; exact feature_high (n := 65536) (V0 (Proc.devRef .tc main_arg2)) T.val _ j ‹_›

/-- The reference's features of the experts' row `T`. -/
theorem ref_feature_rows (T : Fin 65536) (j : Fin 2048) :
    res_main_v15 V0 (ix2 T j) = feature (n := 524288) (V0 (Proc.devRef .tc main_arg3)) T.val (by omega) j := by
  unfold res_main_v15
  pointwise
  split
  · rw [ref_half_rows]; exact feature_low (n := 524288) (V0 (Proc.devRef .tc main_arg3)) T.val _ j ‹_›
  · rw [ref_half_rows]; exact feature_high (n := 524288) (V0 (Proc.devRef .tc main_arg3)) T.val _ j ‹_›

/-- The row gather at an index: row `idx[T, 0]` of the table, read as a signed number and kept inside the table. -/
theorem gather_row {α : Type} (x : S65536x2048.Idx → α) (idx : IVec S8192x1 32) (T : Fin 8192) (j : Fin 2048) :
    Host.gather gather_S65536x2048_S8192x1_S8192x2048_1_0_n_n_0_1_12048 x idx (ix2 T j)
      = x (ix2 (⟨min (idx (ix2 T 0)).toInt.toNat 65535, by omega⟩ : Fin 65536) j) := by
  unfold Host.gather
  congr 1
  funext a
  refine Fin.ext ?_
  let d := gather_S65536x2048_S8192x1_S8192x2048_1_0_n_n_0_1_12048
  show d.start (ix2 T j) idx a + d.batchCoord (ix2 T j) a + d.offCoord (ix2 T j) a = _
  rw [GatherDims.batchCoord_eq_zero _ _ _ List.not_mem_nil]
  match a with
  | ⟨0, _⟩ =>
    show d.start (ix2 T j) idx (0 : Fin 2) + 0 + d.offCoord (ix2 T j) (0 : Fin 2) = min (idx (ix2 T 0)).toInt.toNat 65535
    rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix2 T j) ⟨List.idxOf (0 : Fin 2) d.startIndexMap,
        List.idxOf_lt_length_iff.2 (List.mem_singleton.mpr rfl)⟩ = ix2 T 0 := by
      funext b; refine Fin.ext ?_
      match b with
      | ⟨0, _⟩ => rfl
      | ⟨1, _⟩ => rfl
    erw [hsi]
    rfl
  | ⟨1, _⟩ =>
    have hs : d.start (ix2 T j) idx (1 : Fin 2) = 0 := by
      unfold GatherDims.start
      exact dif_neg (by decide)
    show d.start (ix2 T j) idx (1 : Fin 2) + 0 + d.offCoord (ix2 T j) (1 : Fin 2) = j.val
    rw [hs]
    unfold GatherDims.offCoord
    rw [dif_pos (show (1 : Fin 2) ∈ d.sKept by decide)]
    exact Nat.zero_add _

/-- Floor division by eight, as the host spells it, of a row of the table. -/
theorem slot_word (a : BitVec 32) (h : 8 ∣ a.toNat) (hb : a.toNat + 8 ≤ 524288) (c : BitVec 1) (z : BitVec 32) :
    Scalar.select (IntOp.andi c (IntOp.cmpi .ne (IntOp.remsi .host a 8#32) 0#32)) z (IntOp.divsi .host a 8#32) = BitVec.ofNat 32 (a.toNat / 8) := by
  have hm : a.msb = false := by rw [BitVec.msb_eq_false_iff_two_mul_lt]; omega
  have hc : ¬ IntOp.SDivCorner a 8#32 := by
    unfold IntOp.SDivCorner; intro hh; rcases hh with hh | hh
    · exact absurd hh (by decide)
    · exact absurd hh.2 (by decide)
  have hs : IntOp.remsi .host a 8#32 = 0#32 := by
    unfold IntOp.remsi
    rw [if_neg hc, BitVec.srem_eq, hm, show (8#32).msb = false from by decide]
    apply BitVec.eq_of_toNat_eq
    show (a % 8#32).toNat = 0
    rw [BitVec.toNat_umod]
    exact Nat.mod_eq_zero_of_dvd h
  have hd : IntOp.divsi .host a 8#32 = BitVec.ofNat 32 (a.toNat / 8) := by
    unfold IntOp.divsi
    rw [if_neg hc, BitVec.sdiv_eq, hm, show (8#32).msb = false from by decide]
    apply BitVec.eq_of_toNat_eq
    show (a / 8#32).toNat = _
    rw [BitVec.toNat_udiv, show (8#32).toNat = 8 from rfl, BitVec.toNat_ofNat]
    omega
  rw [hs, hd, show IntOp.cmpi .ne 0#32 0#32 = 0#1 from by decide]
  unfold IntOp.andi Scalar.select
  rw [BitVec.and_zero, if_neg (by decide)]

/-- The reference's slot of choice `k` of token `T`. -/
theorem ref_slot (h : RowsOk (V0 (Proc.devRef .tc main_arg0))) (k : Fin 8) (T : Fin 8192) :
    res_main_v16 V0 (ix2 k T) = BitVec.ofNat 32 (BitVec.toNat (w := 32) (V0 (Proc.devRef .tc main_arg0) (ix2 k T)) / 8) := by
  unfold res_main_v16 res_main_call0_v2 res_main_call0_v0
  pointwise
  exact slot_word _ (h _).1 (h _).2 _ _

/-- A slot below the number of rows is the row that the gather reads: it is not negative, and inside the table. -/
theorem row_of_slot (n : ℕ) (h : n < 65536) :
    min (Scalar.select (IntOp.cmpi .slt (BitVec.ofNat 32 n) 0#32) (IntOp.addi (BitVec.ofNat 32 n) 65536#32) (BitVec.ofNat 32 n)).toInt.toNat 65535 = n := by
  have e : (BitVec.ofNat 32 n).toInt = n := by
    rw [BitVec.toInt_eq_toNat_cond, BitVec.toNat_ofNat, Nat.mod_eq_of_lt (by omega), if_pos (by omega)]
  rw [show IntOp.cmpi .slt (BitVec.ofNat 32 n) 0#32 = 0#1 from by
    show BitVec.ofBool (decide ((BitVec.ofNat 32 n).toInt < (0#32).toInt)) = 0#1
    rw [decide_eq_false]; rfl
    rw [e]; simp only [BitVec.toInt_zero]; omega]
  unfold Scalar.select
  rw [if_neg (by decide), e]
  omega

/-- One choice's row of the table of rows, read through its slot. -/
theorem ref_choice (h : RowsOk (V0 (Proc.devRef .tc main_arg0))) (T : Fin 8192) (j : Fin 2048) (k : Fin 8) (s : BitVec 32)
    (hs : s = res_main_v16 V0 (ix2 k T))
    (hr : min (Scalar.select (IntOp.cmpi .slt s 0#32) (IntOp.addi s 65536#32) s).toInt.toNat 65535 < 65536) :
    res_main_v15 V0 (ix2 (⟨min (Scalar.select (IntOp.cmpi .slt s 0#32) (IntOp.addi s 65536#32) s).toInt.toNat 65535, hr⟩ : Fin 65536) j)
      = feature (n := 524288) (V0 (Proc.devRef .tc main_arg3)) (BitVec.toNat (w := 32) (V0 (Proc.devRef .tc main_arg0) (ix2 k T)) / 8)
          (by have := h (ix2 k T); omega) j := by
  have hk := h (ix2 k T)
  rw [ref_slot V0 h] at hs
  subst hs
  rw [ref_feature_rows]
  simp only [row_of_slot _ (show BitVec.toNat (w := 32) (V0 (Proc.devRef .tc main_arg0) (ix2 k T)) / 8 < 65536 by omega)]

set_option maxHeartbeats 2000000 in
/-- The reference's routed sum. -/
theorem ref_routed (h : RowsOk (V0 (Proc.devRef .tc main_arg0))) (T : Fin 8192) (j : Fin 2048) :
    res_main_v121 V0 (ix2 T j) = routedAt (V0 (Proc.devRef .tc main_arg0)) h (V0 (Proc.devRef .tc main_arg1)) (V0 (Proc.devRef .tc main_arg3)) T j := by
  unfold res_main_v121
  pointwise
  simp only [gather_row]
  pointwise [res_main_v19, res_main_v33, res_main_v46, res_main_v59, res_main_v72, res_main_v85, res_main_v98, res_main_v111]
  unfold routedAt
  rw [Fin.sum_univ_eight]
  rw [ref_choice V0 h T j 0 _ rfl, ref_choice V0 h T j 1 _ rfl, ref_choice V0 h T j 2 _ rfl, ref_choice V0 h T j 3 _ rfl,
    ref_choice V0 h T j 4 _ rfl, ref_choice V0 h T j 5 _ rfl, ref_choice V0 h T j 6 _ rfl, ref_choice V0 h T j 7 _ rfl]

/-- The reference's residual row. -/
theorem ref_row (h : RowsOk (V0 (Proc.devRef .tc main_arg0))) (b : Fin 2) (s : Fin 4096) (j : Fin 2048) :
    res_main_v142 V0 (ix3 b s j) = rowAt (V0 (Proc.devRef .tc main_arg0)) h (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
      (⟨b.val * 4096 + s.val, by omega⟩ : Fin 8192) j := by
  unfold res_main_v142
  pointwise [res_main_v125]
  have e : (b.val * 4096 + s.val) / 4096 = b.val := by omega
  rw [ref_routed V0 h]
  simp only [ref_feature]
  unfold rowAt sharedAt
  simp only [e]

end Cert.Proof
end
-- ==== Proof.RefOut.lean ====
/- The reference's result, whole, read at an index. -/
module

public import proofs.«01_k».proof.Proof.RefVal
public import proofs.«01_k».proof.Proof.Gen.ReferenceIdeal.Run
public import Idealize.ShloMosaic.Lib.BitcastConvert

@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.StableHlo

variable (V0 : Valuation τ sig (Elt Ideal))

set_option maxHeartbeats 2000000 in
/-- The reference's result: the normalised residual row. -/
theorem ref_value (h : RowsOk (V0 (Proc.devRef .tc main_arg0))) (T : Fin 8192) (j : Fin 2048) (x : (Proc.devRef .tc main_v156 : DevRef τ sig).ty.Contents (Elt Ideal))
    (hx : x = shapeCast _ (mulf (mulf (res_main_v142 V0) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (res_main_v142 V0) (res_main_v142 V0)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (V0 (Proc.devRef .tc main_arg9))))) shapeCasts_S2x4096x2048_S8192x2048) :
    x (ix2 T j) = normAt (rowAt (V0 (Proc.devRef .tc main_arg0)) h (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) T)
      (V0 (Proc.devRef .tc main_arg9)) j := by
  subst hx
  pointwise
  have e : (⟨T.val / 4096 * 4096 + T.val % 4096, by omega⟩ : Fin 8192) = T := Fin.ext (by show T.val / 4096 * 4096 + T.val % 4096 = T.val; omega)
  simp only [ref_row V0 h, e]
  rfl

end Cert.Proof
end
-- ==== Proof.Equal.lean ====
/- The kernel and the reference end with equal results: both are the formula of `Spec`. -/
module

public import proofs.«01_k».proof.Proof.Frames
public import proofs.«01_k».proof.Proof.KerOut
public import proofs.«01_k».proof.Proof.RefOut

@[expose] public section

set_option maxRecDepth 16384

noncomputable section

namespace Cert.Proof

open Idealize.ShloMosaic Idealize.ShloMosaic.TcCoe Idealize.ShloMosaic.StableHlo Idealize.SL.Sem
open Cert.KernelIdeal.Steps (rows_of_pre inTable_of run_values dats)

/-- The formula depends on the slot table alone, not on the proof that its entries are in range. -/
theorem rowAt_congr {a b : (⟨2, ![8, 8192]⟩ : Shape).Idx → BitVec 32} (e : a = b) (h : RowsOk a) (h' : RowsOk b) : rowAt a h = rowAt b h' := by
  subst e; rfl

/-- From equal arguments the kernel and the reference end with equal results. -/
theorem equal : Cert.algebraic_KernelIdeal_ReferenceIdeal := fun m g m' g' hp ha => by
  have hr : ∀ c : Dev Cert.KernelIdeal.nD, RowsOk (m ((c.tc : Thread Cert.KernelIdeal.nD Cert.KernelIdeal.τ).loc Cert.KernelIdeal.main_arg0)) := fun c => rows_of_pre (F := Ideal) _ (hp c)
  refine ⟨fun c => (dats m 0 c).arrAt 10 Cert.KernelIdeal.cfg0.N, ?_, ?_⟩
  · exact (θ_run Cert.KernelIdeal.defs _ _).mono (fun _ e c => e.1 c)
      (run_values (F := Ideal) m g fun c => inTable_of m c (hr c))
  · refine (θ_run Cert.ReferenceIdeal.defs _ _).mono (fun r e c => ⟨?_, (e c).2⟩) (Cert.ReferenceIdeal.Value.run m' g')
    obtain ⟨a0, a1, a2, a3, a4, a5, a6, a7, a8, a9⟩ := ha c
    have hr' : RowsOk (launchContents m' c (Proc.devRef .tc Cert.ReferenceIdeal.main_arg0)) := by
      show RowsOk (m' ((c.tc : Thread Cert.ReferenceIdeal.nD Cert.ReferenceIdeal.τ).loc Cert.ReferenceIdeal.main_arg0))
      rw [a0]; exact hr c
    have key : ∀ (T : Fin 8192) (j : Fin 2048), _ := fun T j => ref_value (launchContents m' c) hr' T j _ (e c).1
    refine funext fun (i : Cert.KernelIdeal.S8192x2048.Idx) => ?_
    rw [show i = ix2 (i 0) (i 1) from by
      funext a
      match a with
      | ⟨0, _⟩ => rfl
      | ⟨1, _⟩ => rfl]
    refine (key (i 0) (i 1)).trans (Eq.trans ?_ (ker_value m c (hr c) (i 0) (i 1)).symm)
    change normAt (rowAt (m' ((c.tc : Thread Cert.ReferenceIdeal.nD Cert.ReferenceIdeal.τ).loc Cert.ReferenceIdeal.main_arg0)) hr'
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (i 0))
      (m' ((c.tc : Thread Cert.ReferenceIdeal.nD Cert.ReferenceIdeal.τ).loc Cert.ReferenceIdeal.main_arg9)) (i 1) = _
    rw [rowAt_congr a0 hr' (hr c), a1, a2, a3, a4, a5, a6, a7, a8, a9]

end Cert.Proof
end
-- ==== Proof.DenseSpec.lean ====
/- The dense feed-forward as a formula: what one element of its result is, in extended reals, of the arguments. -/
module

public import proofs.«01_k».proof.Proof.Spec

@[expose] public section

noncomputable section

namespace Cert.Proof

open Idealize.ShloMosaic

/-- The weights of expert `e`. -/
def expertOf {a b : ℕ} (w : (⟨4, ![1, 64, a, b]⟩ : Shape).Idx → EReal) (e : Fin 64) : (⟨3, ![1, a, b]⟩ : Shape).Idx → EReal :=
  fun y => w (ix4 0 e (y 1) (y 2))

/-- The shared expert's formula reads its weights at first index 0 only. -/
theorem sharedAt_congr {t t' : Fin 2048 → EReal} {sg su sg' su' : (⟨3, ![1, 2048, 512]⟩ : Shape).Idx → EReal} {sd sd' : (⟨3, ![1, 512, 2048]⟩ : Shape).Idx → EReal}
    (ht : ∀ k, t k = t' k) (hg : ∀ k l, sg (ix3 0 k l) = sg' (ix3 0 k l)) (hu : ∀ k l, su (ix3 0 k l) = su' (ix3 0 k l))
    (hd : ∀ l j, sd (ix3 0 l j) = sd' (ix3 0 l j)) (j : Fin 2048) : sharedAt t sg su sd j = sharedAt t' sg' su' sd' j := by
  unfold sharedAt
  simp only [ht, hg, hu, hd]

/-- Expert `e` on token `T`, times the token's gate for it. -/
def gatedAt (h : (⟨2, ![8192, 2048]⟩ : Shape).Idx → EReal) (g : (⟨2, ![8192, 64]⟩ : Shape).Idx → EReal)
    (wg wu : (⟨4, ![1, 64, 2048, 512]⟩ : Shape).Idx → EReal) (wd : (⟨4, ![1, 64, 512, 2048]⟩ : Shape).Idx → EReal) (T : Fin 8192) (j : Fin 2048) (e : Fin 64) : EReal :=
  g (ix2 T e) * sharedAt (fun k => h (ix2 T k)) (expertOf wg e) (expertOf wu e) (expertOf wd e) j

/-- All experts on token `T`: each expert's result times the token's gate for it, summed, plus the shared expert's result. -/
def expertsAt (h : (⟨2, ![8192, 2048]⟩ : Shape).Idx → EReal) (g : (⟨2, ![8192, 64]⟩ : Shape).Idx → EReal)
    (wg wu : (⟨4, ![1, 64, 2048, 512]⟩ : Shape).Idx → EReal) (wd : (⟨4, ![1, 64, 512, 2048]⟩ : Shape).Idx → EReal)
    (sg su : (⟨3, ![1, 2048, 512]⟩ : Shape).Idx → EReal) (sd : (⟨3, ![1, 512, 2048]⟩ : Shape).Idx → EReal) (T : Fin 8192) (j : Fin 2048) : EReal :=
  (∑ e : Fin 64, gatedAt h g wg wu wd T j e)
    + sharedAt (fun k => h (ix2 T k)) sg su sd j

/-- The residual row of token `T`: the token, plus the gate of its sequence times all experts' sum. -/
def denseAt (h : (⟨2, ![8192, 2048]⟩ : Shape).Idx → EReal) (g : (⟨2, ![8192, 64]⟩ : Shape).Idx → EReal)
    (wg wu : (⟨4, ![1, 64, 2048, 512]⟩ : Shape).Idx → EReal) (wd : (⟨4, ![1, 64, 512, 2048]⟩ : Shape).Idx → EReal)
    (sg su : (⟨3, ![1, 2048, 512]⟩ : Shape).Idx → EReal) (sd : (⟨3, ![1, 512, 2048]⟩ : Shape).Idx → EReal)
    (x1 : (⟨2, ![8192, 2048]⟩ : Shape).Idx → EReal) (gate : (⟨2, ![2, 12288]⟩ : Shape).Idx → EReal) (T : Fin 8192) (j : Fin 2048) : EReal :=
  x1 (ix2 T j) + gate (ix2 (⟨T.val / 4096, by omega⟩ : Fin 2) (⟨10240 + j.val, by omega⟩ : Fin 12288)) * expertsAt h g wg wu wd sg su sd T j

end Cert.Proof
end
-- ==== Proof.Dense.lean ====
/- The dense feed-forward: what one point of the grid leaves in the accumulator and in the result's block. -/
module

public import proofs.«01_k».proof.Proof.DenseSpec
public import proofs.«01_k».proof.Proof.Gen.Kernel2Ideal.Value
public import Idealize.ShloMosaic.Lib.Pointwise
public import Idealize.ShloMosaic.Lib.Pipeline.Value

@[expose] public section

set_option maxRecDepth 16384

noncomputable section

namespace Cert.Kernel2Ideal.Dense

open Cert.Kernel2Ideal Cert.Kernel2Ideal.Gen Cert.Proof
open Idealize.ShloMosaic Idealize.ShloMosaic.TcCoe Idealize.ShloMosaic.Tactic
open Idealize.ShloMosaic.Pipeline (Dat Cfg Window)

theorem zero2 : (![0, 0] : Fin 2 → Nat) = fun _ => 0 := funext fun a => by fin_cases a <;> rfl
theorem zero3 : (![0, 0, 0] : Fin 3 → Nat) = fun _ => 0 := funext fun a => by fin_cases a <;> rfl

section

variable {F : FTy → Type} [FloatOps F]

variable (c : Dev nD) (i : grid0.Coords) (a2 : Memref sig .tc .vmem S512x2048 .bf16) (h2 : a2.IsWhole) (a3 : Memref sig .tc .vmem S512x64 .f32) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S2048x512 .bf16) (h7 : a7.IsWhole) (a8 : Memref sig .tc .vmem S2048x512 .bf16) (h8 : a8.IsWhole) (a9 : Memref sig .tc .vmem S512x2048 .bf16) (h9 : a9.IsWhole) (a10 : Memref sig .tc .vmem S512x2048 .f32) (h10 : a10.IsWhole) (a11 : Memref sig .tc .vmem S1x1x2048 .f32) (h11 : a11.IsWhole) (a12 : Memref sig .tc .vmem S1x2048 .f32) (h12 : a12.IsWhole) (a13 : Memref sig .tc .vmem S512x2048 .f32) (h13 : a13.IsWhole) (a14 : Memref sig .tc .vmem S512x2048 .f32) (h14 : a14.IsWhole)
  (x0 : Vec F S512x2048 .bf16) (x1 : Vec F S512x64 .f32) (x2 : Vec F S1x2048x512 .bf16) (x3 : Vec F S1x2048x512 .bf16) (x4 : Vec F S1x512x2048 .bf16) (x5 : Vec F S2048x512 .bf16) (x6 : Vec F S2048x512 .bf16) (x7 : Vec F S512x2048 .bf16) (x8 : Vec F S512x2048 .f32) (x9 : Vec F S1x1x2048 .f32) (x10 : Vec F S1x2048 .f32)

/-- The first expert's point: the shared experts' share, plus the point's expert. -/
theorem acc_A (hc0 : cond0_0 i) (hc1 : ¬cond0_1 i) :
    sout0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay1 (k0_pay4 i x1) (k0_pay3 x0 x5 x6 x7) (k0_pay5 x0 x2 x3 x4) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S512x2048) zero2, View.readCov_unit_zero (S := S512x2048) _ zero2]
  simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S512x2048) zero2, View.ld_unit_zero (S := S512x64) zero2, View.ld_unit_zero (S := S2048x512) zero2, View.ld_unit_zero (S := S1x2048) zero2, View.ld_unit_zero (S := S1x2048x512) zero3, View.ld_unit_zero (S := S1x512x2048) zero3, View.ld_unit_zero (S := S1x1x2048) zero3]

/-- A later expert's point adds its expert. -/
theorem acc_B (hc0 : ¬cond0_0 i) (hc1 : ¬cond0_1 i) (xs : Vec F S512x2048 .f32) :
    sout0_B_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs = k0_pay1 (k0_pay4 i x1) xs (k0_pay5 x0 x2 x3 x4) := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs)]
  unfold kernelRun0_B
  dsimp only
  sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S512x2048) zero2, View.ld_unit_zero (S := S512x64) zero2, View.ld_unit_zero (S := S2048x512) zero2, View.ld_unit_zero (S := S1x2048) zero2, View.ld_unit_zero (S := S1x2048x512) zero3, View.ld_unit_zero (S := S1x512x2048) zero3, View.ld_unit_zero (S := S1x1x2048) zero3]

/-- The last expert's point adds its expert … -/
theorem acc_C (hc0 : ¬cond0_0 i) (hc1 : cond0_1 i) (xs : Vec F S512x2048 .f32) :
    sout0_C_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs = k0_pay1 (k0_pay4 i x1) xs (k0_pay5 x0 x2 x3 x4) := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs)]
  unfold kernelRun0_C
  dsimp only
  sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S512x2048) zero2, View.ld_unit_zero (S := S512x64) zero2, View.ld_unit_zero (S := S2048x512) zero2, View.ld_unit_zero (S := S1x2048) zero2, View.ld_unit_zero (S := S1x2048x512) zero3, View.ld_unit_zero (S := S1x512x2048) zero3, View.ld_unit_zero (S := S1x1x2048) zero3]

/-- … and finishes the row block. -/
theorem out_C (hc0 : ¬cond0_0 i) (hc1 : cond0_1 i) (xs : Vec F S512x2048 .f32) :
    out0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xs = k0_pay2 x8 x9 (k0_pay1 (k0_pay4 i x1) xs (k0_pay5 x0 x2 x3 x4)) x10 := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xs)]
  unfold kernelRun0_C
  dsimp only
  sl_unfold_words
  rw [View.canon_unit_zero zero2, View.readCov_unit_zero (S := S512x2048) _ zero2]
  simp only [View.readAt_eq_ld, h2.read_unread, h3.read_unread, h4.read_unread, h5.read_unread, h6.read_unread, h7.read_unread, h8.read_unread, h9.read_unread, h10.read_unread, h11.read_unread, h12.read_unread, h14.read_unread, View.ld_unit_zero (S := S512x2048) zero2, View.ld_unit_zero (S := S512x64) zero2, View.ld_unit_zero (S := S2048x512) zero2, View.ld_unit_zero (S := S1x2048) zero2, View.ld_unit_zero (S := S1x2048x512) zero3, View.ld_unit_zero (S := S1x512x2048) zero3, View.ld_unit_zero (S := S1x1x2048) zero3]

end

end Cert.Kernel2Ideal.Dense
end
-- ==== Proof.DenseVal.lean ====
/- The dense feed-forward: the steps of one point of the grid, read at an index. -/
module

public import proofs.«01_k».proof.Proof.Dense

@[expose] public section

set_option maxRecDepth 16384

noncomputable section

namespace Cert.Kernel2Ideal.Dense

open Cert.Kernel2Ideal Cert.Kernel2Ideal.Gen Cert.Proof
open Idealize.ShloMosaic Idealize.ShloMosaic.TcCoe

/-- The shared expert on the block's row `r`. -/
theorem shared_at (h : Vec Ideal S512x2048 .bf16) (sg su : Vec Ideal S2048x512 .bf16) (sd : Vec Ideal S512x2048 .bf16) (r : Fin 512) (j : Fin 2048) :
    k0_pay3 (F := Ideal) h sg su sd (ix2 r j)
      = sharedAt (fun k => h (ix2 r k)) (fun y => sg (ix2 (y 1) (y 2))) (fun y => su (ix2 (y 1) (y 2))) (fun y => sd (ix2 (y 1) (y 2))) j := by
  unfold k0_pay3
  pointwise
  simp only [zero_sub]
  rfl

/-- The point's expert on the block's row `r`. -/
theorem expert_at (h : Vec Ideal S512x2048 .bf16) (wg wu : Vec Ideal S1x2048x512 .bf16) (wd : Vec Ideal S1x512x2048 .bf16) (r : Fin 512) (j : Fin 2048) :
    k0_pay5 (F := Ideal) h wg wu wd (ix2 r j) = sharedAt (fun k => h (ix2 r k)) wg wu wd j := by
  unfold k0_pay5
  pointwise
  simp only [zero_sub]
  rfl

/-- Of the row's gates the point's one: the others are masked before the sum over them. -/
theorem gate_at (i : grid0.Coords) (g : Vec Ideal S512x64 .f32) (r : Fin 512) (e : Fin 64) (he : (i 1).val = e.val) :
    k0_pay4 (F := Ideal) i g (ix2 r 0) = (g : S512x64.Idx → EReal) (ix2 r e) := by
  unfold k0_pay4
  pointwise
  rw [Finset.sum_eq_single e]
  · rw [he, show IntOp.cmpi .eq (BitVec.ofNat 32 e.val) (BitVec.ofNat 32 e.val) = 1#1 from by unfold IntOp.cmpi; simp]
    rfl
  · intro k _ hk
    have : (BitVec.ofNat 32 k.val) ≠ (BitVec.ofNat 32 e.val) := fun h => hk (Fin.ext (by
      have := congrArg BitVec.toNat h
      simp only [BitVec.toNat_ofNat] at this
      omega))
    rw [he, show IntOp.cmpi .eq (BitVec.ofNat 32 k.val) (BitVec.ofNat 32 e.val) = 0#1 from by unfold IntOp.cmpi; rw [beq_eq_false_iff_ne.mpr this]; rfl]
    rfl
  · exact fun h => absurd (Finset.mem_univ _) h

/-- The accumulator after the point: what it held, plus the gate times the expert. -/
theorem add_at (g : FVec Ideal S512x1 .f32) (a : Vec Ideal S512x2048 .f32) (v : FVec Ideal S512x2048 .f32) (r : Fin 512) (j : Fin 2048) :
    k0_pay1 (F := Ideal) g a v (ix2 r j) = (a (ix2 r j) : EReal) + (g (ix2 r 0) : EReal) * v (ix2 r j) := by
  unfold k0_pay1
  pointwise

/-- The row block's result. -/
theorem finish_at (x : Vec Ideal S512x2048 .f32) (g : Vec Ideal S1x1x2048 .f32) (a : Vec Ideal S512x2048 .f32) (gf : Vec Ideal S1x2048 .f32) (r : Fin 512) (j : Fin 2048) :
    k0_pay2 (F := Ideal) x g a gf (ix2 r j)
      = normAt (fun j => x (ix2 r j) + g (ix3 0 0 j) * a (ix2 r j)) (fun y => gf (ix2 0 (y 0))) j := by
  unfold k0_pay2
  pointwise
  rfl

end Cert.Kernel2Ideal.Dense
end
-- ==== Proof.DenseBlocks.lean ====
/- The dense feed-forward: the kernel's result, whole, read at an index. -/
module

public import proofs.«01_k».proof.Proof.DenseVal
public import Idealize.ShloMosaic.Lib.Pipeline.ValueKit.Geometry

@[expose] public section

set_option maxRecDepth 16384

noncomputable section

namespace Cert.Kernel2Ideal.Dense

open Cert.Kernel2Ideal Cert.Kernel2Ideal.Gen Cert.Proof
open Idealize.ShloMosaic Idealize.ShloMosaic.TcCoe Idealize.ShloMosaic.Tactic
open Idealize.ShloMosaic.Pipeline (Dat Cfg Window)

variable (m : (ℓ : Loc nD τ sig) → Buf (Elt Ideal) ℓ)

theorem points (t : Fin cfg0.N) : t.val < 1024 := by have := N_0; have h : t.val < grid0.N := t.isLt; omega

/-- Row `r` of the row block of point `n`. -/
def rowOf (n : ℕ) (h : n < 1024) (r : Fin 512) : Fin 8192 := ⟨512 * (n / 64) + r.val, by omega⟩

/-- The expert of point `n`. -/
def pointExpert (n : ℕ) : Fin 64 := ⟨n % 64, by omega⟩

/-! ### Where the blocks lie -/

theorem at_0 (t : Fin cfg0.N) : win0_0.index t 0 = t.val / 64 ∧ win0_0.index t 1 = 0 := by
  revert t; show ∀ t : Fin grid0.N, win0_0.index t 0 = t.val / 64 ∧ win0_0.index t 1 = 0; decide +kernel
theorem at_1 (t : Fin cfg0.N) : win0_1.index t 0 = t.val / 64 ∧ win0_1.index t 1 = 0 := by
  revert t; show ∀ t : Fin grid0.N, win0_1.index t 0 = t.val / 64 ∧ win0_1.index t 1 = 0; decide +kernel
theorem at_8 (t : Fin cfg0.N) : win0_8.index t 0 = t.val / 64 ∧ win0_8.index t 1 = 0 := by
  revert t; show ∀ t : Fin grid0.N, win0_8.index t 0 = t.val / 64 ∧ win0_8.index t 1 = 0; decide +kernel
theorem at_11 (t : Fin cfg0.N) : win0_11.index t 0 = t.val / 64 ∧ win0_11.index t 1 = 0 := by
  revert t; show ∀ t : Fin grid0.N, win0_11.index t 0 = t.val / 64 ∧ win0_11.index t 1 = 0; decide +kernel
theorem at_2 (t : Fin cfg0.N) : win0_2.index t 0 = t.val % 64 ∧ win0_2.index t 1 = 0 ∧ win0_2.index t 2 = 0 := by
  revert t; show ∀ t : Fin grid0.N, win0_2.index t 0 = t.val % 64 ∧ win0_2.index t 1 = 0 ∧ win0_2.index t 2 = 0; decide +kernel
theorem at_3 (t : Fin cfg0.N) : win0_3.index t 0 = t.val % 64 ∧ win0_3.index t 1 = 0 ∧ win0_3.index t 2 = 0 := by
  revert t; show ∀ t : Fin grid0.N, win0_3.index t 0 = t.val % 64 ∧ win0_3.index t 1 = 0 ∧ win0_3.index t 2 = 0; decide +kernel
theorem at_4 (t : Fin cfg0.N) : win0_4.index t 0 = t.val % 64 ∧ win0_4.index t 1 = 0 ∧ win0_4.index t 2 = 0 := by
  revert t; show ∀ t : Fin grid0.N, win0_4.index t 0 = t.val % 64 ∧ win0_4.index t 1 = 0 ∧ win0_4.index t 2 = 0; decide +kernel
theorem at_5 (t : Fin cfg0.N) : win0_5.index t 0 = 0 ∧ win0_5.index t 1 = 0 := by
  revert t; show ∀ t : Fin grid0.N, win0_5.index t 0 = 0 ∧ win0_5.index t 1 = 0; decide +kernel
theorem at_6 (t : Fin cfg0.N) : win0_6.index t 0 = 0 ∧ win0_6.index t 1 = 0 := by
  revert t; show ∀ t : Fin grid0.N, win0_6.index t 0 = 0 ∧ win0_6.index t 1 = 0; decide +kernel
theorem at_7 (t : Fin cfg0.N) : win0_7.index t 0 = 0 ∧ win0_7.index t 1 = 0 := by
  revert t; show ∀ t : Fin grid0.N, win0_7.index t 0 = 0 ∧ win0_7.index t 1 = 0; decide +kernel
theorem at_10 (t : Fin cfg0.N) : win0_10.index t 0 = 0 ∧ win0_10.index t 1 = 0 := by
  revert t; show ∀ t : Fin grid0.N, win0_10.index t 0 = 0 ∧ win0_10.index t 1 = 0; decide +kernel
theorem at_9 (t : Fin cfg0.N) : win0_9.index t 0 = 6 * (t.val / 512) + 5 ∧ win0_9.index t 1 = 0 ∧ win0_9.index t 2 = 0 := by
  revert t; show ∀ t : Fin grid0.N, win0_9.index t 0 = 6 * (t.val / 512) + 5 ∧ win0_9.index t 1 = 0 ∧ win0_9.index t 2 = 0; decide +kernel
theorem coord_at (t : Fin cfg0.N) : (grid0.coords t 1).val = t.val % 64 := by
  revert t; show ∀ t : Fin grid0.N, (grid0.coords t 1).val = t.val % 64; decide +kernel

/-! ### What the host lays out for the kernel -/

theorem gate_flat (a : S1x64x2048x512.Idx → EReal) (h) (h') (e : Fin 64) (k : Fin 2048) (l : Fin 512) :
    (truncf (F := Ideal) .bf16 (shapeCast S64x2048x512 a h : FVec Ideal S64x2048x512 .f32) h' : S64x2048x512.Idx → EReal) (ix3 e k l) = a (ix4 0 e k l) := by
  pointwise

theorem down_flat (a : S1x64x512x2048.Idx → EReal) (h) (h') (e : Fin 64) (k : Fin 512) (l : Fin 2048) :
    (truncf (F := Ideal) .bf16 (shapeCast S64x512x2048 a h : FVec Ideal S64x512x2048 .f32) h' : S64x512x2048.Idx → EReal) (ix3 e k l) = a (ix4 0 e k l) := by
  pointwise

theorem sgate_flat (a : S1x2048x512.Idx → EReal) (h) (h') (k : Fin 2048) (l : Fin 512) :
    (truncf (F := Ideal) .bf16 (shapeCast S2048x512 a h : FVec Ideal S2048x512 .f32) h' : S2048x512.Idx → EReal) (ix2 k l) = a (ix3 0 k l) := by
  pointwise

theorem sdown_flat (a : S1x512x2048.Idx → EReal) (h) (h') (k : Fin 512) (l : Fin 2048) :
    (truncf (F := Ideal) .bf16 (shapeCast S512x2048 a h : FVec Ideal S512x2048 .f32) h' : S512x2048.Idx → EReal) (ix2 k l) = a (ix3 0 k l) := by
  pointwise

theorem gates_flat (a : S2x12288.Idx → EReal) (h) (b : Fin 2) (j : Fin 2048) :
    shapeCast S12x1x2048 a h (ix3 (⟨6 * b.val + 5, by omega⟩ : Fin 12) 0 j) = a (ix2 b (⟨10240 + j.val, by omega⟩ : Fin 12288)) := by
  pointwise
  congr 2 <;> refine Fin.ext ?_ <;> simp <;> omega

theorem gain_flat (a : S2048.Idx → EReal) (h) (j : Fin 2048) : shapeCast S1x2048 a h (ix2 0 j) = a (ix1 j) := by
  pointwise

/-! ### The blocks at a point -/

/-- The tokens of the row block. -/
theorem tokens_at (c : Dev nD) (t : Fin cfg0.N) (r : Fin 512) (k : Fin 2048) :
    (iblk m c 0 t : S512x2048.Idx → EReal) (ix2 r k) = (m ((c.tc : Thread nD τ).loc main_arg0) : S8192x2048.Idx → EReal) (ix2 (rowOf t.val (points t) r) k) := by
  have ht := points t
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t 0 * 512 + 1 * r.val = 512 * (t.val / 64) + r.val; rw [(at_0 t).1]; omega
  | ⟨1, _⟩ => show win0_0.index t 1 * 2048 + 1 * k.val = k.val; rw [(at_0 t).2]; omega

/-- The gates of the row block. -/
theorem gates_at (c : Dev nD) (t : Fin cfg0.N) (r : Fin 512) (k : Fin 64) :
    (iblk m c 1 t : S512x64.Idx → EReal) (ix2 r k) = (m ((c.tc : Thread nD τ).loc main_arg1) : S8192x64.Idx → EReal) (ix2 (rowOf t.val (points t) r) k) := by
  have ht := points t
  rw [← V_main_arg1 m c]
  unfold iblk
  rw [View.read_apply]
  show V m c main_arg1 _ = V m c main_arg1 _
  refine congrArg (V m c main_arg1) (funext fun a => Fin.ext ?_)
  match a with
  | ⟨0, _⟩ => show win0_1.index t 0 * 512 + 1 * r.val = 512 * (t.val / 64) + r.val; rw [(at_1 t).1]; omega
  | ⟨1, _⟩ => show win0_1.index t 1 * 64 + 1 * k.val = k.val; rw [(at_1 t).2]; omega

/-- The residual rows of the row block. -/
theorem resid_at (c : Dev nD) (t : Fin cfg0.N) (r : Fin 512) (k : Fin 2048) :
    (iblk m c 8 t : S512x2048.Idx → EReal) (ix2 r k) = (m ((c.tc : Thread nD τ).loc main_arg8) : S8192x2048.Idx → EReal) (ix2 (rowOf t.val (points t) r) k) := by
  have ht := points t
  rw [← V_main_arg8 m c]
  unfold iblk
  rw [View.read_apply]
  show V m c main_arg8 _ = V m c main_arg8 _
  refine congrArg (V m c main_arg8) (funext fun a => Fin.ext ?_)
  match a with
  | ⟨0, _⟩ => show win0_8.index t 0 * 512 + 1 * r.val = 512 * (t.val / 64) + r.val; rw [(at_8 t).1]; omega
  | ⟨1, _⟩ => show win0_8.index t 1 * 2048 + 1 * k.val = k.val; rw [(at_8 t).2]; omega

/-- The gate weights of the point's expert. -/
theorem wg_at (c : Dev nD) (t : Fin cfg0.N) (k : Fin 2048) (l : Fin 512) :
    (iblk m c 2 t : S1x2048x512.Idx → EReal) (ix3 0 k l) = (m ((c.tc : Thread nD τ).loc main_arg2) : S1x64x2048x512.Idx → EReal) (ix4 0 (pointExpert t.val) k l) := by
  have ht := points t
  refine Eq.trans ?_ (gate_flat (m ((c.tc : Thread nD τ).loc main_arg2)) shapeCasts_S1x64x2048x512_S64x2048x512 bitsLt_bf16_f32 (pointExpert t.val) k l)
  unfold iblk
  rw [View.read_apply]
  show V m c main_v2 _ = V m c main_v2 _
  refine congrArg (V m c main_v2) (funext fun a => Fin.ext ?_)
  match a with
  | ⟨0, _⟩ => show win0_2.index t 0 * 1 + 1 * 0 = t.val % 64; rw [(at_2 t).1]; omega
  | ⟨1, _⟩ => show win0_2.index t 1 * 2048 + 1 * k.val = k.val; rw [(at_2 t).2.1]; omega
  | ⟨2, _⟩ => show win0_2.index t 2 * 512 + 1 * l.val = l.val; rw [(at_2 t).2.2]; omega

/-- The up weights of the point's expert. -/
theorem wu_at (c : Dev nD) (t : Fin cfg0.N) (k : Fin 2048) (l : Fin 512) :
    (iblk m c 3 t : S1x2048x512.Idx → EReal) (ix3 0 k l) = (m ((c.tc : Thread nD τ).loc main_arg3) : S1x64x2048x512.Idx → EReal) (ix4 0 (pointExpert t.val) k l) := by
  have ht := points t
  refine Eq.trans ?_ (gate_flat (m ((c.tc : Thread nD τ).loc main_arg3)) shapeCasts_S1x64x2048x512_S64x2048x512 bitsLt_bf16_f32 (pointExpert t.val) k l)
  unfold iblk
  rw [View.read_apply]
  show V m c main_v4 _ = V m c main_v4 _
  refine congrArg (V m c main_v4) (funext fun a => Fin.ext ?_)
  match a with
  | ⟨0, _⟩ => show win0_3.index t 0 * 1 + 1 * 0 = t.val % 64; rw [(at_3 t).1]; omega
  | ⟨1, _⟩ => show win0_3.index t 1 * 2048 + 1 * k.val = k.val; rw [(at_3 t).2.1]; omega
  | ⟨2, _⟩ => show win0_3.index t 2 * 512 + 1 * l.val = l.val; rw [(at_3 t).2.2]; omega

/-- The down weights of the point's expert. -/
theorem wd_at (c : Dev nD) (t : Fin cfg0.N) (k : Fin 512) (l : Fin 2048) :
    (iblk m c 4 t : S1x512x2048.Idx → EReal) (ix3 0 k l) = (m ((c.tc : Thread nD τ).loc main_arg4) : S1x64x512x2048.Idx → EReal) (ix4 0 (pointExpert t.val) k l) := by
  have ht := points t
  refine Eq.trans ?_ (down_flat (m ((c.tc : Thread nD τ).loc main_arg4)) shapeCasts_S1x64x512x2048_S64x512x2048 bitsLt_bf16_f32 (pointExpert t.val) k l)
  unfold iblk
  rw [View.read_apply]
  show V m c main_v6 _ = V m c main_v6 _
  refine congrArg (V m c main_v6) (funext fun a => Fin.ext ?_)
  match a with
  | ⟨0, _⟩ => show win0_4.index t 0 * 1 + 1 * 0 = t.val % 64; rw [(at_4 t).1]; omega
  | ⟨1, _⟩ => show win0_4.index t 1 * 512 + 1 * k.val = k.val; rw [(at_4 t).2.1]; omega
  | ⟨2, _⟩ => show win0_4.index t 2 * 2048 + 1 * l.val = l.val; rw [(at_4 t).2.2]; omega

/-- The shared expert's gate weights. -/
theorem sg_at (c : Dev nD) (t : Fin cfg0.N) (k : Fin 2048) (l : Fin 512) :
    (iblk m c 5 t : S2048x512.Idx → EReal) (ix2 k l) = (m ((c.tc : Thread nD τ).loc main_arg5) : S1x2048x512.Idx → EReal) (ix3 0 k l) := by
  have ht := points t
  refine Eq.trans ?_ (sgate_flat (m ((c.tc : Thread nD τ).loc main_arg5)) shapeCasts_S1x2048x512_S2048x512 bitsLt_bf16_f32 k l)
  unfold iblk
  rw [View.read_apply]
  show V m c main_v8 _ = V m c main_v8 _
  refine congrArg (V m c main_v8) (funext fun a => Fin.ext ?_)
  match a with
  | ⟨0, _⟩ => show win0_5.index t 0 * 2048 + 1 * k.val = k.val; rw [(at_5 t).1]; omega
  | ⟨1, _⟩ => show win0_5.index t 1 * 512 + 1 * l.val = l.val; rw [(at_5 t).2]; omega

/-- The shared expert's up weights. -/
theorem su_at (c : Dev nD) (t : Fin cfg0.N) (k : Fin 2048) (l : Fin 512) :
    (iblk m c 6 t : S2048x512.Idx → EReal) (ix2 k l) = (m ((c.tc : Thread nD τ).loc main_arg6) : S1x2048x512.Idx → EReal) (ix3 0 k l) := by
  have ht := points t
  refine Eq.trans ?_ (sgate_flat (m ((c.tc : Thread nD τ).loc main_arg6)) shapeCasts_S1x2048x512_S2048x512 bitsLt_bf16_f32 k l)
  unfold iblk
  rw [View.read_apply]
  show V m c main_v10 _ = V m c main_v10 _
  refine congrArg (V m c main_v10) (funext fun a => Fin.ext ?_)
  match a with
  | ⟨0, _⟩ => show win0_6.index t 0 * 2048 + 1 * k.val = k.val; rw [(at_6 t).1]; omega
  | ⟨1, _⟩ => show win0_6.index t 1 * 512 + 1 * l.val = l.val; rw [(at_6 t).2]; omega

/-- The shared expert's down weights. -/
theorem sd_at (c : Dev nD) (t : Fin cfg0.N) (k : Fin 512) (l : Fin 2048) :
    (iblk m c 7 t : S512x2048.Idx → EReal) (ix2 k l) = (m ((c.tc : Thread nD τ).loc main_arg7) : S1x512x2048.Idx → EReal) (ix3 0 k l) := by
  have ht := points t
  refine Eq.trans ?_ (sdown_flat (m ((c.tc : Thread nD τ).loc main_arg7)) shapeCasts_S1x512x2048_S512x2048 bitsLt_bf16_f32 k l)
  unfold iblk
  rw [View.read_apply]
  show V m c main_v12 _ = V m c main_v12 _
  refine congrArg (V m c main_v12) (funext fun a => Fin.ext ?_)
  match a with
  | ⟨0, _⟩ => show win0_7.index t 0 * 512 + 1 * k.val = k.val; rw [(at_7 t).1]; omega
  | ⟨1, _⟩ => show win0_7.index t 1 * 2048 + 1 * l.val = l.val; rw [(at_7 t).2]; omega

/-- The gate of the row block's sequence. -/
theorem gate2_at (c : Dev nD) (t : Fin cfg0.N) (j : Fin 2048) :
    (iblk m c 9 t : S1x1x2048.Idx → EReal) (ix3 0 0 j) = (m ((c.tc : Thread nD τ).loc main_arg9) : S2x12288.Idx → EReal) (ix2 (⟨t.val / 512, by have := points t; omega⟩ : Fin 2) (⟨10240 + j.val, by omega⟩ : Fin 12288)) := by
  have ht := points t
  refine Eq.trans ?_ (gates_flat (m ((c.tc : Thread nD τ).loc main_arg9)) shapeCasts_S2x12288_S12x1x2048 (⟨t.val / 512, by omega⟩ : Fin 2) j)
  unfold iblk
  rw [View.read_apply]
  show V m c main_v0 _ = V m c main_v0 _
  refine congrArg (V m c main_v0) (funext fun a => Fin.ext ?_)
  match a with
  | ⟨0, _⟩ => show win0_9.index t 0 * 1 + 1 * 0 = 6 * (t.val / 512) + 5; rw [(at_9 t).1]; omega
  | ⟨1, _⟩ => show win0_9.index t 1 * 1 + 1 * 0 = 0; rw [(at_9 t).2.1]
  | ⟨2, _⟩ => show win0_9.index t 2 * 2048 + 1 * j.val = j.val; rw [(at_9 t).2.2]; omega

/-- The gain. -/
theorem gain_at (c : Dev nD) (t : Fin cfg0.N) (j : Fin 2048) :
    (iblk m c 10 t : S1x2048.Idx → EReal) (ix2 0 j) = (m ((c.tc : Thread nD τ).loc main_arg10) : S2048.Idx → EReal) (ix1 j) := by
  have ht := points t
  refine Eq.trans ?_ (gain_flat (m ((c.tc : Thread nD τ).loc main_arg10)) shapeCasts_S2048_S1x2048 j)
  unfold iblk
  rw [View.read_apply]
  show V m c main_v13 _ = V m c main_v13 _
  refine congrArg (V m c main_v13) (funext fun a => Fin.ext ?_)
  match a with
  | ⟨0, _⟩ => show win0_10.index t 0 * 1 + 1 * 0 = 0; rw [(at_10 t).1]
  | ⟨1, _⟩ => show win0_10.index t 1 * 2048 + 1 * j.val = j.val; rw [(at_10 t).2]; omega

end Cert.Kernel2Ideal.Dense
end
-- ==== Proof.DenseOut.lean ====
/- The dense feed-forward: the accumulator over the experts, and the kernel's result. -/
module

public import proofs.«01_k».proof.Proof.DenseBlocks

@[expose] public section

set_option maxRecDepth 16384

noncomputable section

namespace Cert.Kernel2Ideal.Dense

open Cert.Kernel2Ideal Cert.Kernel2Ideal.Gen Cert.Proof
open Idealize.ShloMosaic Idealize.ShloMosaic.TcCoe Idealize.ShloMosaic.Tactic
open Idealize.ShloMosaic.Pipeline (Dat Cfg Window)

variable (m : (ℓ : Loc nD τ sig) → Buf (Elt Ideal) ℓ)

/-- What expert `e` adds to token `T`. -/
def gated (c : Dev nD) (T : Fin 8192) (j : Fin 2048) (e : Fin 64) : EReal :=
  gatedAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) T j e

/-- The shared expert on token `T`. -/
def sharedOf (c : Dev nD) (T : Fin 8192) (j : Fin 2048) : EReal :=
  sharedAt (fun k => ((m ((c.tc : Thread nD τ).loc main_arg0)) : S8192x2048.Idx → EReal) (ix2 T k)) (m ((c.tc : Thread nD τ).loc main_arg5)) (m ((c.tc : Thread nD τ).loc main_arg6)) (m ((c.tc : Thread nD τ).loc main_arg7)) j

/-- One point's addition to the accumulator. -/
theorem added_at (c : Dev nD) (t : Fin cfg0.N) (a : Vec Ideal S512x2048 .f32) (r : Fin 512) (j : Fin 2048) :
    k0_pay1 (F := Ideal) (k0_pay4 (grid0.coords t) (iblk m c 1 t)) a (k0_pay5 (iblk m c 0 t) (iblk m c 2 t) (iblk m c 3 t) (iblk m c 4 t)) (ix2 r j)
      = (a : S512x2048.Idx → EReal) (ix2 r j) + gated m c (rowOf t.val (points t) r) j (pointExpert t.val) := by
  rw [add_at, expert_at]
  unfold gated gatedAt
  refine congrArg₂ (· + ·) rfl (congrArg₂ (· * ·) ?_ ?_)
  · exact (gate_at _ _ r (pointExpert t.val) (coord_at t)).trans (gates_at m c t r _)
  · exact sharedAt_congr (fun k => tokens_at m c t r k) (fun k l => wg_at m c t k l) (fun k l => wu_at m c t k l) (fun l j => wd_at m c t l j) j

/-- The shared expert on the block's rows. -/
theorem start_at (c : Dev nD) (t : Fin cfg0.N) (r : Fin 512) (j : Fin 2048) :
    k0_pay3 (F := Ideal) (iblk m c 0 t) (iblk m c 5 t) (iblk m c 6 t) (iblk m c 7 t) (ix2 r j) = sharedOf m c (rowOf t.val (points t) r) j := by
  rw [shared_at]
  exact sharedAt_congr (fun k => tokens_at m c t r k) (fun k l => sg_at m c t k l) (fun k l => su_at m c t k l) (fun l j => sd_at m c t l j) j

/-- The accumulator after a row block's first point. -/
theorem acc_first (c : Dev nD) (t : Fin cfg0.N) (h0 : t.val % 64 = 0) (r : Fin 512) (j : Fin 2048) :
    ((outsAt0 m c t.val t.isLt).2 : S512x2048.Idx → EReal) (ix2 r j)
      = sharedOf m c (rowOf t.val (points t) r) j + gated m c (rowOf t.val (points t) r) j (pointExpert t.val) := by
  rw [outsAt0_A m c t h0 (by omega)]
  dsimp only
  rw [acc_A, added_at, start_at]

/-- The accumulator after a later point. -/
theorem acc_next (c : Dev nD) (t : Fin cfg0.N) (h0 : ¬t.val % 64 = 0) (r : Fin 512) (j : Fin 2048) :
    ((outsAt0 m c t.val t.isLt).2 : S512x2048.Idx → EReal) (ix2 r j)
      = ((outsAt0 m c (t.val - 1) (Nat.lt_of_le_of_lt (Nat.sub_le _ _) t.isLt)).2 : S512x2048.Idx → EReal) (ix2 r j)
        + gated m c (rowOf t.val (points t) r) j (pointExpert t.val) := by
  by_cases h1 : t.val % 64 = 63
  · rw [outsAt0_C m c t h0 h1]
    dsimp only
    rw [acc_C, added_at]
  · rw [outsAt0_B m c t h0 h1]
    dsimp only
    rw [acc_B, added_at]

/-- The accumulator after point `n`: the shared expert and the experts up to the point's own. -/
theorem acc_at (c : Dev nD) : ∀ (n : ℕ) (h : n < cfg0.N) (r : Fin 512) (j : Fin 2048),
    ((outsAt0 m c n h).2 : S512x2048.Idx → EReal) (ix2 r j)
      = sharedOf m c (rowOf n (points ⟨n, h⟩) r) j + ∑ e ∈ Finset.range (n % 64 + 1), gated m c (rowOf n (points ⟨n, h⟩) r) j (pointExpert e) := by
  have first : ∀ (n : ℕ) (h : n < cfg0.N) (r : Fin 512) (j : Fin 2048), n % 64 = 0 →
      ((outsAt0 m c n h).2 : S512x2048.Idx → EReal) (ix2 r j)
        = sharedOf m c (rowOf n (points ⟨n, h⟩) r) j + ∑ e ∈ Finset.range (n % 64 + 1), gated m c (rowOf n (points ⟨n, h⟩) r) j (pointExpert e) := by
    intro n h r j h0
    have e0 : pointExpert n = pointExpert 0 := Fin.ext h0
    rw [acc_first m c ⟨n, h⟩ h0 r j, h0, Finset.sum_range_one]
    dsimp only
    rw [e0]
  intro n
  induction n with
  | zero => exact fun h r j => first 0 h r j rfl
  | succ n ih =>
    intro h r j
    by_cases h0 : (n + 1) % 64 = 0
    · exact first (n + 1) h r j h0
    · have er : rowOf (n + 1) (points ⟨n + 1, h⟩) r = rowOf n (points ⟨n, Nat.lt_of_succ_lt h⟩) r := Fin.ext (by
        show 512 * ((n + 1) / 64) + r.val = 512 * (n / 64) + r.val
        have : (n + 1) / 64 = n / 64 := by omega
        rw [this])
      have ee : pointExpert (n + 1) = pointExpert (n % 64 + 1) := Fin.ext (by show (n + 1) % 64 = (n % 64 + 1) % 64; omega)
      have en : (n + 1) % 64 = n % 64 + 1 := by omega
      refine (acc_next m c ⟨n + 1, h⟩ h0 r j).trans ?_
      show ((outsAt0 m c n (Nat.lt_of_succ_lt h)).2 : S512x2048.Idx → EReal) (ix2 r j) + gated m c (rowOf (n + 1) (points ⟨n + 1, h⟩) r) j (pointExpert (n + 1)) = _
      rw [ih (Nat.lt_of_succ_lt h) r j, en, Finset.sum_range_succ _ (n % 64 + 1), er, ee, add_assoc]

/-- The result's block after a row block's last point. -/
theorem block_at (c : Dev nD) (t : Fin cfg0.N) (h1 : t.val % 64 = 63) (r : Fin 512) (j : Fin 2048) :
    ((outsAt0 m c t.val t.isLt).1 : S512x2048.Idx → EReal) (ix2 r j)
      = normAt (denseAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (rowOf t.val (points t) r)) (m ((c.tc : Thread nD τ).loc main_arg10)) j := by
  have ht := points t
  have all : ∀ j, ((outsAt0 m c t.val t.isLt).2 : S512x2048.Idx → EReal) (ix2 r j)
      = expertsAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (rowOf t.val (points t) r) j := fun j => by
    rw [acc_at m c t.val t.isLt r j, h1, Finset.sum_range, add_comm]
    unfold expertsAt
    refine congrArg₂ (· + ·) (Finset.sum_congr rfl fun e _ => ?_) rfl
    have ee : pointExpert e.val = e := Fin.ext (by show e.val % 64 = e.val; have := e.isLt; omega)
    rw [ee]
    rfl
  rw [outsAt0_C m c t (by omega) h1] at all ⊢
  dsimp only at all ⊢
  rw [acc_C] at all
  rw [out_C, finish_at]
  refine (congrArg (fun x => normAt x _ j) (funext fun j => ?_)).trans (congrArg (fun g => normAt _ g j) (funext fun y => ?_))
  · rw [all]
    unfold denseAt
    rw [resid_at, gate2_at]
    refine congrArg₂ (· + ·) rfl (congrArg (· * _) (congrArg _ ?_))
    congr 1
    refine Fin.ext ?_
    show t.val / 512 = (512 * (t.val / 64) + r.val) / 4096
    omega
  · refine (gain_at m c t (y 0)).trans (congrArg _ (funext fun a => ?_))
    match a with
    | ⟨0, _⟩ => rfl

/-- An element of the result after the run. -/
theorem value (c : Dev nD) (T : Fin 8192) (j : Fin 2048) :
    ((dats m 0 c).arrAt 11 cfg0.N : S8192x2048.Idx → EReal) (ix2 T j)
      = normAt (denseAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) T) (m ((c.tc : Thread nD τ).loc main_arg10)) j := by
  refine (dats m 0 c).arrAt_forall_of_covers 11 (fun i v => (v : EReal) = normAt (denseAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (i 0)) (m ((c.tc : Thread nD τ).loc main_arg10)) (i 1))
    (by decide +kernel) (fun t hf y => ?_) (ix2 T j)
  rw [after0_11]
  have ht := points t
  have h0 : (y 0).val < 512 := (y 0).isLt
  have h1 : (y 1).val < 2048 := (y 1).isLt
  have e0 : ((cfg0.win 11).blk t).view.emb y 0 = rowOf t.val (points t) (⟨(y 0).val, h0⟩ : Fin 512) := Fin.ext (by
    blk_simp
    rw [(at_11 t).1]
    show t.val / 64 * 512 + (y 0).val = 512 * (t.val / 64) + (y 0).val
    omega)
  have e1 : ((cfg0.win 11).blk t).view.emb y 1 = (⟨(y 1).val, h1⟩ : Fin 2048) := Fin.ext (by
    blk_simp
    rw [(at_11 t).2]
    show 0 * 2048 + (y 1).val = (y 1).val
    omega)
  rw [e0, e1, ← block_at m c t ((flush0_11 t).mp hf) (⟨(y 0).val, h0⟩ : Fin 512) (⟨(y 1).val, h1⟩ : Fin 2048)]
  refine congrArg (outsAt0 m c t.val t.isLt).1 (funext fun a => ?_)
  match a with
  | ⟨0, _⟩ => rfl
  | ⟨1, _⟩ => rfl

end Cert.Kernel2Ideal.Dense
end
-- ==== Proof.DenseRef.lean ====
/- The dense feed-forward: the reference's result read at an index. -/
module

public import proofs.«01_k».proof.Proof.DenseSpec
public import proofs.«01_k».proof.Proof.Gen.Reference2Ideal.Run

@[expose] public section

set_option maxRecDepth 16384

noncomputable section

namespace Cert.Proof.DenseRef

open Cert.Reference2Ideal Cert.Reference2Ideal.Gen Cert.Reference2Ideal.Value
open Idealize.ShloMosaic Idealize.ShloMosaic.TcCoe Idealize.ShloMosaic.StableHlo

/-- Every token times one of every expert's first matrices. -/
def act (h : FVec Ideal S8192x2048 .bf16) (w : FVec Ideal S1x64x2048x512 .f32) : FVec Ideal S64x8192x512 .f32 :=
  transpose S64x8192x512 [0, 2, 1] (Host.dotGeneral dot_S64x2048x512_S8192x2048_S64x512x8192_1_1_02_0_n_n none (shapeCast _ w shapeCasts_S1x64x2048x512_S64x2048x512) (extf .f32 h bitsLt_bf16_f32)) transposes_S64x512x8192_S64x8192x512_0_2_1

theorem act_at (h : FVec Ideal S8192x2048 .bf16) (w : FVec Ideal S1x64x2048x512 .f32) (e : Fin 64) (T : Fin 8192) (l : Fin 512) :
    act h w (ix3 e T l) = ∑ k : Fin 2048, (h : S8192x2048.Idx → EReal) (ix2 T k) * (w : S1x64x2048x512.Idx → EReal) (ix4 0 e k l) := by
  unfold act
  pointwise
  exact Finset.sum_congr rfl fun k _ => mul_comm _ _

/-- Every expert on every token. -/
def experts (h : FVec Ideal S8192x2048 .bf16) (wg wu : FVec Ideal S1x64x2048x512 .f32) (wd : FVec Ideal S1x64x512x2048 .f32) : FVec Ideal S64x8192x2048 .f32 :=
  Host.dotGeneral dot_S64x8192x512_S64x512x2048_S64x8192x2048_2_1_1_2_0_0 none (mulf (mulf (act h wg) (Host.divf (broadcastInDim S64x8192x512 ![] bcast_S_S64x8192x512 (constant S_ .f32 0x3F800000#32)) (addf (broadcastInDim S64x8192x512 ![] bcast_S_S64x8192x512 (constant S_ .f32 0x3F800000#32)) (Host.exp (Host.negf (act h wg)))))) (act h wu)) (shapeCast _ wd shapeCasts_S1x64x512x2048_S64x512x2048)

theorem experts_at (h : FVec Ideal S8192x2048 .bf16) (wg wu : FVec Ideal S1x64x2048x512 .f32) (wd : FVec Ideal S1x64x512x2048 .f32) (e : Fin 64) (T : Fin 8192) (j : Fin 2048) :
    experts h wg wu wd (ix3 e T j) = sharedAt (fun k => (h : S8192x2048.Idx → EReal) (ix2 T k)) (expertOf wg e) (expertOf wu e) (expertOf wd e) j := by
  unfold experts
  pointwise [act_at]
  rfl

/-- The experts' sum, each times its gate. -/
def routed (g : FVec Ideal S8192x64 .f32) (x : FVec Ideal S64x8192x2048 .f32) : FVec Ideal S8192x2048 .f32 :=
  Host.reduceAdd (mulf (broadcastInDim S64x8192x2048 ![0, 1, 2] bcast_S64x8192x1_S64x8192x2048_0_1_2 (broadcastInDim S64x8192x1 ![0, 1] bcast_S64x8192_S64x8192x1_0_1 (transpose S64x8192 [1, 0] g transposes_S8192x64_S64x8192_1_0))) x) (constant S_ .f32 0x00000000#32) reducesTo_S64x8192x2048_S8192x2048_d0 h_S_

theorem routed_at (g : FVec Ideal S8192x64 .f32) (x : FVec Ideal S64x8192x2048 .f32) (T : Fin 8192) (j : Fin 2048) :
    routed g x (ix2 T j) = ∑ e : Fin 64, (g : S8192x64.Idx → EReal) (ix2 T e) * (x : S64x8192x2048.Idx → EReal) (ix3 e T j) := by
  unfold routed
  pointwise

/-- The shared expert on every token. -/
def shared (h : FVec Ideal S8192x2048 .bf16) (sg su : FVec Ideal S1x2048x512 .f32) (sd : FVec Ideal S1x512x2048 .f32) : FVec Ideal S8192x2048 .f32 :=
  Host.dotGeneral dot_S8192x512_S512x2048_S8192x2048_1_0_0_1_n_n none (mulf (mulf (Host.dotGeneral dot_S8192x2048_S2048x512_S8192x512_1_0_0_1_n_n none (extf .f32 h bitsLt_bf16_f32) (shapeCast _ sg shapeCasts_S1x2048x512_S2048x512)) (Host.divf (broadcastInDim S8192x512 ![] bcast_S_S8192x512 (constant S_ .f32 0x3F800000#32)) (addf (broadcastInDim S8192x512 ![] bcast_S_S8192x512 (constant S_ .f32 0x3F800000#32)) (Host.exp (Host.negf (Host.dotGeneral dot_S8192x2048_S2048x512_S8192x512_1_0_0_1_n_n none (extf .f32 h bitsLt_bf16_f32) (shapeCast _ sg shapeCasts_S1x2048x512_S2048x512))))))) (Host.dotGeneral dot_S8192x2048_S2048x512_S8192x512_1_0_0_1_n_n none (extf .f32 h bitsLt_bf16_f32) (shapeCast _ su shapeCasts_S1x2048x512_S2048x512))) (shapeCast _ sd shapeCasts_S1x512x2048_S512x2048)

theorem shared_at (h : FVec Ideal S8192x2048 .bf16) (sg su : FVec Ideal S1x2048x512 .f32) (sd : FVec Ideal S1x512x2048 .f32) (T : Fin 8192) (j : Fin 2048) :
    shared h sg su sd (ix2 T j) = sharedAt (fun k => (h : S8192x2048.Idx → EReal) (ix2 T k)) sg su sd j := by
  unfold shared
  pointwise
  rfl

/-- The residual rows, by sequence. -/
def resid (x : FVec Ideal S8192x2048 .f32) (gate : FVec Ideal S2x12288 .f32) (r s : FVec Ideal S8192x2048 .f32) : FVec Ideal S2x4096x2048 .f32 :=
  addf (shapeCast _ x shapeCasts_S8192x2048_S2x4096x2048) (mulf (broadcastInDim S2x4096x2048 ![0, 1, 2] bcast_S2x1x2048_S2x4096x2048_0_1_2 (broadcastInDim S2x1x2048 ![0, 2] bcast_S2x2048_S2x1x2048_0_2 (extractStridedSlice S2x2048 ![0, 10240] gate slices_S2x12288_S2x2048_0_10240))) (shapeCast _ (addf r s) shapeCasts_S8192x2048_S2x4096x2048))

theorem resid_at (x : FVec Ideal S8192x2048 .f32) (gate : FVec Ideal S2x12288 .f32) (r s : FVec Ideal S8192x2048 .f32) (T : Fin 8192) (j : Fin 2048) :
    resid x gate r s (ix3 (⟨T.val / 4096, by omega⟩ : Fin 2) (⟨T.val % 4096, by omega⟩ : Fin 4096) j)
      = (x : S8192x2048.Idx → EReal) (ix2 T j) + (gate : S2x12288.Idx → EReal) (ix2 (⟨T.val / 4096, by omega⟩ : Fin 2) (⟨10240 + j.val, by omega⟩ : Fin 12288))
          * ((r : S8192x2048.Idx → EReal) (ix2 T j) + (s : S8192x2048.Idx → EReal) (ix2 T j)) := by
  unfold resid
  pointwise

/-- The rows divided by their root mean square, times the gain, as one row per token. -/
def normed (x : FVec Ideal S2x4096x2048 .f32) (gf : FVec Ideal S2048 .f32) : FVec Ideal S8192x2048 .f32 :=
  shapeCast _ (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 gf))) shapeCasts_S2x4096x2048_S8192x2048

theorem normed_at (x : FVec Ideal S2x4096x2048 .f32) (gf : FVec Ideal S2048 .f32) (T : Fin 8192) (j : Fin 2048) :
    normed x gf (ix2 T j)
      = normAt (fun j => (x : S2x4096x2048.Idx → EReal) (ix3 (⟨T.val / 4096, by omega⟩ : Fin 2) (⟨T.val % 4096, by omega⟩ : Fin 4096) j)) gf j := by
  unfold normed
  pointwise
  rfl

/-- The reference's result, of any arguments. -/
theorem result_at (h : FVec Ideal S8192x2048 .bf16) (g : FVec Ideal S8192x64 .f32) (wg wu : FVec Ideal S1x64x2048x512 .f32) (wd : FVec Ideal S1x64x512x2048 .f32)
    (sg su : FVec Ideal S1x2048x512 .f32) (sd : FVec Ideal S1x512x2048 .f32) (x : FVec Ideal S8192x2048 .f32) (gate : FVec Ideal S2x12288 .f32) (gf : FVec Ideal S2048 .f32)
    (T : Fin 8192) (j : Fin 2048) :
    normed (resid x gate (routed g (experts h wg wu wd)) (shared h sg su sd)) gf (ix2 T j) = normAt (denseAt h g wg wu wd sg su sd x gate T) gf j := by
  rw [normed_at]
  refine congrArg (fun y => normAt y gf j) (funext fun j => ?_)
  rw [resid_at, routed_at, shared_at]
  unfold denseAt expertsAt gatedAt
  simp only [experts_at]

end Cert.Proof.DenseRef
end
-- ==== Proof.DenseEqual.lean ====
/- The dense feed-forward: its frames, and kernel and reference end with equal results. -/
module

public import proofs.«01_k».proof.Defs
public import proofs.«01_k».proof.Proof.DenseOut
public import proofs.«01_k».proof.Proof.DenseRef
public import proofs.«01_k».proof.Proof.Gen.Kernel2.Frame
public import Idealize.ShloMosaic.Adequacy

@[expose] public section

set_option maxRecDepth 16384

noncomputable section

namespace Cert.Proof

open Idealize.ShloMosaic Idealize.ShloMosaic.TcCoe Idealize.SL.Sem

theorem frame_dense_ideal : Cert.quiescent_Kernel2Ideal := fun m ρ _ => Cert.Kernel2Ideal.Gen.frame m ρ

theorem frame_dense_kernel : Cert.quiescent_Kernel2 := fun m ρ _ => Cert.Kernel2.Gen.frame m ρ

theorem frame_dense_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run m ρ)

/-- From equal arguments the kernel and the reference end with equal results. -/
theorem equal_dense : Cert.algebraic_Kernel2Ideal_Reference2Ideal := fun m g m' g' _ ha => by
  refine ⟨fun c => (Cert.Kernel2Ideal.Gen.dats m 0 c).arrAt 11 Cert.Kernel2Ideal.cfg0.N, Cert.Kernel2Ideal.Value.run_blocks m g, ?_⟩
  refine (θ_run Cert.Reference2Ideal.defs _ _).mono (fun r e c => ⟨?_, (e c).2⟩) (Cert.Reference2Ideal.Value.run m' g')
  obtain ⟨a0, a1, a2, a3, a4, a5, a6, a7, a8, a9, a10⟩ := ha c
  refine (e c).1.trans (funext fun (i : Cert.Kernel2Ideal.S8192x2048.Idx) => ?_)
  rw [show i = ix2 (i 0) (i 1) from by
    funext a
    match a with
    | ⟨0, _⟩ => rfl
    | ⟨1, _⟩ => rfl]
  refine Eq.trans ?_ (Cert.Kernel2Ideal.Dense.value m c (i 0) (i 1)).symm
  rw [← a0, ← a1, ← a2, ← a3, ← a4, ← a5, ← a6, ← a7, ← a8, ← a9, ← a10]
  exact DenseRef.result_at _ _ _ _ _ _ _ _ _ _ _ (i 0) (i 1)

end Cert.Proof
end
-- ==== Proof.In.lean ====
/- The input projection: the kernel's blocks, and its result, read at an index. -/
module

public import proofs.«01_k».proof.Proof.Gen.Kernel3Ideal.Value
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.Proof

open Idealize.ShloMosaic

/-- The column of the weights that column `q` of the result takes: the last 4096 columns come first. -/
def sourceCol (q : Fin 11776) : Fin 11776 :=
  if h : q.val < 4096 then ⟨7680 + q.val, by omega⟩ else ⟨q.val - 4096, by omega⟩

/-- Column block `n` of the weights goes to the block of the result that lies 8 blocks further on, or 15 back. -/
theorem sourceCol_block (n l : ℕ) (q : Fin 11776) (hn : n < 23) (hl : l < 512) (h : q.val = (if n < 15 then n + 8 else n - 15) * 512 + l) :
    sourceCol q = ⟨512 * n + l, by omega⟩ := by
  unfold sourceCol
  split at h <;> split <;> first | omega | (refine Fin.ext ?_; dsimp only; omega)

/-- Token `T` times column `q` of the weights. -/
def projAt (h : (⟨2, ![8192, 2048]⟩ : Shape).Idx → EReal) (w : (⟨3, ![1, 2048, 11776]⟩ : Shape).Idx → EReal) (T : Fin 8192) (q : Fin 11776) : EReal :=
  ∑ k : Fin 2048, h (ix2 T k) * w (ix3 0 k q)

end Cert.Proof

namespace Cert.Kernel3Ideal.Proj

open Cert.Kernel3Ideal Cert.Kernel3Ideal.Gen Cert.Proof
open Idealize.ShloMosaic Idealize.ShloMosaic.TcCoe Idealize.ShloMosaic.Tactic
open Idealize.ShloMosaic.Pipeline (Dat Cfg Window)

section

variable {F : FTy → Type} [FloatOps F]

theorem zero2 : (![0, 0] : Fin 2 → Nat) = fun _ => 0 := funext fun a => by fin_cases a <;> rfl

/-- The first row block of a column leaves the column's weights, rounded, in the scratch. -/
theorem scratch_A (c : Dev nD) (i : grid0.Coords) (a2 : Memref sig .tc .vmem S2048x2048 .bf16) (h2 : a2.IsWhole) (a3 : Memref sig .tc .vmem S2048x512 .f32) (h3 : a3.IsWhole)
    (a4 : Memref sig .tc .vmem S2048x512 .bf16) (h4 : a4.IsWhole) (a5 : Memref sig .tc .vmem S2048x512 .bf16) (h5 : a5.IsWhole) (hc : cond0_0 i)
    (x0 : Vec F S2048x2048 .bf16) (x1 : Vec F S2048x512 .f32) :
    sout0_A_0 c i a2 h2 a3 h3 a4 h4 a5 h5 hc x0 x1 = truncf .bf16 x1 bitsLt_bf16_f32 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zero2]
  unfold k0_pay1
  simp only [View.readAt_eq_ld, h3.read_unread, View.ld_unit_zero (S := S2048x512) zero2, shapeCast_self]

/-- … and the product with them in the result's block. -/
theorem block_A (c : Dev nD) (i : grid0.Coords) (a2 : Memref sig .tc .vmem S2048x2048 .bf16) (h2 : a2.IsWhole) (a3 : Memref sig .tc .vmem S2048x512 .f32) (h3 : a3.IsWhole)
    (a4 : Memref sig .tc .vmem S2048x512 .bf16) (h4 : a4.IsWhole) (a5 : Memref sig .tc .vmem S2048x512 .bf16) (h5 : a5.IsWhole) (hc : cond0_0 i)
    (x0 : Vec F S2048x2048 .bf16) (x1 : Vec F S2048x512 .f32) :
    out0_A_2 c i a2 h2 a3 h3 a4 h4 a5 h5 hc x0 x1 = k0_pay2 x0 (truncf .bf16 x1 bitsLt_bf16_f32) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zero2, View.readCov_unit_zero (S := S2048x512) _ zero2]
  simp only [View.readAt_eq_ld, h2.read_unread, h3.read_unread, View.ld_unit_zero (S := S2048x2048) zero2, View.ld_unit_zero (S := S2048x512) zero2]
  unfold k0_pay1
  simp only [shapeCast_self]

/-- The later row blocks take the scratch as it is. -/
theorem block_B (c : Dev nD) (i : grid0.Coords) (a2 : Memref sig .tc .vmem S2048x2048 .bf16) (h2 : a2.IsWhole) (a3 : Memref sig .tc .vmem S2048x512 .f32) (h3 : a3.IsWhole)
    (a4 : Memref sig .tc .vmem S2048x512 .bf16) (h4 : a4.IsWhole) (a5 : Memref sig .tc .vmem S2048x512 .bf16) (h5 : a5.IsWhole) (hc : ¬cond0_0 i)
    (x0 : Vec F S2048x2048 .bf16) (x1 : Vec F S2048x512 .f32) (xs : Vec F S2048x512 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero zero2]
  simp only [View.readAt_eq_ld, h2.read_unread, h5.read_unread, View.ld_unit_zero (S := S2048x2048) zero2, View.ld_unit_zero (S := S2048x512) zero2]

end

variable (m : (ℓ : Loc nD τ sig) → Buf (Elt Ideal) ℓ)

theorem points (t : Fin cfg0.N) : t.val < 92 := by have := N_0; have h : t.val < grid0.N := t.isLt; omega

/-! ### Where the blocks lie -/

theorem at_0 (t : Fin cfg0.N) : win0_0.index t 0 = t.val % 4 ∧ win0_0.index t 1 = 0 := by
  revert t; show ∀ t : Fin grid0.N, win0_0.index t 0 = t.val % 4 ∧ win0_0.index t 1 = 0; decide +kernel
theorem at_1 (t : Fin cfg0.N) : win0_1.index t 0 = 0 ∧ win0_1.index t 1 = t.val / 4 := by
  revert t; show ∀ t : Fin grid0.N, win0_1.index t 0 = 0 ∧ win0_1.index t 1 = t.val / 4; decide +kernel
theorem at_2 (t : Fin cfg0.N) : win0_2.index t 0 = t.val % 4 ∧ win0_2.index t 1 = if t.val / 4 < 15 then t.val / 4 + 8 else t.val / 4 - 15 := by
  revert t; show ∀ t : Fin grid0.N, win0_2.index t 0 = t.val % 4 ∧ win0_2.index t 1 = if t.val / 4 < 15 then t.val / 4 + 8 else t.val / 4 - 15; decide +kernel

theorem weights_flat (a : S1x2048x11776.Idx → EReal) (h) (k : Fin 2048) (q : Fin 11776) : shapeCast S2048x11776 a h (ix2 k q) = a (ix3 0 k q) := by
  pointwise

/-- The block of tokens at point `t`. -/
theorem tokens_at (c : Dev nD) (t : Fin cfg0.N) (r k : Fin 2048) :
    (iblk m c 0 t : S2048x2048.Idx → EReal) (ix2 r k) = (m ((c.tc : Thread nD τ).loc main_arg0) : S8192x2048.Idx → EReal) (ix2 (⟨2048 * (t.val % 4) + r.val, by omega⟩ : Fin 8192) k) := by
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t 0 * 2048 + 1 * r.val = 2048 * (t.val % 4) + r.val; rw [(at_0 t).1]; omega
  | ⟨1, _⟩ => show win0_0.index t 1 * 2048 + 1 * k.val = k.val; rw [(at_0 t).2]; omega

/-- The block of weights at point `t`. -/
theorem weights_at (c : Dev nD) (t : Fin cfg0.N) (k : Fin 2048) (l : Fin 512) :
    (iblk m c 1 t : S2048x512.Idx → EReal) (ix2 k l) = (m ((c.tc : Thread nD τ).loc main_arg1) : S1x2048x11776.Idx → EReal) (ix3 0 k (⟨512 * (t.val / 4) + l.val, by have := points t; omega⟩ : Fin 11776)) := by
  have ht := points t
  refine Eq.trans ?_ (weights_flat (m ((c.tc : Thread nD τ).loc main_arg1)) shapeCasts_S1x2048x11776_S2048x11776 k (⟨512 * (t.val / 4) + l.val, by omega⟩ : Fin 11776))
  unfold iblk
  rw [View.read_apply]
  show V m c main_v0 _ = V m c main_v0 _
  refine congrArg (V m c main_v0) (funext fun a => Fin.ext ?_)
  match a with
  | ⟨0, _⟩ => show win0_1.index t 0 * 2048 + 1 * k.val = k.val; rw [(at_1 t).1]; omega
  | ⟨1, _⟩ => show win0_1.index t 1 * 512 + 1 * l.val = 512 * (t.val / 4) + l.val; rw [(at_1 t).2]; omega

/-- Rounding keeps the value. -/
theorem round_at (x : Vec Ideal S2048x512 .f32) (k : Fin 2048) (l : Fin 512) :
    (truncf (F := Ideal) .bf16 x bitsLt_bf16_f32 : S2048x512.Idx → EReal) (ix2 k l) = (x : S2048x512.Idx → EReal) (ix2 k l) := by
  pointwise

/-- The scratch after every point: the weights of the point's column block. -/
theorem scratch_at (c : Dev nD) : ∀ (n : ℕ) (h : n < cfg0.N) (k : Fin 2048) (l : Fin 512),
    ((outsAt0 m c n h).2 : S2048x512.Idx → EReal) (ix2 k l)
      = (m ((c.tc : Thread nD τ).loc main_arg1) : S1x2048x11776.Idx → EReal) (ix3 0 k (⟨512 * (n / 4) + l.val, by have : n < 92 := points ⟨n, h⟩; omega⟩ : Fin 11776)) := by
  intro n
  induction n with
  | zero =>
    intro h k l
    rw [outsAt0_A m c ⟨0, h⟩ (Nat.zero_mod _)]
    dsimp only
    rw [scratch_A]
    exact (round_at _ k l).trans (weights_at m c ⟨0, h⟩ k l)
  | succ n ih =>
    intro h k l
    by_cases h0 : (n + 1) % 4 = 0
    · rw [outsAt0_A m c ⟨n + 1, h⟩ h0]
      dsimp only
      rw [scratch_A]
      exact (round_at _ k l).trans (weights_at m c ⟨n + 1, h⟩ k l)
    · rw [outsAt0_B m c ⟨n + 1, h⟩ h0]
      dsimp only
      unfold sout0_B_0
      refine (ih (Nat.lt_of_succ_lt h) k l).trans ?_
      have e : n / 4 = (n + 1) / 4 := by omega
      simp only [e]

theorem product_at (x : Vec Ideal S2048x2048 .bf16) (w : Vec Ideal S2048x512 .bf16) (r : Fin 2048) (l : Fin 512) :
    k0_pay2 (F := Ideal) x w (ix2 r l) = ∑ k : Fin 2048, (x : S2048x2048.Idx → EReal) (ix2 r k) * (w : S2048x512.Idx → EReal) (ix2 k l) := by
  unfold k0_pay2
  pointwise

/-- What point `t` leaves in the result's block. -/
theorem block_at (c : Dev nD) (t : Fin cfg0.N) (r : Fin 2048) (l : Fin 512) :
    ((outsAt0 m c t.val t.isLt).1 : S2048x512.Idx → EReal) (ix2 r l)
      = projAt (m ((c.tc : Thread nD τ).loc main_arg0)) (m ((c.tc : Thread nD τ).loc main_arg1)) (⟨2048 * (t.val % 4) + r.val, by omega⟩ : Fin 8192)
          (⟨512 * (t.val / 4) + l.val, by have := points t; omega⟩ : Fin 11776) := by
  unfold projAt
  by_cases h0 : t.val % 4 = 0
  · rw [outsAt0_A m c t h0]
    dsimp only
    rw [block_A, product_at]
    refine Finset.sum_congr rfl fun k _ => ?_
    rw [tokens_at]
    congr 1
    exact weights_at m c t k l
  · rw [outsAt0_B m c t h0]
    dsimp only
    rw [block_B, product_at]
    refine Finset.sum_congr rfl fun k _ => ?_
    rw [tokens_at, scratch_at]
    have e : (t.val - 1) / 4 = t.val / 4 := by omega
    simp only [e]

/-- An element of the result after the run. -/
theorem value (c : Dev nD) (T : Fin 8192) (q : Fin 11776) :
    ((dats m 0 c).arrAt 2 cfg0.N : S8192x11776.Idx → EReal) (ix2 T q)
      = projAt (m ((c.tc : Thread nD τ).loc main_arg0)) (m ((c.tc : Thread nD τ).loc main_arg1)) T (sourceCol q) := by
  refine (dats m 0 c).arrAt_forall_of_covers 2 (fun i v => (v : EReal) = projAt (m ((c.tc : Thread nD τ).loc main_arg0)) (m ((c.tc : Thread nD τ).loc main_arg1)) (i 0) (sourceCol (i 1)))
    (by decide +kernel) (fun t hf y => ?_) (ix2 T q)
  rw [after0_2]
  have ht := points t
  have h0 : (y 0).val < 2048 := (y 0).isLt
  have h1 : (y 1).val < 512 := (y 1).isLt
  have e0 : ((cfg0.win 2).blk t).view.emb y 0 = (⟨2048 * (t.val % 4) + (y 0).val, by omega⟩ : Fin 8192) := Fin.ext (by
    blk_simp
    rw [(at_2 t).1]
    show t.val % 4 * 2048 + (y 0).val = 2048 * (t.val % 4) + (y 0).val
    omega)
  have e1 : sourceCol (((cfg0.win 2).blk t).view.emb y 1) = (⟨512 * (t.val / 4) + (y 1).val, by omega⟩ : Fin 11776) := by
    refine sourceCol_block _ _ _ (by omega) h1 ?_
    blk_simp
    rw [(at_2 t).2]
  rw [e0, e1, ← block_at m c t (⟨(y 0).val, h0⟩ : Fin 2048) (⟨(y 1).val, h1⟩ : Fin 512)]
  refine congrArg (outsAt0 m c t.val t.isLt).1 (funext fun a => ?_)
  match a with
  | ⟨0, _⟩ => rfl
  | ⟨1, _⟩ => rfl

end Cert.Kernel3Ideal.Proj
end
-- ==== Proof.InEqual.lean ====
/- The input projection: kernel and reference end with equal results. -/
module

public import proofs.«01_k».proof.Defs
public import proofs.«01_k».proof.Proof.In
public import proofs.«01_k».proof.Proof.Gen.Kernel3.Frame
public import proofs.«01_k».proof.Proof.Gen.Reference3Ideal.Run
public import Idealize.ShloMosaic.Adequacy

@[expose] public section

set_option maxRecDepth 16384

noncomputable section

namespace Cert.Proof

open Idealize.ShloMosaic Idealize.ShloMosaic.TcCoe Idealize.SL.Sem

section

open Cert.Reference3Ideal Cert.Reference3Ideal.Gen Cert.Reference3Ideal.Value

/-- The reference's result at an index, over any arguments. -/
theorem ref_in_at (h : FVec Ideal S8192x2048 .bf16) (w : FVec Ideal S1x2048x11776 .f32) (T : Fin 8192) (q : Fin 11776) :
    (truncf (F := Ideal) .bf16 (concatenate S8192x11776 1
        [⟨S8192x4096, extractStridedSlice S8192x4096 ![0, 7680] (Host.dotGeneral (F := Ideal) dot_S8192x2048_S2048x11776_S8192x11776_1_0_0_1_n_n none (extf .f32 h bitsLt_bf16_f32) (shapeCast _ w shapeCasts_S1x2048x11776_S2048x11776)) slices_S8192x11776_S8192x4096_0_7680⟩,
         ⟨S8192x7680, extractStridedSlice S8192x7680 ![0, 0] (Host.dotGeneral (F := Ideal) dot_S8192x2048_S2048x11776_S8192x11776_1_0_0_1_n_n none (extf .f32 h bitsLt_bf16_f32) (shapeCast _ w shapeCasts_S1x2048x11776_S2048x11776)) slices_S8192x11776_S8192x7680_0_0⟩] concatenates_S8192x4096_S8192x7680_S8192x11776_d1)
      bitsLt_bf16_f32 : S8192x11776.Idx → EReal) (ix2 T q) = projAt h w T (sourceCol q) := by
  pointwise
  unfold projAt sourceCol
  split <;> rfl

end

theorem frame_in_ideal : Cert.quiescent_Kernel3Ideal := fun m ρ _ => Cert.Kernel3Ideal.Gen.frame m ρ

theorem frame_in_kernel : Cert.quiescent_Kernel3 := fun m ρ _ => Cert.Kernel3.Gen.frame m ρ

theorem frame_in_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

/-- From equal arguments the kernel and the reference end with equal results. -/
theorem equal_in : Cert.algebraic_Kernel3Ideal_Reference3Ideal := fun m g m' g' _ ha => by
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r e c => ⟨?_, (e c).2⟩) (Cert.Reference3Ideal.Value.run m' g')
  obtain ⟨a0, a1⟩ := ha c
  refine (e c).1.trans (funext fun (i : Cert.Kernel3Ideal.S8192x11776.Idx) => ?_)
  rw [show i = ix2 (i 0) (i 1) from by
    funext a
    match a with
    | ⟨0, _⟩ => rfl
    | ⟨1, _⟩ => rfl]
  refine Eq.trans ?_ (Cert.Kernel3Ideal.Proj.value m c (i 0) (i 1)).symm
  rw [← a0, ← a1]
  exact ref_in_at _ _ (i 0) (i 1)

end Cert.Proof
end
-- ==== Proof.MixSpec.lean ====
/- The mixers' output as formulas: what one element of each of its three results is, in extended reals, of the arguments. -/
module

public import proofs.«01_k».proof.Proof.Spec

@[expose] public section

noncomputable section

namespace Cert.Proof

open Idealize.ShloMosaic

/-- The logistic function. -/
def sigmaAt (x : EReal) : EReal := Ideal.div 1 (1 + Ideal.exp (-x))

/-- The short convolution's input at token `T`: its second gate times its value. -/
def inputAt (p : (⟨2, ![8192, 11776]⟩ : Shape).Idx → EReal) (T : Fin 8192) (k : Fin 1024) : EReal :=
  p (ix2 T (⟨5120 + k.val, by omega⟩ : Fin 11776)) * p (ix2 T (⟨6144 + k.val, by omega⟩ : Fin 11776))

/-- The input `d` tokens before token `T`: 0 before the sequence's start. -/
def backAt (p : (⟨2, ![8192, 11776]⟩ : Shape).Idx → EReal) (d : ℕ) (T : Fin 8192) (k : Fin 1024) : EReal :=
  if d ≤ T.val % 4096 then inputAt p (⟨T.val - d, by omega⟩ : Fin 8192) k else 0

/-- The short convolution over the token and the two before it. -/
def convAt (p : (⟨2, ![8192, 11776]⟩ : Shape).Idx → EReal) (cw : (⟨3, ![1, 3, 1024]⟩ : Shape).Idx → EReal) (T : Fin 8192) (k : Fin 1024) : EReal :=
  cw (ix3 0 0 k) * backAt p 2 T k + cw (ix3 0 1 k) * backAt p 1 T k + cw (ix3 0 2 k) * inputAt p T k

/-- The two branches, each times its gate. -/
def mergedAt (p : (⟨2, ![8192, 11776]⟩ : Shape).Idx → EReal) (ao : (⟨2, ![8192, 512]⟩ : Shape).Idx → EReal) (cw : (⟨3, ![1, 3, 1024]⟩ : Shape).Idx → EReal)
    (wc : (⟨3, ![1, 1024, 2048]⟩ : Shape).Idx → EReal) (wa : (⟨3, ![1, 512, 2048]⟩ : Shape).Idx → EReal) (T : Fin 8192) (q : Fin 2048) : EReal :=
  sigmaAt (p (ix2 T (⟨q.val, by omega⟩ : Fin 11776))) * (∑ k : Fin 1024, p (ix2 T (⟨4096 + k.val, by omega⟩ : Fin 11776)) * convAt p cw T k * wc (ix3 0 k q))
    + sigmaAt (p (ix2 T (⟨2048 + q.val, by omega⟩ : Fin 11776))) * (∑ k : Fin 512, ao (ix2 T k) * wa (ix3 0 k q))

/-- The token after the mixers: the token, plus the gate of its sequence times the merged branches' product. -/
def mixedAt (p : (⟨2, ![8192, 11776]⟩ : Shape).Idx → EReal) (ao : (⟨2, ![8192, 512]⟩ : Shape).Idx → EReal) (x : (⟨2, ![8192, 2048]⟩ : Shape).Idx → EReal)
    (cw : (⟨3, ![1, 3, 1024]⟩ : Shape).Idx → EReal) (wc : (⟨3, ![1, 1024, 2048]⟩ : Shape).Idx → EReal) (wa : (⟨3, ![1, 512, 2048]⟩ : Shape).Idx → EReal)
    (wo : (⟨3, ![1, 2048, 2048]⟩ : Shape).Idx → EReal) (md : (⟨2, ![2, 12288]⟩ : Shape).Idx → EReal) (T : Fin 8192) (j : Fin 2048) : EReal :=
  x (ix2 T j) + md (ix2 (⟨T.val / 4096, by omega⟩ : Fin 2) (⟨4096 + j.val, by omega⟩ : Fin 12288)) * ∑ q : Fin 2048, mergedAt p ao cw wc wa T q * wo (ix3 0 q j)

/-- A row `y`, normalised with the gain, then scaled and shifted by the modulation of the token's sequence. -/
def modulatedAt (y : Fin 2048 → EReal) (g : (⟨2, ![1, 2048]⟩ : Shape).Idx → EReal) (md : (⟨2, ![2, 12288]⟩ : Shape).Idx → EReal) (T : Fin 8192) (j : Fin 2048) : EReal :=
  normAt y (fun i => g (ix2 0 (i 0))) j * (1 + md (ix2 (⟨T.val / 4096, by omega⟩ : Fin 2) (⟨8192 + j.val, by omega⟩ : Fin 12288)))
    + md (ix2 (⟨T.val / 4096, by omega⟩ : Fin 2) (⟨6144 + j.val, by omega⟩ : Fin 12288))

/-- The router's logit of expert `e` for a row. -/
def logitAt (y : Fin 2048 → EReal) (wr : (⟨3, ![1, 2048, 64]⟩ : Shape).Idx → EReal) (e : Fin 64) : EReal :=
  ∑ j : Fin 2048, wr (ix3 0 j e) * y j

end Cert.Proof
end
-- ==== Proof.MixVal.lean ====
/- The mixers' output: the steps of one point of the grid, read at an index. -/
module

public import proofs.«01_k».proof.Proof.MixSpec
public import proofs.«01_k».proof.Proof.Gen.Kernel4Ideal.Value
public import Idealize.ShloMosaic.Lib.Pointwise

@[expose] public section

set_option maxRecDepth 16384

noncomputable section

namespace Cert.Kernel4Ideal.Mix

open Cert.Kernel4Ideal Cert.Kernel4Ideal.Gen Cert.Proof
open Idealize.ShloMosaic Idealize.ShloMosaic.TcCoe

theorem input_at (a b : Vec Ideal S256x1024 .bf16) (r : Fin 256) (k : Fin 1024) :
    (k0_pay4 (F := Ideal) a b : S256x1024.Idx → EReal) (ix2 r k) = (a (ix2 r k) : EReal) * b (ix2 r k) := by
  unfold k0_pay4
  pointwise

theorem select_ite {α : Type} (p : Prop) [Decidable p] (a b : α) : Scalar.select (if p then 1#1 else 0#1) a b = if p then a else b := by
  split <;> rfl

/-- Which rows of a block take the row before from the block before. -/
theorem first_at (r : Fin 256) (k : Fin 1024) : k0_pay9 (ix2 r k) = if r.val = 0 then 1#1 else 0#1 := by
  unfold k0_pay9
  pointwise
  revert r
  decide +kernel

theorem second_at (r : Fin 256) (k : Fin 1024) : k0_pay10 (ix2 r k) = if r.val = 1 then 1#1 else 0#1 := by
  unfold k0_pay10
  pointwise
  revert r
  decide +kernel

/-- The word the kernel computes of a block's number: 0 at the first block of a sequence, 1 at the others. -/
def laterWord (n : BitVec 32) : BitVec 32 :=
  let v0 : BitVec 32 := Scalar.muli n 256#32
  let v2 : BitVec 32 := Scalar.select (Scalar.cmpi .eq 4096#32 0#32) 1#32 4096#32
  let v3 : BitVec 32 := Scalar.remsi v0 v2
  let v8 : BitVec 1 := Scalar.andi (Scalar.xori (Scalar.cmpi .slt v3 0#32) (Scalar.cmpi .slt v2 0#32)) (Scalar.cmpi .ne v3 0#32)
  Scalar.extui (Scalar.cmpi .ne (Scalar.select v8 (Scalar.addi v3 v2) v3) 0#32)

/-- The convolution's input before the block: 0 at a sequence's first block. -/
theorem halo_at (i : grid0.Coords) (a b : Vec Ideal S16x1024 .bf16) (r : Fin 16) (k : Fin 1024) :
    (k0_pay5 (F := Ideal) i a b : S16x1024.Idx → EReal) (ix2 r k) = if (i 0).val % 16 = 0 then 0 else (a (ix2 r k) : EReal) * b (ix2 r k) := by
  unfold k0_pay5
  pointwise
  show (a (ix2 r k) : EReal) * b (ix2 r k) * (((laterWord (BitVec.ofNat 32 (i 0).val)).toInt : ℝ) : EReal) = _
  have h : ∀ n : Fin 32, laterWord (BitVec.ofNat 32 n.val) = if n.val % 16 = 0 then 0#32 else 1#32 := by decide +kernel
  rw [h (⟨(i 0).val, (i 0).isLt⟩ : Fin 32)]
  dsimp only
  split
  · rw [show (0#32 : BitVec 32).toInt = 0 from rfl, Int.cast_zero, EReal.coe_zero, mul_zero]
  · rw [show (1#32 : BitVec 32).toInt = 1 from rfl, Int.cast_one, EReal.coe_one, mul_one]

/-- The last row before the block … -/
theorem edge1_at (i : grid0.Coords) (a b : Vec Ideal S16x1024 .bf16) (k : Fin 1024) :
    (k0_pay6 (F := Ideal) i a b : S1x1024.Idx → EReal) (ix2 0 k) = k0_pay5 (F := Ideal) i a b (ix2 15 k) := by
  unfold k0_pay6
  pointwise

/-- … and the one before it. -/
theorem edge2_at (i : grid0.Coords) (a b : Vec Ideal S16x1024 .bf16) (k : Fin 1024) :
    (k0_pay7 (F := Ideal) i a b : S1x1024.Idx → EReal) (ix2 0 k) = k0_pay5 (F := Ideal) i a b (ix2 14 k) := by
  unfold k0_pay7
  pointwise

/-- The row before, within the block and across its edge. -/
theorem back1_at (i : grid0.Coords) (a b : Vec Ideal S256x1024 .bf16) (ha hb : Vec Ideal S16x1024 .bf16) (r : Fin 256) (k : Fin 1024) :
    (k0_pay8 (F := Ideal) i a b ha hb : S256x1024.Idx → EReal) (ix2 r k)
      = if r.val = 0 then k0_pay5 (F := Ideal) i ha hb (ix2 15 k) else (k0_pay4 (F := Ideal) a b : S256x1024.Idx → EReal) (ix2 (⟨(r.val + 256 - 1) % 256, by omega⟩ : Fin 256) k) := by
  unfold k0_pay8 k0_pay6
  pointwise
  rw [show IntOp.cmpi .eq (BitVec.ofNat 32 r.val) 0#32 = if r.val = 0 then 1#1 else 0#1 from by revert r; decide +kernel, select_ite]

theorem conv_at (u : FVec Ideal S256x1024 .f32) (h1 h2 : FVec Ideal S1x1024 .f32) (u1 : FVec Ideal S256x1024 .f32) (cw : Vec Ideal S3x1024 .f32)
    (b : Vec Ideal S256x1024 .bf16) (wc : Vec Ideal S1024x2048 .bf16) (gc : Vec Ideal S256x2048 .bf16) (r : Fin 256) (q : Fin 2048) :
    (k0_pay12 (F := Ideal) u h1 h2 u1 k0_pay9 k0_pay10 cw b wc gc : S256x2048.Idx → EReal) (ix2 r q)
      = sigmaAt (gc (ix2 r q)) * ∑ k : Fin 1024, (b (ix2 r k) : EReal)
          * ((cw (ix2 0 k) : EReal) * (if r.val = 0 then h2 (ix2 0 k) else if r.val = 1 then h1 (ix2 0 k) else u (ix2 (⟨(r.val + 256 - 2) % 256, by omega⟩ : Fin 256) k))
              + (cw (ix2 1 k) : EReal) * u1 (ix2 r k) + (cw (ix2 2 k) : EReal) * u (ix2 r k)) * (wc (ix2 k q) : EReal) := by
  unfold k0_pay12
  pointwise
  simp only [first_at, second_at, select_ite, zero_sub]
  rfl

theorem attn_at (a : Vec Ideal S256x512 .bf16) (w : Vec Ideal S512x2048 .bf16) (r : Fin 256) (q : Fin 2048) :
    (k0_pay11 (F := Ideal) a w : S256x2048.Idx → EReal) (ix2 r q) = ∑ k : Fin 512, (a (ix2 r k) : EReal) * w (ix2 k q) := by
  unfold k0_pay11
  pointwise

/-- The token after the mixers. -/
theorem mixed_at (ya yc : FVec Ideal S256x2048 .f32) (ga : Vec Ideal S256x2048 .bf16) (wo : Vec Ideal S2048x2048 .bf16) (x : Vec Ideal S256x2048 .f32) (g : Vec Ideal S1x1x2048 .f32)
    (r : Fin 256) (j : Fin 2048) :
    (k0_pay13 (F := Ideal) ya yc ga wo x g : S256x2048.Idx → EReal) (ix2 r j)
      = (x (ix2 r j) : EReal) + (g (ix3 0 0 j) : EReal) * ∑ q : Fin 2048, ((yc (ix2 r q) : EReal) + sigmaAt (ga (ix2 r q)) * ya (ix2 r q)) * (wo (ix2 q j) : EReal) := by
  unfold k0_pay13
  pointwise
  simp only [zero_sub]
  rfl

/-- Normalised, scaled and shifted. -/
theorem modulated_at (ya yc : FVec Ideal S256x2048 .f32) (ga : Vec Ideal S256x2048 .bf16) (wo : Vec Ideal S2048x2048 .bf16) (x : Vec Ideal S256x2048 .f32) (g : Vec Ideal S1x1x2048 .f32)
    (gn : Vec Ideal S1x2048 .f32) (sc sh : Vec Ideal S1x1x2048 .f32) (r : Fin 256) (j : Fin 2048) :
    (k0_pay1 (F := Ideal) (k0_pay13 ya yc ga wo x g) (k0_pay14 gn) (k0_pay15 sc) (k0_pay16 sh) (k0_pay17 ya yc ga wo x g) k0_pay18 : S256x2048.Idx → EReal) (ix2 r j)
      = normAt (fun j => k0_pay13 (F := Ideal) ya yc ga wo x g (ix2 r j)) (fun y => gn (ix2 0 (y 0))) j * (1 + (sc (ix3 0 0 j) : EReal)) + (sh (ix3 0 0 j) : EReal) := by
  unfold k0_pay1 k0_pay14 k0_pay15 k0_pay16 k0_pay17 k0_pay18
  pointwise
  rfl

theorem rounded_at (v : FVec Ideal S256x2048 .f32) (a b c : FVec Ideal S1x2048 .f32) (d e : FVec Ideal S256x1 .f32) (r : Fin 256) (j : Fin 2048) :
    (k0_pay2 (F := Ideal) v a b c d e : S256x2048.Idx → EReal) (ix2 r j) = k0_pay1 (F := Ideal) v a b c d e (ix2 r j) := by
  unfold k0_pay2
  pointwise

theorem logits_at (v : FVec Ideal S256x2048 .f32) (a b c : FVec Ideal S1x2048 .f32) (d e : FVec Ideal S256x1 .f32) (w : Vec Ideal S64x2048 .f32) (f : Fin 64) (r : Fin 256) :
    (k0_pay3 (F := Ideal) v a b c d e w : S64x256.Idx → EReal) (ix2 f r) = ∑ j : Fin 2048, (w (ix2 f j) : EReal) * k0_pay1 (F := Ideal) v a b c d e (ix2 r j) := by
  unfold k0_pay3
  pointwise

end Cert.Kernel4Ideal.Mix
end
-- ==== Proof.Mix.lean ====
/- The mixers' output: what one point of the grid leaves in the results' blocks. -/
module

public import proofs.«01_k».proof.Proof.MixVal
public import Idealize.ShloMosaic.Lib.Pipeline.Value

@[expose] public section

set_option maxRecDepth 16384

noncomputable section

namespace Cert.Kernel4Ideal.Mix

open Cert.Kernel4Ideal Cert.Kernel4Ideal.Gen Cert.Proof
open Idealize.ShloMosaic Idealize.ShloMosaic.TcCoe Idealize.ShloMosaic.Tactic
open Idealize.ShloMosaic.Pipeline (Dat Cfg Window)

theorem zero2 : (![0, 0] : Fin 2 → Nat) = fun _ => 0 := funext fun a => by fin_cases a <;> rfl
theorem zero3 : (![0, 0, 0] : Fin 3 → Nat) = fun _ => 0 := funext fun a => by fin_cases a <;> rfl

section

variable {F : FTy → Type} [FloatOps F]

/-- The gated convolution's branch on a block of tokens. -/
def convBranch (i : grid0.Coords) (b c v : Vec F S256x1024 .bf16) (hc hv : Vec F S16x1024 .bf16) (g : Vec F S256x2048 .bf16) (w : Vec F S3x1024 .f32) (wc : Vec F S1024x2048 .bf16) : FVec F S256x2048 .f32 :=
  k0_pay12 (k0_pay4 c v) (k0_pay6 i hc hv) (k0_pay7 i hc hv) (k0_pay8 i c v hc hv) k0_pay9 k0_pay10 w b wc g

variable (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x2048 .bf16) (h6 : a6.IsWhole) (a7 : Memref sig .tc .vmem S256x2048 .bf16) (h7 : a7.IsWhole) (a8 : Memref sig .tc .vmem S256x512 .bf16) (h8 : a8.IsWhole) (a9 : Memref sig .tc .vmem S256x2048 .f32) (h9 : a9.IsWhole) (a10 : Memref sig .tc .vmem S3x1024 .f32) (h10 : a10.IsWhole) (a11 : Memref sig .tc .vmem S1024x2048 .bf16) (h11 : a11.IsWhole) (a12 : Memref sig .tc .vmem S512x2048 .bf16) (h12 : a12.IsWhole) (a13 : Memref sig .tc .vmem S2048x2048 .bf16) (h13 : a13.IsWhole) (a14 : Memref sig .tc .vmem S1x1x2048 .f32) (h14 : a14.IsWhole) (a15 : Memref sig .tc .vmem S1x2048 .f32) (h15 : a15.IsWhole) (a16 : Memref sig .tc .vmem S1x1x2048 .f32) (h16 : a16.IsWhole) (a17 : Memref sig .tc .vmem S1x1x2048 .f32) (h17 : a17.IsWhole) (a18 : Memref sig .tc .vmem S64x2048 .f32) (h18 : a18.IsWhole) (a19 : Memref sig .tc .vmem S256x2048 .f32) (h19 : a19.IsWhole) (a20 : Memref sig .tc .vmem S256x2048 .bf16) (h20 : a20.IsWhole) (a21 : Memref sig .tc .vmem S64x256 .f32) (h21 : a21.IsWhole)
  (x0 : Vec F S256x1024 .bf16) (x1 : Vec F S256x1024 .bf16) (x2 : Vec F S256x1024 .bf16) (x3 : Vec F S16x1024 .bf16) (x4 : Vec F S16x1024 .bf16) (x5 : Vec F S256x2048 .bf16) (x6 : Vec F S256x2048 .bf16) (x7 : Vec F S256x512 .bf16) (x8 : Vec F S256x2048 .f32) (x9 : Vec F S3x1024 .f32) (x10 : Vec F S1024x2048 .bf16) (x11 : Vec F S512x2048 .bf16) (x12 : Vec F S2048x2048 .bf16) (x13 : Vec F S1x1x2048 .f32) (x14 : Vec F S1x2048 .f32) (x15 : Vec F S1x1x2048 .f32) (x16 : Vec F S1x1x2048 .f32) (x17 : Vec F S64x2048 .f32)

/-- The tokens after the mixers … -/
theorem out_mixed :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17
      = k0_pay13 (k0_pay11 x7 x11) (convBranch i x0 x1 x2 x3 x4 x5 x9 x10) x6 x12 x8 x13 := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, View.ld_unit_zero (S := S256x1024) zero2, View.ld_unit_zero (S := S16x1024) zero2, View.ld_unit_zero (S := S256x2048) zero2, View.ld_unit_zero (S := S256x512) zero2, View.ld_unit_zero (S := S3x1024) zero2, View.ld_unit_zero (S := S1024x2048) zero2, View.ld_unit_zero (S := S512x2048) zero2, View.ld_unit_zero (S := S2048x2048) zero2, View.ld_unit_zero (S := S1x2048) zero2, View.ld_unit_zero (S := S64x2048) zero2, View.ld_unit_zero (S := S1x1x2048) zero3]
  rfl

/-- … the normalised tokens, rounded … -/
theorem out_rounded :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17
      = k0_pay2 (k0_pay13 (k0_pay11 x7 x11) (convBranch i x0 x1 x2 x3 x4 x5 x9 x10) x6 x12 x8 x13) (k0_pay14 x14) (k0_pay15 x15) (k0_pay16 x16) (k0_pay17 (k0_pay11 x7 x11) (convBranch i x0 x1 x2 x3 x4 x5 x9 x10) x6 x12 x8 x13) k0_pay18 := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, View.ld_unit_zero (S := S256x1024) zero2, View.ld_unit_zero (S := S16x1024) zero2, View.ld_unit_zero (S := S256x2048) zero2, View.ld_unit_zero (S := S256x512) zero2, View.ld_unit_zero (S := S3x1024) zero2, View.ld_unit_zero (S := S1024x2048) zero2, View.ld_unit_zero (S := S512x2048) zero2, View.ld_unit_zero (S := S2048x2048) zero2, View.ld_unit_zero (S := S1x2048) zero2, View.ld_unit_zero (S := S64x2048) zero2, View.ld_unit_zero (S := S1x1x2048) zero3]
  rfl

/-- … and the router's logits. -/
theorem out_logits :
    out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17
      = k0_pay3 (k0_pay13 (k0_pay11 x7 x11) (convBranch i x0 x1 x2 x3 x4 x5 x9 x10) x6 x12 x8 x13) (k0_pay14 x14) (k0_pay15 x15) (k0_pay16 x16) (k0_pay17 (k0_pay11 x7 x11) (convBranch i x0 x1 x2 x3 x4 x5 x9 x10) x6 x12 x8 x13) k0_pay18 x17 := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, View.ld_unit_zero (S := S256x1024) zero2, View.ld_unit_zero (S := S16x1024) zero2, View.ld_unit_zero (S := S256x2048) zero2, View.ld_unit_zero (S := S256x512) zero2, View.ld_unit_zero (S := S3x1024) zero2, View.ld_unit_zero (S := S1024x2048) zero2, View.ld_unit_zero (S := S512x2048) zero2, View.ld_unit_zero (S := S2048x2048) zero2, View.ld_unit_zero (S := S1x2048) zero2, View.ld_unit_zero (S := S64x2048) zero2, View.ld_unit_zero (S := S1x1x2048) zero3]
  rfl

end

end Cert.Kernel4Ideal.Mix
end
-- ==== Proof.MixBlocks.lean ====
/- The mixers' output: the blocks of a point of the grid, read off the arguments. -/
module

public import proofs.«01_k».proof.Proof.Mix
public import Idealize.ShloMosaic.Lib.Pipeline.ValueKit.Geometry

@[expose] public section

set_option maxRecDepth 16384

noncomputable section

namespace Cert.Kernel4Ideal.Mix

open Cert.Kernel4Ideal Cert.Kernel4Ideal.Gen Cert.Proof
open Idealize.ShloMosaic Idealize.ShloMosaic.TcCoe Idealize.ShloMosaic.Tactic
open Idealize.ShloMosaic.Pipeline (Dat Cfg Window)

variable (m : (ℓ : Loc nD τ sig) → Buf (Elt Ideal) ℓ)

theorem points (t : Fin cfg0.N) : t.val < 32 := by have := N_0; have h : t.val < grid0.N := t.isLt; omega

/-- Token `r` of the block of point `n`. -/
def tokenOf (n : ℕ) (h : n < 32) (r : Fin 256) : Fin 8192 := ⟨256 * n + r.val, by omega⟩

/-- Token `r` of the 16 before the block of point `n`; at point 0, which does not use them, the first 16. -/
def haloOf (n : ℕ) (h : n < 32) (r : Fin 16) : Fin 8192 := ⟨16 * (16 * n - 1) + r.val, by omega⟩

/-! ### Where the blocks lie -/

theorem at_0 (t : Fin cfg0.N) : win0_0.index t 0 = t.val ∧ win0_0.index t 1 = 4 := by
  revert t; show ∀ t : Fin grid0.N, win0_0.index t 0 = t.val ∧ win0_0.index t 1 = 4; decide +kernel
theorem at_1 (t : Fin cfg0.N) : win0_1.index t 0 = t.val ∧ win0_1.index t 1 = 5 := by
  revert t; show ∀ t : Fin grid0.N, win0_1.index t 0 = t.val ∧ win0_1.index t 1 = 5; decide +kernel
theorem at_2 (t : Fin cfg0.N) : win0_2.index t 0 = t.val ∧ win0_2.index t 1 = 6 := by
  revert t; show ∀ t : Fin grid0.N, win0_2.index t 0 = t.val ∧ win0_2.index t 1 = 6; decide +kernel
theorem at_5 (t : Fin cfg0.N) : win0_5.index t 0 = t.val ∧ win0_5.index t 1 = 0 := by
  revert t; show ∀ t : Fin grid0.N, win0_5.index t 0 = t.val ∧ win0_5.index t 1 = 0; decide +kernel
theorem at_6 (t : Fin cfg0.N) : win0_6.index t 0 = t.val ∧ win0_6.index t 1 = 1 := by
  revert t; show ∀ t : Fin grid0.N, win0_6.index t 0 = t.val ∧ win0_6.index t 1 = 1; decide +kernel
theorem at_3 (t : Fin cfg0.N) : win0_3.index t 0 = 16 * t.val - 1 ∧ win0_3.index t 1 = 5 := by
  revert t; show ∀ t : Fin grid0.N, win0_3.index t 0 = 16 * t.val - 1 ∧ win0_3.index t 1 = 5; decide +kernel
theorem at_4 (t : Fin cfg0.N) : win0_4.index t 0 = 16 * t.val - 1 ∧ win0_4.index t 1 = 6 := by
  revert t; show ∀ t : Fin grid0.N, win0_4.index t 0 = 16 * t.val - 1 ∧ win0_4.index t 1 = 6; decide +kernel
theorem at_7 (t : Fin cfg0.N) : win0_7.index t 0 = t.val ∧ win0_7.index t 1 = 0 := by
  revert t; show ∀ t : Fin grid0.N, win0_7.index t 0 = t.val ∧ win0_7.index t 1 = 0; decide +kernel
theorem at_8 (t : Fin cfg0.N) : win0_8.index t 0 = t.val ∧ win0_8.index t 1 = 0 := by
  revert t; show ∀ t : Fin grid0.N, win0_8.index t 0 = t.val ∧ win0_8.index t 1 = 0; decide +kernel
theorem at_18 (t : Fin cfg0.N) : win0_18.index t 0 = t.val ∧ win0_18.index t 1 = 0 := by
  revert t; show ∀ t : Fin grid0.N, win0_18.index t 0 = t.val ∧ win0_18.index t 1 = 0; decide +kernel
theorem at_19 (t : Fin cfg0.N) : win0_19.index t 0 = t.val ∧ win0_19.index t 1 = 0 := by
  revert t; show ∀ t : Fin grid0.N, win0_19.index t 0 = t.val ∧ win0_19.index t 1 = 0; decide +kernel
theorem at_20 (t : Fin cfg0.N) : win0_20.index t 0 = 0 ∧ win0_20.index t 1 = t.val := by
  revert t; show ∀ t : Fin grid0.N, win0_20.index t 0 = 0 ∧ win0_20.index t 1 = t.val; decide +kernel
theorem at_9 (t : Fin cfg0.N) : win0_9.index t 0 = 0 ∧ win0_9.index t 1 = 0 := by
  revert t; show ∀ t : Fin grid0.N, win0_9.index t 0 = 0 ∧ win0_9.index t 1 = 0; decide +kernel
theorem at_10 (t : Fin cfg0.N) : win0_10.index t 0 = 0 ∧ win0_10.index t 1 = 0 := by
  revert t; show ∀ t : Fin grid0.N, win0_10.index t 0 = 0 ∧ win0_10.index t 1 = 0; decide +kernel
theorem at_11 (t : Fin cfg0.N) : win0_11.index t 0 = 0 ∧ win0_11.index t 1 = 0 := by
  revert t; show ∀ t : Fin grid0.N, win0_11.index t 0 = 0 ∧ win0_11.index t 1 = 0; decide +kernel
theorem at_12 (t : Fin cfg0.N) : win0_12.index t 0 = 0 ∧ win0_12.index t 1 = 0 := by
  revert t; show ∀ t : Fin grid0.N, win0_12.index t 0 = 0 ∧ win0_12.index t 1 = 0; decide +kernel
theorem at_14 (t : Fin cfg0.N) : win0_14.index t 0 = 0 ∧ win0_14.index t 1 = 0 := by
  revert t; show ∀ t : Fin grid0.N, win0_14.index t 0 = 0 ∧ win0_14.index t 1 = 0; decide +kernel
theorem at_17 (t : Fin cfg0.N) : win0_17.index t 0 = 0 ∧ win0_17.index t 1 = 0 := by
  revert t; show ∀ t : Fin grid0.N, win0_17.index t 0 = 0 ∧ win0_17.index t 1 = 0; decide +kernel
theorem at_13 (t : Fin cfg0.N) : win0_13.index t 0 = 6 * (t.val / 16) + 2 ∧ win0_13.index t 1 = 0 ∧ win0_13.index t 2 = 0 := by
  revert t; show ∀ t : Fin grid0.N, win0_13.index t 0 = 6 * (t.val / 16) + 2 ∧ win0_13.index t 1 = 0 ∧ win0_13.index t 2 = 0; decide +kernel
theorem at_15 (t : Fin cfg0.N) : win0_15.index t 0 = 6 * (t.val / 16) + 4 ∧ win0_15.index t 1 = 0 ∧ win0_15.index t 2 = 0 := by
  revert t; show ∀ t : Fin grid0.N, win0_15.index t 0 = 6 * (t.val / 16) + 4 ∧ win0_15.index t 1 = 0 ∧ win0_15.index t 2 = 0; decide +kernel
theorem at_16 (t : Fin cfg0.N) : win0_16.index t 0 = 6 * (t.val / 16) + 3 ∧ win0_16.index t 1 = 0 ∧ win0_16.index t 2 = 0 := by
  revert t; show ∀ t : Fin grid0.N, win0_16.index t 0 = 6 * (t.val / 16) + 3 ∧ win0_16.index t 1 = 0 ∧ win0_16.index t 2 = 0; decide +kernel
theorem coord_at (t : Fin cfg0.N) : (grid0.coords t 0).val = t.val := by
  revert t; show ∀ t : Fin grid0.N, (grid0.coords t 0).val = t.val; decide +kernel

/-! ### What the host lays out for the kernel -/

theorem taps_flat (a : S1x3x1024.Idx → EReal) (h) (n : Fin 3) (k : Fin 1024) : shapeCast S3x1024 a h (ix2 n k) = a (ix3 0 n k) := by
  pointwise

theorem wc_flat (a : S1x1024x2048.Idx → EReal) (h) (h') (k : Fin 1024) (l : Fin 2048) :
    (truncf (F := Ideal) .bf16 (shapeCast S1024x2048 a h : FVec Ideal S1024x2048 .f32) h' : S1024x2048.Idx → EReal) (ix2 k l) = a (ix3 0 k l) := by
  pointwise

theorem wa_flat (a : S1x512x2048.Idx → EReal) (h) (h') (k : Fin 512) (l : Fin 2048) :
    (truncf (F := Ideal) .bf16 (shapeCast S512x2048 a h : FVec Ideal S512x2048 .f32) h' : S512x2048.Idx → EReal) (ix2 k l) = a (ix3 0 k l) := by
  pointwise

theorem wo_flat (a : S1x2048x2048.Idx → EReal) (h) (h') (k : Fin 2048) (l : Fin 2048) :
    (truncf (F := Ideal) .bf16 (shapeCast S2048x2048 a h : FVec Ideal S2048x2048 .f32) h' : S2048x2048.Idx → EReal) (ix2 k l) = a (ix3 0 k l) := by
  pointwise

theorem gates_flat (a : S2x12288.Idx → EReal) (h) (b : Fin 2) (n : Fin 6) (j : Fin 2048) :
    shapeCast S12x1x2048 a h (ix3 (⟨6 * b.val + n.val, by omega⟩ : Fin 12) 0 j) = a (ix2 b (⟨2048 * n.val + j.val, by omega⟩ : Fin 12288)) := by
  pointwise
  congr 2 <;> refine Fin.ext ?_ <;> simp <;> omega

theorem gain_flat (a : S1x2048.Idx → EReal) (h) (h') (j : Fin 2048) : shapeCast S1x2048 (shapeCast S2048 a h) h' (ix2 0 j) = a (ix2 0 j) := by
  pointwise

theorem router_flat (a : S1x2048x64.Idx → EReal) (h) (h') (e : Fin 64) (j : Fin 2048) :
    transpose S64x2048 [1, 0] (shapeCast S2048x64 a h) h' (ix2 e j) = a (ix3 0 j e) := by
  pointwise

/-! ### The blocks at a point -/

/-- The convolution's first gate … -/
theorem b_at (c : Dev nD) (t : Fin cfg0.N) (r : Fin 256) (k : Fin 1024) :
    (X0_0 m c t : S256x1024.Idx → EReal) (ix2 r k) = (m ((c.tc : Thread nD τ).loc main_arg0) : S8192x11776.Idx → EReal) (ix2 (tokenOf t.val (points t) r) (⟨4096 + k.val, by omega⟩ : Fin 11776)) := by
  have ht := points t
  rw [← V_main_arg0 m c]
  unfold X0_0 Window.fill
  rw [dif_pos (moved0_0 t _)]
  unfold iblk
  rw [View.read_apply]
  show V m c main_arg0 _ = V m c main_arg0 _
  refine congrArg (V m c main_arg0) (funext fun a => Fin.ext ?_)
  match a with
  | ⟨0, _⟩ => show win0_0.index t 0 * 256 + 1 * r.val = 256 * t.val + r.val; rw [(at_0 t).1]; omega
  | ⟨1, _⟩ => show win0_0.index t 1 * 1024 + 1 * k.val = 4096 + k.val; rw [(at_0 t).2]; omega

/-- … its second gate … -/
theorem c_at (c : Dev nD) (t : Fin cfg0.N) (r : Fin 256) (k : Fin 1024) :
    (X0_1 m c t : S256x1024.Idx → EReal) (ix2 r k) = (m ((c.tc : Thread nD τ).loc main_arg0) : S8192x11776.Idx → EReal) (ix2 (tokenOf t.val (points t) r) (⟨5120 + k.val, by omega⟩ : Fin 11776)) := by
  have ht := points t
  rw [← V_main_arg0 m c]
  unfold X0_1 Window.fill
  rw [dif_pos (moved0_1 t _)]
  unfold iblk
  rw [View.read_apply]
  show V m c main_arg0 _ = V m c main_arg0 _
  refine congrArg (V m c main_arg0) (funext fun a => Fin.ext ?_)
  match a with
  | ⟨0, _⟩ => show win0_1.index t 0 * 256 + 1 * r.val = 256 * t.val + r.val; rw [(at_1 t).1]; omega
  | ⟨1, _⟩ => show win0_1.index t 1 * 1024 + 1 * k.val = 5120 + k.val; rw [(at_1 t).2]; omega

/-- … and its value, on the block's tokens. -/
theorem v_at (c : Dev nD) (t : Fin cfg0.N) (r : Fin 256) (k : Fin 1024) :
    (X0_2 m c t : S256x1024.Idx → EReal) (ix2 r k) = (m ((c.tc : Thread nD τ).loc main_arg0) : S8192x11776.Idx → EReal) (ix2 (tokenOf t.val (points t) r) (⟨6144 + k.val, by omega⟩ : Fin 11776)) := by
  have ht := points t
  rw [← V_main_arg0 m c]
  unfold X0_2 Window.fill
  rw [dif_pos (moved0_2 t _)]
  unfold iblk
  rw [View.read_apply]
  show V m c main_arg0 _ = V m c main_arg0 _
  refine congrArg (V m c main_arg0) (funext fun a => Fin.ext ?_)
  match a with
  | ⟨0, _⟩ => show win0_2.index t 0 * 256 + 1 * r.val = 256 * t.val + r.val; rw [(at_2 t).1]; omega
  | ⟨1, _⟩ => show win0_2.index t 1 * 1024 + 1 * k.val = 6144 + k.val; rw [(at_2 t).2]; omega

/-- The second gate on the tokens before the block … -/
theorem hc_at (c : Dev nD) (t : Fin cfg0.N) (r : Fin 16) (k : Fin 1024) :
    (X0_3 m c t : S16x1024.Idx → EReal) (ix2 r k) = (m ((c.tc : Thread nD τ).loc main_arg0) : S8192x11776.Idx → EReal) (ix2 (haloOf t.val (points t) r) (⟨5120 + k.val, by omega⟩ : Fin 11776)) := by
  have ht := points t
  rw [← V_main_arg0 m c]
  unfold X0_3 Window.fill
  rw [dif_pos (moved0_3 t _)]
  unfold iblk
  rw [View.read_apply]
  show V m c main_arg0 _ = V m c main_arg0 _
  refine congrArg (V m c main_arg0) (funext fun a => Fin.ext ?_)
  match a with
  | ⟨0, _⟩ => show win0_3.index t 0 * 16 + 1 * r.val = 16 * (16 * t.val - 1) + r.val; rw [(at_3 t).1]; omega
  | ⟨1, _⟩ => show win0_3.index t 1 * 1024 + 1 * k.val = 5120 + k.val; rw [(at_3 t).2]; omega

/-- … and the value. -/
theorem hv_at (c : Dev nD) (t : Fin cfg0.N) (r : Fin 16) (k : Fin 1024) :
    (X0_4 m c t : S16x1024.Idx → EReal) (ix2 r k) = (m ((c.tc : Thread nD τ).loc main_arg0) : S8192x11776.Idx → EReal) (ix2 (haloOf t.val (points t) r) (⟨6144 + k.val, by omega⟩ : Fin 11776)) := by
  have ht := points t
  rw [← V_main_arg0 m c]
  unfold X0_4 Window.fill
  rw [dif_pos (moved0_4 t _)]
  unfold iblk
  rw [View.read_apply]
  show V m c main_arg0 _ = V m c main_arg0 _
  refine congrArg (V m c main_arg0) (funext fun a => Fin.ext ?_)
  match a with
  | ⟨0, _⟩ => show win0_4.index t 0 * 16 + 1 * r.val = 16 * (16 * t.val - 1) + r.val; rw [(at_4 t).1]; omega
  | ⟨1, _⟩ => show win0_4.index t 1 * 1024 + 1 * k.val = 6144 + k.val; rw [(at_4 t).2]; omega

/-- The convolution branch's gate … -/
theorem gc_at (c : Dev nD) (t : Fin cfg0.N) (r : Fin 256) (k : Fin 2048) :
    (X0_5 m c t : S256x2048.Idx → EReal) (ix2 r k) = (m ((c.tc : Thread nD τ).loc main_arg0) : S8192x11776.Idx → EReal) (ix2 (tokenOf t.val (points t) r) (⟨k.val, by omega⟩ : Fin 11776)) := by
  have ht := points t
  rw [← V_main_arg0 m c]
  unfold X0_5 Window.fill
  rw [dif_pos (moved0_5 t _)]
  unfold iblk
  rw [View.read_apply]
  show V m c main_arg0 _ = V m c main_arg0 _
  refine congrArg (V m c main_arg0) (funext fun a => Fin.ext ?_)
  match a with
  | ⟨0, _⟩ => show win0_5.index t 0 * 256 + 1 * r.val = 256 * t.val + r.val; rw [(at_5 t).1]; omega
  | ⟨1, _⟩ => show win0_5.index t 1 * 2048 + 1 * k.val = k.val; rw [(at_5 t).2]; omega

/-- … and the attention branch's. -/
theorem ga_at (c : Dev nD) (t : Fin cfg0.N) (r : Fin 256) (k : Fin 2048) :
    (X0_6 m c t : S256x2048.Idx → EReal) (ix2 r k) = (m ((c.tc : Thread nD τ).loc main_arg0) : S8192x11776.Idx → EReal) (ix2 (tokenOf t.val (points t) r) (⟨2048 + k.val, by omega⟩ : Fin 11776)) := by
  have ht := points t
  rw [← V_main_arg0 m c]
  unfold X0_6 Window.fill
  rw [dif_pos (moved0_6 t _)]
  unfold iblk
  rw [View.read_apply]
  show V m c main_arg0 _ = V m c main_arg0 _
  refine congrArg (V m c main_arg0) (funext fun a => Fin.ext ?_)
  match a with
  | ⟨0, _⟩ => show win0_6.index t 0 * 256 + 1 * r.val = 256 * t.val + r.val; rw [(at_6 t).1]; omega
  | ⟨1, _⟩ => show win0_6.index t 1 * 2048 + 1 * k.val = 2048 + k.val; rw [(at_6 t).2]; omega

/-- The attention's rows. -/
theorem heads_at (c : Dev nD) (t : Fin cfg0.N) (r : Fin 256) (k : Fin 512) :
    (iblk m c 7 t : S256x512.Idx → EReal) (ix2 r k) = (m ((c.tc : Thread nD τ).loc main_arg1) : S8192x512.Idx → EReal) (ix2 (tokenOf t.val (points t) r) k) := by
  have ht := points t
  rw [← V_main_arg1 m c]
  unfold iblk
  rw [View.read_apply]
  show V m c main_arg1 _ = V m c main_arg1 _
  refine congrArg (V m c main_arg1) (funext fun a => Fin.ext ?_)
  match a with
  | ⟨0, _⟩ => show win0_7.index t 0 * 256 + 1 * r.val = 256 * t.val + r.val; rw [(at_7 t).1]; omega
  | ⟨1, _⟩ => show win0_7.index t 1 * 512 + 1 * k.val = k.val; rw [(at_7 t).2]; omega

/-- The tokens. -/
theorem x_at (c : Dev nD) (t : Fin cfg0.N) (r : Fin 256) (k : Fin 2048) :
    (iblk m c 8 t : S256x2048.Idx → EReal) (ix2 r k) = (m ((c.tc : Thread nD τ).loc main_arg2) : S8192x2048.Idx → EReal) (ix2 (tokenOf t.val (points t) r) k) := by
  have ht := points t
  rw [← V_main_arg2 m c]
  unfold iblk
  rw [View.read_apply]
  show V m c main_arg2 _ = V m c main_arg2 _
  refine congrArg (V m c main_arg2) (funext fun a => Fin.ext ?_)
  match a with
  | ⟨0, _⟩ => show win0_8.index t 0 * 256 + 1 * r.val = 256 * t.val + r.val; rw [(at_8 t).1]; omega
  | ⟨1, _⟩ => show win0_8.index t 1 * 2048 + 1 * k.val = k.val; rw [(at_8 t).2]; omega

/-- The convolution's taps. -/
theorem taps_at (c : Dev nD) (t : Fin cfg0.N) (n : Fin 3) (k : Fin 1024) :
    (iblk m c 9 t : S3x1024.Idx → EReal) (ix2 n k) = (m ((c.tc : Thread nD τ).loc main_arg3) : S1x3x1024.Idx → EReal) (ix3 0 n k) := by
  refine Eq.trans ?_ (taps_flat (m ((c.tc : Thread nD τ).loc main_arg3)) shapeCasts_S1x3x1024_S3x1024 n k)
  unfold iblk
  rw [View.read_apply]
  show V m c main_v1 _ = V m c main_v1 _
  refine congrArg (V m c main_v1) (funext fun a => Fin.ext ?_)
  match a with
  | ⟨0, _⟩ => show win0_9.index t 0 * 3 + 1 * n.val = n.val; rw [(at_9 t).1]; omega
  | ⟨1, _⟩ => show win0_9.index t 1 * 1024 + 1 * k.val = k.val; rw [(at_9 t).2]; omega

/-- The convolution branch's weights. -/
theorem wc_at (c : Dev nD) (t : Fin cfg0.N) (k : Fin 1024) (l : Fin 2048) :
    (iblk m c 10 t : S1024x2048.Idx → EReal) (ix2 k l) = (m ((c.tc : Thread nD τ).loc main_arg4) : S1x1024x2048.Idx → EReal) (ix3 0 k l) := by
  refine Eq.trans ?_ (wc_flat (m ((c.tc : Thread nD τ).loc main_arg4)) shapeCasts_S1x1024x2048_S1024x2048 bitsLt_bf16_f32 k l)
  unfold iblk
  rw [View.read_apply]
  show V m c main_v3 _ = V m c main_v3 _
  refine congrArg (V m c main_v3) (funext fun a => Fin.ext ?_)
  match a with
  | ⟨0, _⟩ => show win0_10.index t 0 * 1024 + 1 * k.val = k.val; rw [(at_10 t).1]; omega
  | ⟨1, _⟩ => show win0_10.index t 1 * 2048 + 1 * l.val = l.val; rw [(at_10 t).2]; omega

/-- The attention branch's weights. -/
theorem wa_at (c : Dev nD) (t : Fin cfg0.N) (k : Fin 512) (l : Fin 2048) :
    (iblk m c 11 t : S512x2048.Idx → EReal) (ix2 k l) = (m ((c.tc : Thread nD τ).loc main_arg5) : S1x512x2048.Idx → EReal) (ix3 0 k l) := by
  refine Eq.trans ?_ (wa_flat (m ((c.tc : Thread nD τ).loc main_arg5)) shapeCasts_S1x512x2048_S512x2048 bitsLt_bf16_f32 k l)
  unfold iblk
  rw [View.read_apply]
  show V m c main_v5 _ = V m c main_v5 _
  refine congrArg (V m c main_v5) (funext fun a => Fin.ext ?_)
  match a with
  | ⟨0, _⟩ => show win0_11.index t 0 * 512 + 1 * k.val = k.val; rw [(at_11 t).1]; omega
  | ⟨1, _⟩ => show win0_11.index t 1 * 2048 + 1 * l.val = l.val; rw [(at_11 t).2]; omega

/-- The merged branches' weights. -/
theorem wo_at (c : Dev nD) (t : Fin cfg0.N) (k : Fin 2048) (l : Fin 2048) :
    (iblk m c 12 t : S2048x2048.Idx → EReal) (ix2 k l) = (m ((c.tc : Thread nD τ).loc main_arg6) : S1x2048x2048.Idx → EReal) (ix3 0 k l) := by
  refine Eq.trans ?_ (wo_flat (m ((c.tc : Thread nD τ).loc main_arg6)) shapeCasts_S1x2048x2048_S2048x2048 bitsLt_bf16_f32 k l)
  unfold iblk
  rw [View.read_apply]
  show V m c main_v7 _ = V m c main_v7 _
  refine congrArg (V m c main_v7) (funext fun a => Fin.ext ?_)
  match a with
  | ⟨0, _⟩ => show win0_12.index t 0 * 2048 + 1 * k.val = k.val; rw [(at_12 t).1]; omega
  | ⟨1, _⟩ => show win0_12.index t 1 * 2048 + 1 * l.val = l.val; rw [(at_12 t).2]; omega

/-- The gain. -/
theorem gain_at (c : Dev nD) (t : Fin cfg0.N) (j : Fin 2048) :
    (iblk m c 14 t : S1x2048.Idx → EReal) (ix2 0 j) = (m ((c.tc : Thread nD τ).loc main_arg8) : S1x2048.Idx → EReal) (ix2 0 j) := by
  refine Eq.trans ?_ (gain_flat (m ((c.tc : Thread nD τ).loc main_arg8)) shapeCasts_S1x2048_S2048 shapeCasts_S2048_S1x2048 j)
  unfold iblk
  rw [View.read_apply]
  show V m c main_v9 _ = V m c main_v9 _
  refine congrArg (V m c main_v9) (funext fun a => Fin.ext ?_)
  match a with
  | ⟨0, _⟩ => show win0_14.index t 0 * 1 + 1 * 0 = 0; rw [(at_14 t).1]
  | ⟨1, _⟩ => show win0_14.index t 1 * 2048 + 1 * j.val = j.val; rw [(at_14 t).2]; omega

/-- The router's weights. -/
theorem router_at (c : Dev nD) (t : Fin cfg0.N) (e : Fin 64) (j : Fin 2048) :
    (iblk m c 17 t : S64x2048.Idx → EReal) (ix2 e j) = (m ((c.tc : Thread nD τ).loc main_arg9) : S1x2048x64.Idx → EReal) (ix3 0 j e) := by
  refine Eq.trans ?_ (router_flat (m ((c.tc : Thread nD τ).loc main_arg9)) shapeCasts_S1x2048x64_S2048x64 transposes_S2048x64_S64x2048_1_0 e j)
  unfold iblk
  rw [View.read_apply]
  show V m c main_v11 _ = V m c main_v11 _
  refine congrArg (V m c main_v11) (funext fun a => Fin.ext ?_)
  match a with
  | ⟨0, _⟩ => show win0_17.index t 0 * 64 + 1 * e.val = e.val; rw [(at_17 t).1]; omega
  | ⟨1, _⟩ => show win0_17.index t 1 * 2048 + 1 * j.val = j.val; rw [(at_17 t).2]; omega

/-- The gate of the block's sequence … -/
theorem gate_at (c : Dev nD) (t : Fin cfg0.N) (j : Fin 2048) :
    (iblk m c 13 t : S1x1x2048.Idx → EReal) (ix3 0 0 j) = (m ((c.tc : Thread nD τ).loc main_arg7) : S2x12288.Idx → EReal) (ix2 (⟨t.val / 16, by have := points t; omega⟩ : Fin 2) (⟨4096 + j.val, by omega⟩ : Fin 12288)) := by
  have ht := points t
  refine Eq.trans ?_ (gates_flat (m ((c.tc : Thread nD τ).loc main_arg7)) shapeCasts_S2x12288_S12x1x2048 (⟨t.val / 16, by omega⟩ : Fin 2) 2 j)
  unfold iblk
  rw [View.read_apply]
  show V m c main_v0 _ = V m c main_v0 _
  refine congrArg (V m c main_v0) (funext fun a => Fin.ext ?_)
  match a with
  | ⟨0, _⟩ => show win0_13.index t 0 * 1 + 1 * 0 = 6 * (t.val / 16) + 2; rw [(at_13 t).1]; omega
  | ⟨1, _⟩ => show win0_13.index t 1 * 1 + 1 * 0 = 0; rw [(at_13 t).2.1]
  | ⟨2, _⟩ => show win0_13.index t 2 * 2048 + 1 * j.val = j.val; rw [(at_13 t).2.2]; omega

/-- … its scale … -/
theorem scale_at (c : Dev nD) (t : Fin cfg0.N) (j : Fin 2048) :
    (iblk m c 15 t : S1x1x2048.Idx → EReal) (ix3 0 0 j) = (m ((c.tc : Thread nD τ).loc main_arg7) : S2x12288.Idx → EReal) (ix2 (⟨t.val / 16, by have := points t; omega⟩ : Fin 2) (⟨8192 + j.val, by omega⟩ : Fin 12288)) := by
  have ht := points t
  refine Eq.trans ?_ (gates_flat (m ((c.tc : Thread nD τ).loc main_arg7)) shapeCasts_S2x12288_S12x1x2048 (⟨t.val / 16, by omega⟩ : Fin 2) 4 j)
  unfold iblk
  rw [View.read_apply]
  show V m c main_v0 _ = V m c main_v0 _
  refine congrArg (V m c main_v0) (funext fun a => Fin.ext ?_)
  match a with
  | ⟨0, _⟩ => show win0_15.index t 0 * 1 + 1 * 0 = 6 * (t.val / 16) + 4; rw [(at_15 t).1]; omega
  | ⟨1, _⟩ => show win0_15.index t 1 * 1 + 1 * 0 = 0; rw [(at_15 t).2.1]
  | ⟨2, _⟩ => show win0_15.index t 2 * 2048 + 1 * j.val = j.val; rw [(at_15 t).2.2]; omega

/-- … and its shift. -/
theorem shift_at (c : Dev nD) (t : Fin cfg0.N) (j : Fin 2048) :
    (iblk m c 16 t : S1x1x2048.Idx → EReal) (ix3 0 0 j) = (m ((c.tc : Thread nD τ).loc main_arg7) : S2x12288.Idx → EReal) (ix2 (⟨t.val / 16, by have := points t; omega⟩ : Fin 2) (⟨6144 + j.val, by omega⟩ : Fin 12288)) := by
  have ht := points t
  refine Eq.trans ?_ (gates_flat (m ((c.tc : Thread nD τ).loc main_arg7)) shapeCasts_S2x12288_S12x1x2048 (⟨t.val / 16, by omega⟩ : Fin 2) 3 j)
  unfold iblk
  rw [View.read_apply]
  show V m c main_v0 _ = V m c main_v0 _
  refine congrArg (V m c main_v0) (funext fun a => Fin.ext ?_)
  match a with
  | ⟨0, _⟩ => show win0_16.index t 0 * 1 + 1 * 0 = 6 * (t.val / 16) + 3; rw [(at_16 t).1]; omega
  | ⟨1, _⟩ => show win0_16.index t 1 * 1 + 1 * 0 = 0; rw [(at_16 t).2.1]
  | ⟨2, _⟩ => show win0_16.index t 2 * 2048 + 1 * j.val = j.val; rw [(at_16 t).2.2]; omega

end Cert.Kernel4Ideal.Mix
end
-- ==== Proof.MixOut.lean ====
/- The mixers' output: the kernel's three results, whole, read at an index. -/
module

public import proofs.«01_k».proof.Proof.MixBlocks

@[expose] public section

set_option maxRecDepth 16384

noncomputable section

namespace Cert.Kernel4Ideal.Mix

open Cert.Kernel4Ideal Cert.Kernel4Ideal.Gen Cert.Proof
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The projection a core starts from. -/
def proj (c : Dev nD) : S8192x11776.Idx → EReal := m ((c.tc : Thread nD τ).loc main_arg0)

/-- The token after the mixers, of the arguments a core starts from. -/
def mixed (c : Dev nD) (T : Fin 8192) (j : Fin 2048) : EReal :=
  mixedAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) T j

/-- The same, normalised and modulated. -/
def modulated (c : Dev nD) (T : Fin 8192) (j : Fin 2048) : EReal :=
  modulatedAt (mixed m c T) (m ((c.tc : Thread nD τ).loc main_arg8)) (m ((c.tc : Thread nD τ).loc main_arg7)) T j

theorem sequence_of (t : Fin cfg0.N) (r : Fin 256) : (⟨t.val / 16, by have := points t; omega⟩ : Fin 2) = ⟨(tokenOf t.val (points t) r).val / 4096, by omega⟩ :=
  Fin.ext (by show t.val / 16 = (256 * t.val + r.val) / 4096; omega)

/-- The convolution's input on the block's tokens. -/
theorem here_at (c : Dev nD) (t : Fin cfg0.N) (r : Fin 256) (k : Fin 1024) :
    (k0_pay4 (F := Ideal) (X0_1 m c t) (X0_2 m c t) : S256x1024.Idx → EReal) (ix2 r k) = inputAt (proj m c) (tokenOf t.val (points t) r) k := by
  rw [input_at, c_at, v_at]
  rfl

/-- The convolution's input on the tokens before the block. -/
theorem before_at (c : Dev nD) (t : Fin cfg0.N) (r : Fin 16) (k : Fin 1024) :
    (k0_pay5 (F := Ideal) (grid0.coords t) (X0_3 m c t) (X0_4 m c t) : S16x1024.Idx → EReal) (ix2 r k) = if t.val % 16 = 0 then 0 else inputAt (proj m c) (haloOf t.val (points t) r) k := by
  rw [halo_at, hc_at, hv_at, coord_at]
  rfl

/-- One token back … -/
theorem one_back (c : Dev nD) (t : Fin cfg0.N) (r : Fin 256) (k : Fin 1024) :
    (k0_pay8 (F := Ideal) (grid0.coords t) (X0_1 m c t) (X0_2 m c t) (X0_3 m c t) (X0_4 m c t) : S256x1024.Idx → EReal) (ix2 r k) = backAt (proj m c) 1 (tokenOf t.val (points t) r) k := by
  have ht := points t
  rw [back1_at, before_at, here_at]
  unfold backAt
  have hv : (tokenOf t.val (points t) r).val = 256 * t.val + r.val := rfl
  by_cases h0 : r.val = 0
  · rw [if_pos h0]
    by_cases h1 : t.val % 16 = 0
    · rw [if_pos h1, if_neg (by omega)]
    · rw [if_neg h1, if_pos (by omega)]
      refine congrArg (inputAt (proj m c) · k) (Fin.ext ?_)
      show 16 * (16 * t.val - 1) + 15 = 256 * t.val + r.val - 1
      omega
  · rw [if_neg h0, if_pos (by omega)]
    refine congrArg (inputAt (proj m c) · k) (Fin.ext ?_)
    show 256 * t.val + (r.val + 256 - 1) % 256 = 256 * t.val + r.val - 1
    omega

/-- … and two. -/
theorem two_back (c : Dev nD) (t : Fin cfg0.N) (r : Fin 256) (k : Fin 1024) :
    (if r.val = 0 then (k0_pay7 (F := Ideal) (grid0.coords t) (X0_3 m c t) (X0_4 m c t) : S1x1024.Idx → EReal) (ix2 0 k)
      else if r.val = 1 then (k0_pay6 (F := Ideal) (grid0.coords t) (X0_3 m c t) (X0_4 m c t) : S1x1024.Idx → EReal) (ix2 0 k)
      else (k0_pay4 (F := Ideal) (X0_1 m c t) (X0_2 m c t) : S256x1024.Idx → EReal) (ix2 (⟨(r.val + 256 - 2) % 256, by omega⟩ : Fin 256) k))
      = backAt (proj m c) 2 (tokenOf t.val (points t) r) k := by
  have ht := points t
  rw [edge2_at, edge1_at, before_at, before_at, here_at]
  unfold backAt
  have hv : (tokenOf t.val (points t) r).val = 256 * t.val + r.val := rfl
  by_cases h0 : r.val = 0
  · rw [if_pos h0]
    by_cases h1 : t.val % 16 = 0
    · rw [if_pos h1, if_neg (by omega)]
    · rw [if_neg h1, if_pos (by omega)]
      refine congrArg (inputAt (proj m c) · k) (Fin.ext ?_)
      show 16 * (16 * t.val - 1) + 14 = 256 * t.val + r.val - 2
      omega
  · rw [if_neg h0]
    by_cases h1 : r.val = 1
    · rw [if_pos h1]
      by_cases h2 : t.val % 16 = 0
      · rw [if_pos h2, if_neg (by omega)]
      · rw [if_neg h2, if_pos (by omega)]
        refine congrArg (inputAt (proj m c) · k) (Fin.ext ?_)
        show 16 * (16 * t.val - 1) + 15 = 256 * t.val + r.val - 2
        omega
    · rw [if_neg h1, if_pos (by omega)]
      refine congrArg (inputAt (proj m c) · k) (Fin.ext ?_)
      show 256 * t.val + (r.val + 256 - 2) % 256 = 256 * t.val + r.val - 2
      omega

/-- The token after the mixers, of a point's blocks. -/
theorem mixed_block (c : Dev nD) (t : Fin cfg0.N) (r : Fin 256) (j : Fin 2048) :
    (k0_pay13 (F := Ideal) (k0_pay11 (iblk m c 7 t) (iblk m c 11 t)) (convBranch (grid0.coords t) (X0_0 m c t) (X0_1 m c t) (X0_2 m c t) (X0_3 m c t) (X0_4 m c t) (X0_5 m c t) (iblk m c 9 t) (iblk m c 10 t)) (X0_6 m c t) (iblk m c 12 t) (iblk m c 8 t) (iblk m c 13 t) : S256x2048.Idx → EReal) (ix2 r j)
      = mixed m c (tokenOf t.val (points t) r) j := by
  rw [mixed_at, x_at, gate_at, sequence_of t r]
  unfold mixed mixedAt
  refine congrArg₂ (· + ·) rfl (congrArg₂ (· * ·) rfl (Finset.sum_congr rfl fun q _ => congrArg₂ (· * ·) ?_ (wo_at m c t q j)))
  unfold mergedAt convBranch
  rw [conv_at, attn_at, gc_at, ga_at]
  refine congrArg₂ (· + ·) (congrArg₂ (· * ·) rfl (Finset.sum_congr rfl fun k _ => congrArg₂ (· * ·) (congrArg₂ (· * ·) (b_at m c t r k) ?_) (wc_at m c t k q)))
    (congrArg₂ (· * ·) rfl (Finset.sum_congr rfl fun k _ => congrArg₂ (· * ·) (heads_at m c t r k) (wa_at m c t k q)))
  rw [two_back, one_back, here_at, taps_at, taps_at, taps_at]
  rfl

/-- The same, normalised and modulated. -/
theorem modulated_block (c : Dev nD) (t : Fin cfg0.N) (r : Fin 256) (j : Fin 2048) :
    (k0_pay1 (F := Ideal) (k0_pay13 (k0_pay11 (iblk m c 7 t) (iblk m c 11 t)) (convBranch (grid0.coords t) (X0_0 m c t) (X0_1 m c t) (X0_2 m c t) (X0_3 m c t) (X0_4 m c t) (X0_5 m c t) (iblk m c 9 t) (iblk m c 10 t)) (X0_6 m c t) (iblk m c 12 t) (iblk m c 8 t) (iblk m c 13 t)) (k0_pay14 (iblk m c 14 t)) (k0_pay15 (iblk m c 15 t)) (k0_pay16 (iblk m c 16 t)) (k0_pay17 (k0_pay11 (iblk m c 7 t) (iblk m c 11 t)) (convBranch (grid0.coords t) (X0_0 m c t) (X0_1 m c t) (X0_2 m c t) (X0_3 m c t) (X0_4 m c t) (X0_5 m c t) (iblk m c 9 t) (iblk m c 10 t)) (X0_6 m c t) (iblk m c 12 t) (iblk m c 8 t) (iblk m c 13 t)) k0_pay18 : S256x2048.Idx → EReal) (ix2 r j)
      = modulated m c (tokenOf t.val (points t) r) j := by
  rw [modulated_at, scale_at, shift_at, sequence_of t r]
  unfold modulated modulatedAt
  refine congrArg₂ (· + ·) (congrArg₂ (· * ·) ?_ rfl) rfl
  refine (congrArg (fun x => normAt x _ j) (funext fun j => mixed_block m c t r j)).trans (congrArg (fun g => normAt _ g j) (funext fun y => gain_at m c t (y 0)))

/-- The results' blocks after a point: the tokens after the mixers … -/
theorem block_mixed (c : Dev nD) (t : Fin cfg0.N) (r : Fin 256) (j : Fin 2048) :
    ((outsAt0 m c t).1 : S256x2048.Idx → EReal) (ix2 r j) = mixed m c (tokenOf t.val (points t) r) j := by
  unfold outsAt0
  dsimp only
  rw [out_mixed]
  exact mixed_block m c t r j

/-- … the same, normalised and modulated … -/
theorem block_rounded (c : Dev nD) (t : Fin cfg0.N) (r : Fin 256) (j : Fin 2048) :
    ((outsAt0 m c t).2.1 : S256x2048.Idx → EReal) (ix2 r j) = modulated m c (tokenOf t.val (points t) r) j := by
  unfold outsAt0
  dsimp only
  rw [out_rounded, rounded_at]
  exact modulated_block m c t r j

/-- … and the router's logits. -/
theorem block_logits (c : Dev nD) (t : Fin cfg0.N) (e : Fin 64) (r : Fin 256) :
    ((outsAt0 m c t).2.2 : S64x256.Idx → EReal) (ix2 e r) = logitAt (modulated m c (tokenOf t.val (points t) r)) (m ((c.tc : Thread nD τ).loc main_arg9)) e := by
  unfold outsAt0
  dsimp only
  rw [out_logits, logits_at]
  unfold logitAt
  exact Finset.sum_congr rfl fun j _ => congrArg₂ (· * ·) (router_at m c t e j) (modulated_block m c t r j)

/-- An element of the first result after the run: the token after the mixers. -/
theorem value_mixed (c : Dev nD) (T : Fin 8192) (j : Fin 2048) :
    ((dats m 0 c).arrAt 18 cfg0.N : S8192x2048.Idx → EReal) (ix2 T j) = mixed m c T j := by
  refine (dats m 0 c).arrAt_forall_of_covers 18 (fun i v => (v : EReal) = mixed m c (i 0) (i 1)) (by decide +kernel) (fun t hf y => ?_) (ix2 T j)
  rw [after0_18]
  have ht := points t
  have h0 : (y 0).val < 256 := (y 0).isLt
  have h1 : (y 1).val < 2048 := (y 1).isLt
  have e0 : ((cfg0.win 18).blk t).view.emb y 0 = tokenOf t.val (points t) (⟨(y 0).val, h0⟩ : Fin 256) := Fin.ext (by
    blk_simp
    rw [(at_18 t).1]
    show t.val * 256 + (y 0).val = 256 * t.val + (y 0).val
    omega)
  have e1 : ((cfg0.win 18).blk t).view.emb y 1 = (⟨(y 1).val, h1⟩ : Fin 2048) := Fin.ext (by
    blk_simp
    rw [(at_18 t).2]
    show 0 * 2048 + (y 1).val = (y 1).val
    omega)
  rw [e0, e1, ← block_mixed m c t (⟨(y 0).val, h0⟩ : Fin 256) (⟨(y 1).val, h1⟩ : Fin 2048)]
  refine congrArg (outsAt0 m c t).1 (funext fun a => ?_)
  match a with
  | ⟨0, _⟩ => rfl
  | ⟨1, _⟩ => rfl

/-- An element of the second result: the same, normalised and modulated. -/
theorem value_rounded (c : Dev nD) (T : Fin 8192) (j : Fin 2048) :
    ((dats m 0 c).arrAt 19 cfg0.N : S8192x2048.Idx → EReal) (ix2 T j) = modulated m c T j := by
  refine (dats m 0 c).arrAt_forall_of_covers 19 (fun i v => (v : EReal) = modulated m c (i 0) (i 1)) (by decide +kernel) (fun t hf y => ?_) (ix2 T j)
  rw [after0_19]
  have ht := points t
  have h0 : (y 0).val < 256 := (y 0).isLt
  have h1 : (y 1).val < 2048 := (y 1).isLt
  have e0 : ((cfg0.win 19).blk t).view.emb y 0 = tokenOf t.val (points t) (⟨(y 0).val, h0⟩ : Fin 256) := Fin.ext (by
    blk_simp
    rw [(at_19 t).1]
    show t.val * 256 + (y 0).val = 256 * t.val + (y 0).val
    omega)
  have e1 : ((cfg0.win 19).blk t).view.emb y 1 = (⟨(y 1).val, h1⟩ : Fin 2048) := Fin.ext (by
    blk_simp
    rw [(at_19 t).2]
    show 0 * 2048 + (y 1).val = (y 1).val
    omega)
  rw [e0, e1, ← block_rounded m c t (⟨(y 0).val, h0⟩ : Fin 256) (⟨(y 1).val, h1⟩ : Fin 2048)]
  refine congrArg (outsAt0 m c t).2.1 (funext fun a => ?_)
  match a with
  | ⟨0, _⟩ => rfl
  | ⟨1, _⟩ => rfl

/-- An element of the third result: the router's logits, one row per expert. -/
theorem value_logits (c : Dev nD) (e : Fin 64) (T : Fin 8192) :
    ((dats m 0 c).arrAt 20 cfg0.N : S64x8192.Idx → EReal) (ix2 e T) = logitAt (modulated m c T) (m ((c.tc : Thread nD τ).loc main_arg9)) e := by
  refine (dats m 0 c).arrAt_forall_of_covers 20 (fun i v => (v : EReal) = logitAt (modulated m c (i 1)) (m ((c.tc : Thread nD τ).loc main_arg9)) (i 0)) (by decide +kernel) (fun t hf y => ?_) (ix2 e T)
  rw [after0_20]
  have ht := points t
  have h0 : (y 0).val < 64 := (y 0).isLt
  have h1 : (y 1).val < 256 := (y 1).isLt
  have e0 : ((cfg0.win 20).blk t).view.emb y 0 = (⟨(y 0).val, h0⟩ : Fin 64) := Fin.ext (by
    blk_simp
    rw [(at_20 t).1]
    show 0 * 64 + (y 0).val = (y 0).val
    omega)
  have e1 : ((cfg0.win 20).blk t).view.emb y 1 = tokenOf t.val (points t) (⟨(y 1).val, h1⟩ : Fin 256) := Fin.ext (by
    blk_simp
    rw [(at_20 t).2]
    show t.val * 256 + (y 1).val = 256 * t.val + (y 1).val
    omega)
  rw [e0, e1, ← block_logits m c t (⟨(y 0).val, h0⟩ : Fin 64) (⟨(y 1).val, h1⟩ : Fin 256)]
  refine congrArg (outsAt0 m c t).2.2 (funext fun a => ?_)
  match a with
  | ⟨0, _⟩ => rfl
  | ⟨1, _⟩ => rfl

end Cert.Kernel4Ideal.Mix
end
-- ==== Proof.MixRef.lean ====
/- The mixers' output: the reference's results read at an index. -/
module

public import proofs.«01_k».proof.Proof.MixSpec
public import proofs.«01_k».proof.Proof.Gen.Reference4Ideal.Run

@[expose] public section

set_option maxRecDepth 16384

noncomputable section

namespace Cert.Proof.MixRef

open Cert.Reference4Ideal Cert.Reference4Ideal.Gen Cert.Reference4Ideal.Value
open Idealize.ShloMosaic Idealize.ShloMosaic.TcCoe Idealize.ShloMosaic.StableHlo

/-- The sequence of a token, and its place there. -/
abbrev seqOf (T : Fin 8192) : Fin 2 := ⟨T.val / 4096, by omega⟩
abbrev posOf (T : Fin 8192) : Fin 4096 := ⟨T.val % 4096, by omega⟩

theorem token_of (T : Fin 8192) (h : T.val / 4096 * 4096 + T.val % 4096 < 8192) : (⟨T.val / 4096 * 4096 + T.val % 4096, h⟩ : Fin 8192) = T := Fin.ext (by dsimp only; omega)

/-- The projection's rows, by sequence. -/
def rows (p : FVec Ideal S8192x11776 .bf16) : FVec Ideal S2x4096x11776 .f32 := shapeCast _ (extf .f32 p bitsLt_bf16_f32) shapeCasts_S8192x11776_S2x4096x11776

theorem rows_at (p : FVec Ideal S8192x11776 .bf16) (b : Fin 2) (s : Fin 4096) (k : Fin 11776) :
    rows p (ix3 b s k) = (p : S8192x11776.Idx → EReal) (ix2 (⟨b.val * 4096 + s.val, by omega⟩ : Fin 8192) k) := by
  unfold rows
  pointwise

/-- The short convolution's input. -/
def input (p : FVec Ideal S8192x11776 .bf16) : FVec Ideal S2x4096x1024 .f32 :=
  mulf (extractStridedSlice S2x4096x1024 ![0, 0, 5120] (rows p) slices_S2x4096x11776_S2x4096x1024_0_0_5120) (extractStridedSlice S2x4096x1024 ![0, 0, 6144] (rows p) slices_S2x4096x11776_S2x4096x1024_0_0_6144)

theorem input_at (p : FVec Ideal S8192x11776 .bf16) (b : Fin 2) (s : Fin 4096) (k : Fin 1024) :
    input p (ix3 b s k) = inputAt p (⟨b.val * 4096 + s.val, by omega⟩ : Fin 8192) k := by
  unfold input
  pointwise [rows_at]
  rfl

/-- The same, with two rows of 0 before each sequence. -/
def padded (p : FVec Ideal S8192x11776 .bf16) : FVec Ideal S2x4098x1024 .f32 :=
  pad S2x4098x1024 ![0, 2, 0] ![0, 0, 0] ![0, 0, 0] (input p) (sitofp .f32 (constantI S_ 32 0#32)) pads_S2x4096x1024_S2x4098x1024_000_200_000 h_S_

theorem padded_at (p : FVec Ideal S8192x11776 .bf16) (d : Fin 3) (T : Fin 8192) (k : Fin 1024) :
    padded p (ix3 (seqOf T) (⟨d.val + T.val % 4096, by omega⟩ : Fin 4098) k) = backAt p (2 - d.val) T k := by
  unfold padded
  pointwise [input_at]
  unfold backAt
  by_cases h : 2 - d.val ≤ T.val % 4096
  · rw [dif_pos (by omega), if_pos h]
    refine congrArg (inputAt p · k) (Fin.ext ?_)
    show T.val / 4096 * 4096 + (d.val + T.val % 4096 - 2) = T.val - (2 - d.val)
    omega
  · rw [dif_neg (by omega), if_neg h]
    show (((0#32 : BitVec 32).toInt : ℝ) : EReal) = 0
    rw [show (0#32 : BitVec 32).toInt = 0 from rfl, Int.cast_zero, EReal.coe_zero]

/-- A tap, on every token. -/
def tapOf (x : FVec Ideal S1024 .f32) : FVec Ideal S2x4096x1024 .f32 :=
  broadcastInDim S2x4096x1024 ![0, 1, 2] bcast_S1x1x1024_S2x4096x1024_0_1_2 (broadcastInDim S1x1x1024 ![2] bcast_S1024_S1x1x1024_2 x)

theorem tapOf_at (x : FVec Ideal S1024 .f32) (b : Fin 2) (s : Fin 4096) (k : Fin 1024) : tapOf x (ix3 b s k) = (x : S1024.Idx → EReal) (ix1 k) := by
  unfold tapOf
  pointwise

/-- The convolution. -/
def conv (p : FVec Ideal S8192x11776 .bf16) (w : FVec Ideal S1x3x1024 .f32) : FVec Ideal S2x4096x1024 .f32 :=
  addf (addf (addf (broadcastInDim S2x4096x1024 ![] bcast_S_S2x4096x1024 (constant S_ .f32 0x00000000#32))
    (mulf (tapOf (shapeCast _ (extractStridedSlice S1x1024 ![0, 0] (shapeCast _ w shapeCasts_S1x3x1024_S3x1024) slices_S3x1024_S1x1024_0_0) shapeCasts_S1x1024_S1024)) (extractStridedSlice S2x4096x1024 ![0, 0, 0] (padded p) slices_S2x4098x1024_S2x4096x1024_0_0_0)))
    (mulf (tapOf (shapeCast _ (extractStridedSlice S1x1024 ![1, 0] (shapeCast _ w shapeCasts_S1x3x1024_S3x1024) slices_S3x1024_S1x1024_1_0) shapeCasts_S1x1024_S1024)) (extractStridedSlice S2x4096x1024 ![0, 1, 0] (padded p) slices_S2x4098x1024_S2x4096x1024_0_1_0)))
    (mulf (tapOf (shapeCast _ (extractStridedSlice S1x1024 ![2, 0] (shapeCast _ w shapeCasts_S1x3x1024_S3x1024) slices_S3x1024_S1x1024_2_0) shapeCasts_S1x1024_S1024)) (extractStridedSlice S2x4096x1024 ![0, 2, 0] (padded p) slices_S2x4098x1024_S2x4096x1024_0_2_0))

theorem conv_at (p : FVec Ideal S8192x11776 .bf16) (w : FVec Ideal S1x3x1024 .f32) (T : Fin 8192) (k : Fin 1024) :
    conv p w (ix3 (seqOf T) (posOf T) k) = convAt p w T k := by
  unfold conv
  pointwise [tapOf_at]
  unfold convAt
  refine congrArg₂ (· + ·) (congrArg₂ (· + ·) (congrArg (_ * ·) ?_) (congrArg (_ * ·) (padded_at p 1 T k))) (congrArg (_ * ·) ((padded_at p 2 T k).trans (if_pos (Nat.zero_le _))))
  exact (congrArg (fun s => padded p (ix3 (seqOf T) s k)) (Fin.ext (Nat.zero_add _).symm)).trans (padded_at p 0 T k)

/-- The logistic function of columns of the projection. -/
def gate (x : FVec Ideal S2x4096x2048 .f32) : FVec Ideal S2x4096x2048 .f32 :=
  Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf x)))

theorem gate_at (x : FVec Ideal S2x4096x2048 .f32) (b : Fin 2) (s : Fin 4096) (q : Fin 2048) :
    gate x (ix3 b s q) = sigmaAt ((x : S2x4096x2048.Idx → EReal) (ix3 b s q)) := by
  unfold gate
  pointwise
  rfl

/-- The two branches, each times its gate. -/
def merged (p : FVec Ideal S8192x11776 .bf16) (ao : FVec Ideal S8192x512 .bf16) (w : FVec Ideal S1x3x1024 .f32) (wc : FVec Ideal S1x1024x2048 .f32) (wa : FVec Ideal S1x512x2048 .f32) : FVec Ideal S2x4096x2048 .f32 :=
  addf (mulf (gate (extractStridedSlice S2x4096x2048 ![0, 0, 0] (rows p) slices_S2x4096x11776_S2x4096x2048_0_0_0)) (Host.dotGeneral dot_S2x4096x1024_S1024x2048_S2x4096x2048_2_0_01_1_n_n none (mulf (extractStridedSlice S2x4096x1024 ![0, 0, 4096] (rows p) slices_S2x4096x11776_S2x4096x1024_0_0_4096) (conv p w)) (shapeCast _ wc shapeCasts_S1x1024x2048_S1024x2048)))
    (mulf (gate (extractStridedSlice S2x4096x2048 ![0, 0, 2048] (rows p) slices_S2x4096x11776_S2x4096x2048_0_0_2048)) (Host.dotGeneral dot_S2x4096x512_S512x2048_S2x4096x2048_2_0_01_1_n_n none (shapeCast _ (extf .f32 ao bitsLt_bf16_f32) shapeCasts_S8192x512_S2x4096x512) (shapeCast _ wa shapeCasts_S1x512x2048_S512x2048)))

theorem merged_at (p : FVec Ideal S8192x11776 .bf16) (ao : FVec Ideal S8192x512 .bf16) (w : FVec Ideal S1x3x1024 .f32) (wc : FVec Ideal S1x1024x2048 .f32) (wa : FVec Ideal S1x512x2048 .f32) (T : Fin 8192) (q : Fin 2048) :
    merged p ao w wc wa (ix3 (seqOf T) (posOf T) q) = mergedAt p ao w wc wa T q := by
  unfold merged
  pointwise [gate_at, rows_at, conv_at]
  simp only [token_of]
  rfl

/-- The tokens after the mixers, by sequence. -/
def mixed (p : FVec Ideal S8192x11776 .bf16) (ao : FVec Ideal S8192x512 .bf16) (x : FVec Ideal S8192x2048 .f32) (w : FVec Ideal S1x3x1024 .f32) (wc : FVec Ideal S1x1024x2048 .f32) (wa : FVec Ideal S1x512x2048 .f32) (wo : FVec Ideal S1x2048x2048 .f32) (md : FVec Ideal S2x12288 .f32) : FVec Ideal S2x4096x2048 .f32 :=
  addf (shapeCast _ x shapeCasts_S8192x2048_S2x4096x2048) (mulf (broadcastInDim S2x4096x2048 ![0, 1, 2] bcast_S2x1x2048_S2x4096x2048_0_1_2 (broadcastInDim S2x1x2048 ![0, 2] bcast_S2x2048_S2x1x2048_0_2 (extractStridedSlice S2x2048 ![0, 4096] md slices_S2x12288_S2x2048_0_4096))) (Host.dotGeneral dot_S2x4096x2048_S2048x2048_S2x4096x2048_2_0_01_1_n_n none (merged p ao w wc wa) (shapeCast _ wo shapeCasts_S1x2048x2048_S2048x2048)))

theorem mixed_at (p : FVec Ideal S8192x11776 .bf16) (ao : FVec Ideal S8192x512 .bf16) (x : FVec Ideal S8192x2048 .f32) (w : FVec Ideal S1x3x1024 .f32) (wc : FVec Ideal S1x1024x2048 .f32) (wa : FVec Ideal S1x512x2048 .f32) (wo : FVec Ideal S1x2048x2048 .f32) (md : FVec Ideal S2x12288 .f32) (T : Fin 8192) (j : Fin 2048) :
    mixed p ao x w wc wa wo md (ix3 (seqOf T) (posOf T) j) = mixedAt p ao x w wc wa wo md T j := by
  unfold mixed
  pointwise [merged_at]
  simp only [token_of]
  rfl

/-- The rows normalised, scaled and shifted, as one row per token. -/
def modulated (x : FVec Ideal S2x4096x2048 .f32) (g : FVec Ideal S1x2048 .f32) (md : FVec Ideal S2x12288 .f32) : FVec Ideal S8192x2048 .f32 :=
  shapeCast _ (addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 (shapeCast _ g shapeCasts_S1x2048_S2048))))
      (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 8192] md slices_S2x12288_S2x2048_0_8192)))))
    (broadcastInDim S2x4096x2048 ![0, 1, 2] bcast_S2x1x2048_S2x4096x2048_0_1_2 (broadcastInDim S2x1x2048 ![0, 2] bcast_S2x2048_S2x1x2048_0_2 (extractStridedSlice S2x2048 ![0, 6144] md slices_S2x12288_S2x2048_0_6144)))) shapeCasts_S2x4096x2048_S8192x2048

theorem modulated_at (x : FVec Ideal S2x4096x2048 .f32) (g : FVec Ideal S1x2048 .f32) (md : FVec Ideal S2x12288 .f32) (T : Fin 8192) (j : Fin 2048) :
    modulated x g md (ix2 T j) = modulatedAt (fun j => (x : S2x4096x2048.Idx → EReal) (ix3 (seqOf T) (posOf T) j)) g md T j := by
  unfold modulated
  pointwise
  rfl

variable (p : FVec Ideal S8192x11776 .bf16) (ao : FVec Ideal S8192x512 .bf16) (x : FVec Ideal S8192x2048 .f32) (w : FVec Ideal S1x3x1024 .f32) (wc : FVec Ideal S1x1024x2048 .f32) (wa : FVec Ideal S1x512x2048 .f32) (wo : FVec Ideal S1x2048x2048 .f32) (md : FVec Ideal S2x12288 .f32)
  (g : FVec Ideal S1x2048 .f32) (wr : FVec Ideal S1x2048x64 .f32)

/-- The first result … -/
theorem mixed_result_at (T : Fin 8192) (j : Fin 2048) :
    (shapeCast S8192x2048 (mixed p ao x w wc wa wo md) shapeCasts_S2x4096x2048_S8192x2048 : S8192x2048.Idx → EReal) (ix2 T j) = mixedAt p ao x w wc wa wo md T j := by
  pointwise
  exact mixed_at p ao x w wc wa wo md T j

/-- … the second, before its rounding, … -/
theorem modulated_result_at (T : Fin 8192) (j : Fin 2048) :
    modulated (mixed p ao x w wc wa wo md) g md (ix2 T j) = modulatedAt (mixedAt p ao x w wc wa wo md T) g md T j := by
  rw [modulated_at]
  exact congrArg (fun y => modulatedAt y g md T j) (funext fun j => mixed_at p ao x w wc wa wo md T j)

/-- … and rounded … -/
theorem rounded_result_at (T : Fin 8192) (j : Fin 2048) :
    (truncf (F := Ideal) .bf16 (modulated (mixed p ao x w wc wa wo md) g md) bitsLt_bf16_f32 : S8192x2048.Idx → EReal) (ix2 T j) = modulatedAt (mixedAt p ao x w wc wa wo md T) g md T j := by
  pointwise [modulated_result_at]

/-- … and the third. -/
theorem logits_result_at (e : Fin 64) (T : Fin 8192) :
    (transpose S64x8192 [1, 0] (Host.dotGeneral dot_S8192x2048_S2048x64_S8192x64_1_0_0_1_n_n none (modulated (mixed p ao x w wc wa wo md) g md) (shapeCast S2048x64 wr shapeCasts_S1x2048x64_S2048x64)) transposes_S8192x64_S64x8192_1_0 : S64x8192.Idx → EReal) (ix2 e T)
      = logitAt (modulatedAt (mixedAt p ao x w wc wa wo md T) g md T) wr e := by
  pointwise [modulated_result_at]
  exact Finset.sum_congr rfl fun j _ => mul_comm _ _

end Cert.Proof.MixRef
end
-- ==== Proof.MixEqual.lean ====
/- The mixers' output: its frames, and kernel and reference end with equal results. -/
module

public import proofs.«01_k».proof.Defs
public import proofs.«01_k».proof.Proof.MixOut
public import proofs.«01_k».proof.Proof.MixRef
public import proofs.«01_k».proof.Proof.Gen.Kernel4.Frame
public import Idealize.ShloMosaic.Adequacy

@[expose] public section

set_option maxRecDepth 16384

noncomputable section

namespace Cert.Proof

open Idealize.ShloMosaic Idealize.ShloMosaic.TcCoe Idealize.SL.Sem

theorem frame_mix_ideal : Cert.quiescent_Kernel4Ideal := fun m ρ _ => Cert.Kernel4Ideal.Gen.frame m ρ

theorem frame_mix_kernel : Cert.quiescent_Kernel4 := fun m ρ _ => Cert.Kernel4.Gen.frame m ρ

theorem frame_mix_reference : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run m ρ)

/-- An index of two axes, by its coordinates. -/
theorem by_coords {n k : ℕ} (i : (⟨2, ![n, k]⟩ : Shape).Idx) : i = ix2 (i 0) (i 1) := by
  funext a
  match a with
  | ⟨0, _⟩ => rfl
  | ⟨1, _⟩ => rfl

/-- From equal arguments the kernel and the reference end with equal results. -/
theorem equal_mix : Cert.algebraic_Kernel4Ideal_Reference4Ideal := fun m g m' g' _ ha => by
  refine ⟨fun c => (Cert.Kernel4Ideal.Gen.dats m 0 c).arrAt 18 Cert.Kernel4Ideal.cfg0.N, fun c => (Cert.Kernel4Ideal.Gen.dats m 0 c).arrAt 19 Cert.Kernel4Ideal.cfg0.N,
    fun c => (Cert.Kernel4Ideal.Gen.dats m 0 c).arrAt 20 Cert.Kernel4Ideal.cfg0.N, Cert.Kernel4Ideal.Value.run_blocks m g, ?_⟩
  refine (θ_run Cert.Reference4Ideal.defs _ _).mono (fun r e c => ⟨?_, ?_, ?_, (e c).2.2.2⟩) (Cert.Reference4Ideal.Value.run m' g')
  all_goals obtain ⟨a0, a1, a2, a3, a4, a5, a6, a7, a8, a9⟩ := ha c
  · refine (e c).1.trans (funext fun (i : Cert.Kernel4Ideal.S8192x2048.Idx) => ?_)
    rw [by_coords i]
    refine Eq.trans ?_ (Cert.Kernel4Ideal.Mix.value_mixed m c (i 0) (i 1)).symm
    unfold Cert.Kernel4Ideal.Mix.mixed
    rw [← a0, ← a1, ← a2, ← a3, ← a4, ← a5, ← a6, ← a7]
    exact MixRef.mixed_result_at _ _ _ _ _ _ _ _ (i 0) (i 1)
  · refine (e c).2.1.trans (funext fun (i : Cert.Kernel4Ideal.S8192x2048.Idx) => ?_)
    rw [by_coords i]
    refine Eq.trans ?_ (Cert.Kernel4Ideal.Mix.value_rounded m c (i 0) (i 1)).symm
    unfold Cert.Kernel4Ideal.Mix.modulated Cert.Kernel4Ideal.Mix.mixed
    rw [← a0, ← a1, ← a2, ← a3, ← a4, ← a5, ← a6, ← a7, ← a8]
    exact MixRef.rounded_result_at _ _ _ _ _ _ _ _ _ (i 0) (i 1)
  · refine (e c).2.2.1.trans (funext fun (i : Cert.Kernel4Ideal.S64x8192.Idx) => ?_)
    rw [by_coords i]
    refine Eq.trans ?_ (Cert.Kernel4Ideal.Mix.value_logits m c (i 0) (i 1)).symm
    unfold Cert.Kernel4Ideal.Mix.modulated Cert.Kernel4Ideal.Mix.mixed
    rw [← a0, ← a1, ← a2, ← a3, ← a4, ← a5, ← a6, ← a7, ← a8, ← a9]
    exact MixRef.logits_result_at _ _ _ _ _ _ _ _ _ _ (i 0) (i 1)

end Cert.Proof
end
-- ==== Proof.Norm.lean ====
/- The first norm: the kernel's blocks, its result and the reference's read at an index, frames, and equal results. -/
module

public import proofs.«01_k».proof.Defs
public import proofs.«01_k».proof.Proof.Spec
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.Pipeline.Value
public import Idealize.ShloMosaic.Lib.Pipeline.ValueKit.Geometry
public import Idealize.ShloMosaic.Adequacy

@[expose] public section

set_option maxRecDepth 16384

noncomputable section

namespace Cert.Proof

open Idealize.ShloMosaic

/-- Token `T`, normalised with the gain, then scaled and shifted by the modulation of its sequence. -/
def firstAt (x : (⟨2, ![8192, 2048]⟩ : Shape).Idx → EReal) (g : (⟨2, ![1, 2048]⟩ : Shape).Idx → EReal) (md : (⟨2, ![2, 12288]⟩ : Shape).Idx → EReal) (T : Fin 8192) (j : Fin 2048) : EReal :=
  normAt (fun k => x (ix2 T k)) (fun i => g (ix2 0 (i 0))) j * (1 + md (ix2 (⟨T.val / 4096, by omega⟩ : Fin 2) (⟨2048 + j.val, by omega⟩ : Fin 12288)))
    + md (ix2 (⟨T.val / 4096, by omega⟩ : Fin 2) (⟨j.val, by omega⟩ : Fin 12288))

end Cert.Proof

namespace Cert.Kernel5Ideal.Norm

open Cert.Kernel5Ideal Cert.Kernel5Ideal.Gen Cert.Proof
open Idealize.ShloMosaic Idealize.ShloMosaic.TcCoe Idealize.ShloMosaic.Tactic
open Idealize.ShloMosaic.Pipeline (Dat Cfg Window)

theorem zero2 : (![0, 0] : Fin 2 → Nat) = fun _ => 0 := funext fun a => by fin_cases a <;> rfl
theorem zero3 : (![0, 0, 0] : Fin 3 → Nat) = fun _ => 0 := funext fun a => by fin_cases a <;> rfl

/-- What the body stores, at an index. -/
theorem stored_at (x : Vec Ideal S512x2048 .f32) (g : Vec Ideal S1x2048 .f32) (sc sh : Vec Ideal S1x1x2048 .f32) (r : Fin 512) (j : Fin 2048) :
    (out0_4 (F := Ideal) x g sc sh : S512x2048.Idx → EReal) (ix2 r j)
      = normAt (fun k => (x (ix2 r k) : EReal)) (fun y => g (ix2 0 (y 0))) j * (1 + (sc (ix3 0 0 j) : EReal)) + (sh (ix3 0 0 j) : EReal) := by
  unfold out0_4
  rw [View.canon_unit_zero zero2]
  simp only [View.ld_unit_zero (S := S512x2048) zero2, View.ld_unit_zero (S := S1x2048) zero2, View.ld_unit_zero (S := S1x1x2048) zero3]
  unfold k0_pay1
  pointwise
  rfl

variable (m : (ℓ : Loc nD τ sig) → Buf (Elt Ideal) ℓ)

theorem points (t : Fin cfg0.N) : t.val < 16 := by have := N_0; have h : t.val < grid0.N := t.isLt; omega

/-! ### Where the blocks lie -/

theorem at_0 (t : Fin cfg0.N) : win0_0.index t 0 = t.val ∧ win0_0.index t 1 = 0 := by
  revert t; show ∀ t : Fin grid0.N, win0_0.index t 0 = t.val ∧ win0_0.index t 1 = 0; decide +kernel
theorem at_1 (t : Fin cfg0.N) : win0_1.index t 0 = 0 ∧ win0_1.index t 1 = 0 := by
  revert t; show ∀ t : Fin grid0.N, win0_1.index t 0 = 0 ∧ win0_1.index t 1 = 0; decide +kernel
theorem at_2 (t : Fin cfg0.N) : win0_2.index t 0 = 6 * (t.val / 8) + 1 ∧ win0_2.index t 1 = 0 ∧ win0_2.index t 2 = 0 := by
  revert t; show ∀ t : Fin grid0.N, win0_2.index t 0 = 6 * (t.val / 8) + 1 ∧ win0_2.index t 1 = 0 ∧ win0_2.index t 2 = 0; decide +kernel
theorem at_3 (t : Fin cfg0.N) : win0_3.index t 0 = 6 * (t.val / 8) ∧ win0_3.index t 1 = 0 ∧ win0_3.index t 2 = 0 := by
  revert t; show ∀ t : Fin grid0.N, win0_3.index t 0 = 6 * (t.val / 8) ∧ win0_3.index t 1 = 0 ∧ win0_3.index t 2 = 0; decide +kernel
theorem at_4 (t : Fin cfg0.N) : win0_4.index t 0 = t.val ∧ win0_4.index t 1 = 0 := by
  revert t; show ∀ t : Fin grid0.N, win0_4.index t 0 = t.val ∧ win0_4.index t 1 = 0; decide +kernel

theorem gates_flat (a : S2x12288.Idx → EReal) (h) (b : Fin 2) (n : Fin 6) (j : Fin 2048) :
    shapeCast S12x1x2048 a h (ix3 (⟨6 * b.val + n.val, by omega⟩ : Fin 12) 0 j) = a (ix2 b (⟨2048 * n.val + j.val, by omega⟩ : Fin 12288)) := by
  pointwise
  congr 2 <;> refine Fin.ext ?_ <;> simp <;> omega

theorem gain_flat (a : S1x2048.Idx → EReal) (h) (h') (j : Fin 2048) : shapeCast S1x2048 (shapeCast S2048 a h) h' (ix2 0 j) = a (ix2 0 j) := by
  pointwise

/-- The block of tokens at point `t`. -/
theorem tokens_at (c : Dev nD) (t : Fin cfg0.N) (r : Fin 512) (k : Fin 2048) :
    (iblk m c 0 t : S512x2048.Idx → EReal) (ix2 r k) = (m ((c.tc : Thread nD τ).loc main_arg0) : S8192x2048.Idx → EReal) (ix2 (⟨512 * t.val + r.val, by have := points t; omega⟩ : Fin 8192) k) := by
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t 0 * 512 + 1 * r.val = 512 * t.val + r.val; rw [(at_0 t).1]; omega
  | ⟨1, _⟩ => show win0_0.index t 1 * 2048 + 1 * k.val = k.val; rw [(at_0 t).2]; omega

/-- The gain. -/
theorem gain_at (c : Dev nD) (t : Fin cfg0.N) (j : Fin 2048) :
    (iblk m c 1 t : S1x2048.Idx → EReal) (ix2 0 j) = (m ((c.tc : Thread nD τ).loc main_arg1) : S1x2048.Idx → EReal) (ix2 0 j) := by
  refine Eq.trans ?_ (gain_flat (m ((c.tc : Thread nD τ).loc main_arg1)) shapeCasts_S1x2048_S2048 shapeCasts_S2048_S1x2048 j)
  unfold iblk
  rw [View.read_apply]
  show V m c main_v2 _ = V m c main_v2 _
  refine congrArg (V m c main_v2) (funext fun a => Fin.ext ?_)
  match a with
  | ⟨0, _⟩ => show win0_1.index t 0 * 1 + 1 * 0 = 0; rw [(at_1 t).1]
  | ⟨1, _⟩ => show win0_1.index t 1 * 2048 + 1 * j.val = j.val; rw [(at_1 t).2]; omega

/-- The scale of the block's sequence … -/
theorem scale_at (c : Dev nD) (t : Fin cfg0.N) (j : Fin 2048) :
    (iblk m c 2 t : S1x1x2048.Idx → EReal) (ix3 0 0 j) = (m ((c.tc : Thread nD τ).loc main_arg2) : S2x12288.Idx → EReal) (ix2 (⟨t.val / 8, by have := points t; omega⟩ : Fin 2) (⟨2048 + j.val, by omega⟩ : Fin 12288)) := by
  have ht := points t
  refine Eq.trans ?_ (gates_flat (m ((c.tc : Thread nD τ).loc main_arg2)) shapeCasts_S2x12288_S12x1x2048 (⟨t.val / 8, by omega⟩ : Fin 2) 1 j)
  unfold iblk
  rw [View.read_apply]
  show V m c main_v0 _ = V m c main_v0 _
  refine congrArg (V m c main_v0) (funext fun a => Fin.ext ?_)
  match a with
  | ⟨0, _⟩ => show win0_2.index t 0 * 1 + 1 * 0 = 6 * (t.val / 8) + 1; rw [(at_2 t).1]; omega
  | ⟨1, _⟩ => show win0_2.index t 1 * 1 + 1 * 0 = 0; rw [(at_2 t).2.1]
  | ⟨2, _⟩ => show win0_2.index t 2 * 2048 + 1 * j.val = j.val; rw [(at_2 t).2.2]; omega

/-- … and its shift. -/
theorem shift_at (c : Dev nD) (t : Fin cfg0.N) (j : Fin 2048) :
    (iblk m c 3 t : S1x1x2048.Idx → EReal) (ix3 0 0 j) = (m ((c.tc : Thread nD τ).loc main_arg2) : S2x12288.Idx → EReal) (ix2 (⟨t.val / 8, by have := points t; omega⟩ : Fin 2) (⟨j.val, by omega⟩ : Fin 12288)) := by
  have ht := points t
  refine Eq.trans ?_ ((gates_flat (m ((c.tc : Thread nD τ).loc main_arg2)) shapeCasts_S2x12288_S12x1x2048 (⟨t.val / 8, by omega⟩ : Fin 2) 0 j).trans
    (congrArg (fun q => (m ((c.tc : Thread nD τ).loc main_arg2) : S2x12288.Idx → EReal) (ix2 _ q)) (Fin.ext (by show 2048 * 0 + j.val = j.val; omega))))
  unfold iblk
  rw [View.read_apply]
  show V m c main_v0 _ = V m c main_v0 _
  refine congrArg (V m c main_v0) (funext fun a => Fin.ext ?_)
  match a with
  | ⟨0, _⟩ => show win0_3.index t 0 * 1 + 1 * 0 = 6 * (t.val / 8) + 0; rw [(at_3 t).1]; omega
  | ⟨1, _⟩ => show win0_3.index t 1 * 1 + 1 * 0 = 0; rw [(at_3 t).2.1]
  | ⟨2, _⟩ => show win0_3.index t 2 * 2048 + 1 * j.val = j.val; rw [(at_3 t).2.2]; omega

/-- What point `t` leaves in the result's block. -/
@[irreducible] def left (c : Dev nD) (t : Fin cfg0.N) : Vec Ideal S512x2048 .bf16 := out0_4 (iblk m c 0 t) (iblk m c 1 t) (iblk m c 2 t) (iblk m c 3 t)

theorem after_left (c : Dev nD) (t : Fin cfg0.N) : (dats m 0 c).after 4 t = left m c t := by
  unfold left
  exact after0_4 m c t

theorem block_at (c : Dev nD) (t : Fin cfg0.N) (r : Fin 512) (j : Fin 2048) :
    (left m c t : S512x2048.Idx → EReal) (ix2 r j)
      = firstAt (m ((c.tc : Thread nD τ).loc main_arg0)) (m ((c.tc : Thread nD τ).loc main_arg1)) (m ((c.tc : Thread nD τ).loc main_arg2)) (⟨512 * t.val + r.val, by have := points t; omega⟩ : Fin 8192) j := by
  have ht := points t
  have eb : (512 * t.val + r.val) / 4096 = t.val / 8 := by omega
  unfold left
  rw [stored_at]
  unfold firstAt
  simp only [eb]
  refine congrArg₂ (· + ·) (congrArg₂ (· * ·) (congrArg₂ (fun y g => normAt y g j) (funext fun k => tokens_at m c t r k) (funext fun i => gain_at m c t (i 0))) ?_) (shift_at m c t j)
  exact congrArg (1 + ·) (scale_at m c t j)

/-- An element of the result after the run. -/
theorem value (c : Dev nD) (T : Fin 8192) (j : Fin 2048) :
    ((dats m 0 c).arrAt 4 cfg0.N : S8192x2048.Idx → EReal) (ix2 T j)
      = firstAt (m ((c.tc : Thread nD τ).loc main_arg0)) (m ((c.tc : Thread nD τ).loc main_arg1)) (m ((c.tc : Thread nD τ).loc main_arg2)) T j := by
  refine (dats m 0 c).arrAt_forall_of_covers 4 (fun i v => (v : EReal) = firstAt (m ((c.tc : Thread nD τ).loc main_arg0)) (m ((c.tc : Thread nD τ).loc main_arg1)) (m ((c.tc : Thread nD τ).loc main_arg2)) (i 0) (i 1))
    (by decide +kernel) (fun t hf y => ?_) (ix2 T j)
  rw [after_left]
  have ht := points t
  have h0 : (y 0).val < 512 := (y 0).isLt
  have h1 : (y 1).val < 2048 := (y 1).isLt
  have e0 : ((cfg0.win 4).blk t).view.emb y 0 = (⟨512 * t.val + (y 0).val, by omega⟩ : Fin 8192) := Fin.ext (by
    blk_simp
    rw [(at_4 t).1]
    show t.val * 512 + (y 0).val = 512 * t.val + (y 0).val
    omega)
  have e1 : ((cfg0.win 4).blk t).view.emb y 1 = (⟨(y 1).val, h1⟩ : Fin 2048) := Fin.ext (by
    blk_simp
    rw [(at_4 t).2]
    show 0 * 2048 + (y 1).val = (y 1).val
    omega)
  rw [e0, e1, ← block_at m c t (⟨(y 0).val, h0⟩ : Fin 512) (⟨(y 1).val, h1⟩ : Fin 2048)]
  refine congrArg (left m c t) (funext fun a => ?_)
  match a with
  | ⟨0, _⟩ => rfl
  | ⟨1, _⟩ => rfl

end Cert.Kernel5Ideal.Norm

namespace Cert.Proof

open Idealize.ShloMosaic Idealize.ShloMosaic.TcCoe Idealize.SL.Sem

section

open Cert.Reference5Ideal Cert.Reference5Ideal.Gen Cert.Reference5Ideal.Value

/-- The rows by sequence, normalised, scaled and shifted. -/
def firstRows (x : FVec Ideal S2x4096x2048 .f32) (g : FVec Ideal S1x2048 .f32) (md : FVec Ideal S2x12288 .f32) : FVec Ideal S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 (shapeCast _ g shapeCasts_S1x2048_S2048))))
      (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 2048] md slices_S2x12288_S2x2048_0_2048)))))
    (broadcastInDim S2x4096x2048 ![0, 1, 2] bcast_S2x1x2048_S2x4096x2048_0_1_2 (broadcastInDim S2x1x2048 ![0, 2] bcast_S2x2048_S2x1x2048_0_2 (extractStridedSlice S2x2048 ![0, 0] md slices_S2x12288_S2x2048_0_0)))

theorem firstRows_at (x : FVec Ideal S2x4096x2048 .f32) (g : FVec Ideal S1x2048 .f32) (md : FVec Ideal S2x12288 .f32) (b : Fin 2) (t : Fin 4096) (j : Fin 2048) :
    firstRows x g md (ix3 b t j)
      = normAt (fun k => (x : S2x4096x2048.Idx → EReal) (ix3 b t k)) (fun i => (g : S1x2048.Idx → EReal) (ix2 0 (i 0))) j * (1 + (md : S2x12288.Idx → EReal) (ix2 b (⟨2048 + j.val, by omega⟩ : Fin 12288)))
        + (md : S2x12288.Idx → EReal) (ix2 b (⟨j.val, by omega⟩ : Fin 12288)) := by
  unfold firstRows
  pointwise
  rfl

theorem by_sequence (x : FVec Ideal S8192x2048 .f32) (T : Fin 8192) (j : Fin 2048) :
    (shapeCast S2x4096x2048 x shapeCasts_S8192x2048_S2x4096x2048 : S2x4096x2048.Idx → EReal) (ix3 (⟨T.val / 4096, by omega⟩ : Fin 2) (⟨T.val % 4096, by omega⟩ : Fin 4096) j) = (x : S8192x2048.Idx → EReal) (ix2 T j) := by
  pointwise

/-- The reference's result at an index, over any arguments. -/
theorem ref_norm_at (x : FVec Ideal S8192x2048 .f32) (g : FVec Ideal S1x2048 .f32) (md : FVec Ideal S2x12288 .f32) (T : Fin 8192) (j : Fin 2048) :
    (truncf (F := Ideal) .bf16 (shapeCast S8192x2048 (firstRows (shapeCast _ x shapeCasts_S8192x2048_S2x4096x2048) g md) shapeCasts_S2x4096x2048_S8192x2048) bitsLt_bf16_f32 : S8192x2048.Idx → EReal) (ix2 T j)
      = firstAt x g md T j := by
  pointwise
  refine (firstRows_at _ g md _ _ j).trans ?_
  unfold firstAt
  exact congrArg (fun y => normAt y (fun i => (g : S1x2048.Idx → EReal) (ix2 0 (i 0))) j * _ + _) (funext fun k => by_sequence x T k)

end

theorem frame_norm_ideal : Cert.quiescent_Kernel5Ideal := fun m ρ _ => Cert.Kernel5Ideal.Gen.frame m ρ

theorem frame_norm_kernel : Cert.quiescent_Kernel5 := fun m ρ _ => Cert.Kernel5.Gen.frame m ρ

theorem frame_norm_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

/-- From equal arguments the kernel and the reference end with equal results. -/
theorem equal_norm : Cert.algebraic_Kernel5Ideal_Reference5Ideal := fun m g m' g' _ ha => by
  refine ⟨fun c => (Cert.Kernel5Ideal.Gen.dats m 0 c).arrAt 4 Cert.Kernel5Ideal.cfg0.N, Cert.Kernel5Ideal.Value.run_blocks m g, ?_⟩
  refine (θ_run Cert.Reference5Ideal.defs _ _).mono (fun r e c => ⟨?_, (e c).2⟩) (Cert.Reference5Ideal.Value.run m' g')
  obtain ⟨a0, a1, a2⟩ := ha c
  refine (e c).1.trans (funext fun (i : Cert.Kernel5Ideal.S8192x2048.Idx) => ?_)
  rw [show i = ix2 (i 0) (i 1) from by
    funext a
    match a with
    | ⟨0, _⟩ => rfl
    | ⟨1, _⟩ => rfl]
  refine Eq.trans ?_ (Cert.Kernel5Ideal.Norm.value m c (i 0) (i 1)).symm
  rw [← a0, ← a1, ← a2]
  exact ref_norm_at _ _ _ (i 0) (i 1)

end Cert.Proof
end
-- ==== Proof.Ada.lean ====
/- The modulation: the kernel's blocks, its result and the reference's read at an index, frames, and equal results. -/
module

public import proofs.«01_k».proof.Defs
public import proofs.«01_k».proof.Proof.MixSpec
public import proofs.«01_k».proof.Proof.Gen.Kernel6.Frame
public import proofs.«01_k».proof.Proof.Gen.Kernel6Ideal.Value
public import proofs.«01_k».proof.Proof.Gen.Reference6Ideal.Run
public import Idealize.ShloMosaic.Lib.Pointwise
public import Idealize.ShloMosaic.Lib.Pipeline.Value
public import Idealize.ShloMosaic.Lib.Pipeline.ValueKit.Geometry
public import Idealize.ShloMosaic.Adequacy

@[expose] public section

set_option maxRecDepth 16384

noncomputable section

namespace Cert.Proof

open Idealize.ShloMosaic

/-- The conditioning of sequence `b`, through `x * sigma x`, times column `q` of the weights, plus the bias. -/
def adaAt (x : (⟨2, ![2, 2048]⟩ : Shape).Idx → EReal) (w : (⟨3, ![1, 2048, 12288]⟩ : Shape).Idx → EReal) (bias : (⟨2, ![1, 12288]⟩ : Shape).Idx → EReal) (b : Fin 2) (q : Fin 12288) : EReal :=
  (∑ k : Fin 2048, x (ix2 b k) * sigmaAt (x (ix2 b k)) * w (ix3 0 k q)) + bias (ix2 0 q)

end Cert.Proof

namespace Cert.Kernel6Ideal.Ada

open Cert.Kernel6Ideal Cert.Kernel6Ideal.Gen Cert.Proof
open Idealize.ShloMosaic Idealize.ShloMosaic.TcCoe Idealize.ShloMosaic.Tactic
open Idealize.ShloMosaic.Pipeline (Dat Cfg Window)

theorem zero2 : (![0, 0] : Fin 2 → Nat) = fun _ => 0 := funext fun a => by fin_cases a <;> rfl

/-- What the body stores, at an index. -/
theorem stored_at (x : Vec Ideal S2x2048 .f32) (w : Vec Ideal S2048x1024 .f32) (bias : Vec Ideal S1x1024 .f32) (b : Fin 2) (l : Fin 1024) :
    (out0_3 (F := Ideal) x w bias : S2x1024.Idx → EReal) (ix2 b l)
      = (∑ k : Fin 2048, (x (ix2 b k) : EReal) * sigmaAt (x (ix2 b k)) * (w (ix2 k l) : EReal)) + (bias (ix2 0 l) : EReal) := by
  unfold out0_3
  rw [View.canon_unit_zero zero2]
  simp only [View.ld_unit_zero (S := S2x2048) zero2, View.ld_unit_zero (S := S2048x1024) zero2, View.ld_unit_zero (S := S1x1024) zero2]
  unfold k0_pay1
  pointwise
  simp only [zero_sub]
  rfl

variable (m : (ℓ : Loc nD τ sig) → Buf (Elt Ideal) ℓ)

theorem points (t : Fin cfg0.N) : t.val < 12 := by have := N_0; have h : t.val < grid0.N := t.isLt; omega

/-! ### Where the blocks lie -/

theorem at_0 (t : Fin cfg0.N) : win0_0.index t 0 = 0 ∧ win0_0.index t 1 = 0 := by
  revert t; show ∀ t : Fin grid0.N, win0_0.index t 0 = 0 ∧ win0_0.index t 1 = 0; decide +kernel
theorem at_1 (t : Fin cfg0.N) : win0_1.index t 0 = 0 ∧ win0_1.index t 1 = t.val := by
  revert t; show ∀ t : Fin grid0.N, win0_1.index t 0 = 0 ∧ win0_1.index t 1 = t.val; decide +kernel
theorem at_2 (t : Fin cfg0.N) : win0_2.index t 0 = 0 ∧ win0_2.index t 1 = t.val := by
  revert t; show ∀ t : Fin grid0.N, win0_2.index t 0 = 0 ∧ win0_2.index t 1 = t.val; decide +kernel
theorem at_3 (t : Fin cfg0.N) : win0_3.index t 0 = 0 ∧ win0_3.index t 1 = t.val := by
  revert t; show ∀ t : Fin grid0.N, win0_3.index t 0 = 0 ∧ win0_3.index t 1 = t.val; decide +kernel

theorem weights_flat (a : S1x2048x12288.Idx → EReal) (h) (k : Fin 2048) (q : Fin 12288) : shapeCast S2048x12288 a h (ix2 k q) = a (ix3 0 k q) := by
  pointwise

theorem bias_flat (a : S1x12288.Idx → EReal) (h) (h') (q : Fin 12288) : shapeCast S1x12288 (shapeCast S12288 a h) h' (ix2 0 q) = a (ix2 0 q) := by
  pointwise

/-- The conditioning. -/
theorem cond_at (c : Dev nD) (t : Fin cfg0.N) (b : Fin 2) (k : Fin 2048) :
    (iblk m c 0 t : S2x2048.Idx → EReal) (ix2 b k) = (m ((c.tc : Thread nD τ).loc main_arg0) : S2x2048.Idx → EReal) (ix2 b k) := by
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t 0 * 2 + 1 * b.val = b.val; rw [(at_0 t).1]; omega
  | ⟨1, _⟩ => show win0_0.index t 1 * 2048 + 1 * k.val = k.val; rw [(at_0 t).2]; omega

/-- The block of weights at point `t` … -/
theorem weights_at (c : Dev nD) (t : Fin cfg0.N) (k : Fin 2048) (l : Fin 1024) :
    (iblk m c 1 t : S2048x1024.Idx → EReal) (ix2 k l) = (m ((c.tc : Thread nD τ).loc main_arg1) : S1x2048x12288.Idx → EReal) (ix3 0 k (⟨1024 * t.val + l.val, by have := points t; omega⟩ : Fin 12288)) := by
  have ht := points t
  refine Eq.trans ?_ (weights_flat (m ((c.tc : Thread nD τ).loc main_arg1)) shapeCasts_S1x2048x12288_S2048x12288 k (⟨1024 * t.val + l.val, by omega⟩ : Fin 12288))
  unfold iblk
  rw [View.read_apply]
  show V m c main_v0 _ = V m c main_v0 _
  refine congrArg (V m c main_v0) (funext fun a => Fin.ext ?_)
  match a with
  | ⟨0, _⟩ => show win0_1.index t 0 * 2048 + 1 * k.val = k.val; rw [(at_1 t).1]; omega
  | ⟨1, _⟩ => show win0_1.index t 1 * 1024 + 1 * l.val = 1024 * t.val + l.val; rw [(at_1 t).2]; omega

/-- … and of the bias. -/
theorem bias_at (c : Dev nD) (t : Fin cfg0.N) (l : Fin 1024) :
    (iblk m c 2 t : S1x1024.Idx → EReal) (ix2 0 l) = (m ((c.tc : Thread nD τ).loc main_arg2) : S1x12288.Idx → EReal) (ix2 0 (⟨1024 * t.val + l.val, by have := points t; omega⟩ : Fin 12288)) := by
  have ht := points t
  refine Eq.trans ?_ (bias_flat (m ((c.tc : Thread nD τ).loc main_arg2)) shapeCasts_S1x12288_S12288 shapeCasts_S12288_S1x12288 (⟨1024 * t.val + l.val, by omega⟩ : Fin 12288))
  unfold iblk
  rw [View.read_apply]
  show V m c main_v2 _ = V m c main_v2 _
  refine congrArg (V m c main_v2) (funext fun a => Fin.ext ?_)
  match a with
  | ⟨0, _⟩ => show win0_2.index t 0 * 1 + 1 * 0 = 0; rw [(at_2 t).1]
  | ⟨1, _⟩ => show win0_2.index t 1 * 1024 + 1 * l.val = 1024 * t.val + l.val; rw [(at_2 t).2]; omega

/-- What point `t` leaves in the result's block. -/
@[irreducible] def left (c : Dev nD) (t : Fin cfg0.N) : Vec Ideal S2x1024 .f32 := out0_3 (iblk m c 0 t) (iblk m c 1 t) (iblk m c 2 t)

theorem after_left (c : Dev nD) (t : Fin cfg0.N) : (dats m 0 c).after 3 t = left m c t := by
  unfold left
  exact after0_3 m c t

theorem block_at (c : Dev nD) (t : Fin cfg0.N) (b : Fin 2) (l : Fin 1024) :
    (left m c t : S2x1024.Idx → EReal) (ix2 b l)
      = adaAt (m ((c.tc : Thread nD τ).loc main_arg0)) (m ((c.tc : Thread nD τ).loc main_arg1)) (m ((c.tc : Thread nD τ).loc main_arg2)) b (⟨1024 * t.val + l.val, by have := points t; omega⟩ : Fin 12288) := by
  unfold left
  rw [stored_at]
  unfold adaAt
  refine congrArg₂ (· + ·) (Finset.sum_congr rfl fun k _ => congrArg₂ (· * ·) ?_ (weights_at m c t k l)) (bias_at m c t l)
  exact congrArg (fun v : EReal => v * sigmaAt v) (cond_at m c t b k)

/-- An element of the result after the run. -/
theorem value (c : Dev nD) (b : Fin 2) (q : Fin 12288) :
    ((dats m 0 c).arrAt 3 cfg0.N : S2x12288.Idx → EReal) (ix2 b q)
      = adaAt (m ((c.tc : Thread nD τ).loc main_arg0)) (m ((c.tc : Thread nD τ).loc main_arg1)) (m ((c.tc : Thread nD τ).loc main_arg2)) b q := by
  refine (dats m 0 c).arrAt_forall_of_covers 3 (fun i v => (v : EReal) = adaAt (m ((c.tc : Thread nD τ).loc main_arg0)) (m ((c.tc : Thread nD τ).loc main_arg1)) (m ((c.tc : Thread nD τ).loc main_arg2)) (i 0) (i 1))
    (by decide +kernel) (fun t hf y => ?_) (ix2 b q)
  rw [after_left]
  have ht := points t
  have h0 : (y 0).val < 2 := (y 0).isLt
  have h1 : (y 1).val < 1024 := (y 1).isLt
  have e0 : ((cfg0.win 3).blk t).view.emb y 0 = (⟨(y 0).val, h0⟩ : Fin 2) := Fin.ext (by
    blk_simp
    rw [(at_3 t).1]
    show 0 * 2 + (y 0).val = (y 0).val
    omega)
  have e1 : ((cfg0.win 3).blk t).view.emb y 1 = (⟨1024 * t.val + (y 1).val, by omega⟩ : Fin 12288) := Fin.ext (by
    blk_simp
    rw [(at_3 t).2]
    show t.val * 1024 + (y 1).val = 1024 * t.val + (y 1).val
    omega)
  rw [e0, e1, ← block_at m c t (⟨(y 0).val, h0⟩ : Fin 2) (⟨(y 1).val, h1⟩ : Fin 1024)]
  refine congrArg (left m c t) (funext fun a => ?_)
  match a with
  | ⟨0, _⟩ => rfl
  | ⟨1, _⟩ => rfl

end Cert.Kernel6Ideal.Ada

namespace Cert.Proof

open Idealize.ShloMosaic Idealize.ShloMosaic.TcCoe Idealize.SL.Sem

section

open Cert.Reference6Ideal Cert.Reference6Ideal.Gen Cert.Reference6Ideal.Value

/-- The reference's result at an index, over any arguments. -/
theorem ref_ada_at (x : FVec Ideal S2x2048 .f32) (w : FVec Ideal S1x2048x12288 .f32) (bias : FVec Ideal S1x12288 .f32) (b : Fin 2) (q : Fin 12288) :
    (addf (Host.dotGeneral (F := Ideal) dot_S2x2048_S2048x12288_S2x12288_1_0_0_1_n_n none (mulf x (Host.divf (broadcastInDim S2x2048 ![] bcast_S_S2x2048 (constant S_ .f32 0x3F800000#32)) (addf (broadcastInDim S2x2048 ![] bcast_S_S2x2048 (constant S_ .f32 0x3F800000#32)) (Host.exp (Host.negf x))))) (shapeCast _ w shapeCasts_S1x2048x12288_S2048x12288))
      (broadcastInDim S2x12288 ![0, 1] bcast_S1x12288_S2x12288_0_1 (broadcastInDim S1x12288 ![1] bcast_S12288_S1x12288_1 (shapeCast _ bias shapeCasts_S1x12288_S12288))) : S2x12288.Idx → EReal) (ix2 b q)
      = adaAt x w bias b q := by
  pointwise
  rfl

end

theorem frame_ada_ideal : Cert.quiescent_Kernel6Ideal := fun m ρ _ => Cert.Kernel6Ideal.Gen.frame m ρ

theorem frame_ada_kernel : Cert.quiescent_Kernel6 := fun m ρ _ => Cert.Kernel6.Gen.frame m ρ

theorem frame_ada_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run m ρ)

/-- From equal arguments the kernel and the reference end with equal results. -/
theorem equal_ada : Cert.algebraic_Kernel6Ideal_Reference6Ideal := fun m g m' g' _ ha => by
  refine ⟨fun c => (Cert.Kernel6Ideal.Gen.dats m 0 c).arrAt 3 Cert.Kernel6Ideal.cfg0.N, Cert.Kernel6Ideal.Value.run_blocks m g, ?_⟩
  refine (θ_run Cert.Reference6Ideal.defs _ _).mono (fun r e c => ⟨?_, (e c).2⟩) (Cert.Reference6Ideal.Value.run m' g')
  obtain ⟨a0, a1, a2⟩ := ha c
  refine (e c).1.trans (funext fun (i : Cert.Kernel6Ideal.S2x12288.Idx) => ?_)
  rw [show i = ix2 (i 0) (i 1) from by
    funext a
    match a with
    | ⟨0, _⟩ => rfl
    | ⟨1, _⟩ => rfl]
  refine Eq.trans ?_ (Cert.Kernel6Ideal.Ada.value m c (i 0) (i 1)).symm
  rw [← a0, ← a1, ← a2]
  exact ref_ada_at _ _ _ (i 0) (i 1)

end Cert.Proof
end
-- ==== Proof.Rope.lean ====
/- The rotary tables: the kernel's blocks, its two results and the reference's read at an index, frames, and equal results. -/
module

public import proofs.«01_k».proof.Defs
public import proofs.«01_k».proof.Proof.MixSpec
public import proofs.«01_k».proof.Proof.Gen.Kernel7.Frame
public import proofs.«01_k».proof.Proof.Gen.Kernel7Ideal.Frame
public import proofs.«01_k».proof.Proof.Gen.Reference7Ideal.Run
public import Idealize.ShloMosaic.Lib.Pointwise
public import Idealize.ShloMosaic.Lib.Pipeline.Value
public import Idealize.ShloMosaic.Lib.Pipeline.ValueKit.Geometry
public import Idealize.ShloMosaic.Adequacy

@[expose] public section

set_option maxRecDepth 16384

noncomputable section

namespace Cert.Proof

open Idealize.ShloMosaic

/-- The rates of the 64 rotations: 10000 to the power of minus `2 k / 128`. -/
def rates : (⟨1, ![64]⟩ : Shape).Idx → EReal :=
  open Cert.Reference7Ideal Cert.Reference7Ideal.Gen in
  Host.powf (F := Ideal) (φ := .f32) (broadcastInDim S64 ![] bcast_S_S64 (constant S_ .f32 0x461C4000#32))
    (Host.divf (Host.negf (addf (broadcastInDim S64 ![] bcast_S_S64 (constant S_ .f32 0x00000000#32))
      (mulf (broadcastInDim S64 ![] bcast_S_S64 (constant S_ .f32 0x40000000#32)) (sitofp .f32 (iotaInDim S64 32 0)))))
      (broadcastInDim S64 ![] bcast_S_S64 (constant S_ .f32 0x43000000#32)))

/-- The angle of token `T` in lane `l`: its position times the lane's rate, the same rates in both halves of the lanes. -/
def angleAt (p : (⟨2, ![2, 4096]⟩ : Shape).Idx → BitVec 32) (T : Fin 8192) (l : Fin 128) : EReal :=
  (FloatOps.sitofp (F := Ideal) FTy.f32 (p (ix2 (⟨T.val / 4096, by omega⟩ : Fin 2) (⟨T.val % 4096, by omega⟩ : Fin 4096))) : EReal) * rates (ix1 (⟨l.val % 64, by omega⟩ : Fin 64))

def cosAt (p : (⟨2, ![2, 4096]⟩ : Shape).Idx → BitVec 32) (T : Fin 8192) (l : Fin 128) : EReal := Ideal.cos (angleAt p T l)

/-- The sine, negated in the first half of the lanes. -/
def sinAt (p : (⟨2, ![2, 4096]⟩ : Shape).Idx → BitVec 32) (T : Fin 8192) (l : Fin 128) : EReal :=
  if l.val < 64 then -Ideal.sin (angleAt p T l) else Ideal.sin (angleAt p T l)

/-- A lane's index within its half. -/
theorem half_low {l : Fin 128} (h : l.val < 64) : (⟨l.val % 64, by omega⟩ : Fin 64) = ⟨l.val, h⟩ := Fin.ext (Nat.mod_eq_of_lt h)
theorem half_high {l : Fin 128} (h : ¬l.val < 64) : (⟨l.val % 64, by omega⟩ : Fin 64) = ⟨l.val - 64, by omega⟩ := Fin.ext (by show l.val % 64 = l.val - 64; omega)

end Cert.Proof

namespace Cert.Kernel7Ideal.Rope

open Cert.Kernel7Ideal Cert.Kernel7Ideal.Gen Cert.Proof
open Idealize.ShloMosaic Idealize.ShloMosaic.TcCoe Idealize.ShloMosaic.Tactic Idealize.SL.Sem
open Idealize.ShloMosaic.Pipeline (Dat Cfg Window)

theorem zero2 : (![0, 0] : Fin 2 → Nat) = fun _ => 0 := funext fun a => by fin_cases a <;> rfl

/-! ### What the body stores, at an index -/

theorem cos_at (p : Vec Ideal S1024x1 .i32) (r : Vec Ideal S1x128 .f32) (s : Vec Ideal S1x128 .f32) (i : Fin 1024) (l : Fin 128) :
    (out0_3 (F := Ideal) p r s : S1024x128.Idx → EReal) (ix2 i l) = Ideal.cos ((FloatOps.sitofp (F := Ideal) FTy.f32 (p (ix2 i 0)) : EReal) * (r (ix2 0 l) : EReal)) := by
  unfold out0_3
  rw [View.canon_unit_zero zero2]
  simp only [View.ld_unit_zero (S := S1024x1) zero2, View.ld_unit_zero (S := S1x128) zero2]
  unfold k0_pay2 k0_pay1
  pointwise

theorem sin_at (p : Vec Ideal S1024x1 .i32) (r : Vec Ideal S1x128 .f32) (s : Vec Ideal S1x128 .f32) (i : Fin 1024) (l : Fin 128) :
    (out0_4 (F := Ideal) p r s : S1024x128.Idx → EReal) (ix2 i l)
      = Ideal.sin ((FloatOps.sitofp (F := Ideal) FTy.f32 (p (ix2 i 0)) : EReal) * (r (ix2 0 l) : EReal)) * (s (ix2 0 l) : EReal) := by
  unfold out0_4
  rw [View.canon_unit_zero zero2]
  simp only [View.ld_unit_zero (S := S1024x1) zero2, View.ld_unit_zero (S := S1x128) zero2]
  unfold k0_pay3 k0_pay1
  pointwise

/-! ### The arrays that the host code prepares -/

theorem rates_flat (r : S64.Idx → EReal) (h) (h') (l : Fin 128) :
    shapeCast S1x128 (concatenate S128 0 [⟨S64, r⟩, ⟨S64, r⟩] h) h' (ix2 0 l) = r (ix1 (⟨l.val % 64, by omega⟩ : Fin 64)) := by
  pointwise
  split
  · rename_i hl; rw [half_low hl]
  · rename_i hl; rw [half_high hl]

theorem signs_flat (h) (h') (l : Fin 128) :
    (shapeCast S1x128 (concatenate S128 0 [⟨S64, Host.negf (F := Ideal) (broadcastInDim S64 ![] bcast_S_S64 (constant S_ .f32 0x3F800000#32))⟩,
        ⟨S64, broadcastInDim S64 ![] bcast_S_S64 (constant (F := Ideal) S_ .f32 0x3F800000#32)⟩] h) h' : S1x128.Idx → EReal) (ix2 0 l)
      = (if l.val < 64 then -1 else 1 : EReal) := by
  pointwise
  split <;> rfl

theorem positions_flat (a : S2x4096.Idx → BitVec 32) (h) (T : Fin 8192) :
    shapeCast S8192x1 a h (ix2 T 0) = a (ix2 (⟨T.val / 4096, by omega⟩ : Fin 2) (⟨T.val % 4096, by omega⟩ : Fin 4096)) := by
  pointwise

variable (m : (ℓ : Loc nD τ sig) → Buf (Elt Ideal) ℓ)

theorem points (t : Fin cfg0.N) : t.val < 8 := by have := N_0; have h : t.val < grid0.N := t.isLt; omega

/-! ### Where the blocks lie -/

theorem at_0 (t : Fin cfg0.N) : win0_0.index t 0 = t.val ∧ win0_0.index t 1 = 0 := by
  revert t; show ∀ t : Fin grid0.N, win0_0.index t 0 = t.val ∧ win0_0.index t 1 = 0; decide +kernel
theorem at_1 (t : Fin cfg0.N) : win0_1.index t 0 = 0 ∧ win0_1.index t 1 = 0 := by
  revert t; show ∀ t : Fin grid0.N, win0_1.index t 0 = 0 ∧ win0_1.index t 1 = 0; decide +kernel
theorem at_2 (t : Fin cfg0.N) : win0_2.index t 0 = 0 ∧ win0_2.index t 1 = 0 := by
  revert t; show ∀ t : Fin grid0.N, win0_2.index t 0 = 0 ∧ win0_2.index t 1 = 0; decide +kernel
theorem at_3 (t : Fin cfg0.N) : win0_3.index t 0 = t.val ∧ win0_3.index t 1 = 0 := by
  revert t; show ∀ t : Fin grid0.N, win0_3.index t 0 = t.val ∧ win0_3.index t 1 = 0; decide +kernel
theorem at_4 (t : Fin cfg0.N) : win0_4.index t 0 = t.val ∧ win0_4.index t 1 = 0 := by
  revert t; show ∀ t : Fin grid0.N, win0_4.index t 0 = t.val ∧ win0_4.index t 1 = 0; decide +kernel

/-- The positions of the block at point `t`. -/
theorem positions_at (c : Dev nD) (t : Fin cfg0.N) (i : Fin 1024) :
    (iblk m c 0 t : S1024x1.Idx → BitVec 32) (ix2 i 0) = (m ((c.tc : Thread nD τ).loc main_arg0) : S2x4096.Idx → BitVec 32)
      (ix2 (⟨(1024 * t.val + i.val) / 4096, by have := points t; omega⟩ : Fin 2) (⟨(1024 * t.val + i.val) % 4096, by omega⟩ : Fin 4096)) := by
  have ht := points t
  refine Eq.trans ?_ (positions_flat (m ((c.tc : Thread nD τ).loc main_arg0)) shapeCasts_S2x4096_S8192x1 (⟨1024 * t.val + i.val, by omega⟩ : Fin 8192))
  unfold iblk
  rw [View.read_apply]
  show V m c main_v17 _ = V m c main_v17 _
  refine congrArg (V m c main_v17) (funext fun a => Fin.ext ?_)
  match a with
  | ⟨0, _⟩ => show win0_0.index t 0 * 1024 + 1 * i.val = 1024 * t.val + i.val; rw [(at_0 t).1]; omega
  | ⟨1, _⟩ => show win0_0.index t 1 * 1 + 1 * 0 = 0; rw [(at_0 t).2]

/-- The rates of the lanes. -/
theorem rates_at (c : Dev nD) (t : Fin cfg0.N) (l : Fin 128) :
    (iblk m c 1 t : S1x128.Idx → EReal) (ix2 0 l) = rates (ix1 (⟨l.val % 64, by omega⟩ : Fin 64)) := by
  refine Eq.trans ?_ (rates_flat rates concatenates_S64_S64_S128_d0 shapeCasts_S128_S1x128 l)
  unfold iblk
  rw [View.read_apply]
  show V m c main_v11 _ = V m c main_v11 _
  refine congrArg (V m c main_v11) (funext fun a => Fin.ext ?_)
  match a with
  | ⟨0, _⟩ => show win0_1.index t 0 * 1 + 1 * 0 = 0; rw [(at_1 t).1]
  | ⟨1, _⟩ => show win0_1.index t 1 * 128 + 1 * l.val = l.val; rw [(at_1 t).2]; omega

/-- The signs of the lanes. -/
theorem signs_at (c : Dev nD) (t : Fin cfg0.N) (l : Fin 128) :
    (iblk m c 2 t : S1x128.Idx → EReal) (ix2 0 l) = (if l.val < 64 then -1 else 1 : EReal) := by
  refine Eq.trans ?_ (signs_flat concatenates_S64_S64_S128_d0 shapeCasts_S128_S1x128 l)
  unfold iblk
  rw [View.read_apply]
  show V m c main_v16 _ = V m c main_v16 _
  refine congrArg (V m c main_v16) (funext fun a => Fin.ext ?_)
  match a with
  | ⟨0, _⟩ => show win0_2.index t 0 * 1 + 1 * 0 = 0; rw [(at_2 t).1]
  | ⟨1, _⟩ => show win0_2.index t 1 * 128 + 1 * l.val = l.val; rw [(at_2 t).2]; omega

/-- A block whose elements are known by coordinates, read at an index that lies in the table at row `T` and lane `l`. -/
theorem in_block (t : Fin cfg0.N) (v : S1024x128.Idx → EReal) (f : Fin 8192 → Fin 128 → EReal)
    (hv : ∀ (i : Fin 1024) (l : Fin 128), v (ix2 i l) = f (⟨1024 * t.val + i.val, by have := points t; omega⟩ : Fin 8192) l)
    (y : S1024x128.Idx) {T : Fin 8192} {l : Fin 128} (hT : T.val = t.val * 1024 + (y 0).val) (hl : l.val = (y 1).val) : v y = f T l := by
  have ht := points t
  have h0 : (y 0).val < 1024 := (y 0).isLt
  have h1 : (y 1).val < 128 := (y 1).isLt
  rw [show T = (⟨1024 * t.val + (y 0).val, by omega⟩ : Fin 8192) from Fin.ext (by show T.val = 1024 * t.val + (y 0).val; omega),
    show l = (⟨(y 1).val, h1⟩ : Fin 128) from Fin.ext (by show l.val = (y 1).val; omega),
    ← hv (⟨(y 0).val, h0⟩ : Fin 1024) (⟨(y 1).val, h1⟩ : Fin 128)]
  refine congrArg v (funext fun a => ?_)
  match a with
  | ⟨0, _⟩ => rfl
  | ⟨1, _⟩ => rfl

/-- What point `t` leaves in the block of the cosines. -/
@[irreducible] def left_cos (c : Dev nD) (t : Fin cfg0.N) : Vec Ideal S1024x128 .f32 := out0_3 (iblk m c 0 t) (iblk m c 1 t) (iblk m c 2 t)

theorem after_cos (c : Dev nD) (t : Fin cfg0.N) : (dats m 0 c).after 3 t = left_cos m c t := by
  unfold left_cos
  exact after0_3 m c t

theorem block_cos (c : Dev nD) (t : Fin cfg0.N) (i : Fin 1024) (l : Fin 128) :
    (left_cos m c t : S1024x128.Idx → EReal) (ix2 i l) = cosAt (m ((c.tc : Thread nD τ).loc main_arg0)) (⟨1024 * t.val + i.val, by have := points t; omega⟩ : Fin 8192) l := by
  unfold left_cos
  rw [cos_at, positions_at, rates_at]
  unfold cosAt angleAt
  rfl

/-- An element of the cosines after the run. -/
theorem value_cos (c : Dev nD) (T : Fin 8192) (l : Fin 128) :
    ((dats m 0 c).arrAt 3 cfg0.N : S8192x128.Idx → EReal) (ix2 T l) = cosAt (m ((c.tc : Thread nD τ).loc main_arg0)) T l := by
  refine (dats m 0 c).arrAt_forall_of_covers 3 (fun i v => (v : EReal) = cosAt (m ((c.tc : Thread nD τ).loc main_arg0)) (i 0) (i 1))
    (by decide +kernel) (fun t hf y => ?_) (ix2 T l)
  rw [after_cos]
  exact in_block t _ _ (block_cos m c t) y (by blk_simp; rw [(at_3 t).1]) (by blk_simp; rw [(at_3 t).2]; exact (congrArg (· + (y 1).val) (Nat.zero_mul 128)).trans (Nat.zero_add _))

/-- What point `t` leaves in the block of the sines. -/
@[irreducible] def left_sin (c : Dev nD) (t : Fin cfg0.N) : Vec Ideal S1024x128 .f32 := out0_4 (iblk m c 0 t) (iblk m c 1 t) (iblk m c 2 t)

theorem after_sin (c : Dev nD) (t : Fin cfg0.N) : (dats m 0 c).after 4 t = left_sin m c t := by
  unfold left_sin
  exact after0_4 m c t

theorem block_sin (c : Dev nD) (t : Fin cfg0.N) (i : Fin 1024) (l : Fin 128) :
    (left_sin m c t : S1024x128.Idx → EReal) (ix2 i l) = sinAt (m ((c.tc : Thread nD τ).loc main_arg0)) (⟨1024 * t.val + i.val, by have := points t; omega⟩ : Fin 8192) l := by
  unfold left_sin
  rw [sin_at, positions_at, rates_at, signs_at]
  unfold sinAt angleAt
  split
  · rw [mul_neg, mul_one]
  · rw [mul_one]

/-- An element of the sines after the run. -/
theorem value_sin (c : Dev nD) (T : Fin 8192) (l : Fin 128) :
    ((dats m 0 c).arrAt 4 cfg0.N : S8192x128.Idx → EReal) (ix2 T l) = sinAt (m ((c.tc : Thread nD τ).loc main_arg0)) T l := by
  refine (dats m 0 c).arrAt_forall_of_covers 4 (fun i v => (v : EReal) = sinAt (m ((c.tc : Thread nD τ).loc main_arg0)) (i 0) (i 1))
    (by decide +kernel) (fun t hf y => ?_) (ix2 T l)
  rw [after_sin]
  exact in_block t _ _ (block_sin m c t) y (by blk_simp; rw [(at_4 t).1]) (by blk_simp; rw [(at_4 t).2]; exact (congrArg (· + (y 1).val) (Nat.zero_mul 128)).trans (Nat.zero_add _))

/-- Every run ends, with the two tables in the results and the positions unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v18_0) = (dats m 0 c).arrAt 3 cfg0.N
      ∧ r.2.mem ((c.tc : Thread nD τ).loc main_v18_1) = (dats m 0 c).arrAt 4 cfg0.N
      ∧ r.2.mem ((c.tc : Thread nD τ).loc main_arg0) = m ((c.tc : Thread nD τ).loc main_arg0) :=
  (θ_run defs _ _).mono (fun _ h c => ⟨(h c).1 3, (h c).1 4,
      ((h c).2 main_arg0 (Pipeline.mem_restRefs_of main_arg0 (by decide) (by decide))).trans (V_main_arg0 m c)⟩)
    (run_main m ρ)

end Cert.Kernel7Ideal.Rope

namespace Cert.Proof

open Idealize.ShloMosaic Idealize.ShloMosaic.TcCoe Idealize.SL.Sem

section

open Cert.Reference7Ideal Cert.Reference7Ideal.Gen Cert.Reference7Ideal.Value

/-- The reference's cosines at an index, over any positions and rates. -/
theorem ref_cos_at (p : S2x4096.Idx → BitVec 32) (r : FVec Ideal S64 .f32) (h) (T : Fin 8192) (l : Fin 128) :
    (shapeCast S8192x128 (concatenate S2x4096x128 2 [⟨S2x4096x64, Host.cos (F := Ideal) (φ := .f32) (mulf (broadcastInDim S2x4096x64 ![0, 1, 2] bcast_S2x4096x1_S2x4096x64_0_1_2 (broadcastInDim S2x4096x1 ![0, 1] bcast_S2x4096_S2x4096x1_0_1 (sitofp .f32 p)))
      (broadcastInDim S2x4096x64 ![0, 1, 2] bcast_S1x1x64_S2x4096x64_0_1_2 (broadcastInDim S1x1x64 ![2] bcast_S64_S1x1x64_2 r)))⟩,
      ⟨S2x4096x64, Host.cos (F := Ideal) (φ := .f32) (mulf (broadcastInDim S2x4096x64 ![0, 1, 2] bcast_S2x4096x1_S2x4096x64_0_1_2 (broadcastInDim S2x4096x1 ![0, 1] bcast_S2x4096_S2x4096x1_0_1 (sitofp .f32 p)))
      (broadcastInDim S2x4096x64 ![0, 1, 2] bcast_S1x1x64_S2x4096x64_0_1_2 (broadcastInDim S1x1x64 ![2] bcast_S64_S1x1x64_2 r)))⟩]
      concatenates_S2x4096x64_S2x4096x64_S2x4096x128_d2) h : S8192x128.Idx → EReal) (ix2 T l)
      = Ideal.cos ((FloatOps.sitofp (F := Ideal) FTy.f32 (p (ix2 (⟨T.val / 4096, by omega⟩ : Fin 2) (⟨T.val % 4096, by omega⟩ : Fin 4096))) : EReal) * (r (ix1 (⟨l.val % 64, by omega⟩ : Fin 64)) : EReal)) := by
  pointwise
  split
  · rename_i hl; rw [half_low hl]
  · rename_i hl; rw [half_high hl]

/-- … and its sines, negated in the first half of the lanes. -/
theorem ref_sin_at (p : S2x4096.Idx → BitVec 32) (r : FVec Ideal S64 .f32) (h) (T : Fin 8192) (l : Fin 128) :
    (shapeCast S8192x128 (concatenate S2x4096x128 2 [⟨S2x4096x64, Host.negf (F := Ideal) (φ := .f32) (Host.sin (mulf (broadcastInDim S2x4096x64 ![0, 1, 2] bcast_S2x4096x1_S2x4096x64_0_1_2 (broadcastInDim S2x4096x1 ![0, 1] bcast_S2x4096_S2x4096x1_0_1 (sitofp .f32 p)))
      (broadcastInDim S2x4096x64 ![0, 1, 2] bcast_S1x1x64_S2x4096x64_0_1_2 (broadcastInDim S1x1x64 ![2] bcast_S64_S1x1x64_2 r))))⟩,
      ⟨S2x4096x64, Host.sin (F := Ideal) (φ := .f32) (mulf (broadcastInDim S2x4096x64 ![0, 1, 2] bcast_S2x4096x1_S2x4096x64_0_1_2 (broadcastInDim S2x4096x1 ![0, 1] bcast_S2x4096_S2x4096x1_0_1 (sitofp .f32 p)))
      (broadcastInDim S2x4096x64 ![0, 1, 2] bcast_S1x1x64_S2x4096x64_0_1_2 (broadcastInDim S1x1x64 ![2] bcast_S64_S1x1x64_2 r)))⟩]
      concatenates_S2x4096x64_S2x4096x64_S2x4096x128_d2) h : S8192x128.Idx → EReal) (ix2 T l)
      = if l.val < 64 then -Ideal.sin ((FloatOps.sitofp (F := Ideal) FTy.f32 (p (ix2 (⟨T.val / 4096, by omega⟩ : Fin 2) (⟨T.val % 4096, by omega⟩ : Fin 4096))) : EReal) * (r (ix1 (⟨l.val % 64, by omega⟩ : Fin 64)) : EReal))
        else Ideal.sin ((FloatOps.sitofp (F := Ideal) FTy.f32 (p (ix2 (⟨T.val / 4096, by omega⟩ : Fin 2) (⟨T.val % 4096, by omega⟩ : Fin 4096))) : EReal) * (r (ix1 (⟨l.val % 64, by omega⟩ : Fin 64)) : EReal)) := by
  pointwise
  by_cases hl : l.val < 64
  · simp only [hl, ↓reduceDIte, ↓reduceIte]
    rw [half_low hl]
  · simp only [hl, ↓reduceDIte, ↓reduceIte]
    rw [half_high hl]

end

theorem frame_rope_ideal : Cert.quiescent_Kernel7Ideal := fun m ρ _ => Cert.Kernel7Ideal.Gen.frame m ρ

theorem frame_rope_kernel : Cert.quiescent_Kernel7 := fun m ρ _ => Cert.Kernel7.Gen.frame m ρ

theorem frame_rope_reference : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run m ρ)

/-- An index of the tables, by its coordinates. -/
theorem table_index (i : Cert.Kernel7Ideal.S8192x128.Idx) : i = ix2 (i 0) (i 1) := by
  funext a
  match a with
  | ⟨0, _⟩ => rfl
  | ⟨1, _⟩ => rfl

/-- From equal arguments the kernel and the reference end with equal results. -/
theorem equal_rope : Cert.algebraic_Kernel7Ideal_Reference7Ideal := fun m g m' g' _ ha => by
  refine ⟨fun c => (Cert.Kernel7Ideal.Gen.dats m 0 c).arrAt 3 Cert.Kernel7Ideal.cfg0.N, fun c => (Cert.Kernel7Ideal.Gen.dats m 0 c).arrAt 4 Cert.Kernel7Ideal.cfg0.N,
    Cert.Kernel7Ideal.Rope.run m g, ?_⟩
  refine (θ_run Cert.Reference7Ideal.defs _ _).mono (fun r e c => ⟨?_, ?_, (e c).2.2⟩) (Cert.Reference7Ideal.Value.run m' g')
  · refine (e c).1.trans (funext fun (i : Cert.Kernel7Ideal.S8192x128.Idx) => ?_)
    rw [table_index i]
    refine Eq.trans ?_ (Cert.Kernel7Ideal.Rope.value_cos m c (i 0) (i 1)).symm
    rw [← ha c]
    exact ref_cos_at _ rates _ (i 0) (i 1)
  · refine (e c).2.1.trans (funext fun (i : Cert.Kernel7Ideal.S8192x128.Idx) => ?_)
    rw [table_index i]
    refine Eq.trans ?_ (Cert.Kernel7Ideal.Rope.value_sin m c (i 0) (i 1)).symm
    rw [← ha c]
    exact ref_sin_at _ rates _ (i 0) (i 1)

end Cert.Proof
end
-- ==== Proof.lean ====
/- The claim. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_slots_in_range
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Frames
public import proofs.«01_k».proof.Proof.FrameK
public import proofs.«01_k».proof.Proof.Equal
public import proofs.«01_k».proof.Proof.DenseEqual
public import proofs.«01_k».proof.Proof.InEqual
public import proofs.«01_k».proof.Proof.MixEqual
public import proofs.«01_k».proof.Proof.Norm
public import proofs.«01_k».proof.Proof.Ada
public import proofs.«01_k».proof.Proof.Rope

@[expose] public section

noncomputable section

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_slots_in_range.Gen.facts,
    Cert.Proof.frame_kernel, Cert.Proof.frame_ideal, Cert.Proof.frame_reference,
    Cert.Proof.frame_dense_kernel, Cert.Proof.frame_dense_ideal, Cert.Proof.frame_dense_reference,
    Cert.Proof.frame_in_kernel, Cert.Proof.frame_in_ideal, Cert.Proof.frame_in_reference,
    Cert.Proof.frame_mix_kernel, Cert.Proof.frame_mix_ideal, Cert.Proof.frame_mix_reference,
    Cert.Proof.frame_norm_kernel, Cert.Proof.frame_norm_ideal, Cert.Proof.frame_norm_reference,
    Cert.Proof.frame_ada_kernel, Cert.Proof.frame_ada_ideal, Cert.Proof.frame_ada_reference,
    Cert.Proof.frame_rope_kernel, Cert.Proof.frame_rope_ideal, Cert.Proof.frame_rope_reference,
    trivial, Cert.Proof.equal, trivial, Cert.Proof.equal_dense, trivial, Cert.Proof.equal_in,
    trivial, Cert.Proof.equal_mix, trivial, Cert.Proof.equal_norm, trivial, Cert.Proof.equal_ada,
    trivial, Cert.Proof.equal_rope⟩

end
